-- ==== Defs.lean ====
def Pre_ConfOut (m : (ℓ : Loc Cert.ConfOut.nD Cert.ConfOut.τ Cert.ConfOut.sig) → Buf (Elt Bits) ℓ) : Prop :=
  True

def Pre_ConfOutIdeal (m : (ℓ : Loc Cert.ConfOutIdeal.nD Cert.ConfOutIdeal.τ Cert.ConfOutIdeal.sig) → Buf (Elt Ideal) ℓ) : Prop :=
  True

def Pre_ConfOutIdeal_conf_out_finite [hPre_conf_out_finite : Cert.Pre_conf_out_finite.Facts] (m : (ℓ : Loc Cert.ConfOutIdeal.nD Cert.ConfOutIdeal.τ Cert.ConfOutIdeal.sig) → Buf (Elt Ideal) ℓ) : Prop :=
  ∀ c : Dev Cert.ConfOutIdeal.nD,
    (Cert.Pre_conf_out_finite.fn (F := Ideal) (m ((c.tc : Thread Cert.ConfOutIdeal.nD Cert.ConfOutIdeal.τ).loc Cert.ConfOutIdeal.main_arg0)) (m ((c.tc : Thread Cert.ConfOutIdeal.nD Cert.ConfOutIdeal.τ).loc Cert.ConfOutIdeal.main_arg1)) (m ((c.tc : Thread Cert.ConfOutIdeal.nD Cert.ConfOutIdeal.τ).loc Cert.ConfOutIdeal.main_arg2)) (m ((c.tc : Thread Cert.ConfOutIdeal.nD Cert.ConfOutIdeal.τ).loc Cert.ConfOutIdeal.main_arg3)) (m ((c.tc : Thread Cert.ConfOutIdeal.nD Cert.ConfOutIdeal.τ).loc Cert.ConfOutIdeal.main_arg4)) (m ((c.tc : Thread Cert.ConfOutIdeal.nD Cert.ConfOutIdeal.τ).loc Cert.ConfOutIdeal.main_arg5))) = (fun _ => 1#1)

def Pre_ConfOutRefIdeal (m : (ℓ : Loc Cert.ConfOutRefIdeal.nD Cert.ConfOutRefIdeal.τ Cert.ConfOutRefIdeal.sig) → Buf (Elt Ideal) ℓ) : Prop :=
  True

def Pre_ConfOutRefIdeal_conf_out_finite [hPre_conf_out_finite : Cert.Pre_conf_out_finite.Facts] (m : (ℓ : Loc Cert.ConfOutRefIdeal.nD Cert.ConfOutRefIdeal.τ Cert.ConfOutRefIdeal.sig) → Buf (Elt Ideal) ℓ) : Prop :=
  ∀ c : Dev Cert.ConfOutRefIdeal.nD,
    (Cert.Pre_conf_out_finite.fn (F := Ideal) (m ((c.tc : Thread Cert.ConfOutRefIdeal.nD Cert.ConfOutRefIdeal.τ).loc Cert.ConfOutRefIdeal.main_arg0)) (m ((c.tc : Thread Cert.ConfOutRefIdeal.nD Cert.ConfOutRefIdeal.τ).loc Cert.ConfOutRefIdeal.main_arg1)) (m ((c.tc : Thread Cert.ConfOutRefIdeal.nD Cert.ConfOutRefIdeal.τ).loc Cert.ConfOutRefIdeal.main_arg2)) (m ((c.tc : Thread Cert.ConfOutRefIdeal.nD Cert.ConfOutRefIdeal.τ).loc Cert.ConfOutRefIdeal.main_arg3)) (m ((c.tc : Thread Cert.ConfOutRefIdeal.nD Cert.ConfOutRefIdeal.τ).loc Cert.ConfOutRefIdeal.main_arg4)) (m ((c.tc : Thread Cert.ConfOutRefIdeal.nD Cert.ConfOutRefIdeal.τ).loc Cert.ConfOutRefIdeal.main_arg5))) = (fun _ => 1#1)

def Pre_SsdOut (m : (ℓ : Loc Cert.SsdOut.nD Cert.SsdOut.τ Cert.SsdOut.sig) → Buf (Elt Bits) ℓ) : Prop :=
  True

def Pre_SsdOutIdeal (m : (ℓ : Loc Cert.SsdOutIdeal.nD Cert.SsdOutIdeal.τ Cert.SsdOutIdeal.sig) → Buf (Elt Ideal) ℓ) : Prop :=
  True

def Pre_SsdOutIdeal_ssd_out_finite [hPre_ssd_out_finite : Cert.Pre_ssd_out_finite.Facts] (m : (ℓ : Loc Cert.SsdOutIdeal.nD Cert.SsdOutIdeal.τ Cert.SsdOutIdeal.sig) → Buf (Elt Ideal) ℓ) : Prop :=
  ∀ c : Dev Cert.SsdOutIdeal.nD,
    (Cert.Pre_ssd_out_finite.fn (F := Ideal) (m ((c.tc : Thread Cert.SsdOutIdeal.nD Cert.SsdOutIdeal.τ).loc Cert.SsdOutIdeal.main_arg0)) (m ((c.tc : Thread Cert.SsdOutIdeal.nD Cert.SsdOutIdeal.τ).loc Cert.SsdOutIdeal.main_arg1)) (m ((c.tc : Thread Cert.SsdOutIdeal.nD Cert.SsdOutIdeal.τ).loc Cert.SsdOutIdeal.main_arg2)) (m ((c.tc : Thread Cert.SsdOutIdeal.nD Cert.SsdOutIdeal.τ).loc Cert.SsdOutIdeal.main_arg3)) (m ((c.tc : Thread Cert.SsdOutIdeal.nD Cert.SsdOutIdeal.τ).loc Cert.SsdOutIdeal.main_arg4)) (m ((c.tc : Thread Cert.SsdOutIdeal.nD Cert.SsdOutIdeal.τ).loc Cert.SsdOutIdeal.main_arg5)) (m ((c.tc : Thread Cert.SsdOutIdeal.nD Cert.SsdOutIdeal.τ).loc Cert.SsdOutIdeal.main_arg6)) (m ((c.tc : Thread Cert.SsdOutIdeal.nD Cert.SsdOutIdeal.τ).loc Cert.SsdOutIdeal.main_arg7))) = (fun _ => 1#1)

def Pre_SsdOutRefIdeal (m : (ℓ : Loc Cert.SsdOutRefIdeal.nD Cert.SsdOutRefIdeal.τ Cert.SsdOutRefIdeal.sig) → Buf (Elt Ideal) ℓ) : Prop :=
  True

def Pre_SsdOutRefIdeal_ssd_out_finite [hPre_ssd_out_finite : Cert.Pre_ssd_out_finite.Facts] (m : (ℓ : Loc Cert.SsdOutRefIdeal.nD Cert.SsdOutRefIdeal.τ Cert.SsdOutRefIdeal.sig) → Buf (Elt Ideal) ℓ) : Prop :=
  ∀ c : Dev Cert.SsdOutRefIdeal.nD,
    (Cert.Pre_ssd_out_finite.fn (F := Ideal) (m ((c.tc : Thread Cert.SsdOutRefIdeal.nD Cert.SsdOutRefIdeal.τ).loc Cert.SsdOutRefIdeal.main_arg0)) (m ((c.tc : Thread Cert.SsdOutRefIdeal.nD Cert.SsdOutRefIdeal.τ).loc Cert.SsdOutRefIdeal.main_arg1)) (m ((c.tc : Thread Cert.SsdOutRefIdeal.nD Cert.SsdOutRefIdeal.τ).loc Cert.SsdOutRefIdeal.main_arg2)) (m ((c.tc : Thread Cert.SsdOutRefIdeal.nD Cert.SsdOutRefIdeal.τ).loc Cert.SsdOutRefIdeal.main_arg3)) (m ((c.tc : Thread Cert.SsdOutRefIdeal.nD Cert.SsdOutRefIdeal.τ).loc Cert.SsdOutRefIdeal.main_arg4)) (m ((c.tc : Thread Cert.SsdOutRefIdeal.nD Cert.SsdOutRefIdeal.τ).loc Cert.SsdOutRefIdeal.main_arg5)) (m ((c.tc : Thread Cert.SsdOutRefIdeal.nD Cert.SsdOutRefIdeal.τ).loc Cert.SsdOutRefIdeal.main_arg6)) (m ((c.tc : Thread Cert.SsdOutRefIdeal.nD Cert.SsdOutRefIdeal.τ).loc Cert.SsdOutRefIdeal.main_arg7))) = (fun _ => 1#1)

def Pre_CmIn (m : (ℓ : Loc Cert.CmIn.nD Cert.CmIn.τ Cert.CmIn.sig) → Buf (Elt Bits) ℓ) : Prop :=
  True

def Pre_CmInIdeal (m : (ℓ : Loc Cert.CmInIdeal.nD Cert.CmInIdeal.τ Cert.CmInIdeal.sig) → Buf (Elt Ideal) ℓ) : Prop :=
  True

def Pre_CmInRefIdeal (m : (ℓ : Loc Cert.CmInRefIdeal.nD Cert.CmInRefIdeal.τ Cert.CmInRefIdeal.sig) → Buf (Elt Ideal) ℓ) : Prop :=
  True

def Pre_SsdIn (m : (ℓ : Loc Cert.SsdIn.nD Cert.SsdIn.τ Cert.SsdIn.sig) → Buf (Elt Bits) ℓ) : Prop :=
  True

def Pre_SsdInIdeal (m : (ℓ : Loc Cert.SsdInIdeal.nD Cert.SsdInIdeal.τ Cert.SsdInIdeal.sig) → Buf (Elt Ideal) ℓ) : Prop :=
  True

def Pre_SsdInRefIdeal (m : (ℓ : Loc Cert.SsdInRefIdeal.nD Cert.SsdInRefIdeal.τ Cert.SsdInRefIdeal.sig) → Buf (Elt Ideal) ℓ) : Prop :=
  True

def Pre_CmWin (m : (ℓ : Loc Cert.CmWin.nD Cert.CmWin.τ Cert.CmWin.sig) → Buf (Elt Bits) ℓ) : Prop :=
  True

def Pre_CmWinIdeal (m : (ℓ : Loc Cert.CmWinIdeal.nD Cert.CmWinIdeal.τ Cert.CmWinIdeal.sig) → Buf (Elt Ideal) ℓ) : Prop :=
  True

def Pre_CmWinRefIdeal (m : (ℓ : Loc Cert.CmWinRefIdeal.nD Cert.CmWinRefIdeal.τ Cert.CmWinRefIdeal.sig) → Buf (Elt Ideal) ℓ) : Prop :=
  True

def Pre_SsdWinZ (m : (ℓ : Loc Cert.SsdWinZ.nD Cert.SsdWinZ.τ Cert.SsdWinZ.sig) → Buf (Elt Bits) ℓ) : Prop :=
  True

def Pre_SsdWinZIdeal (m : (ℓ : Loc Cert.SsdWinZIdeal.nD Cert.SsdWinZIdeal.τ Cert.SsdWinZIdeal.sig) → Buf (Elt Ideal) ℓ) : Prop :=
  True

def Pre_SsdWinZRefIdeal (m : (ℓ : Loc Cert.SsdWinZRefIdeal.nD Cert.SsdWinZRefIdeal.τ Cert.SsdWinZRefIdeal.sig) → Buf (Elt Ideal) ℓ) : Prop :=
  True

def Pre_SsdWinX (m : (ℓ : Loc Cert.SsdWinX.nD Cert.SsdWinX.τ Cert.SsdWinX.sig) → Buf (Elt Bits) ℓ) : Prop :=
  True

def Pre_SsdWinXIdeal (m : (ℓ : Loc Cert.SsdWinXIdeal.nD Cert.SsdWinXIdeal.τ Cert.SsdWinXIdeal.sig) → Buf (Elt Ideal) ℓ) : Prop :=
  True

def Pre_SsdWinXRefIdeal (m : (ℓ : Loc Cert.SsdWinXRefIdeal.nD Cert.SsdWinXRefIdeal.τ Cert.SsdWinXRefIdeal.sig) → Buf (Elt Ideal) ℓ) : Prop :=
  True

def Pre_SsdWinT (m : (ℓ : Loc Cert.SsdWinT.nD Cert.SsdWinT.τ Cert.SsdWinT.sig) → Buf (Elt Bits) ℓ) : Prop :=
  True

def Pre_SsdWinTIdeal (m : (ℓ : Loc Cert.SsdWinTIdeal.nD Cert.SsdWinTIdeal.τ Cert.SsdWinTIdeal.sig) → Buf (Elt Ideal) ℓ) : Prop :=
  True

def Pre_SsdWinTRefIdeal (m : (ℓ : Loc Cert.SsdWinTRefIdeal.nD Cert.SsdWinTRefIdeal.τ Cert.SsdWinTRefIdeal.sig) → Buf (Elt Ideal) ℓ) : Prop :=
  True

def Pre_CmInF (m : (ℓ : Loc Cert.CmInF.nD Cert.CmInF.τ Cert.CmInF.sig) → Buf (Elt Bits) ℓ) : Prop :=
  True

def Pre_CmInFIdeal (m : (ℓ : Loc Cert.CmInFIdeal.nD Cert.CmInFIdeal.τ Cert.CmInFIdeal.sig) → Buf (Elt Ideal) ℓ) : Prop :=
  True

def Pre_CmInFRefIdeal (m : (ℓ : Loc Cert.CmInFRefIdeal.nD Cert.CmInFRefIdeal.τ Cert.CmInFRefIdeal.sig) → Buf (Elt Ideal) ℓ) : Prop :=
  True

def Pre_SsdInF (m : (ℓ : Loc Cert.SsdInF.nD Cert.SsdInF.τ Cert.SsdInF.sig) → Buf (Elt Bits) ℓ) : Prop :=
  True

def Pre_SsdInFIdeal (m : (ℓ : Loc Cert.SsdInFIdeal.nD Cert.SsdInFIdeal.τ Cert.SsdInFIdeal.sig) → Buf (Elt Ideal) ℓ) : Prop :=
  True

def Pre_SsdInFRefIdeal (m : (ℓ : Loc Cert.SsdInFRefIdeal.nD Cert.SsdInFRefIdeal.τ Cert.SsdInFRefIdeal.sig) → Buf (Elt Ideal) ℓ) : Prop :=
  True

def Pre_ConfOutF (m : (ℓ : Loc Cert.ConfOutF.nD Cert.ConfOutF.τ Cert.ConfOutF.sig) → Buf (Elt Bits) ℓ) : Prop :=
  True

def Pre_ConfOutFIdeal (m : (ℓ : Loc Cert.ConfOutFIdeal.nD Cert.ConfOutFIdeal.τ Cert.ConfOutFIdeal.sig) → Buf (Elt Ideal) ℓ) : Prop :=
  True

def Pre_ConfOutFRefIdeal (m : (ℓ : Loc Cert.ConfOutFRefIdeal.nD Cert.ConfOutFRefIdeal.τ Cert.ConfOutFRefIdeal.sig) → Buf (Elt Ideal) ℓ) : Prop :=
  True

def Pre_SsdOutF (m : (ℓ : Loc Cert.SsdOutF.nD Cert.SsdOutF.τ Cert.SsdOutF.sig) → Buf (Elt Bits) ℓ) : Prop :=
  True

def Pre_SsdOutFIdeal (m : (ℓ : Loc Cert.SsdOutFIdeal.nD Cert.SsdOutFIdeal.τ Cert.SsdOutFIdeal.sig) → Buf (Elt Ideal) ℓ) : Prop :=
  True

def Pre_SsdOutFRefIdeal (m : (ℓ : Loc Cert.SsdOutFRefIdeal.nD Cert.SsdOutFRefIdeal.τ Cert.SsdOutFRefIdeal.sig) → Buf (Elt Ideal) ℓ) : Prop :=
  True

def Pre_SsdConv (m : (ℓ : Loc Cert.SsdConv.nD Cert.SsdConv.τ Cert.SsdConv.sig) → Buf (Elt Bits) ℓ) : Prop :=
  True

def Pre_SsdConvIdeal (m : (ℓ : Loc Cert.SsdConvIdeal.nD Cert.SsdConvIdeal.τ Cert.SsdConvIdeal.sig) → Buf (Elt Ideal) ℓ) : Prop :=
  True

def Pre_SsdConvRefIdeal (m : (ℓ : Loc Cert.SsdConvRefIdeal.nD Cert.SsdConvRefIdeal.τ Cert.SsdConvRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamSsd (m : (ℓ : Loc Cert.AdamSsd.nD Cert.AdamSsd.τ Cert.AdamSsd.sig) → Buf (Elt Bits) ℓ) : Prop :=
  True

def Pre_AdamSsdIdeal (m : (ℓ : Loc Cert.AdamSsdIdeal.nD Cert.AdamSsdIdeal.τ Cert.AdamSsdIdeal.sig) → Buf (Elt Ideal) ℓ) : Prop :=
  True

def Pre_AdamSsdRefIdeal (m : (ℓ : Loc Cert.AdamSsdRefIdeal.nD Cert.AdamSsdRefIdeal.τ Cert.AdamSsdRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamRep (m : (ℓ : Loc Cert.AdamRep.nD Cert.AdamRep.τ Cert.AdamRep.sig) → Buf (Elt Bits) ℓ) : Prop :=
  True

def Pre_AdamRepIdeal (m : (ℓ : Loc Cert.AdamRepIdeal.nD Cert.AdamRepIdeal.τ Cert.AdamRepIdeal.sig) → Buf (Elt Ideal) ℓ) : Prop :=
  True

def Pre_AdamRepRefIdeal (m : (ℓ : Loc Cert.AdamRepRefIdeal.nD Cert.AdamRepRefIdeal.τ Cert.AdamRepRefIdeal.sig) → Buf (Elt Ideal) ℓ) : Prop :=
  True

def Pre_SumSsd (m : (ℓ : Loc Cert.SumSsd.nD Cert.SumSsd.τ Cert.SumSsd.sig) → Buf (Elt Bits) ℓ) : Prop :=
  True

def Pre_SumSsdIdeal (m : (ℓ : Loc Cert.SumSsdIdeal.nD Cert.SumSsdIdeal.τ Cert.SumSsdIdeal.sig) → Buf (Elt Ideal) ℓ) : Prop :=
  True

def Pre_SumSsdRefIdeal (m : (ℓ : Loc Cert.SumSsdRefIdeal.nD Cert.SumSsdRefIdeal.τ Cert.SumSsdRefIdeal.sig) → Buf (Elt Ideal) ℓ) : Prop :=
  True

def quiescent_ConfOut [hConfOut : Cert.ConfOut.Facts] : Prop :=
  ∀ (m : (ℓ : Loc Cert.ConfOut.nD Cert.ConfOut.τ Cert.ConfOut.sig) → Buf (Elt Bits) ℓ) (g : Dev Cert.ConfOut.nD → PrngReg), Pre_ConfOut m →
    θ_run (Cert.ConfOut.defs (F := Bits)) (onTc (τ := Cert.ConfOut.τ) (Cert.ConfOut.main (F := Bits))) ⟨m, fun _ => 0, g⟩ (fun r => (∀ c : Dev Cert.ConfOut.nD,
      r.2.mem ((c.tc : Thread Cert.ConfOut.nD Cert.ConfOut.τ).loc Cert.ConfOut.main_arg0) = m ((c.tc : Thread Cert.ConfOut.nD Cert.ConfOut.τ).loc Cert.ConfOut.main_arg0)
      ∧ r.2.mem ((c.tc : Thread Cert.ConfOut.nD Cert.ConfOut.τ).loc Cert.ConfOut.main_arg1) = m ((c.tc : Thread Cert.ConfOut.nD Cert.ConfOut.τ).loc Cert.ConfOut.main_arg1)
      ∧ r.2.mem ((c.tc : Thread Cert.ConfOut.nD Cert.ConfOut.τ).loc Cert.ConfOut.main_arg2) = m ((c.tc : Thread Cert.ConfOut.nD Cert.ConfOut.τ).loc Cert.ConfOut.main_arg2)
      ∧ r.2.mem ((c.tc : Thread Cert.ConfOut.nD Cert.ConfOut.τ).loc Cert.ConfOut.main_arg3) = m ((c.tc : Thread Cert.ConfOut.nD Cert.ConfOut.τ).loc Cert.ConfOut.main_arg3)
      ∧ r.2.mem ((c.tc : Thread Cert.ConfOut.nD Cert.ConfOut.τ).loc Cert.ConfOut.main_arg4) = m ((c.tc : Thread Cert.ConfOut.nD Cert.ConfOut.τ).loc Cert.ConfOut.main_arg4)
      ∧ r.2.mem ((c.tc : Thread Cert.ConfOut.nD Cert.ConfOut.τ).loc Cert.ConfOut.main_arg5) = m ((c.tc : Thread Cert.ConfOut.nD Cert.ConfOut.τ).loc Cert.ConfOut.main_arg5))
      ∧ r.2.sem = fun _ => 0)

def quiescent_ConfOutIdeal [hConfOutIdeal : Cert.ConfOutIdeal.Facts] : Prop :=
  ∀ (m : (ℓ : Loc Cert.ConfOutIdeal.nD Cert.ConfOutIdeal.τ Cert.ConfOutIdeal.sig) → Buf (Elt Ideal) ℓ) (g : Dev Cert.ConfOutIdeal.nD → PrngReg), Pre_ConfOutIdeal m →
    θ_run (Cert.ConfOutIdeal.defs (F := Ideal)) (onTc (τ := Cert.ConfOutIdeal.τ) (Cert.ConfOutIdeal.main (F := Ideal))) ⟨m, fun _ => 0, g⟩ (fun r => (∀ c : Dev Cert.ConfOutIdeal.nD,
      r.2.mem ((c.tc : Thread Cert.ConfOutIdeal.nD Cert.ConfOutIdeal.τ).loc Cert.ConfOutIdeal.main_arg0) = m ((c.tc : Thread Cert.ConfOutIdeal.nD Cert.ConfOutIdeal.τ).loc Cert.ConfOutIdeal.main_arg0)
      ∧ r.2.mem ((c.tc : Thread Cert.ConfOutIdeal.nD Cert.ConfOutIdeal.τ).loc Cert.ConfOutIdeal.main_arg1) = m ((c.tc : Thread Cert.ConfOutIdeal.nD Cert.ConfOutIdeal.τ).loc Cert.ConfOutIdeal.main_arg1)
      ∧ r.2.mem ((c.tc : Thread Cert.ConfOutIdeal.nD Cert.ConfOutIdeal.τ).loc Cert.ConfOutIdeal.main_arg2) = m ((c.tc : Thread Cert.ConfOutIdeal.nD Cert.ConfOutIdeal.τ).loc Cert.ConfOutIdeal.main_arg2)
      ∧ r.2.mem ((c.tc : Thread Cert.ConfOutIdeal.nD Cert.ConfOutIdeal.τ).loc Cert.ConfOutIdeal.main_arg3) = m ((c.tc : Thread Cert.ConfOutIdeal.nD Cert.ConfOutIdeal.τ).loc Cert.ConfOutIdeal.main_arg3)
      ∧ r.2.mem ((c.tc : Thread Cert.ConfOutIdeal.nD Cert.ConfOutIdeal.τ).loc Cert.ConfOutIdeal.main_arg4) = m ((c.tc : Thread Cert.ConfOutIdeal.nD Cert.ConfOutIdeal.τ).loc Cert.ConfOutIdeal.main_arg4)
      ∧ r.2.mem ((c.tc : Thread Cert.ConfOutIdeal.nD Cert.ConfOutIdeal.τ).loc Cert.ConfOutIdeal.main_arg5) = m ((c.tc : Thread Cert.ConfOutIdeal.nD Cert.ConfOutIdeal.τ).loc Cert.ConfOutIdeal.main_arg5))
      ∧ r.2.sem = fun _ => 0)

def quiescent_ConfOutIdeal_pre_conf_out_finite [hConfOutIdeal : Cert.ConfOutIdeal.Facts] [hPre_conf_out_finite : Cert.Pre_conf_out_finite.Facts] : Prop :=
  ∀ (m : (ℓ : Loc Cert.ConfOutIdeal.nD Cert.ConfOutIdeal.τ Cert.ConfOutIdeal.sig) → Buf (Elt Ideal) ℓ) (g : Dev Cert.ConfOutIdeal.nD → PrngReg), Pre_ConfOutIdeal_conf_out_finite m →
    θ_run (Cert.ConfOutIdeal.defs (F := Ideal)) (onTc (τ := Cert.ConfOutIdeal.τ) (Cert.ConfOutIdeal.main (F := Ideal))) ⟨m, fun _ => 0, g⟩ (fun r => (∀ c : Dev Cert.ConfOutIdeal.nD,
      r.2.mem ((c.tc : Thread Cert.ConfOutIdeal.nD Cert.ConfOutIdeal.τ).loc Cert.ConfOutIdeal.main_arg0) = m ((c.tc : Thread Cert.ConfOutIdeal.nD Cert.ConfOutIdeal.τ).loc Cert.ConfOutIdeal.main_arg0)
      ∧ r.2.mem ((c.tc : Thread Cert.ConfOutIdeal.nD Cert.ConfOutIdeal.τ).loc Cert.ConfOutIdeal.main_arg1) = m ((c.tc : Thread Cert.ConfOutIdeal.nD Cert.ConfOutIdeal.τ).loc Cert.ConfOutIdeal.main_arg1)
      ∧ r.2.mem ((c.tc : Thread Cert.ConfOutIdeal.nD Cert.ConfOutIdeal.τ).loc Cert.ConfOutIdeal.main_arg2) = m ((c.tc : Thread Cert.ConfOutIdeal.nD Cert.ConfOutIdeal.τ).loc Cert.ConfOutIdeal.main_arg2)
      ∧ r.2.mem ((c.tc : Thread Cert.ConfOutIdeal.nD Cert.ConfOutIdeal.τ).loc Cert.ConfOutIdeal.main_arg3) = m ((c.tc : Thread Cert.ConfOutIdeal.nD Cert.ConfOutIdeal.τ).loc Cert.ConfOutIdeal.main_arg3)
      ∧ r.2.mem ((c.tc : Thread Cert.ConfOutIdeal.nD Cert.ConfOutIdeal.τ).loc Cert.ConfOutIdeal.main_arg4) = m ((c.tc : Thread Cert.ConfOutIdeal.nD Cert.ConfOutIdeal.τ).loc Cert.ConfOutIdeal.main_arg4)
      ∧ r.2.mem ((c.tc : Thread Cert.ConfOutIdeal.nD Cert.ConfOutIdeal.τ).loc Cert.ConfOutIdeal.main_arg5) = m ((c.tc : Thread Cert.ConfOutIdeal.nD Cert.ConfOutIdeal.τ).loc Cert.ConfOutIdeal.main_arg5))
      ∧ r.2.sem = fun _ => 0)

def quiescent_ConfOutRefIdeal [hConfOutRefIdeal : Cert.ConfOutRefIdeal.Facts] : Prop :=
  ∀ (m : (ℓ : Loc Cert.ConfOutRefIdeal.nD Cert.ConfOutRefIdeal.τ Cert.ConfOutRefIdeal.sig) → Buf (Elt Ideal) ℓ) (g : Dev Cert.ConfOutRefIdeal.nD → PrngReg), Pre_ConfOutRefIdeal m →
    θ_run (Cert.ConfOutRefIdeal.defs (F := Ideal)) (onTc (τ := Cert.ConfOutRefIdeal.τ) (Cert.ConfOutRefIdeal.main (F := Ideal))) ⟨m, fun _ => 0, g⟩ (fun r => (∀ c : Dev Cert.ConfOutRefIdeal.nD,
      r.2.mem ((c.tc : Thread Cert.ConfOutRefIdeal.nD Cert.ConfOutRefIdeal.τ).loc Cert.ConfOutRefIdeal.main_arg0) = m ((c.tc : Thread Cert.ConfOutRefIdeal.nD Cert.ConfOutRefIdeal.τ).loc Cert.ConfOutRefIdeal.main_arg0)
      ∧ r.2.mem ((c.tc : Thread Cert.ConfOutRefIdeal.nD Cert.ConfOutRefIdeal.τ).loc Cert.ConfOutRefIdeal.main_arg1) = m ((c.tc : Thread Cert.ConfOutRefIdeal.nD Cert.ConfOutRefIdeal.τ).loc Cert.ConfOutRefIdeal.main_arg1)
      ∧ r.2.mem ((c.tc : Thread Cert.ConfOutRefIdeal.nD Cert.ConfOutRefIdeal.τ).loc Cert.ConfOutRefIdeal.main_arg2) = m ((c.tc : Thread Cert.ConfOutRefIdeal.nD Cert.ConfOutRefIdeal.τ).loc Cert.ConfOutRefIdeal.main_arg2)
      ∧ r.2.mem ((c.tc : Thread Cert.ConfOutRefIdeal.nD Cert.ConfOutRefIdeal.τ).loc Cert.ConfOutRefIdeal.main_arg3) = m ((c.tc : Thread Cert.ConfOutRefIdeal.nD Cert.ConfOutRefIdeal.τ).loc Cert.ConfOutRefIdeal.main_arg3)
      ∧ r.2.mem ((c.tc : Thread Cert.ConfOutRefIdeal.nD Cert.ConfOutRefIdeal.τ).loc Cert.ConfOutRefIdeal.main_arg4) = m ((c.tc : Thread Cert.ConfOutRefIdeal.nD Cert.ConfOutRefIdeal.τ).loc Cert.ConfOutRefIdeal.main_arg4)
      ∧ r.2.mem ((c.tc : Thread Cert.ConfOutRefIdeal.nD Cert.ConfOutRefIdeal.τ).loc Cert.ConfOutRefIdeal.main_arg5) = m ((c.tc : Thread Cert.ConfOutRefIdeal.nD Cert.ConfOutRefIdeal.τ).loc Cert.ConfOutRefIdeal.main_arg5))
      ∧ r.2.sem = fun _ => 0)

def quiescent_ConfOutRefIdeal_pre_conf_out_finite [hConfOutRefIdeal : Cert.ConfOutRefIdeal.Facts] [hPre_conf_out_finite : Cert.Pre_conf_out_finite.Facts] : Prop :=
  ∀ (m : (ℓ : Loc Cert.ConfOutRefIdeal.nD Cert.ConfOutRefIdeal.τ Cert.ConfOutRefIdeal.sig) → Buf (Elt Ideal) ℓ) (g : Dev Cert.ConfOutRefIdeal.nD → PrngReg), Pre_ConfOutRefIdeal_conf_out_finite m →
    θ_run (Cert.ConfOutRefIdeal.defs (F := Ideal)) (onTc (τ := Cert.ConfOutRefIdeal.τ) (Cert.ConfOutRefIdeal.main (F := Ideal))) ⟨m, fun _ => 0, g⟩ (fun r => (∀ c : Dev Cert.ConfOutRefIdeal.nD,
      r.2.mem ((c.tc : Thread Cert.ConfOutRefIdeal.nD Cert.ConfOutRefIdeal.τ).loc Cert.ConfOutRefIdeal.main_arg0) = m ((c.tc : Thread Cert.ConfOutRefIdeal.nD Cert.ConfOutRefIdeal.τ).loc Cert.ConfOutRefIdeal.main_arg0)
      ∧ r.2.mem ((c.tc : Thread Cert.ConfOutRefIdeal.nD Cert.ConfOutRefIdeal.τ).loc Cert.ConfOutRefIdeal.main_arg1) = m ((c.tc : Thread Cert.ConfOutRefIdeal.nD Cert.ConfOutRefIdeal.τ).loc Cert.ConfOutRefIdeal.main_arg1)
      ∧ r.2.mem ((c.tc : Thread Cert.ConfOutRefIdeal.nD Cert.ConfOutRefIdeal.τ).loc Cert.ConfOutRefIdeal.main_arg2) = m ((c.tc : Thread Cert.ConfOutRefIdeal.nD Cert.ConfOutRefIdeal.τ).loc Cert.ConfOutRefIdeal.main_arg2)
      ∧ r.2.mem ((c.tc : Thread Cert.ConfOutRefIdeal.nD Cert.ConfOutRefIdeal.τ).loc Cert.ConfOutRefIdeal.main_arg3) = m ((c.tc : Thread Cert.ConfOutRefIdeal.nD Cert.ConfOutRefIdeal.τ).loc Cert.ConfOutRefIdeal.main_arg3)
      ∧ r.2.mem ((c.tc : Thread Cert.ConfOutRefIdeal.nD Cert.ConfOutRefIdeal.τ).loc Cert.ConfOutRefIdeal.main_arg4) = m ((c.tc : Thread Cert.ConfOutRefIdeal.nD Cert.ConfOutRefIdeal.τ).loc Cert.ConfOutRefIdeal.main_arg4)
      ∧ r.2.mem ((c.tc : Thread Cert.ConfOutRefIdeal.nD Cert.ConfOutRefIdeal.τ).loc Cert.ConfOutRefIdeal.main_arg5) = m ((c.tc : Thread Cert.ConfOutRefIdeal.nD Cert.ConfOutRefIdeal.τ).loc Cert.ConfOutRefIdeal.main_arg5))
      ∧ r.2.sem = fun _ => 0)

def quiescent_SsdOut [hSsdOut : Cert.SsdOut.Facts] : Prop :=
  ∀ (m : (ℓ : Loc Cert.SsdOut.nD Cert.SsdOut.τ Cert.SsdOut.sig) → Buf (Elt Bits) ℓ) (g : Dev Cert.SsdOut.nD → PrngReg), Pre_SsdOut m →
    θ_run (Cert.SsdOut.defs (F := Bits)) (onTc (τ := Cert.SsdOut.τ) (Cert.SsdOut.main (F := Bits))) ⟨m, fun _ => 0, g⟩ (fun r => (∀ c : Dev Cert.SsdOut.nD,
      r.2.mem ((c.tc : Thread Cert.SsdOut.nD Cert.SsdOut.τ).loc Cert.SsdOut.main_arg0) = m ((c.tc : Thread Cert.SsdOut.nD Cert.SsdOut.τ).loc Cert.SsdOut.main_arg0)
      ∧ r.2.mem ((c.tc : Thread Cert.SsdOut.nD Cert.SsdOut.τ).loc Cert.SsdOut.main_arg1) = m ((c.tc : Thread Cert.SsdOut.nD Cert.SsdOut.τ).loc Cert.SsdOut.main_arg1)
      ∧ r.2.mem ((c.tc : Thread Cert.SsdOut.nD Cert.SsdOut.τ).loc Cert.SsdOut.main_arg2) = m ((c.tc : Thread Cert.SsdOut.nD Cert.SsdOut.τ).loc Cert.SsdOut.main_arg2)
      ∧ r.2.mem ((c.tc : Thread Cert.SsdOut.nD Cert.SsdOut.τ).loc Cert.SsdOut.main_arg3) = m ((c.tc : Thread Cert.SsdOut.nD Cert.SsdOut.τ).loc Cert.SsdOut.main_arg3)
      ∧ r.2.mem ((c.tc : Thread Cert.SsdOut.nD Cert.SsdOut.τ).loc Cert.SsdOut.main_arg4) = m ((c.tc : Thread Cert.SsdOut.nD Cert.SsdOut.τ).loc Cert.SsdOut.main_arg4)
      ∧ r.2.mem ((c.tc : Thread Cert.SsdOut.nD Cert.SsdOut.τ).loc Cert.SsdOut.main_arg5) = m ((c.tc : Thread Cert.SsdOut.nD Cert.SsdOut.τ).loc Cert.SsdOut.main_arg5)
      ∧ r.2.mem ((c.tc : Thread Cert.SsdOut.nD Cert.SsdOut.τ).loc Cert.SsdOut.main_arg6) = m ((c.tc : Thread Cert.SsdOut.nD Cert.SsdOut.τ).loc Cert.SsdOut.main_arg6)
      ∧ r.2.mem ((c.tc : Thread Cert.SsdOut.nD Cert.SsdOut.τ).loc Cert.SsdOut.main_arg7) = m ((c.tc : Thread Cert.SsdOut.nD Cert.SsdOut.τ).loc Cert.SsdOut.main_arg7))
      ∧ r.2.sem = fun _ => 0)

def quiescent_SsdOutIdeal [hSsdOutIdeal : Cert.SsdOutIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg), Pre_SsdOutIdeal m →
    θ_run (Cert.SsdOutIdeal.defs (F := Ideal)) (onTc (τ := Cert.SsdOutIdeal.τ) (Cert.SsdOutIdeal.main (F := Ideal))) ⟨m, fun _ => 0, g⟩ (fun r => (∀ c : Dev Cert.SsdOutIdeal.nD,
      r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
      ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
      ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2)
      ∧ r.2.mem ((c.tc : Thread Cert.SsdOutIdeal.nD Cert.SsdOutIdeal.τ).loc Cert.SsdOutIdeal.main_arg3) = m ((c.tc : Thread Cert.SsdOutIdeal.nD Cert.SsdOutIdeal.τ).loc Cert.SsdOutIdeal.main_arg3)
      ∧ r.2.mem ((c.tc : Thread Cert.SsdOutIdeal.nD Cert.SsdOutIdeal.τ).loc Cert.SsdOutIdeal.main_arg4) = m ((c.tc : Thread Cert.SsdOutIdeal.nD Cert.SsdOutIdeal.τ).loc Cert.SsdOutIdeal.main_arg4)
      ∧ r.2.mem ((c.tc : Thread Cert.SsdOutIdeal.nD Cert.SsdOutIdeal.τ).loc Cert.SsdOutIdeal.main_arg5) = m ((c.tc : Thread Cert.SsdOutIdeal.nD Cert.SsdOutIdeal.τ).loc Cert.SsdOutIdeal.main_arg5)
      ∧ r.2.mem ((c.tc : Thread Cert.SsdOutIdeal.nD Cert.SsdOutIdeal.τ).loc Cert.SsdOutIdeal.main_arg6) = m ((c.tc : Thread Cert.SsdOutIdeal.nD Cert.SsdOutIdeal.τ).loc Cert.SsdOutIdeal.main_arg6)
      ∧ r.2.mem ((c.tc : Thread Cert.SsdOutIdeal.nD Cert.SsdOutIdeal.τ).loc Cert.SsdOutIdeal.main_arg7) = m ((c.tc : Thread Cert.SsdOutIdeal.nD Cert.SsdOutIdeal.τ).loc Cert.SsdOutIdeal.main_arg7))
      ∧ r.2.sem = fun _ => 0)

def quiescent_SsdOutIdeal_pre_ssd_out_finite [hSsdOutIdeal : Cert.SsdOutIdeal.Facts] [hPre_ssd_out_finite : Cert.Pre_ssd_out_finite.Facts] : Prop :=
  ∀ (m : (ℓ : Loc Cert.SsdOutIdeal.nD Cert.SsdOutIdeal.τ Cert.SsdOutIdeal.sig) → Buf (Elt Ideal) ℓ) (g : Dev Cert.SsdOutIdeal.nD → PrngReg), Pre_SsdOutIdeal_ssd_out_finite m →
    θ_run (Cert.SsdOutIdeal.defs (F := Ideal)) (onTc (τ := Cert.SsdOutIdeal.τ) (Cert.SsdOutIdeal.main (F := Ideal))) ⟨m, fun _ => 0, g⟩ (fun r => (∀ c : Dev Cert.SsdOutIdeal.nD,
      r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
      ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
      ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2)
      ∧ r.2.mem ((c.tc : Thread Cert.SsdOutIdeal.nD Cert.SsdOutIdeal.τ).loc Cert.SsdOutIdeal.main_arg3) = m ((c.tc : Thread Cert.SsdOutIdeal.nD Cert.SsdOutIdeal.τ).loc Cert.SsdOutIdeal.main_arg3)
      ∧ r.2.mem ((c.tc : Thread Cert.SsdOutIdeal.nD Cert.SsdOutIdeal.τ).loc Cert.SsdOutIdeal.main_arg4) = m ((c.tc : Thread Cert.SsdOutIdeal.nD Cert.SsdOutIdeal.τ).loc Cert.SsdOutIdeal.main_arg4)
      ∧ r.2.mem ((c.tc : Thread Cert.SsdOutIdeal.nD Cert.SsdOutIdeal.τ).loc Cert.SsdOutIdeal.main_arg5) = m ((c.tc : Thread Cert.SsdOutIdeal.nD Cert.SsdOutIdeal.τ).loc Cert.SsdOutIdeal.main_arg5)
      ∧ r.2.mem ((c.tc : Thread Cert.SsdOutIdeal.nD Cert.SsdOutIdeal.τ).loc Cert.SsdOutIdeal.main_arg6) = m ((c.tc : Thread Cert.SsdOutIdeal.nD Cert.SsdOutIdeal.τ).loc Cert.SsdOutIdeal.main_arg6)
      ∧ r.2.mem ((c.tc : Thread Cert.SsdOutIdeal.nD Cert.SsdOutIdeal.τ).loc Cert.SsdOutIdeal.main_arg7) = m ((c.tc : Thread Cert.SsdOutIdeal.nD Cert.SsdOutIdeal.τ).loc Cert.SsdOutIdeal.main_arg7))
      ∧ r.2.sem = fun _ => 0)

def quiescent_SsdOutRefIdeal [hSsdOutRefIdeal : Cert.SsdOutRefIdeal.Facts] : Prop :=
  ∀ (m : (ℓ : Loc Cert.SsdOutRefIdeal.nD Cert.SsdOutRefIdeal.τ Cert.SsdOutRefIdeal.sig) → Buf (Elt Ideal) ℓ) (g : Dev Cert.SsdOutRefIdeal.nD → PrngReg), Pre_SsdOutRefIdeal m →
    θ_run (Cert.SsdOutRefIdeal.defs (F := Ideal)) (onTc (τ := Cert.SsdOutRefIdeal.τ) (Cert.SsdOutRefIdeal.main (F := Ideal))) ⟨m, fun _ => 0, g⟩ (fun r => (∀ c : Dev Cert.SsdOutRefIdeal.nD,
      r.2.mem ((c.tc : Thread Cert.SsdOutRefIdeal.nD Cert.SsdOutRefIdeal.τ).loc Cert.SsdOutRefIdeal.main_arg0) = m ((c.tc : Thread Cert.SsdOutRefIdeal.nD Cert.SsdOutRefIdeal.τ).loc Cert.SsdOutRefIdeal.main_arg0)
      ∧ r.2.mem ((c.tc : Thread Cert.SsdOutRefIdeal.nD Cert.SsdOutRefIdeal.τ).loc Cert.SsdOutRefIdeal.main_arg1) = m ((c.tc : Thread Cert.SsdOutRefIdeal.nD Cert.SsdOutRefIdeal.τ).loc Cert.SsdOutRefIdeal.main_arg1)
      ∧ r.2.mem ((c.tc : Thread Cert.SsdOutRefIdeal.nD Cert.SsdOutRefIdeal.τ).loc Cert.SsdOutRefIdeal.main_arg2) = m ((c.tc : Thread Cert.SsdOutRefIdeal.nD Cert.SsdOutRefIdeal.τ).loc Cert.SsdOutRefIdeal.main_arg2)
      ∧ r.2.mem ((c.tc : Thread Cert.SsdOutRefIdeal.nD Cert.SsdOutRefIdeal.τ).loc Cert.SsdOutRefIdeal.main_arg3) = m ((c.tc : Thread Cert.SsdOutRefIdeal.nD Cert.SsdOutRefIdeal.τ).loc Cert.SsdOutRefIdeal.main_arg3)
      ∧ r.2.mem ((c.tc : Thread Cert.SsdOutRefIdeal.nD Cert.SsdOutRefIdeal.τ).loc Cert.SsdOutRefIdeal.main_arg4) = m ((c.tc : Thread Cert.SsdOutRefIdeal.nD Cert.SsdOutRefIdeal.τ).loc Cert.SsdOutRefIdeal.main_arg4)
      ∧ r.2.mem ((c.tc : Thread Cert.SsdOutRefIdeal.nD Cert.SsdOutRefIdeal.τ).loc Cert.SsdOutRefIdeal.main_arg5) = m ((c.tc : Thread Cert.SsdOutRefIdeal.nD Cert.SsdOutRefIdeal.τ).loc Cert.SsdOutRefIdeal.main_arg5)
      ∧ r.2.mem ((c.tc : Thread Cert.SsdOutRefIdeal.nD Cert.SsdOutRefIdeal.τ).loc Cert.SsdOutRefIdeal.main_arg6) = m ((c.tc : Thread Cert.SsdOutRefIdeal.nD Cert.SsdOutRefIdeal.τ).loc Cert.SsdOutRefIdeal.main_arg6)
      ∧ r.2.mem ((c.tc : Thread Cert.SsdOutRefIdeal.nD Cert.SsdOutRefIdeal.τ).loc Cert.SsdOutRefIdeal.main_arg7) = m ((c.tc : Thread Cert.SsdOutRefIdeal.nD Cert.SsdOutRefIdeal.τ).loc Cert.SsdOutRefIdeal.main_arg7))
      ∧ r.2.sem = fun _ => 0)

def quiescent_SsdOutRefIdeal_pre_ssd_out_finite [hSsdOutRefIdeal : Cert.SsdOutRefIdeal.Facts] [hPre_ssd_out_finite : Cert.Pre_ssd_out_finite.Facts] : Prop :=
  ∀ (m : (ℓ : Loc Cert.SsdOutRefIdeal.nD Cert.SsdOutRefIdeal.τ Cert.SsdOutRefIdeal.sig) → Buf (Elt Ideal) ℓ) (g : Dev Cert.SsdOutRefIdeal.nD → PrngReg), Pre_SsdOutRefIdeal_ssd_out_finite m →
    θ_run (Cert.SsdOutRefIdeal.defs (F := Ideal)) (onTc (τ := Cert.SsdOutRefIdeal.τ) (Cert.SsdOutRefIdeal.main (F := Ideal))) ⟨m, fun _ => 0, g⟩ (fun r => (∀ c : Dev Cert.SsdOutRefIdeal.nD,
      r.2.mem ((c.tc : Thread Cert.SsdOutRefIdeal.nD Cert.SsdOutRefIdeal.τ).loc Cert.SsdOutRefIdeal.main_arg0) = m ((c.tc : Thread Cert.SsdOutRefIdeal.nD Cert.SsdOutRefIdeal.τ).loc Cert.SsdOutRefIdeal.main_arg0)
      ∧ r.2.mem ((c.tc : Thread Cert.SsdOutRefIdeal.nD Cert.SsdOutRefIdeal.τ).loc Cert.SsdOutRefIdeal.main_arg1) = m ((c.tc : Thread Cert.SsdOutRefIdeal.nD Cert.SsdOutRefIdeal.τ).loc Cert.SsdOutRefIdeal.main_arg1)
      ∧ r.2.mem ((c.tc : Thread Cert.SsdOutRefIdeal.nD Cert.SsdOutRefIdeal.τ).loc Cert.SsdOutRefIdeal.main_arg2) = m ((c.tc : Thread Cert.SsdOutRefIdeal.nD Cert.SsdOutRefIdeal.τ).loc Cert.SsdOutRefIdeal.main_arg2)
      ∧ r.2.mem ((c.tc : Thread Cert.SsdOutRefIdeal.nD Cert.SsdOutRefIdeal.τ).loc Cert.SsdOutRefIdeal.main_arg3) = m ((c.tc : Thread Cert.SsdOutRefIdeal.nD Cert.SsdOutRefIdeal.τ).loc Cert.SsdOutRefIdeal.main_arg3)
      ∧ r.2.mem ((c.tc : Thread Cert.SsdOutRefIdeal.nD Cert.SsdOutRefIdeal.τ).loc Cert.SsdOutRefIdeal.main_arg4) = m ((c.tc : Thread Cert.SsdOutRefIdeal.nD Cert.SsdOutRefIdeal.τ).loc Cert.SsdOutRefIdeal.main_arg4)
      ∧ r.2.mem ((c.tc : Thread Cert.SsdOutRefIdeal.nD Cert.SsdOutRefIdeal.τ).loc Cert.SsdOutRefIdeal.main_arg5) = m ((c.tc : Thread Cert.SsdOutRefIdeal.nD Cert.SsdOutRefIdeal.τ).loc Cert.SsdOutRefIdeal.main_arg5)
      ∧ r.2.mem ((c.tc : Thread Cert.SsdOutRefIdeal.nD Cert.SsdOutRefIdeal.τ).loc Cert.SsdOutRefIdeal.main_arg6) = m ((c.tc : Thread Cert.SsdOutRefIdeal.nD Cert.SsdOutRefIdeal.τ).loc Cert.SsdOutRefIdeal.main_arg6)
      ∧ r.2.mem ((c.tc : Thread Cert.SsdOutRefIdeal.nD Cert.SsdOutRefIdeal.τ).loc Cert.SsdOutRefIdeal.main_arg7) = m ((c.tc : Thread Cert.SsdOutRefIdeal.nD Cert.SsdOutRefIdeal.τ).loc Cert.SsdOutRefIdeal.main_arg7))
      ∧ r.2.sem = fun _ => 0)

def quiescent_CmIn [hCmIn : Cert.CmIn.Facts] : Prop :=
  ∀ (m : (ℓ : Loc Cert.CmIn.nD Cert.CmIn.τ Cert.CmIn.sig) → Buf (Elt Bits) ℓ) (g : Dev Cert.CmIn.nD → PrngReg), Pre_CmIn m →
    θ_run (Cert.CmIn.defs (F := Bits)) (onTc (τ := Cert.CmIn.τ) (Cert.CmIn.main (F := Bits))) ⟨m, fun _ => 0, g⟩ (fun r => (∀ c : Dev Cert.CmIn.nD,
      r.2.mem ((c.tc : Thread Cert.CmIn.nD Cert.CmIn.τ).loc Cert.CmIn.main_arg0) = m ((c.tc : Thread Cert.CmIn.nD Cert.CmIn.τ).loc Cert.CmIn.main_arg0)
      ∧ r.2.mem ((c.tc : Thread Cert.CmIn.nD Cert.CmIn.τ).loc Cert.CmIn.main_arg1) = m ((c.tc : Thread Cert.CmIn.nD Cert.CmIn.τ).loc Cert.CmIn.main_arg1)
      ∧ r.2.mem ((c.tc : Thread Cert.CmIn.nD Cert.CmIn.τ).loc Cert.CmIn.main_arg2) = m ((c.tc : Thread Cert.CmIn.nD Cert.CmIn.τ).loc Cert.CmIn.main_arg2)
      ∧ r.2.mem ((c.tc : Thread Cert.CmIn.nD Cert.CmIn.τ).loc Cert.CmIn.main_arg3) = m ((c.tc : Thread Cert.CmIn.nD Cert.CmIn.τ).loc Cert.CmIn.main_arg3)
      ∧ r.2.mem ((c.tc : Thread Cert.CmIn.nD Cert.CmIn.τ).loc Cert.CmIn.main_arg4) = m ((c.tc : Thread Cert.CmIn.nD Cert.CmIn.τ).loc Cert.CmIn.main_arg4)
      ∧ r.2.mem ((c.tc : Thread Cert.CmIn.nD Cert.CmIn.τ).loc Cert.CmIn.main_arg5) = m ((c.tc : Thread Cert.CmIn.nD Cert.CmIn.τ).loc Cert.CmIn.main_arg5)
      ∧ r.2.mem ((c.tc : Thread Cert.CmIn.nD Cert.CmIn.τ).loc Cert.CmIn.main_arg6) = m ((c.tc : Thread Cert.CmIn.nD Cert.CmIn.τ).loc Cert.CmIn.main_arg6))
      ∧ r.2.sem = fun _ => 0)

def quiescent_CmInIdeal [hCmInIdeal : Cert.CmInIdeal.Facts] : Prop :=
  ∀ (m : (ℓ : Loc Cert.CmInIdeal.nD Cert.CmInIdeal.τ Cert.CmInIdeal.sig) → Buf (Elt Ideal) ℓ) (g : Dev Cert.CmInIdeal.nD → PrngReg), Pre_CmInIdeal m →
    θ_run (Cert.CmInIdeal.defs (F := Ideal)) (onTc (τ := Cert.CmInIdeal.τ) (Cert.CmInIdeal.main (F := Ideal))) ⟨m, fun _ => 0, g⟩ (fun r => (∀ c : Dev Cert.CmInIdeal.nD,
      r.2.mem ((c.tc : Thread Cert.CmInIdeal.nD Cert.CmInIdeal.τ).loc Cert.CmInIdeal.main_arg0) = m ((c.tc : Thread Cert.CmInIdeal.nD Cert.CmInIdeal.τ).loc Cert.CmInIdeal.main_arg0)
      ∧ r.2.mem ((c.tc : Thread Cert.CmInIdeal.nD Cert.CmInIdeal.τ).loc Cert.CmInIdeal.main_arg1) = m ((c.tc : Thread Cert.CmInIdeal.nD Cert.CmInIdeal.τ).loc Cert.CmInIdeal.main_arg1)
      ∧ r.2.mem ((c.tc : Thread Cert.CmInIdeal.nD Cert.CmInIdeal.τ).loc Cert.CmInIdeal.main_arg2) = m ((c.tc : Thread Cert.CmInIdeal.nD Cert.CmInIdeal.τ).loc Cert.CmInIdeal.main_arg2)
      ∧ r.2.mem ((c.tc : Thread Cert.CmInIdeal.nD Cert.CmInIdeal.τ).loc Cert.CmInIdeal.main_arg3) = m ((c.tc : Thread Cert.CmInIdeal.nD Cert.CmInIdeal.τ).loc Cert.CmInIdeal.main_arg3)
      ∧ r.2.mem ((c.tc : Thread Cert.CmInIdeal.nD Cert.CmInIdeal.τ).loc Cert.CmInIdeal.main_arg4) = m ((c.tc : Thread Cert.CmInIdeal.nD Cert.CmInIdeal.τ).loc Cert.CmInIdeal.main_arg4)
      ∧ r.2.mem ((c.tc : Thread Cert.CmInIdeal.nD Cert.CmInIdeal.τ).loc Cert.CmInIdeal.main_arg5) = m ((c.tc : Thread Cert.CmInIdeal.nD Cert.CmInIdeal.τ).loc Cert.CmInIdeal.main_arg5)
      ∧ r.2.mem ((c.tc : Thread Cert.CmInIdeal.nD Cert.CmInIdeal.τ).loc Cert.CmInIdeal.main_arg6) = m ((c.tc : Thread Cert.CmInIdeal.nD Cert.CmInIdeal.τ).loc Cert.CmInIdeal.main_arg6))
      ∧ r.2.sem = fun _ => 0)

def quiescent_CmInRefIdeal [hCmInRefIdeal : Cert.CmInRefIdeal.Facts] : Prop :=
  ∀ (m : (ℓ : Loc Cert.CmInRefIdeal.nD Cert.CmInRefIdeal.τ Cert.CmInRefIdeal.sig) → Buf (Elt Ideal) ℓ) (g : Dev Cert.CmInRefIdeal.nD → PrngReg), Pre_CmInRefIdeal m →
    θ_run (Cert.CmInRefIdeal.defs (F := Ideal)) (onTc (τ := Cert.CmInRefIdeal.τ) (Cert.CmInRefIdeal.main (F := Ideal))) ⟨m, fun _ => 0, g⟩ (fun r => (∀ c : Dev Cert.CmInRefIdeal.nD,
      r.2.mem ((c.tc : Thread Cert.CmInRefIdeal.nD Cert.CmInRefIdeal.τ).loc Cert.CmInRefIdeal.main_arg0) = m ((c.tc : Thread Cert.CmInRefIdeal.nD Cert.CmInRefIdeal.τ).loc Cert.CmInRefIdeal.main_arg0)
      ∧ r.2.mem ((c.tc : Thread Cert.CmInRefIdeal.nD Cert.CmInRefIdeal.τ).loc Cert.CmInRefIdeal.main_arg1) = m ((c.tc : Thread Cert.CmInRefIdeal.nD Cert.CmInRefIdeal.τ).loc Cert.CmInRefIdeal.main_arg1)
      ∧ r.2.mem ((c.tc : Thread Cert.CmInRefIdeal.nD Cert.CmInRefIdeal.τ).loc Cert.CmInRefIdeal.main_arg2) = m ((c.tc : Thread Cert.CmInRefIdeal.nD Cert.CmInRefIdeal.τ).loc Cert.CmInRefIdeal.main_arg2)
      ∧ r.2.mem ((c.tc : Thread Cert.CmInRefIdeal.nD Cert.CmInRefIdeal.τ).loc Cert.CmInRefIdeal.main_arg3) = m ((c.tc : Thread Cert.CmInRefIdeal.nD Cert.CmInRefIdeal.τ).loc Cert.CmInRefIdeal.main_arg3)
      ∧ r.2.mem ((c.tc : Thread Cert.CmInRefIdeal.nD Cert.CmInRefIdeal.τ).loc Cert.CmInRefIdeal.main_arg4) = m ((c.tc : Thread Cert.CmInRefIdeal.nD Cert.CmInRefIdeal.τ).loc Cert.CmInRefIdeal.main_arg4)
      ∧ r.2.mem ((c.tc : Thread Cert.CmInRefIdeal.nD Cert.CmInRefIdeal.τ).loc Cert.CmInRefIdeal.main_arg5) = m ((c.tc : Thread Cert.CmInRefIdeal.nD Cert.CmInRefIdeal.τ).loc Cert.CmInRefIdeal.main_arg5)
      ∧ r.2.mem ((c.tc : Thread Cert.CmInRefIdeal.nD Cert.CmInRefIdeal.τ).loc Cert.CmInRefIdeal.main_arg6) = m ((c.tc : Thread Cert.CmInRefIdeal.nD Cert.CmInRefIdeal.τ).loc Cert.CmInRefIdeal.main_arg6))
      ∧ r.2.sem = fun _ => 0)

def quiescent_SsdIn [hSsdIn : Cert.SsdIn.Facts] : Prop :=
  ∀ (m : (ℓ : Loc Cert.SsdIn.nD Cert.SsdIn.τ Cert.SsdIn.sig) → Buf (Elt Bits) ℓ) (g : Dev Cert.SsdIn.nD → PrngReg), Pre_SsdIn m →
    θ_run (Cert.SsdIn.defs (F := Bits)) (onTc (τ := Cert.SsdIn.τ) (Cert.SsdIn.main (F := Bits))) ⟨m, fun _ => 0, g⟩ (fun r => (∀ c : Dev Cert.SsdIn.nD,
      r.2.mem ((c.tc : Thread Cert.SsdIn.nD Cert.SsdIn.τ).loc Cert.SsdIn.main_arg0) = m ((c.tc : Thread Cert.SsdIn.nD Cert.SsdIn.τ).loc Cert.SsdIn.main_arg0)
      ∧ r.2.mem ((c.tc : Thread Cert.SsdIn.nD Cert.SsdIn.τ).loc Cert.SsdIn.main_arg1) = m ((c.tc : Thread Cert.SsdIn.nD Cert.SsdIn.τ).loc Cert.SsdIn.main_arg1)
      ∧ r.2.mem ((c.tc : Thread Cert.SsdIn.nD Cert.SsdIn.τ).loc Cert.SsdIn.main_arg2) = m ((c.tc : Thread Cert.SsdIn.nD Cert.SsdIn.τ).loc Cert.SsdIn.main_arg2)
      ∧ r.2.mem ((c.tc : Thread Cert.SsdIn.nD Cert.SsdIn.τ).loc Cert.SsdIn.main_arg3) = m ((c.tc : Thread Cert.SsdIn.nD Cert.SsdIn.τ).loc Cert.SsdIn.main_arg3)
      ∧ r.2.mem ((c.tc : Thread Cert.SsdIn.nD Cert.SsdIn.τ).loc Cert.SsdIn.main_arg4) = m ((c.tc : Thread Cert.SsdIn.nD Cert.SsdIn.τ).loc Cert.SsdIn.main_arg4)
      ∧ r.2.mem ((c.tc : Thread Cert.SsdIn.nD Cert.SsdIn.τ).loc Cert.SsdIn.main_arg5) = m ((c.tc : Thread Cert.SsdIn.nD Cert.SsdIn.τ).loc Cert.SsdIn.main_arg5)
      ∧ r.2.mem ((c.tc : Thread Cert.SsdIn.nD Cert.SsdIn.τ).loc Cert.SsdIn.main_arg6) = m ((c.tc : Thread Cert.SsdIn.nD Cert.SsdIn.τ).loc Cert.SsdIn.main_arg6))
      ∧ r.2.sem = fun _ => 0)

def quiescent_SsdInIdeal [hSsdInIdeal : Cert.SsdInIdeal.Facts] : Prop :=
  ∀ (m : (ℓ : Loc Cert.SsdInIdeal.nD Cert.SsdInIdeal.τ Cert.SsdInIdeal.sig) → Buf (Elt Ideal) ℓ) (g : Dev Cert.SsdInIdeal.nD → PrngReg), Pre_SsdInIdeal m →
    θ_run (Cert.SsdInIdeal.defs (F := Ideal)) (onTc (τ := Cert.SsdInIdeal.τ) (Cert.SsdInIdeal.main (F := Ideal))) ⟨m, fun _ => 0, g⟩ (fun r => (∀ c : Dev Cert.SsdInIdeal.nD,
      r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
      ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1)
      ∧ r.2.mem ((c.tc : Thread Cert.SsdInIdeal.nD Cert.SsdInIdeal.τ).loc Cert.SsdInIdeal.main_arg2) = m ((c.tc : Thread Cert.SsdInIdeal.nD Cert.SsdInIdeal.τ).loc Cert.SsdInIdeal.main_arg2)
      ∧ r.2.mem ((c.tc : Thread Cert.SsdInIdeal.nD Cert.SsdInIdeal.τ).loc Cert.SsdInIdeal.main_arg3) = m ((c.tc : Thread Cert.SsdInIdeal.nD Cert.SsdInIdeal.τ).loc Cert.SsdInIdeal.main_arg3)
      ∧ r.2.mem ((c.tc : Thread Cert.SsdInIdeal.nD Cert.SsdInIdeal.τ).loc Cert.SsdInIdeal.main_arg4) = m ((c.tc : Thread Cert.SsdInIdeal.nD Cert.SsdInIdeal.τ).loc Cert.SsdInIdeal.main_arg4)
      ∧ r.2.mem ((c.tc : Thread Cert.SsdInIdeal.nD Cert.SsdInIdeal.τ).loc Cert.SsdInIdeal.main_arg5) = m ((c.tc : Thread Cert.SsdInIdeal.nD Cert.SsdInIdeal.τ).loc Cert.SsdInIdeal.main_arg5)
      ∧ r.2.mem ((c.tc : Thread Cert.SsdInIdeal.nD Cert.SsdInIdeal.τ).loc Cert.SsdInIdeal.main_arg6) = m ((c.tc : Thread Cert.SsdInIdeal.nD Cert.SsdInIdeal.τ).loc Cert.SsdInIdeal.main_arg6))
      ∧ r.2.sem = fun _ => 0)

def quiescent_SsdInRefIdeal [hSsdInRefIdeal : Cert.SsdInRefIdeal.Facts] : Prop :=
  ∀ (m : (ℓ : Loc Cert.SsdInRefIdeal.nD Cert.SsdInRefIdeal.τ Cert.SsdInRefIdeal.sig) → Buf (Elt Ideal) ℓ) (g : Dev Cert.SsdInRefIdeal.nD → PrngReg), Pre_SsdInRefIdeal m →
    θ_run (Cert.SsdInRefIdeal.defs (F := Ideal)) (onTc (τ := Cert.SsdInRefIdeal.τ) (Cert.SsdInRefIdeal.main (F := Ideal))) ⟨m, fun _ => 0, g⟩ (fun r => (∀ c : Dev Cert.SsdInRefIdeal.nD,
      r.2.mem ((c.tc : Thread Cert.SsdInRefIdeal.nD Cert.SsdInRefIdeal.τ).loc Cert.SsdInRefIdeal.main_arg0) = m ((c.tc : Thread Cert.SsdInRefIdeal.nD Cert.SsdInRefIdeal.τ).loc Cert.SsdInRefIdeal.main_arg0)
      ∧ r.2.mem ((c.tc : Thread Cert.SsdInRefIdeal.nD Cert.SsdInRefIdeal.τ).loc Cert.SsdInRefIdeal.main_arg1) = m ((c.tc : Thread Cert.SsdInRefIdeal.nD Cert.SsdInRefIdeal.τ).loc Cert.SsdInRefIdeal.main_arg1)
      ∧ r.2.mem ((c.tc : Thread Cert.SsdInRefIdeal.nD Cert.SsdInRefIdeal.τ).loc Cert.SsdInRefIdeal.main_arg2) = m ((c.tc : Thread Cert.SsdInRefIdeal.nD Cert.SsdInRefIdeal.τ).loc Cert.SsdInRefIdeal.main_arg2)
      ∧ r.2.mem ((c.tc : Thread Cert.SsdInRefIdeal.nD Cert.SsdInRefIdeal.τ).loc Cert.SsdInRefIdeal.main_arg3) = m ((c.tc : Thread Cert.SsdInRefIdeal.nD Cert.SsdInRefIdeal.τ).loc Cert.SsdInRefIdeal.main_arg3)
      ∧ r.2.mem ((c.tc : Thread Cert.SsdInRefIdeal.nD Cert.SsdInRefIdeal.τ).loc Cert.SsdInRefIdeal.main_arg4) = m ((c.tc : Thread Cert.SsdInRefIdeal.nD Cert.SsdInRefIdeal.τ).loc Cert.SsdInRefIdeal.main_arg4)
      ∧ r.2.mem ((c.tc : Thread Cert.SsdInRefIdeal.nD Cert.SsdInRefIdeal.τ).loc Cert.SsdInRefIdeal.main_arg5) = m ((c.tc : Thread Cert.SsdInRefIdeal.nD Cert.SsdInRefIdeal.τ).loc Cert.SsdInRefIdeal.main_arg5)
      ∧ r.2.mem ((c.tc : Thread Cert.SsdInRefIdeal.nD Cert.SsdInRefIdeal.τ).loc Cert.SsdInRefIdeal.main_arg6) = m ((c.tc : Thread Cert.SsdInRefIdeal.nD Cert.SsdInRefIdeal.τ).loc Cert.SsdInRefIdeal.main_arg6))
      ∧ r.2.sem = fun _ => 0)

def quiescent_CmWin [hCmWin : Cert.CmWin.Facts] : Prop :=
  ∀ (m : (ℓ : Loc Cert.CmWin.nD Cert.CmWin.τ Cert.CmWin.sig) → Buf (Elt Bits) ℓ) (g : Dev Cert.CmWin.nD → PrngReg), Pre_CmWin m →
    θ_run (Cert.CmWin.defs (F := Bits)) (onTc (τ := Cert.CmWin.τ) (Cert.CmWin.main (F := Bits))) ⟨m, fun _ => 0, g⟩ (fun r => (∀ c : Dev Cert.CmWin.nD,
      r.2.mem ((c.tc : Thread Cert.CmWin.nD Cert.CmWin.τ).loc Cert.CmWin.main_arg0) = m ((c.tc : Thread Cert.CmWin.nD Cert.CmWin.τ).loc Cert.CmWin.main_arg0)
      ∧ r.2.mem ((c.tc : Thread Cert.CmWin.nD Cert.CmWin.τ).loc Cert.CmWin.main_arg1) = m ((c.tc : Thread Cert.CmWin.nD Cert.CmWin.τ).loc Cert.CmWin.main_arg1))
      ∧ r.2.sem = fun _ => 0)

def quiescent_CmWinIdeal [hCmWinIdeal : Cert.CmWinIdeal.Facts] : Prop :=
  ∀ (m : (ℓ : Loc Cert.CmWinIdeal.nD Cert.CmWinIdeal.τ Cert.CmWinIdeal.sig) → Buf (Elt Ideal) ℓ) (g : Dev Cert.CmWinIdeal.nD → PrngReg), Pre_CmWinIdeal m →
    θ_run (Cert.CmWinIdeal.defs (F := Ideal)) (onTc (τ := Cert.CmWinIdeal.τ) (Cert.CmWinIdeal.main (F := Ideal))) ⟨m, fun _ => 0, g⟩ (fun r => (∀ c : Dev Cert.CmWinIdeal.nD,
      r.2.mem ((c.tc : Thread Cert.CmWinIdeal.nD Cert.CmWinIdeal.τ).loc Cert.CmWinIdeal.main_arg0) = m ((c.tc : Thread Cert.CmWinIdeal.nD Cert.CmWinIdeal.τ).loc Cert.CmWinIdeal.main_arg0)
      ∧ r.2.mem ((c.tc : Thread Cert.CmWinIdeal.nD Cert.CmWinIdeal.τ).loc Cert.CmWinIdeal.main_arg1) = m ((c.tc : Thread Cert.CmWinIdeal.nD Cert.CmWinIdeal.τ).loc Cert.CmWinIdeal.main_arg1))
      ∧ r.2.sem = fun _ => 0)

def quiescent_CmWinRefIdeal [hCmWinRefIdeal : Cert.CmWinRefIdeal.Facts] : Prop :=
  ∀ (m : (ℓ : Loc Cert.CmWinRefIdeal.nD Cert.CmWinRefIdeal.τ Cert.CmWinRefIdeal.sig) → Buf (Elt Ideal) ℓ) (g : Dev Cert.CmWinRefIdeal.nD → PrngReg), Pre_CmWinRefIdeal m →
    θ_run (Cert.CmWinRefIdeal.defs (F := Ideal)) (onTc (τ := Cert.CmWinRefIdeal.τ) (Cert.CmWinRefIdeal.main (F := Ideal))) ⟨m, fun _ => 0, g⟩ (fun r => (∀ c : Dev Cert.CmWinRefIdeal.nD,
      r.2.mem ((c.tc : Thread Cert.CmWinRefIdeal.nD Cert.CmWinRefIdeal.τ).loc Cert.CmWinRefIdeal.main_arg0) = m ((c.tc : Thread Cert.CmWinRefIdeal.nD Cert.CmWinRefIdeal.τ).loc Cert.CmWinRefIdeal.main_arg0)
      ∧ r.2.mem ((c.tc : Thread Cert.CmWinRefIdeal.nD Cert.CmWinRefIdeal.τ).loc Cert.CmWinRefIdeal.main_arg1) = m ((c.tc : Thread Cert.CmWinRefIdeal.nD Cert.CmWinRefIdeal.τ).loc Cert.CmWinRefIdeal.main_arg1))
      ∧ r.2.sem = fun _ => 0)

def quiescent_SsdWinZ [hSsdWinZ : Cert.SsdWinZ.Facts] : Prop :=
  ∀ (m : (ℓ : Loc Cert.SsdWinZ.nD Cert.SsdWinZ.τ Cert.SsdWinZ.sig) → Buf (Elt Bits) ℓ) (g : Dev Cert.SsdWinZ.nD → PrngReg), Pre_SsdWinZ m →
    θ_run (Cert.SsdWinZ.defs (F := Bits)) (onTc (τ := Cert.SsdWinZ.τ) (Cert.SsdWinZ.main (F := Bits))) ⟨m, fun _ => 0, g⟩ (fun r => (∀ c : Dev Cert.SsdWinZ.nD,
      r.2.mem ((c.tc : Thread Cert.SsdWinZ.nD Cert.SsdWinZ.τ).loc Cert.SsdWinZ.main_arg0) = m ((c.tc : Thread Cert.SsdWinZ.nD Cert.SsdWinZ.τ).loc Cert.SsdWinZ.main_arg0)
      ∧ r.2.mem ((c.tc : Thread Cert.SsdWinZ.nD Cert.SsdWinZ.τ).loc Cert.SsdWinZ.main_arg1) = m ((c.tc : Thread Cert.SsdWinZ.nD Cert.SsdWinZ.τ).loc Cert.SsdWinZ.main_arg1))
      ∧ r.2.sem = fun _ => 0)

def quiescent_SsdWinZIdeal [hSsdWinZIdeal : Cert.SsdWinZIdeal.Facts] : Prop :=
  ∀ (m : (ℓ : Loc Cert.SsdWinZIdeal.nD Cert.SsdWinZIdeal.τ Cert.SsdWinZIdeal.sig) → Buf (Elt Ideal) ℓ) (g : Dev Cert.SsdWinZIdeal.nD → PrngReg), Pre_SsdWinZIdeal m →
    θ_run (Cert.SsdWinZIdeal.defs (F := Ideal)) (onTc (τ := Cert.SsdWinZIdeal.τ) (Cert.SsdWinZIdeal.main (F := Ideal))) ⟨m, fun _ => 0, g⟩ (fun r => (∀ c : Dev Cert.SsdWinZIdeal.nD,
      r.2.mem ((c.tc : Thread Cert.SsdWinZIdeal.nD Cert.SsdWinZIdeal.τ).loc Cert.SsdWinZIdeal.main_arg0) = m ((c.tc : Thread Cert.SsdWinZIdeal.nD Cert.SsdWinZIdeal.τ).loc Cert.SsdWinZIdeal.main_arg0)
      ∧ r.2.mem ((c.tc : Thread Cert.SsdWinZIdeal.nD Cert.SsdWinZIdeal.τ).loc Cert.SsdWinZIdeal.main_arg1) = m ((c.tc : Thread Cert.SsdWinZIdeal.nD Cert.SsdWinZIdeal.τ).loc Cert.SsdWinZIdeal.main_arg1))
      ∧ r.2.sem = fun _ => 0)

def quiescent_SsdWinZRefIdeal [hSsdWinZRefIdeal : Cert.SsdWinZRefIdeal.Facts] : Prop :=
  ∀ (m : (ℓ : Loc Cert.SsdWinZRefIdeal.nD Cert.SsdWinZRefIdeal.τ Cert.SsdWinZRefIdeal.sig) → Buf (Elt Ideal) ℓ) (g : Dev Cert.SsdWinZRefIdeal.nD → PrngReg), Pre_SsdWinZRefIdeal m →
    θ_run (Cert.SsdWinZRefIdeal.defs (F := Ideal)) (onTc (τ := Cert.SsdWinZRefIdeal.τ) (Cert.SsdWinZRefIdeal.main (F := Ideal))) ⟨m, fun _ => 0, g⟩ (fun r => (∀ c : Dev Cert.SsdWinZRefIdeal.nD,
      r.2.mem ((c.tc : Thread Cert.SsdWinZRefIdeal.nD Cert.SsdWinZRefIdeal.τ).loc Cert.SsdWinZRefIdeal.main_arg0) = m ((c.tc : Thread Cert.SsdWinZRefIdeal.nD Cert.SsdWinZRefIdeal.τ).loc Cert.SsdWinZRefIdeal.main_arg0)
      ∧ r.2.mem ((c.tc : Thread Cert.SsdWinZRefIdeal.nD Cert.SsdWinZRefIdeal.τ).loc Cert.SsdWinZRefIdeal.main_arg1) = m ((c.tc : Thread Cert.SsdWinZRefIdeal.nD Cert.SsdWinZRefIdeal.τ).loc Cert.SsdWinZRefIdeal.main_arg1))
      ∧ r.2.sem = fun _ => 0)

def quiescent_SsdWinX [hSsdWinX : Cert.SsdWinX.Facts] : Prop :=
  ∀ (m : (ℓ : Loc Cert.SsdWinX.nD Cert.SsdWinX.τ Cert.SsdWinX.sig) → Buf (Elt Bits) ℓ) (g : Dev Cert.SsdWinX.nD → PrngReg), Pre_SsdWinX m →
    θ_run (Cert.SsdWinX.defs (F := Bits)) (onTc (τ := Cert.SsdWinX.τ) (Cert.SsdWinX.main (F := Bits))) ⟨m, fun _ => 0, g⟩ (fun r => (∀ c : Dev Cert.SsdWinX.nD,
      r.2.mem ((c.tc : Thread Cert.SsdWinX.nD Cert.SsdWinX.τ).loc Cert.SsdWinX.main_arg0) = m ((c.tc : Thread Cert.SsdWinX.nD Cert.SsdWinX.τ).loc Cert.SsdWinX.main_arg0)
      ∧ r.2.mem ((c.tc : Thread Cert.SsdWinX.nD Cert.SsdWinX.τ).loc Cert.SsdWinX.main_arg1) = m ((c.tc : Thread Cert.SsdWinX.nD Cert.SsdWinX.τ).loc Cert.SsdWinX.main_arg1))
      ∧ r.2.sem = fun _ => 0)

def quiescent_SsdWinXIdeal [hSsdWinXIdeal : Cert.SsdWinXIdeal.Facts] : Prop :=
  ∀ (m : (ℓ : Loc Cert.SsdWinXIdeal.nD Cert.SsdWinXIdeal.τ Cert.SsdWinXIdeal.sig) → Buf (Elt Ideal) ℓ) (g : Dev Cert.SsdWinXIdeal.nD → PrngReg), Pre_SsdWinXIdeal m →
    θ_run (Cert.SsdWinXIdeal.defs (F := Ideal)) (onTc (τ := Cert.SsdWinXIdeal.τ) (Cert.SsdWinXIdeal.main (F := Ideal))) ⟨m, fun _ => 0, g⟩ (fun r => (∀ c : Dev Cert.SsdWinXIdeal.nD,
      r.2.mem ((c.tc : Thread Cert.SsdWinXIdeal.nD Cert.SsdWinXIdeal.τ).loc Cert.SsdWinXIdeal.main_arg0) = m ((c.tc : Thread Cert.SsdWinXIdeal.nD Cert.SsdWinXIdeal.τ).loc Cert.SsdWinXIdeal.main_arg0)
      ∧ r.2.mem ((c.tc : Thread Cert.SsdWinXIdeal.nD Cert.SsdWinXIdeal.τ).loc Cert.SsdWinXIdeal.main_arg1) = m ((c.tc : Thread Cert.SsdWinXIdeal.nD Cert.SsdWinXIdeal.τ).loc Cert.SsdWinXIdeal.main_arg1))
      ∧ r.2.sem = fun _ => 0)

def quiescent_SsdWinXRefIdeal [hSsdWinXRefIdeal : Cert.SsdWinXRefIdeal.Facts] : Prop :=
  ∀ (m : (ℓ : Loc Cert.SsdWinXRefIdeal.nD Cert.SsdWinXRefIdeal.τ Cert.SsdWinXRefIdeal.sig) → Buf (Elt Ideal) ℓ) (g : Dev Cert.SsdWinXRefIdeal.nD → PrngReg), Pre_SsdWinXRefIdeal m →
    θ_run (Cert.SsdWinXRefIdeal.defs (F := Ideal)) (onTc (τ := Cert.SsdWinXRefIdeal.τ) (Cert.SsdWinXRefIdeal.main (F := Ideal))) ⟨m, fun _ => 0, g⟩ (fun r => (∀ c : Dev Cert.SsdWinXRefIdeal.nD,
      r.2.mem ((c.tc : Thread Cert.SsdWinXRefIdeal.nD Cert.SsdWinXRefIdeal.τ).loc Cert.SsdWinXRefIdeal.main_arg0) = m ((c.tc : Thread Cert.SsdWinXRefIdeal.nD Cert.SsdWinXRefIdeal.τ).loc Cert.SsdWinXRefIdeal.main_arg0)
      ∧ r.2.mem ((c.tc : Thread Cert.SsdWinXRefIdeal.nD Cert.SsdWinXRefIdeal.τ).loc Cert.SsdWinXRefIdeal.main_arg1) = m ((c.tc : Thread Cert.SsdWinXRefIdeal.nD Cert.SsdWinXRefIdeal.τ).loc Cert.SsdWinXRefIdeal.main_arg1))
      ∧ r.2.sem = fun _ => 0)

def quiescent_SsdWinT [hSsdWinT : Cert.SsdWinT.Facts] : Prop :=
  ∀ (m : (ℓ : Loc Cert.SsdWinT.nD Cert.SsdWinT.τ Cert.SsdWinT.sig) → Buf (Elt Bits) ℓ) (g : Dev Cert.SsdWinT.nD → PrngReg), Pre_SsdWinT m →
    θ_run (Cert.SsdWinT.defs (F := Bits)) (onTc (τ := Cert.SsdWinT.τ) (Cert.SsdWinT.main (F := Bits))) ⟨m, fun _ => 0, g⟩ (fun r => (∀ c : Dev Cert.SsdWinT.nD,
      r.2.mem ((c.tc : Thread Cert.SsdWinT.nD Cert.SsdWinT.τ).loc Cert.SsdWinT.main_arg0) = m ((c.tc : Thread Cert.SsdWinT.nD Cert.SsdWinT.τ).loc Cert.SsdWinT.main_arg0)
      ∧ r.2.mem ((c.tc : Thread Cert.SsdWinT.nD Cert.SsdWinT.τ).loc Cert.SsdWinT.main_arg1) = m ((c.tc : Thread Cert.SsdWinT.nD Cert.SsdWinT.τ).loc Cert.SsdWinT.main_arg1))
      ∧ r.2.sem = fun _ => 0)

def quiescent_SsdWinTIdeal [hSsdWinTIdeal : Cert.SsdWinTIdeal.Facts] : Prop :=
  ∀ (m : (ℓ : Loc Cert.SsdWinTIdeal.nD Cert.SsdWinTIdeal.τ Cert.SsdWinTIdeal.sig) → Buf (Elt Ideal) ℓ) (g : Dev Cert.SsdWinTIdeal.nD → PrngReg), Pre_SsdWinTIdeal m →
    θ_run (Cert.SsdWinTIdeal.defs (F := Ideal)) (onTc (τ := Cert.SsdWinTIdeal.τ) (Cert.SsdWinTIdeal.main (F := Ideal))) ⟨m, fun _ => 0, g⟩ (fun r => (∀ c : Dev Cert.SsdWinTIdeal.nD,
      r.2.mem ((c.tc : Thread Cert.SsdWinTIdeal.nD Cert.SsdWinTIdeal.τ).loc Cert.SsdWinTIdeal.main_arg0) = m ((c.tc : Thread Cert.SsdWinTIdeal.nD Cert.SsdWinTIdeal.τ).loc Cert.SsdWinTIdeal.main_arg0)
      ∧ r.2.mem ((c.tc : Thread Cert.SsdWinTIdeal.nD Cert.SsdWinTIdeal.τ).loc Cert.SsdWinTIdeal.main_arg1) = m ((c.tc : Thread Cert.SsdWinTIdeal.nD Cert.SsdWinTIdeal.τ).loc Cert.SsdWinTIdeal.main_arg1))
      ∧ r.2.sem = fun _ => 0)

def quiescent_SsdWinTRefIdeal [hSsdWinTRefIdeal : Cert.SsdWinTRefIdeal.Facts] : Prop :=
  ∀ (m : (ℓ : Loc Cert.SsdWinTRefIdeal.nD Cert.SsdWinTRefIdeal.τ Cert.SsdWinTRefIdeal.sig) → Buf (Elt Ideal) ℓ) (g : Dev Cert.SsdWinTRefIdeal.nD → PrngReg), Pre_SsdWinTRefIdeal m →
    θ_run (Cert.SsdWinTRefIdeal.defs (F := Ideal)) (onTc (τ := Cert.SsdWinTRefIdeal.τ) (Cert.SsdWinTRefIdeal.main (F := Ideal))) ⟨m, fun _ => 0, g⟩ (fun r => (∀ c : Dev Cert.SsdWinTRefIdeal.nD,
      r.2.mem ((c.tc : Thread Cert.SsdWinTRefIdeal.nD Cert.SsdWinTRefIdeal.τ).loc Cert.SsdWinTRefIdeal.main_arg0) = m ((c.tc : Thread Cert.SsdWinTRefIdeal.nD Cert.SsdWinTRefIdeal.τ).loc Cert.SsdWinTRefIdeal.main_arg0)
      ∧ r.2.mem ((c.tc : Thread Cert.SsdWinTRefIdeal.nD Cert.SsdWinTRefIdeal.τ).loc Cert.SsdWinTRefIdeal.main_arg1) = m ((c.tc : Thread Cert.SsdWinTRefIdeal.nD Cert.SsdWinTRefIdeal.τ).loc Cert.SsdWinTRefIdeal.main_arg1))
      ∧ r.2.sem = fun _ => 0)

def quiescent_CmInF [hCmInF : Cert.CmInF.Facts] : Prop :=
  ∀ (m : (ℓ : Loc Cert.CmInF.nD Cert.CmInF.τ Cert.CmInF.sig) → Buf (Elt Bits) ℓ) (g : Dev Cert.CmInF.nD → PrngReg), Pre_CmInF m →
    θ_run (Cert.CmInF.defs (F := Bits)) (onTc (τ := Cert.CmInF.τ) (Cert.CmInF.main (F := Bits))) ⟨m, fun _ => 0, g⟩ (fun r => (∀ c : Dev Cert.CmInF.nD,
      r.2.mem ((c.tc : Thread Cert.CmInF.nD Cert.CmInF.τ).loc Cert.CmInF.main_arg0) = m ((c.tc : Thread Cert.CmInF.nD Cert.CmInF.τ).loc Cert.CmInF.main_arg0)
      ∧ r.2.mem ((c.tc : Thread Cert.CmInF.nD Cert.CmInF.τ).loc Cert.CmInF.main_arg1) = m ((c.tc : Thread Cert.CmInF.nD Cert.CmInF.τ).loc Cert.CmInF.main_arg1)
      ∧ r.2.mem ((c.tc : Thread Cert.CmInF.nD Cert.CmInF.τ).loc Cert.CmInF.main_arg2) = m ((c.tc : Thread Cert.CmInF.nD Cert.CmInF.τ).loc Cert.CmInF.main_arg2))
      ∧ r.2.sem = fun _ => 0)

def quiescent_CmInFIdeal [hCmInFIdeal : Cert.CmInFIdeal.Facts] : Prop :=
  ∀ (m : (ℓ : Loc Cert.CmInFIdeal.nD Cert.CmInFIdeal.τ Cert.CmInFIdeal.sig) → Buf (Elt Ideal) ℓ) (g : Dev Cert.CmInFIdeal.nD → PrngReg), Pre_CmInFIdeal m →
    θ_run (Cert.CmInFIdeal.defs (F := Ideal)) (onTc (τ := Cert.CmInFIdeal.τ) (Cert.CmInFIdeal.main (F := Ideal))) ⟨m, fun _ => 0, g⟩ (fun r => (∀ c : Dev Cert.CmInFIdeal.nD,
      r.2.mem ((c.tc : Thread Cert.CmInFIdeal.nD Cert.CmInFIdeal.τ).loc Cert.CmInFIdeal.main_arg0) = m ((c.tc : Thread Cert.CmInFIdeal.nD Cert.CmInFIdeal.τ).loc Cert.CmInFIdeal.main_arg0)
      ∧ r.2.mem ((c.tc : Thread Cert.CmInFIdeal.nD Cert.CmInFIdeal.τ).loc Cert.CmInFIdeal.main_arg1) = m ((c.tc : Thread Cert.CmInFIdeal.nD Cert.CmInFIdeal.τ).loc Cert.CmInFIdeal.main_arg1)
      ∧ r.2.mem ((c.tc : Thread Cert.CmInFIdeal.nD Cert.CmInFIdeal.τ).loc Cert.CmInFIdeal.main_arg2) = m ((c.tc : Thread Cert.CmInFIdeal.nD Cert.CmInFIdeal.τ).loc Cert.CmInFIdeal.main_arg2))
      ∧ r.2.sem = fun _ => 0)

def quiescent_CmInFRefIdeal [hCmInFRefIdeal : Cert.CmInFRefIdeal.Facts] : Prop :=
  ∀ (m : (ℓ : Loc Cert.CmInFRefIdeal.nD Cert.CmInFRefIdeal.τ Cert.CmInFRefIdeal.sig) → Buf (Elt Ideal) ℓ) (g : Dev Cert.CmInFRefIdeal.nD → PrngReg), Pre_CmInFRefIdeal m →
    θ_run (Cert.CmInFRefIdeal.defs (F := Ideal)) (onTc (τ := Cert.CmInFRefIdeal.τ) (Cert.CmInFRefIdeal.main (F := Ideal))) ⟨m, fun _ => 0, g⟩ (fun r => (∀ c : Dev Cert.CmInFRefIdeal.nD,
      r.2.mem ((c.tc : Thread Cert.CmInFRefIdeal.nD Cert.CmInFRefIdeal.τ).loc Cert.CmInFRefIdeal.main_arg0) = m ((c.tc : Thread Cert.CmInFRefIdeal.nD Cert.CmInFRefIdeal.τ).loc Cert.CmInFRefIdeal.main_arg0)
      ∧ r.2.mem ((c.tc : Thread Cert.CmInFRefIdeal.nD Cert.CmInFRefIdeal.τ).loc Cert.CmInFRefIdeal.main_arg1) = m ((c.tc : Thread Cert.CmInFRefIdeal.nD Cert.CmInFRefIdeal.τ).loc Cert.CmInFRefIdeal.main_arg1)
      ∧ r.2.mem ((c.tc : Thread Cert.CmInFRefIdeal.nD Cert.CmInFRefIdeal.τ).loc Cert.CmInFRefIdeal.main_arg2) = m ((c.tc : Thread Cert.CmInFRefIdeal.nD Cert.CmInFRefIdeal.τ).loc Cert.CmInFRefIdeal.main_arg2))
      ∧ r.2.sem = fun _ => 0)

def quiescent_SsdInF [hSsdInF : Cert.SsdInF.Facts] : Prop :=
  ∀ (m : (ℓ : Loc Cert.SsdInF.nD Cert.SsdInF.τ Cert.SsdInF.sig) → Buf (Elt Bits) ℓ) (g : Dev Cert.SsdInF.nD → PrngReg), Pre_SsdInF m →
    θ_run (Cert.SsdInF.defs (F := Bits)) (onTc (τ := Cert.SsdInF.τ) (Cert.SsdInF.main (F := Bits))) ⟨m, fun _ => 0, g⟩ (fun r => (∀ c : Dev Cert.SsdInF.nD,
      r.2.mem ((c.tc : Thread Cert.SsdInF.nD Cert.SsdInF.τ).loc Cert.SsdInF.main_arg0) = m ((c.tc : Thread Cert.SsdInF.nD Cert.SsdInF.τ).loc Cert.SsdInF.main_arg0)
      ∧ r.2.mem ((c.tc : Thread Cert.SsdInF.nD Cert.SsdInF.τ).loc Cert.SsdInF.main_arg1) = m ((c.tc : Thread Cert.SsdInF.nD Cert.SsdInF.τ).loc Cert.SsdInF.main_arg1)
      ∧ r.2.mem ((c.tc : Thread Cert.SsdInF.nD Cert.SsdInF.τ).loc Cert.SsdInF.main_arg2) = m ((c.tc : Thread Cert.SsdInF.nD Cert.SsdInF.τ).loc Cert.SsdInF.main_arg2))
      ∧ r.2.sem = fun _ => 0)

def quiescent_SsdInFIdeal [hSsdInFIdeal : Cert.SsdInFIdeal.Facts] : Prop :=
  ∀ (m : (ℓ : Loc Cert.SsdInFIdeal.nD Cert.SsdInFIdeal.τ Cert.SsdInFIdeal.sig) → Buf (Elt Ideal) ℓ) (g : Dev Cert.SsdInFIdeal.nD → PrngReg), Pre_SsdInFIdeal m →
    θ_run (Cert.SsdInFIdeal.defs (F := Ideal)) (onTc (τ := Cert.SsdInFIdeal.τ) (Cert.SsdInFIdeal.main (F := Ideal))) ⟨m, fun _ => 0, g⟩ (fun r => (∀ c : Dev Cert.SsdInFIdeal.nD,
      r.2.mem ((c.tc : Thread Cert.SsdInFIdeal.nD Cert.SsdInFIdeal.τ).loc Cert.SsdInFIdeal.main_arg0) = m ((c.tc : Thread Cert.SsdInFIdeal.nD Cert.SsdInFIdeal.τ).loc Cert.SsdInFIdeal.main_arg0)
      ∧ r.2.mem ((c.tc : Thread Cert.SsdInFIdeal.nD Cert.SsdInFIdeal.τ).loc Cert.SsdInFIdeal.main_arg1) = m ((c.tc : Thread Cert.SsdInFIdeal.nD Cert.SsdInFIdeal.τ).loc Cert.SsdInFIdeal.main_arg1)
      ∧ r.2.mem ((c.tc : Thread Cert.SsdInFIdeal.nD Cert.SsdInFIdeal.τ).loc Cert.SsdInFIdeal.main_arg2) = m ((c.tc : Thread Cert.SsdInFIdeal.nD Cert.SsdInFIdeal.τ).loc Cert.SsdInFIdeal.main_arg2))
      ∧ r.2.sem = fun _ => 0)

def quiescent_SsdInFRefIdeal [hSsdInFRefIdeal : Cert.SsdInFRefIdeal.Facts] : Prop :=
  ∀ (m : (ℓ : Loc Cert.SsdInFRefIdeal.nD Cert.SsdInFRefIdeal.τ Cert.SsdInFRefIdeal.sig) → Buf (Elt Ideal) ℓ) (g : Dev Cert.SsdInFRefIdeal.nD → PrngReg), Pre_SsdInFRefIdeal m →
    θ_run (Cert.SsdInFRefIdeal.defs (F := Ideal)) (onTc (τ := Cert.SsdInFRefIdeal.τ) (Cert.SsdInFRefIdeal.main (F := Ideal))) ⟨m, fun _ => 0, g⟩ (fun r => (∀ c : Dev Cert.SsdInFRefIdeal.nD,
      r.2.mem ((c.tc : Thread Cert.SsdInFRefIdeal.nD Cert.SsdInFRefIdeal.τ).loc Cert.SsdInFRefIdeal.main_arg0) = m ((c.tc : Thread Cert.SsdInFRefIdeal.nD Cert.SsdInFRefIdeal.τ).loc Cert.SsdInFRefIdeal.main_arg0)
      ∧ r.2.mem ((c.tc : Thread Cert.SsdInFRefIdeal.nD Cert.SsdInFRefIdeal.τ).loc Cert.SsdInFRefIdeal.main_arg1) = m ((c.tc : Thread Cert.SsdInFRefIdeal.nD Cert.SsdInFRefIdeal.τ).loc Cert.SsdInFRefIdeal.main_arg1)
      ∧ r.2.mem ((c.tc : Thread Cert.SsdInFRefIdeal.nD Cert.SsdInFRefIdeal.τ).loc Cert.SsdInFRefIdeal.main_arg2) = m ((c.tc : Thread Cert.SsdInFRefIdeal.nD Cert.SsdInFRefIdeal.τ).loc Cert.SsdInFRefIdeal.main_arg2))
      ∧ r.2.sem = fun _ => 0)

def quiescent_ConfOutF [hConfOutF : Cert.ConfOutF.Facts] : Prop :=
  ∀ (m : (ℓ : Loc Cert.ConfOutF.nD Cert.ConfOutF.τ Cert.ConfOutF.sig) → Buf (Elt Bits) ℓ) (g : Dev Cert.ConfOutF.nD → PrngReg), Pre_ConfOutF m →
    θ_run (Cert.ConfOutF.defs (F := Bits)) (onTc (τ := Cert.ConfOutF.τ) (Cert.ConfOutF.main (F := Bits))) ⟨m, fun _ => 0, g⟩ (fun r => (∀ c : Dev Cert.ConfOutF.nD,
      r.2.mem ((c.tc : Thread Cert.ConfOutF.nD Cert.ConfOutF.τ).loc Cert.ConfOutF.main_arg0) = m ((c.tc : Thread Cert.ConfOutF.nD Cert.ConfOutF.τ).loc Cert.ConfOutF.main_arg0)
      ∧ r.2.mem ((c.tc : Thread Cert.ConfOutF.nD Cert.ConfOutF.τ).loc Cert.ConfOutF.main_arg1) = m ((c.tc : Thread Cert.ConfOutF.nD Cert.ConfOutF.τ).loc Cert.ConfOutF.main_arg1)
      ∧ r.2.mem ((c.tc : Thread Cert.ConfOutF.nD Cert.ConfOutF.τ).loc Cert.ConfOutF.main_arg2) = m ((c.tc : Thread Cert.ConfOutF.nD Cert.ConfOutF.τ).loc Cert.ConfOutF.main_arg2)
      ∧ r.2.mem ((c.tc : Thread Cert.ConfOutF.nD Cert.ConfOutF.τ).loc Cert.ConfOutF.main_arg3) = m ((c.tc : Thread Cert.ConfOutF.nD Cert.ConfOutF.τ).loc Cert.ConfOutF.main_arg3)
      ∧ r.2.mem ((c.tc : Thread Cert.ConfOutF.nD Cert.ConfOutF.τ).loc Cert.ConfOutF.main_arg4) = m ((c.tc : Thread Cert.ConfOutF.nD Cert.ConfOutF.τ).loc Cert.ConfOutF.main_arg4)
      ∧ r.2.mem ((c.tc : Thread Cert.ConfOutF.nD Cert.ConfOutF.τ).loc Cert.ConfOutF.main_arg5) = m ((c.tc : Thread Cert.ConfOutF.nD Cert.ConfOutF.τ).loc Cert.ConfOutF.main_arg5))
      ∧ r.2.sem = fun _ => 0)

def quiescent_ConfOutFIdeal [hConfOutFIdeal : Cert.ConfOutFIdeal.Facts] : Prop :=
  ∀ (m : (ℓ : Loc Cert.ConfOutFIdeal.nD Cert.ConfOutFIdeal.τ Cert.ConfOutFIdeal.sig) → Buf (Elt Ideal) ℓ) (g : Dev Cert.ConfOutFIdeal.nD → PrngReg), Pre_ConfOutFIdeal m →
    θ_run (Cert.ConfOutFIdeal.defs (F := Ideal)) (onTc (τ := Cert.ConfOutFIdeal.τ) (Cert.ConfOutFIdeal.main (F := Ideal))) ⟨m, fun _ => 0, g⟩ (fun r => (∀ c : Dev Cert.ConfOutFIdeal.nD,
      r.2.mem ((c.tc : Thread Cert.ConfOutFIdeal.nD Cert.ConfOutFIdeal.τ).loc Cert.ConfOutFIdeal.main_arg0) = m ((c.tc : Thread Cert.ConfOutFIdeal.nD Cert.ConfOutFIdeal.τ).loc Cert.ConfOutFIdeal.main_arg0)
      ∧ r.2.mem ((c.tc : Thread Cert.ConfOutFIdeal.nD Cert.ConfOutFIdeal.τ).loc Cert.ConfOutFIdeal.main_arg1) = m ((c.tc : Thread Cert.ConfOutFIdeal.nD Cert.ConfOutFIdeal.τ).loc Cert.ConfOutFIdeal.main_arg1)
      ∧ r.2.mem ((c.tc : Thread Cert.ConfOutFIdeal.nD Cert.ConfOutFIdeal.τ).loc Cert.ConfOutFIdeal.main_arg2) = m ((c.tc : Thread Cert.ConfOutFIdeal.nD Cert.ConfOutFIdeal.τ).loc Cert.ConfOutFIdeal.main_arg2)
      ∧ r.2.mem ((c.tc : Thread Cert.ConfOutFIdeal.nD Cert.ConfOutFIdeal.τ).loc Cert.ConfOutFIdeal.main_arg3) = m ((c.tc : Thread Cert.ConfOutFIdeal.nD Cert.ConfOutFIdeal.τ).loc Cert.ConfOutFIdeal.main_arg3)
      ∧ r.2.mem ((c.tc : Thread Cert.ConfOutFIdeal.nD Cert.ConfOutFIdeal.τ).loc Cert.ConfOutFIdeal.main_arg4) = m ((c.tc : Thread Cert.ConfOutFIdeal.nD Cert.ConfOutFIdeal.τ).loc Cert.ConfOutFIdeal.main_arg4)
      ∧ r.2.mem ((c.tc : Thread Cert.ConfOutFIdeal.nD Cert.ConfOutFIdeal.τ).loc Cert.ConfOutFIdeal.main_arg5) = m ((c.tc : Thread Cert.ConfOutFIdeal.nD Cert.ConfOutFIdeal.τ).loc Cert.ConfOutFIdeal.main_arg5))
      ∧ r.2.sem = fun _ => 0)

def quiescent_ConfOutFRefIdeal [hConfOutFRefIdeal : Cert.ConfOutFRefIdeal.Facts] : Prop :=
  ∀ (m : (ℓ : Loc Cert.ConfOutFRefIdeal.nD Cert.ConfOutFRefIdeal.τ Cert.ConfOutFRefIdeal.sig) → Buf (Elt Ideal) ℓ) (g : Dev Cert.ConfOutFRefIdeal.nD → PrngReg), Pre_ConfOutFRefIdeal m →
    θ_run (Cert.ConfOutFRefIdeal.defs (F := Ideal)) (onTc (τ := Cert.ConfOutFRefIdeal.τ) (Cert.ConfOutFRefIdeal.main (F := Ideal))) ⟨m, fun _ => 0, g⟩ (fun r => (∀ c : Dev Cert.ConfOutFRefIdeal.nD,
      r.2.mem ((c.tc : Thread Cert.ConfOutFRefIdeal.nD Cert.ConfOutFRefIdeal.τ).loc Cert.ConfOutFRefIdeal.main_arg0) = m ((c.tc : Thread Cert.ConfOutFRefIdeal.nD Cert.ConfOutFRefIdeal.τ).loc Cert.ConfOutFRefIdeal.main_arg0)
      ∧ r.2.mem ((c.tc : Thread Cert.ConfOutFRefIdeal.nD Cert.ConfOutFRefIdeal.τ).loc Cert.ConfOutFRefIdeal.main_arg1) = m ((c.tc : Thread Cert.ConfOutFRefIdeal.nD Cert.ConfOutFRefIdeal.τ).loc Cert.ConfOutFRefIdeal.main_arg1)
      ∧ r.2.mem ((c.tc : Thread Cert.ConfOutFRefIdeal.nD Cert.ConfOutFRefIdeal.τ).loc Cert.ConfOutFRefIdeal.main_arg2) = m ((c.tc : Thread Cert.ConfOutFRefIdeal.nD Cert.ConfOutFRefIdeal.τ).loc Cert.ConfOutFRefIdeal.main_arg2)
      ∧ r.2.mem ((c.tc : Thread Cert.ConfOutFRefIdeal.nD Cert.ConfOutFRefIdeal.τ).loc Cert.ConfOutFRefIdeal.main_arg3) = m ((c.tc : Thread Cert.ConfOutFRefIdeal.nD Cert.ConfOutFRefIdeal.τ).loc Cert.ConfOutFRefIdeal.main_arg3)
      ∧ r.2.mem ((c.tc : Thread Cert.ConfOutFRefIdeal.nD Cert.ConfOutFRefIdeal.τ).loc Cert.ConfOutFRefIdeal.main_arg4) = m ((c.tc : Thread Cert.ConfOutFRefIdeal.nD Cert.ConfOutFRefIdeal.τ).loc Cert.ConfOutFRefIdeal.main_arg4)
      ∧ r.2.mem ((c.tc : Thread Cert.ConfOutFRefIdeal.nD Cert.ConfOutFRefIdeal.τ).loc Cert.ConfOutFRefIdeal.main_arg5) = m ((c.tc : Thread Cert.ConfOutFRefIdeal.nD Cert.ConfOutFRefIdeal.τ).loc Cert.ConfOutFRefIdeal.main_arg5))
      ∧ r.2.sem = fun _ => 0)

def quiescent_SsdOutF [hSsdOutF : Cert.SsdOutF.Facts] : Prop :=
  ∀ (m : (ℓ : Loc Cert.SsdOutF.nD Cert.SsdOutF.τ Cert.SsdOutF.sig) → Buf (Elt Bits) ℓ) (g : Dev Cert.SsdOutF.nD → PrngReg), Pre_SsdOutF m →
    θ_run (Cert.SsdOutF.defs (F := Bits)) (onTc (τ := Cert.SsdOutF.τ) (Cert.SsdOutF.main (F := Bits))) ⟨m, fun _ => 0, g⟩ (fun r => (∀ c : Dev Cert.SsdOutF.nD,
      r.2.mem ((c.tc : Thread Cert.SsdOutF.nD Cert.SsdOutF.τ).loc Cert.SsdOutF.main_arg0) = m ((c.tc : Thread Cert.SsdOutF.nD Cert.SsdOutF.τ).loc Cert.SsdOutF.main_arg0)
      ∧ r.2.mem ((c.tc : Thread Cert.SsdOutF.nD Cert.SsdOutF.τ).loc Cert.SsdOutF.main_arg1) = m ((c.tc : Thread Cert.SsdOutF.nD Cert.SsdOutF.τ).loc Cert.SsdOutF.main_arg1)
      ∧ r.2.mem ((c.tc : Thread Cert.SsdOutF.nD Cert.SsdOutF.τ).loc Cert.SsdOutF.main_arg2) = m ((c.tc : Thread Cert.SsdOutF.nD Cert.SsdOutF.τ).loc Cert.SsdOutF.main_arg2)
      ∧ r.2.mem ((c.tc : Thread Cert.SsdOutF.nD Cert.SsdOutF.τ).loc Cert.SsdOutF.main_arg3) = m ((c.tc : Thread Cert.SsdOutF.nD Cert.SsdOutF.τ).loc Cert.SsdOutF.main_arg3)
      ∧ r.2.mem ((c.tc : Thread Cert.SsdOutF.nD Cert.SsdOutF.τ).loc Cert.SsdOutF.main_arg4) = m ((c.tc : Thread Cert.SsdOutF.nD Cert.SsdOutF.τ).loc Cert.SsdOutF.main_arg4)
      ∧ r.2.mem ((c.tc : Thread Cert.SsdOutF.nD Cert.SsdOutF.τ).loc Cert.SsdOutF.main_arg5) = m ((c.tc : Thread Cert.SsdOutF.nD Cert.SsdOutF.τ).loc Cert.SsdOutF.main_arg5)
      ∧ r.2.mem ((c.tc : Thread Cert.SsdOutF.nD Cert.SsdOutF.τ).loc Cert.SsdOutF.main_arg6) = m ((c.tc : Thread Cert.SsdOutF.nD Cert.SsdOutF.τ).loc Cert.SsdOutF.main_arg6)
      ∧ r.2.mem ((c.tc : Thread Cert.SsdOutF.nD Cert.SsdOutF.τ).loc Cert.SsdOutF.main_arg7) = m ((c.tc : Thread Cert.SsdOutF.nD Cert.SsdOutF.τ).loc Cert.SsdOutF.main_arg7))
      ∧ r.2.sem = fun _ => 0)

def quiescent_SsdOutFIdeal [hSsdOutFIdeal : Cert.SsdOutFIdeal.Facts] : Prop :=
  ∀ (m : (ℓ : Loc Cert.SsdOutFIdeal.nD Cert.SsdOutFIdeal.τ Cert.SsdOutFIdeal.sig) → Buf (Elt Ideal) ℓ) (g : Dev Cert.SsdOutFIdeal.nD → PrngReg), Pre_SsdOutFIdeal m →
    θ_run (Cert.SsdOutFIdeal.defs (F := Ideal)) (onTc (τ := Cert.SsdOutFIdeal.τ) (Cert.SsdOutFIdeal.main (F := Ideal))) ⟨m, fun _ => 0, g⟩ (fun r => (∀ c : Dev Cert.SsdOutFIdeal.nD,
      r.2.mem ((c.tc : Thread Cert.SsdOutFIdeal.nD Cert.SsdOutFIdeal.τ).loc Cert.SsdOutFIdeal.main_arg0) = m ((c.tc : Thread Cert.SsdOutFIdeal.nD Cert.SsdOutFIdeal.τ).loc Cert.SsdOutFIdeal.main_arg0)
      ∧ r.2.mem ((c.tc : Thread Cert.SsdOutFIdeal.nD Cert.SsdOutFIdeal.τ).loc Cert.SsdOutFIdeal.main_arg1) = m ((c.tc : Thread Cert.SsdOutFIdeal.nD Cert.SsdOutFIdeal.τ).loc Cert.SsdOutFIdeal.main_arg1)
      ∧ r.2.mem ((c.tc : Thread Cert.SsdOutFIdeal.nD Cert.SsdOutFIdeal.τ).loc Cert.SsdOutFIdeal.main_arg2) = m ((c.tc : Thread Cert.SsdOutFIdeal.nD Cert.SsdOutFIdeal.τ).loc Cert.SsdOutFIdeal.main_arg2)
      ∧ r.2.mem ((c.tc : Thread Cert.SsdOutFIdeal.nD Cert.SsdOutFIdeal.τ).loc Cert.SsdOutFIdeal.main_arg3) = m ((c.tc : Thread Cert.SsdOutFIdeal.nD Cert.SsdOutFIdeal.τ).loc Cert.SsdOutFIdeal.main_arg3)
      ∧ r.2.mem ((c.tc : Thread Cert.SsdOutFIdeal.nD Cert.SsdOutFIdeal.τ).loc Cert.SsdOutFIdeal.main_arg4) = m ((c.tc : Thread Cert.SsdOutFIdeal.nD Cert.SsdOutFIdeal.τ).loc Cert.SsdOutFIdeal.main_arg4)
      ∧ r.2.mem ((c.tc : Thread Cert.SsdOutFIdeal.nD Cert.SsdOutFIdeal.τ).loc Cert.SsdOutFIdeal.main_arg5) = m ((c.tc : Thread Cert.SsdOutFIdeal.nD Cert.SsdOutFIdeal.τ).loc Cert.SsdOutFIdeal.main_arg5)
      ∧ r.2.mem ((c.tc : Thread Cert.SsdOutFIdeal.nD Cert.SsdOutFIdeal.τ).loc Cert.SsdOutFIdeal.main_arg6) = m ((c.tc : Thread Cert.SsdOutFIdeal.nD Cert.SsdOutFIdeal.τ).loc Cert.SsdOutFIdeal.main_arg6)
      ∧ r.2.mem ((c.tc : Thread Cert.SsdOutFIdeal.nD Cert.SsdOutFIdeal.τ).loc Cert.SsdOutFIdeal.main_arg7) = m ((c.tc : Thread Cert.SsdOutFIdeal.nD Cert.SsdOutFIdeal.τ).loc Cert.SsdOutFIdeal.main_arg7))
      ∧ r.2.sem = fun _ => 0)

def quiescent_SsdOutFRefIdeal [hSsdOutFRefIdeal : Cert.SsdOutFRefIdeal.Facts] : Prop :=
  ∀ (m : (ℓ : Loc Cert.SsdOutFRefIdeal.nD Cert.SsdOutFRefIdeal.τ Cert.SsdOutFRefIdeal.sig) → Buf (Elt Ideal) ℓ) (g : Dev Cert.SsdOutFRefIdeal.nD → PrngReg), Pre_SsdOutFRefIdeal m →
    θ_run (Cert.SsdOutFRefIdeal.defs (F := Ideal)) (onTc (τ := Cert.SsdOutFRefIdeal.τ) (Cert.SsdOutFRefIdeal.main (F := Ideal))) ⟨m, fun _ => 0, g⟩ (fun r => (∀ c : Dev Cert.SsdOutFRefIdeal.nD,
      r.2.mem ((c.tc : Thread Cert.SsdOutFRefIdeal.nD Cert.SsdOutFRefIdeal.τ).loc Cert.SsdOutFRefIdeal.main_arg0) = m ((c.tc : Thread Cert.SsdOutFRefIdeal.nD Cert.SsdOutFRefIdeal.τ).loc Cert.SsdOutFRefIdeal.main_arg0)
      ∧ r.2.mem ((c.tc : Thread Cert.SsdOutFRefIdeal.nD Cert.SsdOutFRefIdeal.τ).loc Cert.SsdOutFRefIdeal.main_arg1) = m ((c.tc : Thread Cert.SsdOutFRefIdeal.nD Cert.SsdOutFRefIdeal.τ).loc Cert.SsdOutFRefIdeal.main_arg1)
      ∧ r.2.mem ((c.tc : Thread Cert.SsdOutFRefIdeal.nD Cert.SsdOutFRefIdeal.τ).loc Cert.SsdOutFRefIdeal.main_arg2) = m ((c.tc : Thread Cert.SsdOutFRefIdeal.nD Cert.SsdOutFRefIdeal.τ).loc Cert.SsdOutFRefIdeal.main_arg2)
      ∧ r.2.mem ((c.tc : Thread Cert.SsdOutFRefIdeal.nD Cert.SsdOutFRefIdeal.τ).loc Cert.SsdOutFRefIdeal.main_arg3) = m ((c.tc : Thread Cert.SsdOutFRefIdeal.nD Cert.SsdOutFRefIdeal.τ).loc Cert.SsdOutFRefIdeal.main_arg3)
      ∧ r.2.mem ((c.tc : Thread Cert.SsdOutFRefIdeal.nD Cert.SsdOutFRefIdeal.τ).loc Cert.SsdOutFRefIdeal.main_arg4) = m ((c.tc : Thread Cert.SsdOutFRefIdeal.nD Cert.SsdOutFRefIdeal.τ).loc Cert.SsdOutFRefIdeal.main_arg4)
      ∧ r.2.mem ((c.tc : Thread Cert.SsdOutFRefIdeal.nD Cert.SsdOutFRefIdeal.τ).loc Cert.SsdOutFRefIdeal.main_arg5) = m ((c.tc : Thread Cert.SsdOutFRefIdeal.nD Cert.SsdOutFRefIdeal.τ).loc Cert.SsdOutFRefIdeal.main_arg5)
      ∧ r.2.mem ((c.tc : Thread Cert.SsdOutFRefIdeal.nD Cert.SsdOutFRefIdeal.τ).loc Cert.SsdOutFRefIdeal.main_arg6) = m ((c.tc : Thread Cert.SsdOutFRefIdeal.nD Cert.SsdOutFRefIdeal.τ).loc Cert.SsdOutFRefIdeal.main_arg6)
      ∧ r.2.mem ((c.tc : Thread Cert.SsdOutFRefIdeal.nD Cert.SsdOutFRefIdeal.τ).loc Cert.SsdOutFRefIdeal.main_arg7) = m ((c.tc : Thread Cert.SsdOutFRefIdeal.nD Cert.SsdOutFRefIdeal.τ).loc Cert.SsdOutFRefIdeal.main_arg7))
      ∧ r.2.sem = fun _ => 0)

def quiescent_SsdConv [hSsdConv : Cert.SsdConv.Facts] : Prop :=
  ∀ (m : (ℓ : Loc Cert.SsdConv.nD Cert.SsdConv.τ Cert.SsdConv.sig) → Buf (Elt Bits) ℓ) (g : Dev Cert.SsdConv.nD → PrngReg), Pre_SsdConv m →
    θ_run (Cert.SsdConv.defs (F := Bits)) (onTc (τ := Cert.SsdConv.τ) (Cert.SsdConv.main (F := Bits))) ⟨m, fun _ => 0, g⟩ (fun r => (∀ c : Dev Cert.SsdConv.nD,
      r.2.mem ((c.tc : Thread Cert.SsdConv.nD Cert.SsdConv.τ).loc Cert.SsdConv.main_arg0) = m ((c.tc : Thread Cert.SsdConv.nD Cert.SsdConv.τ).loc Cert.SsdConv.main_arg0)
      ∧ r.2.mem ((c.tc : Thread Cert.SsdConv.nD Cert.SsdConv.τ).loc Cert.SsdConv.main_arg1) = m ((c.tc : Thread Cert.SsdConv.nD Cert.SsdConv.τ).loc Cert.SsdConv.main_arg1)
      ∧ r.2.mem ((c.tc : Thread Cert.SsdConv.nD Cert.SsdConv.τ).loc Cert.SsdConv.main_arg2) = m ((c.tc : Thread Cert.SsdConv.nD Cert.SsdConv.τ).loc Cert.SsdConv.main_arg2))
      ∧ r.2.sem = fun _ => 0)

def quiescent_SsdConvIdeal [hSsdConvIdeal : Cert.SsdConvIdeal.Facts] : Prop :=
  ∀ (m : (ℓ : Loc Cert.SsdConvIdeal.nD Cert.SsdConvIdeal.τ Cert.SsdConvIdeal.sig) → Buf (Elt Ideal) ℓ) (g : Dev Cert.SsdConvIdeal.nD → PrngReg), Pre_SsdConvIdeal m →
    θ_run (Cert.SsdConvIdeal.defs (F := Ideal)) (onTc (τ := Cert.SsdConvIdeal.τ) (Cert.SsdConvIdeal.main (F := Ideal))) ⟨m, fun _ => 0, g⟩ (fun r => (∀ c : Dev Cert.SsdConvIdeal.nD,
      r.2.mem ((c.tc : Thread Cert.SsdConvIdeal.nD Cert.SsdConvIdeal.τ).loc Cert.SsdConvIdeal.main_arg0) = m ((c.tc : Thread Cert.SsdConvIdeal.nD Cert.SsdConvIdeal.τ).loc Cert.SsdConvIdeal.main_arg0)
      ∧ r.2.mem ((c.tc : Thread Cert.SsdConvIdeal.nD Cert.SsdConvIdeal.τ).loc Cert.SsdConvIdeal.main_arg1) = m ((c.tc : Thread Cert.SsdConvIdeal.nD Cert.SsdConvIdeal.τ).loc Cert.SsdConvIdeal.main_arg1)
      ∧ r.2.mem ((c.tc : Thread Cert.SsdConvIdeal.nD Cert.SsdConvIdeal.τ).loc Cert.SsdConvIdeal.main_arg2) = m ((c.tc : Thread Cert.SsdConvIdeal.nD Cert.SsdConvIdeal.τ).loc Cert.SsdConvIdeal.main_arg2))
      ∧ r.2.sem = fun _ => 0)

def quiescent_SsdConvRefIdeal [hSsdConvRefIdeal : Cert.SsdConvRefIdeal.Facts] : Prop :=
  ∀ (m : (ℓ : Loc Cert.SsdConvRefIdeal.nD Cert.SsdConvRefIdeal.τ Cert.SsdConvRefIdeal.sig) → Buf (Elt Ideal) ℓ) (g : Dev Cert.SsdConvRefIdeal.nD → PrngReg), Pre_SsdConvRefIdeal m →
    θ_run (Cert.SsdConvRefIdeal.defs (F := Ideal)) (onTc (τ := Cert.SsdConvRefIdeal.τ) (Cert.SsdConvRefIdeal.main (F := Ideal))) ⟨m, fun _ => 0, g⟩ (fun r => (∀ c : Dev Cert.SsdConvRefIdeal.nD,
      r.2.mem ((c.tc : Thread Cert.SsdConvRefIdeal.nD Cert.SsdConvRefIdeal.τ).loc Cert.SsdConvRefIdeal.main_arg0) = m ((c.tc : Thread Cert.SsdConvRefIdeal.nD Cert.SsdConvRefIdeal.τ).loc Cert.SsdConvRefIdeal.main_arg0)
      ∧ r.2.mem ((c.tc : Thread Cert.SsdConvRefIdeal.nD Cert.SsdConvRefIdeal.τ).loc Cert.SsdConvRefIdeal.main_arg1) = m ((c.tc : Thread Cert.SsdConvRefIdeal.nD Cert.SsdConvRefIdeal.τ).loc Cert.SsdConvRefIdeal.main_arg1)
      ∧ r.2.mem ((c.tc : Thread Cert.SsdConvRefIdeal.nD Cert.SsdConvRefIdeal.τ).loc Cert.SsdConvRefIdeal.main_arg2) = m ((c.tc : Thread Cert.SsdConvRefIdeal.nD Cert.SsdConvRefIdeal.τ).loc Cert.SsdConvRefIdeal.main_arg2))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamSsd [hAdamSsd : Cert.AdamSsd.Facts] : Prop :=
  ∀ (m : (ℓ : Loc Cert.AdamSsd.nD Cert.AdamSsd.τ Cert.AdamSsd.sig) → Buf (Elt Bits) ℓ) (g : Dev Cert.AdamSsd.nD → PrngReg), Pre_AdamSsd m →
    θ_run (Cert.AdamSsd.defs (F := Bits)) (onTc (τ := Cert.AdamSsd.τ) (Cert.AdamSsd.main (F := Bits))) ⟨m, fun _ => 0, g⟩ (fun r => (∀ c : Dev Cert.AdamSsd.nD,
      r.2.mem ((c.tc : Thread Cert.AdamSsd.nD Cert.AdamSsd.τ).loc Cert.AdamSsd.main_arg0) = m ((c.tc : Thread Cert.AdamSsd.nD Cert.AdamSsd.τ).loc Cert.AdamSsd.main_arg0)
      ∧ r.2.mem ((c.tc : Thread Cert.AdamSsd.nD Cert.AdamSsd.τ).loc Cert.AdamSsd.main_arg1) = m ((c.tc : Thread Cert.AdamSsd.nD Cert.AdamSsd.τ).loc Cert.AdamSsd.main_arg1)
      ∧ r.2.mem ((c.tc : Thread Cert.AdamSsd.nD Cert.AdamSsd.τ).loc Cert.AdamSsd.main_arg2) = m ((c.tc : Thread Cert.AdamSsd.nD Cert.AdamSsd.τ).loc Cert.AdamSsd.main_arg2)
      ∧ r.2.mem ((c.tc : Thread Cert.AdamSsd.nD Cert.AdamSsd.τ).loc Cert.AdamSsd.main_arg3) = m ((c.tc : Thread Cert.AdamSsd.nD Cert.AdamSsd.τ).loc Cert.AdamSsd.main_arg3))
      ∧ r.2.sem = fun _ => 0)

def quiescent_AdamSsdIdeal [hAdamSsdIdeal : Cert.AdamSsdIdeal.Facts] : Prop :=
  ∀ (m : (ℓ : Loc Cert.AdamSsdIdeal.nD Cert.AdamSsdIdeal.τ Cert.AdamSsdIdeal.sig) → Buf (Elt Ideal) ℓ) (g : Dev Cert.AdamSsdIdeal.nD → PrngReg), Pre_AdamSsdIdeal m →
    θ_run (Cert.AdamSsdIdeal.defs (F := Ideal)) (onTc (τ := Cert.AdamSsdIdeal.τ) (Cert.AdamSsdIdeal.main (F := Ideal))) ⟨m, fun _ => 0, g⟩ (fun r => (∀ c : Dev Cert.AdamSsdIdeal.nD,
      r.2.mem ((c.tc : Thread Cert.AdamSsdIdeal.nD Cert.AdamSsdIdeal.τ).loc Cert.AdamSsdIdeal.main_arg0) = m ((c.tc : Thread Cert.AdamSsdIdeal.nD Cert.AdamSsdIdeal.τ).loc Cert.AdamSsdIdeal.main_arg0)
      ∧ r.2.mem ((c.tc : Thread Cert.AdamSsdIdeal.nD Cert.AdamSsdIdeal.τ).loc Cert.AdamSsdIdeal.main_arg1) = m ((c.tc : Thread Cert.AdamSsdIdeal.nD Cert.AdamSsdIdeal.τ).loc Cert.AdamSsdIdeal.main_arg1)
      ∧ r.2.mem ((c.tc : Thread Cert.AdamSsdIdeal.nD Cert.AdamSsdIdeal.τ).loc Cert.AdamSsdIdeal.main_arg2) = m ((c.tc : Thread Cert.AdamSsdIdeal.nD Cert.AdamSsdIdeal.τ).loc Cert.AdamSsdIdeal.main_arg2)
      ∧ r.2.mem ((c.tc : Thread Cert.AdamSsdIdeal.nD Cert.AdamSsdIdeal.τ).loc Cert.AdamSsdIdeal.main_arg3) = m ((c.tc : Thread Cert.AdamSsdIdeal.nD Cert.AdamSsdIdeal.τ).loc Cert.AdamSsdIdeal.main_arg3))
      ∧ r.2.sem = fun _ => 0)

def quiescent_AdamSsdRefIdeal [hAdamSsdRefIdeal : Cert.AdamSsdRefIdeal.Facts] : Prop :=
  ∀ (m : (ℓ : Loc Cert.AdamSsdRefIdeal.nD Cert.AdamSsdRefIdeal.τ Cert.AdamSsdRefIdeal.sig) → Buf (Elt Ideal) ℓ) (g : Dev Cert.AdamSsdRefIdeal.nD → PrngReg), Pre_AdamSsdRefIdeal m →
    θ_run (Cert.AdamSsdRefIdeal.defs (F := Ideal)) (onTc (τ := Cert.AdamSsdRefIdeal.τ) (Cert.AdamSsdRefIdeal.main (F := Ideal))) ⟨m, fun _ => 0, g⟩ (fun r => (∀ c : Dev Cert.AdamSsdRefIdeal.nD,
      r.2.mem ((c.tc : Thread Cert.AdamSsdRefIdeal.nD Cert.AdamSsdRefIdeal.τ).loc Cert.AdamSsdRefIdeal.main_arg0) = m ((c.tc : Thread Cert.AdamSsdRefIdeal.nD Cert.AdamSsdRefIdeal.τ).loc Cert.AdamSsdRefIdeal.main_arg0)
      ∧ r.2.mem ((c.tc : Thread Cert.AdamSsdRefIdeal.nD Cert.AdamSsdRefIdeal.τ).loc Cert.AdamSsdRefIdeal.main_arg1) = m ((c.tc : Thread Cert.AdamSsdRefIdeal.nD Cert.AdamSsdRefIdeal.τ).loc Cert.AdamSsdRefIdeal.main_arg1)
      ∧ r.2.mem ((c.tc : Thread Cert.AdamSsdRefIdeal.nD Cert.AdamSsdRefIdeal.τ).loc Cert.AdamSsdRefIdeal.main_arg2) = m ((c.tc : Thread Cert.AdamSsdRefIdeal.nD Cert.AdamSsdRefIdeal.τ).loc Cert.AdamSsdRefIdeal.main_arg2)
      ∧ r.2.mem ((c.tc : Thread Cert.AdamSsdRefIdeal.nD Cert.AdamSsdRefIdeal.τ).loc Cert.AdamSsdRefIdeal.main_arg3) = m ((c.tc : Thread Cert.AdamSsdRefIdeal.nD Cert.AdamSsdRefIdeal.τ).loc Cert.AdamSsdRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamRep [hAdamRep : Cert.AdamRep.Facts] : Prop :=
  ∀ (m : (ℓ : Loc Cert.AdamRep.nD Cert.AdamRep.τ Cert.AdamRep.sig) → Buf (Elt Bits) ℓ) (g : Dev Cert.AdamRep.nD → PrngReg), Pre_AdamRep m →
    θ_run (Cert.AdamRep.defs (F := Bits)) (onTc (τ := Cert.AdamRep.τ) (Cert.AdamRep.main (F := Bits))) ⟨m, fun _ => 0, g⟩ (fun r => (∀ c : Dev Cert.AdamRep.nD,
      r.2.mem ((c.tc : Thread Cert.AdamRep.nD Cert.AdamRep.τ).loc Cert.AdamRep.main_arg0) = m ((c.tc : Thread Cert.AdamRep.nD Cert.AdamRep.τ).loc Cert.AdamRep.main_arg0)
      ∧ r.2.mem ((c.tc : Thread Cert.AdamRep.nD Cert.AdamRep.τ).loc Cert.AdamRep.main_arg1) = m ((c.tc : Thread Cert.AdamRep.nD Cert.AdamRep.τ).loc Cert.AdamRep.main_arg1)
      ∧ r.2.mem ((c.tc : Thread Cert.AdamRep.nD Cert.AdamRep.τ).loc Cert.AdamRep.main_arg2) = m ((c.tc : Thread Cert.AdamRep.nD Cert.AdamRep.τ).loc Cert.AdamRep.main_arg2)
      ∧ r.2.mem ((c.tc : Thread Cert.AdamRep.nD Cert.AdamRep.τ).loc Cert.AdamRep.main_arg3) = m ((c.tc : Thread Cert.AdamRep.nD Cert.AdamRep.τ).loc Cert.AdamRep.main_arg3))
      ∧ r.2.sem = fun _ => 0)

def quiescent_AdamRepIdeal [hAdamRepIdeal : Cert.AdamRepIdeal.Facts] : Prop :=
  ∀ (m : (ℓ : Loc Cert.AdamRepIdeal.nD Cert.AdamRepIdeal.τ Cert.AdamRepIdeal.sig) → Buf (Elt Ideal) ℓ) (g : Dev Cert.AdamRepIdeal.nD → PrngReg), Pre_AdamRepIdeal m →
    θ_run (Cert.AdamRepIdeal.defs (F := Ideal)) (onTc (τ := Cert.AdamRepIdeal.τ) (Cert.AdamRepIdeal.main (F := Ideal))) ⟨m, fun _ => 0, g⟩ (fun r => (∀ c : Dev Cert.AdamRepIdeal.nD,
      r.2.mem ((c.tc : Thread Cert.AdamRepIdeal.nD Cert.AdamRepIdeal.τ).loc Cert.AdamRepIdeal.main_arg0) = m ((c.tc : Thread Cert.AdamRepIdeal.nD Cert.AdamRepIdeal.τ).loc Cert.AdamRepIdeal.main_arg0)
      ∧ r.2.mem ((c.tc : Thread Cert.AdamRepIdeal.nD Cert.AdamRepIdeal.τ).loc Cert.AdamRepIdeal.main_arg1) = m ((c.tc : Thread Cert.AdamRepIdeal.nD Cert.AdamRepIdeal.τ).loc Cert.AdamRepIdeal.main_arg1)
      ∧ r.2.mem ((c.tc : Thread Cert.AdamRepIdeal.nD Cert.AdamRepIdeal.τ).loc Cert.AdamRepIdeal.main_arg2) = m ((c.tc : Thread Cert.AdamRepIdeal.nD Cert.AdamRepIdeal.τ).loc Cert.AdamRepIdeal.main_arg2)
      ∧ r.2.mem ((c.tc : Thread Cert.AdamRepIdeal.nD Cert.AdamRepIdeal.τ).loc Cert.AdamRepIdeal.main_arg3) = m ((c.tc : Thread Cert.AdamRepIdeal.nD Cert.AdamRepIdeal.τ).loc Cert.AdamRepIdeal.main_arg3))
      ∧ r.2.sem = fun _ => 0)

def quiescent_AdamRepRefIdeal [hAdamRepRefIdeal : Cert.AdamRepRefIdeal.Facts] : Prop :=
  ∀ (m : (ℓ : Loc Cert.AdamRepRefIdeal.nD Cert.AdamRepRefIdeal.τ Cert.AdamRepRefIdeal.sig) → Buf (Elt Ideal) ℓ) (g : Dev Cert.AdamRepRefIdeal.nD → PrngReg), Pre_AdamRepRefIdeal m →
    θ_run (Cert.AdamRepRefIdeal.defs (F := Ideal)) (onTc (τ := Cert.AdamRepRefIdeal.τ) (Cert.AdamRepRefIdeal.main (F := Ideal))) ⟨m, fun _ => 0, g⟩ (fun r => (∀ c : Dev Cert.AdamRepRefIdeal.nD,
      r.2.mem ((c.tc : Thread Cert.AdamRepRefIdeal.nD Cert.AdamRepRefIdeal.τ).loc Cert.AdamRepRefIdeal.main_arg0) = m ((c.tc : Thread Cert.AdamRepRefIdeal.nD Cert.AdamRepRefIdeal.τ).loc Cert.AdamRepRefIdeal.main_arg0)
      ∧ r.2.mem ((c.tc : Thread Cert.AdamRepRefIdeal.nD Cert.AdamRepRefIdeal.τ).loc Cert.AdamRepRefIdeal.main_arg1) = m ((c.tc : Thread Cert.AdamRepRefIdeal.nD Cert.AdamRepRefIdeal.τ).loc Cert.AdamRepRefIdeal.main_arg1)
      ∧ r.2.mem ((c.tc : Thread Cert.AdamRepRefIdeal.nD Cert.AdamRepRefIdeal.τ).loc Cert.AdamRepRefIdeal.main_arg2) = m ((c.tc : Thread Cert.AdamRepRefIdeal.nD Cert.AdamRepRefIdeal.τ).loc Cert.AdamRepRefIdeal.main_arg2)
      ∧ r.2.mem ((c.tc : Thread Cert.AdamRepRefIdeal.nD Cert.AdamRepRefIdeal.τ).loc Cert.AdamRepRefIdeal.main_arg3) = m ((c.tc : Thread Cert.AdamRepRefIdeal.nD Cert.AdamRepRefIdeal.τ).loc Cert.AdamRepRefIdeal.main_arg3))
      ∧ r.2.sem = fun _ => 0)

def quiescent_SumSsd [hSumSsd : Cert.SumSsd.Facts] : Prop :=
  ∀ (m : (ℓ : Loc Cert.SumSsd.nD Cert.SumSsd.τ Cert.SumSsd.sig) → Buf (Elt Bits) ℓ) (g : Dev Cert.SumSsd.nD → PrngReg), Pre_SumSsd m →
    θ_run (Cert.SumSsd.defs (F := Bits)) (onTc (τ := Cert.SumSsd.τ) (Cert.SumSsd.main (F := Bits))) ⟨m, fun _ => 0, g⟩ (fun r => (∀ c : Dev Cert.SumSsd.nD,
      r.2.mem ((c.tc : Thread Cert.SumSsd.nD Cert.SumSsd.τ).loc Cert.SumSsd.main_arg0) = m ((c.tc : Thread Cert.SumSsd.nD Cert.SumSsd.τ).loc Cert.SumSsd.main_arg0))
      ∧ r.2.sem = fun _ => 0)

def quiescent_SumSsdIdeal [hSumSsdIdeal : Cert.SumSsdIdeal.Facts] : Prop :=
  ∀ (m : (ℓ : Loc Cert.SumSsdIdeal.nD Cert.SumSsdIdeal.τ Cert.SumSsdIdeal.sig) → Buf (Elt Ideal) ℓ) (g : Dev Cert.SumSsdIdeal.nD → PrngReg), Pre_SumSsdIdeal m →
    θ_run (Cert.SumSsdIdeal.defs (F := Ideal)) (onTc (τ := Cert.SumSsdIdeal.τ) (Cert.SumSsdIdeal.main (F := Ideal))) ⟨m, fun _ => 0, g⟩ (fun r => (∀ c : Dev Cert.SumSsdIdeal.nD,
      r.2.mem ((c.tc : Thread Cert.SumSsdIdeal.nD Cert.SumSsdIdeal.τ).loc Cert.SumSsdIdeal.main_arg0) = m ((c.tc : Thread Cert.SumSsdIdeal.nD Cert.SumSsdIdeal.τ).loc Cert.SumSsdIdeal.main_arg0))
      ∧ r.2.sem = fun _ => 0)

def quiescent_SumSsdRefIdeal [hSumSsdRefIdeal : Cert.SumSsdRefIdeal.Facts] : Prop :=
  ∀ (m : (ℓ : Loc Cert.SumSsdRefIdeal.nD Cert.SumSsdRefIdeal.τ Cert.SumSsdRefIdeal.sig) → Buf (Elt Ideal) ℓ) (g : Dev Cert.SumSsdRefIdeal.nD → PrngReg), Pre_SumSsdRefIdeal m →
    θ_run (Cert.SumSsdRefIdeal.defs (F := Ideal)) (onTc (τ := Cert.SumSsdRefIdeal.τ) (Cert.SumSsdRefIdeal.main (F := Ideal))) ⟨m, fun _ => 0, g⟩ (fun r => (∀ c : Dev Cert.SumSsdRefIdeal.nD,
      r.2.mem ((c.tc : Thread Cert.SumSsdRefIdeal.nD Cert.SumSsdRefIdeal.τ).loc Cert.SumSsdRefIdeal.main_arg0) = m ((c.tc : Thread Cert.SumSsdRefIdeal.nD Cert.SumSsdRefIdeal.τ).loc Cert.SumSsdRefIdeal.main_arg0))
      ∧ r.2.sem = fun _ => 0)

def preserves_ConfOut_ConfOutIdeal : Prop :=
  True

def algebraic_ConfOutIdeal_ConfOutRefIdeal_pre_conf_out_finite [hConfOutIdeal : Cert.ConfOutIdeal.Facts] [hConfOutRefIdeal : Cert.ConfOutRefIdeal.Facts] [hPre_conf_out_finite : Cert.Pre_conf_out_finite.Facts] : Prop :=
  ∀ (m : (ℓ : Loc Cert.ConfOutIdeal.nD Cert.ConfOutIdeal.τ Cert.ConfOutIdeal.sig) → Buf (Elt Ideal) ℓ) (g : Dev Cert.ConfOutIdeal.nD → PrngReg)
    (m' : (ℓ : Loc Cert.ConfOutRefIdeal.nD Cert.ConfOutRefIdeal.τ Cert.ConfOutRefIdeal.sig) → Buf (Elt Ideal) ℓ) (g' : Dev Cert.ConfOutRefIdeal.nD → PrngReg), Pre_ConfOutIdeal_conf_out_finite m →
    (∀ c : Dev Cert.ConfOutIdeal.nD,
      m' ((c.tc : Thread Cert.ConfOutRefIdeal.nD Cert.ConfOutRefIdeal.τ).loc Cert.ConfOutRefIdeal.main_arg0) = m ((c.tc : Thread Cert.ConfOutIdeal.nD Cert.ConfOutIdeal.τ).loc Cert.ConfOutIdeal.main_arg0)
      ∧ m' ((c.tc : Thread Cert.ConfOutRefIdeal.nD Cert.ConfOutRefIdeal.τ).loc Cert.ConfOutRefIdeal.main_arg1) = m ((c.tc : Thread Cert.ConfOutIdeal.nD Cert.ConfOutIdeal.τ).loc Cert.ConfOutIdeal.main_arg1)
      ∧ m' ((c.tc : Thread Cert.ConfOutRefIdeal.nD Cert.ConfOutRefIdeal.τ).loc Cert.ConfOutRefIdeal.main_arg2) = m ((c.tc : Thread Cert.ConfOutIdeal.nD Cert.ConfOutIdeal.τ).loc Cert.ConfOutIdeal.main_arg2)
      ∧ m' ((c.tc : Thread Cert.ConfOutRefIdeal.nD Cert.ConfOutRefIdeal.τ).loc Cert.ConfOutRefIdeal.main_arg3) = m ((c.tc : Thread Cert.ConfOutIdeal.nD Cert.ConfOutIdeal.τ).loc Cert.ConfOutIdeal.main_arg3)
      ∧ m' ((c.tc : Thread Cert.ConfOutRefIdeal.nD Cert.ConfOutRefIdeal.τ).loc Cert.ConfOutRefIdeal.main_arg4) = m ((c.tc : Thread Cert.ConfOutIdeal.nD Cert.ConfOutIdeal.τ).loc Cert.ConfOutIdeal.main_arg4)
      ∧ m' ((c.tc : Thread Cert.ConfOutRefIdeal.nD Cert.ConfOutRefIdeal.τ).loc Cert.ConfOutRefIdeal.main_arg5) = m ((c.tc : Thread Cert.ConfOutIdeal.nD Cert.ConfOutIdeal.τ).loc Cert.ConfOutIdeal.main_arg5)) →
    ∃ (v0 : (c : Dev Cert.ConfOutIdeal.nD) → Buf (Elt Ideal) ((c.tc : Thread Cert.ConfOutIdeal.nD Cert.ConfOutIdeal.τ).loc Cert.ConfOutIdeal.main_v0_0)) (v1 : (c : Dev Cert.ConfOutIdeal.nD) → Buf (Elt Ideal) ((c.tc : Thread Cert.ConfOutIdeal.nD Cert.ConfOutIdeal.τ).loc Cert.ConfOutIdeal.main_v0_1)) (v2 : (c : Dev Cert.ConfOutIdeal.nD) → Buf (Elt Ideal) ((c.tc : Thread Cert.ConfOutIdeal.nD Cert.ConfOutIdeal.τ).loc Cert.ConfOutIdeal.main_v0_2)) (v3 : (c : Dev Cert.ConfOutIdeal.nD) → Buf (Elt Ideal) ((c.tc : Thread Cert.ConfOutIdeal.nD Cert.ConfOutIdeal.τ).loc Cert.ConfOutIdeal.main_v0_3)) (v4 : (c : Dev Cert.ConfOutIdeal.nD) → Buf (Elt Ideal) ((c.tc : Thread Cert.ConfOutIdeal.nD Cert.ConfOutIdeal.τ).loc Cert.ConfOutIdeal.main_v0_4)),
      θ_run (Cert.ConfOutIdeal.defs (F := Ideal)) (onTc (τ := Cert.ConfOutIdeal.τ) (Cert.ConfOutIdeal.main (F := Ideal))) ⟨m, fun _ => 0, g⟩ (fun r => ∀ c : Dev Cert.ConfOutIdeal.nD,
          r.2.mem ((c.tc : Thread Cert.ConfOutIdeal.nD Cert.ConfOutIdeal.τ).loc Cert.ConfOutIdeal.main_v0_0) = v0 c
          ∧ r.2.mem ((c.tc : Thread Cert.ConfOutIdeal.nD Cert.ConfOutIdeal.τ).loc Cert.ConfOutIdeal.main_v0_1) = v1 c
          ∧ r.2.mem ((c.tc : Thread Cert.ConfOutIdeal.nD Cert.ConfOutIdeal.τ).loc Cert.ConfOutIdeal.main_v0_2) = v2 c
          ∧ r.2.mem ((c.tc : Thread Cert.ConfOutIdeal.nD Cert.ConfOutIdeal.τ).loc Cert.ConfOutIdeal.main_v0_3) = v3 c
          ∧ r.2.mem ((c.tc : Thread Cert.ConfOutIdeal.nD Cert.ConfOutIdeal.τ).loc Cert.ConfOutIdeal.main_v0_4) = v4 c
          ∧ r.2.mem ((c.tc : Thread Cert.ConfOutIdeal.nD Cert.ConfOutIdeal.τ).loc Cert.ConfOutIdeal.main_arg0) = m ((c.tc : Thread Cert.ConfOutIdeal.nD Cert.ConfOutIdeal.τ).loc Cert.ConfOutIdeal.main_arg0)
          ∧ r.2.mem ((c.tc : Thread Cert.ConfOutIdeal.nD Cert.ConfOutIdeal.τ).loc Cert.ConfOutIdeal.main_arg1) = m ((c.tc : Thread Cert.ConfOutIdeal.nD Cert.ConfOutIdeal.τ).loc Cert.ConfOutIdeal.main_arg1)
          ∧ r.2.mem ((c.tc : Thread Cert.ConfOutIdeal.nD Cert.ConfOutIdeal.τ).loc Cert.ConfOutIdeal.main_arg2) = m ((c.tc : Thread Cert.ConfOutIdeal.nD Cert.ConfOutIdeal.τ).loc Cert.ConfOutIdeal.main_arg2)
          ∧ r.2.mem ((c.tc : Thread Cert.ConfOutIdeal.nD Cert.ConfOutIdeal.τ).loc Cert.ConfOutIdeal.main_arg3) = m ((c.tc : Thread Cert.ConfOutIdeal.nD Cert.ConfOutIdeal.τ).loc Cert.ConfOutIdeal.main_arg3)
          ∧ r.2.mem ((c.tc : Thread Cert.ConfOutIdeal.nD Cert.ConfOutIdeal.τ).loc Cert.ConfOutIdeal.main_arg4) = m ((c.tc : Thread Cert.ConfOutIdeal.nD Cert.ConfOutIdeal.τ).loc Cert.ConfOutIdeal.main_arg4)
          ∧ r.2.mem ((c.tc : Thread Cert.ConfOutIdeal.nD Cert.ConfOutIdeal.τ).loc Cert.ConfOutIdeal.main_arg5) = m ((c.tc : Thread Cert.ConfOutIdeal.nD Cert.ConfOutIdeal.τ).loc Cert.ConfOutIdeal.main_arg5))
      ∧ θ_run (Cert.ConfOutRefIdeal.defs (F := Ideal)) (onTc (τ := Cert.ConfOutRefIdeal.τ) (Cert.ConfOutRefIdeal.main (F := Ideal))) ⟨m', fun _ => 0, g'⟩ (fun r => ∀ c : Dev Cert.ConfOutRefIdeal.nD,
          r.2.mem ((c.tc : Thread Cert.ConfOutRefIdeal.nD Cert.ConfOutRefIdeal.τ).loc Cert.ConfOutRefIdeal.main_v32) = v0 c
          ∧ r.2.mem ((c.tc : Thread Cert.ConfOutRefIdeal.nD Cert.ConfOutRefIdeal.τ).loc Cert.ConfOutRefIdeal.main_v67) = v1 c
          ∧ r.2.mem ((c.tc : Thread Cert.ConfOutRefIdeal.nD Cert.ConfOutRefIdeal.τ).loc Cert.ConfOutRefIdeal.main_v68) = v2 c
          ∧ r.2.mem ((c.tc : Thread Cert.ConfOutRefIdeal.nD Cert.ConfOutRefIdeal.τ).loc Cert.ConfOutRefIdeal.main_v42) = v3 c
          ∧ r.2.mem ((c.tc : Thread Cert.ConfOutRefIdeal.nD Cert.ConfOutRefIdeal.τ).loc Cert.ConfOutRefIdeal.main_v39) = v4 c
          ∧ r.2.mem ((c.tc : Thread Cert.ConfOutRefIdeal.nD Cert.ConfOutRefIdeal.τ).loc Cert.ConfOutRefIdeal.main_arg0) = m' ((c.tc : Thread Cert.ConfOutRefIdeal.nD Cert.ConfOutRefIdeal.τ).loc Cert.ConfOutRefIdeal.main_arg0)
          ∧ r.2.mem ((c.tc : Thread Cert.ConfOutRefIdeal.nD Cert.ConfOutRefIdeal.τ).loc Cert.ConfOutRefIdeal.main_arg1) = m' ((c.tc : Thread Cert.ConfOutRefIdeal.nD Cert.ConfOutRefIdeal.τ).loc Cert.ConfOutRefIdeal.main_arg1)
          ∧ r.2.mem ((c.tc : Thread Cert.ConfOutRefIdeal.nD Cert.ConfOutRefIdeal.τ).loc Cert.ConfOutRefIdeal.main_arg2) = m' ((c.tc : Thread Cert.ConfOutRefIdeal.nD Cert.ConfOutRefIdeal.τ).loc Cert.ConfOutRefIdeal.main_arg2)
          ∧ r.2.mem ((c.tc : Thread Cert.ConfOutRefIdeal.nD Cert.ConfOutRefIdeal.τ).loc Cert.ConfOutRefIdeal.main_arg3) = m' ((c.tc : Thread Cert.ConfOutRefIdeal.nD Cert.ConfOutRefIdeal.τ).loc Cert.ConfOutRefIdeal.main_arg3)
          ∧ r.2.mem ((c.tc : Thread Cert.ConfOutRefIdeal.nD Cert.ConfOutRefIdeal.τ).loc Cert.ConfOutRefIdeal.main_arg4) = m' ((c.tc : Thread Cert.ConfOutRefIdeal.nD Cert.ConfOutRefIdeal.τ).loc Cert.ConfOutRefIdeal.main_arg4)
          ∧ r.2.mem ((c.tc : Thread Cert.ConfOutRefIdeal.nD Cert.ConfOutRefIdeal.τ).loc Cert.ConfOutRefIdeal.main_arg5) = m' ((c.tc : Thread Cert.ConfOutRefIdeal.nD Cert.ConfOutRefIdeal.τ).loc Cert.ConfOutRefIdeal.main_arg5))

def preserves_SsdOut_SsdOutIdeal : Prop :=
  True

def algebraic_SsdOutIdeal_SsdOutRefIdeal_pre_ssd_out_finite [hSsdOutIdeal : Cert.SsdOutIdeal.Facts] [hSsdOutRefIdeal : Cert.SsdOutRefIdeal.Facts] [hPre_ssd_out_finite : Cert.Pre_ssd_out_finite.Facts] : Prop :=
  ∀ (m : (ℓ : Loc Cert.SsdOutIdeal.nD Cert.SsdOutIdeal.τ Cert.SsdOutIdeal.sig) → Buf (Elt Ideal) ℓ) (g : Dev Cert.SsdOutIdeal.nD → PrngReg)
    (m' : (ℓ : Loc Cert.SsdOutRefIdeal.nD Cert.SsdOutRefIdeal.τ Cert.SsdOutRefIdeal.sig) → Buf (Elt Ideal) ℓ) (g' : Dev Cert.SsdOutRefIdeal.nD → PrngReg), Pre_SsdOutIdeal_ssd_out_finite m →
    (∀ c : Dev Cert.SsdOutIdeal.nD,
      m' ((c.tc : Thread Cert.SsdOutRefIdeal.nD Cert.SsdOutRefIdeal.τ).loc Cert.SsdOutRefIdeal.main_arg0) = m ((c.tc : Thread Cert.SsdOutIdeal.nD Cert.SsdOutIdeal.τ).loc Cert.SsdOutIdeal.main_arg0)
      ∧ m' ((c.tc : Thread Cert.SsdOutRefIdeal.nD Cert.SsdOutRefIdeal.τ).loc Cert.SsdOutRefIdeal.main_arg1) = m ((c.tc : Thread Cert.SsdOutIdeal.nD Cert.SsdOutIdeal.τ).loc Cert.SsdOutIdeal.main_arg1)
      ∧ m' ((c.tc : Thread Cert.SsdOutRefIdeal.nD Cert.SsdOutRefIdeal.τ).loc Cert.SsdOutRefIdeal.main_arg2) = m ((c.tc : Thread Cert.SsdOutIdeal.nD Cert.SsdOutIdeal.τ).loc Cert.SsdOutIdeal.main_arg2)
      ∧ m' ((c.tc : Thread Cert.SsdOutRefIdeal.nD Cert.SsdOutRefIdeal.τ).loc Cert.SsdOutRefIdeal.main_arg3) = m ((c.tc : Thread Cert.SsdOutIdeal.nD Cert.SsdOutIdeal.τ).loc Cert.SsdOutIdeal.main_arg3)
      ∧ m' ((c.tc : Thread Cert.SsdOutRefIdeal.nD Cert.SsdOutRefIdeal.τ).loc Cert.SsdOutRefIdeal.main_arg4) = m ((c.tc : Thread Cert.SsdOutIdeal.nD Cert.SsdOutIdeal.τ).loc Cert.SsdOutIdeal.main_arg4)
      ∧ m' ((c.tc : Thread Cert.SsdOutRefIdeal.nD Cert.SsdOutRefIdeal.τ).loc Cert.SsdOutRefIdeal.main_arg5) = m ((c.tc : Thread Cert.SsdOutIdeal.nD Cert.SsdOutIdeal.τ).loc Cert.SsdOutIdeal.main_arg5)
      ∧ m' ((c.tc : Thread Cert.SsdOutRefIdeal.nD Cert.SsdOutRefIdeal.τ).loc Cert.SsdOutRefIdeal.main_arg6) = m ((c.tc : Thread Cert.SsdOutIdeal.nD Cert.SsdOutIdeal.τ).loc Cert.SsdOutIdeal.main_arg6)
      ∧ m' ((c.tc : Thread Cert.SsdOutRefIdeal.nD Cert.SsdOutRefIdeal.τ).loc Cert.SsdOutRefIdeal.main_arg7) = m ((c.tc : Thread Cert.SsdOutIdeal.nD Cert.SsdOutIdeal.τ).loc Cert.SsdOutIdeal.main_arg7)) →
    ∃ (v0 : (c : Dev Cert.SsdOutIdeal.nD) → Buf (Elt Ideal) ((c.tc : Thread Cert.SsdOutIdeal.nD Cert.SsdOutIdeal.τ).loc Cert.SsdOutIdeal.main_v0_0)) (v1 : (c : Dev Cert.SsdOutIdeal.nD) → Buf (Elt Ideal) ((c.tc : Thread Cert.SsdOutIdeal.nD Cert.SsdOutIdeal.τ).loc Cert.SsdOutIdeal.main_v0_1)) (v2 : (c : Dev Cert.SsdOutIdeal.nD) → Buf (Elt Ideal) ((c.tc : Thread Cert.SsdOutIdeal.nD Cert.SsdOutIdeal.τ).loc Cert.SsdOutIdeal.main_v0_2)) (v3 : (c : Dev Cert.SsdOutIdeal.nD) → Buf (Elt Ideal) ((c.tc : Thread Cert.SsdOutIdeal.nD Cert.SsdOutIdeal.τ).loc Cert.SsdOutIdeal.main_v0_3)) (v4 : (c : Dev Cert.SsdOutIdeal.nD) → Buf (Elt Ideal) ((c.tc : Thread Cert.SsdOutIdeal.nD Cert.SsdOutIdeal.τ).loc Cert.SsdOutIdeal.main_v0_4)),
      θ_run (Cert.SsdOutIdeal.defs (F := Ideal)) (onTc (τ := Cert.SsdOutIdeal.τ) (Cert.SsdOutIdeal.main (F := Ideal))) ⟨m, fun _ => 0, g⟩ (fun r => ∀ c : Dev Cert.SsdOutIdeal.nD,
          r.2.mem ((c.tc : Thread Cert.SsdOutIdeal.nD Cert.SsdOutIdeal.τ).loc Cert.SsdOutIdeal.main_v0_0) = v0 c
          ∧ r.2.mem ((c.tc : Thread Cert.SsdOutIdeal.nD Cert.SsdOutIdeal.τ).loc Cert.SsdOutIdeal.main_v0_1) = v1 c
          ∧ r.2.mem ((c.tc : Thread Cert.SsdOutIdeal.nD Cert.SsdOutIdeal.τ).loc Cert.SsdOutIdeal.main_v0_2) = v2 c
          ∧ r.2.mem ((c.tc : Thread Cert.SsdOutIdeal.nD Cert.SsdOutIdeal.τ).loc Cert.SsdOutIdeal.main_v0_3) = v3 c
          ∧ r.2.mem ((c.tc : Thread Cert.SsdOutIdeal.nD Cert.SsdOutIdeal.τ).loc Cert.SsdOutIdeal.main_v0_4) = v4 c
          ∧ r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
          ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
          ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2)
          ∧ r.2.mem ((c.tc : Thread Cert.SsdOutIdeal.nD Cert.SsdOutIdeal.τ).loc Cert.SsdOutIdeal.main_arg3) = m ((c.tc : Thread Cert.SsdOutIdeal.nD Cert.SsdOutIdeal.τ).loc Cert.SsdOutIdeal.main_arg3)
          ∧ r.2.mem ((c.tc : Thread Cert.SsdOutIdeal.nD Cert.SsdOutIdeal.τ).loc Cert.SsdOutIdeal.main_arg4) = m ((c.tc : Thread Cert.SsdOutIdeal.nD Cert.SsdOutIdeal.τ).loc Cert.SsdOutIdeal.main_arg4)
          ∧ r.2.mem ((c.tc : Thread Cert.SsdOutIdeal.nD Cert.SsdOutIdeal.τ).loc Cert.SsdOutIdeal.main_arg5) = m ((c.tc : Thread Cert.SsdOutIdeal.nD Cert.SsdOutIdeal.τ).loc Cert.SsdOutIdeal.main_arg5)
          ∧ r.2.mem ((c.tc : Thread Cert.SsdOutIdeal.nD Cert.SsdOutIdeal.τ).loc Cert.SsdOutIdeal.main_arg6) = m ((c.tc : Thread Cert.SsdOutIdeal.nD Cert.SsdOutIdeal.τ).loc Cert.SsdOutIdeal.main_arg6)
          ∧ r.2.mem ((c.tc : Thread Cert.SsdOutIdeal.nD Cert.SsdOutIdeal.τ).loc Cert.SsdOutIdeal.main_arg7) = m ((c.tc : Thread Cert.SsdOutIdeal.nD Cert.SsdOutIdeal.τ).loc Cert.SsdOutIdeal.main_arg7))
      ∧ θ_run (Cert.SsdOutRefIdeal.defs (F := Ideal)) (onTc (τ := Cert.SsdOutRefIdeal.τ) (Cert.SsdOutRefIdeal.main (F := Ideal))) ⟨m', fun _ => 0, g'⟩ (fun r => ∀ c : Dev Cert.SsdOutRefIdeal.nD,
          r.2.mem ((c.tc : Thread Cert.SsdOutRefIdeal.nD Cert.SsdOutRefIdeal.τ).loc Cert.SsdOutRefIdeal.main_v29) = v0 c
          ∧ r.2.mem ((c.tc : Thread Cert.SsdOutRefIdeal.nD Cert.SsdOutRefIdeal.τ).loc Cert.SsdOutRefIdeal.main_v56) = v1 c
          ∧ r.2.mem ((c.tc : Thread Cert.SsdOutRefIdeal.nD Cert.SsdOutRefIdeal.τ).loc Cert.SsdOutRefIdeal.main_v57) = v2 c
          ∧ r.2.mem ((c.tc : Thread Cert.SsdOutRefIdeal.nD Cert.SsdOutRefIdeal.τ).loc Cert.SsdOutRefIdeal.main_v33) = v3 c
          ∧ r.2.mem ((c.tc : Thread Cert.SsdOutRefIdeal.nD Cert.SsdOutRefIdeal.τ).loc Cert.SsdOutRefIdeal.main_v55) = v4 c
          ∧ r.2.mem ((c.tc : Thread Cert.SsdOutRefIdeal.nD Cert.SsdOutRefIdeal.τ).loc Cert.SsdOutRefIdeal.main_arg0) = m' ((c.tc : Thread Cert.SsdOutRefIdeal.nD Cert.SsdOutRefIdeal.τ).loc Cert.SsdOutRefIdeal.main_arg0)
          ∧ r.2.mem ((c.tc : Thread Cert.SsdOutRefIdeal.nD Cert.SsdOutRefIdeal.τ).loc Cert.SsdOutRefIdeal.main_arg1) = m' ((c.tc : Thread Cert.SsdOutRefIdeal.nD Cert.SsdOutRefIdeal.τ).loc Cert.SsdOutRefIdeal.main_arg1)
          ∧ r.2.mem ((c.tc : Thread Cert.SsdOutRefIdeal.nD Cert.SsdOutRefIdeal.τ).loc Cert.SsdOutRefIdeal.main_arg2) = m' ((c.tc : Thread Cert.SsdOutRefIdeal.nD Cert.SsdOutRefIdeal.τ).loc Cert.SsdOutRefIdeal.main_arg2)
          ∧ r.2.mem ((c.tc : Thread Cert.SsdOutRefIdeal.nD Cert.SsdOutRefIdeal.τ).loc Cert.SsdOutRefIdeal.main_arg3) = m' ((c.tc : Thread Cert.SsdOutRefIdeal.nD Cert.SsdOutRefIdeal.τ).loc Cert.SsdOutRefIdeal.main_arg3)
          ∧ r.2.mem ((c.tc : Thread Cert.SsdOutRefIdeal.nD Cert.SsdOutRefIdeal.τ).loc Cert.SsdOutRefIdeal.main_arg4) = m' ((c.tc : Thread Cert.SsdOutRefIdeal.nD Cert.SsdOutRefIdeal.τ).loc Cert.SsdOutRefIdeal.main_arg4)
          ∧ r.2.mem ((c.tc : Thread Cert.SsdOutRefIdeal.nD Cert.SsdOutRefIdeal.τ).loc Cert.SsdOutRefIdeal.main_arg5) = m' ((c.tc : Thread Cert.SsdOutRefIdeal.nD Cert.SsdOutRefIdeal.τ).loc Cert.SsdOutRefIdeal.main_arg5)
          ∧ r.2.mem ((c.tc : Thread Cert.SsdOutRefIdeal.nD Cert.SsdOutRefIdeal.τ).loc Cert.SsdOutRefIdeal.main_arg6) = m' ((c.tc : Thread Cert.SsdOutRefIdeal.nD Cert.SsdOutRefIdeal.τ).loc Cert.SsdOutRefIdeal.main_arg6)
          ∧ r.2.mem ((c.tc : Thread Cert.SsdOutRefIdeal.nD Cert.SsdOutRefIdeal.τ).loc Cert.SsdOutRefIdeal.main_arg7) = m' ((c.tc : Thread Cert.SsdOutRefIdeal.nD Cert.SsdOutRefIdeal.τ).loc Cert.SsdOutRefIdeal.main_arg7))

def preserves_CmIn_CmInIdeal : Prop :=
  True

def algebraic_CmInIdeal_CmInRefIdeal [hCmInIdeal : Cert.CmInIdeal.Facts] [hCmInRefIdeal : Cert.CmInRefIdeal.Facts] : Prop :=
  ∀ (m : (ℓ : Loc Cert.CmInIdeal.nD Cert.CmInIdeal.τ Cert.CmInIdeal.sig) → Buf (Elt Ideal) ℓ) (g : Dev Cert.CmInIdeal.nD → PrngReg)
    (m' : (ℓ : Loc Cert.CmInRefIdeal.nD Cert.CmInRefIdeal.τ Cert.CmInRefIdeal.sig) → Buf (Elt Ideal) ℓ) (g' : Dev Cert.CmInRefIdeal.nD → PrngReg), Pre_CmInIdeal m →
    (∀ c : Dev Cert.CmInIdeal.nD,
      m' ((c.tc : Thread Cert.CmInRefIdeal.nD Cert.CmInRefIdeal.τ).loc Cert.CmInRefIdeal.main_arg0) = m ((c.tc : Thread Cert.CmInIdeal.nD Cert.CmInIdeal.τ).loc Cert.CmInIdeal.main_arg0)
      ∧ m' ((c.tc : Thread Cert.CmInRefIdeal.nD Cert.CmInRefIdeal.τ).loc Cert.CmInRefIdeal.main_arg1) = m ((c.tc : Thread Cert.CmInIdeal.nD Cert.CmInIdeal.τ).loc Cert.CmInIdeal.main_arg1)
      ∧ m' ((c.tc : Thread Cert.CmInRefIdeal.nD Cert.CmInRefIdeal.τ).loc Cert.CmInRefIdeal.main_arg2) = m ((c.tc : Thread Cert.CmInIdeal.nD Cert.CmInIdeal.τ).loc Cert.CmInIdeal.main_arg2)
      ∧ m' ((c.tc : Thread Cert.CmInRefIdeal.nD Cert.CmInRefIdeal.τ).loc Cert.CmInRefIdeal.main_arg3) = m ((c.tc : Thread Cert.CmInIdeal.nD Cert.CmInIdeal.τ).loc Cert.CmInIdeal.main_arg3)
      ∧ m' ((c.tc : Thread Cert.CmInRefIdeal.nD Cert.CmInRefIdeal.τ).loc Cert.CmInRefIdeal.main_arg4) = m ((c.tc : Thread Cert.CmInIdeal.nD Cert.CmInIdeal.τ).loc Cert.CmInIdeal.main_arg4)
      ∧ m' ((c.tc : Thread Cert.CmInRefIdeal.nD Cert.CmInRefIdeal.τ).loc Cert.CmInRefIdeal.main_arg5) = m ((c.tc : Thread Cert.CmInIdeal.nD Cert.CmInIdeal.τ).loc Cert.CmInIdeal.main_arg5)
      ∧ m' ((c.tc : Thread Cert.CmInRefIdeal.nD Cert.CmInRefIdeal.τ).loc Cert.CmInRefIdeal.main_arg6) = m ((c.tc : Thread Cert.CmInIdeal.nD Cert.CmInIdeal.τ).loc Cert.CmInIdeal.main_arg6)) →
    ∃ (v0 : (c : Dev Cert.CmInIdeal.nD) → Buf (Elt Ideal) ((c.tc : Thread Cert.CmInIdeal.nD Cert.CmInIdeal.τ).loc Cert.CmInIdeal.main_v0_0)) (v1 : (c : Dev Cert.CmInIdeal.nD) → Buf (Elt Ideal) ((c.tc : Thread Cert.CmInIdeal.nD Cert.CmInIdeal.τ).loc Cert.CmInIdeal.main_v0_1)) (v2 : (c : Dev Cert.CmInIdeal.nD) → Buf (Elt Ideal) ((c.tc : Thread Cert.CmInIdeal.nD Cert.CmInIdeal.τ).loc Cert.CmInIdeal.main_v0_2)),
      θ_run (Cert.CmInIdeal.defs (F := Ideal)) (onTc (τ := Cert.CmInIdeal.τ) (Cert.CmInIdeal.main (F := Ideal))) ⟨m, fun _ => 0, g⟩ (fun r => ∀ c : Dev Cert.CmInIdeal.nD,
          r.2.mem ((c.tc : Thread Cert.CmInIdeal.nD Cert.CmInIdeal.τ).loc Cert.CmInIdeal.main_v0_0) = v0 c
          ∧ r.2.mem ((c.tc : Thread Cert.CmInIdeal.nD Cert.CmInIdeal.τ).loc Cert.CmInIdeal.main_v0_1) = v1 c
          ∧ r.2.mem ((c.tc : Thread Cert.CmInIdeal.nD Cert.CmInIdeal.τ).loc Cert.CmInIdeal.main_v0_2) = v2 c
          ∧ r.2.mem ((c.tc : Thread Cert.CmInIdeal.nD Cert.CmInIdeal.τ).loc Cert.CmInIdeal.main_arg0) = m ((c.tc : Thread Cert.CmInIdeal.nD Cert.CmInIdeal.τ).loc Cert.CmInIdeal.main_arg0)
          ∧ r.2.mem ((c.tc : Thread Cert.CmInIdeal.nD Cert.CmInIdeal.τ).loc Cert.CmInIdeal.main_arg1) = m ((c.tc : Thread Cert.CmInIdeal.nD Cert.CmInIdeal.τ).loc Cert.CmInIdeal.main_arg1)
          ∧ r.2.mem ((c.tc : Thread Cert.CmInIdeal.nD Cert.CmInIdeal.τ).loc Cert.CmInIdeal.main_arg2) = m ((c.tc : Thread Cert.CmInIdeal.nD Cert.CmInIdeal.τ).loc Cert.CmInIdeal.main_arg2)
          ∧ r.2.mem ((c.tc : Thread Cert.CmInIdeal.nD Cert.CmInIdeal.τ).loc Cert.CmInIdeal.main_arg3) = m ((c.tc : Thread Cert.CmInIdeal.nD Cert.CmInIdeal.τ).loc Cert.CmInIdeal.main_arg3)
          ∧ r.2.mem ((c.tc : Thread Cert.CmInIdeal.nD Cert.CmInIdeal.τ).loc Cert.CmInIdeal.main_arg4) = m ((c.tc : Thread Cert.CmInIdeal.nD Cert.CmInIdeal.τ).loc Cert.CmInIdeal.main_arg4)
          ∧ r.2.mem ((c.tc : Thread Cert.CmInIdeal.nD Cert.CmInIdeal.τ).loc Cert.CmInIdeal.main_arg5) = m ((c.tc : Thread Cert.CmInIdeal.nD Cert.CmInIdeal.τ).loc Cert.CmInIdeal.main_arg5)
          ∧ r.2.mem ((c.tc : Thread Cert.CmInIdeal.nD Cert.CmInIdeal.τ).loc Cert.CmInIdeal.main_arg6) = m ((c.tc : Thread Cert.CmInIdeal.nD Cert.CmInIdeal.τ).loc Cert.CmInIdeal.main_arg6))
      ∧ θ_run (Cert.CmInRefIdeal.defs (F := Ideal)) (onTc (τ := Cert.CmInRefIdeal.τ) (Cert.CmInRefIdeal.main (F := Ideal))) ⟨m', fun _ => 0, g'⟩ (fun r => ∀ c : Dev Cert.CmInRefIdeal.nD,
          r.2.mem ((c.tc : Thread Cert.CmInRefIdeal.nD Cert.CmInRefIdeal.τ).loc Cert.CmInRefIdeal.main_v39) = v0 c
          ∧ r.2.mem ((c.tc : Thread Cert.CmInRefIdeal.nD Cert.CmInRefIdeal.τ).loc Cert.CmInRefIdeal.main_v40) = v1 c
          ∧ r.2.mem ((c.tc : Thread Cert.CmInRefIdeal.nD Cert.CmInRefIdeal.τ).loc Cert.CmInRefIdeal.main_v22) = v2 c
          ∧ r.2.mem ((c.tc : Thread Cert.CmInRefIdeal.nD Cert.CmInRefIdeal.τ).loc Cert.CmInRefIdeal.main_arg0) = m' ((c.tc : Thread Cert.CmInRefIdeal.nD Cert.CmInRefIdeal.τ).loc Cert.CmInRefIdeal.main_arg0)
          ∧ r.2.mem ((c.tc : Thread Cert.CmInRefIdeal.nD Cert.CmInRefIdeal.τ).loc Cert.CmInRefIdeal.main_arg1) = m' ((c.tc : Thread Cert.CmInRefIdeal.nD Cert.CmInRefIdeal.τ).loc Cert.CmInRefIdeal.main_arg1)
          ∧ r.2.mem ((c.tc : Thread Cert.CmInRefIdeal.nD Cert.CmInRefIdeal.τ).loc Cert.CmInRefIdeal.main_arg2) = m' ((c.tc : Thread Cert.CmInRefIdeal.nD Cert.CmInRefIdeal.τ).loc Cert.CmInRefIdeal.main_arg2)
          ∧ r.2.mem ((c.tc : Thread Cert.CmInRefIdeal.nD Cert.CmInRefIdeal.τ).loc Cert.CmInRefIdeal.main_arg3) = m' ((c.tc : Thread Cert.CmInRefIdeal.nD Cert.CmInRefIdeal.τ).loc Cert.CmInRefIdeal.main_arg3)
          ∧ r.2.mem ((c.tc : Thread Cert.CmInRefIdeal.nD Cert.CmInRefIdeal.τ).loc Cert.CmInRefIdeal.main_arg4) = m' ((c.tc : Thread Cert.CmInRefIdeal.nD Cert.CmInRefIdeal.τ).loc Cert.CmInRefIdeal.main_arg4)
          ∧ r.2.mem ((c.tc : Thread Cert.CmInRefIdeal.nD Cert.CmInRefIdeal.τ).loc Cert.CmInRefIdeal.main_arg5) = m' ((c.tc : Thread Cert.CmInRefIdeal.nD Cert.CmInRefIdeal.τ).loc Cert.CmInRefIdeal.main_arg5)
          ∧ r.2.mem ((c.tc : Thread Cert.CmInRefIdeal.nD Cert.CmInRefIdeal.τ).loc Cert.CmInRefIdeal.main_arg6) = m' ((c.tc : Thread Cert.CmInRefIdeal.nD Cert.CmInRefIdeal.τ).loc Cert.CmInRefIdeal.main_arg6))

def preserves_SsdIn_SsdInIdeal : Prop :=
  True

def algebraic_SsdInIdeal_SsdInRefIdeal [hSsdInIdeal : Cert.SsdInIdeal.Facts] [hSsdInRefIdeal : Cert.SsdInRefIdeal.Facts] : Prop :=
  ∀ (m : (ℓ : Loc Cert.SsdInIdeal.nD Cert.SsdInIdeal.τ Cert.SsdInIdeal.sig) → Buf (Elt Ideal) ℓ) (g : Dev Cert.SsdInIdeal.nD → PrngReg)
    (m' : (ℓ : Loc Cert.SsdInRefIdeal.nD Cert.SsdInRefIdeal.τ Cert.SsdInRefIdeal.sig) → Buf (Elt Ideal) ℓ) (g' : Dev Cert.SsdInRefIdeal.nD → PrngReg), Pre_SsdInIdeal m →
    (∀ c : Dev Cert.SsdInIdeal.nD,
      m' ((c.tc : Thread Cert.SsdInRefIdeal.nD Cert.SsdInRefIdeal.τ).loc Cert.SsdInRefIdeal.main_arg0) = m ((c.tc : Thread Cert.SsdInIdeal.nD Cert.SsdInIdeal.τ).loc Cert.SsdInIdeal.main_arg0)
      ∧ m' ((c.tc : Thread Cert.SsdInRefIdeal.nD Cert.SsdInRefIdeal.τ).loc Cert.SsdInRefIdeal.main_arg1) = m ((c.tc : Thread Cert.SsdInIdeal.nD Cert.SsdInIdeal.τ).loc Cert.SsdInIdeal.main_arg1)
      ∧ m' ((c.tc : Thread Cert.SsdInRefIdeal.nD Cert.SsdInRefIdeal.τ).loc Cert.SsdInRefIdeal.main_arg2) = m ((c.tc : Thread Cert.SsdInIdeal.nD Cert.SsdInIdeal.τ).loc Cert.SsdInIdeal.main_arg2)
      ∧ m' ((c.tc : Thread Cert.SsdInRefIdeal.nD Cert.SsdInRefIdeal.τ).loc Cert.SsdInRefIdeal.main_arg3) = m ((c.tc : Thread Cert.SsdInIdeal.nD Cert.SsdInIdeal.τ).loc Cert.SsdInIdeal.main_arg3)
      ∧ m' ((c.tc : Thread Cert.SsdInRefIdeal.nD Cert.SsdInRefIdeal.τ).loc Cert.SsdInRefIdeal.main_arg4) = m ((c.tc : Thread Cert.SsdInIdeal.nD Cert.SsdInIdeal.τ).loc Cert.SsdInIdeal.main_arg4)
      ∧ m' ((c.tc : Thread Cert.SsdInRefIdeal.nD Cert.SsdInRefIdeal.τ).loc Cert.SsdInRefIdeal.main_arg5) = m ((c.tc : Thread Cert.SsdInIdeal.nD Cert.SsdInIdeal.τ).loc Cert.SsdInIdeal.main_arg5)
      ∧ m' ((c.tc : Thread Cert.SsdInRefIdeal.nD Cert.SsdInRefIdeal.τ).loc Cert.SsdInRefIdeal.main_arg6) = m ((c.tc : Thread Cert.SsdInIdeal.nD Cert.SsdInIdeal.τ).loc Cert.SsdInIdeal.main_arg6)) →
    ∃ (v0 : (c : Dev Cert.SsdInIdeal.nD) → Buf (Elt Ideal) ((c.tc : Thread Cert.SsdInIdeal.nD Cert.SsdInIdeal.τ).loc Cert.SsdInIdeal.main_v0_0)) (v1 : (c : Dev Cert.SsdInIdeal.nD) → Buf (Elt Ideal) ((c.tc : Thread Cert.SsdInIdeal.nD Cert.SsdInIdeal.τ).loc Cert.SsdInIdeal.main_v0_1)) (v2 : (c : Dev Cert.SsdInIdeal.nD) → Buf (Elt Ideal) ((c.tc : Thread Cert.SsdInIdeal.nD Cert.SsdInIdeal.τ).loc Cert.SsdInIdeal.main_v0_2)),
      θ_run (Cert.SsdInIdeal.defs (F := Ideal)) (onTc (τ := Cert.SsdInIdeal.τ) (Cert.SsdInIdeal.main (F := Ideal))) ⟨m, fun _ => 0, g⟩ (fun r => ∀ c : Dev Cert.SsdInIdeal.nD,
          r.2.mem ((c.tc : Thread Cert.SsdInIdeal.nD Cert.SsdInIdeal.τ).loc Cert.SsdInIdeal.main_v0_0) = v0 c
          ∧ r.2.mem ((c.tc : Thread Cert.SsdInIdeal.nD Cert.SsdInIdeal.τ).loc Cert.SsdInIdeal.main_v0_1) = v1 c
          ∧ r.2.mem ((c.tc : Thread Cert.SsdInIdeal.nD Cert.SsdInIdeal.τ).loc Cert.SsdInIdeal.main_v0_2) = v2 c
          ∧ r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
          ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1)
          ∧ r.2.mem ((c.tc : Thread Cert.SsdInIdeal.nD Cert.SsdInIdeal.τ).loc Cert.SsdInIdeal.main_arg2) = m ((c.tc : Thread Cert.SsdInIdeal.nD Cert.SsdInIdeal.τ).loc Cert.SsdInIdeal.main_arg2)
          ∧ r.2.mem ((c.tc : Thread Cert.SsdInIdeal.nD Cert.SsdInIdeal.τ).loc Cert.SsdInIdeal.main_arg3) = m ((c.tc : Thread Cert.SsdInIdeal.nD Cert.SsdInIdeal.τ).loc Cert.SsdInIdeal.main_arg3)
          ∧ r.2.mem ((c.tc : Thread Cert.SsdInIdeal.nD Cert.SsdInIdeal.τ).loc Cert.SsdInIdeal.main_arg4) = m ((c.tc : Thread Cert.SsdInIdeal.nD Cert.SsdInIdeal.τ).loc Cert.SsdInIdeal.main_arg4)
          ∧ r.2.mem ((c.tc : Thread Cert.SsdInIdeal.nD Cert.SsdInIdeal.τ).loc Cert.SsdInIdeal.main_arg5) = m ((c.tc : Thread Cert.SsdInIdeal.nD Cert.SsdInIdeal.τ).loc Cert.SsdInIdeal.main_arg5)
          ∧ r.2.mem ((c.tc : Thread Cert.SsdInIdeal.nD Cert.SsdInIdeal.τ).loc Cert.SsdInIdeal.main_arg6) = m ((c.tc : Thread Cert.SsdInIdeal.nD Cert.SsdInIdeal.τ).loc Cert.SsdInIdeal.main_arg6))
      ∧ θ_run (Cert.SsdInRefIdeal.defs (F := Ideal)) (onTc (τ := Cert.SsdInRefIdeal.τ) (Cert.SsdInRefIdeal.main (F := Ideal))) ⟨m', fun _ => 0, g'⟩ (fun r => ∀ c : Dev Cert.SsdInRefIdeal.nD,
          r.2.mem ((c.tc : Thread Cert.SsdInRefIdeal.nD Cert.SsdInRefIdeal.τ).loc Cert.SsdInRefIdeal.main_v40) = v0 c
          ∧ r.2.mem ((c.tc : Thread Cert.SsdInRefIdeal.nD Cert.SsdInRefIdeal.τ).loc Cert.SsdInRefIdeal.main_v41) = v1 c
          ∧ r.2.mem ((c.tc : Thread Cert.SsdInRefIdeal.nD Cert.SsdInRefIdeal.τ).loc Cert.SsdInRefIdeal.main_v23) = v2 c
          ∧ r.2.mem ((c.tc : Thread Cert.SsdInRefIdeal.nD Cert.SsdInRefIdeal.τ).loc Cert.SsdInRefIdeal.main_arg0) = m' ((c.tc : Thread Cert.SsdInRefIdeal.nD Cert.SsdInRefIdeal.τ).loc Cert.SsdInRefIdeal.main_arg0)
          ∧ r.2.mem ((c.tc : Thread Cert.SsdInRefIdeal.nD Cert.SsdInRefIdeal.τ).loc Cert.SsdInRefIdeal.main_arg1) = m' ((c.tc : Thread Cert.SsdInRefIdeal.nD Cert.SsdInRefIdeal.τ).loc Cert.SsdInRefIdeal.main_arg1)
          ∧ r.2.mem ((c.tc : Thread Cert.SsdInRefIdeal.nD Cert.SsdInRefIdeal.τ).loc Cert.SsdInRefIdeal.main_arg2) = m' ((c.tc : Thread Cert.SsdInRefIdeal.nD Cert.SsdInRefIdeal.τ).loc Cert.SsdInRefIdeal.main_arg2)
          ∧ r.2.mem ((c.tc : Thread Cert.SsdInRefIdeal.nD Cert.SsdInRefIdeal.τ).loc Cert.SsdInRefIdeal.main_arg3) = m' ((c.tc : Thread Cert.SsdInRefIdeal.nD Cert.SsdInRefIdeal.τ).loc Cert.SsdInRefIdeal.main_arg3)
          ∧ r.2.mem ((c.tc : Thread Cert.SsdInRefIdeal.nD Cert.SsdInRefIdeal.τ).loc Cert.SsdInRefIdeal.main_arg4) = m' ((c.tc : Thread Cert.SsdInRefIdeal.nD Cert.SsdInRefIdeal.τ).loc Cert.SsdInRefIdeal.main_arg4)
          ∧ r.2.mem ((c.tc : Thread Cert.SsdInRefIdeal.nD Cert.SsdInRefIdeal.τ).loc Cert.SsdInRefIdeal.main_arg5) = m' ((c.tc : Thread Cert.SsdInRefIdeal.nD Cert.SsdInRefIdeal.τ).loc Cert.SsdInRefIdeal.main_arg5)
          ∧ r.2.mem ((c.tc : Thread Cert.SsdInRefIdeal.nD Cert.SsdInRefIdeal.τ).loc Cert.SsdInRefIdeal.main_arg6) = m' ((c.tc : Thread Cert.SsdInRefIdeal.nD Cert.SsdInRefIdeal.τ).loc Cert.SsdInRefIdeal.main_arg6))

def preserves_CmWin_CmWinIdeal : Prop :=
  True

def algebraic_CmWinIdeal_CmWinRefIdeal [hCmWinIdeal : Cert.CmWinIdeal.Facts] [hCmWinRefIdeal : Cert.CmWinRefIdeal.Facts] : Prop :=
  ∀ (m : (ℓ : Loc Cert.CmWinIdeal.nD Cert.CmWinIdeal.τ Cert.CmWinIdeal.sig) → Buf (Elt Ideal) ℓ) (g : Dev Cert.CmWinIdeal.nD → PrngReg)
    (m' : (ℓ : Loc Cert.CmWinRefIdeal.nD Cert.CmWinRefIdeal.τ Cert.CmWinRefIdeal.sig) → Buf (Elt Ideal) ℓ) (g' : Dev Cert.CmWinRefIdeal.nD → PrngReg), Pre_CmWinIdeal m →
    (∀ c : Dev Cert.CmWinIdeal.nD,
      m' ((c.tc : Thread Cert.CmWinRefIdeal.nD Cert.CmWinRefIdeal.τ).loc Cert.CmWinRefIdeal.main_arg0) = m ((c.tc : Thread Cert.CmWinIdeal.nD Cert.CmWinIdeal.τ).loc Cert.CmWinIdeal.main_arg0)
      ∧ m' ((c.tc : Thread Cert.CmWinRefIdeal.nD Cert.CmWinRefIdeal.τ).loc Cert.CmWinRefIdeal.main_arg1) = m ((c.tc : Thread Cert.CmWinIdeal.nD Cert.CmWinIdeal.τ).loc Cert.CmWinIdeal.main_arg1)) →
    ∃ (v0 : (c : Dev Cert.CmWinIdeal.nD) → Buf (Elt Ideal) ((c.tc : Thread Cert.CmWinIdeal.nD Cert.CmWinIdeal.τ).loc Cert.CmWinIdeal.main_v0)),
      θ_run (Cert.CmWinIdeal.defs (F := Ideal)) (onTc (τ := Cert.CmWinIdeal.τ) (Cert.CmWinIdeal.main (F := Ideal))) ⟨m, fun _ => 0, g⟩ (fun r => ∀ c : Dev Cert.CmWinIdeal.nD,
          r.2.mem ((c.tc : Thread Cert.CmWinIdeal.nD Cert.CmWinIdeal.τ).loc Cert.CmWinIdeal.main_v0) = v0 c
          ∧ r.2.mem ((c.tc : Thread Cert.CmWinIdeal.nD Cert.CmWinIdeal.τ).loc Cert.CmWinIdeal.main_arg0) = m ((c.tc : Thread Cert.CmWinIdeal.nD Cert.CmWinIdeal.τ).loc Cert.CmWinIdeal.main_arg0)
          ∧ r.2.mem ((c.tc : Thread Cert.CmWinIdeal.nD Cert.CmWinIdeal.τ).loc Cert.CmWinIdeal.main_arg1) = m ((c.tc : Thread Cert.CmWinIdeal.nD Cert.CmWinIdeal.τ).loc Cert.CmWinIdeal.main_arg1))
      ∧ θ_run (Cert.CmWinRefIdeal.defs (F := Ideal)) (onTc (τ := Cert.CmWinRefIdeal.τ) (Cert.CmWinRefIdeal.main (F := Ideal))) ⟨m', fun _ => 0, g'⟩ (fun r => ∀ c : Dev Cert.CmWinRefIdeal.nD,
          r.2.mem ((c.tc : Thread Cert.CmWinRefIdeal.nD Cert.CmWinRefIdeal.τ).loc Cert.CmWinRefIdeal.main_v5) = v0 c
          ∧ r.2.mem ((c.tc : Thread Cert.CmWinRefIdeal.nD Cert.CmWinRefIdeal.τ).loc Cert.CmWinRefIdeal.main_arg0) = m' ((c.tc : Thread Cert.CmWinRefIdeal.nD Cert.CmWinRefIdeal.τ).loc Cert.CmWinRefIdeal.main_arg0)
          ∧ r.2.mem ((c.tc : Thread Cert.CmWinRefIdeal.nD Cert.CmWinRefIdeal.τ).loc Cert.CmWinRefIdeal.main_arg1) = m' ((c.tc : Thread Cert.CmWinRefIdeal.nD Cert.CmWinRefIdeal.τ).loc Cert.CmWinRefIdeal.main_arg1))

def preserves_SsdWinZ_SsdWinZIdeal : Prop :=
  True

def algebraic_SsdWinZIdeal_SsdWinZRefIdeal [hSsdWinZIdeal : Cert.SsdWinZIdeal.Facts] [hSsdWinZRefIdeal : Cert.SsdWinZRefIdeal.Facts] : Prop :=
  ∀ (m : (ℓ : Loc Cert.SsdWinZIdeal.nD Cert.SsdWinZIdeal.τ Cert.SsdWinZIdeal.sig) → Buf (Elt Ideal) ℓ) (g : Dev Cert.SsdWinZIdeal.nD → PrngReg)
    (m' : (ℓ : Loc Cert.SsdWinZRefIdeal.nD Cert.SsdWinZRefIdeal.τ Cert.SsdWinZRefIdeal.sig) → Buf (Elt Ideal) ℓ) (g' : Dev Cert.SsdWinZRefIdeal.nD → PrngReg), Pre_SsdWinZIdeal m →
    (∀ c : Dev Cert.SsdWinZIdeal.nD,
      m' ((c.tc : Thread Cert.SsdWinZRefIdeal.nD Cert.SsdWinZRefIdeal.τ).loc Cert.SsdWinZRefIdeal.main_arg0) = m ((c.tc : Thread Cert.SsdWinZIdeal.nD Cert.SsdWinZIdeal.τ).loc Cert.SsdWinZIdeal.main_arg0)
      ∧ m' ((c.tc : Thread Cert.SsdWinZRefIdeal.nD Cert.SsdWinZRefIdeal.τ).loc Cert.SsdWinZRefIdeal.main_arg1) = m ((c.tc : Thread Cert.SsdWinZIdeal.nD Cert.SsdWinZIdeal.τ).loc Cert.SsdWinZIdeal.main_arg1)) →
    ∃ (v0 : (c : Dev Cert.SsdWinZIdeal.nD) → Buf (Elt Ideal) ((c.tc : Thread Cert.SsdWinZIdeal.nD Cert.SsdWinZIdeal.τ).loc Cert.SsdWinZIdeal.main_v0)),
      θ_run (Cert.SsdWinZIdeal.defs (F := Ideal)) (onTc (τ := Cert.SsdWinZIdeal.τ) (Cert.SsdWinZIdeal.main (F := Ideal))) ⟨m, fun _ => 0, g⟩ (fun r => ∀ c : Dev Cert.SsdWinZIdeal.nD,
          r.2.mem ((c.tc : Thread Cert.SsdWinZIdeal.nD Cert.SsdWinZIdeal.τ).loc Cert.SsdWinZIdeal.main_v0) = v0 c
          ∧ r.2.mem ((c.tc : Thread Cert.SsdWinZIdeal.nD Cert.SsdWinZIdeal.τ).loc Cert.SsdWinZIdeal.main_arg0) = m ((c.tc : Thread Cert.SsdWinZIdeal.nD Cert.SsdWinZIdeal.τ).loc Cert.SsdWinZIdeal.main_arg0)
          ∧ r.2.mem ((c.tc : Thread Cert.SsdWinZIdeal.nD Cert.SsdWinZIdeal.τ).loc Cert.SsdWinZIdeal.main_arg1) = m ((c.tc : Thread Cert.SsdWinZIdeal.nD Cert.SsdWinZIdeal.τ).loc Cert.SsdWinZIdeal.main_arg1))
      ∧ θ_run (Cert.SsdWinZRefIdeal.defs (F := Ideal)) (onTc (τ := Cert.SsdWinZRefIdeal.τ) (Cert.SsdWinZRefIdeal.main (F := Ideal))) ⟨m', fun _ => 0, g'⟩ (fun r => ∀ c : Dev Cert.SsdWinZRefIdeal.nD,
          r.2.mem ((c.tc : Thread Cert.SsdWinZRefIdeal.nD Cert.SsdWinZRefIdeal.τ).loc Cert.SsdWinZRefIdeal.main_v7) = v0 c
          ∧ r.2.mem ((c.tc : Thread Cert.SsdWinZRefIdeal.nD Cert.SsdWinZRefIdeal.τ).loc Cert.SsdWinZRefIdeal.main_arg0) = m' ((c.tc : Thread Cert.SsdWinZRefIdeal.nD Cert.SsdWinZRefIdeal.τ).loc Cert.SsdWinZRefIdeal.main_arg0)
          ∧ r.2.mem ((c.tc : Thread Cert.SsdWinZRefIdeal.nD Cert.SsdWinZRefIdeal.τ).loc Cert.SsdWinZRefIdeal.main_arg1) = m' ((c.tc : Thread Cert.SsdWinZRefIdeal.nD Cert.SsdWinZRefIdeal.τ).loc Cert.SsdWinZRefIdeal.main_arg1))

def preserves_SsdWinX_SsdWinXIdeal : Prop :=
  True

def algebraic_SsdWinXIdeal_SsdWinXRefIdeal [hSsdWinXIdeal : Cert.SsdWinXIdeal.Facts] [hSsdWinXRefIdeal : Cert.SsdWinXRefIdeal.Facts] : Prop :=
  ∀ (m : (ℓ : Loc Cert.SsdWinXIdeal.nD Cert.SsdWinXIdeal.τ Cert.SsdWinXIdeal.sig) → Buf (Elt Ideal) ℓ) (g : Dev Cert.SsdWinXIdeal.nD → PrngReg)
    (m' : (ℓ : Loc Cert.SsdWinXRefIdeal.nD Cert.SsdWinXRefIdeal.τ Cert.SsdWinXRefIdeal.sig) → Buf (Elt Ideal) ℓ) (g' : Dev Cert.SsdWinXRefIdeal.nD → PrngReg), Pre_SsdWinXIdeal m →
    (∀ c : Dev Cert.SsdWinXIdeal.nD,
      m' ((c.tc : Thread Cert.SsdWinXRefIdeal.nD Cert.SsdWinXRefIdeal.τ).loc Cert.SsdWinXRefIdeal.main_arg0) = m ((c.tc : Thread Cert.SsdWinXIdeal.nD Cert.SsdWinXIdeal.τ).loc Cert.SsdWinXIdeal.main_arg0)
      ∧ m' ((c.tc : Thread Cert.SsdWinXRefIdeal.nD Cert.SsdWinXRefIdeal.τ).loc Cert.SsdWinXRefIdeal.main_arg1) = m ((c.tc : Thread Cert.SsdWinXIdeal.nD Cert.SsdWinXIdeal.τ).loc Cert.SsdWinXIdeal.main_arg1)) →
    ∃ (v0 : (c : Dev Cert.SsdWinXIdeal.nD) → Buf (Elt Ideal) ((c.tc : Thread Cert.SsdWinXIdeal.nD Cert.SsdWinXIdeal.τ).loc Cert.SsdWinXIdeal.main_v0)),
      θ_run (Cert.SsdWinXIdeal.defs (F := Ideal)) (onTc (τ := Cert.SsdWinXIdeal.τ) (Cert.SsdWinXIdeal.main (F := Ideal))) ⟨m, fun _ => 0, g⟩ (fun r => ∀ c : Dev Cert.SsdWinXIdeal.nD,
          r.2.mem ((c.tc : Thread Cert.SsdWinXIdeal.nD Cert.SsdWinXIdeal.τ).loc Cert.SsdWinXIdeal.main_v0) = v0 c
          ∧ r.2.mem ((c.tc : Thread Cert.SsdWinXIdeal.nD Cert.SsdWinXIdeal.τ).loc Cert.SsdWinXIdeal.main_arg0) = m ((c.tc : Thread Cert.SsdWinXIdeal.nD Cert.SsdWinXIdeal.τ).loc Cert.SsdWinXIdeal.main_arg0)
          ∧ r.2.mem ((c.tc : Thread Cert.SsdWinXIdeal.nD Cert.SsdWinXIdeal.τ).loc Cert.SsdWinXIdeal.main_arg1) = m ((c.tc : Thread Cert.SsdWinXIdeal.nD Cert.SsdWinXIdeal.τ).loc Cert.SsdWinXIdeal.main_arg1))
      ∧ θ_run (Cert.SsdWinXRefIdeal.defs (F := Ideal)) (onTc (τ := Cert.SsdWinXRefIdeal.τ) (Cert.SsdWinXRefIdeal.main (F := Ideal))) ⟨m', fun _ => 0, g'⟩ (fun r => ∀ c : Dev Cert.SsdWinXRefIdeal.nD,
          r.2.mem ((c.tc : Thread Cert.SsdWinXRefIdeal.nD Cert.SsdWinXRefIdeal.τ).loc Cert.SsdWinXRefIdeal.main_v7) = v0 c
          ∧ r.2.mem ((c.tc : Thread Cert.SsdWinXRefIdeal.nD Cert.SsdWinXRefIdeal.τ).loc Cert.SsdWinXRefIdeal.main_arg0) = m' ((c.tc : Thread Cert.SsdWinXRefIdeal.nD Cert.SsdWinXRefIdeal.τ).loc Cert.SsdWinXRefIdeal.main_arg0)
          ∧ r.2.mem ((c.tc : Thread Cert.SsdWinXRefIdeal.nD Cert.SsdWinXRefIdeal.τ).loc Cert.SsdWinXRefIdeal.main_arg1) = m' ((c.tc : Thread Cert.SsdWinXRefIdeal.nD Cert.SsdWinXRefIdeal.τ).loc Cert.SsdWinXRefIdeal.main_arg1))

def preserves_SsdWinT_SsdWinTIdeal : Prop :=
  True

def algebraic_SsdWinTIdeal_SsdWinTRefIdeal [hSsdWinTIdeal : Cert.SsdWinTIdeal.Facts] [hSsdWinTRefIdeal : Cert.SsdWinTRefIdeal.Facts] : Prop :=
  ∀ (m : (ℓ : Loc Cert.SsdWinTIdeal.nD Cert.SsdWinTIdeal.τ Cert.SsdWinTIdeal.sig) → Buf (Elt Ideal) ℓ) (g : Dev Cert.SsdWinTIdeal.nD → PrngReg)
    (m' : (ℓ : Loc Cert.SsdWinTRefIdeal.nD Cert.SsdWinTRefIdeal.τ Cert.SsdWinTRefIdeal.sig) → Buf (Elt Ideal) ℓ) (g' : Dev Cert.SsdWinTRefIdeal.nD → PrngReg), Pre_SsdWinTIdeal m →
    (∀ c : Dev Cert.SsdWinTIdeal.nD,
      m' ((c.tc : Thread Cert.SsdWinTRefIdeal.nD Cert.SsdWinTRefIdeal.τ).loc Cert.SsdWinTRefIdeal.main_arg0) = m ((c.tc : Thread Cert.SsdWinTIdeal.nD Cert.SsdWinTIdeal.τ).loc Cert.SsdWinTIdeal.main_arg0)
      ∧ m' ((c.tc : Thread Cert.SsdWinTRefIdeal.nD Cert.SsdWinTRefIdeal.τ).loc Cert.SsdWinTRefIdeal.main_arg1) = m ((c.tc : Thread Cert.SsdWinTIdeal.nD Cert.SsdWinTIdeal.τ).loc Cert.SsdWinTIdeal.main_arg1)) →
    ∃ (v0 : (c : Dev Cert.SsdWinTIdeal.nD) → Buf (Elt Ideal) ((c.tc : Thread Cert.SsdWinTIdeal.nD Cert.SsdWinTIdeal.τ).loc Cert.SsdWinTIdeal.main_v0)),
      θ_run (Cert.SsdWinTIdeal.defs (F := Ideal)) (onTc (τ := Cert.SsdWinTIdeal.τ) (Cert.SsdWinTIdeal.main (F := Ideal))) ⟨m, fun _ => 0, g⟩ (fun r => ∀ c : Dev Cert.SsdWinTIdeal.nD,
          r.2.mem ((c.tc : Thread Cert.SsdWinTIdeal.nD Cert.SsdWinTIdeal.τ).loc Cert.SsdWinTIdeal.main_v0) = v0 c
          ∧ r.2.mem ((c.tc : Thread Cert.SsdWinTIdeal.nD Cert.SsdWinTIdeal.τ).loc Cert.SsdWinTIdeal.main_arg0) = m ((c.tc : Thread Cert.SsdWinTIdeal.nD Cert.SsdWinTIdeal.τ).loc Cert.SsdWinTIdeal.main_arg0)
          ∧ r.2.mem ((c.tc : Thread Cert.SsdWinTIdeal.nD Cert.SsdWinTIdeal.τ).loc Cert.SsdWinTIdeal.main_arg1) = m ((c.tc : Thread Cert.SsdWinTIdeal.nD Cert.SsdWinTIdeal.τ).loc Cert.SsdWinTIdeal.main_arg1))
      ∧ θ_run (Cert.SsdWinTRefIdeal.defs (F := Ideal)) (onTc (τ := Cert.SsdWinTRefIdeal.τ) (Cert.SsdWinTRefIdeal.main (F := Ideal))) ⟨m', fun _ => 0, g'⟩ (fun r => ∀ c : Dev Cert.SsdWinTRefIdeal.nD,
          r.2.mem ((c.tc : Thread Cert.SsdWinTRefIdeal.nD Cert.SsdWinTRefIdeal.τ).loc Cert.SsdWinTRefIdeal.main_v7) = v0 c
          ∧ r.2.mem ((c.tc : Thread Cert.SsdWinTRefIdeal.nD Cert.SsdWinTRefIdeal.τ).loc Cert.SsdWinTRefIdeal.main_arg0) = m' ((c.tc : Thread Cert.SsdWinTRefIdeal.nD Cert.SsdWinTRefIdeal.τ).loc Cert.SsdWinTRefIdeal.main_arg0)
          ∧ r.2.mem ((c.tc : Thread Cert.SsdWinTRefIdeal.nD Cert.SsdWinTRefIdeal.τ).loc Cert.SsdWinTRefIdeal.main_arg1) = m' ((c.tc : Thread Cert.SsdWinTRefIdeal.nD Cert.SsdWinTRefIdeal.τ).loc Cert.SsdWinTRefIdeal.main_arg1))

def preserves_CmInF_CmInFIdeal : Prop :=
  True

def algebraic_CmInFIdeal_CmInFRefIdeal [hCmInFIdeal : Cert.CmInFIdeal.Facts] [hCmInFRefIdeal : Cert.CmInFRefIdeal.Facts] : Prop :=
  ∀ (m : (ℓ : Loc Cert.CmInFIdeal.nD Cert.CmInFIdeal.τ Cert.CmInFIdeal.sig) → Buf (Elt Ideal) ℓ) (g : Dev Cert.CmInFIdeal.nD → PrngReg)
    (m' : (ℓ : Loc Cert.CmInFRefIdeal.nD Cert.CmInFRefIdeal.τ Cert.CmInFRefIdeal.sig) → Buf (Elt Ideal) ℓ) (g' : Dev Cert.CmInFRefIdeal.nD → PrngReg), Pre_CmInFIdeal m →
    (∀ c : Dev Cert.CmInFIdeal.nD,
      m' ((c.tc : Thread Cert.CmInFRefIdeal.nD Cert.CmInFRefIdeal.τ).loc Cert.CmInFRefIdeal.main_arg0) = m ((c.tc : Thread Cert.CmInFIdeal.nD Cert.CmInFIdeal.τ).loc Cert.CmInFIdeal.main_arg0)
      ∧ m' ((c.tc : Thread Cert.CmInFRefIdeal.nD Cert.CmInFRefIdeal.τ).loc Cert.CmInFRefIdeal.main_arg1) = m ((c.tc : Thread Cert.CmInFIdeal.nD Cert.CmInFIdeal.τ).loc Cert.CmInFIdeal.main_arg1)
      ∧ m' ((c.tc : Thread Cert.CmInFRefIdeal.nD Cert.CmInFRefIdeal.τ).loc Cert.CmInFRefIdeal.main_arg2) = m ((c.tc : Thread Cert.CmInFIdeal.nD Cert.CmInFIdeal.τ).loc Cert.CmInFIdeal.main_arg2)) →
    ∃ (v0 : (c : Dev Cert.CmInFIdeal.nD) → Buf (Elt Ideal) ((c.tc : Thread Cert.CmInFIdeal.nD Cert.CmInFIdeal.τ).loc Cert.CmInFIdeal.main_v0)),
      θ_run (Cert.CmInFIdeal.defs (F := Ideal)) (onTc (τ := Cert.CmInFIdeal.τ) (Cert.CmInFIdeal.main (F := Ideal))) ⟨m, fun _ => 0, g⟩ (fun r => ∀ c : Dev Cert.CmInFIdeal.nD,
          r.2.mem ((c.tc : Thread Cert.CmInFIdeal.nD Cert.CmInFIdeal.τ).loc Cert.CmInFIdeal.main_v0) = v0 c
          ∧ r.2.mem ((c.tc : Thread Cert.CmInFIdeal.nD Cert.CmInFIdeal.τ).loc Cert.CmInFIdeal.main_arg0) = m ((c.tc : Thread Cert.CmInFIdeal.nD Cert.CmInFIdeal.τ).loc Cert.CmInFIdeal.main_arg0)
          ∧ r.2.mem ((c.tc : Thread Cert.CmInFIdeal.nD Cert.CmInFIdeal.τ).loc Cert.CmInFIdeal.main_arg1) = m ((c.tc : Thread Cert.CmInFIdeal.nD Cert.CmInFIdeal.τ).loc Cert.CmInFIdeal.main_arg1)
          ∧ r.2.mem ((c.tc : Thread Cert.CmInFIdeal.nD Cert.CmInFIdeal.τ).loc Cert.CmInFIdeal.main_arg2) = m ((c.tc : Thread Cert.CmInFIdeal.nD Cert.CmInFIdeal.τ).loc Cert.CmInFIdeal.main_arg2))
      ∧ θ_run (Cert.CmInFRefIdeal.defs (F := Ideal)) (onTc (τ := Cert.CmInFRefIdeal.τ) (Cert.CmInFRefIdeal.main (F := Ideal))) ⟨m', fun _ => 0, g'⟩ (fun r => ∀ c : Dev Cert.CmInFRefIdeal.nD,
          r.2.mem ((c.tc : Thread Cert.CmInFRefIdeal.nD Cert.CmInFRefIdeal.τ).loc Cert.CmInFRefIdeal.main_v14) = v0 c
          ∧ r.2.mem ((c.tc : Thread Cert.CmInFRefIdeal.nD Cert.CmInFRefIdeal.τ).loc Cert.CmInFRefIdeal.main_arg0) = m' ((c.tc : Thread Cert.CmInFRefIdeal.nD Cert.CmInFRefIdeal.τ).loc Cert.CmInFRefIdeal.main_arg0)
          ∧ r.2.mem ((c.tc : Thread Cert.CmInFRefIdeal.nD Cert.CmInFRefIdeal.τ).loc Cert.CmInFRefIdeal.main_arg1) = m' ((c.tc : Thread Cert.CmInFRefIdeal.nD Cert.CmInFRefIdeal.τ).loc Cert.CmInFRefIdeal.main_arg1)
          ∧ r.2.mem ((c.tc : Thread Cert.CmInFRefIdeal.nD Cert.CmInFRefIdeal.τ).loc Cert.CmInFRefIdeal.main_arg2) = m' ((c.tc : Thread Cert.CmInFRefIdeal.nD Cert.CmInFRefIdeal.τ).loc Cert.CmInFRefIdeal.main_arg2))

def preserves_SsdInF_SsdInFIdeal : Prop :=
  True

def algebraic_SsdInFIdeal_SsdInFRefIdeal [hSsdInFIdeal : Cert.SsdInFIdeal.Facts] [hSsdInFRefIdeal : Cert.SsdInFRefIdeal.Facts] : Prop :=
  ∀ (m : (ℓ : Loc Cert.SsdInFIdeal.nD Cert.SsdInFIdeal.τ Cert.SsdInFIdeal.sig) → Buf (Elt Ideal) ℓ) (g : Dev Cert.SsdInFIdeal.nD → PrngReg)
    (m' : (ℓ : Loc Cert.SsdInFRefIdeal.nD Cert.SsdInFRefIdeal.τ Cert.SsdInFRefIdeal.sig) → Buf (Elt Ideal) ℓ) (g' : Dev Cert.SsdInFRefIdeal.nD → PrngReg), Pre_SsdInFIdeal m →
    (∀ c : Dev Cert.SsdInFIdeal.nD,
      m' ((c.tc : Thread Cert.SsdInFRefIdeal.nD Cert.SsdInFRefIdeal.τ).loc Cert.SsdInFRefIdeal.main_arg0) = m ((c.tc : Thread Cert.SsdInFIdeal.nD Cert.SsdInFIdeal.τ).loc Cert.SsdInFIdeal.main_arg0)
      ∧ m' ((c.tc : Thread Cert.SsdInFRefIdeal.nD Cert.SsdInFRefIdeal.τ).loc Cert.SsdInFRefIdeal.main_arg1) = m ((c.tc : Thread Cert.SsdInFIdeal.nD Cert.SsdInFIdeal.τ).loc Cert.SsdInFIdeal.main_arg1)
      ∧ m' ((c.tc : Thread Cert.SsdInFRefIdeal.nD Cert.SsdInFRefIdeal.τ).loc Cert.SsdInFRefIdeal.main_arg2) = m ((c.tc : Thread Cert.SsdInFIdeal.nD Cert.SsdInFIdeal.τ).loc Cert.SsdInFIdeal.main_arg2)) →
    ∃ (v0 : (c : Dev Cert.SsdInFIdeal.nD) → Buf (Elt Ideal) ((c.tc : Thread Cert.SsdInFIdeal.nD Cert.SsdInFIdeal.τ).loc Cert.SsdInFIdeal.main_v0_0)) (v1 : (c : Dev Cert.SsdInFIdeal.nD) → Buf (Elt Ideal) ((c.tc : Thread Cert.SsdInFIdeal.nD Cert.SsdInFIdeal.τ).loc Cert.SsdInFIdeal.main_v0_1)),
      θ_run (Cert.SsdInFIdeal.defs (F := Ideal)) (onTc (τ := Cert.SsdInFIdeal.τ) (Cert.SsdInFIdeal.main (F := Ideal))) ⟨m, fun _ => 0, g⟩ (fun r => ∀ c : Dev Cert.SsdInFIdeal.nD,
          r.2.mem ((c.tc : Thread Cert.SsdInFIdeal.nD Cert.SsdInFIdeal.τ).loc Cert.SsdInFIdeal.main_v0_0) = v0 c
          ∧ r.2.mem ((c.tc : Thread Cert.SsdInFIdeal.nD Cert.SsdInFIdeal.τ).loc Cert.SsdInFIdeal.main_v0_1) = v1 c
          ∧ r.2.mem ((c.tc : Thread Cert.SsdInFIdeal.nD Cert.SsdInFIdeal.τ).loc Cert.SsdInFIdeal.main_arg0) = m ((c.tc : Thread Cert.SsdInFIdeal.nD Cert.SsdInFIdeal.τ).loc Cert.SsdInFIdeal.main_arg0)
          ∧ r.2.mem ((c.tc : Thread Cert.SsdInFIdeal.nD Cert.SsdInFIdeal.τ).loc Cert.SsdInFIdeal.main_arg1) = m ((c.tc : Thread Cert.SsdInFIdeal.nD Cert.SsdInFIdeal.τ).loc Cert.SsdInFIdeal.main_arg1)
          ∧ r.2.mem ((c.tc : Thread Cert.SsdInFIdeal.nD Cert.SsdInFIdeal.τ).loc Cert.SsdInFIdeal.main_arg2) = m ((c.tc : Thread Cert.SsdInFIdeal.nD Cert.SsdInFIdeal.τ).loc Cert.SsdInFIdeal.main_arg2))
      ∧ θ_run (Cert.SsdInFRefIdeal.defs (F := Ideal)) (onTc (τ := Cert.SsdInFRefIdeal.τ) (Cert.SsdInFRefIdeal.main (F := Ideal))) ⟨m', fun _ => 0, g'⟩ (fun r => ∀ c : Dev Cert.SsdInFRefIdeal.nD,
          r.2.mem ((c.tc : Thread Cert.SsdInFRefIdeal.nD Cert.SsdInFRefIdeal.τ).loc Cert.SsdInFRefIdeal.main_v15) = v0 c
          ∧ r.2.mem ((c.tc : Thread Cert.SsdInFRefIdeal.nD Cert.SsdInFRefIdeal.τ).loc Cert.SsdInFRefIdeal.main_v16) = v1 c
          ∧ r.2.mem ((c.tc : Thread Cert.SsdInFRefIdeal.nD Cert.SsdInFRefIdeal.τ).loc Cert.SsdInFRefIdeal.main_arg0) = m' ((c.tc : Thread Cert.SsdInFRefIdeal.nD Cert.SsdInFRefIdeal.τ).loc Cert.SsdInFRefIdeal.main_arg0)
          ∧ r.2.mem ((c.tc : Thread Cert.SsdInFRefIdeal.nD Cert.SsdInFRefIdeal.τ).loc Cert.SsdInFRefIdeal.main_arg1) = m' ((c.tc : Thread Cert.SsdInFRefIdeal.nD Cert.SsdInFRefIdeal.τ).loc Cert.SsdInFRefIdeal.main_arg1)
          ∧ r.2.mem ((c.tc : Thread Cert.SsdInFRefIdeal.nD Cert.SsdInFRefIdeal.τ).loc Cert.SsdInFRefIdeal.main_arg2) = m' ((c.tc : Thread Cert.SsdInFRefIdeal.nD Cert.SsdInFRefIdeal.τ).loc Cert.SsdInFRefIdeal.main_arg2))

def preserves_ConfOutF_ConfOutFIdeal : Prop :=
  True

def algebraic_ConfOutFIdeal_ConfOutFRefIdeal [hConfOutFIdeal : Cert.ConfOutFIdeal.Facts] [hConfOutFRefIdeal : Cert.ConfOutFRefIdeal.Facts] : Prop :=
  ∀ (m : (ℓ : Loc Cert.ConfOutFIdeal.nD Cert.ConfOutFIdeal.τ Cert.ConfOutFIdeal.sig) → Buf (Elt Ideal) ℓ) (g : Dev Cert.ConfOutFIdeal.nD → PrngReg)
    (m' : (ℓ : Loc Cert.ConfOutFRefIdeal.nD Cert.ConfOutFRefIdeal.τ Cert.ConfOutFRefIdeal.sig) → Buf (Elt Ideal) ℓ) (g' : Dev Cert.ConfOutFRefIdeal.nD → PrngReg), Pre_ConfOutFIdeal m →
    (∀ c : Dev Cert.ConfOutFIdeal.nD,
      m' ((c.tc : Thread Cert.ConfOutFRefIdeal.nD Cert.ConfOutFRefIdeal.τ).loc Cert.ConfOutFRefIdeal.main_arg0) = m ((c.tc : Thread Cert.ConfOutFIdeal.nD Cert.ConfOutFIdeal.τ).loc Cert.ConfOutFIdeal.main_arg0)
      ∧ m' ((c.tc : Thread Cert.ConfOutFRefIdeal.nD Cert.ConfOutFRefIdeal.τ).loc Cert.ConfOutFRefIdeal.main_arg1) = m ((c.tc : Thread Cert.ConfOutFIdeal.nD Cert.ConfOutFIdeal.τ).loc Cert.ConfOutFIdeal.main_arg1)
      ∧ m' ((c.tc : Thread Cert.ConfOutFRefIdeal.nD Cert.ConfOutFRefIdeal.τ).loc Cert.ConfOutFRefIdeal.main_arg2) = m ((c.tc : Thread Cert.ConfOutFIdeal.nD Cert.ConfOutFIdeal.τ).loc Cert.ConfOutFIdeal.main_arg2)
      ∧ m' ((c.tc : Thread Cert.ConfOutFRefIdeal.nD Cert.ConfOutFRefIdeal.τ).loc Cert.ConfOutFRefIdeal.main_arg3) = m ((c.tc : Thread Cert.ConfOutFIdeal.nD Cert.ConfOutFIdeal.τ).loc Cert.ConfOutFIdeal.main_arg3)
      ∧ m' ((c.tc : Thread Cert.ConfOutFRefIdeal.nD Cert.ConfOutFRefIdeal.τ).loc Cert.ConfOutFRefIdeal.main_arg4) = m ((c.tc : Thread Cert.ConfOutFIdeal.nD Cert.ConfOutFIdeal.τ).loc Cert.ConfOutFIdeal.main_arg4)
      ∧ m' ((c.tc : Thread Cert.ConfOutFRefIdeal.nD Cert.ConfOutFRefIdeal.τ).loc Cert.ConfOutFRefIdeal.main_arg5) = m ((c.tc : Thread Cert.ConfOutFIdeal.nD Cert.ConfOutFIdeal.τ).loc Cert.ConfOutFIdeal.main_arg5)) →
    ∃ (v0 : (c : Dev Cert.ConfOutFIdeal.nD) → Buf (Elt Ideal) ((c.tc : Thread Cert.ConfOutFIdeal.nD Cert.ConfOutFIdeal.τ).loc Cert.ConfOutFIdeal.main_v0)),
      θ_run (Cert.ConfOutFIdeal.defs (F := Ideal)) (onTc (τ := Cert.ConfOutFIdeal.τ) (Cert.ConfOutFIdeal.main (F := Ideal))) ⟨m, fun _ => 0, g⟩ (fun r => ∀ c : Dev Cert.ConfOutFIdeal.nD,
          r.2.mem ((c.tc : Thread Cert.ConfOutFIdeal.nD Cert.ConfOutFIdeal.τ).loc Cert.ConfOutFIdeal.main_v0) = v0 c
          ∧ r.2.mem ((c.tc : Thread Cert.ConfOutFIdeal.nD Cert.ConfOutFIdeal.τ).loc Cert.ConfOutFIdeal.main_arg0) = m ((c.tc : Thread Cert.ConfOutFIdeal.nD Cert.ConfOutFIdeal.τ).loc Cert.ConfOutFIdeal.main_arg0)
          ∧ r.2.mem ((c.tc : Thread Cert.ConfOutFIdeal.nD Cert.ConfOutFIdeal.τ).loc Cert.ConfOutFIdeal.main_arg1) = m ((c.tc : Thread Cert.ConfOutFIdeal.nD Cert.ConfOutFIdeal.τ).loc Cert.ConfOutFIdeal.main_arg1)
          ∧ r.2.mem ((c.tc : Thread Cert.ConfOutFIdeal.nD Cert.ConfOutFIdeal.τ).loc Cert.ConfOutFIdeal.main_arg2) = m ((c.tc : Thread Cert.ConfOutFIdeal.nD Cert.ConfOutFIdeal.τ).loc Cert.ConfOutFIdeal.main_arg2)
          ∧ r.2.mem ((c.tc : Thread Cert.ConfOutFIdeal.nD Cert.ConfOutFIdeal.τ).loc Cert.ConfOutFIdeal.main_arg3) = m ((c.tc : Thread Cert.ConfOutFIdeal.nD Cert.ConfOutFIdeal.τ).loc Cert.ConfOutFIdeal.main_arg3)
          ∧ r.2.mem ((c.tc : Thread Cert.ConfOutFIdeal.nD Cert.ConfOutFIdeal.τ).loc Cert.ConfOutFIdeal.main_arg4) = m ((c.tc : Thread Cert.ConfOutFIdeal.nD Cert.ConfOutFIdeal.τ).loc Cert.ConfOutFIdeal.main_arg4)
          ∧ r.2.mem ((c.tc : Thread Cert.ConfOutFIdeal.nD Cert.ConfOutFIdeal.τ).loc Cert.ConfOutFIdeal.main_arg5) = m ((c.tc : Thread Cert.ConfOutFIdeal.nD Cert.ConfOutFIdeal.τ).loc Cert.ConfOutFIdeal.main_arg5))
      ∧ θ_run (Cert.ConfOutFRefIdeal.defs (F := Ideal)) (onTc (τ := Cert.ConfOutFRefIdeal.τ) (Cert.ConfOutFRefIdeal.main (F := Ideal))) ⟨m', fun _ => 0, g'⟩ (fun r => ∀ c : Dev Cert.ConfOutFRefIdeal.nD,
          r.2.mem ((c.tc : Thread Cert.ConfOutFRefIdeal.nD Cert.ConfOutFRefIdeal.τ).loc Cert.ConfOutFRefIdeal.main_v28) = v0 c
          ∧ r.2.mem ((c.tc : Thread Cert.ConfOutFRefIdeal.nD Cert.ConfOutFRefIdeal.τ).loc Cert.ConfOutFRefIdeal.main_arg0) = m' ((c.tc : Thread Cert.ConfOutFRefIdeal.nD Cert.ConfOutFRefIdeal.τ).loc Cert.ConfOutFRefIdeal.main_arg0)
          ∧ r.2.mem ((c.tc : Thread Cert.ConfOutFRefIdeal.nD Cert.ConfOutFRefIdeal.τ).loc Cert.ConfOutFRefIdeal.main_arg1) = m' ((c.tc : Thread Cert.ConfOutFRefIdeal.nD Cert.ConfOutFRefIdeal.τ).loc Cert.ConfOutFRefIdeal.main_arg1)
          ∧ r.2.mem ((c.tc : Thread Cert.ConfOutFRefIdeal.nD Cert.ConfOutFRefIdeal.τ).loc Cert.ConfOutFRefIdeal.main_arg2) = m' ((c.tc : Thread Cert.ConfOutFRefIdeal.nD Cert.ConfOutFRefIdeal.τ).loc Cert.ConfOutFRefIdeal.main_arg2)
          ∧ r.2.mem ((c.tc : Thread Cert.ConfOutFRefIdeal.nD Cert.ConfOutFRefIdeal.τ).loc Cert.ConfOutFRefIdeal.main_arg3) = m' ((c.tc : Thread Cert.ConfOutFRefIdeal.nD Cert.ConfOutFRefIdeal.τ).loc Cert.ConfOutFRefIdeal.main_arg3)
          ∧ r.2.mem ((c.tc : Thread Cert.ConfOutFRefIdeal.nD Cert.ConfOutFRefIdeal.τ).loc Cert.ConfOutFRefIdeal.main_arg4) = m' ((c.tc : Thread Cert.ConfOutFRefIdeal.nD Cert.ConfOutFRefIdeal.τ).loc Cert.ConfOutFRefIdeal.main_arg4)
          ∧ r.2.mem ((c.tc : Thread Cert.ConfOutFRefIdeal.nD Cert.ConfOutFRefIdeal.τ).loc Cert.ConfOutFRefIdeal.main_arg5) = m' ((c.tc : Thread Cert.ConfOutFRefIdeal.nD Cert.ConfOutFRefIdeal.τ).loc Cert.ConfOutFRefIdeal.main_arg5))

def preserves_SsdOutF_SsdOutFIdeal : Prop :=
  True

def algebraic_SsdOutFIdeal_SsdOutFRefIdeal [hSsdOutFIdeal : Cert.SsdOutFIdeal.Facts] [hSsdOutFRefIdeal : Cert.SsdOutFRefIdeal.Facts] : Prop :=
  ∀ (m : (ℓ : Loc Cert.SsdOutFIdeal.nD Cert.SsdOutFIdeal.τ Cert.SsdOutFIdeal.sig) → Buf (Elt Ideal) ℓ) (g : Dev Cert.SsdOutFIdeal.nD → PrngReg)
    (m' : (ℓ : Loc Cert.SsdOutFRefIdeal.nD Cert.SsdOutFRefIdeal.τ Cert.SsdOutFRefIdeal.sig) → Buf (Elt Ideal) ℓ) (g' : Dev Cert.SsdOutFRefIdeal.nD → PrngReg), Pre_SsdOutFIdeal m →
    (∀ c : Dev Cert.SsdOutFIdeal.nD,
      m' ((c.tc : Thread Cert.SsdOutFRefIdeal.nD Cert.SsdOutFRefIdeal.τ).loc Cert.SsdOutFRefIdeal.main_arg0) = m ((c.tc : Thread Cert.SsdOutFIdeal.nD Cert.SsdOutFIdeal.τ).loc Cert.SsdOutFIdeal.main_arg0)
      ∧ m' ((c.tc : Thread Cert.SsdOutFRefIdeal.nD Cert.SsdOutFRefIdeal.τ).loc Cert.SsdOutFRefIdeal.main_arg1) = m ((c.tc : Thread Cert.SsdOutFIdeal.nD Cert.SsdOutFIdeal.τ).loc Cert.SsdOutFIdeal.main_arg1)
      ∧ m' ((c.tc : Thread Cert.SsdOutFRefIdeal.nD Cert.SsdOutFRefIdeal.τ).loc Cert.SsdOutFRefIdeal.main_arg2) = m ((c.tc : Thread Cert.SsdOutFIdeal.nD Cert.SsdOutFIdeal.τ).loc Cert.SsdOutFIdeal.main_arg2)
      ∧ m' ((c.tc : Thread Cert.SsdOutFRefIdeal.nD Cert.SsdOutFRefIdeal.τ).loc Cert.SsdOutFRefIdeal.main_arg3) = m ((c.tc : Thread Cert.SsdOutFIdeal.nD Cert.SsdOutFIdeal.τ).loc Cert.SsdOutFIdeal.main_arg3)
      ∧ m' ((c.tc : Thread Cert.SsdOutFRefIdeal.nD Cert.SsdOutFRefIdeal.τ).loc Cert.SsdOutFRefIdeal.main_arg4) = m ((c.tc : Thread Cert.SsdOutFIdeal.nD Cert.SsdOutFIdeal.τ).loc Cert.SsdOutFIdeal.main_arg4)
      ∧ m' ((c.tc : Thread Cert.SsdOutFRefIdeal.nD Cert.SsdOutFRefIdeal.τ).loc Cert.SsdOutFRefIdeal.main_arg5) = m ((c.tc : Thread Cert.SsdOutFIdeal.nD Cert.SsdOutFIdeal.τ).loc Cert.SsdOutFIdeal.main_arg5)
      ∧ m' ((c.tc : Thread Cert.SsdOutFRefIdeal.nD Cert.SsdOutFRefIdeal.τ).loc Cert.SsdOutFRefIdeal.main_arg6) = m ((c.tc : Thread Cert.SsdOutFIdeal.nD Cert.SsdOutFIdeal.τ).loc Cert.SsdOutFIdeal.main_arg6)
      ∧ m' ((c.tc : Thread Cert.SsdOutFRefIdeal.nD Cert.SsdOutFRefIdeal.τ).loc Cert.SsdOutFRefIdeal.main_arg7) = m ((c.tc : Thread Cert.SsdOutFIdeal.nD Cert.SsdOutFIdeal.τ).loc Cert.SsdOutFIdeal.main_arg7)) →
    ∃ (v0 : (c : Dev Cert.SsdOutFIdeal.nD) → Buf (Elt Ideal) ((c.tc : Thread Cert.SsdOutFIdeal.nD Cert.SsdOutFIdeal.τ).loc Cert.SsdOutFIdeal.main_v0)),
      θ_run (Cert.SsdOutFIdeal.defs (F := Ideal)) (onTc (τ := Cert.SsdOutFIdeal.τ) (Cert.SsdOutFIdeal.main (F := Ideal))) ⟨m, fun _ => 0, g⟩ (fun r => ∀ c : Dev Cert.SsdOutFIdeal.nD,
          r.2.mem ((c.tc : Thread Cert.SsdOutFIdeal.nD Cert.SsdOutFIdeal.τ).loc Cert.SsdOutFIdeal.main_v0) = v0 c
          ∧ r.2.mem ((c.tc : Thread Cert.SsdOutFIdeal.nD Cert.SsdOutFIdeal.τ).loc Cert.SsdOutFIdeal.main_arg0) = m ((c.tc : Thread Cert.SsdOutFIdeal.nD Cert.SsdOutFIdeal.τ).loc Cert.SsdOutFIdeal.main_arg0)
          ∧ r.2.mem ((c.tc : Thread Cert.SsdOutFIdeal.nD Cert.SsdOutFIdeal.τ).loc Cert.SsdOutFIdeal.main_arg1) = m ((c.tc : Thread Cert.SsdOutFIdeal.nD Cert.SsdOutFIdeal.τ).loc Cert.SsdOutFIdeal.main_arg1)
          ∧ r.2.mem ((c.tc : Thread Cert.SsdOutFIdeal.nD Cert.SsdOutFIdeal.τ).loc Cert.SsdOutFIdeal.main_arg2) = m ((c.tc : Thread Cert.SsdOutFIdeal.nD Cert.SsdOutFIdeal.τ).loc Cert.SsdOutFIdeal.main_arg2)
          ∧ r.2.mem ((c.tc : Thread Cert.SsdOutFIdeal.nD Cert.SsdOutFIdeal.τ).loc Cert.SsdOutFIdeal.main_arg3) = m ((c.tc : Thread Cert.SsdOutFIdeal.nD Cert.SsdOutFIdeal.τ).loc Cert.SsdOutFIdeal.main_arg3)
          ∧ r.2.mem ((c.tc : Thread Cert.SsdOutFIdeal.nD Cert.SsdOutFIdeal.τ).loc Cert.SsdOutFIdeal.main_arg4) = m ((c.tc : Thread Cert.SsdOutFIdeal.nD Cert.SsdOutFIdeal.τ).loc Cert.SsdOutFIdeal.main_arg4)
          ∧ r.2.mem ((c.tc : Thread Cert.SsdOutFIdeal.nD Cert.SsdOutFIdeal.τ).loc Cert.SsdOutFIdeal.main_arg5) = m ((c.tc : Thread Cert.SsdOutFIdeal.nD Cert.SsdOutFIdeal.τ).loc Cert.SsdOutFIdeal.main_arg5)
          ∧ r.2.mem ((c.tc : Thread Cert.SsdOutFIdeal.nD Cert.SsdOutFIdeal.τ).loc Cert.SsdOutFIdeal.main_arg6) = m ((c.tc : Thread Cert.SsdOutFIdeal.nD Cert.SsdOutFIdeal.τ).loc Cert.SsdOutFIdeal.main_arg6)
          ∧ r.2.mem ((c.tc : Thread Cert.SsdOutFIdeal.nD Cert.SsdOutFIdeal.τ).loc Cert.SsdOutFIdeal.main_arg7) = m ((c.tc : Thread Cert.SsdOutFIdeal.nD Cert.SsdOutFIdeal.τ).loc Cert.SsdOutFIdeal.main_arg7))
      ∧ θ_run (Cert.SsdOutFRefIdeal.defs (F := Ideal)) (onTc (τ := Cert.SsdOutFRefIdeal.τ) (Cert.SsdOutFRefIdeal.main (F := Ideal))) ⟨m', fun _ => 0, g'⟩ (fun r => ∀ c : Dev Cert.SsdOutFRefIdeal.nD,
          r.2.mem ((c.tc : Thread Cert.SsdOutFRefIdeal.nD Cert.SsdOutFRefIdeal.τ).loc Cert.SsdOutFRefIdeal.main_v25) = v0 c
          ∧ r.2.mem ((c.tc : Thread Cert.SsdOutFRefIdeal.nD Cert.SsdOutFRefIdeal.τ).loc Cert.SsdOutFRefIdeal.main_arg0) = m' ((c.tc : Thread Cert.SsdOutFRefIdeal.nD Cert.SsdOutFRefIdeal.τ).loc Cert.SsdOutFRefIdeal.main_arg0)
          ∧ r.2.mem ((c.tc : Thread Cert.SsdOutFRefIdeal.nD Cert.SsdOutFRefIdeal.τ).loc Cert.SsdOutFRefIdeal.main_arg1) = m' ((c.tc : Thread Cert.SsdOutFRefIdeal.nD Cert.SsdOutFRefIdeal.τ).loc Cert.SsdOutFRefIdeal.main_arg1)
          ∧ r.2.mem ((c.tc : Thread Cert.SsdOutFRefIdeal.nD Cert.SsdOutFRefIdeal.τ).loc Cert.SsdOutFRefIdeal.main_arg2) = m' ((c.tc : Thread Cert.SsdOutFRefIdeal.nD Cert.SsdOutFRefIdeal.τ).loc Cert.SsdOutFRefIdeal.main_arg2)
          ∧ r.2.mem ((c.tc : Thread Cert.SsdOutFRefIdeal.nD Cert.SsdOutFRefIdeal.τ).loc Cert.SsdOutFRefIdeal.main_arg3) = m' ((c.tc : Thread Cert.SsdOutFRefIdeal.nD Cert.SsdOutFRefIdeal.τ).loc Cert.SsdOutFRefIdeal.main_arg3)
          ∧ r.2.mem ((c.tc : Thread Cert.SsdOutFRefIdeal.nD Cert.SsdOutFRefIdeal.τ).loc Cert.SsdOutFRefIdeal.main_arg4) = m' ((c.tc : Thread Cert.SsdOutFRefIdeal.nD Cert.SsdOutFRefIdeal.τ).loc Cert.SsdOutFRefIdeal.main_arg4)
          ∧ r.2.mem ((c.tc : Thread Cert.SsdOutFRefIdeal.nD Cert.SsdOutFRefIdeal.τ).loc Cert.SsdOutFRefIdeal.main_arg5) = m' ((c.tc : Thread Cert.SsdOutFRefIdeal.nD Cert.SsdOutFRefIdeal.τ).loc Cert.SsdOutFRefIdeal.main_arg5)
          ∧ r.2.mem ((c.tc : Thread Cert.SsdOutFRefIdeal.nD Cert.SsdOutFRefIdeal.τ).loc Cert.SsdOutFRefIdeal.main_arg6) = m' ((c.tc : Thread Cert.SsdOutFRefIdeal.nD Cert.SsdOutFRefIdeal.τ).loc Cert.SsdOutFRefIdeal.main_arg6)
          ∧ r.2.mem ((c.tc : Thread Cert.SsdOutFRefIdeal.nD Cert.SsdOutFRefIdeal.τ).loc Cert.SsdOutFRefIdeal.main_arg7) = m' ((c.tc : Thread Cert.SsdOutFRefIdeal.nD Cert.SsdOutFRefIdeal.τ).loc Cert.SsdOutFRefIdeal.main_arg7))

def preserves_SsdConv_SsdConvIdeal : Prop :=
  True

def algebraic_SsdConvIdeal_SsdConvRefIdeal [hSsdConvIdeal : Cert.SsdConvIdeal.Facts] [hSsdConvRefIdeal : Cert.SsdConvRefIdeal.Facts] : Prop :=
  ∀ (m : (ℓ : Loc Cert.SsdConvIdeal.nD Cert.SsdConvIdeal.τ Cert.SsdConvIdeal.sig) → Buf (Elt Ideal) ℓ) (g : Dev Cert.SsdConvIdeal.nD → PrngReg)
    (m' : (ℓ : Loc Cert.SsdConvRefIdeal.nD Cert.SsdConvRefIdeal.τ Cert.SsdConvRefIdeal.sig) → Buf (Elt Ideal) ℓ) (g' : Dev Cert.SsdConvRefIdeal.nD → PrngReg), Pre_SsdConvIdeal m →
    (∀ c : Dev Cert.SsdConvIdeal.nD,
      m' ((c.tc : Thread Cert.SsdConvRefIdeal.nD Cert.SsdConvRefIdeal.τ).loc Cert.SsdConvRefIdeal.main_arg0) = m ((c.tc : Thread Cert.SsdConvIdeal.nD Cert.SsdConvIdeal.τ).loc Cert.SsdConvIdeal.main_arg0)
      ∧ m' ((c.tc : Thread Cert.SsdConvRefIdeal.nD Cert.SsdConvRefIdeal.τ).loc Cert.SsdConvRefIdeal.main_arg1) = m ((c.tc : Thread Cert.SsdConvIdeal.nD Cert.SsdConvIdeal.τ).loc Cert.SsdConvIdeal.main_arg1)
      ∧ m' ((c.tc : Thread Cert.SsdConvRefIdeal.nD Cert.SsdConvRefIdeal.τ).loc Cert.SsdConvRefIdeal.main_arg2) = m ((c.tc : Thread Cert.SsdConvIdeal.nD Cert.SsdConvIdeal.τ).loc Cert.SsdConvIdeal.main_arg2)) →
    ∃ (v0 : (c : Dev Cert.SsdConvIdeal.nD) → Buf (Elt Ideal) ((c.tc : Thread Cert.SsdConvIdeal.nD Cert.SsdConvIdeal.τ).loc Cert.SsdConvIdeal.main_v0)),
      θ_run (Cert.SsdConvIdeal.defs (F := Ideal)) (onTc (τ := Cert.SsdConvIdeal.τ) (Cert.SsdConvIdeal.main (F := Ideal))) ⟨m, fun _ => 0, g⟩ (fun r => ∀ c : Dev Cert.SsdConvIdeal.nD,
          r.2.mem ((c.tc : Thread Cert.SsdConvIdeal.nD Cert.SsdConvIdeal.τ).loc Cert.SsdConvIdeal.main_v0) = v0 c
          ∧ r.2.mem ((c.tc : Thread Cert.SsdConvIdeal.nD Cert.SsdConvIdeal.τ).loc Cert.SsdConvIdeal.main_arg0) = m ((c.tc : Thread Cert.SsdConvIdeal.nD Cert.SsdConvIdeal.τ).loc Cert.SsdConvIdeal.main_arg0)
          ∧ r.2.mem ((c.tc : Thread Cert.SsdConvIdeal.nD Cert.SsdConvIdeal.τ).loc Cert.SsdConvIdeal.main_arg1) = m ((c.tc : Thread Cert.SsdConvIdeal.nD Cert.SsdConvIdeal.τ).loc Cert.SsdConvIdeal.main_arg1)
          ∧ r.2.mem ((c.tc : Thread Cert.SsdConvIdeal.nD Cert.SsdConvIdeal.τ).loc Cert.SsdConvIdeal.main_arg2) = m ((c.tc : Thread Cert.SsdConvIdeal.nD Cert.SsdConvIdeal.τ).loc Cert.SsdConvIdeal.main_arg2))
      ∧ θ_run (Cert.SsdConvRefIdeal.defs (F := Ideal)) (onTc (τ := Cert.SsdConvRefIdeal.τ) (Cert.SsdConvRefIdeal.main (F := Ideal))) ⟨m', fun _ => 0, g'⟩ (fun r => ∀ c : Dev Cert.SsdConvRefIdeal.nD,
          r.2.mem ((c.tc : Thread Cert.SsdConvRefIdeal.nD Cert.SsdConvRefIdeal.τ).loc Cert.SsdConvRefIdeal.main_v41) = v0 c
          ∧ r.2.mem ((c.tc : Thread Cert.SsdConvRefIdeal.nD Cert.SsdConvRefIdeal.τ).loc Cert.SsdConvRefIdeal.main_arg0) = m' ((c.tc : Thread Cert.SsdConvRefIdeal.nD Cert.SsdConvRefIdeal.τ).loc Cert.SsdConvRefIdeal.main_arg0)
          ∧ r.2.mem ((c.tc : Thread Cert.SsdConvRefIdeal.nD Cert.SsdConvRefIdeal.τ).loc Cert.SsdConvRefIdeal.main_arg1) = m' ((c.tc : Thread Cert.SsdConvRefIdeal.nD Cert.SsdConvRefIdeal.τ).loc Cert.SsdConvRefIdeal.main_arg1)
          ∧ r.2.mem ((c.tc : Thread Cert.SsdConvRefIdeal.nD Cert.SsdConvRefIdeal.τ).loc Cert.SsdConvRefIdeal.main_arg2) = m' ((c.tc : Thread Cert.SsdConvRefIdeal.nD Cert.SsdConvRefIdeal.τ).loc Cert.SsdConvRefIdeal.main_arg2))

def preserves_AdamIn_AdamInIdeal : Prop :=
  IdealRules.named_const.Statement Cert.AdamInIdeal.κ "c1" .f32 0x3FC48605#32 ((8388608 / 5463681 : ℝ) : EReal)
  ∧ IdealRules.named_const.Statement Cert.AdamInIdeal.κ "c2" .f32 0x42C8E6D3#32 ((268435456 / 2672307 : ℝ) : EReal)

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v31) = v1 c
          ∧ r.2.mem ((c.tc : Thread Cert.AdamInRefIdeal.nD Cert.AdamInRefIdeal.τ).loc Cert.AdamInRefIdeal.main_v12) = v2 c
          ∧ r.2.mem ((c.tc : Thread Cert.AdamInRefIdeal.nD Cert.AdamInRefIdeal.τ).loc Cert.AdamInRefIdeal.main_v18) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  IdealRules.named_const.Statement Cert.AdamOutIdeal.κ "c1" .f32 0x3FC48605#32 ((8388608 / 5463681 : ℝ) : EReal)
  ∧ IdealRules.named_const.Statement Cert.AdamOutIdeal.κ "c2" .f32 0x42C8E6D3#32 ((268435456 / 2672307 : ℝ) : EReal)

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v1) = v0 c
          ∧ r.2.mem ((c.tc : Thread Cert.AdamOutRefIdeal.nD Cert.AdamOutRefIdeal.τ).loc Cert.AdamOutRefIdeal.main_v31) = v1 c
          ∧ r.2.mem ((c.tc : Thread Cert.AdamOutRefIdeal.nD Cert.AdamOutRefIdeal.τ).loc Cert.AdamOutRefIdeal.main_v12) = v2 c
          ∧ r.2.mem ((c.tc : Thread Cert.AdamOutRefIdeal.nD Cert.AdamOutRefIdeal.τ).loc Cert.AdamOutRefIdeal.main_v18) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamSsd_AdamSsdIdeal : Prop :=
  IdealRules.named_const.Statement Cert.AdamSsdIdeal.κ "c1" .f32 0x3FC48605#32 ((8388608 / 5463681 : ℝ) : EReal)
  ∧ IdealRules.named_const.Statement Cert.AdamSsdIdeal.κ "c2" .f32 0x42C8E6D3#32 ((268435456 / 2672307 : ℝ) : EReal)

def algebraic_AdamSsdIdeal_AdamSsdRefIdeal [hAdamSsdIdeal : Cert.AdamSsdIdeal.Facts] [hAdamSsdRefIdeal : Cert.AdamSsdRefIdeal.Facts] : Prop :=
  ∀ (m : (ℓ : Loc Cert.AdamSsdIdeal.nD Cert.AdamSsdIdeal.τ Cert.AdamSsdIdeal.sig) → Buf (Elt Ideal) ℓ) (g : Dev Cert.AdamSsdIdeal.nD → PrngReg)
    (m' : (ℓ : Loc Cert.AdamSsdRefIdeal.nD Cert.AdamSsdRefIdeal.τ Cert.AdamSsdRefIdeal.sig) → Buf (Elt Ideal) ℓ) (g' : Dev Cert.AdamSsdRefIdeal.nD → PrngReg), Pre_AdamSsdIdeal m →
    (∀ c : Dev Cert.AdamSsdIdeal.nD,
      m' ((c.tc : Thread Cert.AdamSsdRefIdeal.nD Cert.AdamSsdRefIdeal.τ).loc Cert.AdamSsdRefIdeal.main_arg0) = m ((c.tc : Thread Cert.AdamSsdIdeal.nD Cert.AdamSsdIdeal.τ).loc Cert.AdamSsdIdeal.main_arg0)
      ∧ m' ((c.tc : Thread Cert.AdamSsdRefIdeal.nD Cert.AdamSsdRefIdeal.τ).loc Cert.AdamSsdRefIdeal.main_arg1) = m ((c.tc : Thread Cert.AdamSsdIdeal.nD Cert.AdamSsdIdeal.τ).loc Cert.AdamSsdIdeal.main_arg1)
      ∧ m' ((c.tc : Thread Cert.AdamSsdRefIdeal.nD Cert.AdamSsdRefIdeal.τ).loc Cert.AdamSsdRefIdeal.main_arg2) = m ((c.tc : Thread Cert.AdamSsdIdeal.nD Cert.AdamSsdIdeal.τ).loc Cert.AdamSsdIdeal.main_arg2)
      ∧ m' ((c.tc : Thread Cert.AdamSsdRefIdeal.nD Cert.AdamSsdRefIdeal.τ).loc Cert.AdamSsdRefIdeal.main_arg3) = m ((c.tc : Thread Cert.AdamSsdIdeal.nD Cert.AdamSsdIdeal.τ).loc Cert.AdamSsdIdeal.main_arg3)) →
    ∃ (v0 : (c : Dev Cert.AdamSsdIdeal.nD) → Buf (Elt Ideal) ((c.tc : Thread Cert.AdamSsdIdeal.nD Cert.AdamSsdIdeal.τ).loc Cert.AdamSsdIdeal.main_v0_0)) (v1 : (c : Dev Cert.AdamSsdIdeal.nD) → Buf (Elt Ideal) ((c.tc : Thread Cert.AdamSsdIdeal.nD Cert.AdamSsdIdeal.τ).loc Cert.AdamSsdIdeal.main_v0_1)) (v2 : (c : Dev Cert.AdamSsdIdeal.nD) → Buf (Elt Ideal) ((c.tc : Thread Cert.AdamSsdIdeal.nD Cert.AdamSsdIdeal.τ).loc Cert.AdamSsdIdeal.main_v0_2)) (v3 : (c : Dev Cert.AdamSsdIdeal.nD) → Buf (Elt Ideal) ((c.tc : Thread Cert.AdamSsdIdeal.nD Cert.AdamSsdIdeal.τ).loc Cert.AdamSsdIdeal.main_v0_3)),
      θ_run (Cert.AdamSsdIdeal.defs (F := Ideal)) (onTc (τ := Cert.AdamSsdIdeal.τ) (Cert.AdamSsdIdeal.main (F := Ideal))) ⟨m, fun _ => 0, g⟩ (fun r => ∀ c : Dev Cert.AdamSsdIdeal.nD,
          r.2.mem ((c.tc : Thread Cert.AdamSsdIdeal.nD Cert.AdamSsdIdeal.τ).loc Cert.AdamSsdIdeal.main_v0_0) = v0 c
          ∧ r.2.mem ((c.tc : Thread Cert.AdamSsdIdeal.nD Cert.AdamSsdIdeal.τ).loc Cert.AdamSsdIdeal.main_v0_1) = v1 c
          ∧ r.2.mem ((c.tc : Thread Cert.AdamSsdIdeal.nD Cert.AdamSsdIdeal.τ).loc Cert.AdamSsdIdeal.main_v0_2) = v2 c
          ∧ r.2.mem ((c.tc : Thread Cert.AdamSsdIdeal.nD Cert.AdamSsdIdeal.τ).loc Cert.AdamSsdIdeal.main_v0_3) = v3 c
          ∧ r.2.mem ((c.tc : Thread Cert.AdamSsdIdeal.nD Cert.AdamSsdIdeal.τ).loc Cert.AdamSsdIdeal.main_arg0) = m ((c.tc : Thread Cert.AdamSsdIdeal.nD Cert.AdamSsdIdeal.τ).loc Cert.AdamSsdIdeal.main_arg0)
          ∧ r.2.mem ((c.tc : Thread Cert.AdamSsdIdeal.nD Cert.AdamSsdIdeal.τ).loc Cert.AdamSsdIdeal.main_arg1) = m ((c.tc : Thread Cert.AdamSsdIdeal.nD Cert.AdamSsdIdeal.τ).loc Cert.AdamSsdIdeal.main_arg1)
          ∧ r.2.mem ((c.tc : Thread Cert.AdamSsdIdeal.nD Cert.AdamSsdIdeal.τ).loc Cert.AdamSsdIdeal.main_arg2) = m ((c.tc : Thread Cert.AdamSsdIdeal.nD Cert.AdamSsdIdeal.τ).loc Cert.AdamSsdIdeal.main_arg2)
          ∧ r.2.mem ((c.tc : Thread Cert.AdamSsdIdeal.nD Cert.AdamSsdIdeal.τ).loc Cert.AdamSsdIdeal.main_arg3) = m ((c.tc : Thread Cert.AdamSsdIdeal.nD Cert.AdamSsdIdeal.τ).loc Cert.AdamSsdIdeal.main_arg3))
      ∧ θ_run (Cert.AdamSsdRefIdeal.defs (F := Ideal)) (onTc (τ := Cert.AdamSsdRefIdeal.τ) (Cert.AdamSsdRefIdeal.main (F := Ideal))) ⟨m', fun _ => 0, g'⟩ (fun r => ∀ c : Dev Cert.AdamSsdRefIdeal.nD,
          r.2.mem ((c.tc : Thread Cert.AdamSsdRefIdeal.nD Cert.AdamSsdRefIdeal.τ).loc Cert.AdamSsdRefIdeal.main_v0) = v0 c
          ∧ r.2.mem ((c.tc : Thread Cert.AdamSsdRefIdeal.nD Cert.AdamSsdRefIdeal.τ).loc Cert.AdamSsdRefIdeal.main_v30) = v1 c
          ∧ r.2.mem ((c.tc : Thread Cert.AdamSsdRefIdeal.nD Cert.AdamSsdRefIdeal.τ).loc Cert.AdamSsdRefIdeal.main_v11) = v2 c
          ∧ r.2.mem ((c.tc : Thread Cert.AdamSsdRefIdeal.nD Cert.AdamSsdRefIdeal.τ).loc Cert.AdamSsdRefIdeal.main_v17) = v3 c
          ∧ r.2.mem ((c.tc : Thread Cert.AdamSsdRefIdeal.nD Cert.AdamSsdRefIdeal.τ).loc Cert.AdamSsdRefIdeal.main_arg0) = m' ((c.tc : Thread Cert.AdamSsdRefIdeal.nD Cert.AdamSsdRefIdeal.τ).loc Cert.AdamSsdRefIdeal.main_arg0)
          ∧ r.2.mem ((c.tc : Thread Cert.AdamSsdRefIdeal.nD Cert.AdamSsdRefIdeal.τ).loc Cert.AdamSsdRefIdeal.main_arg1) = m' ((c.tc : Thread Cert.AdamSsdRefIdeal.nD Cert.AdamSsdRefIdeal.τ).loc Cert.AdamSsdRefIdeal.main_arg1)
          ∧ r.2.mem ((c.tc : Thread Cert.AdamSsdRefIdeal.nD Cert.AdamSsdRefIdeal.τ).loc Cert.AdamSsdRefIdeal.main_arg2) = m' ((c.tc : Thread Cert.AdamSsdRefIdeal.nD Cert.AdamSsdRefIdeal.τ).loc Cert.AdamSsdRefIdeal.main_arg2)
          ∧ r.2.mem ((c.tc : Thread Cert.AdamSsdRefIdeal.nD Cert.AdamSsdRefIdeal.τ).loc Cert.AdamSsdRefIdeal.main_arg3) = m' ((c.tc : Thread Cert.AdamSsdRefIdeal.nD Cert.AdamSsdRefIdeal.τ).loc Cert.AdamSsdRefIdeal.main_arg3))

def preserves_AdamSmall_AdamSmallIdeal : Prop :=
  IdealRules.named_const.Statement Cert.AdamSmallIdeal.κ "c1" .f32 0x3FC48605#32 ((8388608 / 5463681 : ℝ) : EReal)
  ∧ IdealRules.named_const.Statement Cert.AdamSmallIdeal.κ "c2" .f32 0x42C8E6D3#32 ((268435456 / 2672307 : ℝ) : EReal)

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v27) = v1 c
          ∧ r.2.mem ((c.tc : Thread Cert.AdamSmallRefIdeal.nD Cert.AdamSmallRefIdeal.τ).loc Cert.AdamSmallRefIdeal.main_v8) = v2 c
          ∧ r.2.mem ((c.tc : Thread Cert.AdamSmallRefIdeal.nD Cert.AdamSmallRefIdeal.τ).loc Cert.AdamSmallRefIdeal.main_v14) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamRep_AdamRepIdeal : Prop :=
  IdealRules.named_const.Statement Cert.AdamRepIdeal.κ "c1" .f32 0x3FC48605#32 ((8388608 / 5463681 : ℝ) : EReal)
  ∧ IdealRules.named_const.Statement Cert.AdamRepIdeal.κ "c2" .f32 0x42C8E6D3#32 ((268435456 / 2672307 : ℝ) : EReal)

def algebraic_AdamRepIdeal_AdamRepRefIdeal [hAdamRepIdeal : Cert.AdamRepIdeal.Facts] [hAdamRepRefIdeal : Cert.AdamRepRefIdeal.Facts] : Prop :=
  ∀ (m : (ℓ : Loc Cert.AdamRepIdeal.nD Cert.AdamRepIdeal.τ Cert.AdamRepIdeal.sig) → Buf (Elt Ideal) ℓ) (g : Dev Cert.AdamRepIdeal.nD → PrngReg)
    (m' : (ℓ : Loc Cert.AdamRepRefIdeal.nD Cert.AdamRepRefIdeal.τ Cert.AdamRepRefIdeal.sig) → Buf (Elt Ideal) ℓ) (g' : Dev Cert.AdamRepRefIdeal.nD → PrngReg), Pre_AdamRepIdeal m →
    (∀ c : Dev Cert.AdamRepIdeal.nD,
      m' ((c.tc : Thread Cert.AdamRepRefIdeal.nD Cert.AdamRepRefIdeal.τ).loc Cert.AdamRepRefIdeal.main_arg0) = m ((c.tc : Thread Cert.AdamRepIdeal.nD Cert.AdamRepIdeal.τ).loc Cert.AdamRepIdeal.main_arg0)
      ∧ m' ((c.tc : Thread Cert.AdamRepRefIdeal.nD Cert.AdamRepRefIdeal.τ).loc Cert.AdamRepRefIdeal.main_arg1) = m ((c.tc : Thread Cert.AdamRepIdeal.nD Cert.AdamRepIdeal.τ).loc Cert.AdamRepIdeal.main_arg1)
      ∧ m' ((c.tc : Thread Cert.AdamRepRefIdeal.nD Cert.AdamRepRefIdeal.τ).loc Cert.AdamRepRefIdeal.main_arg2) = m ((c.tc : Thread Cert.AdamRepIdeal.nD Cert.AdamRepIdeal.τ).loc Cert.AdamRepIdeal.main_arg2)
      ∧ m' ((c.tc : Thread Cert.AdamRepRefIdeal.nD Cert.AdamRepRefIdeal.τ).loc Cert.AdamRepRefIdeal.main_arg3) = m ((c.tc : Thread Cert.AdamRepIdeal.nD Cert.AdamRepIdeal.τ).loc Cert.AdamRepIdeal.main_arg3)) →
    ∃ (v0 : (c : Dev Cert.AdamRepIdeal.nD) → Buf (Elt Ideal) ((c.tc : Thread Cert.AdamRepIdeal.nD Cert.AdamRepIdeal.τ).loc Cert.AdamRepIdeal.main_v0_0)) (v1 : (c : Dev Cert.AdamRepIdeal.nD) → Buf (Elt Ideal) ((c.tc : Thread Cert.AdamRepIdeal.nD Cert.AdamRepIdeal.τ).loc Cert.AdamRepIdeal.main_v0_1)) (v2 : (c : Dev Cert.AdamRepIdeal.nD) → Buf (Elt Ideal) ((c.tc : Thread Cert.AdamRepIdeal.nD Cert.AdamRepIdeal.τ).loc Cert.AdamRepIdeal.main_v0_2)) (v3 : (c : Dev Cert.AdamRepIdeal.nD) → Buf (Elt Ideal) ((c.tc : Thread Cert.AdamRepIdeal.nD Cert.AdamRepIdeal.τ).loc Cert.AdamRepIdeal.main_v0_3)),
      θ_run (Cert.AdamRepIdeal.defs (F := Ideal)) (onTc (τ := Cert.AdamRepIdeal.τ) (Cert.AdamRepIdeal.main (F := Ideal))) ⟨m, fun _ => 0, g⟩ (fun r => ∀ c : Dev Cert.AdamRepIdeal.nD,
          r.2.mem ((c.tc : Thread Cert.AdamRepIdeal.nD Cert.AdamRepIdeal.τ).loc Cert.AdamRepIdeal.main_v0_0) = v0 c
          ∧ r.2.mem ((c.tc : Thread Cert.AdamRepIdeal.nD Cert.AdamRepIdeal.τ).loc Cert.AdamRepIdeal.main_v0_1) = v1 c
          ∧ r.2.mem ((c.tc : Thread Cert.AdamRepIdeal.nD Cert.AdamRepIdeal.τ).loc Cert.AdamRepIdeal.main_v0_2) = v2 c
          ∧ r.2.mem ((c.tc : Thread Cert.AdamRepIdeal.nD Cert.AdamRepIdeal.τ).loc Cert.AdamRepIdeal.main_v0_3) = v3 c
          ∧ r.2.mem ((c.tc : Thread Cert.AdamRepIdeal.nD Cert.AdamRepIdeal.τ).loc Cert.AdamRepIdeal.main_arg0) = m ((c.tc : Thread Cert.AdamRepIdeal.nD Cert.AdamRepIdeal.τ).loc Cert.AdamRepIdeal.main_arg0)
          ∧ r.2.mem ((c.tc : Thread Cert.AdamRepIdeal.nD Cert.AdamRepIdeal.τ).loc Cert.AdamRepIdeal.main_arg1) = m ((c.tc : Thread Cert.AdamRepIdeal.nD Cert.AdamRepIdeal.τ).loc Cert.AdamRepIdeal.main_arg1)
          ∧ r.2.mem ((c.tc : Thread Cert.AdamRepIdeal.nD Cert.AdamRepIdeal.τ).loc Cert.AdamRepIdeal.main_arg2) = m ((c.tc : Thread Cert.AdamRepIdeal.nD Cert.AdamRepIdeal.τ).loc Cert.AdamRepIdeal.main_arg2)
          ∧ r.2.mem ((c.tc : Thread Cert.AdamRepIdeal.nD Cert.AdamRepIdeal.τ).loc Cert.AdamRepIdeal.main_arg3) = m ((c.tc : Thread Cert.AdamRepIdeal.nD Cert.AdamRepIdeal.τ).loc Cert.AdamRepIdeal.main_arg3))
      ∧ θ_run (Cert.AdamRepRefIdeal.defs (F := Ideal)) (onTc (τ := Cert.AdamRepRefIdeal.τ) (Cert.AdamRepRefIdeal.main (F := Ideal))) ⟨m', fun _ => 0, g'⟩ (fun r => ∀ c : Dev Cert.AdamRepRefIdeal.nD,
          r.2.mem ((c.tc : Thread Cert.AdamRepRefIdeal.nD Cert.AdamRepRefIdeal.τ).loc Cert.AdamRepRefIdeal.main_v0) = v0 c
          ∧ r.2.mem ((c.tc : Thread Cert.AdamRepRefIdeal.nD Cert.AdamRepRefIdeal.τ).loc Cert.AdamRepRefIdeal.main_v27) = v1 c
          ∧ r.2.mem ((c.tc : Thread Cert.AdamRepRefIdeal.nD Cert.AdamRepRefIdeal.τ).loc Cert.AdamRepRefIdeal.main_v8) = v2 c
          ∧ r.2.mem ((c.tc : Thread Cert.AdamRepRefIdeal.nD Cert.AdamRepRefIdeal.τ).loc Cert.AdamRepRefIdeal.main_v14) = v3 c
          ∧ r.2.mem ((c.tc : Thread Cert.AdamRepRefIdeal.nD Cert.AdamRepRefIdeal.τ).loc Cert.AdamRepRefIdeal.main_arg0) = m' ((c.tc : Thread Cert.AdamRepRefIdeal.nD Cert.AdamRepRefIdeal.τ).loc Cert.AdamRepRefIdeal.main_arg0)
          ∧ r.2.mem ((c.tc : Thread Cert.AdamRepRefIdeal.nD Cert.AdamRepRefIdeal.τ).loc Cert.AdamRepRefIdeal.main_arg1) = m' ((c.tc : Thread Cert.AdamRepRefIdeal.nD Cert.AdamRepRefIdeal.τ).loc Cert.AdamRepRefIdeal.main_arg1)
          ∧ r.2.mem ((c.tc : Thread Cert.AdamRepRefIdeal.nD Cert.AdamRepRefIdeal.τ).loc Cert.AdamRepRefIdeal.main_arg2) = m' ((c.tc : Thread Cert.AdamRepRefIdeal.nD Cert.AdamRepRefIdeal.τ).loc Cert.AdamRepRefIdeal.main_arg2)
          ∧ r.2.mem ((c.tc : Thread Cert.AdamRepRefIdeal.nD Cert.AdamRepRefIdeal.τ).loc Cert.AdamRepRefIdeal.main_arg3) = m' ((c.tc : Thread Cert.AdamRepRefIdeal.nD Cert.AdamRepRefIdeal.τ).loc Cert.AdamRepRefIdeal.main_arg3))

def preserves_SumSsd_SumSsdIdeal : Prop :=
  True

def algebraic_SumSsdIdeal_SumSsdRefIdeal [hSumSsdIdeal : Cert.SumSsdIdeal.Facts] [hSumSsdRefIdeal : Cert.SumSsdRefIdeal.Facts] : Prop :=
  ∀ (m : (ℓ : Loc Cert.SumSsdIdeal.nD Cert.SumSsdIdeal.τ Cert.SumSsdIdeal.sig) → Buf (Elt Ideal) ℓ) (g : Dev Cert.SumSsdIdeal.nD → PrngReg)
    (m' : (ℓ : Loc Cert.SumSsdRefIdeal.nD Cert.SumSsdRefIdeal.τ Cert.SumSsdRefIdeal.sig) → Buf (Elt Ideal) ℓ) (g' : Dev Cert.SumSsdRefIdeal.nD → PrngReg), Pre_SumSsdIdeal m →
    (∀ c : Dev Cert.SumSsdIdeal.nD,
      m' ((c.tc : Thread Cert.SumSsdRefIdeal.nD Cert.SumSsdRefIdeal.τ).loc Cert.SumSsdRefIdeal.main_arg0) = m ((c.tc : Thread Cert.SumSsdIdeal.nD Cert.SumSsdIdeal.τ).loc Cert.SumSsdIdeal.main_arg0)) →
    ∃ (v0 : (c : Dev Cert.SumSsdIdeal.nD) → Buf (Elt Ideal) ((c.tc : Thread Cert.SumSsdIdeal.nD Cert.SumSsdIdeal.τ).loc Cert.SumSsdIdeal.main_v0)),
      θ_run (Cert.SumSsdIdeal.defs (F := Ideal)) (onTc (τ := Cert.SumSsdIdeal.τ) (Cert.SumSsdIdeal.main (F := Ideal))) ⟨m, fun _ => 0, g⟩ (fun r => ∀ c : Dev Cert.SumSsdIdeal.nD,
          r.2.mem ((c.tc : Thread Cert.SumSsdIdeal.nD Cert.SumSsdIdeal.τ).loc Cert.SumSsdIdeal.main_v0) = v0 c
          ∧ r.2.mem ((c.tc : Thread Cert.SumSsdIdeal.nD Cert.SumSsdIdeal.τ).loc Cert.SumSsdIdeal.main_arg0) = m ((c.tc : Thread Cert.SumSsdIdeal.nD Cert.SumSsdIdeal.τ).loc Cert.SumSsdIdeal.main_arg0))
      ∧ θ_run (Cert.SumSsdRefIdeal.defs (F := Ideal)) (onTc (τ := Cert.SumSsdRefIdeal.τ) (Cert.SumSsdRefIdeal.main (F := Ideal))) ⟨m', fun _ => 0, g'⟩ (fun r => ∀ c : Dev Cert.SumSsdRefIdeal.nD,
          r.2.mem ((c.tc : Thread Cert.SumSsdRefIdeal.nD Cert.SumSsdRefIdeal.τ).loc Cert.SumSsdRefIdeal.main_v1) = v0 c
          ∧ r.2.mem ((c.tc : Thread Cert.SumSsdRefIdeal.nD Cert.SumSsdRefIdeal.τ).loc Cert.SumSsdRefIdeal.main_arg0) = m' ((c.tc : Thread Cert.SumSsdRefIdeal.nD Cert.SumSsdRefIdeal.τ).loc Cert.SumSsdRefIdeal.main_arg0))

def Claim : Prop :=
  ∃ (hConfOut : Cert.ConfOut.Facts) (hConfOutIdeal : Cert.ConfOutIdeal.Facts) (hConfOutRefIdeal : Cert.ConfOutRefIdeal.Facts) (hSsdOut : Cert.SsdOut.Facts) (hSsdOutIdeal : Cert.SsdOutIdeal.Facts) (hSsdOutRefIdeal : Cert.SsdOutRefIdeal.Facts) (hCmIn : Cert.CmIn.Facts) (hCmInIdeal : Cert.CmInIdeal.Facts) (hCmInRefIdeal : Cert.CmInRefIdeal.Facts) (hSsdIn : Cert.SsdIn.Facts) (hSsdInIdeal : Cert.SsdInIdeal.Facts) (hSsdInRefIdeal : Cert.SsdInRefIdeal.Facts) (hCmWin : Cert.CmWin.Facts) (hCmWinIdeal : Cert.CmWinIdeal.Facts) (hCmWinRefIdeal : Cert.CmWinRefIdeal.Facts) (hSsdWinZ : Cert.SsdWinZ.Facts) (hSsdWinZIdeal : Cert.SsdWinZIdeal.Facts) (hSsdWinZRefIdeal : Cert.SsdWinZRefIdeal.Facts) (hSsdWinX : Cert.SsdWinX.Facts) (hSsdWinXIdeal : Cert.SsdWinXIdeal.Facts) (hSsdWinXRefIdeal : Cert.SsdWinXRefIdeal.Facts) (hSsdWinT : Cert.SsdWinT.Facts) (hSsdWinTIdeal : Cert.SsdWinTIdeal.Facts) (hSsdWinTRefIdeal : Cert.SsdWinTRefIdeal.Facts) (hCmInF : Cert.CmInF.Facts) (hCmInFIdeal : Cert.CmInFIdeal.Facts) (hCmInFRefIdeal : Cert.CmInFRefIdeal.Facts) (hSsdInF : Cert.SsdInF.Facts) (hSsdInFIdeal : Cert.SsdInFIdeal.Facts) (hSsdInFRefIdeal : Cert.SsdInFRefIdeal.Facts) (hConfOutF : Cert.ConfOutF.Facts) (hConfOutFIdeal : Cert.ConfOutFIdeal.Facts) (hConfOutFRefIdeal : Cert.ConfOutFRefIdeal.Facts) (hSsdOutF : Cert.SsdOutF.Facts) (hSsdOutFIdeal : Cert.SsdOutFIdeal.Facts) (hSsdOutFRefIdeal : Cert.SsdOutFRefIdeal.Facts) (hSsdConv : Cert.SsdConv.Facts) (hSsdConvIdeal : Cert.SsdConvIdeal.Facts) (hSsdConvRefIdeal : Cert.SsdConvRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamSsd : Cert.AdamSsd.Facts) (hAdamSsdIdeal : Cert.AdamSsdIdeal.Facts) (hAdamSsdRefIdeal : Cert.AdamSsdRefIdeal.Facts) (hAdamSmall : Cert.AdamSmall.Facts) (hAdamSmallIdeal : Cert.AdamSmallIdeal.Facts) (hAdamSmallRefIdeal : Cert.AdamSmallRefIdeal.Facts) (hAdamRep : Cert.AdamRep.Facts) (hAdamRepIdeal : Cert.AdamRepIdeal.Facts) (hAdamRepRefIdeal : Cert.AdamRepRefIdeal.Facts) (hSumSsd : Cert.SumSsd.Facts) (hSumSsdIdeal : Cert.SumSsdIdeal.Facts) (hSumSsdRefIdeal : Cert.SumSsdRefIdeal.Facts) (hPre_conf_out_finite : Cert.Pre_conf_out_finite.Facts) (hPre_ssd_out_finite : Cert.Pre_ssd_out_finite.Facts),
    quiescent_ConfOut (hConfOut := hConfOut)
    ∧ quiescent_ConfOutIdeal (hConfOutIdeal := hConfOutIdeal)
    ∧ quiescent_ConfOutIdeal_pre_conf_out_finite (hConfOutIdeal := hConfOutIdeal) (hPre_conf_out_finite := hPre_conf_out_finite)
    ∧ quiescent_ConfOutRefIdeal (hConfOutRefIdeal := hConfOutRefIdeal)
    ∧ quiescent_ConfOutRefIdeal_pre_conf_out_finite (hConfOutRefIdeal := hConfOutRefIdeal) (hPre_conf_out_finite := hPre_conf_out_finite)
    ∧ quiescent_SsdOut (hSsdOut := hSsdOut)
    ∧ quiescent_SsdOutIdeal (hSsdOutIdeal := hSsdOutIdeal)
    ∧ quiescent_SsdOutIdeal_pre_ssd_out_finite (hSsdOutIdeal := hSsdOutIdeal) (hPre_ssd_out_finite := hPre_ssd_out_finite)
    ∧ quiescent_SsdOutRefIdeal (hSsdOutRefIdeal := hSsdOutRefIdeal)
    ∧ quiescent_SsdOutRefIdeal_pre_ssd_out_finite (hSsdOutRefIdeal := hSsdOutRefIdeal) (hPre_ssd_out_finite := hPre_ssd_out_finite)
    ∧ quiescent_CmIn (hCmIn := hCmIn)
    ∧ quiescent_CmInIdeal (hCmInIdeal := hCmInIdeal)
    ∧ quiescent_CmInRefIdeal (hCmInRefIdeal := hCmInRefIdeal)
    ∧ quiescent_SsdIn (hSsdIn := hSsdIn)
    ∧ quiescent_SsdInIdeal (hSsdInIdeal := hSsdInIdeal)
    ∧ quiescent_SsdInRefIdeal (hSsdInRefIdeal := hSsdInRefIdeal)
    ∧ quiescent_CmWin (hCmWin := hCmWin)
    ∧ quiescent_CmWinIdeal (hCmWinIdeal := hCmWinIdeal)
    ∧ quiescent_CmWinRefIdeal (hCmWinRefIdeal := hCmWinRefIdeal)
    ∧ quiescent_SsdWinZ (hSsdWinZ := hSsdWinZ)
    ∧ quiescent_SsdWinZIdeal (hSsdWinZIdeal := hSsdWinZIdeal)
    ∧ quiescent_SsdWinZRefIdeal (hSsdWinZRefIdeal := hSsdWinZRefIdeal)
    ∧ quiescent_SsdWinX (hSsdWinX := hSsdWinX)
    ∧ quiescent_SsdWinXIdeal (hSsdWinXIdeal := hSsdWinXIdeal)
    ∧ quiescent_SsdWinXRefIdeal (hSsdWinXRefIdeal := hSsdWinXRefIdeal)
    ∧ quiescent_SsdWinT (hSsdWinT := hSsdWinT)
    ∧ quiescent_SsdWinTIdeal (hSsdWinTIdeal := hSsdWinTIdeal)
    ∧ quiescent_SsdWinTRefIdeal (hSsdWinTRefIdeal := hSsdWinTRefIdeal)
    ∧ quiescent_CmInF (hCmInF := hCmInF)
    ∧ quiescent_CmInFIdeal (hCmInFIdeal := hCmInFIdeal)
    ∧ quiescent_CmInFRefIdeal (hCmInFRefIdeal := hCmInFRefIdeal)
    ∧ quiescent_SsdInF (hSsdInF := hSsdInF)
    ∧ quiescent_SsdInFIdeal (hSsdInFIdeal := hSsdInFIdeal)
    ∧ quiescent_SsdInFRefIdeal (hSsdInFRefIdeal := hSsdInFRefIdeal)
    ∧ quiescent_ConfOutF (hConfOutF := hConfOutF)
    ∧ quiescent_ConfOutFIdeal (hConfOutFIdeal := hConfOutFIdeal)
    ∧ quiescent_ConfOutFRefIdeal (hConfOutFRefIdeal := hConfOutFRefIdeal)
    ∧ quiescent_SsdOutF (hSsdOutF := hSsdOutF)
    ∧ quiescent_SsdOutFIdeal (hSsdOutFIdeal := hSsdOutFIdeal)
    ∧ quiescent_SsdOutFRefIdeal (hSsdOutFRefIdeal := hSsdOutFRefIdeal)
    ∧ quiescent_SsdConv (hSsdConv := hSsdConv)
    ∧ quiescent_SsdConvIdeal (hSsdConvIdeal := hSsdConvIdeal)
    ∧ quiescent_SsdConvRefIdeal (hSsdConvRefIdeal := hSsdConvRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamSsd (hAdamSsd := hAdamSsd)
    ∧ quiescent_AdamSsdIdeal (hAdamSsdIdeal := hAdamSsdIdeal)
    ∧ quiescent_AdamSsdRefIdeal (hAdamSsdRefIdeal := hAdamSsdRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamRep (hAdamRep := hAdamRep)
    ∧ quiescent_AdamRepIdeal (hAdamRepIdeal := hAdamRepIdeal)
    ∧ quiescent_AdamRepRefIdeal (hAdamRepRefIdeal := hAdamRepRefIdeal)
    ∧ quiescent_SumSsd (hSumSsd := hSumSsd)
    ∧ quiescent_SumSsdIdeal (hSumSsdIdeal := hSumSsdIdeal)
    ∧ quiescent_SumSsdRefIdeal (hSumSsdRefIdeal := hSumSsdRefIdeal)
    ∧ preserves_ConfOut_ConfOutIdeal
    ∧ algebraic_ConfOutIdeal_ConfOutRefIdeal_pre_conf_out_finite (hConfOutIdeal := hConfOutIdeal) (hConfOutRefIdeal := hConfOutRefIdeal) (hPre_conf_out_finite := hPre_conf_out_finite)
    ∧ preserves_SsdOut_SsdOutIdeal
    ∧ algebraic_SsdOutIdeal_SsdOutRefIdeal_pre_ssd_out_finite (hSsdOutIdeal := hSsdOutIdeal) (hSsdOutRefIdeal := hSsdOutRefIdeal) (hPre_ssd_out_finite := hPre_ssd_out_finite)
    ∧ preserves_CmIn_CmInIdeal
    ∧ algebraic_CmInIdeal_CmInRefIdeal (hCmInIdeal := hCmInIdeal) (hCmInRefIdeal := hCmInRefIdeal)
    ∧ preserves_SsdIn_SsdInIdeal
    ∧ algebraic_SsdInIdeal_SsdInRefIdeal (hSsdInIdeal := hSsdInIdeal) (hSsdInRefIdeal := hSsdInRefIdeal)
    ∧ preserves_CmWin_CmWinIdeal
    ∧ algebraic_CmWinIdeal_CmWinRefIdeal (hCmWinIdeal := hCmWinIdeal) (hCmWinRefIdeal := hCmWinRefIdeal)
    ∧ preserves_SsdWinZ_SsdWinZIdeal
    ∧ algebraic_SsdWinZIdeal_SsdWinZRefIdeal (hSsdWinZIdeal := hSsdWinZIdeal) (hSsdWinZRefIdeal := hSsdWinZRefIdeal)
    ∧ preserves_SsdWinX_SsdWinXIdeal
    ∧ algebraic_SsdWinXIdeal_SsdWinXRefIdeal (hSsdWinXIdeal := hSsdWinXIdeal) (hSsdWinXRefIdeal := hSsdWinXRefIdeal)
    ∧ preserves_SsdWinT_SsdWinTIdeal
    ∧ algebraic_SsdWinTIdeal_SsdWinTRefIdeal (hSsdWinTIdeal := hSsdWinTIdeal) (hSsdWinTRefIdeal := hSsdWinTRefIdeal)
    ∧ preserves_CmInF_CmInFIdeal
    ∧ algebraic_CmInFIdeal_CmInFRefIdeal (hCmInFIdeal := hCmInFIdeal) (hCmInFRefIdeal := hCmInFRefIdeal)
    ∧ preserves_SsdInF_SsdInFIdeal
    ∧ algebraic_SsdInFIdeal_SsdInFRefIdeal (hSsdInFIdeal := hSsdInFIdeal) (hSsdInFRefIdeal := hSsdInFRefIdeal)
    ∧ preserves_ConfOutF_ConfOutFIdeal
    ∧ algebraic_ConfOutFIdeal_ConfOutFRefIdeal (hConfOutFIdeal := hConfOutFIdeal) (hConfOutFRefIdeal := hConfOutFRefIdeal)
    ∧ preserves_SsdOutF_SsdOutFIdeal
    ∧ algebraic_SsdOutFIdeal_SsdOutFRefIdeal (hSsdOutFIdeal := hSsdOutFIdeal) (hSsdOutFRefIdeal := hSsdOutFRefIdeal)
    ∧ preserves_SsdConv_SsdConvIdeal
    ∧ algebraic_SsdConvIdeal_SsdConvRefIdeal (hSsdConvIdeal := hSsdConvIdeal) (hSsdConvRefIdeal := hSsdConvRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamSsd_AdamSsdIdeal
    ∧ algebraic_AdamSsdIdeal_AdamSsdRefIdeal (hAdamSsdIdeal := hAdamSsdIdeal) (hAdamSsdRefIdeal := hAdamSsdRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamRep_AdamRepIdeal
    ∧ algebraic_AdamRepIdeal_AdamRepRefIdeal (hAdamRepIdeal := hAdamRepIdeal) (hAdamRepRefIdeal := hAdamRepRefIdeal)
    ∧ preserves_SumSsd_SumSsdIdeal
    ∧ algebraic_SumSsdIdeal_SumSsdRefIdeal (hSumSsdIdeal := hSumSsdIdeal) (hSumSsdRefIdeal := hSumSsdRefIdeal)
-- ==== Pre_conf_out_finite.lean ====
abbrev S16384x1024 : Shape := ⟨2, ![16384, 1024]⟩
abbrev S16384x2048 : Shape := ⟨2, ![16384, 2048]⟩
abbrev S16384x6144 : Shape := ⟨2, ![16384, 6144]⟩
abbrev S1x2048 : Shape := ⟨2, ![1, 2048]⟩
abbrev S2048x1024 : Shape := ⟨2, ![2048, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  slices_S16384x6144_S16384x2048_0_4096 : S16384x6144.Slices ![0, 4096] S16384x2048
  bcast_S_S1x2048 : S_.BroadcastsInDim S1x2048 (![] : Fin 0 → Fin S1x2048.rank)
  reducesTo_S1x2048_S_d0_1 : S1x2048.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_arg4 : FVec F S1x2048 .f32) (main_arg5 : FVec F S2048x1024 .bf16) (main_v16 : IVec S_ 1) (main_v17 : FVec F S1x2048 .f32) : IVec S_ 1 :=
  let main_cst_4 : FVec F S_ .f32 := constant S_ .f32 0x7F800000#32
  let main_v18 : FVec F S1x2048 .f32 := broadcastInDim S1x2048 ![] bcast_S_S1x2048 main_cst_4
  let main_v19 : IVec S1x2048 1 := cmpf .olt main_v17 main_v18
  let main_c_5 : IVec S_ 1 := constantI S_ 1 1#1
  let main_v20 : IVec S_ 1 := (fun x v => Host.reduce IntOp.andi x v reducesTo_S1x2048_S_d0_1 h_S_) main_v19 main_c_5
  let main_v21 : IVec S_ 1 := andi main_v16 main_v20
  let main_v22 : FVec F S1x2048 .f32 := Host.absf main_arg4
  let main_cst_6 : FVec F S_ .f32 := constant S_ .f32 0x7F800000#32
  let main_v23 : FVec F S1x2048 .f32 := broadcastInDim S1x2048 ![] bcast_S_S1x2048 main_cst_6
  let main_v24 : IVec S1x2048 1 := cmpf .olt main_v22 main_v23
  let main_c_7 : IVec S_ 1 := constantI S_ 1 1#1
  let main_v25 : IVec S_ 1 := (fun x v => Host.reduce IntOp.andi x v reducesTo_S1x2048_S_d0_1 h_S_) main_v24 main_c_7
  let main_v26 : IVec S_ 1 := andi main_v21 main_v25
  let main_v27 : FVec F S2048x1024 .f32 := (extf .f32 · bitsLt_bf16_f32) main_arg5
  let main_v28 : FVec F S2048x1024 .f32 := Host.absf main_v27
  let main_cst_8 : FVec F S_ .f32 := constant S_ .f32 0x7F800000#32
  let main_v29 : FVec F S2048x1024 .f32 := broadcastInDim S2048x1024 ![] bcast_S_S2048x1024 main_cst_8
  let main_v30 : IVec S2048x1024 1 := cmpf .olt main_v28 main_v29
  let main_c_9 : IVec S_ 1 := constantI S_ 1 1#1
  let main_v31 : IVec S_ 1 := (fun x v => Host.reduce IntOp.andi x v reducesTo_S2048x1024_S_d0_1 h_S_) main_v30 main_c_9
  let main_v32 : IVec S_ 1 := andi main_v26 main_v31
  main_v32

def fn {F : FTy → Type} [FloatOps F] (main_arg0 : FVec F S16384x1024 .f32) (main_arg1 : FVec F S16384x2048 .bf16) (main_arg2 : FVec F S16384x6144 .bf16) (main_arg3 : FVec F S1x2048 .f32) (main_arg4 : FVec F S1x2048 .f32) (main_arg5 : FVec F S2048x1024 .bf16) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x2048 .f32 := (extf .f32 · bitsLt_bf16_f32) main_arg1
  let main_v5 : FVec F S16384x2048 .f32 := Host.absf main_v4
  let main_cst_0 : FVec F S_ .f32 := constant S_ .f32 0x7F800000#32
  let main_v6 : FVec F S16384x2048 .f32 := broadcastInDim S16384x2048 ![] bcast_S_S16384x2048 main_cst_0
  let main_v7 : IVec S16384x2048 1 := cmpf .olt main_v5 main_v6
  let main_c_1 : IVec S_ 1 := constantI S_ 1 1#1
  let main_v8 : IVec S_ 1 := (fun x v => Host.reduce IntOp.andi x v reducesTo_S16384x2048_S_d0_1 h_S_) main_v7 main_c_1
  let main_v9 : IVec S_ 1 := andi main_v3 main_v8
  let main_v10 : FVec F S16384x2048 .bf16 := (extractStridedSlice S16384x2048 ![0, 4096] · slices_S16384x6144_S16384x2048_0_4096) main_arg2
  let main_v11 : FVec F S16384x2048 .f32 := (extf .f32 · bitsLt_bf16_f32) main_v10
  let main_v12 : FVec F S16384x2048 .f32 := Host.absf main_v11
  let main_cst_2 : FVec F S_ .f32 := constant S_ .f32 0x7F800000#32
  let main_v13 : FVec F S16384x2048 .f32 := broadcastInDim S16384x2048 ![] bcast_S_S16384x2048 main_cst_2
  let main_v14 : IVec S16384x2048 1 := cmpf .olt main_v12 main_v13
  let main_c_3 : IVec S_ 1 := constantI S_ 1 1#1
  let main_v15 : IVec S_ 1 := (fun x v => Host.reduce IntOp.andi x v reducesTo_S16384x2048_S_d0_1 h_S_) main_v14 main_c_3
  let main_v16 : IVec S_ 1 := andi main_v9 main_v15
  let main_v17 : FVec F S1x2048 .f32 := Host.absf main_arg3
  fn_part1 (F := F) main_arg4 main_arg5 main_v16 main_v17
-- ==== Pre_ssd_out_finite.lean ====
abbrev S16384x1024 : Shape := ⟨2, ![16384, 1024]⟩
abbrev S16384x2048 : Shape := ⟨2, ![16384, 2048]⟩
abbrev S16384x3072 : Shape := ⟨2, ![16384, 3072]⟩
abbrev S16384x5248 : Shape := ⟨2, ![16384, 5248]⟩
abbrev S1x2048 : Shape := ⟨2, ![1, 2048]⟩
abbrev S2048x1024 : Shape := ⟨2, ![2048, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  slices_S16384x3072_S16384x2048_0_0 : S16384x3072.Slices ![0, 0] S16384x2048
  bitsLt_bf16_f32 : FTy.bits .bf16 < FTy.bits .f32
  slices_S16384x5248_S16384x2048_0_0 : S16384x5248.Slices ![0, 0] S16384x2048
  bcast_S_S1x2048 : S_.BroadcastsInDim S1x2048 (![] : Fin 0 → Fin S1x2048.rank)
  reducesTo_S1x2048_S_d0_1 : S1x2048.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part2 {F : FTy → Type} [FloatOps F] (main_arg7 : FVec F S2048x1024 .bf16) (main_v32 : IVec S_ 1) (main_v33 : FVec F S1x2048 .f32) (main_v34 : FVec F S1x2048 .f32) : IVec S_ 1 :=
  let main_v35 : IVec S1x2048 1 := cmpf .olt main_v33 main_v34
  let main_c_11 : IVec S_ 1 := constantI S_ 1 1#1
  let main_v36 : IVec S_ 1 := (fun x v => Host.reduce IntOp.andi x v reducesTo_S1x2048_S_d0_1 h_S_) main_v35 main_c_11
  let main_v37 : IVec S_ 1 := andi main_v32 main_v36
  let main_v38 : FVec F S2048x1024 .f32 := (extf .f32 · bitsLt_bf16_f32) main_arg7
  let main_v39 : FVec F S2048x1024 .f32 := Host.absf main_v38
  let main_cst_12 : FVec F S_ .f32 := constant S_ .f32 0x7F800000#32
  let main_v40 : FVec F S2048x1024 .f32 := broadcastInDim S2048x1024 ![] bcast_S_S2048x1024 main_cst_12
  let main_v41 : IVec S2048x1024 1 := cmpf .olt main_v39 main_v40
  let main_c_13 : IVec S_ 1 := constantI S_ 1 1#1
  let main_v42 : IVec S_ 1 := (fun x v => Host.reduce IntOp.andi x v reducesTo_S2048x1024_S_d0_1 h_S_) main_v41 main_c_13
  let main_v43 : IVec S_ 1 := andi main_v37 main_v42
  main_v43

def fn_part1 {F : FTy → Type} [FloatOps F] (main_arg4 : FVec F S16384x5248 .bf16) (main_arg5 : FVec F S1x2048 .f32) (main_arg6 : FVec F S1x2048 .f32) (main_arg7 : FVec F S2048x1024 .bf16) (main_v13 : IVec S_ 1) (main_v16 : FVec F S16384x2048 .f32) (main_cst_4 : FVec F S_ .f32) : IVec S_ 1 :=
  let main_v17 : FVec F S16384x2048 .f32 := broadcastInDim S16384x2048 ![] bcast_S_S16384x2048 main_cst_4
  let main_v18 : IVec S16384x2048 1 := cmpf .olt main_v16 main_v17
  let main_c_5 : IVec S_ 1 := constantI S_ 1 1#1
  let main_v19 : IVec S_ 1 := (fun x v => Host.reduce IntOp.andi x v reducesTo_S16384x2048_S_d0_1 h_S_) main_v18 main_c_5
  let main_v20 : IVec S_ 1 := andi main_v13 main_v19
  let main_v21 : FVec F S16384x2048 .bf16 := (extractStridedSlice S16384x2048 ![0, 0] · slices_S16384x5248_S16384x2048_0_0) main_arg4
  let main_v22 : FVec F S16384x2048 .f32 := (extf .f32 · bitsLt_bf16_f32) main_v21
  let main_v23 : FVec F S16384x2048 .f32 := Host.absf main_v22
  let main_cst_6 : FVec F S_ .f32 := constant S_ .f32 0x7F800000#32
  let main_v24 : FVec F S16384x2048 .f32 := broadcastInDim S16384x2048 ![] bcast_S_S16384x2048 main_cst_6
  let main_v25 : IVec S16384x2048 1 := cmpf .olt main_v23 main_v24
  let main_c_7 : IVec S_ 1 := constantI S_ 1 1#1
  let main_v26 : IVec S_ 1 := (fun x v => Host.reduce IntOp.andi x v reducesTo_S16384x2048_S_d0_1 h_S_) main_v25 main_c_7
  let main_v27 : IVec S_ 1 := andi main_v20 main_v26
  let main_v28 : FVec F S1x2048 .f32 := Host.absf main_arg5
  let main_cst_8 : FVec F S_ .f32 := constant S_ .f32 0x7F800000#32
  let main_v29 : FVec F S1x2048 .f32 := broadcastInDim S1x2048 ![] bcast_S_S1x2048 main_cst_8
  let main_v30 : IVec S1x2048 1 := cmpf .olt main_v28 main_v29
  let main_c_9 : IVec S_ 1 := constantI S_ 1 1#1
  let main_v31 : IVec S_ 1 := (fun x v => Host.reduce IntOp.andi x v reducesTo_S1x2048_S_d0_1 h_S_) main_v30 main_c_9
  let main_v32 : IVec S_ 1 := andi main_v27 main_v31
  let main_v33 : FVec F S1x2048 .f32 := Host.absf main_arg6
  let main_cst_10 : FVec F S_ .f32 := constant S_ .f32 0x7F800000#32
  let main_v34 : FVec F S1x2048 .f32 := broadcastInDim S1x2048 ![] bcast_S_S1x2048 main_cst_10
  fn_part2 (F := F) main_arg7 main_v32 main_v33 main_v34

def fn {F : FTy → Type} [FloatOps F] (main_arg0 : FVec F S16384x1024 .f32) (main_arg1 : FVec F S16384x2048 .f32) (main_arg2 : FVec F S16384x2048 .f32) (main_arg3 : FVec F S16384x3072 .bf16) (main_arg4 : FVec F S16384x5248 .bf16) (main_arg5 : FVec F S1x2048 .f32) (main_arg6 : FVec F S1x2048 .f32) (main_arg7 : FVec F S2048x1024 .bf16) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S16384x2048 .f32 := Host.absf main_arg2
  let main_cst_2 : FVec F S_ .f32 := constant S_ .f32 0x7F800000#32
  let main_v10 : FVec F S16384x2048 .f32 := broadcastInDim S16384x2048 ![] bcast_S_S16384x2048 main_cst_2
  let main_v11 : IVec S16384x2048 1 := cmpf .olt main_v9 main_v10
  let main_c_3 : IVec S_ 1 := constantI S_ 1 1#1
  let main_v12 : IVec S_ 1 := (fun x v => Host.reduce IntOp.andi x v reducesTo_S16384x2048_S_d0_1 h_S_) main_v11 main_c_3
  let main_v13 : IVec S_ 1 := andi main_v8 main_v12
  let main_v14 : FVec F S16384x2048 .bf16 := (extractStridedSlice S16384x2048 ![0, 0] · slices_S16384x3072_S16384x2048_0_0) main_arg3
  let main_v15 : FVec F S16384x2048 .f32 := (extf .f32 · bitsLt_bf16_f32) main_v14
  let main_v16 : FVec F S16384x2048 .f32 := Host.absf main_v15
  let main_cst_4 : FVec F S_ .f32 := constant S_ .f32 0x7F800000#32
  fn_part1 (F := F) main_arg4 main_arg5 main_arg6 main_arg7 main_v13 main_v16 main_cst_4
-- ==== ConfOut.lean ====
abbrev S16384x1024 : Shape := ⟨2, ![16384, 1024]⟩
abbrev S16384x2048 : Shape := ⟨2, ![16384, 2048]⟩
abbrev S16384x6144 : Shape := ⟨2, ![16384, 6144]⟩
abbrev S1x2048 : Shape := ⟨2, ![1, 2048]⟩
abbrev S2048x1024 : Shape := ⟨2, ![2048, 1024]⟩
abbrev S256x1024 : Shape := ⟨2, ![256, 1024]⟩
abbrev S256x2048 : Shape := ⟨2, ![256, 2048]⟩
abbrev S8x2048 : Shape := ⟨2, ![8, 2048]⟩
abbrev S256 : Shape := ⟨1, ![256]⟩
abbrev S256x1 : Shape := ⟨2, ![256, 1]⟩
abbrev S2048 : Shape := ⟨1, ![2048]⟩

abbrev nBuf : Space → Nat
  | .hbm => 11
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x2048, .bf16⟩
  | .hbm, ⟨2, _⟩ => ⟨S16384x6144, .bf16⟩
  | .hbm, ⟨3, _⟩ => ⟨S1x2048, .f32⟩
  | .hbm, ⟨4, _⟩ => ⟨S1x2048, .f32⟩
  | .hbm, ⟨5, _⟩ => ⟨S2048x1024, .bf16⟩
  | .hbm, ⟨6, _⟩ => ⟨S2048x1024, .f32⟩
  | .hbm, ⟨7, _⟩ => ⟨S16384x2048, .bf16⟩
  | .hbm, ⟨8, _⟩ => ⟨S16384x2048, .bf16⟩
  | .hbm, ⟨9, _⟩ => ⟨S1x2048, .f32⟩
  | .hbm, ⟨10, _⟩ => ⟨S1x2048, .f32⟩
  | .local _ .vmem, ⟨0, _⟩ => ⟨S256x1024, .f32⟩
  | .local _ .vmem, ⟨1, _⟩ => ⟨S256x1024, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S1x2048, .f32⟩
  | .local _ .vmem, ⟨7, _⟩ => ⟨S1x2048, .f32⟩
  | .local _ .vmem, ⟨8, _⟩ => ⟨S2048x1024, .bf16⟩
  | .local _ .vmem, ⟨9, _⟩ => ⟨S2048x1024, .f32⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | .local _ .vmem, ⟨15, _⟩ => ⟨S1x2048, .f32⟩
  | .local _ .vmem, ⟨16, _⟩ => ⟨S8x2048, .f32⟩
  | .local _ .vmem, ⟨17, _⟩ => ⟨S8x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v246 : BitVec 1 := Scalar.cmpi .eq arg0 c63_i32
  let v247 : BitVec 32 := Scalar.extui v246
  let c0_i32_56 : BitVec 32 := 0#32
  let v248 : BitVec 1 := Scalar.cmpi .ne v247 c0_i32_56
  v248

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ConfOutRefIdeal.lean ====
abbrev S16384x1024 : Shape := ⟨2, ![16384, 1024]⟩
abbrev S16384x2048 : Shape := ⟨2, ![16384, 2048]⟩
abbrev S16384x6144 : Shape := ⟨2, ![16384, 6144]⟩
abbrev S1x2048 : Shape := ⟨2, ![1, 2048]⟩
abbrev S2048x1024 : Shape := ⟨2, ![2048, 1024]⟩
abbrev S_ : Shape := ⟨0, ![]⟩
abbrev S16384 : Shape := ⟨1, ![16384]⟩
abbrev S16384x1 : Shape := ⟨2, ![16384, 1]⟩
abbrev S1024x2048 : Shape := ⟨2, ![1024, 2048]⟩
abbrev S2048 : Shape := ⟨1, ![2048]⟩

abbrev nBuf : Space → Nat
  | .hbm => 119
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .bf16⟩
  | .hbm, ⟨2, _⟩ => ⟨S16384x6144, .bf16⟩
  | .hbm, ⟨3, _⟩ => ⟨S1x2048, .f32⟩
  | .hbm, ⟨4, _⟩ => ⟨S1x2048, .f32⟩
  | .hbm, ⟨5, _⟩ => ⟨S2048x1024, .bf16⟩
  | .hbm, ⟨6, _⟩ => ⟨S16384x2048, .bf16⟩
  | .hbm, ⟨7, _⟩ => ⟨S2048x1024, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S_, .f32⟩
  | .hbm, ⟨42, _⟩ => ⟨S16384x2048, .f32⟩
  | .hbm, ⟨43, _⟩ => ⟨S16384x2048, .f32⟩
  | .hbm, ⟨44, _⟩ => ⟨S_, .f32⟩
  | .hbm, ⟨45, _⟩ => ⟨S16384x2048, .f32⟩
  | .hbm, ⟨46, _⟩ => ⟨S16384x2048, .f32⟩
  | .hbm, ⟨47, _⟩ => ⟨S_, .f32⟩
  | .hbm, ⟨48, _⟩ => ⟨S16384x2048, .f32⟩
  | .hbm, ⟨49, _⟩ => ⟨S16384x2048, .f32⟩
  | .hbm, ⟨50, _⟩ => ⟨S16384x2048, .f32⟩
  | .hbm, ⟨51, _⟩ => ⟨S16384x2048, .f32⟩
  | .hbm, ⟨52, _⟩ => ⟨S16384x2048, .f32⟩
  | .hbm, ⟨53, _⟩ => ⟨S16384x2048, .f32⟩
  | .hbm, ⟨54, _⟩ => ⟨S_, .f32⟩
  | .hbm, ⟨55, _⟩ => ⟨S16384x2048, .f32⟩
  | .hbm, ⟨56, _⟩ => ⟨S16384x2048, .f32⟩
  | .hbm, ⟨57, _⟩ => ⟨S_, .f32⟩
  | .hbm, ⟨58, _⟩ => ⟨S16384x2048, .f32⟩
  | .hbm, ⟨59, _⟩ => ⟨S16384x2048, .f32⟩
  | .hbm, ⟨60, _⟩ => ⟨S_, .f32⟩
  | .hbm, ⟨61, _⟩ => ⟨S16384x2048, .f32⟩
  | .hbm, ⟨62, _⟩ => ⟨S16384x2048, .f32⟩
  | .hbm, ⟨63, _⟩ => ⟨S16384x2048, .f32⟩
  | .hbm, ⟨64, _⟩ => ⟨S16384x2048, .f32⟩
  | .hbm, ⟨65, _⟩ => ⟨S16384x2048, .f32⟩
  | .hbm, ⟨66, _⟩ => ⟨S16384x1024, .f32⟩
  | .hbm, ⟨67, _⟩ => ⟨S1024x2048, .f32⟩
  | .hbm, ⟨68, _⟩ => ⟨S2048x1024, .f32⟩
  | .hbm, ⟨69, _⟩ => ⟨S16384x2048, .f32⟩
  | .hbm, ⟨70, _⟩ => ⟨S16384x2048, .f32⟩
  | .hbm, ⟨71, _⟩ => ⟨S16384x2048, .f32⟩
  | .hbm, ⟨72, _⟩ => ⟨S16384x2048, .f32⟩
  | .hbm, ⟨73, _⟩ => ⟨S16384x2048, .f32⟩
  | .hbm, ⟨74, _⟩ => ⟨S16384x2048, .f32⟩
  | .hbm, ⟨75, _⟩ => ⟨S16384x2048, .f32⟩
  | .hbm, ⟨76, _⟩ => ⟨S16384x2048, .f32⟩
  | .hbm, ⟨77, _⟩ => ⟨S16384x2048, .f32⟩
  | .hbm, ⟨78, _⟩ => ⟨S16384x2048, .f32⟩
  | .hbm, ⟨79, _⟩ => ⟨S16384x2048, .f32⟩
  | .hbm, ⟨80, _⟩ => ⟨S_, .f32⟩
  | .hbm, ⟨81, _⟩ => ⟨S2048, .f32⟩
  | .hbm, ⟨82, _⟩ => ⟨S1x2048, .f32⟩
  | .hbm, ⟨83, _⟩ => ⟨S16384x2048, .f32⟩
  | .hbm, ⟨84, _⟩ => ⟨S_, .f32⟩
  | .hbm, ⟨85, _⟩ => ⟨S2048, .f32⟩
  | .hbm, ⟨86, _⟩ => ⟨S1x2048, .f32⟩
  | .hbm, ⟨87, _⟩ => ⟨S16384x2048, .f32⟩
  | .hbm, ⟨88, _⟩ => ⟨S16384x2048, .f32⟩
  | .hbm, ⟨89, _⟩ => ⟨S16384x2048, .f32⟩
  | .hbm, ⟨90, _⟩ => ⟨S_, .f32⟩
  | .hbm, ⟨91, _⟩ => ⟨S16384, .f32⟩
  | .hbm, ⟨92, _⟩ => ⟨S16384x1, .f32⟩
  | .hbm, ⟨93, _⟩ => ⟨S16384x2048, .f32⟩
  | .hbm, ⟨94, _⟩ => ⟨S16384x2048, .f32⟩
  | .hbm, ⟨95, _⟩ => ⟨S16384x1, .f32⟩
  | .hbm, ⟨96, _⟩ => ⟨S_, .f32⟩
  | .hbm, ⟨97, _⟩ => ⟨S16384x1, .f32⟩
  | .hbm, ⟨98, _⟩ => ⟨S16384x1, .f32⟩
  | .hbm, ⟨99, _⟩ => ⟨S_, .f32⟩
  | .hbm, ⟨100, _⟩ => ⟨S16384, .f32⟩
  | .hbm, ⟨101, _⟩ => ⟨S16384x2048, .f32⟩
  | .hbm, ⟨102, _⟩ => ⟨S16384x2048, .f32⟩
  | .hbm, ⟨103, _⟩ => ⟨S16384x2048, .f32⟩
  | .hbm, ⟨104, _⟩ => ⟨S16384x2048, .f32⟩
  | .hbm, ⟨105, _⟩ => ⟨S16384x2048, .f32⟩
  | .hbm, ⟨106, _⟩ => ⟨S16384x2048, .f32⟩
  | .hbm, ⟨107, _⟩ => ⟨S_, .f32⟩
  | .hbm, ⟨108, _⟩ => ⟨S16384, .f32⟩
  | .hbm, ⟨109, _⟩ => ⟨S16384x1, .f32⟩
  | .hbm, ⟨110, _⟩ => ⟨S_, .f32⟩
  | .hbm, ⟨111, _⟩ => ⟨S16384x1, .f32⟩
  | .hbm, ⟨112, _⟩ => ⟨S16384x1, .f32⟩
  | .hbm, ⟨113, _⟩ => ⟨S_, .f32⟩
  | .hbm, ⟨114, _⟩ => ⟨S16384, .f32⟩
  | .hbm, ⟨115, _⟩ => ⟨S16384x2048, .f32⟩
  | .hbm, ⟨116, _⟩ => ⟨S16384x2048, .f32⟩
  | .hbm, ⟨117, _⟩ => ⟨S16384x2048, .bf16⟩
  | .hbm, ⟨118, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v27_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v27_1 : Ref sig .tc := ⟨.hbm, 50, rfl⟩
abbrev main_v27_0 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_v28_2 : Ref sig .tc := ⟨.hbm, 59, rfl⟩
abbrev main_call1_cst_1 : Ref sig .tc := ⟨.hbm, 60, rfl⟩
abbrev main_call1_v6 : Ref sig .tc := ⟨.hbm, 61, rfl⟩
abbrev main_call1_v7 : Ref sig .tc := ⟨.hbm, 62, rfl⟩
abbrev main_v28_1 : Ref sig .tc := ⟨.hbm, 63, rfl⟩
abbrev main_v28_0 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v36 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v37 : Ref sig .tc := ⟨.hbm, 79, rfl⟩
abbrev main_cst_5 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_cst_6 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_cst_7 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_cst_8 : Ref sig .tc := ⟨.hbm, 96, rfl⟩
abbrev main_v51 : Ref sig .tc := ⟨.hbm, 97, rfl⟩
abbrev main_v52 : Ref sig .tc := ⟨.hbm, 98, rfl⟩
abbrev main_cst_9 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_cst_10 : Ref sig .tc := ⟨.hbm, 107, rfl⟩
abbrev main_v60 : Ref sig .tc := ⟨.hbm, 108, rfl⟩
abbrev main_v61 : Ref sig .tc := ⟨.hbm, 109, rfl⟩
abbrev main_cst_11 : Ref sig .tc := ⟨.hbm, 110, rfl⟩
abbrev main_v62 : Ref sig .tc := ⟨.hbm, 111, rfl⟩
abbrev main_v63 : Ref sig .tc := ⟨.hbm, 112, rfl⟩
abbrev main_cst_12 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩

abbrev nD : Nat := 1
abbrev τ : Topo := Topo.v7x

variable {F : FTy → Type} [FloatOps F]
-- ==== SsdOut.lean ====
abbrev S16384x1024 : Shape := ⟨2, ![16384, 1024]⟩
abbrev S16384x2048 : Shape := ⟨2, ![16384, 2048]⟩
abbrev S16384x3072 : Shape := ⟨2, ![16384, 3072]⟩
abbrev S16384x5248 : Shape := ⟨2, ![16384, 5248]⟩
abbrev S1x2048 : Shape := ⟨2, ![1, 2048]⟩
abbrev S2048x1024 : Shape := ⟨2, ![2048, 1024]⟩
abbrev S256x1024 : Shape := ⟨2, ![256, 1024]⟩
abbrev S256x2048 : Shape := ⟨2, ![256, 2048]⟩
abbrev S8x2048 : Shape := ⟨2, ![8, 2048]⟩
abbrev S256 : Shape := ⟨1, ![256]⟩
abbrev S256x1 : Shape := ⟨2, ![256, 1]⟩
abbrev S2048 : Shape := ⟨1, ![2048]⟩

abbrev nBuf : Space → Nat
  | .hbm => 13
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S16384x2048, .f32⟩
  | .hbm, ⟨3, _⟩ => ⟨S16384x3072, .bf16⟩
  | .hbm, ⟨4, _⟩ => ⟨S16384x5248, .bf16⟩
  | .hbm, ⟨5, _⟩ => ⟨S1x2048, .f32⟩
  | .hbm, ⟨6, _⟩ => ⟨S1x2048, .f32⟩
  | .hbm, ⟨7, _⟩ => ⟨S2048x1024, .bf16⟩
  | .hbm, ⟨8, _⟩ => ⟨S2048x1024, .f32⟩
  | .hbm, ⟨9, _⟩ => ⟨S16384x2048, .bf16⟩
  | .hbm, ⟨10, _⟩ => ⟨S16384x2048, .bf16⟩
  | .hbm, ⟨11, _⟩ => ⟨S1x2048, .f32⟩
  | .hbm, ⟨12, _⟩ => ⟨S1x2048, .f32⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | .local _ .vmem, ⟨11, _⟩ => ⟨S1x2048, .f32⟩
  | .local _ .vmem, ⟨12, _⟩ => ⟨S2048x1024, .bf16⟩
  | .local _ .vmem, ⟨13, _⟩ => ⟨S2048x1024, .f32⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S1x2048, .f32⟩
  | .local _ .vmem, ⟨19, _⟩ => ⟨S1x2048, .f32⟩
  | .local _ .vmem, ⟨20, _⟩ => ⟨S8x2048, .f32⟩
  | .local _ .vmem, ⟨21, _⟩ => ⟨S8x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v225 : BitVec 1 := Scalar.cmpi .eq arg0 c63_i32
  let v226 : BitVec 32 := Scalar.extui v225
  let c0_i32_51 : BitVec 32 := 0#32
  let v227 : BitVec 1 := Scalar.cmpi .ne v226 c0_i32_51
  v227

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== SsdOutRefIdeal.lean ====
abbrev S16384x1024 : Shape := ⟨2, ![16384, 1024]⟩
abbrev S16384x2048 : Shape := ⟨2, ![16384, 2048]⟩
abbrev S16384x3072 : Shape := ⟨2, ![16384, 3072]⟩
abbrev S16384x5248 : Shape := ⟨2, ![16384, 5248]⟩
abbrev S1x2048 : Shape := ⟨2, ![1, 2048]⟩
abbrev S2048x1024 : Shape := ⟨2, ![2048, 1024]⟩
abbrev S_ : Shape := ⟨0, ![]⟩
abbrev S16384 : Shape := ⟨1, ![16384]⟩
abbrev S16384x1 : Shape := ⟨2, ![16384, 1]⟩
abbrev S1024x2048 : Shape := ⟨2, ![1024, 2048]⟩
abbrev S2048 : Shape := ⟨1, ![2048]⟩

abbrev nBuf : Space → Nat
  | .hbm => 98
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S16384x2048, .f32⟩
  | .hbm, ⟨3, _⟩ => ⟨S16384x3072, .bf16⟩
  | .hbm, ⟨4, _⟩ => ⟨S16384x5248, .bf16⟩
  | .hbm, ⟨5, _⟩ => ⟨S1x2048, .f32⟩
  | .hbm, ⟨6, _⟩ => ⟨S1x2048, .f32⟩
  | .hbm, ⟨7, _⟩ => ⟨S2048x1024, .bf16⟩
  | .hbm, ⟨8, _⟩ => ⟨S16384x2048, .bf16⟩
  | .hbm, ⟨9, _⟩ => ⟨S2048x1024, .f32⟩
  | .hbm, ⟨10, _⟩ => ⟨S16384x2048, .f32⟩
  | .hbm, ⟨11, _⟩ => ⟨S16384x2048, .f32⟩
  | .hbm, ⟨12, _⟩ => ⟨S16384x2048, .bf16⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384x2048, .f32⟩
  | .hbm, ⟨18, _⟩ => ⟨S16384x2048, .f32⟩
  | .hbm, ⟨19, _⟩ => ⟨S_, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384x2048, .f32⟩
  | .hbm, ⟨33, _⟩ => ⟨S16384x2048, .f32⟩
  | .hbm, ⟨34, _⟩ => ⟨S_, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x2048, .f32⟩
  | .hbm, ⟨56, _⟩ => ⟨S16384x2048, .f32⟩
  | .hbm, ⟨57, _⟩ => ⟨S16384x2048, .f32⟩
  | .hbm, ⟨58, _⟩ => ⟨S16384x2048, .f32⟩
  | .hbm, ⟨59, _⟩ => ⟨S16384x1024, .f32⟩
  | .hbm, ⟨60, _⟩ => ⟨S1024x2048, .f32⟩
  | .hbm, ⟨61, _⟩ => ⟨S2048x1024, .f32⟩
  | .hbm, ⟨62, _⟩ => ⟨S16384x2048, .f32⟩
  | .hbm, ⟨63, _⟩ => ⟨S16384x2048, .f32⟩
  | .hbm, ⟨64, _⟩ => ⟨S_, .f32⟩
  | .hbm, ⟨65, _⟩ => ⟨S2048, .f32⟩
  | .hbm, ⟨66, _⟩ => ⟨S1x2048, .f32⟩
  | .hbm, ⟨67, _⟩ => ⟨S16384x2048, .f32⟩
  | .hbm, ⟨68, _⟩ => ⟨S16384x2048, .f32⟩
  | .hbm, ⟨69, _⟩ => ⟨S16384x2048, .f32⟩
  | .hbm, ⟨70, _⟩ => ⟨S_, .f32⟩
  | .hbm, ⟨71, _⟩ => ⟨S16384, .f32⟩
  | .hbm, ⟨72, _⟩ => ⟨S16384x1, .f32⟩
  | .hbm, ⟨73, _⟩ => ⟨S16384x2048, .f32⟩
  | .hbm, ⟨74, _⟩ => ⟨S16384x2048, .f32⟩
  | .hbm, ⟨75, _⟩ => ⟨S16384x1, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S_, .f32⟩
  | .hbm, ⟨80, _⟩ => ⟨S16384, .f32⟩
  | .hbm, ⟨81, _⟩ => ⟨S16384x2048, .f32⟩
  | .hbm, ⟨82, _⟩ => ⟨S16384x2048, .f32⟩
  | .hbm, ⟨83, _⟩ => ⟨S16384x2048, .f32⟩
  | .hbm, ⟨84, _⟩ => ⟨S16384x2048, .f32⟩
  | .hbm, ⟨85, _⟩ => ⟨S16384x2048, .f32⟩
  | .hbm, ⟨86, _⟩ => ⟨S16384x2048, .f32⟩
  | .hbm, ⟨87, _⟩ => ⟨S16384x2048, .f32⟩
  | .hbm, ⟨88, _⟩ => ⟨S16384x2048, .f32⟩
  | .hbm, ⟨89, _⟩ => ⟨S16384x2048, .f32⟩
  | .hbm, ⟨90, _⟩ => ⟨S16384x2048, .f32⟩
  | .hbm, ⟨91, _⟩ => ⟨S16384x2048, .f32⟩
  | .hbm, ⟨92, _⟩ => ⟨S16384x2048, .f32⟩
  | .hbm, ⟨93, _⟩ => ⟨S_, .f32⟩
  | .hbm, ⟨94, _⟩ => ⟨S2048, .f32⟩
  | .hbm, ⟨95, _⟩ => ⟨S1x2048, .f32⟩
  | .hbm, ⟨96, _⟩ => ⟨S16384x2048, .bf16⟩
  | .hbm, ⟨97, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_v10_2 : Ref sig .tc := ⟨.hbm, 33, rfl⟩
abbrev main_call1_cst_1 : Ref sig .tc := ⟨.hbm, 34, rfl⟩
abbrev main_call1_v6 : Ref sig .tc := ⟨.hbm, 35, rfl⟩
abbrev main_call1_v7 : Ref sig .tc := ⟨.hbm, 36, rfl⟩
abbrev main_v10_1 : Ref sig .tc := ⟨.hbm, 37, rfl⟩
abbrev main_v10_0 : Ref sig .tc := ⟨.hbm, 38, rfl⟩
abbrev main_v11 : Ref sig .tc := ⟨.hbm, 39, rfl⟩
abbrev main_v12 : Ref sig .tc := ⟨.hbm, 40, rfl⟩
abbrev main_cst : Ref sig .tc := ⟨.hbm, 41, rfl⟩
abbrev main_v13 : Ref sig .tc := ⟨.hbm, 42, rfl⟩
abbrev main_v14 : Ref sig .tc := ⟨.hbm, 43, rfl⟩
abbrev main_cst_0 : Ref sig .tc := ⟨.hbm, 44, rfl⟩
abbrev main_v15 : Ref sig .tc := ⟨.hbm, 45, rfl⟩
abbrev main_v16 : Ref sig .tc := ⟨.hbm, 46, rfl⟩
abbrev main_cst_1 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_3 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_4 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_5 : Ref sig .tc := ⟨.hbm, 76, rfl⟩
abbrev main_v42 : Ref sig .tc := ⟨.hbm, 77, rfl⟩
abbrev main_v43 : Ref sig .tc := ⟨.hbm, 78, rfl⟩
abbrev main_cst_6 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_v52 : Ref sig .tc := ⟨.hbm, 91, rfl⟩
abbrev main_v53 : Ref sig .tc := ⟨.hbm, 92, rfl⟩
abbrev main_cst_7 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩

abbrev nD : Nat := 1
abbrev τ : Topo := Topo.v7x

variable {F : FTy → Type} [FloatOps F]
-- ==== CmIn.lean ====
abbrev S16384x2048 : Shape := ⟨2, ![16384, 2048]⟩
abbrev S1024x6144 : Shape := ⟨2, ![1024, 6144]⟩
abbrev S16384x1024 : Shape := ⟨2, ![16384, 1024]⟩
abbrev S1x1024 : Shape := ⟨2, ![1, 1024]⟩
abbrev S512x2048 : Shape := ⟨2, ![512, 2048]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S1024x1024 : Shape := ⟨2, ![1024, 1024]⟩
abbrev S1024 : Shape := ⟨1, ![1024]⟩

abbrev nBuf : Space → Nat
  | .hbm => 10
  | .vmem => 18
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S1024x6144, .bf16⟩
  | .hbm, ⟨4, _⟩ => ⟨S16384x1024, .f32⟩
  | .hbm, ⟨5, _⟩ => ⟨S1x1024, .f32⟩
  | .hbm, ⟨6, _⟩ => ⟨S16384x1024, .f32⟩
  | .hbm, ⟨7, _⟩ => ⟨S16384x1024, .f32⟩
  | .hbm, ⟨8, _⟩ => ⟨S16384x1024, .bf16⟩
  | .hbm, ⟨9, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S1024x6144, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S8x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v193 : BitVec 1 := Scalar.cmpi .eq arg0 c31_i32
  let v194 : BitVec 32 := Scalar.extui v193
  let c0_i32_46 : BitVec 32 := 0#32
  let v195 : BitVec 1 := Scalar.cmpi .ne v194 c0_i32_46
  v195

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== CmInRefIdeal.lean ====
abbrev S16384x2048 : Shape := ⟨2, ![16384, 2048]⟩
abbrev S1024x6144 : Shape := ⟨2, ![1024, 6144]⟩
abbrev S16384x1024 : Shape := ⟨2, ![16384, 1024]⟩
abbrev S1x1024 : Shape := ⟨2, ![1, 1024]⟩
abbrev S16384x6144 : Shape := ⟨2, ![16384, 6144]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S1024x6144, .bf16⟩
  | .hbm, ⟨4, _⟩ => ⟨S16384x1024, .f32⟩
  | .hbm, ⟨5, _⟩ => ⟨S1x1024, .f32⟩
  | .hbm, ⟨6, _⟩ => ⟨S16384x1024, .f32⟩
  | .hbm, ⟨7, _⟩ => ⟨S16384x6144, .bf16⟩
  | .hbm, ⟨8, _⟩ => ⟨S16384x6144, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S1024x6144, .f32⟩
  | .hbm, ⟨29, _⟩ => ⟨S16384x6144, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== SsdIn.lean ====
abbrev S16384x2048 : Shape := ⟨2, ![16384, 2048]⟩
abbrev S16384x3072 : Shape := ⟨2, ![16384, 3072]⟩
abbrev S16384x128 : Shape := ⟨2, ![16384, 128]⟩
abbrev S5248x1024 : Shape := ⟨2, ![5248, 1024]⟩
abbrev S16384x1024 : Shape := ⟨2, ![16384, 1024]⟩
abbrev S1x1024 : Shape := ⟨2, ![1, 1024]⟩
abbrev S512x2048 : Shape := ⟨2, ![512, 2048]⟩
abbrev S512x3072 : Shape := ⟨2, ![512, 3072]⟩
abbrev S512x128 : Shape := ⟨2, ![512, 128]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S1024x1024 : Shape := ⟨2, ![1024, 1024]⟩
abbrev S128x1024 : Shape := ⟨2, ![128, 1024]⟩
abbrev S1024 : Shape := ⟨1, ![1024]⟩

abbrev nBuf : Space → Nat
  | .hbm => 10
  | .vmem => 18
  | .smem => 0
  | _ => 0

abbrev bufTy : (tb : Table) → Fin (tcTables nBuf tb) → BufTy
  | .hbm, ⟨0, _⟩ => ⟨S16384x2048, .bf16⟩
  | .hbm, ⟨1, _⟩ => ⟨S16384x3072, .bf16⟩
  | .hbm, ⟨2, _⟩ => ⟨S16384x128, .bf16⟩
  | .hbm, ⟨3, _⟩ => ⟨S5248x1024, .bf16⟩
  | .hbm, ⟨4, _⟩ => ⟨S16384x1024, .f32⟩
  | .hbm, ⟨5, _⟩ => ⟨S1x1024, .f32⟩
  | .hbm, ⟨6, _⟩ => ⟨S16384x1024, .f32⟩
  | .hbm, ⟨7, _⟩ => ⟨S16384x1024, .f32⟩
  | .hbm, ⟨8, _⟩ => ⟨S16384x1024, .bf16⟩
  | .hbm, ⟨9, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S512x3072, .bf16⟩
  | .local _ .vmem, ⟨3, _⟩ => ⟨S512x3072, .bf16⟩
  | .local _ .vmem, ⟨4, _⟩ => ⟨S512x128, .bf16⟩
  | .local _ .vmem, ⟨5, _⟩ => ⟨S512x128, .bf16⟩
  | .local _ .vmem, ⟨6, _⟩ => ⟨S5248x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S8x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v193 : BitVec 1 := Scalar.cmpi .eq arg0 c31_i32
  let v194 : BitVec 32 := Scalar.extui v193
  let c0_i32_46 : BitVec 32 := 0#32
  let v195 : BitVec 1 := Scalar.cmpi .ne v194 c0_i32_46
  v195

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5248x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== SsdInRefIdeal.lean ====
abbrev S16384x2048 : Shape := ⟨2, ![16384, 2048]⟩
abbrev S16384x3072 : Shape := ⟨2, ![16384, 3072]⟩
abbrev S16384x128 : Shape := ⟨2, ![16384, 128]⟩
abbrev S5248x1024 : Shape := ⟨2, ![5248, 1024]⟩
abbrev S16384x1024 : Shape := ⟨2, ![16384, 1024]⟩
abbrev S1x1024 : Shape := ⟨2, ![1, 1024]⟩
abbrev S16384x5248 : Shape := ⟨2, ![16384, 5248]⟩
abbrev S_ : Shape := ⟨0, ![]⟩
abbrev S16384 : Shape := ⟨1, ![16384]⟩
abbrev S16384x1 : Shape := ⟨2, ![16384, 1]⟩
abbrev S1024x5248 : Shape := ⟨2, ![1024, 5248]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x3072, .bf16⟩
  | .hbm, ⟨2, _⟩ => ⟨S16384x128, .bf16⟩
  | .hbm, ⟨3, _⟩ => ⟨S5248x1024, .bf16⟩
  | .hbm, ⟨4, _⟩ => ⟨S16384x1024, .f32⟩
  | .hbm, ⟨5, _⟩ => ⟨S1x1024, .f32⟩
  | .hbm, ⟨6, _⟩ => ⟨S16384x1024, .f32⟩
  | .hbm, ⟨7, _⟩ => ⟨S16384x5248, .bf16⟩
  | .hbm, ⟨8, _⟩ => ⟨S16384x5248, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S5248x1024, .f32⟩
  | .hbm, ⟨29, _⟩ => ⟨S1024x5248, .f32⟩
  | .hbm, ⟨30, _⟩ => ⟨S16384x5248, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== CmWin.lean ====
abbrev S16384x1024 : Shape := ⟨2, ![16384, 1024]⟩
abbrev S16384x2048 : Shape := ⟨2, ![16384, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== CmWinRefIdeal.lean ====
abbrev S16384x1024 : Shape := ⟨2, ![16384, 1024]⟩
abbrev S16384x2048 : Shape := ⟨2, ![16384, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S_, .f32⟩
  | .hbm, ⟨3, _⟩ => ⟨S1024x2048, .f32⟩
  | .hbm, ⟨4, _⟩ => ⟨S16384x1024, .f32⟩
  | .hbm, ⟨5, _⟩ => ⟨S16384x2048, .f32⟩
  | .hbm, ⟨6, _⟩ => ⟨S16384x2048, .f32⟩
  | .hbm, ⟨7, _⟩ => ⟨S2048x1024, .f32⟩
  | .hbm, ⟨8, _⟩ => ⟨S1024x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SsdWinZ.lean ====
abbrev S16384x1024 : Shape := ⟨2, ![16384, 1024]⟩
abbrev S16384x2048 : Shape := ⟨2, ![16384, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== SsdWinZIdeal.lean ====
abbrev S16384x1024 : Shape := ⟨2, ![16384, 1024]⟩
abbrev S16384x2048 : Shape := ⟨2, ![16384, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== SsdWinZRefIdeal.lean ====
abbrev S16384x1024 : Shape := ⟨2, ![16384, 1024]⟩
abbrev S16384x2048 : Shape := ⟨2, ![16384, 2048]⟩
abbrev S_ : Shape := ⟨0, ![]⟩
abbrev S2048x1024 : Shape := ⟨2, ![2048, 1024]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S_, .f32⟩
  | .hbm, ⟨3, _⟩ => ⟨S2048x1024, .f32⟩
  | .hbm, ⟨4, _⟩ => ⟨S16384x1024, .f32⟩
  | .hbm, ⟨5, _⟩ => ⟨S1024x2048, .f32⟩
  | .hbm, ⟨6, _⟩ => ⟨S16384x2048, .f32⟩
  | .hbm, ⟨7, _⟩ => ⟨S16384x2048, .f32⟩
  | .hbm, ⟨8, _⟩ => ⟨S2048x1024, .f32⟩
  | .hbm, ⟨9, _⟩ => ⟨S1024x2048, .f32⟩
  | .hbm, ⟨10, _⟩ => ⟨S2048x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== SsdWinX.lean ====
abbrev S16384x1024 : Shape := ⟨2, ![16384, 1024]⟩
abbrev S16384x3072 : Shape := ⟨2, ![16384, 3072]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x3072, .bf16⟩
  | .hbm, ⟨2, _⟩ => ⟨S3072x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== SsdWinXIdeal.lean ====
abbrev S16384x1024 : Shape := ⟨2, ![16384, 1024]⟩
abbrev S16384x3072 : Shape := ⟨2, ![16384, 3072]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x3072, .bf16⟩
  | .hbm, ⟨2, _⟩ => ⟨S3072x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== SsdWinXRefIdeal.lean ====
abbrev S16384x1024 : Shape := ⟨2, ![16384, 1024]⟩
abbrev S16384x3072 : Shape := ⟨2, ![16384, 3072]⟩
abbrev S_ : Shape := ⟨0, ![]⟩
abbrev S3072x1024 : Shape := ⟨2, ![3072, 1024]⟩
abbrev S1024x3072 : Shape := ⟨2, ![1024, 3072]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x3072, .bf16⟩
  | .hbm, ⟨2, _⟩ => ⟨S_, .f32⟩
  | .hbm, ⟨3, _⟩ => ⟨S3072x1024, .f32⟩
  | .hbm, ⟨4, _⟩ => ⟨S16384x1024, .f32⟩
  | .hbm, ⟨5, _⟩ => ⟨S1024x3072, .f32⟩
  | .hbm, ⟨6, _⟩ => ⟨S16384x3072, .f32⟩
  | .hbm, ⟨7, _⟩ => ⟨S16384x3072, .f32⟩
  | .hbm, ⟨8, _⟩ => ⟨S3072x1024, .f32⟩
  | .hbm, ⟨9, _⟩ => ⟨S1024x3072, .f32⟩
  | .hbm, ⟨10, _⟩ => ⟨S3072x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== SsdWinT.lean ====
abbrev S16384x1024 : Shape := ⟨2, ![16384, 1024]⟩
abbrev S16384x128 : Shape := ⟨2, ![16384, 128]⟩
abbrev S128x1024 : Shape := ⟨2, ![128, 1024]⟩
abbrev S2048x1024 : Shape := ⟨2, ![2048, 1024]⟩
abbrev S2048x128 : Shape := ⟨2, ![2048, 128]⟩
abbrev S1024x128 : Shape := ⟨2, ![1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x128, .bf16⟩
  | .hbm, ⟨2, _⟩ => ⟨S128x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S128x1024, .f32⟩
  | .local _ .vmem, ⟨5, _⟩ => ⟨S1024x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== SsdWinTRefIdeal.lean ====
abbrev S16384x1024 : Shape := ⟨2, ![16384, 1024]⟩
abbrev S16384x128 : Shape := ⟨2, ![16384, 128]⟩
abbrev S_ : Shape := ⟨0, ![]⟩
abbrev S128x1024 : Shape := ⟨2, ![128, 1024]⟩
abbrev S1024x128 : Shape := ⟨2, ![1024, 128]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x128, .bf16⟩
  | .hbm, ⟨2, _⟩ => ⟨S_, .f32⟩
  | .hbm, ⟨3, _⟩ => ⟨S128x1024, .f32⟩
  | .hbm, ⟨4, _⟩ => ⟨S16384x1024, .f32⟩
  | .hbm, ⟨5, _⟩ => ⟨S1024x128, .f32⟩
  | .hbm, ⟨6, _⟩ => ⟨S16384x128, .f32⟩
  | .hbm, ⟨7, _⟩ => ⟨S16384x128, .f32⟩
  | .hbm, ⟨8, _⟩ => ⟨S128x1024, .f32⟩
  | .hbm, ⟨9, _⟩ => ⟨S1024x128, .f32⟩
  | .hbm, ⟨10, _⟩ => ⟨S128x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== CmInF.lean ====
abbrev S16384x1024 : Shape := ⟨2, ![16384, 1024]⟩
abbrev S1x1024 : Shape := ⟨2, ![1, 1024]⟩
abbrev S1024x6144 : Shape := ⟨2, ![1024, 6144]⟩
abbrev S16384x6144 : Shape := ⟨2, ![16384, 6144]⟩
abbrev S512x1024 : Shape := ⟨2, ![512, 1024]⟩
abbrev S512x6144 : Shape := ⟨2, ![512, 6144]⟩
abbrev S512 : Shape := ⟨1, ![512]⟩
abbrev S512x1 : Shape := ⟨2, ![512, 1]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x6144, .bf16⟩
  | .hbm, ⟨3, _⟩ => ⟨S16384x6144, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6144, .bf16⟩
  | .local _ .vmem, ⟨4, _⟩ => ⟨S512x6144, .bf16⟩
  | .local _ .vmem, ⟨5, _⟩ => ⟨S512x6144, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== CmInFRefIdeal.lean ====
abbrev S16384x1024 : Shape := ⟨2, ![16384, 1024]⟩
abbrev S1x1024 : Shape := ⟨2, ![1, 1024]⟩
abbrev S1024x6144 : Shape := ⟨2, ![1024, 6144]⟩
abbrev S_ : Shape := ⟨0, ![]⟩
abbrev S16384 : Shape := ⟨1, ![16384]⟩
abbrev S16384x1 : Shape := ⟨2, ![16384, 1]⟩
abbrev S16384x6144 : Shape := ⟨2, ![16384, 6144]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x6144, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S1024x6144, .f32⟩
  | .hbm, ⟨19, _⟩ => ⟨S16384x6144, .f32⟩
  | .hbm, ⟨20, _⟩ => ⟨S16384x6144, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== SsdInF.lean ====
abbrev S16384x1024 : Shape := ⟨2, ![16384, 1024]⟩
abbrev S1x1024 : Shape := ⟨2, ![1, 1024]⟩
abbrev S5248x1024 : Shape := ⟨2, ![5248, 1024]⟩
abbrev S16384x5248 : Shape := ⟨2, ![16384, 5248]⟩
abbrev S16384x128 : Shape := ⟨2, ![16384, 128]⟩
abbrev S512x1024 : Shape := ⟨2, ![512, 1024]⟩
abbrev S512x5248 : Shape := ⟨2, ![512, 5248]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩
abbrev S128x1024 : Shape := ⟨2, ![128, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S5248x1024, .bf16⟩
  | .hbm, ⟨3, _⟩ => ⟨S16384x5248, .bf16⟩
  | .hbm, ⟨4, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5248x1024, .bf16⟩
  | .local _ .vmem, ⟨4, _⟩ => ⟨S512x5248, .bf16⟩
  | .local _ .vmem, ⟨5, _⟩ => ⟨S512x5248, .bf16⟩
  | .local _ .vmem, ⟨6, _⟩ => ⟨S512x128, .f32⟩
  | .local _ .vmem, ⟨7, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5248x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5248 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SsdInFRefIdeal.lean ====
abbrev S16384x1024 : Shape := ⟨2, ![16384, 1024]⟩
abbrev S1x1024 : Shape := ⟨2, ![1, 1024]⟩
abbrev S5248x1024 : Shape := ⟨2, ![5248, 1024]⟩
abbrev S_ : Shape := ⟨0, ![]⟩
abbrev S16384 : Shape := ⟨1, ![16384]⟩
abbrev S16384x1 : Shape := ⟨2, ![16384, 1]⟩
abbrev S1024x5248 : Shape := ⟨2, ![1024, 5248]⟩
abbrev S16384x5248 : Shape := ⟨2, ![16384, 5248]⟩
abbrev S16384x128 : Shape := ⟨2, ![16384, 128]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S5248x1024, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S5248x1024, .f32⟩
  | .hbm, ⟨19, _⟩ => ⟨S1024x5248, .f32⟩
  | .hbm, ⟨20, _⟩ => ⟨S16384x5248, .f32⟩
  | .hbm, ⟨21, _⟩ => ⟨S16384x5248, .bf16⟩
  | .hbm, ⟨22, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== ConfOutF.lean ====
abbrev S16384x2048 : Shape := ⟨2, ![16384, 2048]⟩
abbrev S16384x6144 : Shape := ⟨2, ![16384, 6144]⟩
abbrev S16384x1024 : Shape := ⟨2, ![16384, 1024]⟩
abbrev S1x2048 : Shape := ⟨2, ![1, 2048]⟩
abbrev S2048x1024 : Shape := ⟨2, ![2048, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S16384x6144, .bf16⟩
  | .hbm, ⟨2, _⟩ => ⟨S16384x1024, .f32⟩
  | .hbm, ⟨3, _⟩ => ⟨S1x2048, .f32⟩
  | .hbm, ⟨4, _⟩ => ⟨S1x2048, .f32⟩
  | .hbm, ⟨5, _⟩ => ⟨S2048x1024, .bf16⟩
  | .hbm, ⟨6, _⟩ => ⟨S16384x1024, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x1024, .f32⟩
  | .local _ .vmem, ⟨5, _⟩ => ⟨S256x1024, .f32⟩
  | .local _ .vmem, ⟨6, _⟩ => ⟨S1x2048, .f32⟩
  | .local _ .vmem, ⟨7, _⟩ => ⟨S1x2048, .f32⟩
  | .local _ .vmem, ⟨8, _⟩ => ⟨S2048x1024, .bf16⟩
  | .local _ .vmem, ⟨9, _⟩ => ⟨S256x1024, .f32⟩
  | .local _ .vmem, ⟨10, _⟩ => ⟨S256x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConfOutFRefIdeal.lean ====
abbrev S16384x2048 : Shape := ⟨2, ![16384, 2048]⟩
abbrev S16384x6144 : Shape := ⟨2, ![16384, 6144]⟩
abbrev S16384x1024 : Shape := ⟨2, ![16384, 1024]⟩
abbrev S1x2048 : Shape := ⟨2, ![1, 2048]⟩
abbrev S2048x1024 : Shape := ⟨2, ![2048, 1024]⟩
abbrev S_ : Shape := ⟨0, ![]⟩
abbrev S16384 : Shape := ⟨1, ![16384]⟩
abbrev S16384x1 : Shape := ⟨2, ![16384, 1]⟩

abbrev nBuf : Space → Nat
  | .hbm => 56
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x6144, .bf16⟩
  | .hbm, ⟨2, _⟩ => ⟨S16384x1024, .f32⟩
  | .hbm, ⟨3, _⟩ => ⟨S1x2048, .f32⟩
  | .hbm, ⟨4, _⟩ => ⟨S1x2048, .f32⟩
  | .hbm, ⟨5, _⟩ => ⟨S2048x1024, .bf16⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S_, .f32⟩
  | .hbm, ⟨35, _⟩ => ⟨S16384x2048, .f32⟩
  | .hbm, ⟨36, _⟩ => ⟨S16384x2048, .f32⟩
  | .hbm, ⟨37, _⟩ => ⟨S_, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x2048, .bf16⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S_, .f32⟩
  | .hbm, ⟨46, _⟩ => ⟨S16384x2048, .f32⟩
  | .hbm, ⟨47, _⟩ => ⟨S16384x2048, .f32⟩
  | .hbm, ⟨48, _⟩ => ⟨S_, .f32⟩
  | .hbm, ⟨49, _⟩ => ⟨S16384x2048, .f32⟩
  | .hbm, ⟨50, _⟩ => ⟨S16384x2048, .f32⟩
  | .hbm, ⟨51, _⟩ => ⟨S16384x2048, .f32⟩
  | .hbm, ⟨52, _⟩ => ⟨S16384x2048, .f32⟩
  | .hbm, ⟨53, _⟩ => ⟨S2048x1024, .f32⟩
  | .hbm, ⟨54, _⟩ => ⟨S16384x1024, .f32⟩
  | .hbm, ⟨55, _⟩ => ⟨S16384x1024, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩

abbrev nD : Nat := 1
abbrev τ : Topo := Topo.v7x

variable {F : FTy → Type} [FloatOps F]
-- ==== SsdOutF.lean ====
abbrev S16384x2048 : Shape := ⟨2, ![16384, 2048]⟩
abbrev S16384x3072 : Shape := ⟨2, ![16384, 3072]⟩
abbrev S16384x5248 : Shape := ⟨2, ![16384, 5248]⟩
abbrev S1x2048 : Shape := ⟨2, ![1, 2048]⟩
abbrev S16384x1024 : Shape := ⟨2, ![16384, 1024]⟩
abbrev S2048x1024 : Shape := ⟨2, ![2048, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x3072, .bf16⟩
  | .hbm, ⟨3, _⟩ => ⟨S16384x5248, .bf16⟩
  | .hbm, ⟨4, _⟩ => ⟨S1x2048, .f32⟩
  | .hbm, ⟨5, _⟩ => ⟨S1x2048, .f32⟩
  | .hbm, ⟨6, _⟩ => ⟨S16384x1024, .f32⟩
  | .hbm, ⟨7, _⟩ => ⟨S2048x1024, .bf16⟩
  | .hbm, ⟨8, _⟩ => ⟨S16384x1024, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | .local _ .vmem, ⟨10, _⟩ => ⟨S256x1024, .f32⟩
  | .local _ .vmem, ⟨11, _⟩ => ⟨S256x1024, .f32⟩
  | .local _ .vmem, ⟨12, _⟩ => ⟨S2048x1024, .bf16⟩
  | .local _ .vmem, ⟨13, _⟩ => ⟨S256x1024, .f32⟩
  | .local _ .vmem, ⟨14, _⟩ => ⟨S256x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SsdOutFRefIdeal.lean ====
abbrev S16384x2048 : Shape := ⟨2, ![16384, 2048]⟩
abbrev S16384x3072 : Shape := ⟨2, ![16384, 3072]⟩
abbrev S16384x5248 : Shape := ⟨2, ![16384, 5248]⟩
abbrev S1x2048 : Shape := ⟨2, ![1, 2048]⟩
abbrev S16384x1024 : Shape := ⟨2, ![16384, 1024]⟩
abbrev S2048x1024 : Shape := ⟨2, ![2048, 1024]⟩
abbrev S_ : Shape := ⟨0, ![]⟩
abbrev S16384 : Shape := ⟨1, ![16384]⟩
abbrev S16384x1 : Shape := ⟨2, ![16384, 1]⟩

abbrev nBuf : Space → Nat
  | .hbm => 53
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x3072, .bf16⟩
  | .hbm, ⟨3, _⟩ => ⟨S16384x5248, .bf16⟩
  | .hbm, ⟨4, _⟩ => ⟨S1x2048, .f32⟩
  | .hbm, ⟨5, _⟩ => ⟨S1x2048, .f32⟩
  | .hbm, ⟨6, _⟩ => ⟨S16384x1024, .f32⟩
  | .hbm, ⟨7, _⟩ => ⟨S2048x1024, .bf16⟩
  | .hbm, ⟨8, _⟩ => ⟨S16384x2048, .f32⟩
  | .hbm, ⟨9, _⟩ => ⟨S16384x2048, .bf16⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .bf16⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S16384x2048, .f32⟩
  | .hbm, ⟨50, _⟩ => ⟨S2048x1024, .f32⟩
  | .hbm, ⟨51, _⟩ => ⟨S16384x1024, .f32⟩
  | .hbm, ⟨52, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst : Ref sig .tc := ⟨.hbm, 36, rfl⟩
abbrev main_v12 : Ref sig .tc := ⟨.hbm, 37, rfl⟩
abbrev main_v13 : Ref sig .tc := ⟨.hbm, 38, rfl⟩
abbrev main_cst_0 : Ref sig .tc := ⟨.hbm, 39, rfl⟩
abbrev main_v14 : Ref sig .tc := ⟨.hbm, 40, rfl⟩
abbrev main_v15 : Ref sig .tc := ⟨.hbm, 41, rfl⟩
abbrev main_cst_1 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩

abbrev nD : Nat := 1
abbrev τ : Topo := Topo.v7x

variable {F : FTy → Type} [FloatOps F]
-- ==== SsdConv.lean ====
abbrev S16384x5248 : Shape := ⟨2, ![16384, 5248]⟩
abbrev S5x3072 : Shape := ⟨2, ![5, 3072]⟩
abbrev S1x3072 : Shape := ⟨2, ![1, 3072]⟩
abbrev S16384x3072 : Shape := ⟨2, ![16384, 3072]⟩
abbrev S512x1024 : Shape := ⟨2, ![512, 1024]⟩
abbrev S16x1024 : Shape := ⟨2, ![16, 1024]⟩
abbrev S5x1024 : Shape := ⟨2, ![5, 1024]⟩
abbrev S1x1024 : Shape := ⟨2, ![1, 1024]⟩
abbrev S544x1024 : Shape := ⟨2, ![544, 1024]⟩
abbrev S5x8x1024 : Shape := ⟨3, ![5, 8, 1024]⟩
abbrev S8x1024 : Shape := ⟨2, ![8, 1024]⟩

abbrev nBuf : Space → Nat
  | .hbm => 4
  | .vmem => 14
  | .smem => 0
  | _ => 0

abbrev bufTy : (tb : Table) → Fin (tcTables nBuf tb) → BufTy
  | .hbm, ⟨0, _⟩ => ⟨S16384x5248, .bf16⟩
  | .hbm, ⟨1, _⟩ => ⟨S5x3072, .f32⟩
  | .hbm, ⟨2, _⟩ => ⟨S1x3072, .f32⟩
  | .hbm, ⟨3, _⟩ => ⟨S16384x3072, .bf16⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S5x1024, .f32⟩
  | .local _ .vmem, ⟨7, _⟩ => ⟨S5x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S544x1024, .f32⟩
  | .local _ .vmem, ⟨13, _⟩ => ⟨S5x8x1024, .f32⟩
  | _, _ => ⟨S16384x5248, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![3, 32], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1023_i32 : BitVec 32 := 1023#32
  let v2 : BitVec 32 := Scalar.minsi v1 c1023_i32
  let c2_i32 : BitVec 32 := 2#32
  let v3 : BitVec 32 := Scalar.addi c2_i32 arg0
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S5x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SsdConvRefIdeal.lean ====
abbrev S16384x5248 : Shape := ⟨2, ![16384, 5248]⟩
abbrev S5x3072 : Shape := ⟨2, ![5, 3072]⟩
abbrev S1x3072 : Shape := ⟨2, ![1, 3072]⟩
abbrev S16384x3072 : Shape := ⟨2, ![16384, 3072]⟩
abbrev S_ : Shape := ⟨0, ![]⟩
abbrev S16388x3072 : Shape := ⟨2, ![16388, 3072]⟩
abbrev S3072 : Shape := ⟨1, ![3072]⟩

abbrev nBuf : Space → Nat
  | .hbm => 48
  | .vmem => 0
  | .smem => 0
  | _ => 0

abbrev bufTy : (tb : Table) → Fin (tcTables nBuf tb) → BufTy
  | .hbm, ⟨0, _⟩ => ⟨S16384x5248, .bf16⟩
  | .hbm, ⟨1, _⟩ => ⟨S5x3072, .f32⟩
  | .hbm, ⟨2, _⟩ => ⟨S1x3072, .f32⟩
  | .hbm, ⟨3, _⟩ => ⟨S16384x3072, .bf16⟩
  | .hbm, ⟨4, _⟩ => ⟨S16384x3072, .f32⟩
  | .hbm, ⟨5, _⟩ => ⟨S_, .i32⟩
  | .hbm, ⟨6, _⟩ => ⟨S_, .f32⟩
  | .hbm, ⟨7, _⟩ => ⟨S16388x3072, .f32⟩
  | .hbm, ⟨8, _⟩ => ⟨S16384x3072, .f32⟩
  | .hbm, ⟨9, _⟩ => ⟨S1x3072, .f32⟩
  | .hbm, ⟨10, _⟩ => ⟨S3072, .f32⟩
  | .hbm, ⟨11, _⟩ => ⟨S1x3072, .f32⟩
  | .hbm, ⟨12, _⟩ => ⟨S16384x3072, .f32⟩
  | .hbm, ⟨13, _⟩ => ⟨S16384x3072, .f32⟩
  | .hbm, ⟨14, _⟩ => ⟨S_, .f32⟩
  | .hbm, ⟨15, _⟩ => ⟨S16384x3072, .f32⟩
  | .hbm, ⟨16, _⟩ => ⟨S16384x3072, .f32⟩
  | .hbm, ⟨17, _⟩ => ⟨S16384x3072, .f32⟩
  | .hbm, ⟨18, _⟩ => ⟨S1x3072, .f32⟩
  | .hbm, ⟨19, _⟩ => ⟨S3072, .f32⟩
  | .hbm, ⟨20, _⟩ => ⟨S1x3072, .f32⟩
  | .hbm, ⟨21, _⟩ => ⟨S16384x3072, .f32⟩
  | .hbm, ⟨22, _⟩ => ⟨S16384x3072, .f32⟩
  | .hbm, ⟨23, _⟩ => ⟨S16384x3072, .f32⟩
  | .hbm, ⟨24, _⟩ => ⟨S16384x3072, .f32⟩
  | .hbm, ⟨25, _⟩ => ⟨S1x3072, .f32⟩
  | .hbm, ⟨26, _⟩ => ⟨S3072, .f32⟩
  | .hbm, ⟨27, _⟩ => ⟨S1x3072, .f32⟩
  | .hbm, ⟨28, _⟩ => ⟨S16384x3072, .f32⟩
  | .hbm, ⟨29, _⟩ => ⟨S16384x3072, .f32⟩
  | .hbm, ⟨30, _⟩ => ⟨S16384x3072, .f32⟩
  | .hbm, ⟨31, _⟩ => ⟨S16384x3072, .f32⟩
  | .hbm, ⟨32, _⟩ => ⟨S1x3072, .f32⟩
  | .hbm, ⟨33, _⟩ => ⟨S3072, .f32⟩
  | .hbm, ⟨34, _⟩ => ⟨S1x3072, .f32⟩
  | .hbm, ⟨35, _⟩ => ⟨S16384x3072, .f32⟩
  | .hbm, ⟨36, _⟩ => ⟨S16384x3072, .f32⟩
  | .hbm, ⟨37, _⟩ => ⟨S16384x3072, .f32⟩
  | .hbm, ⟨38, _⟩ => ⟨S16384x3072, .f32⟩
  | .hbm, ⟨39, _⟩ => ⟨S1x3072, .f32⟩
  | .hbm, ⟨40, _⟩ => ⟨S3072, .f32⟩
  | .hbm, ⟨41, _⟩ => ⟨S1x3072, .f32⟩
  | .hbm, ⟨42, _⟩ => ⟨S16384x3072, .f32⟩
  | .hbm, ⟨43, _⟩ => ⟨S16384x3072, .f32⟩
  | .hbm, ⟨44, _⟩ => ⟨S16384x3072, .f32⟩
  | .hbm, ⟨45, _⟩ => ⟨S16384x3072, .f32⟩
  | .hbm, ⟨46, _⟩ => ⟨S16384x3072, .f32⟩
  | .hbm, ⟨47, _⟩ => ⟨S16384x3072, .bf16⟩
  | _, _ => ⟨S16384x5248, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩

abbrev nD : Nat := 1
abbrev τ : Topo := Topo.v7x

variable {F : FTy → Type} [FloatOps F]
-- ==== AdamIn.lean ====
abbrev S8x1024x768 : Shape := ⟨3, ![8, 1024, 768]⟩
abbrev S2x1024x768 : Shape := ⟨3, ![2, 1024, 768]⟩
abbrev S1024x768 : Shape := ⟨2, ![1024, 768]⟩
abbrev S8x256x768 : Shape := ⟨3, ![8, 256, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x768, .bf16⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .local _ .vmem, ⟨0, _⟩ => ⟨S8x256x768, .bf16⟩
  | .local _ .vmem, ⟨1, _⟩ => ⟨S8x256x768, .bf16⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S8x1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamInRefIdeal.lean ====
abbrev S8x1024x768 : Shape := ⟨3, ![8, 1024, 768]⟩
abbrev S2x1024x768 : Shape := ⟨3, ![2, 1024, 768]⟩
abbrev S_ : Shape := ⟨0, ![]⟩
abbrev S1024x768 : Shape := ⟨2, ![1024, 768]⟩
abbrev S1x1024x768 : Shape := ⟨3, ![1, 1024, 768]⟩

abbrev nBuf : Space → Nat
  | .hbm => 46
  | .vmem => 0
  | .smem => 0
  | _ => 0

abbrev bufTy : (tb : Table) → Fin (tcTables nBuf tb) → BufTy
  | .hbm, ⟨0, _⟩ => ⟨S8x1024x768, .bf16⟩
  | .hbm, ⟨1, _⟩ => ⟨S2x1024x768, .f32⟩
  | .hbm, ⟨2, _⟩ => ⟨S2x1024x768, .f32⟩
  | .hbm, ⟨3, _⟩ => ⟨S2x1024x768, .f32⟩
  | .hbm, ⟨4, _⟩ => ⟨S8x1024x768, .f32⟩
  | .hbm, ⟨5, _⟩ => ⟨S_, .f32⟩
  | .hbm, ⟨6, _⟩ => ⟨S1024x768, .f32⟩
  | .hbm, ⟨7, _⟩ => ⟨S1x1024x768, .f32⟩
  | .hbm, ⟨8, _⟩ => ⟨S1024x768, .f32⟩
  | .hbm, ⟨9, _⟩ => ⟨S1x1024x768, .f32⟩
  | .hbm, ⟨10, _⟩ => ⟨S1024x768, .f32⟩
  | .hbm, ⟨11, _⟩ => ⟨S1x1024x768, .f32⟩
  | .hbm, ⟨12, _⟩ => ⟨S1024x768, .f32⟩
  | .hbm, ⟨13, _⟩ => ⟨S_, .f32⟩
  | .hbm, ⟨14, _⟩ => ⟨S1024x768, .f32⟩
  | .hbm, ⟨15, _⟩ => ⟨S1024x768, .f32⟩
  | .hbm, ⟨16, _⟩ => ⟨S_, .f32⟩
  | .hbm, ⟨17, _⟩ => ⟨S1024x768, .f32⟩
  | .hbm, ⟨18, _⟩ => ⟨S1024x768, .f32⟩
  | .hbm, ⟨19, _⟩ => ⟨S1024x768, .f32⟩
  | .hbm, ⟨20, _⟩ => ⟨S_, .f32⟩
  | .hbm, ⟨21, _⟩ => ⟨S1024x768, .f32⟩
  | .hbm, ⟨22, _⟩ => ⟨S1024x768, .f32⟩
  | .hbm, ⟨23, _⟩ => ⟨S1024x768, .f32⟩
  | .hbm, ⟨24, _⟩ => ⟨S_, .f32⟩
  | .hbm, ⟨25, _⟩ => ⟨S1024x768, .f32⟩
  | .hbm, ⟨26, _⟩ => ⟨S1024x768, .f32⟩
  | .hbm, ⟨27, _⟩ => ⟨S1024x768, .f32⟩
  | .hbm, ⟨28, _⟩ => ⟨S_, .f32⟩
  | .hbm, ⟨29, _⟩ => ⟨S1024x768, .f32⟩
  | .hbm, ⟨30, _⟩ => ⟨S1024x768, .f32⟩
  | .hbm, ⟨31, _⟩ => ⟨S_, .f32⟩
  | .hbm, ⟨32, _⟩ => ⟨S1024x768, .f32⟩
  | .hbm, ⟨33, _⟩ => ⟨S1024x768, .f32⟩
  | .hbm, ⟨34, _⟩ => ⟨S1024x768, .f32⟩
  | .hbm, ⟨35, _⟩ => ⟨S_, .f32⟩
  | .hbm, ⟨36, _⟩ => ⟨S1024x768, .f32⟩
  | .hbm, ⟨37, _⟩ => ⟨S1024x768, .f32⟩
  | .hbm, ⟨38, _⟩ => ⟨S1024x768, .f32⟩
  | .hbm, ⟨39, _⟩ => ⟨S_, .f32⟩
  | .hbm, ⟨40, _⟩ => ⟨S1024x768, .f32⟩
  | .hbm, ⟨41, _⟩ => ⟨S1024x768, .f32⟩
  | .hbm, ⟨42, _⟩ => ⟨S1024x768, .f32⟩
  | .hbm, ⟨43, _⟩ => ⟨S_, .f32⟩
  | .hbm, ⟨44, _⟩ => ⟨S1024x768, .f32⟩
  | .hbm, ⟨45, _⟩ => ⟨S1024x768, .f32⟩
  | _, _ => ⟨S8x1024x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== AdamOut.lean ====
abbrev S8x256x1024 : Shape := ⟨3, ![8, 256, 1024]⟩
abbrev S2x256x1024 : Shape := ⟨3, ![2, 256, 1024]⟩
abbrev S256x1024 : Shape := ⟨2, ![256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x256x1024, .bf16⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamOutIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamOutRefIdeal.lean ====
abbrev S8x256x1024 : Shape := ⟨3, ![8, 256, 1024]⟩
abbrev S2x256x1024 : Shape := ⟨3, ![2, 256, 1024]⟩
abbrev S_ : Shape := ⟨0, ![]⟩
abbrev S256x1024 : Shape := ⟨2, ![256, 1024]⟩
abbrev S1x256x1024 : Shape := ⟨3, ![1, 256, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S1x256x1024, .f32⟩
  | .hbm, ⟨8, _⟩ => ⟨S256x1024, .f32⟩
  | .hbm, ⟨9, _⟩ => ⟨S1x256x1024, .f32⟩
  | .hbm, ⟨10, _⟩ => ⟨S256x1024, .f32⟩
  | .hbm, ⟨11, _⟩ => ⟨S1x256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256x1024, .f32⟩
  | .hbm, ⟨37, _⟩ => ⟨S256x1024, .f32⟩
  | .hbm, ⟨38, _⟩ => ⟨S256x1024, .f32⟩
  | .hbm, ⟨39, _⟩ => ⟨S_, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S_, .f32⟩
  | .hbm, ⟨44, _⟩ => ⟨S256x1024, .f32⟩
  | .hbm, ⟨45, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== AdamSsd.lean ====
abbrev S1x1024x648 : Shape := ⟨3, ![1, 1024, 648]⟩
abbrev S2x1024x648 : Shape := ⟨3, ![2, 1024, 648]⟩
abbrev S1024x648 : Shape := ⟨2, ![1024, 648]⟩
abbrev S1x256x648 : Shape := ⟨3, ![1, 256, 648]⟩
abbrev S256x648 : Shape := ⟨2, ![256, 648]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x648, .f32⟩
  | .hbm, ⟨1, _⟩ => ⟨S2x1024x648, .f32⟩
  | .hbm, ⟨2, _⟩ => ⟨S2x1024x648, .f32⟩
  | .hbm, ⟨3, _⟩ => ⟨S2x1024x648, .f32⟩
  | .hbm, ⟨4, _⟩ => ⟨S1024x648, .f32⟩
  | .hbm, ⟨5, _⟩ => ⟨S1024x648, .f32⟩
  | .hbm, ⟨6, _⟩ => ⟨S1024x648, .f32⟩
  | .hbm, ⟨7, _⟩ => ⟨S1024x648, .f32⟩
  | .local _ .vmem, ⟨0, _⟩ => ⟨S1x256x648, .f32⟩
  | .local _ .vmem, ⟨1, _⟩ => ⟨S1x256x648, .f32⟩
  | .local _ .vmem, ⟨2, _⟩ => ⟨S1x256x648, .f32⟩
  | .local _ .vmem, ⟨3, _⟩ => ⟨S1x256x648, .f32⟩
  | .local _ .vmem, ⟨4, _⟩ => ⟨S1x256x648, .f32⟩
  | .local _ .vmem, ⟨5, _⟩ => ⟨S1x256x648, .f32⟩
  | .local _ .vmem, ⟨6, _⟩ => ⟨S1x256x648, .f32⟩
  | .local _ .vmem, ⟨7, _⟩ => ⟨S1x256x648, .f32⟩
  | .local _ .vmem, ⟨8, _⟩ => ⟨S256x648, .f32⟩
  | .local _ .vmem, ⟨9, _⟩ => ⟨S256x648, .f32⟩
  | .local _ .vmem, ⟨10, _⟩ => ⟨S256x648, .f32⟩
  | .local _ .vmem, ⟨11, _⟩ => ⟨S256x648, .f32⟩
  | .local _ .vmem, ⟨12, _⟩ => ⟨S256x648, .f32⟩
  | .local _ .vmem, ⟨13, _⟩ => ⟨S256x648, .f32⟩
  | .local _ .vmem, ⟨14, _⟩ => ⟨S256x648, .f32⟩
  | .local _ .vmem, ⟨15, _⟩ => ⟨S256x648, .f32⟩
  | _, _ => ⟨S1x1024x648, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x648 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x648 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x648 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x648 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x648 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x648 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x648 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x648 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSsdIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamSsdRefIdeal.lean ====
abbrev S1x1024x648 : Shape := ⟨3, ![1, 1024, 648]⟩
abbrev S2x1024x648 : Shape := ⟨3, ![2, 1024, 648]⟩
abbrev S_ : Shape := ⟨0, ![]⟩
abbrev S1024x648 : Shape := ⟨2, ![1024, 648]⟩

abbrev nBuf : Space → Nat
  | .hbm => 45
  | .vmem => 0
  | .smem => 0
  | _ => 0

abbrev bufTy : (tb : Table) → Fin (tcTables nBuf tb) → BufTy
  | .hbm, ⟨0, _⟩ => ⟨S1x1024x648, .f32⟩
  | .hbm, ⟨1, _⟩ => ⟨S2x1024x648, .f32⟩
  | .hbm, ⟨2, _⟩ => ⟨S2x1024x648, .f32⟩
  | .hbm, ⟨3, _⟩ => ⟨S2x1024x648, .f32⟩
  | .hbm, ⟨4, _⟩ => ⟨S_, .f32⟩
  | .hbm, ⟨5, _⟩ => ⟨S1024x648, .f32⟩
  | .hbm, ⟨6, _⟩ => ⟨S1x1024x648, .f32⟩
  | .hbm, ⟨7, _⟩ => ⟨S1024x648, .f32⟩
  | .hbm, ⟨8, _⟩ => ⟨S1x1024x648, .f32⟩
  | .hbm, ⟨9, _⟩ => ⟨S1024x648, .f32⟩
  | .hbm, ⟨10, _⟩ => ⟨S1x1024x648, .f32⟩
  | .hbm, ⟨11, _⟩ => ⟨S1024x648, .f32⟩
  | .hbm, ⟨12, _⟩ => ⟨S_, .f32⟩
  | .hbm, ⟨13, _⟩ => ⟨S1024x648, .f32⟩
  | .hbm, ⟨14, _⟩ => ⟨S1024x648, .f32⟩
  | .hbm, ⟨15, _⟩ => ⟨S_, .f32⟩
  | .hbm, ⟨16, _⟩ => ⟨S1024x648, .f32⟩
  | .hbm, ⟨17, _⟩ => ⟨S1024x648, .f32⟩
  | .hbm, ⟨18, _⟩ => ⟨S1024x648, .f32⟩
  | .hbm, ⟨19, _⟩ => ⟨S_, .f32⟩
  | .hbm, ⟨20, _⟩ => ⟨S1024x648, .f32⟩
  | .hbm, ⟨21, _⟩ => ⟨S1024x648, .f32⟩
  | .hbm, ⟨22, _⟩ => ⟨S1024x648, .f32⟩
  | .hbm, ⟨23, _⟩ => ⟨S_, .f32⟩
  | .hbm, ⟨24, _⟩ => ⟨S1024x648, .f32⟩
  | .hbm, ⟨25, _⟩ => ⟨S1024x648, .f32⟩
  | .hbm, ⟨26, _⟩ => ⟨S1024x648, .f32⟩
  | .hbm, ⟨27, _⟩ => ⟨S_, .f32⟩
  | .hbm, ⟨28, _⟩ => ⟨S1024x648, .f32⟩
  | .hbm, ⟨29, _⟩ => ⟨S1024x648, .f32⟩
  | .hbm, ⟨30, _⟩ => ⟨S_, .f32⟩
  | .hbm, ⟨31, _⟩ => ⟨S1024x648, .f32⟩
  | .hbm, ⟨32, _⟩ => ⟨S1024x648, .f32⟩
  | .hbm, ⟨33, _⟩ => ⟨S1024x648, .f32⟩
  | .hbm, ⟨34, _⟩ => ⟨S_, .f32⟩
  | .hbm, ⟨35, _⟩ => ⟨S1024x648, .f32⟩
  | .hbm, ⟨36, _⟩ => ⟨S1024x648, .f32⟩
  | .hbm, ⟨37, _⟩ => ⟨S1024x648, .f32⟩
  | .hbm, ⟨38, _⟩ => ⟨S_, .f32⟩
  | .hbm, ⟨39, _⟩ => ⟨S1024x648, .f32⟩
  | .hbm, ⟨40, _⟩ => ⟨S1024x648, .f32⟩
  | .hbm, ⟨41, _⟩ => ⟨S1024x648, .f32⟩
  | .hbm, ⟨42, _⟩ => ⟨S_, .f32⟩
  | .hbm, ⟨43, _⟩ => ⟨S1024x648, .f32⟩
  | .hbm, ⟨44, _⟩ => ⟨S1024x648, .f32⟩
  | _, _ => ⟨S1x1024x648, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== AdamSmall.lean ====
abbrev S8x168x128 : Shape := ⟨3, ![8, 168, 128]⟩
abbrev S1x168x128 : Shape := ⟨3, ![1, 168, 128]⟩
abbrev S168x128 : Shape := ⟨2, ![168, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x168x128, .f32⟩
  | .hbm, ⟨1, _⟩ => ⟨S1x168x128, .f32⟩
  | .hbm, ⟨2, _⟩ => ⟨S1x168x128, .f32⟩
  | .hbm, ⟨3, _⟩ => ⟨S1x168x128, .f32⟩
  | .hbm, ⟨4, _⟩ => ⟨S168x128, .f32⟩
  | .hbm, ⟨5, _⟩ => ⟨S168x128, .f32⟩
  | .hbm, ⟨6, _⟩ => ⟨S168x128, .f32⟩
  | .hbm, ⟨7, _⟩ => ⟨S168x128, .f32⟩
  | .local _ .vmem, ⟨0, _⟩ => ⟨S8x168x128, .f32⟩
  | .local _ .vmem, ⟨1, _⟩ => ⟨S1x168x128, .f32⟩
  | .local _ .vmem, ⟨2, _⟩ => ⟨S1x168x128, .f32⟩
  | .local _ .vmem, ⟨3, _⟩ => ⟨S1x168x128, .f32⟩
  | .local _ .vmem, ⟨4, _⟩ => ⟨S168x128, .f32⟩
  | .local _ .vmem, ⟨5, _⟩ => ⟨S168x128, .f32⟩
  | .local _ .vmem, ⟨6, _⟩ => ⟨S168x128, .f32⟩
  | .local _ .vmem, ⟨7, _⟩ => ⟨S168x128, .f32⟩
  | _, _ => ⟨S8x168x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x168x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x168x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x168x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x168x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S168x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S168x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S168x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S168x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallIdeal.lean ====
abbrev S8x168x128 : Shape := ⟨3, ![8, 168, 128]⟩
abbrev S1x168x128 : Shape := ⟨3, ![1, 168, 128]⟩
abbrev S168x128 : Shape := ⟨2, ![168, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x168x128, .f32⟩
  | .hbm, ⟨1, _⟩ => ⟨S1x168x128, .f32⟩
  | .hbm, ⟨2, _⟩ => ⟨S1x168x128, .f32⟩
  | .hbm, ⟨3, _⟩ => ⟨S1x168x128, .f32⟩
  | .hbm, ⟨4, _⟩ => ⟨S168x128, .f32⟩
  | .hbm, ⟨5, _⟩ => ⟨S168x128, .f32⟩
  | .hbm, ⟨6, _⟩ => ⟨S168x128, .f32⟩
  | .hbm, ⟨7, _⟩ => ⟨S168x128, .f32⟩
  | .local _ .vmem, ⟨0, _⟩ => ⟨S8x168x128, .f32⟩
  | .local _ .vmem, ⟨1, _⟩ => ⟨S1x168x128, .f32⟩
  | .local _ .vmem, ⟨2, _⟩ => ⟨S1x168x128, .f32⟩
  | .local _ .vmem, ⟨3, _⟩ => ⟨S1x168x128, .f32⟩
  | .local _ .vmem, ⟨4, _⟩ => ⟨S168x128, .f32⟩
  | .local _ .vmem, ⟨5, _⟩ => ⟨S168x128, .f32⟩
  | .local _ .vmem, ⟨6, _⟩ => ⟨S168x128, .f32⟩
  | .local _ .vmem, ⟨7, _⟩ => ⟨S168x128, .f32⟩
  | _, _ => ⟨S8x168x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "c1" => some ((8388608 / 5463681 : ℝ) : EReal)
  | "c2" => some ((268435456 / 2672307 : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x168x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x168x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x168x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x168x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S168x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S168x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S168x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S168x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallRefIdeal.lean ====
abbrev S8x168x128 : Shape := ⟨3, ![8, 168, 128]⟩
abbrev S1x168x128 : Shape := ⟨3, ![1, 168, 128]⟩
abbrev S_ : Shape := ⟨0, ![]⟩
abbrev S168x128 : Shape := ⟨2, ![168, 128]⟩

abbrev nBuf : Space → Nat
  | .hbm => 42
  | .vmem => 0
  | .smem => 0
  | _ => 0

abbrev bufTy : (tb : Table) → Fin (tcTables nBuf tb) → BufTy
  | .hbm, ⟨0, _⟩ => ⟨S8x168x128, .f32⟩
  | .hbm, ⟨1, _⟩ => ⟨S1x168x128, .f32⟩
  | .hbm, ⟨2, _⟩ => ⟨S1x168x128, .f32⟩
  | .hbm, ⟨3, _⟩ => ⟨S1x168x128, .f32⟩
  | .hbm, ⟨4, _⟩ => ⟨S_, .f32⟩
  | .hbm, ⟨5, _⟩ => ⟨S168x128, .f32⟩
  | .hbm, ⟨6, _⟩ => ⟨S168x128, .f32⟩
  | .hbm, ⟨7, _⟩ => ⟨S168x128, .f32⟩
  | .hbm, ⟨8, _⟩ => ⟨S168x128, .f32⟩
  | .hbm, ⟨9, _⟩ => ⟨S_, .f32⟩
  | .hbm, ⟨10, _⟩ => ⟨S168x128, .f32⟩
  | .hbm, ⟨11, _⟩ => ⟨S168x128, .f32⟩
  | .hbm, ⟨12, _⟩ => ⟨S_, .f32⟩
  | .hbm, ⟨13, _⟩ => ⟨S168x128, .f32⟩
  | .hbm, ⟨14, _⟩ => ⟨S168x128, .f32⟩
  | .hbm, ⟨15, _⟩ => ⟨S168x128, .f32⟩
  | .hbm, ⟨16, _⟩ => ⟨S_, .f32⟩
  | .hbm, ⟨17, _⟩ => ⟨S168x128, .f32⟩
  | .hbm, ⟨18, _⟩ => ⟨S168x128, .f32⟩
  | .hbm, ⟨19, _⟩ => ⟨S168x128, .f32⟩
  | .hbm, ⟨20, _⟩ => ⟨S_, .f32⟩
  | .hbm, ⟨21, _⟩ => ⟨S168x128, .f32⟩
  | .hbm, ⟨22, _⟩ => ⟨S168x128, .f32⟩
  | .hbm, ⟨23, _⟩ => ⟨S168x128, .f32⟩
  | .hbm, ⟨24, _⟩ => ⟨S_, .f32⟩
  | .hbm, ⟨25, _⟩ => ⟨S168x128, .f32⟩
  | .hbm, ⟨26, _⟩ => ⟨S168x128, .f32⟩
  | .hbm, ⟨27, _⟩ => ⟨S_, .f32⟩
  | .hbm, ⟨28, _⟩ => ⟨S168x128, .f32⟩
  | .hbm, ⟨29, _⟩ => ⟨S168x128, .f32⟩
  | .hbm, ⟨30, _⟩ => ⟨S168x128, .f32⟩
  | .hbm, ⟨31, _⟩ => ⟨S_, .f32⟩
  | .hbm, ⟨32, _⟩ => ⟨S168x128, .f32⟩
  | .hbm, ⟨33, _⟩ => ⟨S168x128, .f32⟩
  | .hbm, ⟨34, _⟩ => ⟨S168x128, .f32⟩
  | .hbm, ⟨35, _⟩ => ⟨S_, .f32⟩
  | .hbm, ⟨36, _⟩ => ⟨S168x128, .f32⟩
  | .hbm, ⟨37, _⟩ => ⟨S168x128, .f32⟩
  | .hbm, ⟨38, _⟩ => ⟨S168x128, .f32⟩
  | .hbm, ⟨39, _⟩ => ⟨S_, .f32⟩
  | .hbm, ⟨40, _⟩ => ⟨S168x128, .f32⟩
  | .hbm, ⟨41, _⟩ => ⟨S168x128, .f32⟩
  | _, _ => ⟨S8x168x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== AdamRep.lean ====
abbrev S8x144x128 : Shape := ⟨3, ![8, 144, 128]⟩
abbrev S1x144x128 : Shape := ⟨3, ![1, 144, 128]⟩
abbrev S144x128 : Shape := ⟨2, ![144, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x144x128, .f32⟩
  | .hbm, ⟨1, _⟩ => ⟨S1x144x128, .f32⟩
  | .hbm, ⟨2, _⟩ => ⟨S1x144x128, .f32⟩
  | .hbm, ⟨3, _⟩ => ⟨S1x144x128, .f32⟩
  | .hbm, ⟨4, _⟩ => ⟨S144x128, .f32⟩
  | .hbm, ⟨5, _⟩ => ⟨S144x128, .f32⟩
  | .hbm, ⟨6, _⟩ => ⟨S144x128, .f32⟩
  | .hbm, ⟨7, _⟩ => ⟨S144x128, .f32⟩
  | .local _ .vmem, ⟨0, _⟩ => ⟨S8x144x128, .f32⟩
  | .local _ .vmem, ⟨1, _⟩ => ⟨S1x144x128, .f32⟩
  | .local _ .vmem, ⟨2, _⟩ => ⟨S1x144x128, .f32⟩
  | .local _ .vmem, ⟨3, _⟩ => ⟨S1x144x128, .f32⟩
  | .local _ .vmem, ⟨4, _⟩ => ⟨S144x128, .f32⟩
  | .local _ .vmem, ⟨5, _⟩ => ⟨S144x128, .f32⟩
  | .local _ .vmem, ⟨6, _⟩ => ⟨S144x128, .f32⟩
  | .local _ .vmem, ⟨7, _⟩ => ⟨S144x128, .f32⟩
  | _, _ => ⟨S8x144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x144x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x144x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x144x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x144x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S144x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S144x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S144x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S144x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamRepIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamRepRefIdeal.lean ====
abbrev S8x144x128 : Shape := ⟨3, ![8, 144, 128]⟩
abbrev S1x144x128 : Shape := ⟨3, ![1, 144, 128]⟩
abbrev S_ : Shape := ⟨0, ![]⟩
abbrev S144x128 : Shape := ⟨2, ![144, 128]⟩

abbrev nBuf : Space → Nat
  | .hbm => 42
  | .vmem => 0
  | .smem => 0
  | _ => 0

abbrev bufTy : (tb : Table) → Fin (tcTables nBuf tb) → BufTy
  | .hbm, ⟨0, _⟩ => ⟨S8x144x128, .f32⟩
  | .hbm, ⟨1, _⟩ => ⟨S1x144x128, .f32⟩
  | .hbm, ⟨2, _⟩ => ⟨S1x144x128, .f32⟩
  | .hbm, ⟨3, _⟩ => ⟨S1x144x128, .f32⟩
  | .hbm, ⟨4, _⟩ => ⟨S_, .f32⟩
  | .hbm, ⟨5, _⟩ => ⟨S144x128, .f32⟩
  | .hbm, ⟨6, _⟩ => ⟨S144x128, .f32⟩
  | .hbm, ⟨7, _⟩ => ⟨S144x128, .f32⟩
  | .hbm, ⟨8, _⟩ => ⟨S144x128, .f32⟩
  | .hbm, ⟨9, _⟩ => ⟨S_, .f32⟩
  | .hbm, ⟨10, _⟩ => ⟨S144x128, .f32⟩
  | .hbm, ⟨11, _⟩ => ⟨S144x128, .f32⟩
  | .hbm, ⟨12, _⟩ => ⟨S_, .f32⟩
  | .hbm, ⟨13, _⟩ => ⟨S144x128, .f32⟩
  | .hbm, ⟨14, _⟩ => ⟨S144x128, .f32⟩
  | .hbm, ⟨15, _⟩ => ⟨S144x128, .f32⟩
  | .hbm, ⟨16, _⟩ => ⟨S_, .f32⟩
  | .hbm, ⟨17, _⟩ => ⟨S144x128, .f32⟩
  | .hbm, ⟨18, _⟩ => ⟨S144x128, .f32⟩
  | .hbm, ⟨19, _⟩ => ⟨S144x128, .f32⟩
  | .hbm, ⟨20, _⟩ => ⟨S_, .f32⟩
  | .hbm, ⟨21, _⟩ => ⟨S144x128, .f32⟩
  | .hbm, ⟨22, _⟩ => ⟨S144x128, .f32⟩
  | .hbm, ⟨23, _⟩ => ⟨S144x128, .f32⟩
  | .hbm, ⟨24, _⟩ => ⟨S_, .f32⟩
  | .hbm, ⟨25, _⟩ => ⟨S144x128, .f32⟩
  | .hbm, ⟨26, _⟩ => ⟨S144x128, .f32⟩
  | .hbm, ⟨27, _⟩ => ⟨S_, .f32⟩
  | .hbm, ⟨28, _⟩ => ⟨S144x128, .f32⟩
  | .hbm, ⟨29, _⟩ => ⟨S144x128, .f32⟩
  | .hbm, ⟨30, _⟩ => ⟨S144x128, .f32⟩
  | .hbm, ⟨31, _⟩ => ⟨S_, .f32⟩
  | .hbm, ⟨32, _⟩ => ⟨S144x128, .f32⟩
  | .hbm, ⟨33, _⟩ => ⟨S144x128, .f32⟩
  | .hbm, ⟨34, _⟩ => ⟨S144x128, .f32⟩
  | .hbm, ⟨35, _⟩ => ⟨S_, .f32⟩
  | .hbm, ⟨36, _⟩ => ⟨S144x128, .f32⟩
  | .hbm, ⟨37, _⟩ => ⟨S144x128, .f32⟩
  | .hbm, ⟨38, _⟩ => ⟨S144x128, .f32⟩
  | .hbm, ⟨39, _⟩ => ⟨S_, .f32⟩
  | .hbm, ⟨40, _⟩ => ⟨S144x128, .f32⟩
  | .hbm, ⟨41, _⟩ => ⟨S144x128, .f32⟩
  | _, _ => ⟨S8x144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== SumSsd.lean ====
abbrev S8x656x1024 : Shape := ⟨3, ![8, 656, 1024]⟩
abbrev S656x1024 : Shape := ⟨2, ![656, 1024]⟩
abbrev S1x656x1024 : Shape := ⟨3, ![1, 656, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x656x1024, .bf16⟩
  | .hbm, ⟨1, _⟩ => ⟨S656x1024, .f32⟩
  | .local _ .vmem, ⟨0, _⟩ => ⟨S8x656x1024, .bf16⟩
  | .local _ .vmem, ⟨1, _⟩ => ⟨S656x1024, .f32⟩
  | _, _ => ⟨S8x656x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x656x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S656x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSsdRefIdeal.lean ====
abbrev S8x656x1024 : Shape := ⟨3, ![8, 656, 1024]⟩
abbrev S_ : Shape := ⟨0, ![]⟩
abbrev S656x1024 : Shape := ⟨2, ![656, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x656x1024, .bf16⟩
  | .hbm, ⟨1, _⟩ => ⟨S8x656x1024, .f32⟩
  | .hbm, ⟨2, _⟩ => ⟨S_, .f32⟩
  | .hbm, ⟨3, _⟩ => ⟨S656x1024, .f32⟩
  | _, _ => ⟨S8x656x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ssa.lean ====
module

public import Idealize.ShloMosaic.Lib.StableHlo.RunRead

@[expose] public section

noncomputable section

/-! What a buffer holds after a straight line of host operations in which every buffer is written at most once: the
operation that writes it, at what its operands hold after the whole line. -/

namespace Cert.Ssa

open Idealize.ShloMosaic Idealize.ShloMosaic.StableHlo

variable {τ : Topo} {sig : RefSig} {Val : EltTy → Type}

/-- The writes of the operations after the one at `i`. -/
theorem rest_writes {ops : List (HloOp τ sig Val)} {WL : List (Ref sig .tc)}
    (hWL : ops.map HloOp.writes = WL.map fun w => {Proc.devRef (τ := τ) .tc w}) {i : ℕ} {op : HloOp τ sig Val}
    {rest : List (HloOp τ sig Val)} (hseg : ops.drop i = op :: rest) :
    rest.map HloOp.writes = (WL.drop (i + 1)).map fun w => {Proc.devRef (τ := τ) .tc w} := by
  have h : rest = ops.drop (i + 1) := by rw [← List.tail_drop, hseg]; rfl
  rw [h, List.map_drop, List.map_drop, hWL]

/-- A buffer not written from `i` on holds before the operation at `i` what it holds after the line. -/
theorem upto_eq {ops : List (HloOp τ sig Val)} {WL : List (Ref sig .tc)}
    (hWL : ops.map HloOp.writes = WL.map fun w => {Proc.devRef (τ := τ) .tc w}) (i : ℕ) {r : Ref sig .tc}
    (hr : r ∉ WL.drop i) (V : Valuation τ sig Val) :
    upto ops V i (Proc.devRef .tc r) = after ops V (Proc.devRef .tc r) := by
  have h : ∀ (l₁ l₂ : List (HloOp τ sig Val)) (V : Valuation τ sig Val), after (l₁ ++ l₂) V = after l₂ (after l₁ V) := by
    intro l₁
    induction l₁ with
    | nil => intro _ _; rfl
    | cons op l ih => intro _ _; exact ih _ _
  have h2 := h (ops.take i) (ops.drop i) V
  rw [List.take_append_drop] at h2
  rw [h2, after_unwritten (WL.drop i) (by rw [List.map_drop, List.map_drop, hWL]) hr]
  rfl

theorem read_nullary {ops : List (HloOp τ sig Val)} {WL : List (Ref sig .tc)}
    (hWL : ops.map HloOp.writes = WL.map fun w => {Proc.devRef (τ := τ) .tc w}) (i : ℕ) {y : Ref sig .tc}
    {v : y.ty.Contents Val} {hy} {rest : List (HloOp τ sig Val)} (hseg : ops.drop i = nullary y v hy :: rest)
    (hy' : y ∉ WL.drop (i + 1)) (V : Valuation τ sig Val) : after ops V (Proc.devRef .tc y) = v := by
  rw [after_last_write (WL.drop (i + 1)) hseg (rest_writes hWL hseg) hy' V]
  exact nullary_result' ..

theorem read_unary {ops : List (HloOp τ sig Val)} {WL : List (Ref sig .tc)}
    (hWL : ops.map HloOp.writes = WL.map fun w => {Proc.devRef (τ := τ) .tc w}) (i : ℕ) {x y : Ref sig .tc}
    {f : x.ty.Contents Val → y.ty.Contents Val} {hx hy} {rest : List (HloOp τ sig Val)}
    (hseg : ops.drop i = unary x y f hx hy :: rest) (hy' : y ∉ WL.drop (i + 1)) (hx' : x ∉ WL.drop i)
    {V : Valuation τ sig Val} {vx : x.ty.Contents Val} (h : after ops V (Proc.devRef .tc x) = vx) :
    after ops V (Proc.devRef .tc y) = f vx := by
  rw [after_last_write (WL.drop (i + 1)) hseg (rest_writes hWL hseg) hy' V, ← h, ← upto_eq hWL i hx' V]
  exact unary_result' ..

theorem read_binary {ops : List (HloOp τ sig Val)} {WL : List (Ref sig .tc)}
    (hWL : ops.map HloOp.writes = WL.map fun w => {Proc.devRef (τ := τ) .tc w}) (i : ℕ) {a b y : Ref sig .tc}
    {f : a.ty.Contents Val → b.ty.Contents Val → y.ty.Contents Val} {ha hb hy} {rest : List (HloOp τ sig Val)}
    (hseg : ops.drop i = binary a b y f ha hb hy :: rest) (hy' : y ∉ WL.drop (i + 1)) (ha' : a ∉ WL.drop i) (hb' : b ∉ WL.drop i)
    {V : Valuation τ sig Val} {va : a.ty.Contents Val} {vb : b.ty.Contents Val}
    (h : after ops V (Proc.devRef .tc a) = va) (h' : after ops V (Proc.devRef .tc b) = vb) :
    after ops V (Proc.devRef .tc y) = f va vb := by
  rw [after_last_write (WL.drop (i + 1)) hseg (rest_writes hWL hseg) hy' V, ← h, ← h', ← upto_eq hWL i ha' V,
    ← upto_eq hWL i hb' V]
  exact binary_result' ..

end Cert.Ssa

end
-- ==== Proof.Common.lean ====
module

public import Idealize.ShloMosaic.Lib.Pipeline.ValueKit
public import Idealize.ShloMosaic.Lib.Pipeline.ReadBack

/-! Facts the value proofs of all the calls share: the scalar operations on extended reals, sums cut into blocks, and the
    gradient of a root-mean-square normalization. -/

@[expose] public section

set_option maxRecDepth 16384

noncomputable section

namespace Cert.Common

open Idealize.ShloMosaic

/-! ## Constants -/

theorem c1024 : Ideal.ofBits .f32 1149239296#32 = ((1024 : ℝ) : EReal) := by
  simp [Ideal.ofBits, Ideal.ieee]; rw [← EReal.coe_mul]; norm_num

theorem c2048 : Ideal.ofBits .f32 1157627904#32 = ((2048 : ℝ) : EReal) := by
  simp [Ideal.ofBits, Ideal.ieee]; rw [← EReal.coe_mul]; norm_num

theorem cneghalf : Ideal.ofBits .f32 3204448256#32 = ((-(1 / 2) : ℝ) : EReal) := by
  simp [Ideal.ofBits, Ideal.ieee]; rw [← EReal.coe_mul]; norm_num

/-- The constant added to a variance. -/
def eps : ℝ := 10995116 / 2 ^ 40

theorem eps_pos : 0 < eps := by unfold eps; positivity

theorem ceps : Ideal.ofBits .f32 925353388#32 = (eps : EReal) := by
  simp [Ideal.ofBits, Ideal.ieee, eps]; rw [← EReal.coe_mul]; norm_num

/-! ## The scalar operations on real arguments -/

theorem div_coe (x : EReal) {y : ℝ} (h : y ≠ 0) : Ideal.div x (y : EReal) = x * ((y⁻¹ : ℝ) : EReal) := by
  unfold Ideal.div
  rw [if_neg (by simpa using h), EReal.coe_inv]

theorem div_coe_coe (x : ℝ) {y : ℝ} (h : y ≠ 0) : Ideal.div (x : EReal) (y : EReal) = ((x / y : ℝ) : EReal) := by
  rw [div_coe _ h, ← EReal.coe_mul, div_eq_mul_inv]

theorem rsqrt_coe {x : ℝ} (h : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg (not_lt.mpr h.le), if_neg h.ne']

theorem exp_coe (x : ℝ) : Ideal.exp (x : EReal) = ((Real.exp x : ℝ) : EReal) := rfl

theorem coe_sum {ι : Type*} (s : Finset ι) (f : ι → ℝ) : ((∑ k ∈ s, f k : ℝ) : EReal) = ∑ k ∈ s, (f k : EReal) := by
  classical
  induction s using Finset.induction_on with
  | empty => simp
  | insert a s h ih => rw [Finset.sum_insert h, Finset.sum_insert h, EReal.coe_add, ih]

/-- A nonnegative real factor goes inside a sum of extended reals. -/
theorem coe_mul_sum {ι : Type*} (s : Finset ι) {c : ℝ} (hc : 0 ≤ c) (f : ι → EReal) :
    (c : EReal) * ∑ k ∈ s, f k = ∑ k ∈ s, (c : EReal) * f k := by
  classical
  induction s using Finset.induction_on with
  | empty => simp
  | insert a s h ih =>
    rw [Finset.sum_insert h, Finset.sum_insert h,
      EReal.left_distrib_of_nonneg_of_ne_top (by exact_mod_cast hc) (EReal.coe_ne_top c), ih]

theorem add_self_coe (S : EReal) (q : ℝ) : S * (q : EReal) + S * (q : EReal) = S * ((2 * q : ℝ) : EReal) := by
  have h2 : ((2 * q : ℝ) : EReal) = (q : EReal) * ((1 : EReal) + 1) := by
    rw [mul_comm 2 q, EReal.coe_mul]
    congr 1
    rw [← EReal.coe_one, ← EReal.coe_add]
    norm_num
  rw [h2, ← mul_assoc, EReal.left_distrib_of_nonneg zero_le_one zero_le_one, mul_one]

theorem coe_of_ne {x : EReal} (h : x ≠ ⊥) (h' : x ≠ ⊤) : ∃ r : ℝ, x = (r : EReal) :=
  ⟨x.toReal, (EReal.coe_toReal h' h).symm⟩

theorem self_mul_nonneg (x : EReal) : 0 ≤ x * x := by
  induction x using EReal.rec with
  | bot => simp
  | top => simp
  | coe r => rw [← EReal.coe_mul]; exact_mod_cast mul_self_nonneg r

/-! ## The gradient of a root-mean-square normalization -/

section Rms

variable {n : ℕ} (X G : Fin n → EReal) (N e : ℝ)

/-- The mean square with the constant added. -/
abbrev ms : EReal := Ideal.div (∑ k, X k * X k) (N : EReal) + (e : EReal)

theorem ms_infinite (hN : 0 < N) (h : ∃ k, X k = ⊥ ∨ X k = ⊤) : ms X N e = ⊤ := by
  obtain ⟨k, hk⟩ := h
  have hkk : X k * X k = ⊤ := by rcases hk with h | h <;> rw [h] <;> simp
  have hs : ∑ k, X k * X k = ⊤ := by
    refine top_le_iff.mp ?_
    rw [← hkk]
    exact Finset.single_le_sum (f := fun k => X k * X k) (fun i _ => self_mul_nonneg (X i)) (Finset.mem_univ k)
  unfold ms
  rw [hs, div_coe _ hN.ne', EReal.top_mul_coe_of_pos (by positivity)]
  rfl

/-- What automatic differentiation gives for the normalization's input, and the usual closed form of it, are one extended
    real: at real inputs both are the same combination, and where an input is infinite both scales are zero. -/
theorem rms_grad (hN : 0 < N) (he : 0 < e) (d : EReal) (i : Fin n) :
    d + G i * Ideal.rsqrt (ms X N e)
        + X i * Ideal.div ((∑ k, X k * G k) * (((-(1 / 2) : ℝ) : EReal) * Ideal.div (Ideal.rsqrt (ms X N e)) (ms X N e))) (N : EReal)
        + Ideal.div ((∑ k, X k * G k) * (((-(1 / 2) : ℝ) : EReal) * Ideal.div (Ideal.rsqrt (ms X N e)) (ms X N e))) (N : EReal) * X i
      = d + Ideal.rsqrt (ms X N e)
          * (G i - X i * Ideal.rsqrt (ms X N e) * Ideal.div (∑ k, G k * (X k * Ideal.rsqrt (ms X N e))) (N : EReal)) := by
  by_cases hx : ∃ k, X k = ⊥ ∨ X k = ⊤
  · rw [ms_infinite X N e hN hx]
    have h0 : Ideal.rsqrt ⊤ = 0 := rfl
    have h1 : Ideal.div (0 : EReal) ⊤ = 0 := by unfold Ideal.div; simp
    have h2 : Ideal.div (0 : EReal) (N : EReal) = 0 := by rw [div_coe _ hN.ne']; simp
    simp [h0, h1, h2]
  · push Not at hx
    choose x hx' using fun k => coe_of_ne (hx k).1 (hx k).2
    obtain rfl : X = fun k => (x k : EReal) := funext hx'
    have hq : 0 < (∑ k, x k * x k) / N + e := by
      have : 0 ≤ ∑ k, x k * x k := Finset.sum_nonneg fun k _ => mul_self_nonneg _
      positivity
    have hms : ms (fun k => (x k : EReal)) N e = (((∑ k, x k * x k) / N + e : ℝ) : EReal) := by
      unfold ms
      rw [EReal.coe_add, ← div_coe_coe _ hN.ne', coe_sum]
      simp only [EReal.coe_mul]
    rw [hms]
    set q : ℝ := (∑ k, x k * x k) / N + e with hqd
    rw [rsqrt_coe hq, div_coe_coe _ hq.ne', div_coe _ hN.ne', div_coe _ hN.ne']
    set ρ : ℝ := (Real.sqrt q)⁻¹ with hρ
    have hρ0 : 0 < ρ := by rw [hρ]; exact inv_pos.mpr (Real.sqrt_pos.mpr hq)
    have hρq : ρ * ρ = q⁻¹ := by rw [hρ, ← mul_inv, Real.mul_self_sqrt hq.le]
    have hsum : ∑ k, G k * ((x k : EReal) * (ρ : EReal)) = (ρ : EReal) * ∑ k, (x k : EReal) * G k := by
      rw [coe_mul_sum _ hρ0.le]
      exact Finset.sum_congr rfl fun k _ => by rw [← mul_assoc, mul_comm, mul_comm (G k)]
    rw [hsum]
    generalize ∑ k, (x k : EReal) * G k = S
    have hA : (x i : EReal) * (S * (((-(1 / 2) : ℝ) : EReal) * ((ρ / q : ℝ) : EReal)) * ((N⁻¹ : ℝ) : EReal))
        = S * ((x i * (-(1 / 2) * (ρ / q)) * N⁻¹ : ℝ) : EReal) := by
      simp only [EReal.coe_mul]; ac_rfl
    have hB : S * (((-(1 / 2) : ℝ) : EReal) * ((ρ / q : ℝ) : EReal)) * ((N⁻¹ : ℝ) : EReal) * (x i : EReal)
        = S * ((x i * (-(1 / 2) * (ρ / q)) * N⁻¹ : ℝ) : EReal) := by
      simp only [EReal.coe_mul]; ac_rfl
    have hC : (x i : EReal) * (ρ : EReal) * ((ρ : EReal) * S * ((N⁻¹ : ℝ) : EReal))
        = S * ((x i * (ρ * ρ) * N⁻¹ : ℝ) : EReal) := by
      simp only [EReal.coe_mul]; ac_rfl
    rw [hA, hB, hC, sub_eq_add_neg, EReal.left_distrib_of_nonneg_of_ne_top (by exact_mod_cast hρ0.le) (EReal.coe_ne_top _),
      add_assoc (d + _), add_self_coe, add_assoc, mul_comm (G i), ← mul_neg, ← EReal.coe_neg]
    congr 2
    rw [mul_left_comm (ρ : EReal), ← EReal.coe_mul]
    congr 2
    rw [hρq]
    field_simp

end Rms

/-! ## Sums cut into blocks -/

variable {M : Type*} [AddCommMonoid M]

/-- The sum over the rows of a block is the sum over eight rows of the sums over the groups of eight. -/
theorem sum_groups {A L : ℕ} (f : Fin L → M) (h : L = A * 8) :
    ∑ r : Fin 8, ∑ b : Fin A, f ⟨8 * b.val + r.val, by omega⟩ = ∑ l, f l := by
  subst h
  rw [Finset.sum_comm, ← Fintype.sum_prod_type', ← finProdFinEquiv.sum_comp]
  exact Finset.sum_congr rfl fun x _ => congrArg f (Fin.ext (by simp [finProdFinEquiv]; omega))

theorem sum_tiles {A B L : ℕ} (f : Fin L → M) (h : L = A * B) :
    ∑ s : Fin A, ∑ b : Fin B, f ⟨B * s.val + b.val, by
      have hs := s.isLt; have hb := b.isLt
      calc B * s.val + b.val < B * s.val + B := by omega
        _ = B * (s.val + 1) := by ring
        _ ≤ B * A := Nat.mul_le_mul_left _ hs
        _ = L := by rw [h, mul_comm]⟩ = ∑ l, f l := by
  subst h
  rw [← Fintype.sum_prod_type', ← finProdFinEquiv.sum_comp]
  exact Finset.sum_congr rfl fun x _ => congrArg f (Fin.ext (by simp [finProdFinEquiv]; omega))

/-- The 64 row groups of a block, added one after the other. -/
theorem rows64 (f : Fin 512 → M) (r : Fin 8) :
    f ⟨r.val, by omega⟩ + f ⟨8 + r.val, by omega⟩ + f ⟨16 + r.val, by omega⟩ + f ⟨24 + r.val, by omega⟩ + f ⟨32 + r.val, by
      omega⟩ + f ⟨40 + r.val, by omega⟩ + f ⟨48 + r.val, by omega⟩ + f ⟨56 + r.val, by omega⟩ + f ⟨64 + r.val, by omega⟩ + f
      ⟨72 + r.val, by omega⟩ + f ⟨80 + r.val, by omega⟩ + f ⟨88 + r.val, by omega⟩ + f ⟨96 + r.val, by omega⟩ + f ⟨104 +
      r.val, by omega⟩ + f ⟨112 + r.val, by omega⟩ + f ⟨120 + r.val, by omega⟩ + f ⟨128 + r.val, by omega⟩ + f ⟨136 + r.val,
      by omega⟩ + f ⟨144 + r.val, by omega⟩ + f ⟨152 + r.val, by omega⟩ + f ⟨160 + r.val, by omega⟩ + f ⟨168 + r.val, by
      omega⟩ + f ⟨176 + r.val, by omega⟩ + f ⟨184 + r.val, by omega⟩ + f ⟨192 + r.val, by omega⟩ + f ⟨200 + r.val, by omega⟩ +
      f ⟨208 + r.val, by omega⟩ + f ⟨216 + r.val, by omega⟩ + f ⟨224 + r.val, by omega⟩ + f ⟨232 + r.val, by omega⟩ + f ⟨240 +
      r.val, by omega⟩ + f ⟨248 + r.val, by omega⟩ + f ⟨256 + r.val, by omega⟩ + f ⟨264 + r.val, by omega⟩ + f ⟨272 + r.val,
      by omega⟩ + f ⟨280 + r.val, by omega⟩ + f ⟨288 + r.val, by omega⟩ + f ⟨296 + r.val, by omega⟩ + f ⟨304 + r.val, by
      omega⟩ + f ⟨312 + r.val, by omega⟩ + f ⟨320 + r.val, by omega⟩ + f ⟨328 + r.val, by omega⟩ + f ⟨336 + r.val, by omega⟩ +
      f ⟨344 + r.val, by omega⟩ + f ⟨352 + r.val, by omega⟩ + f ⟨360 + r.val, by omega⟩ + f ⟨368 + r.val, by omega⟩ + f ⟨376 +
      r.val, by omega⟩ + f ⟨384 + r.val, by omega⟩ + f ⟨392 + r.val, by omega⟩ + f ⟨400 + r.val, by omega⟩ + f ⟨408 + r.val,
      by omega⟩ + f ⟨416 + r.val, by omega⟩ + f ⟨424 + r.val, by omega⟩ + f ⟨432 + r.val, by omega⟩ + f ⟨440 + r.val, by
      omega⟩ + f ⟨448 + r.val, by omega⟩ + f ⟨456 + r.val, by omega⟩ + f ⟨464 + r.val, by omega⟩ + f ⟨472 + r.val, by omega⟩ +
      f ⟨480 + r.val, by omega⟩ + f ⟨488 + r.val, by omega⟩ + f ⟨496 + r.val, by omega⟩ + f ⟨504 + r.val, by omega⟩
    = ∑ b : Fin 64, f ⟨8 * b.val + r.val, by omega⟩ := by
  have h0 : f ⟨r.val, by omega⟩ = f ⟨8 * 0 + r.val, by omega⟩ := congrArg f (Fin.ext (by simp))
  simp only [Fin.sum_univ_castSucc, Finset.univ_eq_empty, Finset.sum_empty, zero_add]
  rw [h0]
  rfl

/-- The 32 row groups of a block, added one after the other. -/
theorem rows32 (f : Fin 256 → M) (r : Fin 8) :
    f ⟨r.val, by omega⟩ + f ⟨8 + r.val, by omega⟩ + f ⟨16 + r.val, by omega⟩ + f ⟨24 + r.val, by omega⟩ + f ⟨32 + r.val, by
      omega⟩ + f ⟨40 + r.val, by omega⟩ + f ⟨48 + r.val, by omega⟩ + f ⟨56 + r.val, by omega⟩ + f ⟨64 + r.val, by omega⟩ + f
      ⟨72 + r.val, by omega⟩ + f ⟨80 + r.val, by omega⟩ + f ⟨88 + r.val, by omega⟩ + f ⟨96 + r.val, by omega⟩ + f ⟨104 +
      r.val, by omega⟩ + f ⟨112 + r.val, by omega⟩ + f ⟨120 + r.val, by omega⟩ + f ⟨128 + r.val, by omega⟩ + f ⟨136 + r.val,
      by omega⟩ + f ⟨144 + r.val, by omega⟩ + f ⟨152 + r.val, by omega⟩ + f ⟨160 + r.val, by omega⟩ + f ⟨168 + r.val, by
      omega⟩ + f ⟨176 + r.val, by omega⟩ + f ⟨184 + r.val, by omega⟩ + f ⟨192 + r.val, by omega⟩ + f ⟨200 + r.val, by omega⟩ +
      f ⟨208 + r.val, by omega⟩ + f ⟨216 + r.val, by omega⟩ + f ⟨224 + r.val, by omega⟩ + f ⟨232 + r.val, by omega⟩ + f ⟨240 +
      r.val, by omega⟩ + f ⟨248 + r.val, by omega⟩
    = ∑ b : Fin 32, f ⟨8 * b.val + r.val, by omega⟩ := by
  have h0 : f ⟨r.val, by omega⟩ = f ⟨8 * 0 + r.val, by omega⟩ := congrArg f (Fin.ext (by simp))
  simp only [Fin.sum_univ_castSucc, Finset.univ_eq_empty, Finset.sum_empty, zero_add]
  rw [h0]
  rfl

theorem split6 (f : Fin 6144 → M) : ∑ l, f l
    = (∑ k : Fin 1024, f ⟨k.val, by omega⟩) + (∑ k : Fin 1024, f ⟨1024 + k.val, by omega⟩)
      + (∑ k : Fin 1024, f ⟨2048 + k.val, by omega⟩) + (∑ k : Fin 1024, f ⟨3072 + k.val, by omega⟩)
      + (∑ k : Fin 1024, f ⟨4096 + k.val, by omega⟩) + (∑ k : Fin 1024, f ⟨5120 + k.val, by omega⟩) := by
  rw [Fin.sum_univ_add (a := 5120) (b := 1024) f, Fin.sum_univ_add (a := 4096) (b := 1024),
    Fin.sum_univ_add (a := 3072) (b := 1024), Fin.sum_univ_add (a := 2048) (b := 1024),
    Fin.sum_univ_add (a := 1024) (b := 1024)]
  rfl

theorem split5 (f : Fin 5248 → M) : ∑ l, f l
    = (∑ k : Fin 1024, f ⟨k.val, by omega⟩) + (∑ k : Fin 1024, f ⟨1024 + k.val, by omega⟩)
      + (∑ k : Fin 1024, f ⟨2048 + k.val, by omega⟩) + (∑ k : Fin 1024, f ⟨3072 + k.val, by omega⟩)
      + (∑ k : Fin 1024, f ⟨4096 + k.val, by omega⟩) + (∑ k : Fin 128, f ⟨5120 + k.val, by omega⟩) := by
  rw [Fin.sum_univ_add (a := 5120) (b := 128) f, Fin.sum_univ_add (a := 4096) (b := 1024),
    Fin.sum_univ_add (a := 3072) (b := 1024), Fin.sum_univ_add (a := 2048) (b := 1024),
    Fin.sum_univ_add (a := 1024) (b := 1024)]
  rfl

end Cert.Common

end
-- ==== Proof.ConfOutRef.lean ====
module

public import proofs.«01_k».proof.Proof.Gen.ConfOutRefIdeal
public import proofs.«01_k».proof.Proof.Ssa
public import proofs.«01_k».proof.Proof.Common

@[expose] public section

set_option maxRecDepth 16384

noncomputable section

/-! The run of the reference `ConfOutRefIdeal`: its host operations, what each of their buffers holds at the end, and
the execution that ends there. -/

namespace Cert.ConfOutRefIdeal.Hand

open Cert.ConfOutRefIdeal Cert.ConfOutRefIdeal.Gen Cert.Ssa Idealize.ShloMosaic Idealize.ShloMosaic.TcCoe Idealize.SL.Sem Idealize.ShloMosaic.StableHlo

/-- The operations of the program, in order. -/
abbrev ops : List (HloOp τ sig (Elt Ideal)) :=
  [ unary main_arg2 main_v0 ((extractStridedSlice S16384x2048 ![0, 4096] · slices_S16384x6144_S16384x2048_0_4096) : FVec Ideal S16384x6144 .bf16 → FVec Ideal S16384x2048 .bf16),
    unary main_arg5 main_v1 ((extf .f32 · bitsLt_bf16_f32) : FVec Ideal S2048x1024 .bf16 → FVec Ideal S2048x1024 .f32),
    unary main_arg1 main_v2 ((extf .f32 · bitsLt_bf16_f32) : FVec Ideal S16384x2048 .bf16 → FVec Ideal S16384x2048 .f32),
    unary main_v0 main_v3 ((extf .f32 · bitsLt_bf16_f32) : FVec Ideal S16384x2048 .bf16 → FVec Ideal S16384x2048 .f32),
    nullary main_cst ((constant S_ .f32 0x00000000#32) : FVec Ideal S_ .f32),
    binary main_v2 main_cst main_v4 ((fun x v => Host.reduceAdd x v reducesTo_S16384x2048_S16384_d1 h_S_) : FVec Ideal S16384x2048 .f32 → FVec Ideal S_ .f32 → FVec Ideal S16384 .f32),
    unary main_v4 main_v5 ((broadcastInDim S16384x1 ![0] bcast_S16384_S16384x1_0) : FVec Ideal S16384 .f32 → FVec Ideal S16384x1 .f32),
    nullary main_cst_0 ((constant S_ .f32 0x45000000#32) : FVec Ideal S_ .f32),
    unary main_cst_0 main_v6 ((broadcastInDim S16384x1 ![] bcast_S_S16384x1) : FVec Ideal S_ .f32 → FVec Ideal S16384x1 .f32),
    binary main_v5 main_v6 main_v7 ((Host.divf) : FVec Ideal S16384x1 .f32 → FVec Ideal S16384x1 .f32 → FVec Ideal S16384x1 .f32),
    unary main_v7 main_v8 ((broadcastInDim S16384x2048 ![0, 1] bcast_S16384x1_S16384x2048_0_1) : FVec Ideal S16384x1 .f32 → FVec Ideal S16384x2048 .f32),
    binary main_v2 main_v8 main_v9 ((subf) : FVec Ideal S16384x2048 .f32 → FVec Ideal S16384x2048 .f32 → FVec Ideal S16384x2048 .f32),
    binary main_v9 main_v9 main_v10 ((mulf) : FVec Ideal S16384x2048 .f32 → FVec Ideal S16384x2048 .f32 → FVec Ideal S16384x2048 .f32),
    nullary main_cst_1 ((constant S_ .f32 0x00000000#32) : FVec Ideal S_ .f32),
    binary main_v10 main_cst_1 main_v11 ((fun x v => Host.reduceAdd x v reducesTo_S16384x2048_S16384_d1 h_S_) : FVec Ideal S16384x2048 .f32 → FVec Ideal S_ .f32 → FVec Ideal S16384 .f32),
    unary main_v11 main_v12 ((broadcastInDim S16384x1 ![0] bcast_S16384_S16384x1_0) : FVec Ideal S16384 .f32 → FVec Ideal S16384x1 .f32),
    nullary main_cst_2 ((constant S_ .f32 0x45000000#32) : FVec Ideal S_ .f32),
    unary main_cst_2 main_v13 ((broadcastInDim S16384x1 ![] bcast_S_S16384x1) : FVec Ideal S_ .f32 → FVec Ideal S16384x1 .f32),
    binary main_v12 main_v13 main_v14 ((Host.divf) : FVec Ideal S16384x1 .f32 → FVec Ideal S16384x1 .f32 → FVec Ideal S16384x1 .f32),
    nullary main_cst_3 ((constant S_ .f32 0x3727C5AC#32) : FVec Ideal S_ .f32),
    unary main_cst_3 main_v15 ((broadcastInDim S16384x1 ![] bcast_S_S16384x1) : FVec Ideal S_ .f32 → FVec Ideal S16384x1 .f32),
    binary main_v14 main_v15 main_v16 ((addf) : FVec Ideal S16384x1 .f32 → FVec Ideal S16384x1 .f32 → FVec Ideal S16384x1 .f32),
    unary main_v16 main_v17 ((Host.rsqrt) : FVec Ideal S16384x1 .f32 → FVec Ideal S16384x1 .f32),
    binary main_v17 main_v16 main_v18 ((Host.divf) : FVec Ideal S16384x1 .f32 → FVec Ideal S16384x1 .f32 → FVec Ideal S16384x1 .f32),
    nullary main_cst_4 ((constant S_ .f32 0xBF000000#32) : FVec Ideal S_ .f32),
    unary main_cst_4 main_v19 ((broadcastInDim S16384x1 ![] bcast_S_S16384x1) : FVec Ideal S_ .f32 → FVec Ideal S16384x1 .f32),
    binary main_v19 main_v18 main_v20 ((mulf) : FVec Ideal S16384x1 .f32 → FVec Ideal S16384x1 .f32 → FVec Ideal S16384x1 .f32),
    unary main_v17 main_v21 ((broadcastInDim S16384x2048 ![0, 1] bcast_S16384x1_S16384x2048_0_1) : FVec Ideal S16384x1 .f32 → FVec Ideal S16384x2048 .f32),
    binary main_v9 main_v21 main_v22 ((mulf) : FVec Ideal S16384x2048 .f32 → FVec Ideal S16384x2048 .f32 → FVec Ideal S16384x2048 .f32),
    unary main_arg3 main_v23 ((broadcastInDim S16384x2048 ![0, 1] bcast_S1x2048_S16384x2048_0_1) : FVec Ideal S1x2048 .f32 → FVec Ideal S16384x2048 .f32),
    binary main_v22 main_v23 main_v24 ((mulf) : FVec Ideal S16384x2048 .f32 → FVec Ideal S16384x2048 .f32 → FVec Ideal S16384x2048 .f32),
    unary main_arg4 main_v25 ((broadcastInDim S16384x2048 ![0, 1] bcast_S1x2048_S16384x2048_0_1) : FVec Ideal S1x2048 .f32 → FVec Ideal S16384x2048 .f32),
    binary main_v24 main_v25 main_v26 ((addf) : FVec Ideal S16384x2048 .f32 → FVec Ideal S16384x2048 .f32 → FVec Ideal S16384x2048 .f32),
    unary main_v26 main_call0_v0 (Host.negf : FVec Ideal S16384x2048 .f32 → FVec Ideal S16384x2048 .f32),
    unary main_call0_v0 main_call0_v1 (Host.exp : FVec Ideal S16384x2048 .f32 → FVec Ideal S16384x2048 .f32),
    nullary main_call0_cst ((constant S_ .f32 0x3F800000#32) : FVec Ideal S_ .f32),
    unary main_call0_cst main_call0_v2 ((broadcastInDim S16384x2048 ![] bcast_S_S16384x2048) : FVec Ideal S_ .f32 → FVec Ideal S16384x2048 .f32),
    binary main_call0_v2 main_call0_v1 main_call0_v3 (addf : FVec Ideal S16384x2048 .f32 → FVec Ideal S16384x2048 .f32 → FVec Ideal S16384x2048 .f32),
    nullary main_call0_cst_0 ((constant S_ .f32 0x3F800000#32) : FVec Ideal S_ .f32),
    unary main_call0_cst_0 main_call0_v4 ((broadcastInDim S16384x2048 ![] bcast_S_S16384x2048) : FVec Ideal S_ .f32 → FVec Ideal S16384x2048 .f32),
    binary main_call0_v4 main_call0_v3 main_v27_2 (Host.divf : FVec Ideal S16384x2048 .f32 → FVec Ideal S16384x2048 .f32 → FVec Ideal S16384x2048 .f32),
    nullary main_call0_cst_1 ((constant S_ .f32 0x3F800000#32) : FVec Ideal S_ .f32),
    unary main_call0_cst_1 main_call0_v6 ((broadcastInDim S16384x2048 ![] bcast_S_S16384x2048) : FVec Ideal S_ .f32 → FVec Ideal S16384x2048 .f32),
    binary main_call0_v6 main_v27_2 main_call0_v7 (subf : FVec Ideal S16384x2048 .f32 → FVec Ideal S16384x2048 .f32 → FVec Ideal S16384x2048 .f32),
    binary main_v27_2 main_call0_v7 main_v27_1 (mulf : FVec Ideal S16384x2048 .f32 → FVec Ideal S16384x2048 .f32 → FVec Ideal S16384x2048 .f32),
    binary main_v26 main_v27_2 main_v27_0 (mulf : FVec Ideal S16384x2048 .f32 → FVec Ideal S16384x2048 .f32 → FVec Ideal S16384x2048 .f32),
    unary main_v3 main_call1_v0 (Host.negf : FVec Ideal S16384x2048 .f32 → FVec Ideal S16384x2048 .f32),
    unary main_call1_v0 main_call1_v1 (Host.exp : FVec Ideal S16384x2048 .f32 → FVec Ideal S16384x2048 .f32),
    nullary main_call1_cst ((constant S_ .f32 0x3F800000#32) : FVec Ideal S_ .f32),
    unary main_call1_cst main_call1_v2 ((broadcastInDim S16384x2048 ![] bcast_S_S16384x2048) : FVec Ideal S_ .f32 → FVec Ideal S16384x2048 .f32),
    binary main_call1_v2 main_call1_v1 main_call1_v3 (addf : FVec Ideal S16384x2048 .f32 → FVec Ideal S16384x2048 .f32 → FVec Ideal S16384x2048 .f32),
    nullary main_call1_cst_0 ((constant S_ .f32 0x3F800000#32) : FVec Ideal S_ .f32),
    unary main_call1_cst_0 main_call1_v4 ((broadcastInDim S16384x2048 ![] bcast_S_S16384x2048) : FVec Ideal S_ .f32 → FVec Ideal S16384x2048 .f32),
    binary main_call1_v4 main_call1_v3 main_v28_2 (Host.divf : FVec Ideal S16384x2048 .f32 → FVec Ideal S16384x2048 .f32 → FVec Ideal S16384x2048 .f32),
    nullary main_call1_cst_1 ((constant S_ .f32 0x3F800000#32) : FVec Ideal S_ .f32),
    unary main_call1_cst_1 main_call1_v6 ((broadcastInDim S16384x2048 ![] bcast_S_S16384x2048) : FVec Ideal S_ .f32 → FVec Ideal S16384x2048 .f32),
    binary main_call1_v6 main_v28_2 main_call1_v7 (subf : FVec Ideal S16384x2048 .f32 → FVec Ideal S16384x2048 .f32 → FVec Ideal S16384x2048 .f32),
    binary main_v28_2 main_call1_v7 main_v28_1 (mulf : FVec Ideal S16384x2048 .f32 → FVec Ideal S16384x2048 .f32 → FVec Ideal S16384x2048 .f32),
    binary main_v3 main_v28_2 main_v28_0 (mulf : FVec Ideal S16384x2048 .f32 → FVec Ideal S16384x2048 .f32 → FVec Ideal S16384x2048 .f32),
    binary main_v27_0 main_v28_0 main_v29 ((mulf) : FVec Ideal S16384x2048 .f32 → FVec Ideal S16384x2048 .f32 → FVec Ideal S16384x2048 .f32),
    binary main_v29 main_v1 main_v30 ((fun l r => Host.dotGeneral dot_S16384x2048_S2048x1024_S16384x1024_1_0_0_1_n_n none l r) : FVec Ideal S16384x2048 .f32 → FVec Ideal S2048x1024 .f32 → FVec Ideal S16384x1024 .f32),
    binary main_arg0 main_v29 main_v31 ((fun l r => Host.dotGeneral dot_S16384x1024_S16384x2048_S1024x2048_0_0_1_1_n_n none l r) : FVec Ideal S16384x1024 .f32 → FVec Ideal S16384x2048 .f32 → FVec Ideal S1024x2048 .f32),
    unary main_v31 main_v32 ((transpose S2048x1024 [1, 0] · transposes_S1024x2048_S2048x1024_1_0) : FVec Ideal S1024x2048 .f32 → FVec Ideal S2048x1024 .f32),
    binary main_arg0 main_v1 main_v33 ((fun l r => Host.dotGeneral dot_S16384x1024_S2048x1024_S16384x2048_1_1_0_0_n_n none l r) : FVec Ideal S16384x1024 .f32 → FVec Ideal S2048x1024 .f32 → FVec Ideal S16384x2048 .f32),
    binary main_v27_0 main_v33 main_v34 ((mulf) : FVec Ideal S16384x2048 .f32 → FVec Ideal S16384x2048 .f32 → FVec Ideal S16384x2048 .f32),
    binary main_v33 main_v28_0 main_v35 ((mulf) : FVec Ideal S16384x2048 .f32 → FVec Ideal S16384x2048 .f32 → FVec Ideal S16384x2048 .f32),
    binary main_v3 main_v34 main_call2_v0 (mulf : FVec Ideal S16384x2048 .f32 → FVec Ideal S16384x2048 .f32 → FVec Ideal S16384x2048 .f32),
    binary main_v34 main_v28_2 main_call2_v1 (mulf : FVec Ideal S16384x2048 .f32 → FVec Ideal S16384x2048 .f32 → FVec Ideal S16384x2048 .f32),
    binary main_call2_v0 main_v28_1 main_call2_v2 (mulf : FVec Ideal S16384x2048 .f32 → FVec Ideal S16384x2048 .f32 → FVec Ideal S16384x2048 .f32),
    binary main_call2_v1 main_call2_v2 main_v36 (addf : FVec Ideal S16384x2048 .f32 → FVec Ideal S16384x2048 .f32 → FVec Ideal S16384x2048 .f32),
    binary main_v26 main_v35 main_call3_v0 (mulf : FVec Ideal S16384x2048 .f32 → FVec Ideal S16384x2048 .f32 → FVec Ideal S16384x2048 .f32),
    binary main_v35 main_v27_2 main_call3_v1 (mulf : FVec Ideal S16384x2048 .f32 → FVec Ideal S16384x2048 .f32 → FVec Ideal S16384x2048 .f32),
    binary main_call3_v0 main_v27_1 main_call3_v2 (mulf : FVec Ideal S16384x2048 .f32 → FVec Ideal S16384x2048 .f32 → FVec Ideal S16384x2048 .f32),
    binary main_call3_v1 main_call3_v2 main_v37 (addf : FVec Ideal S16384x2048 .f32 → FVec Ideal S16384x2048 .f32 → FVec Ideal S16384x2048 .f32),
    nullary main_cst_5 ((constant S_ .f32 0x00000000#32) : FVec Ideal S_ .f32),
    binary main_v37 main_cst_5 main_v38 ((fun x v => Host.reduceAdd x v reducesTo_S16384x2048_S2048_d0 h_S_) : FVec Ideal S16384x2048 .f32 → FVec Ideal S_ .f32 → FVec Ideal S2048 .f32),
    unary main_v38 main_v39 ((shapeCast S1x2048 · shapeCasts_S2048_S1x2048) : FVec Ideal S2048 .f32 → FVec Ideal S1x2048 .f32),
    binary main_v22 main_v37 main_v40 ((mulf) : FVec Ideal S16384x2048 .f32 → FVec Ideal S16384x2048 .f32 → FVec Ideal S16384x2048 .f32),
    nullary main_cst_6 ((constant S_ .f32 0x00000000#32) : FVec Ideal S_ .f32),
    binary main_v40 main_cst_6 main_v41 ((fun x v => Host.reduceAdd x v reducesTo_S16384x2048_S2048_d0 h_S_) : FVec Ideal S16384x2048 .f32 → FVec Ideal S_ .f32 → FVec Ideal S2048 .f32),
    unary main_v41 main_v42 ((shapeCast S1x2048 · shapeCasts_S2048_S1x2048) : FVec Ideal S2048 .f32 → FVec Ideal S1x2048 .f32),
    unary main_arg3 main_v43 ((broadcastInDim S16384x2048 ![0, 1] bcast_S1x2048_S16384x2048_0_1) : FVec Ideal S1x2048 .f32 → FVec Ideal S16384x2048 .f32),
    binary main_v37 main_v43 main_v44 ((mulf) : FVec Ideal S16384x2048 .f32 → FVec Ideal S16384x2048 .f32 → FVec Ideal S16384x2048 .f32),
    binary main_v9 main_v44 main_v45 ((mulf) : FVec Ideal S16384x2048 .f32 → FVec Ideal S16384x2048 .f32 → FVec Ideal S16384x2048 .f32),
    nullary main_cst_7 ((constant S_ .f32 0x00000000#32) : FVec Ideal S_ .f32),
    binary main_v45 main_cst_7 main_v46 ((fun x v => Host.reduceAdd x v reducesTo_S16384x2048_S16384_d1 h_S_) : FVec Ideal S16384x2048 .f32 → FVec Ideal S_ .f32 → FVec Ideal S16384 .f32),
    unary main_v46 main_v47 ((shapeCast S16384x1 · shapeCasts_S16384_S16384x1) : FVec Ideal S16384 .f32 → FVec Ideal S16384x1 .f32),
    unary main_v17 main_v48 ((broadcastInDim S16384x2048 ![0, 1] bcast_S16384x1_S16384x2048_0_1) : FVec Ideal S16384x1 .f32 → FVec Ideal S16384x2048 .f32),
    binary main_v44 main_v48 main_v49 ((mulf) : FVec Ideal S16384x2048 .f32 → FVec Ideal S16384x2048 .f32 → FVec Ideal S16384x2048 .f32),
    binary main_v47 main_v20 main_v50 ((mulf) : FVec Ideal S16384x1 .f32 → FVec Ideal S16384x1 .f32 → FVec Ideal S16384x1 .f32),
    nullary main_cst_8 ((constant S_ .f32 0x45000000#32) : FVec Ideal S_ .f32),
    unary main_cst_8 main_v51 ((broadcastInDim S16384x1 ![] bcast_S_S16384x1) : FVec Ideal S_ .f32 → FVec Ideal S16384x1 .f32),
    binary main_v50 main_v51 main_v52 ((Host.divf) : FVec Ideal S16384x1 .f32 → FVec Ideal S16384x1 .f32 → FVec Ideal S16384x1 .f32),
    nullary main_cst_9 ((constant S_ .f32 0x00000000#32) : FVec Ideal S_ .f32),
    binary main_v52 main_cst_9 main_v53 ((fun x v => Host.reduceAdd x v reducesTo_S16384x1_S16384_d1 h_S_) : FVec Ideal S16384x1 .f32 → FVec Ideal S_ .f32 → FVec Ideal S16384 .f32),
    unary main_v53 main_v54 ((broadcastInDim S16384x2048 ![0] bcast_S16384_S16384x2048_0) : FVec Ideal S16384 .f32 → FVec Ideal S16384x2048 .f32),
    binary main_v9 main_v54 main_v55 ((mulf) : FVec Ideal S16384x2048 .f32 → FVec Ideal S16384x2048 .f32 → FVec Ideal S16384x2048 .f32),
    binary main_v49 main_v55 main_v56 ((addf) : FVec Ideal S16384x2048 .f32 → FVec Ideal S16384x2048 .f32 → FVec Ideal S16384x2048 .f32),
    binary main_v54 main_v9 main_v57 ((mulf) : FVec Ideal S16384x2048 .f32 → FVec Ideal S16384x2048 .f32 → FVec Ideal S16384x2048 .f32),
    binary main_v56 main_v57 main_v58 ((addf) : FVec Ideal S16384x2048 .f32 → FVec Ideal S16384x2048 .f32 → FVec Ideal S16384x2048 .f32),
    unary main_v58 main_v59 ((Host.negf) : FVec Ideal S16384x2048 .f32 → FVec Ideal S16384x2048 .f32),
    nullary main_cst_10 ((constant S_ .f32 0x00000000#32) : FVec Ideal S_ .f32),
    binary main_v59 main_cst_10 main_v60 ((fun x v => Host.reduceAdd x v reducesTo_S16384x2048_S16384_d1 h_S_) : FVec Ideal S16384x2048 .f32 → FVec Ideal S_ .f32 → FVec Ideal S16384 .f32),
    unary main_v60 main_v61 ((shapeCast S16384x1 · shapeCasts_S16384_S16384x1) : FVec Ideal S16384 .f32 → FVec Ideal S16384x1 .f32),
    nullary main_cst_11 ((constant S_ .f32 0x45000000#32) : FVec Ideal S_ .f32),
    unary main_cst_11 main_v62 ((broadcastInDim S16384x1 ![] bcast_S_S16384x1) : FVec Ideal S_ .f32 → FVec Ideal S16384x1 .f32),
    binary main_v61 main_v62 main_v63 ((Host.divf) : FVec Ideal S16384x1 .f32 → FVec Ideal S16384x1 .f32 → FVec Ideal S16384x1 .f32),
    nullary main_cst_12 ((constant S_ .f32 0x00000000#32) : FVec Ideal S_ .f32),
    binary main_v63 main_cst_12 main_v64 ((fun x v => Host.reduceAdd x v reducesTo_S16384x1_S16384_d1 h_S_) : FVec Ideal S16384x1 .f32 → FVec Ideal S_ .f32 → FVec Ideal S16384 .f32),
    unary main_v64 main_v65 ((broadcastInDim S16384x2048 ![0] bcast_S16384_S16384x2048_0) : FVec Ideal S16384 .f32 → FVec Ideal S16384x2048 .f32),
    binary main_v58 main_v65 main_v66 ((addf) : FVec Ideal S16384x2048 .f32 → FVec Ideal S16384x2048 .f32 → FVec Ideal S16384x2048 .f32),
    unary main_v66 main_v67 ((truncf .bf16 · bitsLt_bf16_f32) : FVec Ideal S16384x2048 .f32 → FVec Ideal S16384x2048 .bf16),
    unary main_v36 main_v68 ((truncf .bf16 · bitsLt_bf16_f32) : FVec Ideal S16384x2048 .f32 → FVec Ideal S16384x2048 .bf16) ]

/-- The buffers that the operations write, in order. -/
abbrev WL : List (Ref sig .tc) := [main_v0, main_v1, main_v2, main_v3, main_cst, main_v4, main_v5, main_cst_0, main_v6, main_v7, main_v8, main_v9, main_v10, main_cst_1, main_v11, main_v12, main_cst_2, main_v13, main_v14, main_cst_3, main_v15, main_v16, main_v17, main_v18, main_cst_4, main_v19, main_v20, main_v21, main_v22, main_v23, main_v24, main_v25, main_v26, main_call0_v0, main_call0_v1, main_call0_cst, main_call0_v2, main_call0_v3, main_call0_cst_0, main_call0_v4, main_v27_2, main_call0_cst_1, main_call0_v6, main_call0_v7, main_v27_1, main_v27_0, main_call1_v0, main_call1_v1, main_call1_cst, main_call1_v2, main_call1_v3, main_call1_cst_0, main_call1_v4, main_v28_2, main_call1_cst_1, main_call1_v6, main_call1_v7, main_v28_1, main_v28_0, main_v29, main_v30, main_v31, main_v32, main_v33, main_v34, main_v35, main_call2_v0, main_call2_v1, main_call2_v2, main_v36, main_call3_v0, main_call3_v1, main_call3_v2, main_v37, main_cst_5, main_v38, main_v39, main_v40, main_cst_6, main_v41, main_v42, main_v43, main_v44, main_v45, main_cst_7, main_v46, main_v47, main_v48, main_v49, main_v50, main_cst_8, main_v51, main_v52, main_cst_9, main_v53, main_v54, main_v55, main_v56, main_v57, main_v58, main_v59, main_cst_10, main_v60, main_v61, main_cst_11, main_v62, main_v63, main_cst_12, main_v64, main_v65, main_v66, main_v67, main_v68]

theorem hWL : ops.map HloOp.writes = WL.map fun w => {Proc.devRef (τ := τ) .tc w} := rfl

set_option maxHeartbeats 4000000 in
theorem main_eq (c : Dev nD) : main (F := Ideal) c = seq ops := rfl

theorem scopedRefs_eq : (Finset.univ.filter fun b : Ref sig .tc => b.isScoped) = ∅ := by decide

theorem scopedSems_eq : (Finset.univ.filter fun sm : SemLoc sig => sm.isScoped .tc) = ∅ := by decide

theorem ops_sub : ops.Forall fun op => op.bufs ⊆ tcRefs τ sig :=
  ⟨unary_bufs_sub .., unary_bufs_sub .., unary_bufs_sub .., unary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., binary_bufs_sub .., binary_bufs_sub .., binary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., nullary_bufs_sub .., binary_bufs_sub .., unary_bufs_sub .., binary_bufs_sub .., nullary_bufs_sub .., binary_bufs_sub .., unary_bufs_sub .., unary_bufs_sub .., binary_bufs_sub .., binary_bufs_sub .., nullary_bufs_sub .., binary_bufs_sub .., unary_bufs_sub .., unary_bufs_sub .., binary_bufs_sub .., binary_bufs_sub .., nullary_bufs_sub .., unary_bufs_sub .., binary_bufs_sub .., nullary_bufs_sub .., binary_bufs_sub .., unary_bufs_sub .., binary_bufs_sub .., binary_bufs_sub .., binary_bufs_sub .., binary_bufs_sub .., unary_bufs_sub .., nullary_bufs_sub .., binary_bufs_sub .., unary_bufs_sub .., nullary_bufs_sub .., unary_bufs_sub .., binary_bufs_sub .., nullary_bufs_sub .., binary_bufs_sub .., unary_bufs_sub .., binary_bufs_sub .., unary_bufs_sub .., unary_bufs_sub ..⟩

variable (m : (ℓ : Loc nD τ sig) → Buf (Elt Ideal) ℓ) (c : Dev nD)

/-- What the buffers hold after the operations. -/
abbrev R (r : Ref sig .tc) : r.ty.Contents (Elt Ideal) := after ops (launchContents m c) (Proc.devRef .tc r)

/-- Argument 0. -/
abbrev w_arg0 : FVec Ideal S16384x1024 .f32 := m ((c.tc : Thread nD τ).loc main_arg0)

theorem r_arg0 : R m c main_arg0 = m ((c.tc : Thread nD τ).loc main_arg0) := after_unwritten WL hWL (by decide) _

/-- Argument 1. -/
abbrev w_arg1 : FVec Ideal S16384x2048 .bf16 := m ((c.tc : Thread nD τ).loc main_arg1)

theorem r_arg1 : R m c main_arg1 = m ((c.tc : Thread nD τ).loc main_arg1) := after_unwritten WL hWL (by decide) _

/-- Argument 2. -/
abbrev w_arg2 : FVec Ideal S16384x6144 .bf16 := m ((c.tc : Thread nD τ).loc main_arg2)

theorem r_arg2 : R m c main_arg2 = m ((c.tc : Thread nD τ).loc main_arg2) := after_unwritten WL hWL (by decide) _

/-- Argument 3. -/
abbrev w_arg3 : FVec Ideal S1x2048 .f32 := m ((c.tc : Thread nD τ).loc main_arg3)

theorem r_arg3 : R m c main_arg3 = m ((c.tc : Thread nD τ).loc main_arg3) := after_unwritten WL hWL (by decide) _

/-- Argument 4. -/
abbrev w_arg4 : FVec Ideal S1x2048 .f32 := m ((c.tc : Thread nD τ).loc main_arg4)

theorem r_arg4 : R m c main_arg4 = m ((c.tc : Thread nD τ).loc main_arg4) := after_unwritten WL hWL (by decide) _

/-- Argument 5. -/
abbrev w_arg5 : FVec Ideal S2048x1024 .bf16 := m ((c.tc : Thread nD τ).loc main_arg5)

theorem r_arg5 : R m c main_arg5 = m ((c.tc : Thread nD τ).loc main_arg5) := after_unwritten WL hWL (by decide) _

/-- The value of its operation. -/
def w_v0 (m : (ℓ : Loc nD τ sig) → Buf (Elt Ideal) ℓ) (c : Dev nD) : FVec Ideal S16384x2048 .bf16 := (((extractStridedSlice S16384x2048 ![0, 4096] · slices_S16384x6144_S16384x2048_0_4096) : FVec Ideal S16384x6144 .bf16 → FVec Ideal S16384x2048 .bf16) (w_arg2 m c))

theorem r_v0 : R m c main_v0 = w_v0 m c := read_unary hWL 0 rfl (by decide) (by decide) (r_arg2 m c)

/-- The value of its operation. -/
def w_v1 (m : (ℓ : Loc nD τ sig) → Buf (Elt Ideal) ℓ) (c : Dev nD) : FVec Ideal S2048x1024 .f32 := (((extf .f32 · bitsLt_bf16_f32) : FVec Ideal S2048x1024 .bf16 → FVec Ideal S2048x1024 .f32) (w_arg5 m c))

theorem r_v1 : R m c main_v1 = w_v1 m c := read_unary hWL 1 rfl (by decide) (by decide) (r_arg5 m c)

/-- The value of its operation. -/
def w_v2 (m : (ℓ : Loc nD τ sig) → Buf (Elt Ideal) ℓ) (c : Dev nD) : FVec Ideal S16384x2048 .f32 := (((extf .f32 · bitsLt_bf16_f32) : FVec Ideal S16384x2048 .bf16 → FVec Ideal S16384x2048 .f32) (w_arg1 m c))

theorem r_v2 : R m c main_v2 = w_v2 m c := read_unary hWL 2 rfl (by decide) (by decide) (r_arg1 m c)

/-- The value of its operation. -/
def w_v3 (m : (ℓ : Loc nD τ sig) → Buf (Elt Ideal) ℓ) (c : Dev nD) : FVec Ideal S16384x2048 .f32 := (((extf .f32 · bitsLt_bf16_f32) : FVec Ideal S16384x2048 .bf16 → FVec Ideal S16384x2048 .f32) (w_v0 m c))

theorem r_v3 : R m c main_v3 = w_v3 m c := read_unary hWL 3 rfl (by decide) (by decide) (r_v0 m c)

/-- The value of its operation. -/
def w_cst (m : (ℓ : Loc nD τ sig) → Buf (Elt Ideal) ℓ) (c : Dev nD) : FVec Ideal S_ .f32 := (constant S_ .f32 0x00000000#32)

theorem r_cst : R m c main_cst = w_cst m c := read_nullary hWL 4 rfl (by decide) _

/-- The value of its operation. -/
def w_v4 (m : (ℓ : Loc nD τ sig) → Buf (Elt Ideal) ℓ) (c : Dev nD) : FVec Ideal S16384 .f32 := (((fun x v => Host.reduceAdd x v reducesTo_S16384x2048_S16384_d1 h_S_) : FVec Ideal S16384x2048 .f32 → FVec Ideal S_ .f32 → FVec Ideal S16384 .f32) (w_v2 m c) (w_cst m c))

theorem r_v4 : R m c main_v4 = w_v4 m c := read_binary hWL 5 rfl (by decide) (by decide) (by decide) (r_v2 m c) (r_cst m c)

/-- The value of its operation. -/
def w_v5 (m : (ℓ : Loc nD τ sig) → Buf (Elt Ideal) ℓ) (c : Dev nD) : FVec Ideal S16384x1 .f32 := (((broadcastInDim S16384x1 ![0] bcast_S16384_S16384x1_0) : FVec Ideal S16384 .f32 → FVec Ideal S16384x1 .f32) (w_v4 m c))

theorem r_v5 : R m c main_v5 = w_v5 m c := read_unary hWL 6 rfl (by decide) (by decide) (r_v4 m c)

/-- The value of its operation. -/
def w_cst_0 (m : (ℓ : Loc nD τ sig) → Buf (Elt Ideal) ℓ) (c : Dev nD) : FVec Ideal S_ .f32 := (constant S_ .f32 0x45000000#32)

theorem r_cst_0 : R m c main_cst_0 = w_cst_0 m c := read_nullary hWL 7 rfl (by decide) _

/-- The value of its operation. -/
def w_v6 (m : (ℓ : Loc nD τ sig) → Buf (Elt Ideal) ℓ) (c : Dev nD) : FVec Ideal S16384x1 .f32 := (((broadcastInDim S16384x1 ![] bcast_S_S16384x1) : FVec Ideal S_ .f32 → FVec Ideal S16384x1 .f32) (w_cst_0 m c))

theorem r_v6 : R m c main_v6 = w_v6 m c := read_unary hWL 8 rfl (by decide) (by decide) (r_cst_0 m c)

/-- The value of its operation. -/
def w_v7 (m : (ℓ : Loc nD τ sig) → Buf (Elt Ideal) ℓ) (c : Dev nD) : FVec Ideal S16384x1 .f32 := (((Host.divf) : FVec Ideal S16384x1 .f32 → FVec Ideal S16384x1 .f32 → FVec Ideal S16384x1 .f32) (w_v5 m c) (w_v6 m c))

theorem r_v7 : R m c main_v7 = w_v7 m c := read_binary hWL 9 rfl (by decide) (by decide) (by decide) (r_v5 m c) (r_v6 m c)

/-- The value of its operation. -/
def w_v8 (m : (ℓ : Loc nD τ sig) → Buf (Elt Ideal) ℓ) (c : Dev nD) : FVec Ideal S16384x2048 .f32 := (((broadcastInDim S16384x2048 ![0, 1] bcast_S16384x1_S16384x2048_0_1) : FVec Ideal S16384x1 .f32 → FVec Ideal S16384x2048 .f32) (w_v7 m c))

theorem r_v8 : R m c main_v8 = w_v8 m c := read_unary hWL 10 rfl (by decide) (by decide) (r_v7 m c)

/-- The value of its operation. -/
def w_v9 (m : (ℓ : Loc nD τ sig) → Buf (Elt Ideal) ℓ) (c : Dev nD) : FVec Ideal S16384x2048 .f32 := (((subf) : FVec Ideal S16384x2048 .f32 → FVec Ideal S16384x2048 .f32 → FVec Ideal S16384x2048 .f32) (w_v2 m c) (w_v8 m c))

theorem r_v9 : R m c main_v9 = w_v9 m c := read_binary hWL 11 rfl (by decide) (by decide) (by decide) (r_v2 m c) (r_v8 m c)

/-- The value of its operation. -/
def w_v10 (m : (ℓ : Loc nD τ sig) → Buf (Elt Ideal) ℓ) (c : Dev nD) : FVec Ideal S16384x2048 .f32 := (((mulf) : FVec Ideal S16384x2048 .f32 → FVec Ideal S16384x2048 .f32 → FVec Ideal S16384x2048 .f32) (w_v9 m c) (w_v9 m c))

theorem r_v10 : R m c main_v10 = w_v10 m c := read_binary hWL 12 rfl (by decide) (by decide) (by decide) (r_v9 m c) (r_v9 m c)

/-- The value of its operation. -/
def w_cst_1 (m : (ℓ : Loc nD τ sig) → Buf (Elt Ideal) ℓ) (c : Dev nD) : FVec Ideal S_ .f32 := (constant S_ .f32 0x00000000#32)

theorem r_cst_1 : R m c main_cst_1 = w_cst_1 m c := read_nullary hWL 13 rfl (by decide) _

/-- The value of its operation. -/
def w_v11 (m : (ℓ : Loc nD τ sig) → Buf (Elt Ideal) ℓ) (c : Dev nD) : FVec Ideal S16384 .f32 := (((fun x v => Host.reduceAdd x v reducesTo_S16384x2048_S16384_d1 h_S_) : FVec Ideal S16384x2048 .f32 → FVec Ideal S_ .f32 → FVec Ideal S16384 .f32) (w_v10 m c) (w_cst_1 m c))

theorem r_v11 : R m c main_v11 = w_v11 m c := read_binary hWL 14 rfl (by decide) (by decide) (by decide) (r_v10 m c) (r_cst_1 m c)

/-- The value of its operation. -/
def w_v12 (m : (ℓ : Loc nD τ sig) → Buf (Elt Ideal) ℓ) (c : Dev nD) : FVec Ideal S16384x1 .f32 := (((broadcastInDim S16384x1 ![0] bcast_S16384_S16384x1_0) : FVec Ideal S16384 .f32 → FVec Ideal S16384x1 .f32) (w_v11 m c))

theorem r_v12 : R m c main_v12 = w_v12 m c := read_unary hWL 15 rfl (by decide) (by decide) (r_v11 m c)

/-- The value of its operation. -/
def w_cst_2 (m : (ℓ : Loc nD τ sig) → Buf (Elt Ideal) ℓ) (c : Dev nD) : FVec Ideal S_ .f32 := (constant S_ .f32 0x45000000#32)

theorem r_cst_2 : R m c main_cst_2 = w_cst_2 m c := read_nullary hWL 16 rfl (by decide) _

/-- The value of its operation. -/
def w_v13 (m : (ℓ : Loc nD τ sig) → Buf (Elt Ideal) ℓ) (c : Dev nD) : FVec Ideal S16384x1 .f32 := (((broadcastInDim S16384x1 ![] bcast_S_S16384x1) : FVec Ideal S_ .f32 → FVec Ideal S16384x1 .f32) (w_cst_2 m c))

theorem r_v13 : R m c main_v13 = w_v13 m c := read_unary hWL 17 rfl (by decide) (by decide) (r_cst_2 m c)

/-- The value of its operation. -/
def w_v14 (m : (ℓ : Loc nD τ sig) → Buf (Elt Ideal) ℓ) (c : Dev nD) : FVec Ideal S16384x1 .f32 := (((Host.divf) : FVec Ideal S16384x1 .f32 → FVec Ideal S16384x1 .f32 → FVec Ideal S16384x1 .f32) (w_v12 m c) (w_v13 m c))

theorem r_v14 : R m c main_v14 = w_v14 m c := read_binary hWL 18 rfl (by decide) (by decide) (by decide) (r_v12 m c) (r_v13 m c)

/-- The value of its operation. -/
def w_cst_3 (m : (ℓ : Loc nD τ sig) → Buf (Elt Ideal) ℓ) (c : Dev nD) : FVec Ideal S_ .f32 := (constant S_ .f32 0x3727C5AC#32)

theorem r_cst_3 : R m c main_cst_3 = w_cst_3 m c := read_nullary hWL 19 rfl (by decide) _

/-- The value of its operation. -/
def w_v15 (m : (ℓ : Loc nD τ sig) → Buf (Elt Ideal) ℓ) (c : Dev nD) : FVec Ideal S16384x1 .f32 := (((broadcastInDim S16384x1 ![] bcast_S_S16384x1) : FVec Ideal S_ .f32 → FVec Ideal S16384x1 .f32) (w_cst_3 m c))

theorem r_v15 : R m c main_v15 = w_v15 m c := read_unary hWL 20 rfl (by decide) (by decide) (r_cst_3 m c)

/-- The value of its operation. -/
def w_v16 (m : (ℓ : Loc nD τ sig) → Buf (Elt Ideal) ℓ) (c : Dev nD) : FVec Ideal S16384x1 .f32 := (((addf) : FVec Ideal S16384x1 .f32 → FVec Ideal S16384x1 .f32 → FVec Ideal S16384x1 .f32) (w_v14 m c) (w_v15 m c))

theorem r_v16 : R m c main_v16 = w_v16 m c := read_binary hWL 21 rfl (by decide) (by decide) (by decide) (r_v14 m c) (r_v15 m c)

/-- The value of its operation. -/
def w_v17 (m : (ℓ : Loc nD τ sig) → Buf (Elt Ideal) ℓ) (c : Dev nD) : FVec Ideal S16384x1 .f32 := (((Host.rsqrt) : FVec Ideal S16384x1 .f32 → FVec Ideal S16384x1 .f32) (w_v16 m c))

theorem r_v17 : R m c main_v17 = w_v17 m c := read_unary hWL 22 rfl (by decide) (by decide) (r_v16 m c)

/-- The value of its operation. -/
def w_v18 (m : (ℓ : Loc nD τ sig) → Buf (Elt Ideal) ℓ) (c : Dev nD) : FVec Ideal S16384x1 .f32 := (((Host.divf) : FVec Ideal S16384x1 .f32 → FVec Ideal S16384x1 .f32 → FVec Ideal S16384x1 .f32) (w_v17 m c) (w_v16 m c))

theorem r_v18 : R m c main_v18 = w_v18 m c := read_binary hWL 23 rfl (by decide) (by decide) (by decide) (r_v17 m c) (r_v16 m c)

/-- The value of its operation. -/
def w_cst_4 (m : (ℓ : Loc nD τ sig) → Buf (Elt Ideal) ℓ) (c : Dev nD) : FVec Ideal S_ .f32 := (constant S_ .f32 0xBF000000#32)

theorem r_cst_4 : R m c main_cst_4 = w_cst_4 m c := read_nullary hWL 24 rfl (by decide) _

/-- The value of its operation. -/
def w_v19 (m : (ℓ : Loc nD τ sig) → Buf (Elt Ideal) ℓ) (c : Dev nD) : FVec Ideal S16384x1 .f32 := (((broadcastInDim S16384x1 ![] bcast_S_S16384x1) : FVec Ideal S_ .f32 → FVec Ideal S16384x1 .f32) (w_cst_4 m c))

theorem r_v19 : R m c main_v19 = w_v19 m c := read_unary hWL 25 rfl (by decide) (by decide) (r_cst_4 m c)

/-- The value of its operation. -/
def w_v20 (m : (ℓ : Loc nD τ sig) → Buf (Elt Ideal) ℓ) (c : Dev nD) : FVec Ideal S16384x1 .f32 := (((mulf) : FVec Ideal S16384x1 .f32 → FVec Ideal S16384x1 .f32 → FVec Ideal S16384x1 .f32) (w_v19 m c) (w_v18 m c))

theorem r_v20 : R m c main_v20 = w_v20 m c := read_binary hWL 26 rfl (by decide) (by decide) (by decide) (r_v19 m c) (r_v18 m c)

/-- The value of its operation. -/
def w_v21 (m : (ℓ : Loc nD τ sig) → Buf (Elt Ideal) ℓ) (c : Dev nD) : FVec Ideal S16384x2048 .f32 := (((broadcastInDim S16384x2048 ![0, 1] bcast_S16384x1_S16384x2048_0_1) : FVec Ideal S16384x1 .f32 → FVec Ideal S16384x2048 .f32) (w_v17 m c))

theorem r_v21 : R m c main_v21 = w_v21 m c := read_unary hWL 27 rfl (by decide) (by decide) (r_v17 m c)

/-- The value of its operation. -/
def w_v22 (m : (ℓ : Loc nD τ sig) → Buf (Elt Ideal) ℓ) (c : Dev nD) : FVec Ideal S16384x2048 .f32 := (((mulf) : FVec Ideal S16384x2048 .f32 → FVec Ideal S16384x2048 .f32 → FVec Ideal S16384x2048 .f32) (w_v9 m c) (w_v21 m c))

theorem r_v22 : R m c main_v22 = w_v22 m c := read_binary hWL 28 rfl (by decide) (by decide) (by decide) (r_v9 m c) (r_v21 m c)

/-- The value of its operation. -/
def w_v23 (m : (ℓ : Loc nD τ sig) → Buf (Elt Ideal) ℓ) (c : Dev nD) : FVec Ideal S16384x2048 .f32 := (((broadcastInDim S16384x2048 ![0, 1] bcast_S1x2048_S16384x2048_0_1) : FVec Ideal S1x2048 .f32 → FVec Ideal S16384x2048 .f32) (w_arg3 m c))

theorem r_v23 : R m c main_v23 = w_v23 m c := read_unary hWL 29 rfl (by decide) (by decide) (r_arg3 m c)

/-- The value of its operation. -/
def w_v24 (m : (ℓ : Loc nD τ sig) → Buf (Elt Ideal) ℓ) (c : Dev nD) : FVec Ideal S16384x2048 .f32 := (((mulf) : FVec Ideal S16384x2048 .f32 → FVec Ideal S16384x2048 .f32 → FVec Ideal S16384x2048 .f32) (w_v22 m c) (w_v23 m c))

theorem r_v24 : R m c main_v24 = w_v24 m c := read_binary hWL 30 rfl (by decide) (by decide) (by decide) (r_v22 m c) (r_v23 m c)

/-- The value of its operation. -/
def w_v25 (m : (ℓ : Loc nD τ sig) → Buf (Elt Ideal) ℓ) (c : Dev nD) : FVec Ideal S16384x2048 .f32 := (((broadcastInDim S16384x2048 ![0, 1] bcast_S1x2048_S16384x2048_0_1) : FVec Ideal S1x2048 .f32 → FVec Ideal S16384x2048 .f32) (w_arg4 m c))

theorem r_v25 : R m c main_v25 = w_v25 m c := read_unary hWL 31 rfl (by decide) (by decide) (r_arg4 m c)

/-- The value of its operation. -/
def w_v26 (m : (ℓ : Loc nD τ sig) → Buf (Elt Ideal) ℓ) (c : Dev nD) : FVec Ideal S16384x2048 .f32 := (((addf) : FVec Ideal S16384x2048 .f32 → FVec Ideal S16384x2048 .f32 → FVec Ideal S16384x2048 .f32) (w_v24 m c) (w_v25 m c))

theorem r_v26 : R m c main_v26 = w_v26 m c := read_binary hWL 32 rfl (by decide) (by decide) (by decide) (r_v24 m c) (r_v25 m c)

/-- The value of its operation. -/
def w_call0_v0 (m : (ℓ : Loc nD τ sig) → Buf (Elt Ideal) ℓ) (c : Dev nD) : FVec Ideal S16384x2048 .f32 := ((Host.negf : FVec Ideal S16384x2048 .f32 → FVec Ideal S16384x2048 .f32) (w_v26 m c))

theorem r_call0_v0 : R m c main_call0_v0 = w_call0_v0 m c := read_unary hWL 33 rfl (by decide) (by decide) (r_v26 m c)

/-- The value of its operation. -/
def w_call0_v1 (m : (ℓ : Loc nD τ sig) → Buf (Elt Ideal) ℓ) (c : Dev nD) : FVec Ideal S16384x2048 .f32 := ((Host.exp : FVec Ideal S16384x2048 .f32 → FVec Ideal S16384x2048 .f32) (w_call0_v0 m c))

theorem r_call0_v1 : R m c main_call0_v1 = w_call0_v1 m c := read_unary hWL 34 rfl (by decide) (by decide) (r_call0_v0 m c)

/-- The value of its operation. -/
def w_call0_cst (m : (ℓ : Loc nD τ sig) → Buf (Elt Ideal) ℓ) (c : Dev nD) : FVec Ideal S_ .f32 := (constant S_ .f32 0x3F800000#32)

theorem r_call0_cst : R m c main_call0_cst = w_call0_cst m c := read_nullary hWL 35 rfl (by decide) _

/-- The value of its operation. -/
def w_call0_v2 (m : (ℓ : Loc nD τ sig) → Buf (Elt Ideal) ℓ) (c : Dev nD) : FVec Ideal S16384x2048 .f32 := (((broadcastInDim S16384x2048 ![] bcast_S_S16384x2048) : FVec Ideal S_ .f32 → FVec Ideal S16384x2048 .f32) (w_call0_cst m c))

theorem r_call0_v2 : R m c main_call0_v2 = w_call0_v2 m c := read_unary hWL 36 rfl (by decide) (by decide) (r_call0_cst m c)

/-- The value of its operation. -/
def w_call0_v3 (m : (ℓ : Loc nD τ sig) → Buf (Elt Ideal) ℓ) (c : Dev nD) : FVec Ideal S16384x2048 .f32 := ((addf : FVec Ideal S16384x2048 .f32 → FVec Ideal S16384x2048 .f32 → FVec Ideal S16384x2048 .f32) (w_call0_v2 m c) (w_call0_v1 m c))

theorem r_call0_v3 : R m c main_call0_v3 = w_call0_v3 m c := read_binary hWL 37 rfl (by decide) (by decide) (by decide) (r_call0_v2 m c) (r_call0_v1 m c)

/-- The value of its operation. -/
def w_call0_cst_0 (m : (ℓ : Loc nD τ sig) → Buf (Elt Ideal) ℓ) (c : Dev nD) : FVec Ideal S_ .f32 := (constant S_ .f32 0x3F800000#32)

theorem r_call0_cst_0 : R m c main_call0_cst_0 = w_call0_cst_0 m c := read_nullary hWL 38 rfl (by decide) _

/-- The value of its operation. -/
def w_call0_v4 (m : (ℓ : Loc nD τ sig) → Buf (Elt Ideal) ℓ) (c : Dev nD) : FVec Ideal S16384x2048 .f32 := (((broadcastInDim S16384x2048 ![] bcast_S_S16384x2048) : FVec Ideal S_ .f32 → FVec Ideal S16384x2048 .f32) (w_call0_cst_0 m c))

theorem r_call0_v4 : R m c main_call0_v4 = w_call0_v4 m c := read_unary hWL 39 rfl (by decide) (by decide) (r_call0_cst_0 m c)

/-- The value of its operation. -/
def w_v27_2 (m : (ℓ : Loc nD τ sig) → Buf (Elt Ideal) ℓ) (c : Dev nD) : FVec Ideal S16384x2048 .f32 := ((Host.divf : FVec Ideal S16384x2048 .f32 → FVec Ideal S16384x2048 .f32 → FVec Ideal S16384x2048 .f32) (w_call0_v4 m c) (w_call0_v3 m c))

theorem r_v27_2 : R m c main_v27_2 = w_v27_2 m c := read_binary hWL 40 rfl (by decide) (by decide) (by decide) (r_call0_v4 m c) (r_call0_v3 m c)

/-- The value of its operation. -/
def w_call0_cst_1 (m : (ℓ : Loc nD τ sig) → Buf (Elt Ideal) ℓ) (c : Dev nD) : FVec Ideal S_ .f32 := (constant S_ .f32 0x3F800000#32)

theorem r_call0_cst_1 : R m c main_call0_cst_1 = w_call0_cst_1 m c := read_nullary hWL 41 rfl (by decide) _

/-- The value of its operation. -/
def w_call0_v6 (m : (ℓ : Loc nD τ sig) → Buf (Elt Ideal) ℓ) (c : Dev nD) : FVec Ideal S16384x2048 .f32 := (((broadcastInDim S16384x2048 ![] bcast_S_S16384x2048) : FVec Ideal S_ .f32 → FVec Ideal S16384x2048 .f32) (w_call0_cst_1 m c))

theorem r_call0_v6 : R m c main_call0_v6 = w_call0_v6 m c := read_unary hWL 42 rfl (by decide) (by decide) (r_call0_cst_1 m c)

/-- The value of its operation. -/
def w_call0_v7 (m : (ℓ : Loc nD τ sig) → Buf (Elt Ideal) ℓ) (c : Dev nD) : FVec Ideal S16384x2048 .f32 := ((subf : FVec Ideal S16384x2048 .f32 → FVec Ideal S16384x2048 .f32 → FVec Ideal S16384x2048 .f32) (w_call0_v6 m c) (w_v27_2 m c))

theorem r_call0_v7 : R m c main_call0_v7 = w_call0_v7 m c := read_binary hWL 43 rfl (by decide) (by decide) (by decide) (r_call0_v6 m c) (r_v27_2 m c)

/-- The value of its operation. -/
def w_v27_1 (m : (ℓ : Loc nD τ sig) → Buf (Elt Ideal) ℓ) (c : Dev nD) : FVec Ideal S16384x2048 .f32 := ((mulf : FVec Ideal S16384x2048 .f32 → FVec Ideal S16384x2048 .f32 → FVec Ideal S16384x2048 .f32) (w_v27_2 m c) (w_call0_v7 m c))

theorem r_v27_1 : R m c main_v27_1 = w_v27_1 m c := read_binary hWL 44 rfl (by decide) (by decide) (by decide) (r_v27_2 m c) (r_call0_v7 m c)

/-- The value of its operation. -/
def w_v27_0 (m : (ℓ : Loc nD τ sig) → Buf (Elt Ideal) ℓ) (c : Dev nD) : FVec Ideal S16384x2048 .f32 := ((mulf : FVec Ideal S16384x2048 .f32 → FVec Ideal S16384x2048 .f32 → FVec Ideal S16384x2048 .f32) (w_v26 m c) (w_v27_2 m c))

theorem r_v27_0 : R m c main_v27_0 = w_v27_0 m c := read_binary hWL 45 rfl (by decide) (by decide) (by decide) (r_v26 m c) (r_v27_2 m c)

/-- The value of its operation. -/
def w_call1_v0 (m : (ℓ : Loc nD τ sig) → Buf (Elt Ideal) ℓ) (c : Dev nD) : FVec Ideal S16384x2048 .f32 := ((Host.negf : FVec Ideal S16384x2048 .f32 → FVec Ideal S16384x2048 .f32) (w_v3 m c))

theorem r_call1_v0 : R m c main_call1_v0 = w_call1_v0 m c := read_unary hWL 46 rfl (by decide) (by decide) (r_v3 m c)

/-- The value of its operation. -/
def w_call1_v1 (m : (ℓ : Loc nD τ sig) → Buf (Elt Ideal) ℓ) (c : Dev nD) : FVec Ideal S16384x2048 .f32 := ((Host.exp : FVec Ideal S16384x2048 .f32 → FVec Ideal S16384x2048 .f32) (w_call1_v0 m c))

theorem r_call1_v1 : R m c main_call1_v1 = w_call1_v1 m c := read_unary hWL 47 rfl (by decide) (by decide) (r_call1_v0 m c)

/-- The value of its operation. -/
def w_call1_cst (m : (ℓ : Loc nD τ sig) → Buf (Elt Ideal) ℓ) (c : Dev nD) : FVec Ideal S_ .f32 := (constant S_ .f32 0x3F800000#32)

theorem r_call1_cst : R m c main_call1_cst = w_call1_cst m c := read_nullary hWL 48 rfl (by decide) _

/-- The value of its operation. -/
def w_call1_v2 (m : (ℓ : Loc nD τ sig) → Buf (Elt Ideal) ℓ) (c : Dev nD) : FVec Ideal S16384x2048 .f32 := (((broadcastInDim S16384x2048 ![] bcast_S_S16384x2048) : FVec Ideal S_ .f32 → FVec Ideal S16384x2048 .f32) (w_call1_cst m c))

theorem r_call1_v2 : R m c main_call1_v2 = w_call1_v2 m c := read_unary hWL 49 rfl (by decide) (by decide) (r_call1_cst m c)

/-- The value of its operation. -/
def w_call1_v3 (m : (ℓ : Loc nD τ sig) → Buf (Elt Ideal) ℓ) (c : Dev nD) : FVec Ideal S16384x2048 .f32 := ((addf : FVec Ideal S16384x2048 .f32 → FVec Ideal S16384x2048 .f32 → FVec Ideal S16384x2048 .f32) (w_call1_v2 m c) (w_call1_v1 m c))

theorem r_call1_v3 : R m c main_call1_v3 = w_call1_v3 m c := read_binary hWL 50 rfl (by decide) (by decide) (by decide) (r_call1_v2 m c) (r_call1_v1 m c)

/-- The value of its operation. -/
def w_call1_cst_0 (m : (ℓ : Loc nD τ sig) → Buf (Elt Ideal) ℓ) (c : Dev nD) : FVec Ideal S_ .f32 := (constant S_ .f32 0x3F800000#32)

theorem r_call1_cst_0 : R m c main_call1_cst_0 = w_call1_cst_0 m c := read_nullary hWL 51 rfl (by decide) _

/-- The value of its operation. -/
def w_call1_v4 (m : (ℓ : Loc nD τ sig) → Buf (Elt Ideal) ℓ) (c : Dev nD) : FVec Ideal S16384x2048 .f32 := (((broadcastInDim S16384x2048 ![] bcast_S_S16384x2048) : FVec Ideal S_ .f32 → FVec Ideal S16384x2048 .f32) (w_call1_cst_0 m c))

theorem r_call1_v4 : R m c main_call1_v4 = w_call1_v4 m c := read_unary hWL 52 rfl (by decide) (by decide) (r_call1_cst_0 m c)

/-- The value of its operation. -/
def w_v28_2 (m : (ℓ : Loc nD τ sig) → Buf (Elt Ideal) ℓ) (c : Dev nD) : FVec Ideal S16384x2048 .f32 := ((Host.divf : FVec Ideal S16384x2048 .f32 → FVec Ideal S16384x2048 .f32 → FVec Ideal S16384x2048 .f32) (w_call1_v4 m c) (w_call1_v3 m c))

theorem r_v28_2 : R m c main_v28_2 = w_v28_2 m c := read_binary hWL 53 rfl (by decide) (by decide) (by decide) (r_call1_v4 m c) (r_call1_v3 m c)

/-- The value of its operation. -/
def w_call1_cst_1 (m : (ℓ : Loc nD τ sig) → Buf (Elt Ideal) ℓ) (c : Dev nD) : FVec Ideal S_ .f32 := (constant S_ .f32 0x3F800000#32)

theorem r_call1_cst_1 : R m c main_call1_cst_1 = w_call1_cst_1 m c := read_nullary hWL 54 rfl (by decide) _

/-- The value of its operation. -/
def w_call1_v6 (m : (ℓ : Loc nD τ sig) → Buf (Elt Ideal) ℓ) (c : Dev nD) : FVec Ideal S16384x2048 .f32 := (((broadcastInDim S16384x2048 ![] bcast_S_S16384x2048) : FVec Ideal S_ .f32 → FVec Ideal S16384x2048 .f32) (w_call1_cst_1 m c))

theorem r_call1_v6 : R m c main_call1_v6 = w_call1_v6 m c := read_unary hWL 55 rfl (by decide) (by decide) (r_call1_cst_1 m c)

/-- The value of its operation. -/
def w_call1_v7 (m : (ℓ : Loc nD τ sig) → Buf (Elt Ideal) ℓ) (c : Dev nD) : FVec Ideal S16384x2048 .f32 := ((subf : FVec Ideal S16384x2048 .f32 → FVec Ideal S16384x2048 .f32 → FVec Ideal S16384x2048 .f32) (w_call1_v6 m c) (w_v28_2 m c))

theorem r_call1_v7 : R m c main_call1_v7 = w_call1_v7 m c := read_binary hWL 56 rfl (by decide) (by decide) (by decide) (r_call1_v6 m c) (r_v28_2 m c)

/-- The value of its operation. -/
def w_v28_1 (m : (ℓ : Loc nD τ sig) → Buf (Elt Ideal) ℓ) (c : Dev nD) : FVec Ideal S16384x2048 .f32 := ((mulf : FVec Ideal S16384x2048 .f32 → FVec Ideal S16384x2048 .f32 → FVec Ideal S16384x2048 .f32) (w_v28_2 m c) (w_call1_v7 m c))

theorem r_v28_1 : R m c main_v28_1 = w_v28_1 m c := read_binary hWL 57 rfl (by decide) (by decide) (by decide) (r_v28_2 m c) (r_call1_v7 m c)

/-- The value of its operation. -/
def w_v28_0 (m : (ℓ : Loc nD τ sig) → Buf (Elt Ideal) ℓ) (c : Dev nD) : FVec Ideal S16384x2048 .f32 := ((mulf : FVec Ideal S16384x2048 .f32 → FVec Ideal S16384x2048 .f32 → FVec Ideal S16384x2048 .f32) (w_v3 m c) (w_v28_2 m c))

theorem r_v28_0 : R m c main_v28_0 = w_v28_0 m c := read_binary hWL 58 rfl (by decide) (by decide) (by decide) (r_v3 m c) (r_v28_2 m c)

/-- The value of its operation. -/
def w_v29 (m : (ℓ : Loc nD τ sig) → Buf (Elt Ideal) ℓ) (c : Dev nD) : FVec Ideal S16384x2048 .f32 := (((mulf) : FVec Ideal S16384x2048 .f32 → FVec Ideal S16384x2048 .f32 → FVec Ideal S16384x2048 .f32) (w_v27_0 m c) (w_v28_0 m c))

theorem r_v29 : R m c main_v29 = w_v29 m c := read_binary hWL 59 rfl (by decide) (by decide) (by decide) (r_v27_0 m c) (r_v28_0 m c)

/-- The value of its operation. -/
def w_v30 (m : (ℓ : Loc nD τ sig) → Buf (Elt Ideal) ℓ) (c : Dev nD) : FVec Ideal S16384x1024 .f32 := (((fun l r => Host.dotGeneral dot_S16384x2048_S2048x1024_S16384x1024_1_0_0_1_n_n none l r) : FVec Ideal S16384x2048 .f32 → FVec Ideal S2048x1024 .f32 → FVec Ideal S16384x1024 .f32) (w_v29 m c) (w_v1 m c))

theorem r_v30 : R m c main_v30 = w_v30 m c := read_binary hWL 60 rfl (by decide) (by decide) (by decide) (r_v29 m c) (r_v1 m c)

/-- The value of its operation. -/
def w_v31 (m : (ℓ : Loc nD τ sig) → Buf (Elt Ideal) ℓ) (c : Dev nD) : FVec Ideal S1024x2048 .f32 := (((fun l r => Host.dotGeneral dot_S16384x1024_S16384x2048_S1024x2048_0_0_1_1_n_n none l r) : FVec Ideal S16384x1024 .f32 → FVec Ideal S16384x2048 .f32 → FVec Ideal S1024x2048 .f32) (w_arg0 m c) (w_v29 m c))

theorem r_v31 : R m c main_v31 = w_v31 m c := read_binary hWL 61 rfl (by decide) (by decide) (by decide) (r_arg0 m c) (r_v29 m c)

/-- The value of its operation. -/
def w_v32 (m : (ℓ : Loc nD τ sig) → Buf (Elt Ideal) ℓ) (c : Dev nD) : FVec Ideal S2048x1024 .f32 := (((transpose S2048x1024 [1, 0] · transposes_S1024x2048_S2048x1024_1_0) : FVec Ideal S1024x2048 .f32 → FVec Ideal S2048x1024 .f32) (w_v31 m c))

theorem r_v32 : R m c main_v32 = w_v32 m c := read_unary hWL 62 rfl (by decide) (by decide) (r_v31 m c)

/-- The value of its operation. -/
def w_v33 (m : (ℓ : Loc nD τ sig) → Buf (Elt Ideal) ℓ) (c : Dev nD) : FVec Ideal S16384x2048 .f32 := (((fun l r => Host.dotGeneral dot_S16384x1024_S2048x1024_S16384x2048_1_1_0_0_n_n none l r) : FVec Ideal S16384x1024 .f32 → FVec Ideal S2048x1024 .f32 → FVec Ideal S16384x2048 .f32) (w_arg0 m c) (w_v1 m c))

theorem r_v33 : R m c main_v33 = w_v33 m c := read_binary hWL 63 rfl (by decide) (by decide) (by decide) (r_arg0 m c) (r_v1 m c)

/-- The value of its operation. -/
def w_v34 (m : (ℓ : Loc nD τ sig) → Buf (Elt Ideal) ℓ) (c : Dev nD) : FVec Ideal S16384x2048 .f32 := (((mulf) : FVec Ideal S16384x2048 .f32 → FVec Ideal S16384x2048 .f32 → FVec Ideal S16384x2048 .f32) (w_v27_0 m c) (w_v33 m c))

theorem r_v34 : R m c main_v34 = w_v34 m c := read_binary hWL 64 rfl (by decide) (by decide) (by decide) (r_v27_0 m c) (r_v33 m c)

/-- The value of its operation. -/
def w_v35 (m : (ℓ : Loc nD τ sig) → Buf (Elt Ideal) ℓ) (c : Dev nD) : FVec Ideal S16384x2048 .f32 := (((mulf) : FVec Ideal S16384x2048 .f32 → FVec Ideal S16384x2048 .f32 → FVec Ideal S16384x2048 .f32) (w_v33 m c) (w_v28_0 m c))

theorem r_v35 : R m c main_v35 = w_v35 m c := read_binary hWL 65 rfl (by decide) (by decide) (by decide) (r_v33 m c) (r_v28_0 m c)

/-- The value of its operation. -/
def w_call2_v0 (m : (ℓ : Loc nD τ sig) → Buf (Elt Ideal) ℓ) (c : Dev nD) : FVec Ideal S16384x2048 .f32 := ((mulf : FVec Ideal S16384x2048 .f32 → FVec Ideal S16384x2048 .f32 → FVec Ideal S16384x2048 .f32) (w_v3 m c) (w_v34 m c))

theorem r_call2_v0 : R m c main_call2_v0 = w_call2_v0 m c := read_binary hWL 66 rfl (by decide) (by decide) (by decide) (r_v3 m c) (r_v34 m c)

/-- The value of its operation. -/
def w_call2_v1 (m : (ℓ : Loc nD τ sig) → Buf (Elt Ideal) ℓ) (c : Dev nD) : FVec Ideal S16384x2048 .f32 := ((mulf : FVec Ideal S16384x2048 .f32 → FVec Ideal S16384x2048 .f32 → FVec Ideal S16384x2048 .f32) (w_v34 m c) (w_v28_2 m c))

theorem r_call2_v1 : R m c main_call2_v1 = w_call2_v1 m c := read_binary hWL 67 rfl (by decide) (by decide) (by decide) (r_v34 m c) (r_v28_2 m c)

/-- The value of its operation. -/
def w_call2_v2 (m : (ℓ : Loc nD τ sig) → Buf (Elt Ideal) ℓ) (c : Dev nD) : FVec Ideal S16384x2048 .f32 := ((mulf : FVec Ideal S16384x2048 .f32 → FVec Ideal S16384x2048 .f32 → FVec Ideal S16384x2048 .f32) (w_call2_v0 m c) (w_v28_1 m c))

theorem r_call2_v2 : R m c main_call2_v2 = w_call2_v2 m c := read_binary hWL 68 rfl (by decide) (by decide) (by decide) (r_call2_v0 m c) (r_v28_1 m c)

/-- The value of its operation. -/
def w_v36 (m : (ℓ : Loc nD τ sig) → Buf (Elt Ideal) ℓ) (c : Dev nD) : FVec Ideal S16384x2048 .f32 := ((addf : FVec Ideal S16384x2048 .f32 → FVec Ideal S16384x2048 .f32 → FVec Ideal S16384x2048 .f32) (w_call2_v1 m c) (w_call2_v2 m c))

theorem r_v36 : R m c main_v36 = w_v36 m c := read_binary hWL 69 rfl (by decide) (by decide) (by decide) (r_call2_v1 m c) (r_call2_v2 m c)

/-- The value of its operation. -/
def w_call3_v0 (m : (ℓ : Loc nD τ sig) → Buf (Elt Ideal) ℓ) (c : Dev nD) : FVec Ideal S16384x2048 .f32 := ((mulf : FVec Ideal S16384x2048 .f32 → FVec Ideal S16384x2048 .f32 → FVec Ideal S16384x2048 .f32) (w_v26 m c) (w_v35 m c))

theorem r_call3_v0 : R m c main_call3_v0 = w_call3_v0 m c := read_binary hWL 70 rfl (by decide) (by decide) (by decide) (r_v26 m c) (r_v35 m c)

/-- The value of its operation. -/
def w_call3_v1 (m : (ℓ : Loc nD τ sig) → Buf (Elt Ideal) ℓ) (c : Dev nD) : FVec Ideal S16384x2048 .f32 := ((mulf : FVec Ideal S16384x2048 .f32 → FVec Ideal S16384x2048 .f32 → FVec Ideal S16384x2048 .f32) (w_v35 m c) (w_v27_2 m c))

theorem r_call3_v1 : R m c main_call3_v1 = w_call3_v1 m c := read_binary hWL 71 rfl (by decide) (by decide) (by decide) (r_v35 m c) (r_v27_2 m c)

/-- The value of its operation. -/
def w_call3_v2 (m : (ℓ : Loc nD τ sig) → Buf (Elt Ideal) ℓ) (c : Dev nD) : FVec Ideal S16384x2048 .f32 := ((mulf : FVec Ideal S16384x2048 .f32 → FVec Ideal S16384x2048 .f32 → FVec Ideal S16384x2048 .f32) (w_call3_v0 m c) (w_v27_1 m c))

theorem r_call3_v2 : R m c main_call3_v2 = w_call3_v2 m c := read_binary hWL 72 rfl (by decide) (by decide) (by decide) (r_call3_v0 m c) (r_v27_1 m c)

/-- The value of its operation. -/
def w_v37 (m : (ℓ : Loc nD τ sig) → Buf (Elt Ideal) ℓ) (c : Dev nD) : FVec Ideal S16384x2048 .f32 := ((addf : FVec Ideal S16384x2048 .f32 → FVec Ideal S16384x2048 .f32 → FVec Ideal S16384x2048 .f32) (w_call3_v1 m c) (w_call3_v2 m c))

theorem r_v37 : R m c main_v37 = w_v37 m c := read_binary hWL 73 rfl (by decide) (by decide) (by decide) (r_call3_v1 m c) (r_call3_v2 m c)

/-- The value of its operation. -/
def w_cst_5 (m : (ℓ : Loc nD τ sig) → Buf (Elt Ideal) ℓ) (c : Dev nD) : FVec Ideal S_ .f32 := (constant S_ .f32 0x00000000#32)

theorem r_cst_5 : R m c main_cst_5 = w_cst_5 m c := read_nullary hWL 74 rfl (by decide) _

/-- The value of its operation. -/
def w_v38 (m : (ℓ : Loc nD τ sig) → Buf (Elt Ideal) ℓ) (c : Dev nD) : FVec Ideal S2048 .f32 := (((fun x v => Host.reduceAdd x v reducesTo_S16384x2048_S2048_d0 h_S_) : FVec Ideal S16384x2048 .f32 → FVec Ideal S_ .f32 → FVec Ideal S2048 .f32) (w_v37 m c) (w_cst_5 m c))

theorem r_v38 : R m c main_v38 = w_v38 m c := read_binary hWL 75 rfl (by decide) (by decide) (by decide) (r_v37 m c) (r_cst_5 m c)

/-- The value of its operation. -/
def w_v39 (m : (ℓ : Loc nD τ sig) → Buf (Elt Ideal) ℓ) (c : Dev nD) : FVec Ideal S1x2048 .f32 := (((shapeCast S1x2048 · shapeCasts_S2048_S1x2048) : FVec Ideal S2048 .f32 → FVec Ideal S1x2048 .f32) (w_v38 m c))

theorem r_v39 : R m c main_v39 = w_v39 m c := read_unary hWL 76 rfl (by decide) (by decide) (r_v38 m c)

/-- The value of its operation. -/
def w_v40 (m : (ℓ : Loc nD τ sig) → Buf (Elt Ideal) ℓ) (c : Dev nD) : FVec Ideal S16384x2048 .f32 := (((mulf) : FVec Ideal S16384x2048 .f32 → FVec Ideal S16384x2048 .f32 → FVec Ideal S16384x2048 .f32) (w_v22 m c) (w_v37 m c))

theorem r_v40 : R m c main_v40 = w_v40 m c := read_binary hWL 77 rfl (by decide) (by decide) (by decide) (r_v22 m c) (r_v37 m c)

/-- The value of its operation. -/
def w_cst_6 (m : (ℓ : Loc nD τ sig) → Buf (Elt Ideal) ℓ) (c : Dev nD) : FVec Ideal S_ .f32 := (constant S_ .f32 0x00000000#32)

theorem r_cst_6 : R m c main_cst_6 = w_cst_6 m c := read_nullary hWL 78 rfl (by decide) _

/-- The value of its operation. -/
def w_v41 (m : (ℓ : Loc nD τ sig) → Buf (Elt Ideal) ℓ) (c : Dev nD) : FVec Ideal S2048 .f32 := (((fun x v => Host.reduceAdd x v reducesTo_S16384x2048_S2048_d0 h_S_) : FVec Ideal S16384x2048 .f32 → FVec Ideal S_ .f32 → FVec Ideal S2048 .f32) (w_v40 m c) (w_cst_6 m c))

theorem r_v41 : R m c main_v41 = w_v41 m c := read_binary hWL 79 rfl (by decide) (by decide) (by decide) (r_v40 m c) (r_cst_6 m c)

/-- The value of its operation. -/
def w_v42 (m : (ℓ : Loc nD τ sig) → Buf (Elt Ideal) ℓ) (c : Dev nD) : FVec Ideal S1x2048 .f32 := (((shapeCast S1x2048 · shapeCasts_S2048_S1x2048) : FVec Ideal S2048 .f32 → FVec Ideal S1x2048 .f32) (w_v41 m c))

theorem r_v42 : R m c main_v42 = w_v42 m c := read_unary hWL 80 rfl (by decide) (by decide) (r_v41 m c)

/-- The value of its operation. -/
def w_v43 (m : (ℓ : Loc nD τ sig) → Buf (Elt Ideal) ℓ) (c : Dev nD) : FVec Ideal S16384x2048 .f32 := (((broadcastInDim S16384x2048 ![0, 1] bcast_S1x2048_S16384x2048_0_1) : FVec Ideal S1x2048 .f32 → FVec Ideal S16384x2048 .f32) (w_arg3 m c))

theorem r_v43 : R m c main_v43 = w_v43 m c := read_unary hWL 81 rfl (by decide) (by decide) (r_arg3 m c)

/-- The value of its operation. -/
def w_v44 (m : (ℓ : Loc nD τ sig) → Buf (Elt Ideal) ℓ) (c : Dev nD) : FVec Ideal S16384x2048 .f32 := (((mulf) : FVec Ideal S16384x2048 .f32 → FVec Ideal S16384x2048 .f32 → FVec Ideal S16384x2048 .f32) (w_v37 m c) (w_v43 m c))

theorem r_v44 : R m c main_v44 = w_v44 m c := read_binary hWL 82 rfl (by decide) (by decide) (by decide) (r_v37 m c) (r_v43 m c)

/-- The value of its operation. -/
def w_v45 (m : (ℓ : Loc nD τ sig) → Buf (Elt Ideal) ℓ) (c : Dev nD) : FVec Ideal S16384x2048 .f32 := (((mulf) : FVec Ideal S16384x2048 .f32 → FVec Ideal S16384x2048 .f32 → FVec Ideal S16384x2048 .f32) (w_v9 m c) (w_v44 m c))

theorem r_v45 : R m c main_v45 = w_v45 m c := read_binary hWL 83 rfl (by decide) (by decide) (by decide) (r_v9 m c) (r_v44 m c)

/-- The value of its operation. -/
def w_cst_7 (m : (ℓ : Loc nD τ sig) → Buf (Elt Ideal) ℓ) (c : Dev nD) : FVec Ideal S_ .f32 := (constant S_ .f32 0x00000000#32)

theorem r_cst_7 : R m c main_cst_7 = w_cst_7 m c := read_nullary hWL 84 rfl (by decide) _

/-- The value of its operation. -/
def w_v46 (m : (ℓ : Loc nD τ sig) → Buf (Elt Ideal) ℓ) (c : Dev nD) : FVec Ideal S16384 .f32 := (((fun x v => Host.reduceAdd x v reducesTo_S16384x2048_S16384_d1 h_S_) : FVec Ideal S16384x2048 .f32 → FVec Ideal S_ .f32 → FVec Ideal S16384 .f32) (w_v45 m c) (w_cst_7 m c))

theorem r_v46 : R m c main_v46 = w_v46 m c := read_binary hWL 85 rfl (by decide) (by decide) (by decide) (r_v45 m c) (r_cst_7 m c)

/-- The value of its operation. -/
def w_v47 (m : (ℓ : Loc nD τ sig) → Buf (Elt Ideal) ℓ) (c : Dev nD) : FVec Ideal S16384x1 .f32 := (((shapeCast S16384x1 · shapeCasts_S16384_S16384x1) : FVec Ideal S16384 .f32 → FVec Ideal S16384x1 .f32) (w_v46 m c))

theorem r_v47 : R m c main_v47 = w_v47 m c := read_unary hWL 86 rfl (by decide) (by decide) (r_v46 m c)

/-- The value of its operation. -/
def w_v48 (m : (ℓ : Loc nD τ sig) → Buf (Elt Ideal) ℓ) (c : Dev nD) : FVec Ideal S16384x2048 .f32 := (((broadcastInDim S16384x2048 ![0, 1] bcast_S16384x1_S16384x2048_0_1) : FVec Ideal S16384x1 .f32 → FVec Ideal S16384x2048 .f32) (w_v17 m c))

theorem r_v48 : R m c main_v48 = w_v48 m c := read_unary hWL 87 rfl (by decide) (by decide) (r_v17 m c)

/-- The value of its operation. -/
def w_v49 (m : (ℓ : Loc nD τ sig) → Buf (Elt Ideal) ℓ) (c : Dev nD) : FVec Ideal S16384x2048 .f32 := (((mulf) : FVec Ideal S16384x2048 .f32 → FVec Ideal S16384x2048 .f32 → FVec Ideal S16384x2048 .f32) (w_v44 m c) (w_v48 m c))

theorem r_v49 : R m c main_v49 = w_v49 m c := read_binary hWL 88 rfl (by decide) (by decide) (by decide) (r_v44 m c) (r_v48 m c)

/-- The value of its operation. -/
def w_v50 (m : (ℓ : Loc nD τ sig) → Buf (Elt Ideal) ℓ) (c : Dev nD) : FVec Ideal S16384x1 .f32 := (((mulf) : FVec Ideal S16384x1 .f32 → FVec Ideal S16384x1 .f32 → FVec Ideal S16384x1 .f32) (w_v47 m c) (w_v20 m c))

theorem r_v50 : R m c main_v50 = w_v50 m c := read_binary hWL 89 rfl (by decide) (by decide) (by decide) (r_v47 m c) (r_v20 m c)

/-- The value of its operation. -/
def w_cst_8 (m : (ℓ : Loc nD τ sig) → Buf (Elt Ideal) ℓ) (c : Dev nD) : FVec Ideal S_ .f32 := (constant S_ .f32 0x45000000#32)

theorem r_cst_8 : R m c main_cst_8 = w_cst_8 m c := read_nullary hWL 90 rfl (by decide) _

/-- The value of its operation. -/
def w_v51 (m : (ℓ : Loc nD τ sig) → Buf (Elt Ideal) ℓ) (c : Dev nD) : FVec Ideal S16384x1 .f32 := (((broadcastInDim S16384x1 ![] bcast_S_S16384x1) : FVec Ideal S_ .f32 → FVec Ideal S16384x1 .f32) (w_cst_8 m c))

theorem r_v51 : R m c main_v51 = w_v51 m c := read_unary hWL 91 rfl (by decide) (by decide) (r_cst_8 m c)

/-- The value of its operation. -/
def w_v52 (m : (ℓ : Loc nD τ sig) → Buf (Elt Ideal) ℓ) (c : Dev nD) : FVec Ideal S16384x1 .f32 := (((Host.divf) : FVec Ideal S16384x1 .f32 → FVec Ideal S16384x1 .f32 → FVec Ideal S16384x1 .f32) (w_v50 m c) (w_v51 m c))

theorem r_v52 : R m c main_v52 = w_v52 m c := read_binary hWL 92 rfl (by decide) (by decide) (by decide) (r_v50 m c) (r_v51 m c)

/-- The value of its operation. -/
def w_cst_9 (m : (ℓ : Loc nD τ sig) → Buf (Elt Ideal) ℓ) (c : Dev nD) : FVec Ideal S_ .f32 := (constant S_ .f32 0x00000000#32)

theorem r_cst_9 : R m c main_cst_9 = w_cst_9 m c := read_nullary hWL 93 rfl (by decide) _

/-- The value of its operation. -/
def w_v53 (m : (ℓ : Loc nD τ sig) → Buf (Elt Ideal) ℓ) (c : Dev nD) : FVec Ideal S16384 .f32 := (((fun x v => Host.reduceAdd x v reducesTo_S16384x1_S16384_d1 h_S_) : FVec Ideal S16384x1 .f32 → FVec Ideal S_ .f32 → FVec Ideal S16384 .f32) (w_v52 m c) (w_cst_9 m c))

theorem r_v53 : R m c main_v53 = w_v53 m c := read_binary hWL 94 rfl (by decide) (by decide) (by decide) (r_v52 m c) (r_cst_9 m c)

/-- The value of its operation. -/
def w_v54 (m : (ℓ : Loc nD τ sig) → Buf (Elt Ideal) ℓ) (c : Dev nD) : FVec Ideal S16384x2048 .f32 := (((broadcastInDim S16384x2048 ![0] bcast_S16384_S16384x2048_0) : FVec Ideal S16384 .f32 → FVec Ideal S16384x2048 .f32) (w_v53 m c))

theorem r_v54 : R m c main_v54 = w_v54 m c := read_unary hWL 95 rfl (by decide) (by decide) (r_v53 m c)

/-- The value of its operation. -/
def w_v55 (m : (ℓ : Loc nD τ sig) → Buf (Elt Ideal) ℓ) (c : Dev nD) : FVec Ideal S16384x2048 .f32 := (((mulf) : FVec Ideal S16384x2048 .f32 → FVec Ideal S16384x2048 .f32 → FVec Ideal S16384x2048 .f32) (w_v9 m c) (w_v54 m c))

theorem r_v55 : R m c main_v55 = w_v55 m c := read_binary hWL 96 rfl (by decide) (by decide) (by decide) (r_v9 m c) (r_v54 m c)

/-- The value of its operation. -/
def w_v56 (m : (ℓ : Loc nD τ sig) → Buf (Elt Ideal) ℓ) (c : Dev nD) : FVec Ideal S16384x2048 .f32 := (((addf) : FVec Ideal S16384x2048 .f32 → FVec Ideal S16384x2048 .f32 → FVec Ideal S16384x2048 .f32) (w_v49 m c) (w_v55 m c))

theorem r_v56 : R m c main_v56 = w_v56 m c := read_binary hWL 97 rfl (by decide) (by decide) (by decide) (r_v49 m c) (r_v55 m c)

/-- The value of its operation. -/
def w_v57 (m : (ℓ : Loc nD τ sig) → Buf (Elt Ideal) ℓ) (c : Dev nD) : FVec Ideal S16384x2048 .f32 := (((mulf) : FVec Ideal S16384x2048 .f32 → FVec Ideal S16384x2048 .f32 → FVec Ideal S16384x2048 .f32) (w_v54 m c) (w_v9 m c))

theorem r_v57 : R m c main_v57 = w_v57 m c := read_binary hWL 98 rfl (by decide) (by decide) (by decide) (r_v54 m c) (r_v9 m c)

/-- The value of its operation. -/
def w_v58 (m : (ℓ : Loc nD τ sig) → Buf (Elt Ideal) ℓ) (c : Dev nD) : FVec Ideal S16384x2048 .f32 := (((addf) : FVec Ideal S16384x2048 .f32 → FVec Ideal S16384x2048 .f32 → FVec Ideal S16384x2048 .f32) (w_v56 m c) (w_v57 m c))

theorem r_v58 : R m c main_v58 = w_v58 m c := read_binary hWL 99 rfl (by decide) (by decide) (by decide) (r_v56 m c) (r_v57 m c)

/-- The value of its operation. -/
def w_v59 (m : (ℓ : Loc nD τ sig) → Buf (Elt Ideal) ℓ) (c : Dev nD) : FVec Ideal S16384x2048 .f32 := (((Host.negf) : FVec Ideal S16384x2048 .f32 → FVec Ideal S16384x2048 .f32) (w_v58 m c))

theorem r_v59 : R m c main_v59 = w_v59 m c := read_unary hWL 100 rfl (by decide) (by decide) (r_v58 m c)

/-- The value of its operation. -/
def w_cst_10 (m : (ℓ : Loc nD τ sig) → Buf (Elt Ideal) ℓ) (c : Dev nD) : FVec Ideal S_ .f32 := (constant S_ .f32 0x00000000#32)

theorem r_cst_10 : R m c main_cst_10 = w_cst_10 m c := read_nullary hWL 101 rfl (by decide) _

/-- The value of its operation. -/
def w_v60 (m : (ℓ : Loc nD τ sig) → Buf (Elt Ideal) ℓ) (c : Dev nD) : FVec Ideal S16384 .f32 := (((fun x v => Host.reduceAdd x v reducesTo_S16384x2048_S16384_d1 h_S_) : FVec Ideal S16384x2048 .f32 → FVec Ideal S_ .f32 → FVec Ideal S16384 .f32) (w_v59 m c) (w_cst_10 m c))

theorem r_v60 : R m c main_v60 = w_v60 m c := read_binary hWL 102 rfl (by decide) (by decide) (by decide) (r_v59 m c) (r_cst_10 m c)

/-- The value of its operation. -/
def w_v61 (m : (ℓ : Loc nD τ sig) → Buf (Elt Ideal) ℓ) (c : Dev nD) : FVec Ideal S16384x1 .f32 := (((shapeCast S16384x1 · shapeCasts_S16384_S16384x1) : FVec Ideal S16384 .f32 → FVec Ideal S16384x1 .f32) (w_v60 m c))

theorem r_v61 : R m c main_v61 = w_v61 m c := read_unary hWL 103 rfl (by decide) (by decide) (r_v60 m c)

/-- The value of its operation. -/
def w_cst_11 (m : (ℓ : Loc nD τ sig) → Buf (Elt Ideal) ℓ) (c : Dev nD) : FVec Ideal S_ .f32 := (constant S_ .f32 0x45000000#32)

theorem r_cst_11 : R m c main_cst_11 = w_cst_11 m c := read_nullary hWL 104 rfl (by decide) _

/-- The value of its operation. -/
def w_v62 (m : (ℓ : Loc nD τ sig) → Buf (Elt Ideal) ℓ) (c : Dev nD) : FVec Ideal S16384x1 .f32 := (((broadcastInDim S16384x1 ![] bcast_S_S16384x1) : FVec Ideal S_ .f32 → FVec Ideal S16384x1 .f32) (w_cst_11 m c))

theorem r_v62 : R m c main_v62 = w_v62 m c := read_unary hWL 105 rfl (by decide) (by decide) (r_cst_11 m c)

/-- The value of its operation. -/
def w_v63 (m : (ℓ : Loc nD τ sig) → Buf (Elt Ideal) ℓ) (c : Dev nD) : FVec Ideal S16384x1 .f32 := (((Host.divf) : FVec Ideal S16384x1 .f32 → FVec Ideal S16384x1 .f32 → FVec Ideal S16384x1 .f32) (w_v61 m c) (w_v62 m c))

theorem r_v63 : R m c main_v63 = w_v63 m c := read_binary hWL 106 rfl (by decide) (by decide) (by decide) (r_v61 m c) (r_v62 m c)

/-- The value of its operation. -/
def w_cst_12 (m : (ℓ : Loc nD τ sig) → Buf (Elt Ideal) ℓ) (c : Dev nD) : FVec Ideal S_ .f32 := (constant S_ .f32 0x00000000#32)

theorem r_cst_12 : R m c main_cst_12 = w_cst_12 m c := read_nullary hWL 107 rfl (by decide) _

/-- The value of its operation. -/
def w_v64 (m : (ℓ : Loc nD τ sig) → Buf (Elt Ideal) ℓ) (c : Dev nD) : FVec Ideal S16384 .f32 := (((fun x v => Host.reduceAdd x v reducesTo_S16384x1_S16384_d1 h_S_) : FVec Ideal S16384x1 .f32 → FVec Ideal S_ .f32 → FVec Ideal S16384 .f32) (w_v63 m c) (w_cst_12 m c))

theorem r_v64 : R m c main_v64 = w_v64 m c := read_binary hWL 108 rfl (by decide) (by decide) (by decide) (r_v63 m c) (r_cst_12 m c)

/-- The value of its operation. -/
def w_v65 (m : (ℓ : Loc nD τ sig) → Buf (Elt Ideal) ℓ) (c : Dev nD) : FVec Ideal S16384x2048 .f32 := (((broadcastInDim S16384x2048 ![0] bcast_S16384_S16384x2048_0) : FVec Ideal S16384 .f32 → FVec Ideal S16384x2048 .f32) (w_v64 m c))

theorem r_v65 : R m c main_v65 = w_v65 m c := read_unary hWL 109 rfl (by decide) (by decide) (r_v64 m c)

/-- The value of its operation. -/
def w_v66 (m : (ℓ : Loc nD τ sig) → Buf (Elt Ideal) ℓ) (c : Dev nD) : FVec Ideal S16384x2048 .f32 := (((addf) : FVec Ideal S16384x2048 .f32 → FVec Ideal S16384x2048 .f32 → FVec Ideal S16384x2048 .f32) (w_v58 m c) (w_v65 m c))

theorem r_v66 : R m c main_v66 = w_v66 m c := read_binary hWL 110 rfl (by decide) (by decide) (by decide) (r_v58 m c) (r_v65 m c)

/-- The value of its operation. -/
def w_v67 (m : (ℓ : Loc nD τ sig) → Buf (Elt Ideal) ℓ) (c : Dev nD) : FVec Ideal S16384x2048 .bf16 := (((truncf .bf16 · bitsLt_bf16_f32) : FVec Ideal S16384x2048 .f32 → FVec Ideal S16384x2048 .bf16) (w_v66 m c))

theorem r_v67 : R m c main_v67 = w_v67 m c := read_unary hWL 111 rfl (by decide) (by decide) (r_v66 m c)

/-- The value of its operation. -/
def w_v68 (m : (ℓ : Loc nD τ sig) → Buf (Elt Ideal) ℓ) (c : Dev nD) : FVec Ideal S16384x2048 .bf16 := (((truncf .bf16 · bitsLt_bf16_f32) : FVec Ideal S16384x2048 .f32 → FVec Ideal S16384x2048 .bf16) (w_v36 m c))

theorem r_v68 : R m c main_v68 = w_v68 m c := read_unary hWL 112 rfl (by decide) (by decide) (r_v36 m c)

theorem run (ρ : Dev nD → PrngReg) :
    θ_run defs (onTc (τ := τ) (main (F := Ideal))) ⟨m, fun _ => 0, ρ⟩ fun r => ∀ c : Dev nD,
      r.2.mem ((c.tc : Thread nD τ).loc main_v32) = w_v32 m c
      ∧ r.2.mem ((c.tc : Thread nD τ).loc main_v67) = w_v67 m c
      ∧ r.2.mem ((c.tc : Thread nD τ).loc main_v68) = w_v68 m c
      ∧ r.2.mem ((c.tc : Thread nD τ).loc main_v42) = w_v42 m c
      ∧ r.2.mem ((c.tc : Thread nD τ).loc main_v39) = w_v39 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v32).trans (r_v32 m c), (h c main_v67).trans (r_v67 m c), (h c main_v68).trans (r_v68 m c), (h c main_v42).trans (r_v42 m c), (h c main_v39).trans (r_v39 m c), (h c main_arg0).trans (r_arg0 m c), (h c main_arg1).trans (r_arg1 m c), (h c main_arg2).trans (r_arg2 m c), (h c main_arg3).trans (r_arg3 m c), (h c main_arg4).trans (r_arg4 m c), (h c main_arg5).trans (r_arg5 m c)⟩)
    (run_seq scopedRefs_eq scopedSems_eq defs main (fun _ => ops) main_eq (fun _ => ops_sub) m ρ)

end Cert.ConfOutRefIdeal.Hand

end
-- ==== Proof.Gate.lean ====
module

public import proofs.«01_k».proof.Proof.Common
public import Idealize.ShloMosaic.Lib.ReduceAll

@[expose] public section

noncomputable section

/-! The logistic gate, the layer normalization and its gradient over the reals, and the reading of a finite array. -/

namespace Cert.Common

open Idealize.ShloMosaic

section Finite

theorem ctop : Ideal.ofBits .f32 2139095040#32 = (⊤ : EReal) := by
  simp [Ideal.ofBits, Ideal.ieee]

theorem cone : Ideal.ofBits .f32 1065353216#32 = ((1 : ℝ) : EReal) := by
  simp [Ideal.ofBits, Ideal.ieee]; rw [← EReal.coe_mul]; norm_num

/-- A value whose absolute value is below infinity is a real number. -/
theorem real_of_lt (x : EReal) (h : Ideal.cmp .olt (max x (-x)) ⊤ = 1#1) : ∃ r : ℝ, x = (r : EReal) := by
  have h' : max x (-x) < ⊤ := by
    by_contra hn
    simp [Ideal.cmp, hn] at h
  refine coe_of_ne ?_ ?_
  · rintro rfl; simp at h'
  · rintro rfl; simp at h'

theorem andi_one {a b : BitVec 1} (h : IntOp.andi a b = 1#1) : a = 1#1 ∧ b = 1#1 := IntOp.andi_eq_one.1 h

end Finite

section Gate

/-- The logistic function. -/
def sg (x : ℝ) : ℝ := 1 / (1 + Real.exp (-x))

/-- The gate. -/
def sl (x : ℝ) : ℝ := x * sg x

/-- The derivative of the gate. -/
def ds (x : ℝ) : ℝ := sg x * (1 + x * (1 - sg x))

theorem sg_coe (x : ℝ) : Ideal.div ((1 : ℝ) : EReal) (((1 : ℝ) : EReal) + Ideal.exp (((-x : ℝ)) : EReal)) = ((sg x : ℝ) : EReal) := by
  rw [exp_coe, ← EReal.coe_add, div_coe_coe _ (by positivity)]
  rfl

theorem sg_coe' (x : ℝ) : Ideal.div 1 (1 + Ideal.exp (((-x : ℝ)) : EReal)) = ((sg x : ℝ) : EReal) := sg_coe x

theorem ds_coe (x : ℝ) : ((sg x : ℝ) : EReal) * (1 + (x : EReal) * (1 + -((sg x : ℝ) : EReal))) = ((ds x : ℝ) : EReal) := by
  have h : (1 : EReal) = ((1 : ℝ) : EReal) := rfl
  rw [h, ← EReal.coe_neg, ← EReal.coe_add, ← EReal.coe_mul, ← EReal.coe_add, ← EReal.coe_mul]
  unfold ds
  rw [sub_eq_add_neg]

theorem sgsub_coe (x : ℝ) : ((sg x : ℝ) : EReal) * (1 + -((sg x : ℝ) : EReal)) = ((sg x * (1 - sg x) : ℝ) : EReal) := by
  have h : (1 : EReal) = ((1 : ℝ) : EReal) := rfl
  rw [h, ← EReal.coe_neg, ← EReal.coe_add, ← EReal.coe_mul, sub_eq_add_neg]

theorem sl_grad (ct x : ℝ) : ct * sg x + x * ct * (sg x * (1 - sg x)) = ct * ds x := by
  unfold ds; ring

end Gate

section Norm

variable (u : Fin 2048 → ℝ)

/-- The mean of a row. -/
def mean (f : Fin 2048 → ℝ) : ℝ := (∑ k, f k) / 2048

/-- The row less its mean. -/
def cx (k : Fin 2048) : ℝ := u k - mean u

/-- The variance of a row and the epsilon. -/
def vr : ℝ := mean (fun k => cx u k * cx u k) + eps

/-- The scale of a row. -/
def rr : ℝ := (Real.sqrt (vr u))⁻¹

/-- The normalized row. -/
def un (k : Fin 2048) : ℝ := cx u k * rr u

theorem vr_pos : 0 < vr u := by
  unfold vr mean
  have h : 0 ≤ ∑ k, cx u k * cx u k := Finset.sum_nonneg fun k _ => mul_self_nonneg _
  have := eps_pos
  positivity

theorem cx_sum : ∑ k, cx u k = 0 := by
  unfold cx mean
  rw [Finset.sum_sub_distrib, Finset.sum_const, Finset.card_univ, Fintype.card_fin]
  simp only [nsmul_eq_mul]
  push_cast
  ring

theorem rr_sq : rr u * rr u = (vr u)⁻¹ := by
  unfold rr
  rw [← mul_inv, Real.mul_self_sqrt (vr_pos u).le]

/-- The gradient of the normalization in its two forms. -/
theorem ln_grad (d : Fin 2048 → ℝ) (k : Fin 2048) :
    (d k * rr u + cx u k * ((∑ j, cx u j * d j) * (-(1 / 2) * (rr u / vr u)) / 2048) + ((∑ j, cx u j * d j) * (-(1 / 2) * (rr u / vr u)) / 2048) * cx u k)
      + (∑ i, -(d i * rr u + cx u i * ((∑ j, cx u j * d j) * (-(1 / 2) * (rr u / vr u)) / 2048) + ((∑ j, cx u j * d j) * (-(1 / 2) * (rr u / vr u)) / 2048) * cx u i)) / 2048
    = rr u * (d k - mean d - un u k * mean (fun j => d j * un u j)) := by
  have e1 : ∀ q : ℝ, ∑ i, -(d i * rr u + cx u i * q + q * cx u i) = -((∑ i, d i) * rr u) := by
    intro q
    rw [Finset.sum_neg_distrib, Finset.sum_add_distrib, Finset.sum_add_distrib, ← Finset.sum_mul, ← Finset.sum_mul,
      ← Finset.mul_sum, cx_sum]
    ring
  have e2 : ∑ j, d j * un u j = (∑ j, cx u j * d j) * rr u := by
    rw [Finset.sum_mul]
    exact Finset.sum_congr rfl fun j _ => by unfold un; ring
  rw [e1]
  unfold mean un at *
  rw [e2]
  have e3 := rr_sq u
  have e4 : rr u / vr u = rr u * (rr u * rr u) := by rw [e3]; rfl
  rw [e4]
  ring

end Norm

/-- A precondition's term of one array: every entry of the array is a real number. -/
theorem fin_of {s : Shape} {dims : List (Fin s.rank)} (x : FVec Ideal s .f32) (bc : (⟨0, ![]⟩ : Shape).BroadcastsInDim s (![] : Fin 0 → Fin s.rank))
    (hr : s.ReducesTo dims ⟨0, ![]⟩) (h0 : 0 < (⟨0, ![]⟩ : Shape).numel) (j : (⟨0, ![]⟩ : Shape).Idx)
    (h : Host.reduce IntOp.andi (cmpf .olt (Host.absf x) (broadcastInDim s ![] bc (constant (F := Ideal) ⟨0, ![]⟩ .f32 0x7F800000#32)))
      (constantI ⟨0, ![]⟩ 1 1#1) hr h0 j = 1#1) (i : s.Idx) : ∃ r : ℝ, x i = (r : EReal) := by
  have h := Host.reduce_andi_all _ _ _ _ j h i
  refine real_of_lt (x i) (Eq.trans ?_ h)
  rw [← ctop]
  rfl

/-! ## The gradient of the normalized and gated rows -/

namespace Conf

variable (u z lw lb : Fin 2048 → ℝ) (w : Fin 2048 → Fin 1024 → ℝ) (dh : Fin 1024 → ℝ)

/-- The normalized row with its weight and bias. -/
def ul (d : Fin 2048) : ℝ := un u d * lw d + lb d

/-- The gradient of the gated row. -/
def d3 (d : Fin 2048) : ℝ := ∑ k, dh k * w d k

/-- The gradient of the gate's branch. -/
def dz (d : Fin 2048) : ℝ := d3 w dh d * sl (ul u lw lb d) * ds (z d)

/-- The gradient of the normalized row with its weight and bias. -/
def dul (d : Fin 2048) : ℝ := d3 w dh d * sl (z d) * ds (ul u lw lb d)

/-- The gradient of the normalized row. -/
def dun (d : Fin 2048) : ℝ := dul u z lw lb w dh d * lw d

/-- The gradient of the row. -/
def du (d : Fin 2048) : ℝ := rr u * (dun u z lw lb w dh d - mean (dun u z lw lb w dh)
  - un u d * mean (fun j => dun u z lw lb w dh j * un u j))

end Conf

/-! ## The gradient of the gated and normalized rows of the state-space branch -/

namespace Ssd

/-- The row before its gate: the two scans and the skip. -/
def yr (a b c dk : Fin 2048 → ℝ) (k : Fin 2048) : ℝ := a k + b k + sl (c k) * dk k

variable (y z nw : Fin 2048 → ℝ) (w : Fin 2048 → Fin 1024 → ℝ) (dh : Fin 1024 → ℝ)

/-- The gated row. -/
def gt (k : Fin 2048) : ℝ := y k * sl (z k)

/-- The mean square of the gated row and the epsilon. -/
def qm : ℝ := (∑ k, gt y z k * gt y z k) / 2048 + eps

/-- The scale of the gated row. -/
def rq : ℝ := (Real.sqrt (qm y z))⁻¹

/-- The normalized row. -/
def nn (k : Fin 2048) : ℝ := gt y z k * rq y z

/-- The gradient of the normalized row. -/
def dn (k : Fin 2048) : ℝ := Conf.d3 w dh k * nw k

/-- The gradient of the gated row. -/
def dgt (k : Fin 2048) : ℝ := rq y z * (dn nw w dh k - nn y z k * mean (fun j => dn nw w dh j * nn y z j))

/-- The gradient of the row before its gate. -/
def dy (k : Fin 2048) : ℝ := dgt y z nw w dh k * sl (z k)

/-- The gradient of the gate's branch. -/
def dz (k : Fin 2048) : ℝ := dgt y z nw w dh k * y k * ds (z k)

theorem qm_pos : 0 < qm y z := by
  unfold qm
  have h : 0 ≤ ∑ k, gt y z k * gt y z k := Finset.sum_nonneg fun k _ => mul_self_nonneg _
  have := eps_pos
  positivity

theorem rq_sq : rq y z * rq y z = (qm y z)⁻¹ := by
  unfold rq
  rw [← mul_inv, Real.mul_self_sqrt (qm_pos y z).le]

/-- The gradient of the normalization in its two forms. -/
theorem rms_real (d : Fin 2048 → ℝ) (k : Fin 2048) :
    d k * rq y z + gt y z k * ((∑ j, gt y z j * d j) * (-(1 / 2) * (rq y z / qm y z)) / 2048) + ((∑ j, gt y z j * d j) * (-(1 / 2) * (rq y z / qm y z)) / 2048) * gt y z k
    = rq y z * (d k - nn y z k * mean (fun j => d j * nn y z j)) := by
  have e2 : ∑ j, d j * nn y z j = (∑ j, gt y z j * d j) * rq y z := by
    rw [Finset.sum_mul]
    exact Finset.sum_congr rfl fun j _ => by unfold nn; ring
  unfold mean
  rw [e2]
  have e3 := rq_sq y z
  have e4 : rq y z / qm y z = rq y z * (rq y z * rq y z) := by rw [e3]; rfl
  rw [e4]
  unfold nn
  ring

end Ssd

end Cert.Common

end
-- ==== Proof.ConfOutVal.lean ====
module

public import proofs.«01_k».proof.Proof.ConfOutRef
public import proofs.«01_k».proof.Proof.Gate

@[expose] public section

set_option maxRecDepth 16384

noncomputable section

/-! The results of the reference `ConfOutRefIdeal` on real arguments, as real expressions. -/

namespace Cert.ConfOutRefIdeal.Hand

open Cert.ConfOutRefIdeal Cert.ConfOutRefIdeal.Gen Cert.Common Cert.Common.Conf Idealize.ShloMosaic Idealize.ShloMosaic.TcCoe Idealize.SL.Sem

variable (DH : Fin 16384 → Fin 1024 → ℝ) (U Z : Fin 16384 → Fin 2048 → ℝ) (LW LB : Fin 2048 → ℝ)
  (W : Fin 2048 → Fin 1024 → ℝ)

/-- A position's term of the product's gradient. -/
def T6 (l : Fin 16384) (d : Fin 2048) (k : Fin 1024) : EReal := ((sl (ul (U l) LW LB d) * sl (Z l d) * DH l k : ℝ) : EReal)

/-- A position's term of the gradient of the normalization's weight. -/
def T9 (l : Fin 16384) (d : Fin 2048) : EReal := ((dul (U l) (Z l) LW LB W (DH l) d * un (U l) d : ℝ) : EReal)

/-- A position's term of the gradient of the normalization's bias. -/
def T10 (l : Fin 16384) (d : Fin 2048) : EReal := ((dul (U l) (Z l) LW LB W (DH l) d : ℝ) : EReal)

/-- The gradient of the output projection. -/
def REF6 : FVec Ideal S2048x1024 .f32 := fun j => ∑ l, T6 DH U Z LW LB l (j 0) (j 1)

/-- The gradient of the rows. -/
def REF7 : FVec Ideal S16384x2048 .bf16 := fun j => ((du (U (j 0)) (Z (j 0)) LW LB W (DH (j 0)) (j 1) : ℝ) : EReal)

/-- The gradient of the gate's branch. -/
def REF8 : FVec Ideal S16384x2048 .bf16 := fun j => ((dz (U (j 0)) (Z (j 0)) LW LB W (DH (j 0)) (j 1) : ℝ) : EReal)

/-- The gradient of the normalization's weight. -/
def REF9 : FVec Ideal S1x2048 .f32 := fun j => ∑ l, T9 DH U Z LW LB W l (j 1)

/-- The gradient of the normalization's bias. -/
def REF10 : FVec Ideal S1x2048 .f32 := fun j => ∑ l, T10 DH U Z LW LB W l (j 1)

variable {DH U Z LW LB W} {m : (ℓ : Loc nD τ sig) → Buf (Elt Ideal) ℓ} {c : Dev nD}
  (h0 : ∀ l k, w_arg0 m c (ix2 l k) = (DH l k : EReal)) (h1 : ∀ l k, w_arg1 m c (ix2 l k) = (U l k : EReal))
  (h2 : ∀ l (k : Fin 2048), w_arg2 m c (ix2 l ⟨4096 + k.val, Nat.add_lt_add_left k.isLt 4096⟩) = (Z l k : EReal))
  (h3 : ∀ k, w_arg3 m c (ix2 0 k) = (LW k : EReal)) (h4 : ∀ k, w_arg4 m c (ix2 0 k) = (LB k : EReal))
  (h5 : ∀ d k, w_arg5 m c (ix2 d k) = (W d k : EReal))

theorem n2048 : (2048 : ℝ) ≠ 0 := by norm_num

include h0 h1 h2 h3 h4 h5

theorem e9 (l : Fin 16384) (d : Fin 2048) : w_v9 m c (ix2 l d) = ((cx (U l) d : ℝ) : EReal) := by
  pointwise [w_v9, w_v8, w_v7, w_v6, w_cst_0, w_v5, w_v4, w_cst, w_v2]
  simp only [h1, c2048, ← coe_sum, div_coe_coe _ n2048, ← EReal.coe_sub]
  rfl

theorem e16 (l : Fin 16384) : w_v16 m c (ix2 l 0) = ((vr (U l) : ℝ) : EReal) := by
  pointwise [w_v16, w_v15, w_cst_3, w_v14, w_v13, w_cst_2, w_v12, w_v11, w_cst_1, w_v10]
  simp only [e9 h0 h1 h2 h3 h4 h5, c2048, ceps, ← EReal.coe_mul, ← coe_sum, div_coe_coe _ n2048, ← EReal.coe_add]
  rfl

theorem e17 (l : Fin 16384) : w_v17 m c (ix2 l 0) = ((rr (U l) : ℝ) : EReal) := by
  pointwise [w_v17]
  rw [e16 h0 h1 h2 h3 h4 h5]
  exact rsqrt_coe (vr_pos (U l))

theorem e20 (l : Fin 16384) : w_v20 m c (ix2 l 0) = ((-(1 / 2) * (rr (U l) / vr (U l)) : ℝ) : EReal) := by
  pointwise [w_v20, w_v19, w_cst_4, w_v18]
  rw [e16 h0 h1 h2 h3 h4 h5, e17 h0 h1 h2 h3 h4 h5, cneghalf, div_coe_coe _ (vr_pos (U l)).ne', ← EReal.coe_mul]

theorem e22 (l : Fin 16384) (d : Fin 2048) : w_v22 m c (ix2 l d) = ((un (U l) d : ℝ) : EReal) := by
  pointwise [w_v22, w_v21]
  rw [e9 h0 h1 h2 h3 h4 h5, e17 h0 h1 h2 h3 h4 h5, ← EReal.coe_mul]
  rfl

theorem e26 (l : Fin 16384) (d : Fin 2048) : w_v26 m c (ix2 l d) = ((ul (U l) LW LB d : ℝ) : EReal) := by
  pointwise [w_v26, w_v25, w_v24, w_v23]
  rw [e22 h0 h1 h2 h3 h4 h5, h3, h4, ← EReal.coe_mul, ← EReal.coe_add]
  rfl

theorem e3 (l : Fin 16384) (d : Fin 2048) : w_v3 m c (ix2 l d) = ((Z l d : ℝ) : EReal) := by
  pointwise [w_v3, w_v0]
  exact h2 l d

theorem e27_2 (l : Fin 16384) (d : Fin 2048) : w_v27_2 m c (ix2 l d) = ((sg (ul (U l) LW LB d) : ℝ) : EReal) := by
  pointwise [w_v27_2, w_call0_v4, w_call0_cst_0, w_call0_v3, w_call0_v1, w_call0_v0, w_call0_v2, w_call0_cst]
  rw [e26 h0 h1 h2 h3 h4 h5, ← EReal.coe_neg]
  exact sg_coe' _

theorem e27_1 (l : Fin 16384) (d : Fin 2048) : w_v27_1 m c (ix2 l d) = ((sg (ul (U l) LW LB d) * (1 - sg (ul (U l) LW LB d)) : ℝ) : EReal) := by
  pointwise [w_v27_1, w_call0_v7, w_call0_v6, w_call0_cst_1]
  rw [e27_2 h0 h1 h2 h3 h4 h5, sub_eq_add_neg]
  exact sgsub_coe _

theorem e27_0 (l : Fin 16384) (d : Fin 2048) : w_v27_0 m c (ix2 l d) = ((sl (ul (U l) LW LB d) : ℝ) : EReal) := by
  pointwise [w_v27_0]
  rw [e27_2 h0 h1 h2 h3 h4 h5, e26 h0 h1 h2 h3 h4 h5, ← EReal.coe_mul]
  rfl

theorem e28_2 (l : Fin 16384) (d : Fin 2048) : w_v28_2 m c (ix2 l d) = ((sg (Z l d) : ℝ) : EReal) := by
  pointwise [w_v28_2, w_call1_v4, w_call1_cst_0, w_call1_v3, w_call1_v1, w_call1_v0, w_call1_v2, w_call1_cst]
  rw [e3 h0 h1 h2 h3 h4 h5, ← EReal.coe_neg]
  exact sg_coe' _

theorem e28_1 (l : Fin 16384) (d : Fin 2048) : w_v28_1 m c (ix2 l d) = ((sg (Z l d) * (1 - sg (Z l d)) : ℝ) : EReal) := by
  pointwise [w_v28_1, w_call1_v7, w_call1_v6, w_call1_cst_1]
  rw [e28_2 h0 h1 h2 h3 h4 h5, sub_eq_add_neg]
  exact sgsub_coe _

theorem e28_0 (l : Fin 16384) (d : Fin 2048) : w_v28_0 m c (ix2 l d) = ((sl (Z l d) : ℝ) : EReal) := by
  pointwise [w_v28_0]
  rw [e28_2 h0 h1 h2 h3 h4 h5, e3 h0 h1 h2 h3 h4 h5, ← EReal.coe_mul]
  rfl

theorem e33 (l : Fin 16384) (d : Fin 2048) : w_v33 m c (ix2 l d) = ((d3 W (DH l) d : ℝ) : EReal) := by
  pointwise [w_v33, w_v1]
  simp only [h0, h5, ← EReal.coe_mul, ← coe_sum]
  rfl

theorem e34 (l : Fin 16384) (d : Fin 2048) : w_v34 m c (ix2 l d) = ((sl (ul (U l) LW LB d) * d3 W (DH l) d : ℝ) : EReal) := by
  pointwise [w_v34]
  rw [e27_0 h0 h1 h2 h3 h4 h5, e33 h0 h1 h2 h3 h4 h5, ← EReal.coe_mul]

theorem e35 (l : Fin 16384) (d : Fin 2048) : w_v35 m c (ix2 l d) = ((d3 W (DH l) d * sl (Z l d) : ℝ) : EReal) := by
  pointwise [w_v35]
  rw [e28_0 h0 h1 h2 h3 h4 h5, e33 h0 h1 h2 h3 h4 h5, ← EReal.coe_mul]

theorem e36 (l : Fin 16384) (d : Fin 2048) : w_v36 m c (ix2 l d) = ((dz (U l) (Z l) LW LB W (DH l) d : ℝ) : EReal) := by
  pointwise [w_v36, w_call2_v2, w_call2_v1, w_call2_v0]
  rw [e34 h0 h1 h2 h3 h4 h5, e28_2 h0 h1 h2 h3 h4 h5, e28_1 h0 h1 h2 h3 h4 h5, e3 h0 h1 h2 h3 h4 h5]
  simp only [← EReal.coe_mul, ← EReal.coe_add]
  rw [sl_grad, mul_comm (sl _)]
  rfl

theorem e37 (l : Fin 16384) (d : Fin 2048) : w_v37 m c (ix2 l d) = ((dul (U l) (Z l) LW LB W (DH l) d : ℝ) : EReal) := by
  pointwise [w_v37, w_call3_v2, w_call3_v1, w_call3_v0]
  rw [e35 h0 h1 h2 h3 h4 h5, e27_2 h0 h1 h2 h3 h4 h5, e27_1 h0 h1 h2 h3 h4 h5, e26 h0 h1 h2 h3 h4 h5]
  simp only [← EReal.coe_mul, ← EReal.coe_add]
  rw [sl_grad]
  rfl

theorem e44 (l : Fin 16384) (d : Fin 2048) : w_v44 m c (ix2 l d) = ((dun (U l) (Z l) LW LB W (DH l) d : ℝ) : EReal) := by
  pointwise [w_v44, w_v43]
  rw [e37 h0 h1 h2 h3 h4 h5, h3, ← EReal.coe_mul]
  rfl

theorem e47 (l : Fin 16384) : w_v47 m c (ix2 l 0) = ((∑ j, cx (U l) j * dun (U l) (Z l) LW LB W (DH l) j : ℝ) : EReal) := by
  pointwise [w_v47, w_v46, w_cst_7, w_v45]
  simp only [e9 h0 h1 h2 h3 h4 h5, e44 h0 h1 h2 h3 h4 h5, ← EReal.coe_mul, ← coe_sum]

theorem e54 (l : Fin 16384) (d : Fin 2048) : w_v54 m c (ix2 l d)
    = (((∑ j, cx (U l) j * dun (U l) (Z l) LW LB W (DH l) j) * (-(1 / 2) * (rr (U l) / vr (U l))) / 2048 : ℝ) : EReal) := by
  pointwise [w_v54, w_v53, w_cst_9, w_v52, w_v51, w_cst_8, w_v50]
  simp only [Fin.sum_univ_one, e47 h0 h1 h2 h3 h4 h5, e20 h0 h1 h2 h3 h4 h5, c2048, ← EReal.coe_mul, div_coe_coe _ n2048]

theorem e58 (l : Fin 16384) (d : Fin 2048) : w_v58 m c (ix2 l d)
    = ((dun (U l) (Z l) LW LB W (DH l) d * rr (U l)
      + cx (U l) d * ((∑ j, cx (U l) j * dun (U l) (Z l) LW LB W (DH l) j) * (-(1 / 2) * (rr (U l) / vr (U l))) / 2048)
      + ((∑ j, cx (U l) j * dun (U l) (Z l) LW LB W (DH l) j) * (-(1 / 2) * (rr (U l) / vr (U l))) / 2048) * cx (U l) d : ℝ) : EReal) := by
  pointwise [w_v58, w_v57, w_v56, w_v55, w_v49, w_v48]
  rw [e44 h0 h1 h2 h3 h4 h5, e17 h0 h1 h2 h3 h4 h5, e9 h0 h1 h2 h3 h4 h5, e54 h0 h1 h2 h3 h4 h5]
  simp only [← EReal.coe_mul, ← EReal.coe_add]

theorem ref6 : w_v32 m c = REF6 DH U Z LW LB := by
  funext j
  obtain ⟨d, k, rfl⟩ : ∃ d k, j = ix2 d k := ⟨j 0, j 1, by funext i; fin_cases i <;> rfl⟩
  pointwise [w_v32, w_v31, w_v29]
  simp only [e27_0 h0 h1 h2 h3 h4 h5, e28_0 h0 h1 h2 h3 h4 h5, h0]
  refine Finset.sum_congr rfl fun l _ => ?_
  simp only [← EReal.coe_mul]
  exact congrArg _ (mul_comm _ _)

theorem ref7 : w_v67 m c = REF7 DH U Z LW LB W := by
  funext j
  obtain ⟨l, d, rfl⟩ : ∃ l d, j = ix2 l d := ⟨j 0, j 1, by funext i; fin_cases i <;> rfl⟩
  pointwise [w_v67, w_v66, w_v65, w_v64, w_cst_12, w_v63, w_v62, w_cst_11, w_v61, w_v60, w_cst_10, w_v59]
  simp only [Fin.sum_univ_one, e58 h0 h1 h2 h3 h4 h5, c2048, ← EReal.coe_neg, ← coe_sum, div_coe_coe _ n2048, ← EReal.coe_add]
  exact congrArg _ (ln_grad (U l) (dun (U l) (Z l) LW LB W (DH l)) d)

theorem ref8 : w_v68 m c = REF8 DH U Z LW LB W := by
  funext j
  obtain ⟨l, d, rfl⟩ : ∃ l d, j = ix2 l d := ⟨j 0, j 1, by funext i; fin_cases i <;> rfl⟩
  pointwise [w_v68]
  exact e36 h0 h1 h2 h3 h4 h5 l d

theorem ref9 : w_v42 m c = REF9 DH U Z LW LB W := by
  funext j
  obtain ⟨l, d, rfl⟩ : ∃ l d, j = ix2 l d := ⟨j 0, j 1, by funext i; fin_cases i <;> rfl⟩
  pointwise [w_v42, w_v41, w_cst_6, w_v40]
  simp only [e22 h0 h1 h2 h3 h4 h5, e37 h0 h1 h2 h3 h4 h5]
  refine Finset.sum_congr rfl fun l _ => ?_
  simp only [← EReal.coe_mul]
  exact congrArg _ (mul_comm _ _)

theorem ref10 : w_v39 m c = REF10 DH U Z LW LB W := by
  funext j
  obtain ⟨l, d, rfl⟩ : ∃ l d, j = ix2 l d := ⟨j 0, j 1, by funext i; fin_cases i <;> rfl⟩
  pointwise [w_v39, w_v38, w_cst_5]
  simp only [e37 h0 h1 h2 h3 h4 h5]
  rfl

end Cert.ConfOutRefIdeal.Hand

end
-- ==== Proof.ConfOut.lean ====
module

public import proofs.«01_k».proof.Proof.Gen.ConfOutIdeal.Value
public import proofs.«01_k».proof.Proof.ConfOutVal
public import proofs.«01_k».proof.Proof.Gate
public import proofs.«01_k».proof.Defs

@[expose] public section

set_option maxRecDepth 16384

noncomputable section

namespace Cert.ConfOutIdeal.Hand

open Cert.ConfOutIdeal Cert.ConfOutIdeal.Gen Cert.Common Cert.Common.Conf Idealize.ShloMosaic Idealize.ShloMosaic.TcCoe Idealize.SL.Sem
open Cert.ConfOutRefIdeal.Hand (T6 T9 T10 REF6 REF7 REF8 REF9 REF10)
open Idealize.ShloMosaic.Pipeline (Dat)

variable (m : (ℓ : Loc nD τ sig) → Buf (Elt Ideal) ℓ)

/-- The windows' index maps. -/
theorem idx : ∀ t : Fin cfg0.N, win0_0.index t = ![t.val, 0] ∧ win0_1.index t = ![t.val, 0] ∧ win0_2.index t = ![t.val, 2]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![0, 0] ∧ win0_10.index t = ![0, 0] :=
  (by decide +kernel : ∀ t : Fin grid0.N, _)

/-- The position of a row of a point's block. -/
def pos (t : Fin cfg0.N) (r : Fin 256) : Fin 16384 := ⟨256 * t.val + r.val, by
  have h : t.val < 64 := t.isLt
  omega⟩

/-- Argument 0. -/
abbrev A0 (c : Dev nD) : FVec Ideal S16384x1024 .f32 := m ((c : Thread nD τ).loc main_arg0)

/-- Argument 1. -/
abbrev A1 (c : Dev nD) : FVec Ideal S16384x2048 .bf16 := m ((c : Thread nD τ).loc main_arg1)

/-- Argument 2. -/
abbrev A2 (c : Dev nD) : FVec Ideal S16384x6144 .bf16 := m ((c : Thread nD τ).loc main_arg2)

/-- Argument 3. -/
abbrev A3 (c : Dev nD) : FVec Ideal S1x2048 .f32 := m ((c : Thread nD τ).loc main_arg3)

/-- Argument 4. -/
abbrev A4 (c : Dev nD) : FVec Ideal S1x2048 .f32 := m ((c : Thread nD τ).loc main_arg4)

/-- Argument 5. -/
abbrev A5 (c : Dev nD) : FVec Ideal S2048x1024 .bf16 := m ((c : Thread nD τ).loc main_arg5)

section Pay

variable {u z : FVec Ideal S256x2048 .bf16} {lw lb : FVec Ideal S1x2048 .f32} {w : FVec Ideal S2048x1024 .bf16} {dh : FVec Ideal S256x1024 .f32}
  {U Z : Fin 256 → Fin 2048 → ℝ} {LW LB : Fin 2048 → ℝ} {W : Fin 2048 → Fin 1024 → ℝ} {DH : Fin 256 → Fin 1024 → ℝ}
  (hu : ∀ r k, u (ix2 r k) = (U r k : EReal)) (hz : ∀ r k, z (ix2 r k) = (Z r k : EReal))
  (hlw : ∀ k, lw (ix2 0 k) = (LW k : EReal)) (hlb : ∀ k, lb (ix2 0 k) = (LB k : EReal))
  (hw : ∀ d k, w (ix2 d k) = (W d k : EReal)) (hdh : ∀ r k, dh (ix2 r k) = (DH r k : EReal))

include hu in
theorem p7 (r : Fin 256) (k : Fin 2048) : k0_pay7 (F := Ideal) u (ix2 r k) = ((cx (U r) k : ℝ) : EReal) := by
  pointwise [k0_pay7]
  simp only [hu, c2048, ← coe_sum, div_coe_coe _ (show (2048 : ℝ) ≠ 0 by norm_num), ← EReal.coe_sub]
  rfl

include hu in
theorem p8 (r : Fin 256) : k0_pay8 (F := Ideal) u (ix2 r 0) = ((rr (U r) : ℝ) : EReal) := by
  pointwise [k0_pay8]
  simp only [p7 hu, c2048, ceps, ← EReal.coe_mul, ← coe_sum, div_coe_coe _ (show (2048 : ℝ) ≠ 0 by norm_num), ← EReal.coe_add]
  exact rsqrt_coe (vr_pos (U r))

include hu in
theorem p9 (r : Fin 256) (k : Fin 2048) : k0_pay9 (F := Ideal) u (ix2 r k) = ((un (U r) k : ℝ) : EReal) := by
  pointwise [k0_pay9]
  rw [p7 hu, p8 hu, ← EReal.coe_mul]
  rfl

include hu hlw hlb in
theorem p10 (r : Fin 256) (k : Fin 2048) : k0_pay10 (F := Ideal) u lw lb (ix2 r k) = ((ul (U r) LW LB k : ℝ) : EReal) := by
  pointwise [k0_pay10]
  rw [p9 hu, hlw, hlb, ← EReal.coe_mul, ← EReal.coe_add]
  rfl

theorem p11 (r : Fin 256) (k : Fin 2048) : k0_pay11 (F := Ideal) z (ix2 r k) = z (ix2 r k) := by
  pointwise [k0_pay11]

include hu hlw hlb in
theorem p12 (r : Fin 256) (k : Fin 2048) : k0_pay12 (F := Ideal) u lw lb (ix2 r k) = ((sl (ul (U r) LW LB k) : ℝ) : EReal) := by
  pointwise [k0_pay12]
  rw [p10 hu hlw hlb]
  simp only [cone, sub_eq_add_neg, zero_add, ← EReal.coe_neg, sg_coe', ← EReal.coe_mul]
  rfl

include hz in
theorem p14 (r : Fin 256) (k : Fin 2048) : k0_pay14 (F := Ideal) (k0_pay11 z) (k0_pay13 z) (ix2 r k) = ((sl (Z r k) : ℝ) : EReal) := by
  pointwise [k0_pay14, k0_pay13]
  rw [p11, hz]
  simp only [cone, sub_eq_add_neg, zero_add, ← EReal.coe_neg, sg_coe', ← EReal.coe_mul]
  rfl

include hw hdh in
theorem p17 (r : Fin 256) (d : Fin 2048) : k0_pay17 (F := Ideal) dh w (ix2 r d) = ((d3 W (DH r) d : ℝ) : EReal) := by
  pointwise [k0_pay17, k0_pay15]
  simp only [hw, hdh, ← EReal.coe_mul, ← coe_sum]
  rfl

include hu hz hlw hlb hdh in
theorem p16 (acc : FVec Ideal S2048x1024 .f32) (d : Fin 2048) (k : Fin 1024) :
    k0_pay16 (F := Ideal) (k0_pay11 z) (k0_pay12 u lw lb) (k0_pay13 z) dh acc (ix2 d k)
    = acc (ix2 d k) + ((∑ r, sl (ul (U r) LW LB d) * sl (Z r d) * DH r k : ℝ) : EReal) := by
  pointwise [k0_pay16, k0_pay15]
  simp only [p12 hu hlw hlb, p14 hz, hdh, ← EReal.coe_mul, ← coe_sum]

include hu hz hlw hlb hw hdh in
theorem p18 (r : Fin 256) (d : Fin 2048) : k0_pay18 (F := Ideal) (k0_pay11 z) (k0_pay12 u lw lb) dh w (ix2 r d)
    = ((dz (U r) (Z r) LW LB W (DH r) d : ℝ) : EReal) := by
  pointwise [k0_pay18]
  rw [p12 hu hlw hlb, p17 hw hdh, p11, hz]
  rw [sub_eq_add_neg, sub_eq_add_neg, zero_add, ← EReal.coe_neg, sg_coe', ds_coe, ← EReal.coe_mul]
  rfl

include hz hw hdh in
theorem p19 (r : Fin 256) (d : Fin 2048) : k0_pay19 (F := Ideal) (k0_pay11 z) (k0_pay13 z) dh w (ix2 r d)
    = ((d3 W (DH r) d * sl (Z r d) : ℝ) : EReal) := by
  pointwise [k0_pay19]
  rw [p17 hw hdh, p14 hz, ← EReal.coe_mul]

include hu hz hlw hlb hw hdh in
theorem p21 (r : Fin 256) (d : Fin 2048) : k0_pay21 (F := Ideal) (k0_pay10 u lw lb) (k0_pay19 (k0_pay11 z) (k0_pay13 z) dh w) (k0_pay20 (k0_pay10 u lw lb)) (ix2 r d)
    = ((dul (U r) (Z r) LW LB W (DH r) d : ℝ) : EReal) := by
  pointwise [k0_pay21, k0_pay20]
  rw [p10 hu hlw hlb, p19 hz hw hdh]
  rw [sub_eq_add_neg, sub_eq_add_neg, zero_add, ← EReal.coe_neg, sg_coe', ds_coe, ← EReal.coe_mul]
  rfl

include hu hz hlw hlb hw hdh in
theorem p22 (r : Fin 256) (d : Fin 2048) : k0_pay22 (F := Ideal) (k0_pay9 u) (k0_pay10 u lw lb) (k0_pay19 (k0_pay11 z) (k0_pay13 z) dh w) (k0_pay20 (k0_pay10 u lw lb)) (ix2 r d)
    = ((dul (U r) (Z r) LW LB W (DH r) d * un (U r) d : ℝ) : EReal) := by
  pointwise [k0_pay22]
  rw [p21 hu hz hlw hlb hw hdh, p9 hu, ← EReal.coe_mul]

theorem p24 (n a e f : FVec Ideal S256x2048 .f32) (acc : FVec Ideal S8x2048 .f32) (j) :
    k0_pay24 (F := Ideal) acc (k0_pay22 n a e f) (k0_pay23 n a e f) j
    = acc j + ∑ b : Fin 32, k0_pay22 (F := Ideal) n a e f (ix2 ⟨8 * b.val + (j 0).val, by
        have h : (j 0).val < 8 := (j 0).isLt
        omega⟩ (j 1)) := by
  have h := rows32 (fun l => k0_pay22 (F := Ideal) n a e f (ix2 l (j 1))) (j 0)
  rw [← h]
  pointwise [k0_pay24, k0_pay23]
  try rfl

theorem p27 (a e f : FVec Ideal S256x2048 .f32) (acc : FVec Ideal S8x2048 .f32) (j) :
    k0_pay27 (F := Ideal) (k0_pay21 a e f) acc (k0_pay25 (k0_pay21 a e f)) (k0_pay26 (k0_pay21 a e f)) j
    = acc j + ∑ b : Fin 32, k0_pay21 (F := Ideal) a e f (ix2 ⟨8 * b.val + (j 0).val, by
        have h : (j 0).val < 8 := (j 0).isLt
        omega⟩ (j 1)) := by
  have h := rows32 (fun l => k0_pay21 (F := Ideal) a e f (ix2 l (j 1))) (j 0)
  rw [← h]
  pointwise [k0_pay27, k0_pay25, k0_pay26]
  try rfl

include hu hz hlw hlb hw hdh in
theorem p1 (r : Fin 256) (d : Fin 2048) : k0_pay1 (F := Ideal) (k0_pay8 u) (k0_pay9 u)
      (k0_pay28 (k0_pay21 (k0_pay10 u lw lb) (k0_pay19 (k0_pay11 z) (k0_pay13 z) dh w) (k0_pay20 (k0_pay10 u lw lb))) lw)
      (k0_pay29 (k0_pay21 (k0_pay10 u lw lb) (k0_pay19 (k0_pay11 z) (k0_pay13 z) dh w) (k0_pay20 (k0_pay10 u lw lb))) lw)
      (k0_pay30 (k0_pay9 u) (k0_pay21 (k0_pay10 u lw lb) (k0_pay19 (k0_pay11 z) (k0_pay13 z) dh w) (k0_pay20 (k0_pay10 u lw lb))) lw) (ix2 r d)
    = ((du (U r) (Z r) LW LB W (DH r) d : ℝ) : EReal) := by
  pointwise [k0_pay1, k0_pay28, k0_pay29, k0_pay30]
  simp only [p21 hu hz hlw hlb hw hdh, p9 hu, p8 hu, hlw, c2048, ← EReal.coe_mul, ← coe_sum, div_coe_coe _ (show (2048 : ℝ) ≠ 0 by norm_num), ← EReal.coe_sub]
  rfl

end Pay

section Blocks

variable (c : Dev nD) (t : Fin cfg0.N)

theorem b0 (r : Fin 256) (k : Fin 1024) : iblk m c 0 t (ix2 r k) = A0 m c (ix2 (pos t r) k) := by
  blk_point [iblk, V, idx t, pos]

theorem b1 (r : Fin 256) (k : Fin 2048) : iblk m c 1 t (ix2 r k) = A1 m c (ix2 (pos t r) k) := by
  blk_point [iblk, V, idx t, pos]

theorem b2 (r : Fin 256) (k : Fin 2048) : iblk m c 2 t (ix2 r k) = A2 m c (ix2 (pos t r) ⟨4096 + k.val, Nat.add_lt_add_left k.isLt 4096⟩) := by
  blk_point [iblk, V, idx t, pos]

theorem b3 (k : Fin 2048) : iblk m c 3 t (ix2 0 k) = A3 m c (ix2 0 k) := by
  blk_point [iblk, V, idx t]

theorem b4 (k : Fin 2048) : iblk m c 4 t (ix2 0 k) = A4 m c (ix2 0 k) := by
  blk_point [iblk, V, idx t]

theorem b5 (d : Fin 2048) (k : Fin 1024) : iblk m c 5 t (ix2 d k) = A5 m c (ix2 d k) := by
  blk_point [iblk, V, idx t]

end Blocks

section Emb

theorem emb6 (t : Fin cfg0.N) (y : ((cfg0.win 6).xblock (cfg0.grid.coords t)).Idx) :
    (win0_6.blk t).view.emb y = ix2 (y 0) (y 1) := by
  have h := idx t
  have h0 : win0_6.index t 0 = 0 := (congrFun h.2.2.2.2.2.2.1 0).trans rfl
  have h1 : win0_6.index t 1 = 0 := (congrFun h.2.2.2.2.2.2.1 1).trans rfl
  funext a
  apply Fin.ext
  match a with
  | ⟨0, _⟩ => show win0_6.index t 0 * 2048 + 1 * (y 0).val = (y 0).val; rw [h0]; omega
  | ⟨1, _⟩ => show win0_6.index t 1 * 1024 + 1 * (y 1).val = (y 1).val; rw [h1]; omega

theorem emb7 (t : Fin cfg0.N) (y : ((cfg0.win 7).xblock (cfg0.grid.coords t)).Idx) :
    (win0_7.blk t).view.emb y = ix2 (pos t (y 0)) (y 1) := by
  have h := idx t
  have h0 : win0_7.index t 0 = t.val := (congrFun h.2.2.2.2.2.2.2.1 0).trans rfl
  have h1 : win0_7.index t 1 = 0 := (congrFun h.2.2.2.2.2.2.2.1 1).trans rfl
  funext a
  apply Fin.ext
  match a with
  | ⟨0, _⟩ => show win0_7.index t 0 * 256 + 1 * (y 0).val = 256 * t.val + (y 0).val; rw [h0]; omega
  | ⟨1, _⟩ => show win0_7.index t 1 * 2048 + 1 * (y 1).val = (y 1).val; rw [h1]; omega

theorem emb8 (t : Fin cfg0.N) (y : ((cfg0.win 8).xblock (cfg0.grid.coords t)).Idx) :
    (win0_8.blk t).view.emb y = ix2 (pos t (y 0)) (y 1) := by
  have h := idx t
  have h0 : win0_8.index t 0 = t.val := (congrFun h.2.2.2.2.2.2.2.2.1 0).trans rfl
  have h1 : win0_8.index t 1 = 0 := (congrFun h.2.2.2.2.2.2.2.2.1 1).trans rfl
  funext a
  apply Fin.ext
  match a with
  | ⟨0, _⟩ => show win0_8.index t 0 * 256 + 1 * (y 0).val = 256 * t.val + (y 0).val; rw [h0]; omega
  | ⟨1, _⟩ => show win0_8.index t 1 * 2048 + 1 * (y 1).val = (y 1).val; rw [h1]; omega

theorem emb9 (t : Fin cfg0.N) (y : ((cfg0.win 9).xblock (cfg0.grid.coords t)).Idx) :
    (win0_9.blk t).view.emb y 1 = y 1 := by
  have h1 : win0_9.index t 1 = 0 := (congrFun (idx t).2.2.2.2.2.2.2.2.2.1 1).trans rfl
  apply Fin.ext
  show win0_9.index t 1 * 2048 + 1 * (y 1).val = (y 1).val; rw [h1]; omega

theorem emb10 (t : Fin cfg0.N) (y : ((cfg0.win 10).xblock (cfg0.grid.coords t)).Idx) :
    (win0_10.blk t).view.emb y 1 = y 1 := by
  have h1 : win0_10.index t 1 = 0 := (congrFun (idx t).2.2.2.2.2.2.2.2.2.2 1).trans rfl
  apply Fin.ext
  show win0_10.index t 1 * 2048 + 1 * (y 1).val = (y 1).val; rw [h1]; omega

end Emb

section Final

/-- What a point adds to an accumulator of eight rows. -/
def pt (T : Fin 16384 → Fin 2048 → EReal) (n : ℕ) (j : S8x2048.Idx) : EReal :=
  if h : n < 64 then ∑ b : Fin 32, T (pos ⟨n, h⟩ ⟨8 * b.val + (j 0).val, by
        have h : (j 0).val < 8 := (j 0).isLt
        omega⟩) (j 1) else 0

theorem sum_all (T : Fin 16384 → Fin 2048 → EReal) (d : Fin 2048) :
    ∑ r : Fin 8, ∑ s : Fin 64, pt T s.val (ix2 r d) = ∑ l, T l d := by
  rw [Finset.sum_comm, ← sum_tiles (A := 64) (B := 256) (fun l => T l d) (by norm_num)]
  refine Finset.sum_congr rfl fun s _ => ?_
  rw [← sum_groups (A := 32) (L := 256) _ (by norm_num)]
  refine Finset.sum_congr rfl fun r _ => ?_
  rw [pt, dif_pos s.isLt]
  rfl

/-- What a point adds to the accumulator of the product. -/
def pt6 (T : Fin 16384 → EReal) (n : ℕ) : EReal := if h : n < 64 then ∑ r : Fin 256, T (pos ⟨n, h⟩ r) else 0

theorem sum_all6 (T : Fin 16384 → EReal) : ∑ s : Fin 64, pt6 T s.val = ∑ l, T l := by
  rw [← sum_tiles (A := 64) (B := 256) T (by norm_num)]
  refine Finset.sum_congr rfl fun s _ => ?_
  rw [pt6, dif_pos s.isLt]
  rfl

theorem zero4 (j) : k0_pay4 (F := Ideal) j = 0 := by pointwise [k0_pay4]

theorem zero5 (j) : k0_pay5 (F := Ideal) j = 0 := by pointwise [k0_pay5]

theorem zero6 (j) : k0_pay6 (F := Ideal) j = 0 := by pointwise [k0_pay6]

variable {m} {c : Dev nD} {DH : Fin 16384 → Fin 1024 → ℝ} {U Z : Fin 16384 → Fin 2048 → ℝ} {LW LB : Fin 2048 → ℝ}
  {W : Fin 2048 → Fin 1024 → ℝ}
  (h0 : ∀ l k, A0 m c (ix2 l k) = (DH l k : EReal)) (h1 : ∀ l k, A1 m c (ix2 l k) = (U l k : EReal))
  (h2 : ∀ l (k : Fin 2048), A2 m c (ix2 l ⟨4096 + k.val, Nat.add_lt_add_left k.isLt 4096⟩) = (Z l k : EReal))
  (h3 : ∀ k, A3 m c (ix2 0 k) = (LW k : EReal)) (h4 : ∀ k, A4 m c (ix2 0 k) = (LB k : EReal))
  (h5 : ∀ d k, A5 m c (ix2 d k) = (W d k : EReal))

theorem ix2_surj {a b : ℕ} (y : Shape.Idx ⟨2, ![a, b]⟩) : ∃ r d, y = ix2 r d := ⟨y 0, y 1, by funext i; fin_cases i <;> rfl⟩

include h0 h1 h2 h3 h4 h5

theorem out7_eq (t : Fin cfg0.N) (y) : (outsAt0 m c t.val t.isLt).2.1 y
    = REF7 DH U Z LW LB W (ix2 (pos t (y 0)) (y 1)) := by
  obtain ⟨r, d, rfl⟩ := ix2_surj y
  have key := p1 (U := fun r => U (pos t r)) (Z := fun r => Z (pos t r)) (LW := LW) (LB := LB) (W := W) (DH := fun r => DH (pos t r))
    (fun r k => (b1 m c t r k).trans (h1 _ _)) (fun r k => (b2 m c t r k).trans (h2 _ _)) (fun k => (b3 m c t k).trans (h3 _))
    (fun k => (b4 m c t k).trans (h4 _)) (fun d k => (b5 m c t d k).trans (h5 _ _)) (fun r k => (b0 m c t r k).trans (h0 _ _)) r d
  by_cases e0 : t.val % 64 = 0
  · rw [outsAt0_A m c t e0 (by omega)]; frame_out; exact key
  · by_cases e1 : t.val % 64 = 63
    · rw [outsAt0_C m c t e0 e1]; frame_out; exact key
    · rw [outsAt0_B m c t e0 e1]; frame_out; exact key

theorem out8_eq (t : Fin cfg0.N) (y) : (outsAt0 m c t.val t.isLt).2.2.1 y
    = REF8 DH U Z LW LB W (ix2 (pos t (y 0)) (y 1)) := by
  obtain ⟨r, d, rfl⟩ := ix2_surj y
  have key := p18 (U := fun r => U (pos t r)) (Z := fun r => Z (pos t r)) (LW := LW) (LB := LB) (W := W) (DH := fun r => DH (pos t r))
    (fun r k => (b1 m c t r k).trans (h1 _ _)) (fun r k => (b2 m c t r k).trans (h2 _ _)) (fun k => (b3 m c t k).trans (h3 _))
    (fun k => (b4 m c t k).trans (h4 _)) (fun d k => (b5 m c t d k).trans (h5 _ _)) (fun r k => (b0 m c t r k).trans (h0 _ _)) r d
  by_cases e0 : t.val % 64 = 0
  · rw [outsAt0_A m c t e0 (by omega)]; frame_out; exact key
  · by_cases e1 : t.val % 64 = 63
    · rw [outsAt0_C m c t e0 e1]; frame_out; exact key
    · rw [outsAt0_B m c t e0 e1]; frame_out; exact key

theorem step6 (t : Fin cfg0.N) (acc : FVec Ideal S2048x1024 .f32) (y : S2048x1024.Idx) :
    k0_pay16 (F := Ideal) (k0_pay11 (iblk m c 2 t)) (k0_pay12 (iblk m c 1 t) (iblk m c 3 t) (iblk m c 4 t)) (k0_pay13 (iblk m c 2 t))
      (iblk m c 0 t) acc y = acc y + pt6 (fun l => T6 DH U Z LW LB l (y 0) (y 1)) t.val := by
  obtain ⟨d, k, rfl⟩ := ix2_surj y
  rw [p16 (U := fun r => U (pos t r)) (Z := fun r => Z (pos t r)) (LW := LW) (LB := LB) (DH := fun r => DH (pos t r))
    (fun r k => (b1 m c t r k).trans (h1 _ _)) (fun r k => (b2 m c t r k).trans (h2 _ _)) (fun k => (b3 m c t k).trans (h3 _))
    (fun k => (b4 m c t k).trans (h4 _)) (fun r k => (b0 m c t r k).trans (h0 _ _)), coe_sum, pt6, dif_pos (show t.val < 64 from t.isLt)]
  rfl

theorem step9 (t : Fin cfg0.N) (acc : FVec Ideal S8x2048 .f32) (y : S8x2048.Idx) :
    k0_pay24 (F := Ideal) acc
      (k0_pay22 (k0_pay9 (iblk m c 1 t)) (k0_pay10 (iblk m c 1 t) (iblk m c 3 t) (iblk m c 4 t))
        (k0_pay19 (k0_pay11 (iblk m c 2 t)) (k0_pay13 (iblk m c 2 t)) (iblk m c 0 t) (iblk m c 5 t))
        (k0_pay20 (k0_pay10 (iblk m c 1 t) (iblk m c 3 t) (iblk m c 4 t))))
      (k0_pay23 (k0_pay9 (iblk m c 1 t)) (k0_pay10 (iblk m c 1 t) (iblk m c 3 t) (iblk m c 4 t))
        (k0_pay19 (k0_pay11 (iblk m c 2 t)) (k0_pay13 (iblk m c 2 t)) (iblk m c 0 t) (iblk m c 5 t))
        (k0_pay20 (k0_pay10 (iblk m c 1 t) (iblk m c 3 t) (iblk m c 4 t)))) y
    = acc y + pt (T9 DH U Z LW LB W) t.val y := by
  rw [p24, pt, dif_pos (show t.val < 64 from t.isLt)]
  exact congrArg _ (Finset.sum_congr rfl fun b _ => p22 (U := fun r => U (pos t r)) (Z := fun r => Z (pos t r)) (LW := LW) (LB := LB) (W := W) (DH := fun r => DH (pos t r))
    (fun r k => (b1 m c t r k).trans (h1 _ _)) (fun r k => (b2 m c t r k).trans (h2 _ _)) (fun k => (b3 m c t k).trans (h3 _))
    (fun k => (b4 m c t k).trans (h4 _)) (fun d k => (b5 m c t d k).trans (h5 _ _)) (fun r k => (b0 m c t r k).trans (h0 _ _)) _ _)

theorem step10 (t : Fin cfg0.N) (acc : FVec Ideal S8x2048 .f32) (y : S8x2048.Idx) :
    k0_pay27 (F := Ideal)
      (k0_pay21 (k0_pay10 (iblk m c 1 t) (iblk m c 3 t) (iblk m c 4 t))
        (k0_pay19 (k0_pay11 (iblk m c 2 t)) (k0_pay13 (iblk m c 2 t)) (iblk m c 0 t) (iblk m c 5 t))
        (k0_pay20 (k0_pay10 (iblk m c 1 t) (iblk m c 3 t) (iblk m c 4 t)))) acc
      (k0_pay25 (k0_pay21 (k0_pay10 (iblk m c 1 t) (iblk m c 3 t) (iblk m c 4 t))
        (k0_pay19 (k0_pay11 (iblk m c 2 t)) (k0_pay13 (iblk m c 2 t)) (iblk m c 0 t) (iblk m c 5 t))
        (k0_pay20 (k0_pay10 (iblk m c 1 t) (iblk m c 3 t) (iblk m c 4 t)))))
      (k0_pay26 (k0_pay21 (k0_pay10 (iblk m c 1 t) (iblk m c 3 t) (iblk m c 4 t))
        (k0_pay19 (k0_pay11 (iblk m c 2 t)) (k0_pay13 (iblk m c 2 t)) (iblk m c 0 t) (iblk m c 5 t))
        (k0_pay20 (k0_pay10 (iblk m c 1 t) (iblk m c 3 t) (iblk m c 4 t))))) y
    = acc y + pt (T10 DH U Z LW LB W) t.val y := by
  rw [p27, pt, dif_pos (show t.val < 64 from t.isLt)]
  exact congrArg _ (Finset.sum_congr rfl fun b _ => p21 (U := fun r => U (pos t r)) (Z := fun r => Z (pos t r)) (LW := LW) (LB := LB) (W := W) (DH := fun r => DH (pos t r))
    (fun r k => (b1 m c t r k).trans (h1 _ _)) (fun r k => (b2 m c t r k).trans (h2 _ _)) (fun k => (b3 m c t k).trans (h3 _))
    (fun k => (b4 m c t k).trans (h4 _)) (fun d k => (b5 m c t d k).trans (h5 _ _)) (fun r k => (b0 m c t r k).trans (h0 _ _)) _ _)

theorem acc6 (t : Fin cfg0.N) (h : t.val % 64 = 63) (j : S2048x1024.Idx) :
    (outsAt0 m c t.val t.isLt).1 j = ∑ s : Fin 64, pt6 (fun l => T6 DH U Z LW LB l (j 0) (j 1)) s.val := by
  rw [Pipeline.eq_sum_of_reset_step_apply_single_of_mod (fun n h => (outsAt0 m c n h).1) 64 (fun _ => 0)
    (fun n (j : S2048x1024.Idx) => pt6 (fun l => T6 DH U Z LW LB l (j 0) (j 1)) n)
    (fun t h j => by rw [outsAt0_A m c t h (by omega)]; frame_out; exact (step6 h0 h1 h2 h3 h4 h5 t _ j).trans (by rw [zero6]))
    (fun t h j => by
      by_cases e1 : t.val % 64 = 63
      · rw [outsAt0_C m c t h e1]; frame_out; exact step6 h0 h1 h2 h3 h4 h5 t _ j
      · rw [outsAt0_B m c t h e1]; frame_out; exact step6 h0 h1 h2 h3 h4 h5 t _ j)
    (by decide) t h j, zero_add, Finset.sum_range]

theorem acc9 (t : Fin cfg0.N) (h : t.val % 64 = 63) (j) :
    (outsAt0 m c t.val t.isLt).2.2.2.2.2.1 j = ∑ s : Fin 64, pt (T9 DH U Z LW LB W) s.val j := by
  rw [Pipeline.eq_sum_of_reset_step_apply_single_of_mod (fun n h => (outsAt0 m c n h).2.2.2.2.2.1) 64 (fun _ => 0)
    (pt (T9 DH U Z LW LB W))
    (fun t h j => by rw [outsAt0_A m c t h (by omega)]; frame_out; exact (step9 h0 h1 h2 h3 h4 h5 t _ j).trans (by rw [zero4]))
    (fun t h j => by
      by_cases e1 : t.val % 64 = 63
      · rw [outsAt0_C m c t h e1]; frame_out; rw [read_unread_whole]; exact step9 h0 h1 h2 h3 h4 h5 t _ j
      · rw [outsAt0_B m c t h e1]; frame_out; rw [read_unread_whole]; exact step9 h0 h1 h2 h3 h4 h5 t _ j)
    (by decide) t h j, zero_add, Finset.sum_range]

theorem acc10 (t : Fin cfg0.N) (h : t.val % 64 = 63) (j) :
    (outsAt0 m c t.val t.isLt).2.2.2.2.2.2 j = ∑ s : Fin 64, pt (T10 DH U Z LW LB W) s.val j := by
  rw [Pipeline.eq_sum_of_reset_step_apply_single_of_mod (fun n h => (outsAt0 m c n h).2.2.2.2.2.2) 64 (fun _ => 0)
    (pt (T10 DH U Z LW LB W))
    (fun t h j => by rw [outsAt0_A m c t h (by omega)]; frame_out; exact (step10 h0 h1 h2 h3 h4 h5 t _ j).trans (by rw [zero5]))
    (fun t h j => by
      by_cases e1 : t.val % 64 = 63
      · rw [outsAt0_C m c t h e1]; frame_out; rw [read_unread_whole]; exact step10 h0 h1 h2 h3 h4 h5 t _ j
      · rw [outsAt0_B m c t h e1]; frame_out; rw [read_unread_whole]; exact step10 h0 h1 h2 h3 h4 h5 t _ j)
    (by decide) t h j, zero_add, Finset.sum_range]

omit h0 h1 h2 h3 h4 h5 in
theorem out9_eq (t : Fin cfg0.N) (h : t.val % 64 = 63) (y) :
    (outsAt0 m c t.val t.isLt).2.2.2.1 y = ∑ r : Fin 8, (outsAt0 m c t.val t.isLt).2.2.2.2.2.1 (ix2 r (y 1)) := by
  rw [outsAt0_C m c t (by omega) h]; frame_out; pointwise [k0_pay2]

omit h0 h1 h2 h3 h4 h5 in
theorem out10_eq (t : Fin cfg0.N) (h : t.val % 64 = 63) (y) :
    (outsAt0 m c t.val t.isLt).2.2.2.2.1 y = ∑ r : Fin 8, (outsAt0 m c t.val t.isLt).2.2.2.2.2.2 (ix2 r (y 1)) := by
  rw [outsAt0_C m c t (by omega) h]; frame_out; pointwise [k0_pay3]

theorem final6 : Value.G6 m c = REF6 DH U Z LW LB := by
  refine (Value.final6 m c).symm.trans ?_
  refine (dats m 0 c).arrAt_eq_of_covers 6 _ (by decide +kernel) fun t hf y => ?_
  blk_simp
  rw [after0_6, acc6 h0 h1 h2 h3 h4 h5 t ((flush0_6 t).mp hf), sum_all6]
  exact (show _ = REF6 DH U Z LW LB (ix2 (y 0) (y 1)) from rfl).trans (congrArg _ (emb6 t y).symm)

theorem final7 : Value.G7 m c = REF7 DH U Z LW LB W := by
  refine (Value.final7 m c).symm.trans ?_
  refine (dats m 0 c).arrAt_eq_of_covers 7 _ (by decide +kernel) fun t hf y => ?_
  blk_simp
  rw [after0_7, out7_eq h0 h1 h2 h3 h4 h5]
  exact congrArg _ (emb7 t y).symm

theorem final8 : Value.G8 m c = REF8 DH U Z LW LB W := by
  refine (Value.final8 m c).symm.trans ?_
  refine (dats m 0 c).arrAt_eq_of_covers 8 _ (by decide +kernel) fun t hf y => ?_
  blk_simp
  rw [after0_8, out8_eq h0 h1 h2 h3 h4 h5]
  exact congrArg _ (emb8 t y).symm

theorem final9 : Value.G9 m c = REF9 DH U Z LW LB W := by
  refine (Value.final9 m c).symm.trans ?_
  refine (dats m 0 c).arrAt_eq_of_covers 9 _ (by decide +kernel) fun t hf y => ?_
  blk_simp
  rw [after0_9, out9_eq t ((flush0_9 t).mp hf)]
  simp only [acc9 h0 h1 h2 h3 h4 h5 t ((flush0_9 t).mp hf)]
  exact (sum_all _ _).trans (by rw [REF9, emb9])

theorem final10 : Value.G10 m c = REF10 DH U Z LW LB W := by
  refine (Value.final10 m c).symm.trans ?_
  refine (dats m 0 c).arrAt_eq_of_covers 10 _ (by decide +kernel) fun t hf y => ?_
  blk_simp
  rw [after0_10, out10_eq t ((flush0_10 t).mp hf)]
  simp only [acc10 h0 h1 h2 h3 h4 h5 t ((flush0_10 t).mp hf)]
  exact (sum_all _ _).trans (by rw [REF10, emb10])

end Final

section Claim

variable [Cert.Pre_conf_out_finite.Facts]

/-- The precondition on real numbers: the arrays the kernel reads hold no infinity. -/
theorem pre_real (m) (h : Cert.Pre_ConfOutIdeal_conf_out_finite m) (c : Dev nD) :
    (∃ DH : Fin 16384 → Fin 1024 → ℝ, ∀ l k, A0 m c (ix2 l k) = (DH l k : EReal))
    ∧ (∃ U : Fin 16384 → Fin 2048 → ℝ, ∀ l k, A1 m c (ix2 l k) = (U l k : EReal))
    ∧ (∃ Z : Fin 16384 → Fin 2048 → ℝ, ∀ l (k : Fin 2048), A2 m c (ix2 l ⟨4096 + k.val, Nat.add_lt_add_left k.isLt 4096⟩) = (Z l k : EReal))
    ∧ (∃ LW : Fin 2048 → ℝ, ∀ k, A3 m c (ix2 0 k) = (LW k : EReal))
    ∧ (∃ LB : Fin 2048 → ℝ, ∀ k, A4 m c (ix2 0 k) = (LB k : EReal))
    ∧ (∃ W : Fin 2048 → Fin 1024 → ℝ, ∀ d k, A5 m c (ix2 d k) = (W d k : EReal)) := by
  have h := congrFun (h c) ix0
  unfold Cert.Pre_conf_out_finite.fn Cert.Pre_conf_out_finite.fn_part1 at h
  obtain ⟨h, g5⟩ := andi_one h
  obtain ⟨h, g4⟩ := andi_one h
  obtain ⟨h, g3⟩ := andi_one h
  obtain ⟨h, g2⟩ := andi_one h
  obtain ⟨g0, g1⟩ := andi_one h
  have f0 := fin_of _ _ _ _ _ g0
  have f1 := fin_of _ _ _ _ _ g1
  have f2 := fin_of _ _ _ _ _ g2
  have f3 := fin_of _ _ _ _ _ g3
  have f4 := fin_of _ _ _ _ _ g4
  have f5 := fin_of _ _ _ _ _ g5
  choose r0 e0 using f0
  choose r1 e1 using f1
  choose r2 e2 using f2
  choose r3 e3 using f3
  choose r4 e4 using f4
  choose r5 e5 using f5
  refine ⟨⟨fun l k => r0 (ix2 l k), fun l k => e0 _⟩, ⟨fun l k => r1 (ix2 l k), fun l k => e1 _⟩,
    ⟨fun l k => r2 (ix2 l k), fun l k => Eq.trans ?_ (e2 (ix2 l k))⟩, ⟨fun k => r3 (ix2 0 k), fun k => e3 _⟩,
    ⟨fun k => r4 (ix2 0 k), fun k => e4 _⟩, ⟨fun d k => r5 (ix2 d k), fun d k => e5 _⟩⟩
  pointwise

theorem algebraic : Cert.algebraic_ConfOutIdeal_ConfOutRefIdeal_pre_conf_out_finite :=
  fun m ρ m' ρ' hp hag => ⟨fun c => Value.G6 m c, fun c => Value.G7 m c, fun c => Value.G8 m c, fun c => Value.G9 m c, fun c => Value.G10 m c,
    (θ_run _ _ _).mono (fun _ h c => h c) (Value.run m ρ),
    (θ_run _ _ _).mono (fun _ h c => by
      obtain ⟨h0, h1, h2, h3, h4, hk⟩ := h c
      obtain ⟨a0, a1, a2, a3, a4, a5⟩ := hag c
      obtain ⟨⟨DH, k0⟩, ⟨U, k1⟩, ⟨Z, k2⟩, ⟨LW, k3⟩, ⟨LB, k4⟩, ⟨W, k5⟩⟩ := pre_real m hp c
      have b0 : ∀ l k, Cert.ConfOutRefIdeal.Hand.w_arg0 m' c (ix2 l k) = (DH l k : EReal) := fun l k => (congrFun a0 _).trans (k0 l k)
      have b1 : ∀ l k, Cert.ConfOutRefIdeal.Hand.w_arg1 m' c (ix2 l k) = (U l k : EReal) := fun l k => (congrFun a1 _).trans (k1 l k)
      have b2 : ∀ l (k : Fin 2048), Cert.ConfOutRefIdeal.Hand.w_arg2 m' c (ix2 l ⟨4096 + k.val, Nat.add_lt_add_left k.isLt 4096⟩) = (Z l k : EReal) :=
        fun l k => (congrFun a2 _).trans (k2 l k)
      have b3 : ∀ k, Cert.ConfOutRefIdeal.Hand.w_arg3 m' c (ix2 0 k) = (LW k : EReal) := fun k => (congrFun a3 _).trans (k3 k)
      have b4 : ∀ k, Cert.ConfOutRefIdeal.Hand.w_arg4 m' c (ix2 0 k) = (LB k : EReal) := fun k => (congrFun a4 _).trans (k4 k)
      have b5 : ∀ d k, Cert.ConfOutRefIdeal.Hand.w_arg5 m' c (ix2 d k) = (W d k : EReal) := fun d k => (congrFun a5 _).trans (k5 d k)
      exact ⟨h0.trans ((Cert.ConfOutRefIdeal.Hand.ref6 b0 b1 b2 b3 b4 b5).trans (final6 k0 k1 k2 k3 k4 k5).symm),
        h1.trans ((Cert.ConfOutRefIdeal.Hand.ref7 b0 b1 b2 b3 b4 b5).trans (final7 k0 k1 k2 k3 k4 k5).symm),
        h2.trans ((Cert.ConfOutRefIdeal.Hand.ref8 b0 b1 b2 b3 b4 b5).trans (final8 k0 k1 k2 k3 k4 k5).symm),
        h3.trans ((Cert.ConfOutRefIdeal.Hand.ref9 b0 b1 b2 b3 b4 b5).trans (final9 k0 k1 k2 k3 k4 k5).symm),
        h4.trans ((Cert.ConfOutRefIdeal.Hand.ref10 b0 b1 b2 b3 b4 b5).trans (final10 k0 k1 k2 k3 k4 k5).symm), hk⟩)
      (Cert.ConfOutRefIdeal.Hand.run m' ρ')⟩

end Claim

end Cert.ConfOutIdeal.Hand

end
-- ==== Proof.SsdOutRef.lean ====
module

public import proofs.«01_k».proof.Proof.Gen.SsdOutRefIdeal
public import proofs.«01_k».proof.Proof.Ssa
public import proofs.«01_k».proof.Proof.Common

@[expose] public section

set_option maxRecDepth 16384

noncomputable section

/-! The run of the reference `SsdOutRefIdeal`: its host operations, what each of their buffers holds at the end, and
the execution that ends there. -/

namespace Cert.SsdOutRefIdeal.Hand

open Cert.SsdOutRefIdeal Cert.SsdOutRefIdeal.Gen Cert.Ssa Idealize.ShloMosaic Idealize.ShloMosaic.TcCoe Idealize.SL.Sem Idealize.ShloMosaic.StableHlo

/-- The operations of the program, in order. -/
abbrev ops : List (HloOp τ sig (Elt Ideal)) :=
  [ unary main_arg4 main_v0 ((extractStridedSlice S16384x2048 ![0, 0] · slices_S16384x5248_S16384x2048_0_0) : FVec Ideal S16384x5248 .bf16 → FVec Ideal S16384x2048 .bf16),
    unary main_arg7 main_v1 ((extf .f32 · bitsLt_bf16_f32) : FVec Ideal S2048x1024 .bf16 → FVec Ideal S2048x1024 .f32),
    binary main_arg1 main_arg2 main_v2 ((addf) : FVec Ideal S16384x2048 .f32 → FVec Ideal S16384x2048 .f32 → FVec Ideal S16384x2048 .f32),
    unary main_v0 main_v3 ((extf .f32 · bitsLt_bf16_f32) : FVec Ideal S16384x2048 .bf16 → FVec Ideal S16384x2048 .f32),
    unary main_arg3 main_v4 ((extractStridedSlice S16384x2048 ![0, 0] · slices_S16384x3072_S16384x2048_0_0) : FVec Ideal S16384x3072 .bf16 → FVec Ideal S16384x2048 .bf16),
    unary main_v4 main_v5 ((extf .f32 · bitsLt_bf16_f32) : FVec Ideal S16384x2048 .bf16 → FVec Ideal S16384x2048 .f32),
    unary main_v5 main_call0_v0 (Host.negf : FVec Ideal S16384x2048 .f32 → FVec Ideal S16384x2048 .f32),
    unary main_call0_v0 main_call0_v1 (Host.exp : FVec Ideal S16384x2048 .f32 → FVec Ideal S16384x2048 .f32),
    nullary main_call0_cst ((constant S_ .f32 0x3F800000#32) : FVec Ideal S_ .f32),
    unary main_call0_cst main_call0_v2 ((broadcastInDim S16384x2048 ![] bcast_S_S16384x2048) : FVec Ideal S_ .f32 → FVec Ideal S16384x2048 .f32),
    binary main_call0_v2 main_call0_v1 main_call0_v3 (addf : FVec Ideal S16384x2048 .f32 → FVec Ideal S16384x2048 .f32 → FVec Ideal S16384x2048 .f32),
    nullary main_call0_cst_0 ((constant S_ .f32 0x3F800000#32) : FVec Ideal S_ .f32),
    unary main_call0_cst_0 main_call0_v4 ((broadcastInDim S16384x2048 ![] bcast_S_S16384x2048) : FVec Ideal S_ .f32 → FVec Ideal S16384x2048 .f32),
    binary main_call0_v4 main_call0_v3 main_call0_v5 (Host.divf : FVec Ideal S16384x2048 .f32 → FVec Ideal S16384x2048 .f32 → FVec Ideal S16384x2048 .f32),
    binary main_v5 main_call0_v5 main_v6 (mulf : FVec Ideal S16384x2048 .f32 → FVec Ideal S16384x2048 .f32 → FVec Ideal S16384x2048 .f32),
    unary main_arg5 main_v7 ((broadcastInDim S16384x2048 ![0, 1] bcast_S1x2048_S16384x2048_0_1) : FVec Ideal S1x2048 .f32 → FVec Ideal S16384x2048 .f32),
    binary main_v6 main_v7 main_v8 ((mulf) : FVec Ideal S16384x2048 .f32 → FVec Ideal S16384x2048 .f32 → FVec Ideal S16384x2048 .f32),
    binary main_v2 main_v8 main_v9 ((addf) : FVec Ideal S16384x2048 .f32 → FVec Ideal S16384x2048 .f32 → FVec Ideal S16384x2048 .f32),
    unary main_v3 main_call1_v0 (Host.negf : FVec Ideal S16384x2048 .f32 → FVec Ideal S16384x2048 .f32),
    unary main_call1_v0 main_call1_v1 (Host.exp : FVec Ideal S16384x2048 .f32 → FVec Ideal S16384x2048 .f32),
    nullary main_call1_cst ((constant S_ .f32 0x3F800000#32) : FVec Ideal S_ .f32),
    unary main_call1_cst main_call1_v2 ((broadcastInDim S16384x2048 ![] bcast_S_S16384x2048) : FVec Ideal S_ .f32 → FVec Ideal S16384x2048 .f32),
    binary main_call1_v2 main_call1_v1 main_call1_v3 (addf : FVec Ideal S16384x2048 .f32 → FVec Ideal S16384x2048 .f32 → FVec Ideal S16384x2048 .f32),
    nullary main_call1_cst_0 ((constant S_ .f32 0x3F800000#32) : FVec Ideal S_ .f32),
    unary main_call1_cst_0 main_call1_v4 ((broadcastInDim S16384x2048 ![] bcast_S_S16384x2048) : FVec Ideal S_ .f32 → FVec Ideal S16384x2048 .f32),
    binary main_call1_v4 main_call1_v3 main_v10_2 (Host.divf : FVec Ideal S16384x2048 .f32 → FVec Ideal S16384x2048 .f32 → FVec Ideal S16384x2048 .f32),
    nullary main_call1_cst_1 ((constant S_ .f32 0x3F800000#32) : FVec Ideal S_ .f32),
    unary main_call1_cst_1 main_call1_v6 ((broadcastInDim S16384x2048 ![] bcast_S_S16384x2048) : FVec Ideal S_ .f32 → FVec Ideal S16384x2048 .f32),
    binary main_call1_v6 main_v10_2 main_call1_v7 (subf : FVec Ideal S16384x2048 .f32 → FVec Ideal S16384x2048 .f32 → FVec Ideal S16384x2048 .f32),
    binary main_v10_2 main_call1_v7 main_v10_1 (mulf : FVec Ideal S16384x2048 .f32 → FVec Ideal S16384x2048 .f32 → FVec Ideal S16384x2048 .f32),
    binary main_v3 main_v10_2 main_v10_0 (mulf : FVec Ideal S16384x2048 .f32 → FVec Ideal S16384x2048 .f32 → FVec Ideal S16384x2048 .f32),
    binary main_v9 main_v10_0 main_v11 ((mulf) : FVec Ideal S16384x2048 .f32 → FVec Ideal S16384x2048 .f32 → FVec Ideal S16384x2048 .f32),
    binary main_v11 main_v11 main_v12 ((mulf) : FVec Ideal S16384x2048 .f32 → FVec Ideal S16384x2048 .f32 → FVec Ideal S16384x2048 .f32),
    nullary main_cst ((constant S_ .f32 0x00000000#32) : FVec Ideal S_ .f32),
    binary main_v12 main_cst main_v13 ((fun x v => Host.reduceAdd x v reducesTo_S16384x2048_S16384_d1 h_S_) : FVec Ideal S16384x2048 .f32 → FVec Ideal S_ .f32 → FVec Ideal S16384 .f32),
    unary main_v13 main_v14 ((broadcastInDim S16384x1 ![0] bcast_S16384_S16384x1_0) : FVec Ideal S16384 .f32 → FVec Ideal S16384x1 .f32),
    nullary main_cst_0 ((constant S_ .f32 0x45000000#32) : FVec Ideal S_ .f32),
    unary main_cst_0 main_v15 ((broadcastInDim S16384x1 ![] bcast_S_S16384x1) : FVec Ideal S_ .f32 → FVec Ideal S16384x1 .f32),
    binary main_v14 main_v15 main_v16 ((Host.divf) : FVec Ideal S16384x1 .f32 → FVec Ideal S16384x1 .f32 → FVec Ideal S16384x1 .f32),
    nullary main_cst_1 ((constant S_ .f32 0x3727C5AC#32) : FVec Ideal S_ .f32),
    unary main_cst_1 main_v17 ((broadcastInDim S16384x1 ![] bcast_S_S16384x1) : FVec Ideal S_ .f32 → FVec Ideal S16384x1 .f32),
    binary main_v16 main_v17 main_v18 ((addf) : FVec Ideal S16384x1 .f32 → FVec Ideal S16384x1 .f32 → FVec Ideal S16384x1 .f32),
    unary main_v18 main_v19 ((Host.rsqrt) : FVec Ideal S16384x1 .f32 → FVec Ideal S16384x1 .f32),
    binary main_v19 main_v18 main_v20 ((Host.divf) : FVec Ideal S16384x1 .f32 → FVec Ideal S16384x1 .f32 → FVec Ideal S16384x1 .f32),
    nullary main_cst_2 ((constant S_ .f32 0xBF000000#32) : FVec Ideal S_ .f32),
    unary main_cst_2 main_v21 ((broadcastInDim S16384x1 ![] bcast_S_S16384x1) : FVec Ideal S_ .f32 → FVec Ideal S16384x1 .f32),
    binary main_v21 main_v20 main_v22 ((mulf) : FVec Ideal S16384x1 .f32 → FVec Ideal S16384x1 .f32 → FVec Ideal S16384x1 .f32),
    unary main_v19 main_v23 ((broadcastInDim S16384x2048 ![0, 1] bcast_S16384x1_S16384x2048_0_1) : FVec Ideal S16384x1 .f32 → FVec Ideal S16384x2048 .f32),
    binary main_v11 main_v23 main_v24 ((mulf) : FVec Ideal S16384x2048 .f32 → FVec Ideal S16384x2048 .f32 → FVec Ideal S16384x2048 .f32),
    unary main_arg6 main_v25 ((broadcastInDim S16384x2048 ![0, 1] bcast_S1x2048_S16384x2048_0_1) : FVec Ideal S1x2048 .f32 → FVec Ideal S16384x2048 .f32),
    binary main_v24 main_v25 main_v26 ((mulf) : FVec Ideal S16384x2048 .f32 → FVec Ideal S16384x2048 .f32 → FVec Ideal S16384x2048 .f32),
    binary main_v26 main_v1 main_v27 ((fun l r => Host.dotGeneral dot_S16384x2048_S2048x1024_S16384x1024_1_0_0_1_n_n none l r) : FVec Ideal S16384x2048 .f32 → FVec Ideal S2048x1024 .f32 → FVec Ideal S16384x1024 .f32),
    binary main_arg0 main_v26 main_v28 ((fun l r => Host.dotGeneral dot_S16384x1024_S16384x2048_S1024x2048_0_0_1_1_n_n none l r) : FVec Ideal S16384x1024 .f32 → FVec Ideal S16384x2048 .f32 → FVec Ideal S1024x2048 .f32),
    unary main_v28 main_v29 ((transpose S2048x1024 [1, 0] · transposes_S1024x2048_S2048x1024_1_0) : FVec Ideal S1024x2048 .f32 → FVec Ideal S2048x1024 .f32),
    binary main_arg0 main_v1 main_v30 ((fun l r => Host.dotGeneral dot_S16384x1024_S2048x1024_S16384x2048_1_1_0_0_n_n none l r) : FVec Ideal S16384x1024 .f32 → FVec Ideal S2048x1024 .f32 → FVec Ideal S16384x2048 .f32),
    binary main_v24 main_v30 main_v31 ((mulf) : FVec Ideal S16384x2048 .f32 → FVec Ideal S16384x2048 .f32 → FVec Ideal S16384x2048 .f32),
    nullary main_cst_3 ((constant S_ .f32 0x00000000#32) : FVec Ideal S_ .f32),
    binary main_v31 main_cst_3 main_v32 ((fun x v => Host.reduceAdd x v reducesTo_S16384x2048_S2048_d0 h_S_) : FVec Ideal S16384x2048 .f32 → FVec Ideal S_ .f32 → FVec Ideal S2048 .f32),
    unary main_v32 main_v33 ((shapeCast S1x2048 · shapeCasts_S2048_S1x2048) : FVec Ideal S2048 .f32 → FVec Ideal S1x2048 .f32),
    unary main_arg6 main_v34 ((broadcastInDim S16384x2048 ![0, 1] bcast_S1x2048_S16384x2048_0_1) : FVec Ideal S1x2048 .f32 → FVec Ideal S16384x2048 .f32),
    binary main_v30 main_v34 main_v35 ((mulf) : FVec Ideal S16384x2048 .f32 → FVec Ideal S16384x2048 .f32 → FVec Ideal S16384x2048 .f32),
    binary main_v11 main_v35 main_v36 ((mulf) : FVec Ideal S16384x2048 .f32 → FVec Ideal S16384x2048 .f32 → FVec Ideal S16384x2048 .f32),
    nullary main_cst_4 ((constant S_ .f32 0x00000000#32) : FVec Ideal S_ .f32),
    binary main_v36 main_cst_4 main_v37 ((fun x v => Host.reduceAdd x v reducesTo_S16384x2048_S16384_d1 h_S_) : FVec Ideal S16384x2048 .f32 → FVec Ideal S_ .f32 → FVec Ideal S16384 .f32),
    unary main_v37 main_v38 ((shapeCast S16384x1 · shapeCasts_S16384_S16384x1) : FVec Ideal S16384 .f32 → FVec Ideal S16384x1 .f32),
    unary main_v19 main_v39 ((broadcastInDim S16384x2048 ![0, 1] bcast_S16384x1_S16384x2048_0_1) : FVec Ideal S16384x1 .f32 → FVec Ideal S16384x2048 .f32),
    binary main_v35 main_v39 main_v40 ((mulf) : FVec Ideal S16384x2048 .f32 → FVec Ideal S16384x2048 .f32 → FVec Ideal S16384x2048 .f32),
    binary main_v38 main_v22 main_v41 ((mulf) : FVec Ideal S16384x1 .f32 → FVec Ideal S16384x1 .f32 → FVec Ideal S16384x1 .f32),
    nullary main_cst_5 ((constant S_ .f32 0x45000000#32) : FVec Ideal S_ .f32),
    unary main_cst_5 main_v42 ((broadcastInDim S16384x1 ![] bcast_S_S16384x1) : FVec Ideal S_ .f32 → FVec Ideal S16384x1 .f32),
    binary main_v41 main_v42 main_v43 ((Host.divf) : FVec Ideal S16384x1 .f32 → FVec Ideal S16384x1 .f32 → FVec Ideal S16384x1 .f32),
    nullary main_cst_6 ((constant S_ .f32 0x00000000#32) : FVec Ideal S_ .f32),
    binary main_v43 main_cst_6 main_v44 ((fun x v => Host.reduceAdd x v reducesTo_S16384x1_S16384_d1 h_S_) : FVec Ideal S16384x1 .f32 → FVec Ideal S_ .f32 → FVec Ideal S16384 .f32),
    unary main_v44 main_v45 ((broadcastInDim S16384x2048 ![0] bcast_S16384_S16384x2048_0) : FVec Ideal S16384 .f32 → FVec Ideal S16384x2048 .f32),
    binary main_v11 main_v45 main_v46 ((mulf) : FVec Ideal S16384x2048 .f32 → FVec Ideal S16384x2048 .f32 → FVec Ideal S16384x2048 .f32),
    binary main_v40 main_v46 main_v47 ((addf) : FVec Ideal S16384x2048 .f32 → FVec Ideal S16384x2048 .f32 → FVec Ideal S16384x2048 .f32),
    binary main_v45 main_v11 main_v48 ((mulf) : FVec Ideal S16384x2048 .f32 → FVec Ideal S16384x2048 .f32 → FVec Ideal S16384x2048 .f32),
    binary main_v47 main_v48 main_v49 ((addf) : FVec Ideal S16384x2048 .f32 → FVec Ideal S16384x2048 .f32 → FVec Ideal S16384x2048 .f32),
    binary main_v9 main_v49 main_v50 ((mulf) : FVec Ideal S16384x2048 .f32 → FVec Ideal S16384x2048 .f32 → FVec Ideal S16384x2048 .f32),
    binary main_v49 main_v10_0 main_v51 ((mulf) : FVec Ideal S16384x2048 .f32 → FVec Ideal S16384x2048 .f32 → FVec Ideal S16384x2048 .f32),
    binary main_v3 main_v50 main_call2_v0 (mulf : FVec Ideal S16384x2048 .f32 → FVec Ideal S16384x2048 .f32 → FVec Ideal S16384x2048 .f32),
    binary main_v50 main_v10_2 main_call2_v1 (mulf : FVec Ideal S16384x2048 .f32 → FVec Ideal S16384x2048 .f32 → FVec Ideal S16384x2048 .f32),
    binary main_call2_v0 main_v10_1 main_call2_v2 (mulf : FVec Ideal S16384x2048 .f32 → FVec Ideal S16384x2048 .f32 → FVec Ideal S16384x2048 .f32),
    binary main_call2_v1 main_call2_v2 main_v52 (addf : FVec Ideal S16384x2048 .f32 → FVec Ideal S16384x2048 .f32 → FVec Ideal S16384x2048 .f32),
    binary main_v6 main_v51 main_v53 ((mulf) : FVec Ideal S16384x2048 .f32 → FVec Ideal S16384x2048 .f32 → FVec Ideal S16384x2048 .f32),
    nullary main_cst_7 ((constant S_ .f32 0x00000000#32) : FVec Ideal S_ .f32),
    binary main_v53 main_cst_7 main_v54 ((fun x v => Host.reduceAdd x v reducesTo_S16384x2048_S2048_d0 h_S_) : FVec Ideal S16384x2048 .f32 → FVec Ideal S_ .f32 → FVec Ideal S2048 .f32),
    unary main_v54 main_v55 ((shapeCast S1x2048 · shapeCasts_S2048_S1x2048) : FVec Ideal S2048 .f32 → FVec Ideal S1x2048 .f32),
    unary main_v51 main_v56 ((truncf .bf16 · bitsLt_bf16_f32) : FVec Ideal S16384x2048 .f32 → FVec Ideal S16384x2048 .bf16),
    unary main_v52 main_v57 ((truncf .bf16 · bitsLt_bf16_f32) : FVec Ideal S16384x2048 .f32 → FVec Ideal S16384x2048 .bf16) ]

/-- The buffers that the operations write, in order. -/
abbrev WL : List (Ref sig .tc) := [main_v0, main_v1, main_v2, main_v3, main_v4, main_v5, main_call0_v0, main_call0_v1, main_call0_cst, main_call0_v2, main_call0_v3, main_call0_cst_0, main_call0_v4, main_call0_v5, main_v6, main_v7, main_v8, main_v9, main_call1_v0, main_call1_v1, main_call1_cst, main_call1_v2, main_call1_v3, main_call1_cst_0, main_call1_v4, main_v10_2, main_call1_cst_1, main_call1_v6, main_call1_v7, main_v10_1, main_v10_0, main_v11, main_v12, main_cst, main_v13, main_v14, main_cst_0, main_v15, main_v16, main_cst_1, main_v17, main_v18, main_v19, main_v20, main_cst_2, main_v21, main_v22, main_v23, main_v24, main_v25, main_v26, main_v27, main_v28, main_v29, main_v30, main_v31, main_cst_3, main_v32, main_v33, main_v34, main_v35, main_v36, main_cst_4, main_v37, main_v38, main_v39, main_v40, main_v41, main_cst_5, main_v42, main_v43, main_cst_6, main_v44, main_v45, main_v46, main_v47, main_v48, main_v49, main_v50, main_v51, main_call2_v0, main_call2_v1, main_call2_v2, main_v52, main_v53, main_cst_7, main_v54, main_v55, main_v56, main_v57]

theorem hWL : ops.map HloOp.writes = WL.map fun w => {Proc.devRef (τ := τ) .tc w} := rfl

set_option maxHeartbeats 4000000 in
theorem main_eq (c : Dev nD) : main (F := Ideal) c = seq ops := rfl

theorem scopedRefs_eq : (Finset.univ.filter fun b : Ref sig .tc => b.isScoped) = ∅ := by decide

theorem scopedSems_eq : (Finset.univ.filter fun sm : SemLoc sig => sm.isScoped .tc) = ∅ := by decide

theorem ops_sub : ops.Forall fun op => op.bufs ⊆ tcRefs τ sig :=
  ⟨unary_bufs_sub .., unary_bufs_sub .., binary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., binary_bufs_sub .., binary_bufs_sub .., unary_bufs_sub .., binary_bufs_sub .., binary_bufs_sub .., nullary_bufs_sub .., binary_bufs_sub .., unary_bufs_sub .., unary_bufs_sub .., binary_bufs_sub .., binary_bufs_sub .., nullary_bufs_sub .., binary_bufs_sub .., unary_bufs_sub .., unary_bufs_sub .., binary_bufs_sub .., binary_bufs_sub .., nullary_bufs_sub .., unary_bufs_sub .., binary_bufs_sub .., nullary_bufs_sub .., binary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., nullary_bufs_sub .., binary_bufs_sub .., unary_bufs_sub .., unary_bufs_sub .., unary_bufs_sub ..⟩

variable (m : (ℓ : Loc nD τ sig) → Buf (Elt Ideal) ℓ) (c : Dev nD)

/-- What the buffers hold after the operations. -/
abbrev R (r : Ref sig .tc) : r.ty.Contents (Elt Ideal) := after ops (launchContents m c) (Proc.devRef .tc r)

/-- Argument 0. -/
abbrev w_arg0 : FVec Ideal S16384x1024 .f32 := m ((c.tc : Thread nD τ).loc main_arg0)

theorem r_arg0 : R m c main_arg0 = m ((c.tc : Thread nD τ).loc main_arg0) := after_unwritten WL hWL (by decide) _

/-- Argument 1. -/
abbrev w_arg1 : FVec Ideal S16384x2048 .f32 := m ((c.tc : Thread nD τ).loc main_arg1)

theorem r_arg1 : R m c main_arg1 = m ((c.tc : Thread nD τ).loc main_arg1) := after_unwritten WL hWL (by decide) _

/-- Argument 2. -/
abbrev w_arg2 : FVec Ideal S16384x2048 .f32 := m ((c.tc : Thread nD τ).loc main_arg2)

theorem r_arg2 : R m c main_arg2 = m ((c.tc : Thread nD τ).loc main_arg2) := after_unwritten WL hWL (by decide) _

/-- Argument 3. -/
abbrev w_arg3 : FVec Ideal S16384x3072 .bf16 := m ((c.tc : Thread nD τ).loc main_arg3)

theorem r_arg3 : R m c main_arg3 = m ((c.tc : Thread nD τ).loc main_arg3) := after_unwritten WL hWL (by decide) _

/-- Argument 4. -/
abbrev w_arg4 : FVec Ideal S16384x5248 .bf16 := m ((c.tc : Thread nD τ).loc main_arg4)

theorem r_arg4 : R m c main_arg4 = m ((c.tc : Thread nD τ).loc main_arg4) := after_unwritten WL hWL (by decide) _

/-- Argument 5. -/
abbrev w_arg5 : FVec Ideal S1x2048 .f32 := m ((c.tc : Thread nD τ).loc main_arg5)

theorem r_arg5 : R m c main_arg5 = m ((c.tc : Thread nD τ).loc main_arg5) := after_unwritten WL hWL (by decide) _

/-- Argument 6. -/
abbrev w_arg6 : FVec Ideal S1x2048 .f32 := m ((c.tc : Thread nD τ).loc main_arg6)

theorem r_arg6 : R m c main_arg6 = m ((c.tc : Thread nD τ).loc main_arg6) := after_unwritten WL hWL (by decide) _

/-- Argument 7. -/
abbrev w_arg7 : FVec Ideal S2048x1024 .bf16 := m ((c.tc : Thread nD τ).loc main_arg7)

theorem r_arg7 : R m c main_arg7 = m ((c.tc : Thread nD τ).loc main_arg7) := after_unwritten WL hWL (by decide) _

/-- The value of its operation. -/
def w_v0 (m : (ℓ : Loc nD τ sig) → Buf (Elt Ideal) ℓ) (c : Dev nD) : FVec Ideal S16384x2048 .bf16 := (((extractStridedSlice S16384x2048 ![0, 0] · slices_S16384x5248_S16384x2048_0_0) : FVec Ideal S16384x5248 .bf16 → FVec Ideal S16384x2048 .bf16) (w_arg4 m c))

theorem r_v0 : R m c main_v0 = w_v0 m c := read_unary hWL 0 rfl (by decide) (by decide) (r_arg4 m c)

/-- The value of its operation. -/
def w_v1 (m : (ℓ : Loc nD τ sig) → Buf (Elt Ideal) ℓ) (c : Dev nD) : FVec Ideal S2048x1024 .f32 := (((extf .f32 · bitsLt_bf16_f32) : FVec Ideal S2048x1024 .bf16 → FVec Ideal S2048x1024 .f32) (w_arg7 m c))

theorem r_v1 : R m c main_v1 = w_v1 m c := read_unary hWL 1 rfl (by decide) (by decide) (r_arg7 m c)

/-- The value of its operation. -/
def w_v2 (m : (ℓ : Loc nD τ sig) → Buf (Elt Ideal) ℓ) (c : Dev nD) : FVec Ideal S16384x2048 .f32 := (((addf) : FVec Ideal S16384x2048 .f32 → FVec Ideal S16384x2048 .f32 → FVec Ideal S16384x2048 .f32) (w_arg1 m c) (w_arg2 m c))

theorem r_v2 : R m c main_v2 = w_v2 m c := read_binary hWL 2 rfl (by decide) (by decide) (by decide) (r_arg1 m c) (r_arg2 m c)

/-- The value of its operation. -/
def w_v3 (m : (ℓ : Loc nD τ sig) → Buf (Elt Ideal) ℓ) (c : Dev nD) : FVec Ideal S16384x2048 .f32 := (((extf .f32 · bitsLt_bf16_f32) : FVec Ideal S16384x2048 .bf16 → FVec Ideal S16384x2048 .f32) (w_v0 m c))

theorem r_v3 : R m c main_v3 = w_v3 m c := read_unary hWL 3 rfl (by decide) (by decide) (r_v0 m c)

/-- The value of its operation. -/
def w_v4 (m : (ℓ : Loc nD τ sig) → Buf (Elt Ideal) ℓ) (c : Dev nD) : FVec Ideal S16384x2048 .bf16 := (((extractStridedSlice S16384x2048 ![0, 0] · slices_S16384x3072_S16384x2048_0_0) : FVec Ideal S16384x3072 .bf16 → FVec Ideal S16384x2048 .bf16) (w_arg3 m c))

theorem r_v4 : R m c main_v4 = w_v4 m c := read_unary hWL 4 rfl (by decide) (by decide) (r_arg3 m c)

/-- The value of its operation. -/
def w_v5 (m : (ℓ : Loc nD τ sig) → Buf (Elt Ideal) ℓ) (c : Dev nD) : FVec Ideal S16384x2048 .f32 := (((extf .f32 · bitsLt_bf16_f32) : FVec Ideal S16384x2048 .bf16 → FVec Ideal S16384x2048 .f32) (w_v4 m c))

theorem r_v5 : R m c main_v5 = w_v5 m c := read_unary hWL 5 rfl (by decide) (by decide) (r_v4 m c)

/-- The value of its operation. -/
def w_call0_v0 (m : (ℓ : Loc nD τ sig) → Buf (Elt Ideal) ℓ) (c : Dev nD) : FVec Ideal S16384x2048 .f32 := ((Host.negf : FVec Ideal S16384x2048 .f32 → FVec Ideal S16384x2048 .f32) (w_v5 m c))

theorem r_call0_v0 : R m c main_call0_v0 = w_call0_v0 m c := read_unary hWL 6 rfl (by decide) (by decide) (r_v5 m c)

/-- The value of its operation. -/
def w_call0_v1 (m : (ℓ : Loc nD τ sig) → Buf (Elt Ideal) ℓ) (c : Dev nD) : FVec Ideal S16384x2048 .f32 := ((Host.exp : FVec Ideal S16384x2048 .f32 → FVec Ideal S16384x2048 .f32) (w_call0_v0 m c))

theorem r_call0_v1 : R m c main_call0_v1 = w_call0_v1 m c := read_unary hWL 7 rfl (by decide) (by decide) (r_call0_v0 m c)

/-- The value of its operation. -/
def w_call0_cst (m : (ℓ : Loc nD τ sig) → Buf (Elt Ideal) ℓ) (c : Dev nD) : FVec Ideal S_ .f32 := (constant S_ .f32 0x3F800000#32)

theorem r_call0_cst : R m c main_call0_cst = w_call0_cst m c := read_nullary hWL 8 rfl (by decide) _

/-- The value of its operation. -/
def w_call0_v2 (m : (ℓ : Loc nD τ sig) → Buf (Elt Ideal) ℓ) (c : Dev nD) : FVec Ideal S16384x2048 .f32 := (((broadcastInDim S16384x2048 ![] bcast_S_S16384x2048) : FVec Ideal S_ .f32 → FVec Ideal S16384x2048 .f32) (w_call0_cst m c))

theorem r_call0_v2 : R m c main_call0_v2 = w_call0_v2 m c := read_unary hWL 9 rfl (by decide) (by decide) (r_call0_cst m c)

/-- The value of its operation. -/
def w_call0_v3 (m : (ℓ : Loc nD τ sig) → Buf (Elt Ideal) ℓ) (c : Dev nD) : FVec Ideal S16384x2048 .f32 := ((addf : FVec Ideal S16384x2048 .f32 → FVec Ideal S16384x2048 .f32 → FVec Ideal S16384x2048 .f32) (w_call0_v2 m c) (w_call0_v1 m c))

theorem r_call0_v3 : R m c main_call0_v3 = w_call0_v3 m c := read_binary hWL 10 rfl (by decide) (by decide) (by decide) (r_call0_v2 m c) (r_call0_v1 m c)

/-- The value of its operation. -/
def w_call0_cst_0 (m : (ℓ : Loc nD τ sig) → Buf (Elt Ideal) ℓ) (c : Dev nD) : FVec Ideal S_ .f32 := (constant S_ .f32 0x3F800000#32)

theorem r_call0_cst_0 : R m c main_call0_cst_0 = w_call0_cst_0 m c := read_nullary hWL 11 rfl (by decide) _

/-- The value of its operation. -/
def w_call0_v4 (m : (ℓ : Loc nD τ sig) → Buf (Elt Ideal) ℓ) (c : Dev nD) : FVec Ideal S16384x2048 .f32 := (((broadcastInDim S16384x2048 ![] bcast_S_S16384x2048) : FVec Ideal S_ .f32 → FVec Ideal S16384x2048 .f32) (w_call0_cst_0 m c))

theorem r_call0_v4 : R m c main_call0_v4 = w_call0_v4 m c := read_unary hWL 12 rfl (by decide) (by decide) (r_call0_cst_0 m c)

/-- The value of its operation. -/
def w_call0_v5 (m : (ℓ : Loc nD τ sig) → Buf (Elt Ideal) ℓ) (c : Dev nD) : FVec Ideal S16384x2048 .f32 := ((Host.divf : FVec Ideal S16384x2048 .f32 → FVec Ideal S16384x2048 .f32 → FVec Ideal S16384x2048 .f32) (w_call0_v4 m c) (w_call0_v3 m c))

theorem r_call0_v5 : R m c main_call0_v5 = w_call0_v5 m c := read_binary hWL 13 rfl (by decide) (by decide) (by decide) (r_call0_v4 m c) (r_call0_v3 m c)

/-- The value of its operation. -/
def w_v6 (m : (ℓ : Loc nD τ sig) → Buf (Elt Ideal) ℓ) (c : Dev nD) : FVec Ideal S16384x2048 .f32 := ((mulf : FVec Ideal S16384x2048 .f32 → FVec Ideal S16384x2048 .f32 → FVec Ideal S16384x2048 .f32) (w_v5 m c) (w_call0_v5 m c))

theorem r_v6 : R m c main_v6 = w_v6 m c := read_binary hWL 14 rfl (by decide) (by decide) (by decide) (r_v5 m c) (r_call0_v5 m c)

/-- The value of its operation. -/
def w_v7 (m : (ℓ : Loc nD τ sig) → Buf (Elt Ideal) ℓ) (c : Dev nD) : FVec Ideal S16384x2048 .f32 := (((broadcastInDim S16384x2048 ![0, 1] bcast_S1x2048_S16384x2048_0_1) : FVec Ideal S1x2048 .f32 → FVec Ideal S16384x2048 .f32) (w_arg5 m c))

theorem r_v7 : R m c main_v7 = w_v7 m c := read_unary hWL 15 rfl (by decide) (by decide) (r_arg5 m c)

/-- The value of its operation. -/
def w_v8 (m : (ℓ : Loc nD τ sig) → Buf (Elt Ideal) ℓ) (c : Dev nD) : FVec Ideal S16384x2048 .f32 := (((mulf) : FVec Ideal S16384x2048 .f32 → FVec Ideal S16384x2048 .f32 → FVec Ideal S16384x2048 .f32) (w_v6 m c) (w_v7 m c))

theorem r_v8 : R m c main_v8 = w_v8 m c := read_binary hWL 16 rfl (by decide) (by decide) (by decide) (r_v6 m c) (r_v7 m c)

/-- The value of its operation. -/
def w_v9 (m : (ℓ : Loc nD τ sig) → Buf (Elt Ideal) ℓ) (c : Dev nD) : FVec Ideal S16384x2048 .f32 := (((addf) : FVec Ideal S16384x2048 .f32 → FVec Ideal S16384x2048 .f32 → FVec Ideal S16384x2048 .f32) (w_v2 m c) (w_v8 m c))

theorem r_v9 : R m c main_v9 = w_v9 m c := read_binary hWL 17 rfl (by decide) (by decide) (by decide) (r_v2 m c) (r_v8 m c)

/-- The value of its operation. -/
def w_call1_v0 (m : (ℓ : Loc nD τ sig) → Buf (Elt Ideal) ℓ) (c : Dev nD) : FVec Ideal S16384x2048 .f32 := ((Host.negf : FVec Ideal S16384x2048 .f32 → FVec Ideal S16384x2048 .f32) (w_v3 m c))

theorem r_call1_v0 : R m c main_call1_v0 = w_call1_v0 m c := read_unary hWL 18 rfl (by decide) (by decide) (r_v3 m c)

/-- The value of its operation. -/
def w_call1_v1 (m : (ℓ : Loc nD τ sig) → Buf (Elt Ideal) ℓ) (c : Dev nD) : FVec Ideal S16384x2048 .f32 := ((Host.exp : FVec Ideal S16384x2048 .f32 → FVec Ideal S16384x2048 .f32) (w_call1_v0 m c))

theorem r_call1_v1 : R m c main_call1_v1 = w_call1_v1 m c := read_unary hWL 19 rfl (by decide) (by decide) (r_call1_v0 m c)

/-- The value of its operation. -/
def w_call1_cst (m : (ℓ : Loc nD τ sig) → Buf (Elt Ideal) ℓ) (c : Dev nD) : FVec Ideal S_ .f32 := (constant S_ .f32 0x3F800000#32)

theorem r_call1_cst : R m c main_call1_cst = w_call1_cst m c := read_nullary hWL 20 rfl (by decide) _

/-- The value of its operation. -/
def w_call1_v2 (m : (ℓ : Loc nD τ sig) → Buf (Elt Ideal) ℓ) (c : Dev nD) : FVec Ideal S16384x2048 .f32 := (((broadcastInDim S16384x2048 ![] bcast_S_S16384x2048) : FVec Ideal S_ .f32 → FVec Ideal S16384x2048 .f32) (w_call1_cst m c))

theorem r_call1_v2 : R m c main_call1_v2 = w_call1_v2 m c := read_unary hWL 21 rfl (by decide) (by decide) (r_call1_cst m c)

/-- The value of its operation. -/
def w_call1_v3 (m : (ℓ : Loc nD τ sig) → Buf (Elt Ideal) ℓ) (c : Dev nD) : FVec Ideal S16384x2048 .f32 := ((addf : FVec Ideal S16384x2048 .f32 → FVec Ideal S16384x2048 .f32 → FVec Ideal S16384x2048 .f32) (w_call1_v2 m c) (w_call1_v1 m c))

theorem r_call1_v3 : R m c main_call1_v3 = w_call1_v3 m c := read_binary hWL 22 rfl (by decide) (by decide) (by decide) (r_call1_v2 m c) (r_call1_v1 m c)

/-- The value of its operation. -/
def w_call1_cst_0 (m : (ℓ : Loc nD τ sig) → Buf (Elt Ideal) ℓ) (c : Dev nD) : FVec Ideal S_ .f32 := (constant S_ .f32 0x3F800000#32)

theorem r_call1_cst_0 : R m c main_call1_cst_0 = w_call1_cst_0 m c := read_nullary hWL 23 rfl (by decide) _

/-- The value of its operation. -/
def w_call1_v4 (m : (ℓ : Loc nD τ sig) → Buf (Elt Ideal) ℓ) (c : Dev nD) : FVec Ideal S16384x2048 .f32 := (((broadcastInDim S16384x2048 ![] bcast_S_S16384x2048) : FVec Ideal S_ .f32 → FVec Ideal S16384x2048 .f32) (w_call1_cst_0 m c))

theorem r_call1_v4 : R m c main_call1_v4 = w_call1_v4 m c := read_unary hWL 24 rfl (by decide) (by decide) (r_call1_cst_0 m c)

/-- The value of its operation. -/
def w_v10_2 (m : (ℓ : Loc nD τ sig) → Buf (Elt Ideal) ℓ) (c : Dev nD) : FVec Ideal S16384x2048 .f32 := ((Host.divf : FVec Ideal S16384x2048 .f32 → FVec Ideal S16384x2048 .f32 → FVec Ideal S16384x2048 .f32) (w_call1_v4 m c) (w_call1_v3 m c))

theorem r_v10_2 : R m c main_v10_2 = w_v10_2 m c := read_binary hWL 25 rfl (by decide) (by decide) (by decide) (r_call1_v4 m c) (r_call1_v3 m c)

/-- The value of its operation. -/
def w_call1_cst_1 (m : (ℓ : Loc nD τ sig) → Buf (Elt Ideal) ℓ) (c : Dev nD) : FVec Ideal S_ .f32 := (constant S_ .f32 0x3F800000#32)

theorem r_call1_cst_1 : R m c main_call1_cst_1 = w_call1_cst_1 m c := read_nullary hWL 26 rfl (by decide) _

/-- The value of its operation. -/
def w_call1_v6 (m : (ℓ : Loc nD τ sig) → Buf (Elt Ideal) ℓ) (c : Dev nD) : FVec Ideal S16384x2048 .f32 := (((broadcastInDim S16384x2048 ![] bcast_S_S16384x2048) : FVec Ideal S_ .f32 → FVec Ideal S16384x2048 .f32) (w_call1_cst_1 m c))

theorem r_call1_v6 : R m c main_call1_v6 = w_call1_v6 m c := read_unary hWL 27 rfl (by decide) (by decide) (r_call1_cst_1 m c)

/-- The value of its operation. -/
def w_call1_v7 (m : (ℓ : Loc nD τ sig) → Buf (Elt Ideal) ℓ) (c : Dev nD) : FVec Ideal S16384x2048 .f32 := ((subf : FVec Ideal S16384x2048 .f32 → FVec Ideal S16384x2048 .f32 → FVec Ideal S16384x2048 .f32) (w_call1_v6 m c) (w_v10_2 m c))

theorem r_call1_v7 : R m c main_call1_v7 = w_call1_v7 m c := read_binary hWL 28 rfl (by decide) (by decide) (by decide) (r_call1_v6 m c) (r_v10_2 m c)

/-- The value of its operation. -/
def w_v10_1 (m : (ℓ : Loc nD τ sig) → Buf (Elt Ideal) ℓ) (c : Dev nD) : FVec Ideal S16384x2048 .f32 := ((mulf : FVec Ideal S16384x2048 .f32 → FVec Ideal S16384x2048 .f32 → FVec Ideal S16384x2048 .f32) (w_v10_2 m c) (w_call1_v7 m c))

theorem r_v10_1 : R m c main_v10_1 = w_v10_1 m c := read_binary hWL 29 rfl (by decide) (by decide) (by decide) (r_v10_2 m c) (r_call1_v7 m c)

/-- The value of its operation. -/
def w_v10_0 (m : (ℓ : Loc nD τ sig) → Buf (Elt Ideal) ℓ) (c : Dev nD) : FVec Ideal S16384x2048 .f32 := ((mulf : FVec Ideal S16384x2048 .f32 → FVec Ideal S16384x2048 .f32 → FVec Ideal S16384x2048 .f32) (w_v3 m c) (w_v10_2 m c))

theorem r_v10_0 : R m c main_v10_0 = w_v10_0 m c := read_binary hWL 30 rfl (by decide) (by decide) (by decide) (r_v3 m c) (r_v10_2 m c)

/-- The value of its operation. -/
def w_v11 (m : (ℓ : Loc nD τ sig) → Buf (Elt Ideal) ℓ) (c : Dev nD) : FVec Ideal S16384x2048 .f32 := (((mulf) : FVec Ideal S16384x2048 .f32 → FVec Ideal S16384x2048 .f32 → FVec Ideal S16384x2048 .f32) (w_v9 m c) (w_v10_0 m c))

theorem r_v11 : R m c main_v11 = w_v11 m c := read_binary hWL 31 rfl (by decide) (by decide) (by decide) (r_v9 m c) (r_v10_0 m c)

/-- The value of its operation. -/
def w_v12 (m : (ℓ : Loc nD τ sig) → Buf (Elt Ideal) ℓ) (c : Dev nD) : FVec Ideal S16384x2048 .f32 := (((mulf) : FVec Ideal S16384x2048 .f32 → FVec Ideal S16384x2048 .f32 → FVec Ideal S16384x2048 .f32) (w_v11 m c) (w_v11 m c))

theorem r_v12 : R m c main_v12 = w_v12 m c := read_binary hWL 32 rfl (by decide) (by decide) (by decide) (r_v11 m c) (r_v11 m c)

/-- The value of its operation. -/
def w_cst (m : (ℓ : Loc nD τ sig) → Buf (Elt Ideal) ℓ) (c : Dev nD) : FVec Ideal S_ .f32 := (constant S_ .f32 0x00000000#32)

theorem r_cst : R m c main_cst = w_cst m c := read_nullary hWL 33 rfl (by decide) _

/-- The value of its operation. -/
def w_v13 (m : (ℓ : Loc nD τ sig) → Buf (Elt Ideal) ℓ) (c : Dev nD) : FVec Ideal S16384 .f32 := (((fun x v => Host.reduceAdd x v reducesTo_S16384x2048_S16384_d1 h_S_) : FVec Ideal S16384x2048 .f32 → FVec Ideal S_ .f32 → FVec Ideal S16384 .f32) (w_v12 m c) (w_cst m c))

theorem r_v13 : R m c main_v13 = w_v13 m c := read_binary hWL 34 rfl (by decide) (by decide) (by decide) (r_v12 m c) (r_cst m c)

/-- The value of its operation. -/
def w_v14 (m : (ℓ : Loc nD τ sig) → Buf (Elt Ideal) ℓ) (c : Dev nD) : FVec Ideal S16384x1 .f32 := (((broadcastInDim S16384x1 ![0] bcast_S16384_S16384x1_0) : FVec Ideal S16384 .f32 → FVec Ideal S16384x1 .f32) (w_v13 m c))

theorem r_v14 : R m c main_v14 = w_v14 m c := read_unary hWL 35 rfl (by decide) (by decide) (r_v13 m c)

/-- The value of its operation. -/
def w_cst_0 (m : (ℓ : Loc nD τ sig) → Buf (Elt Ideal) ℓ) (c : Dev nD) : FVec Ideal S_ .f32 := (constant S_ .f32 0x45000000#32)

theorem r_cst_0 : R m c main_cst_0 = w_cst_0 m c := read_nullary hWL 36 rfl (by decide) _

/-- The value of its operation. -/
def w_v15 (m : (ℓ : Loc nD τ sig) → Buf (Elt Ideal) ℓ) (c : Dev nD) : FVec Ideal S16384x1 .f32 := (((broadcastInDim S16384x1 ![] bcast_S_S16384x1) : FVec Ideal S_ .f32 → FVec Ideal S16384x1 .f32) (w_cst_0 m c))

theorem r_v15 : R m c main_v15 = w_v15 m c := read_unary hWL 37 rfl (by decide) (by decide) (r_cst_0 m c)

/-- The value of its operation. -/
def w_v16 (m : (ℓ : Loc nD τ sig) → Buf (Elt Ideal) ℓ) (c : Dev nD) : FVec Ideal S16384x1 .f32 := (((Host.divf) : FVec Ideal S16384x1 .f32 → FVec Ideal S16384x1 .f32 → FVec Ideal S16384x1 .f32) (w_v14 m c) (w_v15 m c))

theorem r_v16 : R m c main_v16 = w_v16 m c := read_binary hWL 38 rfl (by decide) (by decide) (by decide) (r_v14 m c) (r_v15 m c)

/-- The value of its operation. -/
def w_cst_1 (m : (ℓ : Loc nD τ sig) → Buf (Elt Ideal) ℓ) (c : Dev nD) : FVec Ideal S_ .f32 := (constant S_ .f32 0x3727C5AC#32)

theorem r_cst_1 : R m c main_cst_1 = w_cst_1 m c := read_nullary hWL 39 rfl (by decide) _

/-- The value of its operation. -/
def w_v17 (m : (ℓ : Loc nD τ sig) → Buf (Elt Ideal) ℓ) (c : Dev nD) : FVec Ideal S16384x1 .f32 := (((broadcastInDim S16384x1 ![] bcast_S_S16384x1) : FVec Ideal S_ .f32 → FVec Ideal S16384x1 .f32) (w_cst_1 m c))

theorem r_v17 : R m c main_v17 = w_v17 m c := read_unary hWL 40 rfl (by decide) (by decide) (r_cst_1 m c)

/-- The value of its operation. -/
def w_v18 (m : (ℓ : Loc nD τ sig) → Buf (Elt Ideal) ℓ) (c : Dev nD) : FVec Ideal S16384x1 .f32 := (((addf) : FVec Ideal S16384x1 .f32 → FVec Ideal S16384x1 .f32 → FVec Ideal S16384x1 .f32) (w_v16 m c) (w_v17 m c))

theorem r_v18 : R m c main_v18 = w_v18 m c := read_binary hWL 41 rfl (by decide) (by decide) (by decide) (r_v16 m c) (r_v17 m c)

/-- The value of its operation. -/
def w_v19 (m : (ℓ : Loc nD τ sig) → Buf (Elt Ideal) ℓ) (c : Dev nD) : FVec Ideal S16384x1 .f32 := (((Host.rsqrt) : FVec Ideal S16384x1 .f32 → FVec Ideal S16384x1 .f32) (w_v18 m c))

theorem r_v19 : R m c main_v19 = w_v19 m c := read_unary hWL 42 rfl (by decide) (by decide) (r_v18 m c)

/-- The value of its operation. -/
def w_v20 (m : (ℓ : Loc nD τ sig) → Buf (Elt Ideal) ℓ) (c : Dev nD) : FVec Ideal S16384x1 .f32 := (((Host.divf) : FVec Ideal S16384x1 .f32 → FVec Ideal S16384x1 .f32 → FVec Ideal S16384x1 .f32) (w_v19 m c) (w_v18 m c))

theorem r_v20 : R m c main_v20 = w_v20 m c := read_binary hWL 43 rfl (by decide) (by decide) (by decide) (r_v19 m c) (r_v18 m c)

/-- The value of its operation. -/
def w_cst_2 (m : (ℓ : Loc nD τ sig) → Buf (Elt Ideal) ℓ) (c : Dev nD) : FVec Ideal S_ .f32 := (constant S_ .f32 0xBF000000#32)

theorem r_cst_2 : R m c main_cst_2 = w_cst_2 m c := read_nullary hWL 44 rfl (by decide) _

/-- The value of its operation. -/
def w_v21 (m : (ℓ : Loc nD τ sig) → Buf (Elt Ideal) ℓ) (c : Dev nD) : FVec Ideal S16384x1 .f32 := (((broadcastInDim S16384x1 ![] bcast_S_S16384x1) : FVec Ideal S_ .f32 → FVec Ideal S16384x1 .f32) (w_cst_2 m c))

theorem r_v21 : R m c main_v21 = w_v21 m c := read_unary hWL 45 rfl (by decide) (by decide) (r_cst_2 m c)

/-- The value of its operation. -/
def w_v22 (m : (ℓ : Loc nD τ sig) → Buf (Elt Ideal) ℓ) (c : Dev nD) : FVec Ideal S16384x1 .f32 := (((mulf) : FVec Ideal S16384x1 .f32 → FVec Ideal S16384x1 .f32 → FVec Ideal S16384x1 .f32) (w_v21 m c) (w_v20 m c))

theorem r_v22 : R m c main_v22 = w_v22 m c := read_binary hWL 46 rfl (by decide) (by decide) (by decide) (r_v21 m c) (r_v20 m c)

/-- The value of its operation. -/
def w_v23 (m : (ℓ : Loc nD τ sig) → Buf (Elt Ideal) ℓ) (c : Dev nD) : FVec Ideal S16384x2048 .f32 := (((broadcastInDim S16384x2048 ![0, 1] bcast_S16384x1_S16384x2048_0_1) : FVec Ideal S16384x1 .f32 → FVec Ideal S16384x2048 .f32) (w_v19 m c))

theorem r_v23 : R m c main_v23 = w_v23 m c := read_unary hWL 47 rfl (by decide) (by decide) (r_v19 m c)

/-- The value of its operation. -/
def w_v24 (m : (ℓ : Loc nD τ sig) → Buf (Elt Ideal) ℓ) (c : Dev nD) : FVec Ideal S16384x2048 .f32 := (((mulf) : FVec Ideal S16384x2048 .f32 → FVec Ideal S16384x2048 .f32 → FVec Ideal S16384x2048 .f32) (w_v11 m c) (w_v23 m c))

theorem r_v24 : R m c main_v24 = w_v24 m c := read_binary hWL 48 rfl (by decide) (by decide) (by decide) (r_v11 m c) (r_v23 m c)

/-- The value of its operation. -/
def w_v25 (m : (ℓ : Loc nD τ sig) → Buf (Elt Ideal) ℓ) (c : Dev nD) : FVec Ideal S16384x2048 .f32 := (((broadcastInDim S16384x2048 ![0, 1] bcast_S1x2048_S16384x2048_0_1) : FVec Ideal S1x2048 .f32 → FVec Ideal S16384x2048 .f32) (w_arg6 m c))

theorem r_v25 : R m c main_v25 = w_v25 m c := read_unary hWL 49 rfl (by decide) (by decide) (r_arg6 m c)

/-- The value of its operation. -/
def w_v26 (m : (ℓ : Loc nD τ sig) → Buf (Elt Ideal) ℓ) (c : Dev nD) : FVec Ideal S16384x2048 .f32 := (((mulf) : FVec Ideal S16384x2048 .f32 → FVec Ideal S16384x2048 .f32 → FVec Ideal S16384x2048 .f32) (w_v24 m c) (w_v25 m c))

theorem r_v26 : R m c main_v26 = w_v26 m c := read_binary hWL 50 rfl (by decide) (by decide) (by decide) (r_v24 m c) (r_v25 m c)

/-- The value of its operation. -/
def w_v27 (m : (ℓ : Loc nD τ sig) → Buf (Elt Ideal) ℓ) (c : Dev nD) : FVec Ideal S16384x1024 .f32 := (((fun l r => Host.dotGeneral dot_S16384x2048_S2048x1024_S16384x1024_1_0_0_1_n_n none l r) : FVec Ideal S16384x2048 .f32 → FVec Ideal S2048x1024 .f32 → FVec Ideal S16384x1024 .f32) (w_v26 m c) (w_v1 m c))

theorem r_v27 : R m c main_v27 = w_v27 m c := read_binary hWL 51 rfl (by decide) (by decide) (by decide) (r_v26 m c) (r_v1 m c)

/-- The value of its operation. -/
def w_v28 (m : (ℓ : Loc nD τ sig) → Buf (Elt Ideal) ℓ) (c : Dev nD) : FVec Ideal S1024x2048 .f32 := (((fun l r => Host.dotGeneral dot_S16384x1024_S16384x2048_S1024x2048_0_0_1_1_n_n none l r) : FVec Ideal S16384x1024 .f32 → FVec Ideal S16384x2048 .f32 → FVec Ideal S1024x2048 .f32) (w_arg0 m c) (w_v26 m c))

theorem r_v28 : R m c main_v28 = w_v28 m c := read_binary hWL 52 rfl (by decide) (by decide) (by decide) (r_arg0 m c) (r_v26 m c)

/-- The value of its operation. -/
def w_v29 (m : (ℓ : Loc nD τ sig) → Buf (Elt Ideal) ℓ) (c : Dev nD) : FVec Ideal S2048x1024 .f32 := (((transpose S2048x1024 [1, 0] · transposes_S1024x2048_S2048x1024_1_0) : FVec Ideal S1024x2048 .f32 → FVec Ideal S2048x1024 .f32) (w_v28 m c))

theorem r_v29 : R m c main_v29 = w_v29 m c := read_unary hWL 53 rfl (by decide) (by decide) (r_v28 m c)

/-- The value of its operation. -/
def w_v30 (m : (ℓ : Loc nD τ sig) → Buf (Elt Ideal) ℓ) (c : Dev nD) : FVec Ideal S16384x2048 .f32 := (((fun l r => Host.dotGeneral dot_S16384x1024_S2048x1024_S16384x2048_1_1_0_0_n_n none l r) : FVec Ideal S16384x1024 .f32 → FVec Ideal S2048x1024 .f32 → FVec Ideal S16384x2048 .f32) (w_arg0 m c) (w_v1 m c))

theorem r_v30 : R m c main_v30 = w_v30 m c := read_binary hWL 54 rfl (by decide) (by decide) (by decide) (r_arg0 m c) (r_v1 m c)

/-- The value of its operation. -/
def w_v31 (m : (ℓ : Loc nD τ sig) → Buf (Elt Ideal) ℓ) (c : Dev nD) : FVec Ideal S16384x2048 .f32 := (((mulf) : FVec Ideal S16384x2048 .f32 → FVec Ideal S16384x2048 .f32 → FVec Ideal S16384x2048 .f32) (w_v24 m c) (w_v30 m c))

theorem r_v31 : R m c main_v31 = w_v31 m c := read_binary hWL 55 rfl (by decide) (by decide) (by decide) (r_v24 m c) (r_v30 m c)

/-- The value of its operation. -/
def w_cst_3 (m : (ℓ : Loc nD τ sig) → Buf (Elt Ideal) ℓ) (c : Dev nD) : FVec Ideal S_ .f32 := (constant S_ .f32 0x00000000#32)

theorem r_cst_3 : R m c main_cst_3 = w_cst_3 m c := read_nullary hWL 56 rfl (by decide) _

/-- The value of its operation. -/
def w_v32 (m : (ℓ : Loc nD τ sig) → Buf (Elt Ideal) ℓ) (c : Dev nD) : FVec Ideal S2048 .f32 := (((fun x v => Host.reduceAdd x v reducesTo_S16384x2048_S2048_d0 h_S_) : FVec Ideal S16384x2048 .f32 → FVec Ideal S_ .f32 → FVec Ideal S2048 .f32) (w_v31 m c) (w_cst_3 m c))

theorem r_v32 : R m c main_v32 = w_v32 m c := read_binary hWL 57 rfl (by decide) (by decide) (by decide) (r_v31 m c) (r_cst_3 m c)

/-- The value of its operation. -/
def w_v33 (m : (ℓ : Loc nD τ sig) → Buf (Elt Ideal) ℓ) (c : Dev nD) : FVec Ideal S1x2048 .f32 := (((shapeCast S1x2048 · shapeCasts_S2048_S1x2048) : FVec Ideal S2048 .f32 → FVec Ideal S1x2048 .f32) (w_v32 m c))

theorem r_v33 : R m c main_v33 = w_v33 m c := read_unary hWL 58 rfl (by decide) (by decide) (r_v32 m c)

/-- The value of its operation. -/
def w_v34 (m : (ℓ : Loc nD τ sig) → Buf (Elt Ideal) ℓ) (c : Dev nD) : FVec Ideal S16384x2048 .f32 := (((broadcastInDim S16384x2048 ![0, 1] bcast_S1x2048_S16384x2048_0_1) : FVec Ideal S1x2048 .f32 → FVec Ideal S16384x2048 .f32) (w_arg6 m c))

theorem r_v34 : R m c main_v34 = w_v34 m c := read_unary hWL 59 rfl (by decide) (by decide) (r_arg6 m c)

/-- The value of its operation. -/
def w_v35 (m : (ℓ : Loc nD τ sig) → Buf (Elt Ideal) ℓ) (c : Dev nD) : FVec Ideal S16384x2048 .f32 := (((mulf) : FVec Ideal S16384x2048 .f32 → FVec Ideal S16384x2048 .f32 → FVec Ideal S16384x2048 .f32) (w_v30 m c) (w_v34 m c))

theorem r_v35 : R m c main_v35 = w_v35 m c := read_binary hWL 60 rfl (by decide) (by decide) (by decide) (r_v30 m c) (r_v34 m c)

/-- The value of its operation. -/
def w_v36 (m : (ℓ : Loc nD τ sig) → Buf (Elt Ideal) ℓ) (c : Dev nD) : FVec Ideal S16384x2048 .f32 := (((mulf) : FVec Ideal S16384x2048 .f32 → FVec Ideal S16384x2048 .f32 → FVec Ideal S16384x2048 .f32) (w_v11 m c) (w_v35 m c))

theorem r_v36 : R m c main_v36 = w_v36 m c := read_binary hWL 61 rfl (by decide) (by decide) (by decide) (r_v11 m c) (r_v35 m c)

/-- The value of its operation. -/
def w_cst_4 (m : (ℓ : Loc nD τ sig) → Buf (Elt Ideal) ℓ) (c : Dev nD) : FVec Ideal S_ .f32 := (constant S_ .f32 0x00000000#32)

theorem r_cst_4 : R m c main_cst_4 = w_cst_4 m c := read_nullary hWL 62 rfl (by decide) _

/-- The value of its operation. -/
def w_v37 (m : (ℓ : Loc nD τ sig) → Buf (Elt Ideal) ℓ) (c : Dev nD) : FVec Ideal S16384 .f32 := (((fun x v => Host.reduceAdd x v reducesTo_S16384x2048_S16384_d1 h_S_) : FVec Ideal S16384x2048 .f32 → FVec Ideal S_ .f32 → FVec Ideal S16384 .f32) (w_v36 m c) (w_cst_4 m c))

theorem r_v37 : R m c main_v37 = w_v37 m c := read_binary hWL 63 rfl (by decide) (by decide) (by decide) (r_v36 m c) (r_cst_4 m c)

/-- The value of its operation. -/
def w_v38 (m : (ℓ : Loc nD τ sig) → Buf (Elt Ideal) ℓ) (c : Dev nD) : FVec Ideal S16384x1 .f32 := (((shapeCast S16384x1 · shapeCasts_S16384_S16384x1) : FVec Ideal S16384 .f32 → FVec Ideal S16384x1 .f32) (w_v37 m c))

theorem r_v38 : R m c main_v38 = w_v38 m c := read_unary hWL 64 rfl (by decide) (by decide) (r_v37 m c)

/-- The value of its operation. -/
def w_v39 (m : (ℓ : Loc nD τ sig) → Buf (Elt Ideal) ℓ) (c : Dev nD) : FVec Ideal S16384x2048 .f32 := (((broadcastInDim S16384x2048 ![0, 1] bcast_S16384x1_S16384x2048_0_1) : FVec Ideal S16384x1 .f32 → FVec Ideal S16384x2048 .f32) (w_v19 m c))

theorem r_v39 : R m c main_v39 = w_v39 m c := read_unary hWL 65 rfl (by decide) (by decide) (r_v19 m c)

/-- The value of its operation. -/
def w_v40 (m : (ℓ : Loc nD τ sig) → Buf (Elt Ideal) ℓ) (c : Dev nD) : FVec Ideal S16384x2048 .f32 := (((mulf) : FVec Ideal S16384x2048 .f32 → FVec Ideal S16384x2048 .f32 → FVec Ideal S16384x2048 .f32) (w_v35 m c) (w_v39 m c))

theorem r_v40 : R m c main_v40 = w_v40 m c := read_binary hWL 66 rfl (by decide) (by decide) (by decide) (r_v35 m c) (r_v39 m c)

/-- The value of its operation. -/
def w_v41 (m : (ℓ : Loc nD τ sig) → Buf (Elt Ideal) ℓ) (c : Dev nD) : FVec Ideal S16384x1 .f32 := (((mulf) : FVec Ideal S16384x1 .f32 → FVec Ideal S16384x1 .f32 → FVec Ideal S16384x1 .f32) (w_v38 m c) (w_v22 m c))

theorem r_v41 : R m c main_v41 = w_v41 m c := read_binary hWL 67 rfl (by decide) (by decide) (by decide) (r_v38 m c) (r_v22 m c)

/-- The value of its operation. -/
def w_cst_5 (m : (ℓ : Loc nD τ sig) → Buf (Elt Ideal) ℓ) (c : Dev nD) : FVec Ideal S_ .f32 := (constant S_ .f32 0x45000000#32)

theorem r_cst_5 : R m c main_cst_5 = w_cst_5 m c := read_nullary hWL 68 rfl (by decide) _

/-- The value of its operation. -/
def w_v42 (m : (ℓ : Loc nD τ sig) → Buf (Elt Ideal) ℓ) (c : Dev nD) : FVec Ideal S16384x1 .f32 := (((broadcastInDim S16384x1 ![] bcast_S_S16384x1) : FVec Ideal S_ .f32 → FVec Ideal S16384x1 .f32) (w_cst_5 m c))

theorem r_v42 : R m c main_v42 = w_v42 m c := read_unary hWL 69 rfl (by decide) (by decide) (r_cst_5 m c)

/-- The value of its operation. -/
def w_v43 (m : (ℓ : Loc nD τ sig) → Buf (Elt Ideal) ℓ) (c : Dev nD) : FVec Ideal S16384x1 .f32 := (((Host.divf) : FVec Ideal S16384x1 .f32 → FVec Ideal S16384x1 .f32 → FVec Ideal S16384x1 .f32) (w_v41 m c) (w_v42 m c))

theorem r_v43 : R m c main_v43 = w_v43 m c := read_binary hWL 70 rfl (by decide) (by decide) (by decide) (r_v41 m c) (r_v42 m c)

/-- The value of its operation. -/
def w_cst_6 (m : (ℓ : Loc nD τ sig) → Buf (Elt Ideal) ℓ) (c : Dev nD) : FVec Ideal S_ .f32 := (constant S_ .f32 0x00000000#32)

theorem r_cst_6 : R m c main_cst_6 = w_cst_6 m c := read_nullary hWL 71 rfl (by decide) _

/-- The value of its operation. -/
def w_v44 (m : (ℓ : Loc nD τ sig) → Buf (Elt Ideal) ℓ) (c : Dev nD) : FVec Ideal S16384 .f32 := (((fun x v => Host.reduceAdd x v reducesTo_S16384x1_S16384_d1 h_S_) : FVec Ideal S16384x1 .f32 → FVec Ideal S_ .f32 → FVec Ideal S16384 .f32) (w_v43 m c) (w_cst_6 m c))

theorem r_v44 : R m c main_v44 = w_v44 m c := read_binary hWL 72 rfl (by decide) (by decide) (by decide) (r_v43 m c) (r_cst_6 m c)

/-- The value of its operation. -/
def w_v45 (m : (ℓ : Loc nD τ sig) → Buf (Elt Ideal) ℓ) (c : Dev nD) : FVec Ideal S16384x2048 .f32 := (((broadcastInDim S16384x2048 ![0] bcast_S16384_S16384x2048_0) : FVec Ideal S16384 .f32 → FVec Ideal S16384x2048 .f32) (w_v44 m c))

theorem r_v45 : R m c main_v45 = w_v45 m c := read_unary hWL 73 rfl (by decide) (by decide) (r_v44 m c)

/-- The value of its operation. -/
def w_v46 (m : (ℓ : Loc nD τ sig) → Buf (Elt Ideal) ℓ) (c : Dev nD) : FVec Ideal S16384x2048 .f32 := (((mulf) : FVec Ideal S16384x2048 .f32 → FVec Ideal S16384x2048 .f32 → FVec Ideal S16384x2048 .f32) (w_v11 m c) (w_v45 m c))

theorem r_v46 : R m c main_v46 = w_v46 m c := read_binary hWL 74 rfl (by decide) (by decide) (by decide) (r_v11 m c) (r_v45 m c)

/-- The value of its operation. -/
def w_v47 (m : (ℓ : Loc nD τ sig) → Buf (Elt Ideal) ℓ) (c : Dev nD) : FVec Ideal S16384x2048 .f32 := (((addf) : FVec Ideal S16384x2048 .f32 → FVec Ideal S16384x2048 .f32 → FVec Ideal S16384x2048 .f32) (w_v40 m c) (w_v46 m c))

theorem r_v47 : R m c main_v47 = w_v47 m c := read_binary hWL 75 rfl (by decide) (by decide) (by decide) (r_v40 m c) (r_v46 m c)

/-- The value of its operation. -/
def w_v48 (m : (ℓ : Loc nD τ sig) → Buf (Elt Ideal) ℓ) (c : Dev nD) : FVec Ideal S16384x2048 .f32 := (((mulf) : FVec Ideal S16384x2048 .f32 → FVec Ideal S16384x2048 .f32 → FVec Ideal S16384x2048 .f32) (w_v45 m c) (w_v11 m c))

theorem r_v48 : R m c main_v48 = w_v48 m c := read_binary hWL 76 rfl (by decide) (by decide) (by decide) (r_v45 m c) (r_v11 m c)

/-- The value of its operation. -/
def w_v49 (m : (ℓ : Loc nD τ sig) → Buf (Elt Ideal) ℓ) (c : Dev nD) : FVec Ideal S16384x2048 .f32 := (((addf) : FVec Ideal S16384x2048 .f32 → FVec Ideal S16384x2048 .f32 → FVec Ideal S16384x2048 .f32) (w_v47 m c) (w_v48 m c))

theorem r_v49 : R m c main_v49 = w_v49 m c := read_binary hWL 77 rfl (by decide) (by decide) (by decide) (r_v47 m c) (r_v48 m c)

/-- The value of its operation. -/
def w_v50 (m : (ℓ : Loc nD τ sig) → Buf (Elt Ideal) ℓ) (c : Dev nD) : FVec Ideal S16384x2048 .f32 := (((mulf) : FVec Ideal S16384x2048 .f32 → FVec Ideal S16384x2048 .f32 → FVec Ideal S16384x2048 .f32) (w_v9 m c) (w_v49 m c))

theorem r_v50 : R m c main_v50 = w_v50 m c := read_binary hWL 78 rfl (by decide) (by decide) (by decide) (r_v9 m c) (r_v49 m c)

/-- The value of its operation. -/
def w_v51 (m : (ℓ : Loc nD τ sig) → Buf (Elt Ideal) ℓ) (c : Dev nD) : FVec Ideal S16384x2048 .f32 := (((mulf) : FVec Ideal S16384x2048 .f32 → FVec Ideal S16384x2048 .f32 → FVec Ideal S16384x2048 .f32) (w_v49 m c) (w_v10_0 m c))

theorem r_v51 : R m c main_v51 = w_v51 m c := read_binary hWL 79 rfl (by decide) (by decide) (by decide) (r_v49 m c) (r_v10_0 m c)

/-- The value of its operation. -/
def w_call2_v0 (m : (ℓ : Loc nD τ sig) → Buf (Elt Ideal) ℓ) (c : Dev nD) : FVec Ideal S16384x2048 .f32 := ((mulf : FVec Ideal S16384x2048 .f32 → FVec Ideal S16384x2048 .f32 → FVec Ideal S16384x2048 .f32) (w_v3 m c) (w_v50 m c))

theorem r_call2_v0 : R m c main_call2_v0 = w_call2_v0 m c := read_binary hWL 80 rfl (by decide) (by decide) (by decide) (r_v3 m c) (r_v50 m c)

/-- The value of its operation. -/
def w_call2_v1 (m : (ℓ : Loc nD τ sig) → Buf (Elt Ideal) ℓ) (c : Dev nD) : FVec Ideal S16384x2048 .f32 := ((mulf : FVec Ideal S16384x2048 .f32 → FVec Ideal S16384x2048 .f32 → FVec Ideal S16384x2048 .f32) (w_v50 m c) (w_v10_2 m c))

theorem r_call2_v1 : R m c main_call2_v1 = w_call2_v1 m c := read_binary hWL 81 rfl (by decide) (by decide) (by decide) (r_v50 m c) (r_v10_2 m c)

/-- The value of its operation. -/
def w_call2_v2 (m : (ℓ : Loc nD τ sig) → Buf (Elt Ideal) ℓ) (c : Dev nD) : FVec Ideal S16384x2048 .f32 := ((mulf : FVec Ideal S16384x2048 .f32 → FVec Ideal S16384x2048 .f32 → FVec Ideal S16384x2048 .f32) (w_call2_v0 m c) (w_v10_1 m c))

theorem r_call2_v2 : R m c main_call2_v2 = w_call2_v2 m c := read_binary hWL 82 rfl (by decide) (by decide) (by decide) (r_call2_v0 m c) (r_v10_1 m c)

/-- The value of its operation. -/
def w_v52 (m : (ℓ : Loc nD τ sig) → Buf (Elt Ideal) ℓ) (c : Dev nD) : FVec Ideal S16384x2048 .f32 := ((addf : FVec Ideal S16384x2048 .f32 → FVec Ideal S16384x2048 .f32 → FVec Ideal S16384x2048 .f32) (w_call2_v1 m c) (w_call2_v2 m c))

theorem r_v52 : R m c main_v52 = w_v52 m c := read_binary hWL 83 rfl (by decide) (by decide) (by decide) (r_call2_v1 m c) (r_call2_v2 m c)

/-- The value of its operation. -/
def w_v53 (m : (ℓ : Loc nD τ sig) → Buf (Elt Ideal) ℓ) (c : Dev nD) : FVec Ideal S16384x2048 .f32 := (((mulf) : FVec Ideal S16384x2048 .f32 → FVec Ideal S16384x2048 .f32 → FVec Ideal S16384x2048 .f32) (w_v6 m c) (w_v51 m c))

theorem r_v53 : R m c main_v53 = w_v53 m c := read_binary hWL 84 rfl (by decide) (by decide) (by decide) (r_v6 m c) (r_v51 m c)

/-- The value of its operation. -/
def w_cst_7 (m : (ℓ : Loc nD τ sig) → Buf (Elt Ideal) ℓ) (c : Dev nD) : FVec Ideal S_ .f32 := (constant S_ .f32 0x00000000#32)

theorem r_cst_7 : R m c main_cst_7 = w_cst_7 m c := read_nullary hWL 85 rfl (by decide) _

/-- The value of its operation. -/
def w_v54 (m : (ℓ : Loc nD τ sig) → Buf (Elt Ideal) ℓ) (c : Dev nD) : FVec Ideal S2048 .f32 := (((fun x v => Host.reduceAdd x v reducesTo_S16384x2048_S2048_d0 h_S_) : FVec Ideal S16384x2048 .f32 → FVec Ideal S_ .f32 → FVec Ideal S2048 .f32) (w_v53 m c) (w_cst_7 m c))

theorem r_v54 : R m c main_v54 = w_v54 m c := read_binary hWL 86 rfl (by decide) (by decide) (by decide) (r_v53 m c) (r_cst_7 m c)

/-- The value of its operation. -/
def w_v55 (m : (ℓ : Loc nD τ sig) → Buf (Elt Ideal) ℓ) (c : Dev nD) : FVec Ideal S1x2048 .f32 := (((shapeCast S1x2048 · shapeCasts_S2048_S1x2048) : FVec Ideal S2048 .f32 → FVec Ideal S1x2048 .f32) (w_v54 m c))

theorem r_v55 : R m c main_v55 = w_v55 m c := read_unary hWL 87 rfl (by decide) (by decide) (r_v54 m c)

/-- The value of its operation. -/
def w_v56 (m : (ℓ : Loc nD τ sig) → Buf (Elt Ideal) ℓ) (c : Dev nD) : FVec Ideal S16384x2048 .bf16 := (((truncf .bf16 · bitsLt_bf16_f32) : FVec Ideal S16384x2048 .f32 → FVec Ideal S16384x2048 .bf16) (w_v51 m c))

theorem r_v56 : R m c main_v56 = w_v56 m c := read_unary hWL 88 rfl (by decide) (by decide) (r_v51 m c)

/-- The value of its operation. -/
def w_v57 (m : (ℓ : Loc nD τ sig) → Buf (Elt Ideal) ℓ) (c : Dev nD) : FVec Ideal S16384x2048 .bf16 := (((truncf .bf16 · bitsLt_bf16_f32) : FVec Ideal S16384x2048 .f32 → FVec Ideal S16384x2048 .bf16) (w_v52 m c))

theorem r_v57 : R m c main_v57 = w_v57 m c := read_unary hWL 89 rfl (by decide) (by decide) (r_v52 m c)

theorem run (ρ : Dev nD → PrngReg) :
    θ_run defs (onTc (τ := τ) (main (F := Ideal))) ⟨m, fun _ => 0, ρ⟩ fun r => ∀ c : Dev nD,
      r.2.mem ((c.tc : Thread nD τ).loc main_v29) = w_v29 m c
      ∧ r.2.mem ((c.tc : Thread nD τ).loc main_v56) = w_v56 m c
      ∧ r.2.mem ((c.tc : Thread nD τ).loc main_v57) = w_v57 m c
      ∧ r.2.mem ((c.tc : Thread nD τ).loc main_v33) = w_v33 m c
      ∧ r.2.mem ((c.tc : Thread nD τ).loc main_v55) = w_v55 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v29).trans (r_v29 m c), (h c main_v56).trans (r_v56 m c), (h c main_v57).trans (r_v57 m c), (h c main_v33).trans (r_v33 m c), (h c main_v55).trans (r_v55 m c), (h c main_arg0).trans (r_arg0 m c), (h c main_arg1).trans (r_arg1 m c), (h c main_arg2).trans (r_arg2 m c), (h c main_arg3).trans (r_arg3 m c), (h c main_arg4).trans (r_arg4 m c), (h c main_arg5).trans (r_arg5 m c), (h c main_arg6).trans (r_arg6 m c), (h c main_arg7).trans (r_arg7 m c)⟩)
    (run_seq scopedRefs_eq scopedSems_eq defs main (fun _ => ops) main_eq (fun _ => ops_sub) m ρ)

end Cert.SsdOutRefIdeal.Hand

end
-- ==== Proof.SsdOutVal.lean ====
module

public import proofs.«01_k».proof.Proof.SsdOutRef
public import proofs.«01_k».proof.Proof.Gate

@[expose] public section

set_option maxRecDepth 16384

noncomputable section

/-! The results of the reference `SsdOutRefIdeal` on real arguments, as real expressions. -/

namespace Cert.SsdOutRefIdeal.Hand

open Cert.SsdOutRefIdeal Cert.SsdOutRefIdeal.Gen Cert.Common Cert.Common.Ssd Idealize.ShloMosaic Idealize.ShloMosaic.TcCoe Idealize.SL.Sem

variable (DH : Fin 16384 → Fin 1024 → ℝ) (YF YB C Z : Fin 16384 → Fin 2048 → ℝ) (DK NW : Fin 2048 → ℝ)
  (W : Fin 2048 → Fin 1024 → ℝ)

/-- A position's term of the product's gradient. -/
def T8 (l : Fin 16384) (d : Fin 2048) (k : Fin 1024) : EReal := ((nn (yr (YF l) (YB l) (C l) DK) (Z l) d * NW d * DH l k : ℝ) : EReal)

/-- A position's term of the gradient of the normalization's weight. -/
def T11 (l : Fin 16384) (d : Fin 2048) : EReal := ((Conf.d3 W (DH l) d * nn (yr (YF l) (YB l) (C l) DK) (Z l) d : ℝ) : EReal)

/-- A position's term of the gradient of the skip. -/
def T12 (l : Fin 16384) (d : Fin 2048) : EReal := ((dy (yr (YF l) (YB l) (C l) DK) (Z l) NW W (DH l) d * sl (C l d) : ℝ) : EReal)

/-- The gradient of the output projection. -/
def REF8 : FVec Ideal S2048x1024 .f32 := fun j => ∑ l, T8 DH YF YB C Z DK NW l (j 0) (j 1)

/-- The gradient of the row before its gate. -/
def REF9 : FVec Ideal S16384x2048 .bf16 := fun j =>
  ((dy (yr (YF (j 0)) (YB (j 0)) (C (j 0)) DK) (Z (j 0)) NW W (DH (j 0)) (j 1) : ℝ) : EReal)

/-- The gradient of the gate's branch. -/
def REF10 : FVec Ideal S16384x2048 .bf16 := fun j =>
  ((dz (yr (YF (j 0)) (YB (j 0)) (C (j 0)) DK) (Z (j 0)) NW W (DH (j 0)) (j 1) : ℝ) : EReal)

/-- The gradient of the normalization's weight. -/
def REF11 : FVec Ideal S1x2048 .f32 := fun j => ∑ l, T11 DH YF YB C Z DK W l (j 1)

/-- The gradient of the skip. -/
def REF12 : FVec Ideal S1x2048 .f32 := fun j => ∑ l, T12 DH YF YB C Z DK NW W l (j 1)

variable {DH YF YB C Z DK NW W} {m : (ℓ : Loc nD τ sig) → Buf (Elt Ideal) ℓ} {c : Dev nD}
  (h0 : ∀ l k, w_arg0 m c (ix2 l k) = (DH l k : EReal)) (h1 : ∀ l k, w_arg1 m c (ix2 l k) = (YF l k : EReal))
  (h2 : ∀ l k, w_arg2 m c (ix2 l k) = (YB l k : EReal))
  (h3 : ∀ l (k : Fin 2048), w_arg3 m c (ix2 l ⟨k.val, Nat.lt_of_lt_of_le k.isLt (Nat.le_add_right 2048 1024)⟩) = (C l k : EReal))
  (h4 : ∀ l (k : Fin 2048), w_arg4 m c (ix2 l ⟨k.val, Nat.lt_of_lt_of_le k.isLt (Nat.le_add_right 2048 3200)⟩) = (Z l k : EReal))
  (h5 : ∀ k, w_arg5 m c (ix2 0 k) = (DK k : EReal)) (h6 : ∀ k, w_arg6 m c (ix2 0 k) = (NW k : EReal))
  (h7 : ∀ d k, w_arg7 m c (ix2 d k) = (W d k : EReal))

theorem n2048 : (2048 : ℝ) ≠ 0 := by norm_num

include h0 h1 h2 h3 h4 h5 h6 h7

theorem e3 (l : Fin 16384) (d : Fin 2048) : w_v3 m c (ix2 l d) = (((Z l d) : ℝ) : EReal) := by
  pointwise [w_v3, w_v0]
  exact (congrArg (w_arg4 m c) (by rfl)).trans (h4 l d)

theorem e5 (l : Fin 16384) (d : Fin 2048) : w_v5 m c (ix2 l d) = (((C l d) : ℝ) : EReal) := by
  pointwise [w_v5, w_v4]
  exact (congrArg (w_arg3 m c) (by rfl)).trans (h3 l d)

theorem e6 (l : Fin 16384) (d : Fin 2048) : w_v6 m c (ix2 l d) = (((sl (C l d)) : ℝ) : EReal) := by
  pointwise [w_v6, w_call0_v5, w_call0_v4, w_call0_cst_0, w_call0_v3, w_call0_v1, w_call0_v0, w_call0_v2, w_call0_cst]
  rw [e5 h0 h1 h2 h3 h4 h5 h6 h7, ← EReal.coe_neg, sg_coe', ← EReal.coe_mul]
  rfl

theorem e9 (l : Fin 16384) (d : Fin 2048) : w_v9 m c (ix2 l d) = (((yr (YF l) (YB l) (C l) DK d) : ℝ) : EReal) := by
  pointwise [w_v9, w_v8, w_v7, w_v2]
  rw [h1, h2, e6 h0 h1 h2 h3 h4 h5 h6 h7, h5, ← EReal.coe_mul, ← EReal.coe_add, ← EReal.coe_add]
  rfl

theorem e10_2 (l : Fin 16384) (d : Fin 2048) : w_v10_2 m c (ix2 l d) = (((sg (Z l d)) : ℝ) : EReal) := by
  pointwise [w_v10_2, w_call1_v4, w_call1_cst_0, w_call1_v3, w_call1_v1, w_call1_v0, w_call1_v2, w_call1_cst]
  rw [e3 h0 h1 h2 h3 h4 h5 h6 h7, ← EReal.coe_neg]
  exact sg_coe' _

theorem e10_1 (l : Fin 16384) (d : Fin 2048) : w_v10_1 m c (ix2 l d) = (((sg (Z l d) * (1 - sg (Z l d))) : ℝ) : EReal) := by
  pointwise [w_v10_1, w_call1_v7, w_call1_v6, w_call1_cst_1]
  rw [e10_2 h0 h1 h2 h3 h4 h5 h6 h7, sub_eq_add_neg]
  exact sgsub_coe _

theorem e10_0 (l : Fin 16384) (d : Fin 2048) : w_v10_0 m c (ix2 l d) = (((sl (Z l d)) : ℝ) : EReal) := by
  pointwise [w_v10_0]
  rw [e10_2 h0 h1 h2 h3 h4 h5 h6 h7, e3 h0 h1 h2 h3 h4 h5 h6 h7, ← EReal.coe_mul]
  rfl

theorem e11 (l : Fin 16384) (d : Fin 2048) : w_v11 m c (ix2 l d) = (((gt (yr (YF l) (YB l) (C l) DK) (Z l) d) : ℝ) : EReal) := by
  pointwise [w_v11]
  rw [e9 h0 h1 h2 h3 h4 h5 h6 h7, e10_0 h0 h1 h2 h3 h4 h5 h6 h7, ← EReal.coe_mul]
  rfl

theorem e18 (l : Fin 16384) : w_v18 m c (ix2 l 0) = (((qm (yr (YF l) (YB l) (C l) DK) (Z l)) : ℝ) : EReal) := by
  pointwise [w_v18, w_v17, w_cst_1, w_v16, w_v15, w_cst_0, w_v14, w_v13, w_cst, w_v12]
  simp only [e11 h0 h1 h2 h3 h4 h5 h6 h7, c2048, ceps, ← EReal.coe_mul, ← coe_sum, div_coe_coe _ n2048, ← EReal.coe_add]
  rfl

theorem e19 (l : Fin 16384) : w_v19 m c (ix2 l 0) = (((rq (yr (YF l) (YB l) (C l) DK) (Z l)) : ℝ) : EReal) := by
  pointwise [w_v19]
  rw [e18 h0 h1 h2 h3 h4 h5 h6 h7]
  exact rsqrt_coe (qm_pos (yr (YF l) (YB l) (C l) DK) (Z l))

theorem e22 (l : Fin 16384) : w_v22 m c (ix2 l 0) = (((-(1 / 2) * (rq (yr (YF l) (YB l) (C l) DK) (Z l) / qm (yr (YF l) (YB l) (C l) DK) (Z l))) : ℝ) : EReal) := by
  pointwise [w_v22, w_v21, w_cst_2, w_v20]
  rw [e18 h0 h1 h2 h3 h4 h5 h6 h7, e19 h0 h1 h2 h3 h4 h5 h6 h7, cneghalf, div_coe_coe _ (qm_pos (yr (YF l) (YB l) (C l) DK) (Z l)).ne', ← EReal.coe_mul]

theorem e24 (l : Fin 16384) (d : Fin 2048) : w_v24 m c (ix2 l d) = (((nn (yr (YF l) (YB l) (C l) DK) (Z l) d) : ℝ) : EReal) := by
  pointwise [w_v24, w_v23]
  rw [e11 h0 h1 h2 h3 h4 h5 h6 h7, e19 h0 h1 h2 h3 h4 h5 h6 h7, ← EReal.coe_mul]
  rfl

theorem e30 (l : Fin 16384) (d : Fin 2048) : w_v30 m c (ix2 l d) = (((Conf.d3 W (DH l) d) : ℝ) : EReal) := by
  pointwise [w_v30, w_v1]
  simp only [h0, h7, ← EReal.coe_mul, ← coe_sum]
  rfl

theorem e35 (l : Fin 16384) (d : Fin 2048) : w_v35 m c (ix2 l d) = (((dn NW W (DH l) d) : ℝ) : EReal) := by
  pointwise [w_v35, w_v34]
  rw [e30 h0 h1 h2 h3 h4 h5 h6 h7, h6, ← EReal.coe_mul]
  rfl

theorem e38 (l : Fin 16384) : w_v38 m c (ix2 l 0) = ((((∑ j, gt (yr (YF l) (YB l) (C l) DK) (Z l) j * dn NW W (DH l) j)) : ℝ) : EReal) := by
  pointwise [w_v38, w_v37, w_cst_4, w_v36]
  simp only [e11 h0 h1 h2 h3 h4 h5 h6 h7, e35 h0 h1 h2 h3 h4 h5 h6 h7, ← EReal.coe_mul, ← coe_sum]

theorem e45 (l : Fin 16384) (d : Fin 2048) : w_v45 m c (ix2 l d) = ((((∑ j, gt (yr (YF l) (YB l) (C l) DK) (Z l) j * dn NW W (DH l) j) * (-(1 / 2) * (rq (yr (YF l) (YB l) (C l) DK) (Z l) / qm (yr (YF l) (YB l) (C l) DK) (Z l))) / 2048) : ℝ) : EReal) := by
  pointwise [w_v45, w_v44, w_cst_6, w_v43, w_v42, w_cst_5, w_v41]
  simp only [Fin.sum_univ_one, e38 h0 h1 h2 h3 h4 h5 h6 h7, e22 h0 h1 h2 h3 h4 h5 h6 h7, c2048, ← EReal.coe_mul, div_coe_coe _ n2048]

theorem e49 (l : Fin 16384) (d : Fin 2048) : w_v49 m c (ix2 l d) = (((dgt (yr (YF l) (YB l) (C l) DK) (Z l) NW W (DH l) d) : ℝ) : EReal) := by
  pointwise [w_v49, w_v48, w_v47, w_v46, w_v40, w_v39]
  rw [e35 h0 h1 h2 h3 h4 h5 h6 h7, e19 h0 h1 h2 h3 h4 h5 h6 h7, e11 h0 h1 h2 h3 h4 h5 h6 h7, e45 h0 h1 h2 h3 h4 h5 h6 h7]
  simp only [← EReal.coe_mul, ← EReal.coe_add]
  exact congrArg _ (rms_real (yr (YF l) (YB l) (C l) DK) (Z l) (dn NW W (DH l)) d)

theorem e51 (l : Fin 16384) (d : Fin 2048) : w_v51 m c (ix2 l d) = (((dy (yr (YF l) (YB l) (C l) DK) (Z l) NW W (DH l) d) : ℝ) : EReal) := by
  pointwise [w_v51]
  rw [e49 h0 h1 h2 h3 h4 h5 h6 h7, e10_0 h0 h1 h2 h3 h4 h5 h6 h7, ← EReal.coe_mul]
  rfl

theorem e52 (l : Fin 16384) (d : Fin 2048) : w_v52 m c (ix2 l d) = (((dz (yr (YF l) (YB l) (C l) DK) (Z l) NW W (DH l) d) : ℝ) : EReal) := by
  pointwise [w_v52, w_call2_v2, w_call2_v1, w_call2_v0, w_v50]
  rw [e49 h0 h1 h2 h3 h4 h5 h6 h7, e9 h0 h1 h2 h3 h4 h5 h6 h7, e10_2 h0 h1 h2 h3 h4 h5 h6 h7, e10_1 h0 h1 h2 h3 h4 h5 h6 h7, e3 h0 h1 h2 h3 h4 h5 h6 h7]
  simp only [← EReal.coe_mul, ← EReal.coe_add]
  rw [sl_grad, mul_comm (yr _ _ _ _ d)]
  rfl

theorem ref8 : w_v29 m c = REF8 DH YF YB C Z DK NW := by
  funext j
  obtain ⟨d, k, rfl⟩ : ∃ d k, j = ix2 d k := ⟨j 0, j 1, by funext i; fin_cases i <;> rfl⟩
  pointwise [w_v29, w_v28, w_v26, w_v25]
  simp only [e24 h0 h1 h2 h3 h4 h5 h6 h7, h6, h0]
  refine Finset.sum_congr rfl fun l _ => ?_
  simp only [← EReal.coe_mul]
  exact congrArg _ (mul_comm _ _)

theorem ref9 : w_v56 m c = REF9 DH YF YB C Z DK NW W := by
  funext j
  obtain ⟨l, d, rfl⟩ : ∃ l d, j = ix2 l d := ⟨j 0, j 1, by funext i; fin_cases i <;> rfl⟩
  pointwise [w_v56]
  exact e51 h0 h1 h2 h3 h4 h5 h6 h7 l d

theorem ref10 : w_v57 m c = REF10 DH YF YB C Z DK NW W := by
  funext j
  obtain ⟨l, d, rfl⟩ : ∃ l d, j = ix2 l d := ⟨j 0, j 1, by funext i; fin_cases i <;> rfl⟩
  pointwise [w_v57]
  exact e52 h0 h1 h2 h3 h4 h5 h6 h7 l d

theorem ref11 : w_v33 m c = REF11 DH YF YB C Z DK W := by
  funext j
  obtain ⟨l, d, rfl⟩ : ∃ l d, j = ix2 l d := ⟨j 0, j 1, by funext i; fin_cases i <;> rfl⟩
  pointwise [w_v33, w_v32, w_cst_3, w_v31]
  simp only [e24 h0 h1 h2 h3 h4 h5 h6 h7, e30 h0 h1 h2 h3 h4 h5 h6 h7]
  refine Finset.sum_congr rfl fun l _ => ?_
  simp only [← EReal.coe_mul]
  exact congrArg _ (mul_comm _ _)

theorem ref12 : w_v55 m c = REF12 DH YF YB C Z DK NW W := by
  funext j
  obtain ⟨l, d, rfl⟩ : ∃ l d, j = ix2 l d := ⟨j 0, j 1, by funext i; fin_cases i <;> rfl⟩
  pointwise [w_v55, w_v54, w_cst_7, w_v53]
  simp only [e6 h0 h1 h2 h3 h4 h5 h6 h7, e51 h0 h1 h2 h3 h4 h5 h6 h7]
  refine Finset.sum_congr rfl fun l _ => ?_
  simp only [← EReal.coe_mul]
  exact congrArg _ (mul_comm _ _)

end Cert.SsdOutRefIdeal.Hand

end
-- ==== Proof.SsdOut.lean ====
module

public import proofs.«01_k».proof.Proof.Gen.SsdOutIdeal.Value
public import proofs.«01_k».proof.Proof.SsdOutVal
public import proofs.«01_k».proof.Proof.Gate
public import proofs.«01_k».proof.Defs

@[expose] public section

set_option maxRecDepth 16384

noncomputable section

namespace Cert.SsdOutIdeal.Hand

open Cert.SsdOutIdeal Cert.SsdOutIdeal.Gen Cert.Common Cert.Common.Ssd Idealize.ShloMosaic Idealize.ShloMosaic.TcCoe Idealize.SL.Sem
open Cert.SsdOutRefIdeal.Hand (T8 T11 T12 REF8 REF9 REF10 REF11 REF12)
open Idealize.ShloMosaic.Pipeline (Dat)

variable (m : (ℓ : Loc nD τ sig) → Buf (Elt Ideal) ℓ)

/-- The windows' index maps. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![0, 0] ∧ win0_12.index t = ![0, 0] :=
  (by decide +kernel : ∀ t : Fin grid0.N, _)

/-- The position of a row of a point's block. -/
def pos (t : Fin cfg0.N) (r : Fin 256) : Fin 16384 := ⟨256 * t.val + r.val, by
  have h : t.val < 64 := t.isLt
  omega⟩

/-- Argument 0. -/
abbrev A0 (c : Dev nD) : FVec Ideal S16384x1024 .f32 := m ((c : Thread nD τ).loc main_arg0)

/-- Argument 1. -/
abbrev A1 (c : Dev nD) : FVec Ideal S16384x2048 .f32 := m ((c : Thread nD τ).loc main_arg1)

/-- Argument 2. -/
abbrev A2 (c : Dev nD) : FVec Ideal S16384x2048 .f32 := m ((c : Thread nD τ).loc main_arg2)

/-- Argument 3. -/
abbrev A3 (c : Dev nD) : FVec Ideal S16384x3072 .bf16 := m ((c : Thread nD τ).loc main_arg3)

/-- Argument 4. -/
abbrev A4 (c : Dev nD) : FVec Ideal S16384x5248 .bf16 := m ((c : Thread nD τ).loc main_arg4)

/-- Argument 5. -/
abbrev A5 (c : Dev nD) : FVec Ideal S1x2048 .f32 := m ((c : Thread nD τ).loc main_arg5)

/-- Argument 6. -/
abbrev A6 (c : Dev nD) : FVec Ideal S1x2048 .f32 := m ((c : Thread nD τ).loc main_arg6)

/-- Argument 7. -/
abbrev A7 (c : Dev nD) : FVec Ideal S2048x1024 .bf16 := m ((c : Thread nD τ).loc main_arg7)

section Pay

variable {yf yb : FVec Ideal S256x2048 .f32} {cc z : FVec Ideal S256x2048 .bf16} {dk nw : FVec Ideal S1x2048 .f32}
  {w : FVec Ideal S2048x1024 .bf16} {dh : FVec Ideal S256x1024 .f32}
  {YF YB C Z : Fin 256 → Fin 2048 → ℝ} {DK NW : Fin 2048 → ℝ} {W : Fin 2048 → Fin 1024 → ℝ} {DH : Fin 256 → Fin 1024 → ℝ}
  (hyf : ∀ r k, yf (ix2 r k) = (YF r k : EReal)) (hyb : ∀ r k, yb (ix2 r k) = (YB r k : EReal))
  (hcc : ∀ r k, cc (ix2 r k) = (C r k : EReal)) (hz : ∀ r k, z (ix2 r k) = (Z r k : EReal))
  (hdk : ∀ k, dk (ix2 0 k) = (DK k : EReal)) (hnw : ∀ k, nw (ix2 0 k) = (NW k : EReal))
  (hw : ∀ d k, w (ix2 d k) = (W d k : EReal)) (hdh : ∀ r k, dh (ix2 r k) = (DH r k : EReal))

theorem p7 (r : Fin 256) (k : Fin 2048) : k0_pay7 (F := Ideal) z (ix2 r k) = z (ix2 r k) := by
  pointwise [k0_pay7]

include hcc in
theorem p8 (r : Fin 256) (k : Fin 2048) : k0_pay8 (F := Ideal) cc (ix2 r k) = ((sl (C r k) : ℝ) : EReal) := by
  pointwise [k0_pay8]
  rw [hcc, sub_eq_add_neg, zero_add, ← EReal.coe_neg, sg_coe', ← EReal.coe_mul]
  rfl

include hyf hyb hcc hdk in
theorem p9 (r : Fin 256) (k : Fin 2048) : k0_pay9 (F := Ideal) yf yb cc dk (ix2 r k) = ((yr (YF r) (YB r) (C r) DK k : ℝ) : EReal) := by
  pointwise [k0_pay9]
  rw [hyf, hyb, p8 hcc, hdk, ← EReal.coe_mul, ← EReal.coe_add, ← EReal.coe_add]
  rfl

include hz in
theorem p10 (r : Fin 256) (k : Fin 2048) : k0_pay10 (F := Ideal) z (ix2 r k) = ((sl (Z r k) : ℝ) : EReal) := by
  pointwise [k0_pay10]
  rw [p7, hz, sub_eq_add_neg, zero_add, ← EReal.coe_neg, sg_coe', ← EReal.coe_mul]
  rfl

include hyf hyb hcc hz hdk in
theorem p11 (r : Fin 256) (k : Fin 2048) : k0_pay11 (F := Ideal) z yf yb cc dk (ix2 r k) = ((gt (yr (YF r) (YB r) (C r) DK) (Z r) k : ℝ) : EReal) := by
  pointwise [k0_pay11]
  rw [p9 hyf hyb hcc hdk, p10 hz, ← EReal.coe_mul]
  rfl

include hyf hyb hcc hz hdk in
theorem p14 (r : Fin 256) : k0_pay14 (F := Ideal) (k0_pay12 z yf yb cc dk) k0_pay13 (ix2 r 0) = ((rq (yr (YF r) (YB r) (C r) DK) (Z r) : ℝ) : EReal) := by
  pointwise [k0_pay14, k0_pay12, k0_pay13]
  simp only [p11 hyf hyb hcc hz hdk, c2048, ceps, ← EReal.coe_mul, ← coe_sum, div_coe_coe _ (show (2048 : ℝ) ≠ 0 by norm_num), ← EReal.coe_add]
  exact rsqrt_coe (qm_pos (yr (YF r) (YB r) (C r) DK) (Z r))

include hyf hyb hcc hz hdk in
theorem p15 (r : Fin 256) (k : Fin 2048) : k0_pay15 (F := Ideal) (k0_pay11 z yf yb cc dk) (k0_pay12 z yf yb cc dk) k0_pay13 (ix2 r k) = ((nn (yr (YF r) (YB r) (C r) DK) (Z r) k : ℝ) : EReal) := by
  pointwise [k0_pay15]
  rw [p11 hyf hyb hcc hz hdk, p14 hyf hyb hcc hz hdk, ← EReal.coe_mul]
  rfl

include hw hdh in
theorem p18 (r : Fin 256) (d : Fin 2048) : k0_pay18 (F := Ideal) dh w (ix2 r d) = ((Conf.d3 W (DH r) d : ℝ) : EReal) := by
  pointwise [k0_pay18, k0_pay16]
  simp only [hw, hdh, ← EReal.coe_mul, ← coe_sum]
  rfl

include hyf hyb hcc hz hdk hnw hdh in
theorem p17 (acc : FVec Ideal S2048x1024 .f32) (d : Fin 2048) (k : Fin 1024) :
    k0_pay17 (F := Ideal) (k0_pay11 z yf yb cc dk) (k0_pay12 z yf yb cc dk) k0_pay13 dh acc nw (ix2 d k)
    = acc (ix2 d k) + ((∑ r, nn (yr (YF r) (YB r) (C r) DK) (Z r) d * NW d * DH r k : ℝ) : EReal) := by
  pointwise [k0_pay17, k0_pay16]
  simp only [p15 hyf hyb hcc hz hdk, hnw, hdh, ← EReal.coe_mul, ← coe_sum]

include hyf hyb hcc hz hdk hw hdh in
theorem p19 (r : Fin 256) (d : Fin 2048) : k0_pay19 (F := Ideal) (k0_pay11 z yf yb cc dk) (k0_pay12 z yf yb cc dk) k0_pay13 dh w (ix2 r d)
    = ((Conf.d3 W (DH r) d * nn (yr (YF r) (YB r) (C r) DK) (Z r) d : ℝ) : EReal) := by
  pointwise [k0_pay19]
  rw [p18 hw hdh, p15 hyf hyb hcc hz hdk, ← EReal.coe_mul]

theorem p22 (a : FVec Ideal S256x2048 .f32) (b e : FVec Ideal S256x1 .f32) (f : FVec Ideal S256x1024 .f32) (h : FVec Ideal S2048x1024 .bf16)
    (acc : FVec Ideal S8x2048 .f32) (j) :
    k0_pay22 (F := Ideal) acc (k0_pay19 a b e f h) (k0_pay20 a b e f h) (k0_pay21 a b e f h) j
    = acc j + ∑ b' : Fin 32, k0_pay19 (F := Ideal) a b e f h (ix2 ⟨8 * b'.val + (j 0).val, by
        have h : (j 0).val < 8 := (j 0).isLt
        omega⟩ (j 1)) := by
  have h := rows32 (fun l => k0_pay19 (F := Ideal) a b e f h (ix2 l (j 1))) (j 0)
  rw [← h]
  pointwise [k0_pay22, k0_pay20, k0_pay21]
  try rfl

include hyf hyb hcc hz hdk hnw hw hdh in
theorem p25 (r : Fin 256) (d : Fin 2048) : k0_pay25 (F := Ideal) (k0_pay23 (k0_pay15 (k0_pay11 z yf yb cc dk) (k0_pay12 z yf yb cc dk) k0_pay13) (k0_pay18 dh w) nw) (k0_pay24 (k0_pay14 (k0_pay12 z yf yb cc dk) k0_pay13)) (ix2 r d)
    = ((dgt (yr (YF r) (YB r) (C r) DK) (Z r) NW W (DH r) d : ℝ) : EReal) := by
  pointwise [k0_pay25, k0_pay24, k0_pay23]
  simp only [p14 hyf hyb hcc hz hdk, p15 hyf hyb hcc hz hdk, p18 hw hdh, hnw, c2048, ← EReal.coe_mul, ← coe_sum, div_coe_coe _ (show (2048 : ℝ) ≠ 0 by norm_num), ← EReal.coe_sub]
  rfl

include hyf hyb hcc hz hdk hnw hw hdh in
theorem p26 (r : Fin 256) (d : Fin 2048) : k0_pay26 (F := Ideal) (k0_pay10 z) (k0_pay23 (k0_pay15 (k0_pay11 z yf yb cc dk) (k0_pay12 z yf yb cc dk) k0_pay13) (k0_pay18 dh w) nw) (k0_pay24 (k0_pay14 (k0_pay12 z yf yb cc dk) k0_pay13)) (ix2 r d)
    = ((dy (yr (YF r) (YB r) (C r) DK) (Z r) NW W (DH r) d : ℝ) : EReal) := by
  pointwise [k0_pay26]
  rw [p25 hyf hyb hcc hz hdk hnw hw hdh, p10 hz, ← EReal.coe_mul]
  rfl

include hyf hyb hcc hz hdk hnw hw hdh in
theorem p27 (r : Fin 256) (d : Fin 2048) : k0_pay27 (F := Ideal) (k0_pay10 z) (k0_pay23 (k0_pay15 (k0_pay11 z yf yb cc dk) (k0_pay12 z yf yb cc dk) k0_pay13) (k0_pay18 dh w) nw) (k0_pay24 (k0_pay14 (k0_pay12 z yf yb cc dk) k0_pay13)) (ix2 r d)
    = ((dy (yr (YF r) (YB r) (C r) DK) (Z r) NW W (DH r) d : ℝ) : EReal) := by
  pointwise [k0_pay27]
  exact p26 hyf hyb hcc hz hdk hnw hw hdh r d

include hyf hyb hcc hz hdk hnw hw hdh in
theorem p28 (r : Fin 256) (d : Fin 2048) : k0_pay28 (F := Ideal) (k0_pay7 z) (k0_pay9 yf yb cc dk) (k0_pay23 (k0_pay15 (k0_pay11 z yf yb cc dk) (k0_pay12 z yf yb cc dk) k0_pay13) (k0_pay18 dh w) nw) (k0_pay24 (k0_pay14 (k0_pay12 z yf yb cc dk) k0_pay13)) (ix2 r d)
    = ((dz (yr (YF r) (YB r) (C r) DK) (Z r) NW W (DH r) d : ℝ) : EReal) := by
  pointwise [k0_pay28]
  rw [p25 hyf hyb hcc hz hdk hnw hw hdh, p9 hyf hyb hcc hdk, p7, hz]
  rw [sub_eq_add_neg, sub_eq_add_neg, zero_add, ← EReal.coe_neg, sg_coe', ds_coe, ← EReal.coe_mul, ← EReal.coe_mul]
  rfl

include hyf hyb hcc hz hdk hnw hw hdh in
theorem p29 (r : Fin 256) (d : Fin 2048) : k0_pay29 (F := Ideal) (k0_pay8 cc) (k0_pay10 z) (k0_pay23 (k0_pay15 (k0_pay11 z yf yb cc dk) (k0_pay12 z yf yb cc dk) k0_pay13) (k0_pay18 dh w) nw) (k0_pay24 (k0_pay14 (k0_pay12 z yf yb cc dk) k0_pay13)) (ix2 r d)
    = ((dy (yr (YF r) (YB r) (C r) DK) (Z r) NW W (DH r) d * sl (C r d) : ℝ) : EReal) := by
  pointwise [k0_pay29]
  rw [p26 hyf hyb hcc hz hdk hnw hw hdh, p8 hcc, ← EReal.coe_mul]

theorem p1 (a b e f : FVec Ideal S256x2048 .f32) (acc : FVec Ideal S8x2048 .f32) (j) :
    k0_pay1 (F := Ideal) acc (k0_pay29 a b e f) (k0_pay30 a b e f) (k0_pay31 a b e f) j
    = acc j + ∑ b' : Fin 32, k0_pay29 (F := Ideal) a b e f (ix2 ⟨8 * b'.val + (j 0).val, by
        have h : (j 0).val < 8 := (j 0).isLt
        omega⟩ (j 1)) := by
  have h := rows32 (fun l => k0_pay29 (F := Ideal) a b e f (ix2 l (j 1))) (j 0)
  rw [← h]
  pointwise [k0_pay1, k0_pay30, k0_pay31]
  try rfl

end Pay

section Blocks

variable (c : Dev nD) (t : Fin cfg0.N)

theorem b0 (r : Fin 256) (k : Fin 1024) : iblk m c 0 t (ix2 r k) = A0 m c (ix2 (pos t r) k) := by
  blk_point [iblk, V, idx t, pos]

theorem b1 (r : Fin 256) (k : Fin 2048) : iblk m c 1 t (ix2 r k) = A1 m c (ix2 (pos t r) k) := by
  blk_point [iblk, V, idx t, pos]

theorem b2 (r : Fin 256) (k : Fin 2048) : iblk m c 2 t (ix2 r k) = A2 m c (ix2 (pos t r) k) := by
  blk_point [iblk, V, idx t, pos]

theorem b3 (r : Fin 256) (k : Fin 2048) : X0_3 m c t (ix2 r k) = A3 m c (ix2 (pos t r) ⟨k.val, Nat.lt_of_lt_of_le k.isLt (Nat.le_add_right 2048 1024)⟩) := by
  unfold X0_3 Pipeline.Window.fill
  rw [dif_pos (moved0_3 t _)]
  blk_point [iblk, V, idx t, pos]

theorem b4 (r : Fin 256) (k : Fin 2048) : X0_4 m c t (ix2 r k) = A4 m c (ix2 (pos t r) ⟨k.val, Nat.lt_of_lt_of_le k.isLt (Nat.le_add_right 2048 3200)⟩) := by
  unfold X0_4 Pipeline.Window.fill
  rw [dif_pos (moved0_4 t _)]
  blk_point [iblk, V, idx t, pos]

theorem b5 (k : Fin 2048) : iblk m c 5 t (ix2 0 k) = A5 m c (ix2 0 k) := by
  blk_point [iblk, V, idx t]

theorem b6 (k : Fin 2048) : iblk m c 6 t (ix2 0 k) = A6 m c (ix2 0 k) := by
  blk_point [iblk, V, idx t]

theorem b7 (d : Fin 2048) (k : Fin 1024) : iblk m c 7 t (ix2 d k) = A7 m c (ix2 d k) := by
  blk_point [iblk, V, idx t]

end Blocks

section Emb

theorem emb8 (t : Fin cfg0.N) (y : ((cfg0.win 8).xblock (cfg0.grid.coords t)).Idx) :
    (win0_8.blk t).view.emb y = ix2 (y 0) (y 1) := by
  have h := idx t
  have h0 : win0_8.index t 0 = 0 := (congrFun h.2.2.2.2.2.2.2.2.1 0).trans rfl
  have h1 : win0_8.index t 1 = 0 := (congrFun h.2.2.2.2.2.2.2.2.1 1).trans rfl
  funext a
  apply Fin.ext
  match a with
  | ⟨0, _⟩ => show win0_8.index t 0 * 2048 + 1 * (y 0).val = (y 0).val; rw [h0]; omega
  | ⟨1, _⟩ => show win0_8.index t 1 * 1024 + 1 * (y 1).val = (y 1).val; rw [h1]; omega

theorem emb9 (t : Fin cfg0.N) (y : ((cfg0.win 9).xblock (cfg0.grid.coords t)).Idx) :
    (win0_9.blk t).view.emb y = ix2 (pos t (y 0)) (y 1) := by
  have h := idx t
  have h0 : win0_9.index t 0 = t.val := (congrFun h.2.2.2.2.2.2.2.2.2.1 0).trans rfl
  have h1 : win0_9.index t 1 = 0 := (congrFun h.2.2.2.2.2.2.2.2.2.1 1).trans rfl
  funext a
  apply Fin.ext
  match a with
  | ⟨0, _⟩ => show win0_9.index t 0 * 256 + 1 * (y 0).val = 256 * t.val + (y 0).val; rw [h0]; omega
  | ⟨1, _⟩ => show win0_9.index t 1 * 2048 + 1 * (y 1).val = (y 1).val; rw [h1]; omega

theorem emb10 (t : Fin cfg0.N) (y : ((cfg0.win 10).xblock (cfg0.grid.coords t)).Idx) :
    (win0_10.blk t).view.emb y = ix2 (pos t (y 0)) (y 1) := by
  have h := idx t
  have h0 : win0_10.index t 0 = t.val := (congrFun h.2.2.2.2.2.2.2.2.2.2.1 0).trans rfl
  have h1 : win0_10.index t 1 = 0 := (congrFun h.2.2.2.2.2.2.2.2.2.2.1 1).trans rfl
  funext a
  apply Fin.ext
  match a with
  | ⟨0, _⟩ => show win0_10.index t 0 * 256 + 1 * (y 0).val = 256 * t.val + (y 0).val; rw [h0]; omega
  | ⟨1, _⟩ => show win0_10.index t 1 * 2048 + 1 * (y 1).val = (y 1).val; rw [h1]; omega

theorem emb11 (t : Fin cfg0.N) (y : ((cfg0.win 11).xblock (cfg0.grid.coords t)).Idx) :
    (win0_11.blk t).view.emb y 1 = y 1 := by
  have h := idx t
  have h1 : win0_11.index t 1 = 0 := (congrFun h.2.2.2.2.2.2.2.2.2.2.2.1 1).trans rfl
  apply Fin.ext
  show win0_11.index t 1 * 2048 + 1 * (y 1).val = (y 1).val; rw [h1]; omega

theorem emb12 (t : Fin cfg0.N) (y : ((cfg0.win 12).xblock (cfg0.grid.coords t)).Idx) :
    (win0_12.blk t).view.emb y 1 = y 1 := by
  have h := idx t
  have h1 : win0_12.index t 1 = 0 := (congrFun h.2.2.2.2.2.2.2.2.2.2.2.2 1).trans rfl
  apply Fin.ext
  show win0_12.index t 1 * 2048 + 1 * (y 1).val = (y 1).val; rw [h1]; omega

end Emb

section Final

/-- What a point adds to an accumulator of eight rows. -/
def pt (T : Fin 16384 → Fin 2048 → EReal) (n : ℕ) (j : S8x2048.Idx) : EReal :=
  if h : n < 64 then ∑ b : Fin 32, T (pos ⟨n, h⟩ ⟨8 * b.val + (j 0).val, by
        have h : (j 0).val < 8 := (j 0).isLt
        omega⟩) (j 1) else 0

theorem sum_all (T : Fin 16384 → Fin 2048 → EReal) (d : Fin 2048) :
    ∑ r : Fin 8, ∑ s : Fin 64, pt T s.val (ix2 r d) = ∑ l, T l d := by
  rw [Finset.sum_comm, ← sum_tiles (A := 64) (B := 256) (fun l => T l d) (by norm_num)]
  refine Finset.sum_congr rfl fun s _ => ?_
  rw [← sum_groups (A := 32) (L := 256) _ (by norm_num)]
  refine Finset.sum_congr rfl fun r _ => ?_
  rw [pt, dif_pos s.isLt]
  rfl

/-- What a point adds to the accumulator of the product. -/
def pt6 (T : Fin 16384 → EReal) (n : ℕ) : EReal := if h : n < 64 then ∑ r : Fin 256, T (pos ⟨n, h⟩ r) else 0

theorem sum_all6 (T : Fin 16384 → EReal) : ∑ s : Fin 64, pt6 T s.val = ∑ l, T l := by
  rw [← sum_tiles (A := 64) (B := 256) T (by norm_num)]
  refine Finset.sum_congr rfl fun s _ => ?_
  rw [pt6, dif_pos s.isLt]
  rfl

theorem zero4 (j) : k0_pay4 (F := Ideal) j = 0 := by pointwise [k0_pay4]

theorem zero5 (j) : k0_pay5 (F := Ideal) j = 0 := by pointwise [k0_pay5]

theorem zero6 (j) : k0_pay6 (F := Ideal) j = 0 := by pointwise [k0_pay6]

variable {m} {c : Dev nD} {DH : Fin 16384 → Fin 1024 → ℝ} {YF YB C Z : Fin 16384 → Fin 2048 → ℝ} {DK NW : Fin 2048 → ℝ}
  {W : Fin 2048 → Fin 1024 → ℝ}
  (h0 : ∀ l k, A0 m c (ix2 l k) = (DH l k : EReal)) (h1 : ∀ l k, A1 m c (ix2 l k) = (YF l k : EReal))
  (h2 : ∀ l k, A2 m c (ix2 l k) = (YB l k : EReal)) (h3 : ∀ l (k : Fin 2048), A3 m c (ix2 l ⟨k.val, Nat.lt_of_lt_of_le k.isLt (Nat.le_add_right 2048 1024)⟩) = (C l k : EReal))
  (h4 : ∀ l (k : Fin 2048), A4 m c (ix2 l ⟨k.val, Nat.lt_of_lt_of_le k.isLt (Nat.le_add_right 2048 3200)⟩) = (Z l k : EReal))
  (h5 : ∀ k, A5 m c (ix2 0 k) = (DK k : EReal)) (h6 : ∀ k, A6 m c (ix2 0 k) = (NW k : EReal))
  (h7 : ∀ d k, A7 m c (ix2 d k) = (W d k : EReal))

theorem ix2_surj {a b : ℕ} (y : Shape.Idx ⟨2, ![a, b]⟩) : ∃ r d, y = ix2 r d := ⟨y 0, y 1, by funext i; fin_cases i <;> rfl⟩

include h0 h1 h2 h3 h4 h5 h6 h7

theorem out9_eq (t : Fin cfg0.N) (y) : (outsAt0 m c t.val t.isLt).2.1 y
    = REF9 DH YF YB C Z DK NW W (ix2 (pos t (y 0)) (y 1)) := by
  obtain ⟨r, d, rfl⟩ := ix2_surj y
  have key := p27 (YF := fun r => YF (pos t r)) (YB := fun r => YB (pos t r)) (C := fun r => C (pos t r)) (Z := fun r => Z (pos t r)) (DK := DK) (NW := NW) (W := W) (DH := fun r => DH (pos t r))
    (fun r k => (b1 m c t r k).trans (h1 _ _)) (fun r k => (b2 m c t r k).trans (h2 _ _)) (fun r k => (b3 m c t r k).trans (h3 _ _))
    (fun r k => (b4 m c t r k).trans (h4 _ _)) (fun k => (b5 m c t k).trans (h5 _)) (fun k => (b6 m c t k).trans (h6 _))
    (fun d k => (b7 m c t d k).trans (h7 _ _)) (fun r k => (b0 m c t r k).trans (h0 _ _)) r d
  by_cases e0 : t.val % 64 = 0
  · rw [outsAt0_A m c t e0 (by omega)]; frame_out; exact key
  · by_cases e1 : t.val % 64 = 63
    · rw [outsAt0_C m c t e0 e1]; frame_out; exact key
    · rw [outsAt0_B m c t e0 e1]; frame_out; exact key

theorem out10_eq (t : Fin cfg0.N) (y) : (outsAt0 m c t.val t.isLt).2.2.1 y
    = REF10 DH YF YB C Z DK NW W (ix2 (pos t (y 0)) (y 1)) := by
  obtain ⟨r, d, rfl⟩ := ix2_surj y
  have key := p28 (YF := fun r => YF (pos t r)) (YB := fun r => YB (pos t r)) (C := fun r => C (pos t r)) (Z := fun r => Z (pos t r)) (DK := DK) (NW := NW) (W := W) (DH := fun r => DH (pos t r))
    (fun r k => (b1 m c t r k).trans (h1 _ _)) (fun r k => (b2 m c t r k).trans (h2 _ _)) (fun r k => (b3 m c t r k).trans (h3 _ _))
    (fun r k => (b4 m c t r k).trans (h4 _ _)) (fun k => (b5 m c t k).trans (h5 _)) (fun k => (b6 m c t k).trans (h6 _))
    (fun d k => (b7 m c t d k).trans (h7 _ _)) (fun r k => (b0 m c t r k).trans (h0 _ _)) r d
  by_cases e0 : t.val % 64 = 0
  · rw [outsAt0_A m c t e0 (by omega)]; frame_out; exact key
  · by_cases e1 : t.val % 64 = 63
    · rw [outsAt0_C m c t e0 e1]; frame_out; exact key
    · rw [outsAt0_B m c t e0 e1]; frame_out; exact key

theorem step8 (t : Fin cfg0.N) (acc : FVec Ideal S2048x1024 .f32) (y : S2048x1024.Idx) :
    k0_pay17 (F := Ideal) (k0_pay11 (X0_4 m c t) (iblk m c 1 t) (iblk m c 2 t) (X0_3 m c t) (iblk m c 5 t))
      (k0_pay12 (X0_4 m c t) (iblk m c 1 t) (iblk m c 2 t) (X0_3 m c t) (iblk m c 5 t)) k0_pay13 (iblk m c 0 t) acc (iblk m c 6 t) y
      = acc y + pt6 (fun l => T8 DH YF YB C Z DK NW l (y 0) (y 1)) t.val := by
  obtain ⟨d, k, rfl⟩ := ix2_surj y
  rw [p17 (YF := fun r => YF (pos t r)) (YB := fun r => YB (pos t r)) (C := fun r => C (pos t r)) (Z := fun r => Z (pos t r)) (DK := DK) (NW := NW) (DH := fun r => DH (pos t r))
    (fun r k => (b1 m c t r k).trans (h1 _ _)) (fun r k => (b2 m c t r k).trans (h2 _ _)) (fun r k => (b3 m c t r k).trans (h3 _ _))
    (fun r k => (b4 m c t r k).trans (h4 _ _)) (fun k => (b5 m c t k).trans (h5 _)) (fun k => (b6 m c t k).trans (h6 _)) (fun r k => (b0 m c t r k).trans (h0 _ _)), coe_sum, pt6, dif_pos (show t.val < 64 from t.isLt)]
  rfl

theorem step11 (t : Fin cfg0.N) (acc : FVec Ideal S8x2048 .f32) (y : S8x2048.Idx) :
    k0_pay22 (F := Ideal) acc
      (k0_pay19 (k0_pay11 (X0_4 m c t) (iblk m c 1 t) (iblk m c 2 t) (X0_3 m c t) (iblk m c 5 t)) (k0_pay12 (X0_4 m c t) (iblk m c 1 t) (iblk m c 2 t) (X0_3 m c t) (iblk m c 5 t)) k0_pay13 (iblk m c 0 t) (iblk m c 7 t))
      (k0_pay20 (k0_pay11 (X0_4 m c t) (iblk m c 1 t) (iblk m c 2 t) (X0_3 m c t) (iblk m c 5 t)) (k0_pay12 (X0_4 m c t) (iblk m c 1 t) (iblk m c 2 t) (X0_3 m c t) (iblk m c 5 t)) k0_pay13 (iblk m c 0 t) (iblk m c 7 t))
      (k0_pay21 (k0_pay11 (X0_4 m c t) (iblk m c 1 t) (iblk m c 2 t) (X0_3 m c t) (iblk m c 5 t)) (k0_pay12 (X0_4 m c t) (iblk m c 1 t) (iblk m c 2 t) (X0_3 m c t) (iblk m c 5 t)) k0_pay13 (iblk m c 0 t) (iblk m c 7 t)) y
    = acc y + pt (T11 DH YF YB C Z DK W) t.val y := by
  rw [p22, pt, dif_pos (show t.val < 64 from t.isLt)]
  exact congrArg _ (Finset.sum_congr rfl fun b _ => p19 (YF := fun r => YF (pos t r)) (YB := fun r => YB (pos t r)) (C := fun r => C (pos t r)) (Z := fun r => Z (pos t r)) (DK := DK) (W := W) (DH := fun r => DH (pos t r))
    (fun r k => (b1 m c t r k).trans (h1 _ _)) (fun r k => (b2 m c t r k).trans (h2 _ _)) (fun r k => (b3 m c t r k).trans (h3 _ _))
    (fun r k => (b4 m c t r k).trans (h4 _ _)) (fun k => (b5 m c t k).trans (h5 _))
    (fun d k => (b7 m c t d k).trans (h7 _ _)) (fun r k => (b0 m c t r k).trans (h0 _ _)) _ _)

theorem step12 (t : Fin cfg0.N) (acc : FVec Ideal S8x2048 .f32) (y : S8x2048.Idx) :
    k0_pay1 (F := Ideal) acc
      (k0_pay29 (k0_pay8 (X0_3 m c t)) (k0_pay10 (X0_4 m c t)) (k0_pay23 (k0_pay15 (k0_pay11 (X0_4 m c t) (iblk m c 1 t) (iblk m c 2 t) (X0_3 m c t) (iblk m c 5 t)) (k0_pay12 (X0_4 m c t) (iblk m c 1 t) (iblk m c 2 t) (X0_3 m c t) (iblk m c 5 t)) k0_pay13) (k0_pay18 (iblk m c 0 t) (iblk m c 7 t)) (iblk m c 6 t)) (k0_pay24 (k0_pay14 (k0_pay12 (X0_4 m c t) (iblk m c 1 t) (iblk m c 2 t) (X0_3 m c t) (iblk m c 5 t)) k0_pay13)))
      (k0_pay30 (k0_pay8 (X0_3 m c t)) (k0_pay10 (X0_4 m c t)) (k0_pay23 (k0_pay15 (k0_pay11 (X0_4 m c t) (iblk m c 1 t) (iblk m c 2 t) (X0_3 m c t) (iblk m c 5 t)) (k0_pay12 (X0_4 m c t) (iblk m c 1 t) (iblk m c 2 t) (X0_3 m c t) (iblk m c 5 t)) k0_pay13) (k0_pay18 (iblk m c 0 t) (iblk m c 7 t)) (iblk m c 6 t)) (k0_pay24 (k0_pay14 (k0_pay12 (X0_4 m c t) (iblk m c 1 t) (iblk m c 2 t) (X0_3 m c t) (iblk m c 5 t)) k0_pay13)))
      (k0_pay31 (k0_pay8 (X0_3 m c t)) (k0_pay10 (X0_4 m c t)) (k0_pay23 (k0_pay15 (k0_pay11 (X0_4 m c t) (iblk m c 1 t) (iblk m c 2 t) (X0_3 m c t) (iblk m c 5 t)) (k0_pay12 (X0_4 m c t) (iblk m c 1 t) (iblk m c 2 t) (X0_3 m c t) (iblk m c 5 t)) k0_pay13) (k0_pay18 (iblk m c 0 t) (iblk m c 7 t)) (iblk m c 6 t)) (k0_pay24 (k0_pay14 (k0_pay12 (X0_4 m c t) (iblk m c 1 t) (iblk m c 2 t) (X0_3 m c t) (iblk m c 5 t)) k0_pay13))) y
    = acc y + pt (T12 DH YF YB C Z DK NW W) t.val y := by
  rw [p1, pt, dif_pos (show t.val < 64 from t.isLt)]
  exact congrArg _ (Finset.sum_congr rfl fun b _ => p29 (YF := fun r => YF (pos t r)) (YB := fun r => YB (pos t r)) (C := fun r => C (pos t r)) (Z := fun r => Z (pos t r)) (DK := DK) (NW := NW) (W := W) (DH := fun r => DH (pos t r))
    (fun r k => (b1 m c t r k).trans (h1 _ _)) (fun r k => (b2 m c t r k).trans (h2 _ _)) (fun r k => (b3 m c t r k).trans (h3 _ _))
    (fun r k => (b4 m c t r k).trans (h4 _ _)) (fun k => (b5 m c t k).trans (h5 _)) (fun k => (b6 m c t k).trans (h6 _))
    (fun d k => (b7 m c t d k).trans (h7 _ _)) (fun r k => (b0 m c t r k).trans (h0 _ _)) _ _)

theorem acc8 (t : Fin cfg0.N) (h : t.val % 64 = 63) (j : S2048x1024.Idx) :
    (outsAt0 m c t.val t.isLt).1 j = ∑ s : Fin 64, pt6 (fun l => T8 DH YF YB C Z DK NW l (j 0) (j 1)) s.val := by
  rw [Pipeline.eq_sum_of_reset_step_apply_single_of_mod (fun n h => (outsAt0 m c n h).1) 64 (fun _ => 0)
    (fun n (j : S2048x1024.Idx) => pt6 (fun l => T8 DH YF YB C Z DK NW l (j 0) (j 1)) n)
    (fun t h j => by rw [outsAt0_A m c t h (by omega)]; frame_out; exact (step8 h0 h1 h2 h3 h4 h5 h6 h7 t _ j).trans (by rw [zero6]))
    (fun t h j => by
      by_cases e1 : t.val % 64 = 63
      · rw [outsAt0_C m c t h e1]; frame_out; exact step8 h0 h1 h2 h3 h4 h5 h6 h7 t _ j
      · rw [outsAt0_B m c t h e1]; frame_out; exact step8 h0 h1 h2 h3 h4 h5 h6 h7 t _ j)
    (by decide) t h j, zero_add, Finset.sum_range]

theorem acc11 (t : Fin cfg0.N) (h : t.val % 64 = 63) (j) :
    (outsAt0 m c t.val t.isLt).2.2.2.2.2.1 j = ∑ s : Fin 64, pt (T11 DH YF YB C Z DK W) s.val j := by
  rw [Pipeline.eq_sum_of_reset_step_apply_single_of_mod (fun n h => (outsAt0 m c n h).2.2.2.2.2.1) 64 (fun _ => 0)
    (pt (T11 DH YF YB C Z DK W))
    (fun t h j => by rw [outsAt0_A m c t h (by omega)]; frame_out; exact (step11 h0 h1 h2 h3 h4 h5 h6 h7 t _ j).trans (by rw [zero4]))
    (fun t h j => by
      by_cases e1 : t.val % 64 = 63
      · rw [outsAt0_C m c t h e1]; frame_out; rw [read_unread_whole]; exact step11 h0 h1 h2 h3 h4 h5 h6 h7 t _ j
      · rw [outsAt0_B m c t h e1]; frame_out; rw [read_unread_whole]; exact step11 h0 h1 h2 h3 h4 h5 h6 h7 t _ j)
    (by decide) t h j, zero_add, Finset.sum_range]

theorem acc12 (t : Fin cfg0.N) (h : t.val % 64 = 63) (j) :
    (outsAt0 m c t.val t.isLt).2.2.2.2.2.2 j = ∑ s : Fin 64, pt (T12 DH YF YB C Z DK NW W) s.val j := by
  rw [Pipeline.eq_sum_of_reset_step_apply_single_of_mod (fun n h => (outsAt0 m c n h).2.2.2.2.2.2) 64 (fun _ => 0)
    (pt (T12 DH YF YB C Z DK NW W))
    (fun t h j => by rw [outsAt0_A m c t h (by omega)]; frame_out; exact (step12 h0 h1 h2 h3 h4 h5 h6 h7 t _ j).trans (by rw [zero5]))
    (fun t h j => by
      by_cases e1 : t.val % 64 = 63
      · rw [outsAt0_C m c t h e1]; frame_out; rw [read_unread_whole]; exact step12 h0 h1 h2 h3 h4 h5 h6 h7 t _ j
      · rw [outsAt0_B m c t h e1]; frame_out; rw [read_unread_whole]; exact step12 h0 h1 h2 h3 h4 h5 h6 h7 t _ j)
    (by decide) t h j, zero_add, Finset.sum_range]

omit h0 h1 h2 h3 h4 h5 h6 h7 in
theorem out11_eq (t : Fin cfg0.N) (h : t.val % 64 = 63) (y) :
    (outsAt0 m c t.val t.isLt).2.2.2.1 y = ∑ r : Fin 8, (outsAt0 m c t.val t.isLt).2.2.2.2.2.1 (ix2 r (y 1)) := by
  rw [outsAt0_C m c t (by omega) h]; frame_out; pointwise [k0_pay2]

omit h0 h1 h2 h3 h4 h5 h6 h7 in
theorem out12_eq (t : Fin cfg0.N) (h : t.val % 64 = 63) (y) :
    (outsAt0 m c t.val t.isLt).2.2.2.2.1 y = ∑ r : Fin 8, (outsAt0 m c t.val t.isLt).2.2.2.2.2.2 (ix2 r (y 1)) := by
  rw [outsAt0_C m c t (by omega) h]; frame_out; pointwise [k0_pay3]

theorem final8 : Value.G8 m c = REF8 DH YF YB C Z DK NW := by
  refine (Value.final8 m c).symm.trans ?_
  refine (dats m 0 c).arrAt_eq_of_covers 8 _ (by decide +kernel) fun t hf y => ?_
  blk_simp
  rw [after0_8, acc8 h0 h1 h2 h3 h4 h5 h6 h7 t ((flush0_8 t).mp hf), sum_all6]
  exact (show _ = REF8 DH YF YB C Z DK NW (ix2 (y 0) (y 1)) from rfl).trans (congrArg _ (emb8 t y).symm)

theorem final9 : Value.G9 m c = REF9 DH YF YB C Z DK NW W := by
  refine (Value.final9 m c).symm.trans ?_
  refine (dats m 0 c).arrAt_eq_of_covers 9 _ (by decide +kernel) fun t hf y => ?_
  blk_simp
  rw [after0_9, out9_eq h0 h1 h2 h3 h4 h5 h6 h7]
  exact congrArg _ (emb9 t y).symm

theorem final10 : Value.G10 m c = REF10 DH YF YB C Z DK NW W := by
  refine (Value.final10 m c).symm.trans ?_
  refine (dats m 0 c).arrAt_eq_of_covers 10 _ (by decide +kernel) fun t hf y => ?_
  blk_simp
  rw [after0_10, out10_eq h0 h1 h2 h3 h4 h5 h6 h7]
  exact congrArg _ (emb10 t y).symm

theorem final11 : Value.G11 m c = REF11 DH YF YB C Z DK W := by
  refine (Value.final11 m c).symm.trans ?_
  refine (dats m 0 c).arrAt_eq_of_covers 11 _ (by decide +kernel) fun t hf y => ?_
  blk_simp
  rw [after0_11, out11_eq t ((flush0_11 t).mp hf)]
  simp only [acc11 h0 h1 h2 h3 h4 h5 h6 h7 t ((flush0_11 t).mp hf)]
  exact (sum_all _ _).trans (by rw [REF11, emb11])

theorem final12 : Value.G12 m c = REF12 DH YF YB C Z DK NW W := by
  refine (Value.final12 m c).symm.trans ?_
  refine (dats m 0 c).arrAt_eq_of_covers 12 _ (by decide +kernel) fun t hf y => ?_
  blk_simp
  rw [after0_12, out12_eq t ((flush0_12 t).mp hf)]
  simp only [acc12 h0 h1 h2 h3 h4 h5 h6 h7 t ((flush0_12 t).mp hf)]
  exact (sum_all _ _).trans (by rw [REF12, emb12])

end Final

section Claim

variable [Cert.Pre_ssd_out_finite.Facts]

/-- The precondition on real numbers: the arrays the kernel reads hold no infinity. -/
theorem pre_real (m) (h : Cert.Pre_SsdOutIdeal_ssd_out_finite m) (c : Dev nD) :
    (∃ DH : Fin 16384 → Fin 1024 → ℝ, ∀ l k, A0 m c (ix2 l k) = (DH l k : EReal))
    ∧ (∃ YF : Fin 16384 → Fin 2048 → ℝ, ∀ l k, A1 m c (ix2 l k) = (YF l k : EReal))
    ∧ (∃ YB : Fin 16384 → Fin 2048 → ℝ, ∀ l k, A2 m c (ix2 l k) = (YB l k : EReal))
    ∧ (∃ C : Fin 16384 → Fin 2048 → ℝ, ∀ l (k : Fin 2048), A3 m c (ix2 l ⟨k.val, Nat.lt_of_lt_of_le k.isLt (Nat.le_add_right 2048 1024)⟩) = (C l k : EReal))
    ∧ (∃ Z : Fin 16384 → Fin 2048 → ℝ, ∀ l (k : Fin 2048), A4 m c (ix2 l ⟨k.val, Nat.lt_of_lt_of_le k.isLt (Nat.le_add_right 2048 3200)⟩) = (Z l k : EReal))
    ∧ (∃ DK : Fin 2048 → ℝ, ∀ k, A5 m c (ix2 0 k) = (DK k : EReal))
    ∧ (∃ NW : Fin 2048 → ℝ, ∀ k, A6 m c (ix2 0 k) = (NW k : EReal))
    ∧ (∃ W : Fin 2048 → Fin 1024 → ℝ, ∀ d k, A7 m c (ix2 d k) = (W d k : EReal)) := by
  have h := congrFun (h c) ix0
  unfold Cert.Pre_ssd_out_finite.fn Cert.Pre_ssd_out_finite.fn_part1 Cert.Pre_ssd_out_finite.fn_part2 at h
  obtain ⟨h, g7⟩ := andi_one h
  obtain ⟨h, g6⟩ := andi_one h
  obtain ⟨h, g5⟩ := andi_one h
  obtain ⟨h, g4⟩ := andi_one h
  obtain ⟨h, g3⟩ := andi_one h
  obtain ⟨h, g2⟩ := andi_one h
  obtain ⟨g0, g1⟩ := andi_one h
  have f0 := fin_of _ _ _ _ _ g0
  have f1 := fin_of _ _ _ _ _ g1
  have f2 := fin_of _ _ _ _ _ g2
  have f3 := fin_of _ _ _ _ _ g3
  have f4 := fin_of _ _ _ _ _ g4
  have f5 := fin_of _ _ _ _ _ g5
  have f6 := fin_of _ _ _ _ _ g6
  have f7 := fin_of _ _ _ _ _ g7
  choose r0 e0 using f0
  choose r1 e1 using f1
  choose r2 e2 using f2
  choose r3 e3 using f3
  choose r4 e4 using f4
  choose r5 e5 using f5
  choose r6 e6 using f6
  choose r7 e7 using f7
  refine ⟨⟨fun l k => r0 (ix2 l k), fun l k => e0 _⟩,
    ⟨fun l k => r1 (ix2 l k), fun l k => e1 _⟩,
    ⟨fun l k => r2 (ix2 l k), fun l k => e2 _⟩,
    ⟨fun l k => r3 (ix2 l k), fun l k => Eq.trans ?_ (e3 (ix2 l k))⟩,
    ⟨fun l k => r4 (ix2 l k), fun l k => Eq.trans ?_ (e4 (ix2 l k))⟩,
    ⟨fun k => r5 (ix2 0 k), fun k => e5 _⟩,
    ⟨fun k => r6 (ix2 0 k), fun k => e6 _⟩,
    ⟨fun l k => r7 (ix2 l k), fun l k => e7 _⟩⟩
  · pointwise
  · pointwise

theorem algebraic : Cert.algebraic_SsdOutIdeal_SsdOutRefIdeal_pre_ssd_out_finite :=
  fun m ρ m' ρ' hp hag => ⟨fun c => Value.G8 m c, fun c => Value.G9 m c, fun c => Value.G10 m c, fun c => Value.G11 m c, fun c => Value.G12 m c,
    (θ_run _ _ _).mono (fun _ h c => h c) (Value.run m ρ),
    (θ_run _ _ _).mono (fun _ h c => by
      obtain ⟨h0, h1, h2, h3, h4, hk⟩ := h c
      obtain ⟨a0, a1, a2, a3, a4, a5, a6, a7⟩ := hag c
      obtain ⟨⟨DH, k0⟩, ⟨YF, k1⟩, ⟨YB, k2⟩, ⟨C, k3⟩, ⟨Z, k4⟩, ⟨DK, k5⟩, ⟨NW, k6⟩, ⟨W, k7⟩⟩ := pre_real m hp c
      have b0 : ∀ l k, Cert.SsdOutRefIdeal.Hand.w_arg0 m' c (ix2 l k) = (DH l k : EReal) := fun l k => (congrFun a0 _).trans (k0 l k)
      have b1 : ∀ l k, Cert.SsdOutRefIdeal.Hand.w_arg1 m' c (ix2 l k) = (YF l k : EReal) := fun l k => (congrFun a1 _).trans (k1 l k)
      have b2 : ∀ l k, Cert.SsdOutRefIdeal.Hand.w_arg2 m' c (ix2 l k) = (YB l k : EReal) := fun l k => (congrFun a2 _).trans (k2 l k)
      have b3 : ∀ l (k : Fin 2048), Cert.SsdOutRefIdeal.Hand.w_arg3 m' c (ix2 l ⟨k.val, Nat.lt_of_lt_of_le k.isLt (Nat.le_add_right 2048 1024)⟩) = (C l k : EReal) :=
        fun l k => (congrFun a3 _).trans (k3 l k)
      have b4 : ∀ l (k : Fin 2048), Cert.SsdOutRefIdeal.Hand.w_arg4 m' c (ix2 l ⟨k.val, Nat.lt_of_lt_of_le k.isLt (Nat.le_add_right 2048 3200)⟩) = (Z l k : EReal) :=
        fun l k => (congrFun a4 _).trans (k4 l k)
      have b5 : ∀ k, Cert.SsdOutRefIdeal.Hand.w_arg5 m' c (ix2 0 k) = (DK k : EReal) := fun k => (congrFun a5 _).trans (k5 k)
      have b6 : ∀ k, Cert.SsdOutRefIdeal.Hand.w_arg6 m' c (ix2 0 k) = (NW k : EReal) := fun k => (congrFun a6 _).trans (k6 k)
      have b7 : ∀ l k, Cert.SsdOutRefIdeal.Hand.w_arg7 m' c (ix2 l k) = (W l k : EReal) := fun l k => (congrFun a7 _).trans (k7 l k)
      exact ⟨h0.trans ((Cert.SsdOutRefIdeal.Hand.ref8 b0 b1 b2 b3 b4 b5 b6 b7).trans (final8 k0 k1 k2 k3 k4 k5 k6 k7).symm),
        h1.trans ((Cert.SsdOutRefIdeal.Hand.ref9 b0 b1 b2 b3 b4 b5 b6 b7).trans (final9 k0 k1 k2 k3 k4 k5 k6 k7).symm),
        h2.trans ((Cert.SsdOutRefIdeal.Hand.ref10 b0 b1 b2 b3 b4 b5 b6 b7).trans (final10 k0 k1 k2 k3 k4 k5 k6 k7).symm),
        h3.trans ((Cert.SsdOutRefIdeal.Hand.ref11 b0 b1 b2 b3 b4 b5 b6 b7).trans (final11 k0 k1 k2 k3 k4 k5 k6 k7).symm),
        h4.trans ((Cert.SsdOutRefIdeal.Hand.ref12 b0 b1 b2 b3 b4 b5 b6 b7).trans (final12 k0 k1 k2 k3 k4 k5 k6 k7).symm), hk⟩)
      (Cert.SsdOutRefIdeal.Hand.run m' ρ')⟩

end Claim

end Cert.SsdOutIdeal.Hand

end
-- ==== Proof.CmIn.lean ====
module

public import proofs.«01_k».proof.Proof.Gen.CmInIdeal.Value
public import proofs.«01_k».proof.Proof.Gen.CmInRefIdeal.Run
public import proofs.«01_k».proof.Proof.Common
public import proofs.«01_k».proof.Defs

@[expose] public section

set_option maxRecDepth 16384

noncomputable section

namespace Cert.CmInIdeal.Hand

open Cert.CmInIdeal Cert.CmInIdeal.Gen Cert.Common Idealize.ShloMosaic Idealize.ShloMosaic.TcCoe Idealize.SL.Sem
open Idealize.ShloMosaic.Pipeline (Dat)

variable (m : (ℓ : Loc nD τ sig) → Buf (Elt Ideal) ℓ)

/-- The windows' index maps. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] ∧ win0_6.index t = ![t.val, 0]
    ∧ win0_7.index t = ![t.val, 0] ∧ win0_8.index t = ![t.val, 0] ∧ win0_9.index t = ![0, 0] :=
  (by decide +kernel : ∀ t : Fin grid0.N, _)

/-- The position of a row of a point's block. -/
def pos (t : Fin cfg0.N) (r : Fin 512) : Fin 16384 := ⟨512 * t.val + r.val, by
  have h : t.val < 32 := t.isLt
  omega⟩

section Spec

variable (P0 : FVec Ideal S16384x2048 .bf16) (P1 : FVec Ideal S16384x2048 .bf16) (P2 : FVec Ideal S16384x2048 .bf16) (W : FVec Ideal S1024x6144 .bf16)
    (H : FVec Ideal S16384x1024 .f32) (NW : FVec Ideal S1x1024 .f32) (DH : FVec Ideal S16384x1024 .f32)

/-- The three parts' gradients side by side. -/
def cat (l : Fin 16384) (x : Fin 6144) : EReal :=
  if h : x.val < 2048 then P0 (ix2 l ⟨x.val, h⟩)
  else if h' : x.val - 2048 < 2048 then P1 (ix2 l ⟨x.val - 2048, h'⟩)
  else P2 (ix2 l ⟨x.val - 2048 - 2048, by have := x.isLt; omega⟩)

/-- The gradient of the normalized input: the parts' gradients against the projection. -/
def DN (l : Fin 16384) (d : Fin 1024) : EReal := ∑ x : Fin 6144, cat P0 P1 P2 l x * W (ix2 d x)

/-- The scale of a row. -/
def R (l : Fin 16384) : EReal := Ideal.rsqrt (ms (fun k : Fin 1024 => H (ix2 l k)) 1024 eps)

/-- The gradient of the input. -/
def REF7 : FVec Ideal S16384x1024 .f32 := fun j =>
  DH j + R H (j 0) * (DN P0 P1 P2 W (j 0) (j 1) * NW (ix2 0 (j 1))
    - H j * R H (j 0) * Ideal.div (∑ k : Fin 1024, DN P0 P1 P2 W (j 0) k * NW (ix2 0 k) * (H (ix2 (j 0) k) * R H (j 0))) ((1024 : ℝ) : EReal))

/-- The normalized input. -/
def REF8 : FVec Ideal S16384x1024 .bf16 := fun j => H j * R H (j 0) * NW (ix2 0 (j 1))

/-- The gradient of the normalization's weight. -/
def REF9 : FVec Ideal S1x1024 .f32 := fun j => ∑ l : Fin 16384, DN P0 P1 P2 W l (j 1) * (H (ix2 l (j 1)) * R H l)

theorem DN_split (l : Fin 16384) (d : Fin 1024) : DN P0 P1 P2 W l d
    = (∑ k : Fin 1024, P0 (ix2 l ⟨k.val, by omega⟩) * W (ix2 d ⟨k.val, by omega⟩))
      + (∑ k : Fin 1024, P0 (ix2 l ⟨1024 + k.val, by omega⟩) * W (ix2 d ⟨1024 + k.val, by omega⟩))
      + (∑ k : Fin 1024, P1 (ix2 l ⟨k.val, by omega⟩) * W (ix2 d ⟨2048 + k.val, by omega⟩))
      + (∑ k : Fin 1024, P1 (ix2 l ⟨1024 + k.val, by omega⟩) * W (ix2 d ⟨3072 + k.val, by omega⟩))
      + (∑ k : Fin 1024, P2 (ix2 l ⟨k.val, by omega⟩) * W (ix2 d ⟨4096 + k.val, by omega⟩))
      + (∑ k : Fin 1024, P2 (ix2 l ⟨1024 + k.val, by omega⟩) * W (ix2 d ⟨5120 + k.val, by omega⟩)) := by
  unfold DN
  rw [split6]
  have h0 : ∀ k : Fin 1024, cat P0 P1 P2 l ⟨k.val, by omega⟩ = P0 (ix2 l ⟨k.val, by omega⟩) := fun k => by
    have hk := k.isLt
    unfold cat
    rw [dif_pos (show k.val < 2048 by omega)]
  have h1 : ∀ k : Fin 1024, cat P0 P1 P2 l ⟨1024 + k.val, by omega⟩ = P0 (ix2 l ⟨1024 + k.val, by omega⟩) := fun k => by
    have hk := k.isLt
    unfold cat
    rw [dif_pos (show 1024 + k.val < 2048 by omega)]
  have h2 : ∀ k : Fin 1024, cat P0 P1 P2 l ⟨2048 + k.val, by omega⟩ = P1 (ix2 l ⟨k.val, by omega⟩) := fun k => by
    have hk := k.isLt
    unfold cat
    rw [dif_neg (show ¬ 2048 + k.val < 2048 by omega), dif_pos (show 2048 + k.val - 2048 < 2048 by omega)]
    exact congrArg P1 (congrArg (ix2 l) (Fin.ext (by simp <;> omega)))
  have h3 : ∀ k : Fin 1024, cat P0 P1 P2 l ⟨3072 + k.val, by omega⟩ = P1 (ix2 l ⟨1024 + k.val, by omega⟩) := fun k => by
    have hk := k.isLt
    unfold cat
    rw [dif_neg (show ¬ 3072 + k.val < 2048 by omega), dif_pos (show 3072 + k.val - 2048 < 2048 by omega)]
    exact congrArg P1 (congrArg (ix2 l) (Fin.ext (by simp <;> omega)))
  have h4 : ∀ k : Fin 1024, cat P0 P1 P2 l ⟨4096 + k.val, by omega⟩ = P2 (ix2 l ⟨k.val, by omega⟩) := fun k => by
    have hk := k.isLt
    unfold cat
    rw [dif_neg (show ¬ 4096 + k.val < 2048 by omega), dif_neg (show ¬ 4096 + k.val - 2048 < 2048 by omega)]
    exact congrArg P2 (congrArg (ix2 l) (Fin.ext (by simp <;> omega)))
  have h5 : ∀ k : Fin 1024, cat P0 P1 P2 l ⟨5120 + k.val, by omega⟩ = P2 (ix2 l ⟨1024 + k.val, by omega⟩) := fun k => by
    have hk := k.isLt
    unfold cat
    rw [dif_neg (show ¬ 5120 + k.val < 2048 by omega), dif_neg (show ¬ 5120 + k.val - 2048 < 2048 by omega)]
    exact congrArg P2 (congrArg (ix2 l) (Fin.ext (by simp <;> omega)))
  simp only [h0, h1, h2, h3, h4, h5]

end Spec

section Blocks

/-- Argument 0. -/
abbrev A0 (c : Dev nD) : FVec Ideal S16384x2048 .bf16 := m ((c : Thread nD τ).loc main_arg0)

/-- Argument 1. -/
abbrev A1 (c : Dev nD) : FVec Ideal S16384x2048 .bf16 := m ((c : Thread nD τ).loc main_arg1)

/-- Argument 2. -/
abbrev A2 (c : Dev nD) : FVec Ideal S16384x2048 .bf16 := m ((c : Thread nD τ).loc main_arg2)

/-- Argument 3. -/
abbrev A3 (c : Dev nD) : FVec Ideal S1024x6144 .bf16 := m ((c : Thread nD τ).loc main_arg3)

/-- Argument 4. -/
abbrev A4 (c : Dev nD) : FVec Ideal S16384x1024 .f32 := m ((c : Thread nD τ).loc main_arg4)

/-- Argument 5. -/
abbrev A5 (c : Dev nD) : FVec Ideal S1x1024 .f32 := m ((c : Thread nD τ).loc main_arg5)

/-- Argument 6. -/
abbrev A6 (c : Dev nD) : FVec Ideal S16384x1024 .f32 := m ((c : Thread nD τ).loc main_arg6)

/-- The products of a point, as sums. -/
theorem pay_dn (p0 : FVec Ideal S512x1024 .bf16) (w0 : FVec Ideal S1024x1024 .bf16)
(p1 : FVec Ideal S512x1024 .bf16) (w1 : FVec Ideal S1024x1024 .bf16)
(p2 : FVec Ideal S512x1024 .bf16) (w2 : FVec Ideal S1024x1024 .bf16)
(p3 : FVec Ideal S512x1024 .bf16) (w3 : FVec Ideal S1024x1024 .bf16)
(p4 : FVec Ideal S512x1024 .bf16) (w4 : FVec Ideal S1024x1024 .bf16)
(p5 : FVec Ideal S512x1024 .bf16) (w5 : FVec Ideal S1024x1024 .bf16) (r : Fin 512) (d : Fin 1024) :
    k0_pay8 (F := Ideal) (k0_pay7 p0 w0 p1 w1) p2 w2 (constant S512x1024 FTy.f32 0#32) p3 w3 p4 w4 p5 w5 (ix2 r d)
    = (∑ k : Fin 1024, p0 (ix2 r k) * w0 (ix2 d k))
      + (∑ k : Fin 1024, p1 (ix2 r k) * w1 (ix2 d k))
      + (∑ k : Fin 1024, p2 (ix2 r k) * w2 (ix2 d k))
      + (∑ k : Fin 1024, p3 (ix2 r k) * w3 (ix2 d k))
      + (∑ k : Fin 1024, p4 (ix2 r k) * w4 (ix2 d k))
      + (∑ k : Fin 1024, p5 (ix2 r k) * w5 (ix2 d k)) := by
  pointwise [k0_pay8, k0_pay7]

/-- The terms of the weight gradient. -/
theorem pay_dw (n : FVec Ideal S512x1024 .f32) (p0 : FVec Ideal S512x1024 .bf16) (w0 : FVec Ideal S1024x1024 .bf16)
(p1 : FVec Ideal S512x1024 .bf16) (w1 : FVec Ideal S1024x1024 .bf16)
(p2 : FVec Ideal S512x1024 .bf16) (w2 : FVec Ideal S1024x1024 .bf16)
(p3 : FVec Ideal S512x1024 .bf16) (w3 : FVec Ideal S1024x1024 .bf16)
(p4 : FVec Ideal S512x1024 .bf16) (w4 : FVec Ideal S1024x1024 .bf16)
(p5 : FVec Ideal S512x1024 .bf16) (w5 : FVec Ideal S1024x1024 .bf16) (j) :
    k0_pay9 (F := Ideal) n (k0_pay7 p0 w0 p1 w1) p2 w2 (constant S512x1024 FTy.f32 0#32) p3 w3 p4 w4 p5 w5 j = k0_pay8 (F := Ideal) (k0_pay7 p0 w0 p1 w1) p2 w2 (constant S512x1024 FTy.f32 0#32) p3 w3 p4 w4 p5 w5 j * n j := by
  pointwise [k0_pay9]

/-- The groups of eight rows of a point are added to the accumulator. -/
theorem pay_acc (acc : FVec Ideal S8x1024 .f32) (n : FVec Ideal S512x1024 .f32) (p0 : FVec Ideal S512x1024 .bf16) (w0 : FVec Ideal S1024x1024 .bf16)
(p1 : FVec Ideal S512x1024 .bf16) (w1 : FVec Ideal S1024x1024 .bf16)
(p2 : FVec Ideal S512x1024 .bf16) (w2 : FVec Ideal S1024x1024 .bf16)
(p3 : FVec Ideal S512x1024 .bf16) (w3 : FVec Ideal S1024x1024 .bf16)
(p4 : FVec Ideal S512x1024 .bf16) (w4 : FVec Ideal S1024x1024 .bf16)
(p5 : FVec Ideal S512x1024 .bf16) (w5 : FVec Ideal S1024x1024 .bf16) (j) :
    k0_pay12 (F := Ideal) acc (k0_pay9 n (k0_pay7 p0 w0 p1 w1) p2 w2 (constant S512x1024 FTy.f32 0#32) p3 w3 p4 w4 p5 w5) (k0_pay11 (k0_pay9 n (k0_pay7 p0 w0 p1 w1) p2 w2 (constant S512x1024 FTy.f32 0#32) p3 w3 p4 w4 p5 w5) (k0_pay10 n (k0_pay7 p0 w0 p1 w1) p2 w2 (constant S512x1024 FTy.f32 0#32) p3 w3 p4 w4 p5 w5)) j
    = acc j + ∑ b : Fin 64, k0_pay9 (F := Ideal) n (k0_pay7 p0 w0 p1 w1) p2 w2 (constant S512x1024 FTy.f32 0#32) p3 w3 p4 w4 p5 w5 (ix2 ⟨8 * b.val + (j 0).val, by
        have h : (j 0).val < 8 := (j 0).isLt
        omega⟩ (j 1)) := by
  have h := rows64 (fun l => k0_pay9 (F := Ideal) n (k0_pay7 p0 w0 p1 w1) p2 w2 (constant S512x1024 FTy.f32 0#32) p3 w3 p4 w4 p5 w5 (ix2 l (j 1))) (j 0)
  rw [← h]
  pointwise [k0_pay12, k0_pay11, k0_pay10]
  try rfl

variable (c : Dev nD) (t : Fin cfg0.N)

theorem bp0 (r : Fin 512) (k : Fin 1024) : View.ld (iblk m c 0 t) (Rect.unit ![0, 0] ![512, 1024] inb_S512x2048_S512x1024_0_0) (ix2 r k)
    = A0 m c (ix2 (pos t r) ⟨k.val, by omega⟩) := by
  blk_point [iblk, V, idx t, pos]

theorem bw0 (d : Fin 1024) (k : Fin 1024) : View.ld (iblk m c 3 t) (Rect.unit ![0, 0] ![1024, 1024] inb_S1024x6144_S1024x1024_0_0) (ix2 d k)
    = A3 m c (ix2 d ⟨k.val, by omega⟩) := by
  blk_point [iblk, V, idx t]

theorem bp1 (r : Fin 512) (k : Fin 1024) : View.ld (iblk m c 0 t) (Rect.unit ![0, 1024] ![512, 1024] inb_S512x2048_S512x1024_0_1024) (ix2 r k)
    = A0 m c (ix2 (pos t r) ⟨1024 + k.val, by omega⟩) := by
  blk_point [iblk, V, idx t, pos]

theorem bw1 (d : Fin 1024) (k : Fin 1024) : View.ld (iblk m c 3 t) (Rect.unit ![0, 1024] ![1024, 1024] inb_S1024x6144_S1024x1024_0_1024) (ix2 d k)
    = A3 m c (ix2 d ⟨1024 + k.val, by omega⟩) := by
  blk_point [iblk, V, idx t]

theorem bp2 (r : Fin 512) (k : Fin 1024) : View.ld (iblk m c 1 t) (Rect.unit ![0, 0] ![512, 1024] inb_S512x2048_S512x1024_0_0) (ix2 r k)
    = A1 m c (ix2 (pos t r) ⟨k.val, by omega⟩) := by
  blk_point [iblk, V, idx t, pos]

theorem bw2 (d : Fin 1024) (k : Fin 1024) : View.ld (iblk m c 3 t) (Rect.unit ![0, 2048] ![1024, 1024] inb_S1024x6144_S1024x1024_0_2048) (ix2 d k)
    = A3 m c (ix2 d ⟨2048 + k.val, by omega⟩) := by
  blk_point [iblk, V, idx t]

theorem bp3 (r : Fin 512) (k : Fin 1024) : View.ld (iblk m c 1 t) (Rect.unit ![0, 1024] ![512, 1024] inb_S512x2048_S512x1024_0_1024) (ix2 r k)
    = A1 m c (ix2 (pos t r) ⟨1024 + k.val, by omega⟩) := by
  blk_point [iblk, V, idx t, pos]

theorem bw3 (d : Fin 1024) (k : Fin 1024) : View.ld (iblk m c 3 t) (Rect.unit ![0, 3072] ![1024, 1024] inb_S1024x6144_S1024x1024_0_3072) (ix2 d k)
    = A3 m c (ix2 d ⟨3072 + k.val, by omega⟩) := by
  blk_point [iblk, V, idx t]

theorem bp4 (r : Fin 512) (k : Fin 1024) : View.ld (iblk m c 2 t) (Rect.unit ![0, 0] ![512, 1024] inb_S512x2048_S512x1024_0_0) (ix2 r k)
    = A2 m c (ix2 (pos t r) ⟨k.val, by omega⟩) := by
  blk_point [iblk, V, idx t, pos]

theorem bw4 (d : Fin 1024) (k : Fin 1024) : View.ld (iblk m c 3 t) (Rect.unit ![0, 4096] ![1024, 1024] inb_S1024x6144_S1024x1024_0_4096) (ix2 d k)
    = A3 m c (ix2 d ⟨4096 + k.val, by omega⟩) := by
  blk_point [iblk, V, idx t]

theorem bp5 (r : Fin 512) (k : Fin 1024) : View.ld (iblk m c 2 t) (Rect.unit ![0, 1024] ![512, 1024] inb_S512x2048_S512x1024_0_1024) (ix2 r k)
    = A2 m c (ix2 (pos t r) ⟨1024 + k.val, by omega⟩) := by
  blk_point [iblk, V, idx t, pos]

theorem bw5 (d : Fin 1024) (k : Fin 1024) : View.ld (iblk m c 3 t) (Rect.unit ![0, 5120] ![1024, 1024] inb_S1024x6144_S1024x1024_0_5120) (ix2 d k)
    = A3 m c (ix2 d ⟨5120 + k.val, by omega⟩) := by
  blk_point [iblk, V, idx t]

theorem b4 (r : Fin 512) (k : Fin 1024) : iblk m c 4 t (ix2 r k) = A4 m c (ix2 (pos t r) k) := by
  blk_point [iblk, V, idx t, pos]

theorem b5 (k : Fin 1024) : iblk m c 5 t (ix2 0 k) = A5 m c (ix2 0 k) := by
  blk_point [iblk, V, idx t]

theorem b6 (r : Fin 512) (k : Fin 1024) : iblk m c 6 t (ix2 r k) = A6 m c (ix2 (pos t r) k) := by
  blk_point [iblk, V, idx t, pos]

/-- The products of a point. -/
abbrev dn : FVec Ideal S512x1024 .f32 := k0_pay8 (k0_pay7 (View.ld (iblk m c 0 t) (Rect.unit ![0, 0] ![512, 1024] inb_S512x2048_S512x1024_0_0)) (View.ld (iblk m c 3 t) (Rect.unit ![0, 0] ![1024, 1024] inb_S1024x6144_S1024x1024_0_0))
      (View.ld (iblk m c 0 t) (Rect.unit ![0, 1024] ![512, 1024] inb_S512x2048_S512x1024_0_1024)) (View.ld (iblk m c 3 t) (Rect.unit ![0, 1024] ![1024, 1024] inb_S1024x6144_S1024x1024_0_1024)))
      (View.ld (iblk m c 1 t) (Rect.unit ![0, 0] ![512, 1024] inb_S512x2048_S512x1024_0_0)) (View.ld (iblk m c 3 t) (Rect.unit ![0, 2048] ![1024, 1024] inb_S1024x6144_S1024x1024_0_2048))
      (constant S512x1024 FTy.f32 0#32)
      (View.ld (iblk m c 1 t) (Rect.unit ![0, 1024] ![512, 1024] inb_S512x2048_S512x1024_0_1024)) (View.ld (iblk m c 3 t) (Rect.unit ![0, 3072] ![1024, 1024] inb_S1024x6144_S1024x1024_0_3072))
      (View.ld (iblk m c 2 t) (Rect.unit ![0, 0] ![512, 1024] inb_S512x2048_S512x1024_0_0)) (View.ld (iblk m c 3 t) (Rect.unit ![0, 4096] ![1024, 1024] inb_S1024x6144_S1024x1024_0_4096))
      (View.ld (iblk m c 2 t) (Rect.unit ![0, 1024] ![512, 1024] inb_S512x2048_S512x1024_0_1024)) (View.ld (iblk m c 3 t) (Rect.unit ![0, 5120] ![1024, 1024] inb_S1024x6144_S1024x1024_0_5120))

/-- A point's terms of the weight's gradient. -/
abbrev dw : FVec Ideal S512x1024 .f32 := k0_pay9 (k0_pay5 (iblk m c 4 t)) (k0_pay7 (View.ld (iblk m c 0 t) (Rect.unit ![0, 0] ![512, 1024] inb_S512x2048_S512x1024_0_0)) (View.ld (iblk m c 3 t) (Rect.unit ![0, 0] ![1024, 1024] inb_S1024x6144_S1024x1024_0_0))
      (View.ld (iblk m c 0 t) (Rect.unit ![0, 1024] ![512, 1024] inb_S512x2048_S512x1024_0_1024)) (View.ld (iblk m c 3 t) (Rect.unit ![0, 1024] ![1024, 1024] inb_S1024x6144_S1024x1024_0_1024)))
      (View.ld (iblk m c 1 t) (Rect.unit ![0, 0] ![512, 1024] inb_S512x2048_S512x1024_0_0)) (View.ld (iblk m c 3 t) (Rect.unit ![0, 2048] ![1024, 1024] inb_S1024x6144_S1024x1024_0_2048))
      (constant S512x1024 FTy.f32 0#32)
      (View.ld (iblk m c 1 t) (Rect.unit ![0, 1024] ![512, 1024] inb_S512x2048_S512x1024_0_1024)) (View.ld (iblk m c 3 t) (Rect.unit ![0, 3072] ![1024, 1024] inb_S1024x6144_S1024x1024_0_3072))
      (View.ld (iblk m c 2 t) (Rect.unit ![0, 0] ![512, 1024] inb_S512x2048_S512x1024_0_0)) (View.ld (iblk m c 3 t) (Rect.unit ![0, 4096] ![1024, 1024] inb_S1024x6144_S1024x1024_0_4096))
      (View.ld (iblk m c 2 t) (Rect.unit ![0, 1024] ![512, 1024] inb_S512x2048_S512x1024_0_1024)) (View.ld (iblk m c 3 t) (Rect.unit ![0, 5120] ![1024, 1024] inb_S1024x6144_S1024x1024_0_5120))

/-- The first groups of a point's terms added up. -/
abbrev dw0 : FVec Ideal S8x1024 .f32 := k0_pay10 (k0_pay5 (iblk m c 4 t)) (k0_pay7 (View.ld (iblk m c 0 t) (Rect.unit ![0, 0] ![512, 1024] inb_S512x2048_S512x1024_0_0)) (View.ld (iblk m c 3 t) (Rect.unit ![0, 0] ![1024, 1024] inb_S1024x6144_S1024x1024_0_0))
      (View.ld (iblk m c 0 t) (Rect.unit ![0, 1024] ![512, 1024] inb_S512x2048_S512x1024_0_1024)) (View.ld (iblk m c 3 t) (Rect.unit ![0, 1024] ![1024, 1024] inb_S1024x6144_S1024x1024_0_1024)))
      (View.ld (iblk m c 1 t) (Rect.unit ![0, 0] ![512, 1024] inb_S512x2048_S512x1024_0_0)) (View.ld (iblk m c 3 t) (Rect.unit ![0, 2048] ![1024, 1024] inb_S1024x6144_S1024x1024_0_2048))
      (constant S512x1024 FTy.f32 0#32)
      (View.ld (iblk m c 1 t) (Rect.unit ![0, 1024] ![512, 1024] inb_S512x2048_S512x1024_0_1024)) (View.ld (iblk m c 3 t) (Rect.unit ![0, 3072] ![1024, 1024] inb_S1024x6144_S1024x1024_0_3072))
      (View.ld (iblk m c 2 t) (Rect.unit ![0, 0] ![512, 1024] inb_S512x2048_S512x1024_0_0)) (View.ld (iblk m c 3 t) (Rect.unit ![0, 4096] ![1024, 1024] inb_S1024x6144_S1024x1024_0_4096))
      (View.ld (iblk m c 2 t) (Rect.unit ![0, 1024] ![512, 1024] inb_S512x2048_S512x1024_0_1024)) (View.ld (iblk m c 3 t) (Rect.unit ![0, 5120] ![1024, 1024] inb_S1024x6144_S1024x1024_0_5120))

theorem dn_eq (r : Fin 512) (d : Fin 1024) : dn m c t (ix2 r d)
    = DN (A0 m c) (A1 m c) (A2 m c) (A3 m c) (pos t r) d := by
  rw [DN_split, dn, pay_dn]
  simp only [bp0, bw0, bp1, bw1, bp2, bw2, bp3, bw3, bp4, bw4, bp5, bw5]

theorem r_eq (r : Fin 512) : k0_pay4 (iblk m c 4 t) (ix2 r 0) = R (A4 m c) (pos t r) := by
  pointwise [k0_pay4]
  unfold R ms
  simp only [b4, c1024, ceps]

theorem n_eq (r : Fin 512) (d : Fin 1024) : k0_pay5 (iblk m c 4 t) (ix2 r d) = A4 m c (ix2 (pos t r) d) * R (A4 m c) (pos t r) := by
  pointwise [k0_pay5]
  rw [r_eq, b4]

theorem dw_eq (r : Fin 512) (d : Fin 1024) : dw m c t (ix2 r d)
    = DN (A0 m c) (A1 m c) (A2 m c) (A3 m c) (pos t r) d * (A4 m c (ix2 (pos t r) d) * R (A4 m c) (pos t r)) := by
  rw [← dn_eq, ← n_eq, dw, pay_dw]

theorem out7_eq (y) : (outsAt0 m c t.val t.isLt).1 y
    = REF7 (A0 m c) (A1 m c) (A2 m c) (A3 m c) (A4 m c) (A5 m c) (A6 m c) (ix2 (pos t (y 0)) (y 1)) := by
  have key : k0_pay1 (k0_pay4 (iblk m c 4 t)) (k0_pay5 (iblk m c 4 t)) (k0_pay13 (dn m c t) (iblk m c 5 t)) (iblk m c 6 t)
      (k0_pay14 (k0_pay5 (iblk m c 4 t)) (dn m c t) (iblk m c 5 t)) (FloatOps.ofBits FTy.f32 1149239296#32) y
      = REF7 (A0 m c) (A1 m c) (A2 m c) (A3 m c) (A4 m c) (A5 m c) (A6 m c) (ix2 (pos t (y 0)) (y 1)) := by
    obtain ⟨r, d, rfl⟩ : ∃ r d, y = ix2 r d := ⟨y 0, y 1, by funext i; fin_cases i <;> rfl⟩
    unfold REF7
    pointwise [k0_pay1, k0_pay13, k0_pay14]
    simp only [dn_eq, n_eq, r_eq, b5, b6, c1024]
  by_cases h0 : t.val % 32 = 0
  · rw [outsAt0_A m c t h0 (by omega)]; frame_out; exact key
  · by_cases h1 : t.val % 32 = 31
    · rw [outsAt0_C m c t h0 h1]; frame_out; exact key
    · rw [outsAt0_B m c t h0 h1]; frame_out; exact key

theorem out8_eq (y) : (outsAt0 m c t.val t.isLt).2.1 y
    = REF8 (A4 m c) (A5 m c) (ix2 (pos t (y 0)) (y 1)) := by
  have key : k0_pay6 (iblk m c 4 t) (iblk m c 5 t) y = REF8 (A4 m c) (A5 m c) (ix2 (pos t (y 0)) (y 1)) := by
    obtain ⟨r, d, rfl⟩ : ∃ r d, y = ix2 r d := ⟨y 0, y 1, by funext i; fin_cases i <;> rfl⟩
    unfold REF8
    pointwise [k0_pay6]
    simp only [n_eq, b5]
  by_cases h0 : t.val % 32 = 0
  · rw [outsAt0_A m c t h0 (by omega)]; frame_out; exact key
  · by_cases h1 : t.val % 32 = 31
    · rw [outsAt0_C m c t h0 h1]; frame_out; exact key
    · rw [outsAt0_B m c t h0 h1]; frame_out; exact key

/-- One point adds its rows' terms, in groups of eight. -/
theorem acc_eq (acc : FVec Ideal S8x1024 .f32) (j) : k0_pay12 acc (dw m c t) (k0_pay11 (dw m c t) (dw0 m c t)) j
    = acc j + ∑ b : Fin 64, DN (A0 m c) (A1 m c) (A2 m c) (A3 m c) (pos t ⟨8 * b.val + (j 0).val, by
        have h : (j 0).val < 8 := (j 0).isLt
        omega⟩) (j 1) * (A4 m c (ix2 (pos t ⟨8 * b.val + (j 0).val, by
        have h : (j 0).val < 8 := (j 0).isLt
        omega⟩) (j 1)) * R (A4 m c) (pos t ⟨8 * b.val + (j 0).val, by
        have h : (j 0).val < 8 := (j 0).isLt
        omega⟩)) := by
  rw [pay_acc]
  exact congrArg _ (Finset.sum_congr rfl fun b _ => dw_eq m c t _ _)

end Blocks

section Emb

theorem emb7 (t : Fin cfg0.N) (y : ((cfg0.win 7).xblock (cfg0.grid.coords t)).Idx) :
    (win0_7.blk t).view.emb y = ix2 (pos t (y 0)) (y 1) := by
  have h := idx t
  have h0 : win0_7.index t 0 = t.val := (congrFun h.2.2.2.2.2.2.2.1 0).trans rfl
  have h1 : win0_7.index t 1 = 0 := (congrFun h.2.2.2.2.2.2.2.1 1).trans rfl
  funext a
  apply Fin.ext
  match a with
  | ⟨0, _⟩ => show win0_7.index t 0 * 512 + 1 * (y 0).val = 512 * t.val + (y 0).val; rw [h0]; omega
  | ⟨1, _⟩ => show win0_7.index t 1 * 1024 + 1 * (y 1).val = (y 1).val; rw [h1]; omega

theorem emb8 (t : Fin cfg0.N) (y : ((cfg0.win 8).xblock (cfg0.grid.coords t)).Idx) :
    (win0_8.blk t).view.emb y = ix2 (pos t (y 0)) (y 1) := by
  have h := idx t
  have h0 : win0_8.index t 0 = t.val := (congrFun h.2.2.2.2.2.2.2.2.1 0).trans rfl
  have h1 : win0_8.index t 1 = 0 := (congrFun h.2.2.2.2.2.2.2.2.1 1).trans rfl
  funext a
  apply Fin.ext
  match a with
  | ⟨0, _⟩ => show win0_8.index t 0 * 512 + 1 * (y 0).val = 512 * t.val + (y 0).val; rw [h0]; omega
  | ⟨1, _⟩ => show win0_8.index t 1 * 1024 + 1 * (y 1).val = (y 1).val; rw [h1]; omega

theorem emb9 (t : Fin cfg0.N) (y : ((cfg0.win 9).xblock (cfg0.grid.coords t)).Idx) :
    (win0_9.blk t).view.emb y 1 = y 1 := by
  have h1 : win0_9.index t 1 = 0 := (congrFun (idx t).2.2.2.2.2.2.2.2.2 1).trans rfl
  apply Fin.ext
  show win0_9.index t 1 * 1024 + 1 * (y 1).val = (y 1).val; rw [h1]; omega

end Emb

section Final

variable (c : Dev nD)

/-- A position's term of the weight gradient. -/
def T (l : Fin 16384) (d : Fin 1024) : EReal := DN (A0 m c) (A1 m c) (A2 m c) (A3 m c) l d * (A4 m c (ix2 l d) * R (A4 m c) l)

/-- What a point adds to the accumulator. -/
def pt (n : ℕ) (j : S8x1024.Idx) : EReal :=
  if h : n < 32 then ∑ b : Fin 64, T m c (pos ⟨n, h⟩ ⟨8 * b.val + (j 0).val, by
        have h : (j 0).val < 8 := (j 0).isLt
        omega⟩) (j 1) else 0

theorem acc_eq' (t : Fin cfg0.N) (acc : FVec Ideal S8x1024 .f32) (j) :
    k0_pay12 acc (dw m c t) (k0_pay11 (dw m c t) (dw0 m c t)) j = acc j + pt m c t.val j := by
  rw [acc_eq, pt, dif_pos (show t.val < 32 from t.isLt)]
  rfl

theorem zero_eq (j) : k0_pay3 (F := Ideal) j = 0 := by pointwise [k0_pay3]

/-- After the last point the accumulator holds every point's rows. -/
theorem acc_final (t : Fin cfg0.N) (h : t.val % 32 = 31) (j) :
    (outsAt0 m c t.val t.isLt).2.2.2 j = ∑ s : Fin 32, pt m c s.val j := by
  rw [Pipeline.eq_sum_of_reset_step_apply_single_of_mod (fun n h => (outsAt0 m c n h).2.2.2) 32 (fun _ => 0) (pt m c)
    (fun t h j => by rw [outsAt0_A m c t h (by omega)]; frame_out; exact (acc_eq' m c t _ j).trans (by rw [zero_eq]))
    (fun t h j => by
      by_cases h1 : t.val % 32 = 31
      · rw [outsAt0_C m c t h h1]; frame_out; rw [read_unread_whole]; exact acc_eq' m c t _ j
      · rw [outsAt0_B m c t h h1]; frame_out; rw [read_unread_whole]; exact acc_eq' m c t _ j)
    (by decide) t h j, zero_add, Finset.sum_range]

theorem out9_eq (t : Fin cfg0.N) (h : t.val % 32 = 31) (y) :
    (outsAt0 m c t.val t.isLt).2.2.1 y = ∑ r : Fin 8, (outsAt0 m c t.val t.isLt).2.2.2 (ix2 r (y 1)) := by
  rw [outsAt0_C m c t (by omega) h]; frame_out; pointwise [k0_pay2]

theorem sum_all (d : Fin 1024) : ∑ r : Fin 8, ∑ s : Fin 32, pt m c s.val (ix2 r d) = ∑ l, T m c l d := by
  rw [Finset.sum_comm, ← sum_tiles (A := 32) (B := 512) (fun l => T m c l d) (by norm_num)]
  refine Finset.sum_congr rfl fun s _ => ?_
  rw [← sum_groups (A := 64) (L := 512) _ (by norm_num)]
  refine Finset.sum_congr rfl fun r _ => ?_
  rw [pt, dif_pos s.isLt]
  rfl

theorem final7 : Value.G7 m c = REF7 (A0 m c) (A1 m c) (A2 m c) (A3 m c) (A4 m c) (A5 m c) (A6 m c) := by
  refine (Value.final7 m c).symm.trans ?_
  refine (dats m 0 c).arrAt_eq_of_covers 7 _ (by decide +kernel) fun t hf y => ?_
  blk_simp
  rw [after0_7, out7_eq]
  exact congrArg _ (emb7 t y).symm

theorem final8 : Value.G8 m c = REF8 (A4 m c) (A5 m c) := by
  refine (Value.final8 m c).symm.trans ?_
  refine (dats m 0 c).arrAt_eq_of_covers 8 _ (by decide +kernel) fun t hf y => ?_
  blk_simp
  rw [after0_8, out8_eq]
  exact congrArg _ (emb8 t y).symm

theorem final9 : Value.G9 m c = REF9 (A0 m c) (A1 m c) (A2 m c) (A3 m c) (A4 m c) := by
  refine (Value.final9 m c).symm.trans ?_
  refine (dats m 0 c).arrAt_eq_of_covers 9 _ (by decide +kernel) fun t hf y => ?_
  blk_simp
  rw [after0_9, out9_eq m c t ((flush0_9 t).mp hf)]
  simp only [acc_final m c t ((flush0_9 t).mp hf)]
  exact (sum_all m c _).trans (by rw [REF9, emb9]; rfl)

end Final

section Reference

open Cert.CmInRefIdeal Cert.CmInRefIdeal.Gen

variable (m' : (ℓ : Loc Cert.CmInRefIdeal.nD Cert.CmInRefIdeal.τ Cert.CmInRefIdeal.sig) → Buf (Elt Ideal) ℓ) (c : Dev Cert.CmInRefIdeal.nD)

abbrev B0 : FVec Ideal Cert.CmInIdeal.S16384x2048 .bf16 := m' ((c.tc : Thread Cert.CmInRefIdeal.nD Cert.CmInRefIdeal.τ).loc Cert.CmInRefIdeal.main_arg0)
abbrev B1 : FVec Ideal Cert.CmInIdeal.S16384x2048 .bf16 := m' ((c.tc : Thread Cert.CmInRefIdeal.nD Cert.CmInRefIdeal.τ).loc Cert.CmInRefIdeal.main_arg1)
abbrev B2 : FVec Ideal Cert.CmInIdeal.S16384x2048 .bf16 := m' ((c.tc : Thread Cert.CmInRefIdeal.nD Cert.CmInRefIdeal.τ).loc Cert.CmInRefIdeal.main_arg2)
abbrev B3 : FVec Ideal Cert.CmInIdeal.S1024x6144 .bf16 := m' ((c.tc : Thread Cert.CmInRefIdeal.nD Cert.CmInRefIdeal.τ).loc Cert.CmInRefIdeal.main_arg3)
abbrev B4 : FVec Ideal Cert.CmInIdeal.S16384x1024 .f32 := m' ((c.tc : Thread Cert.CmInRefIdeal.nD Cert.CmInRefIdeal.τ).loc Cert.CmInRefIdeal.main_arg4)
abbrev B5 : FVec Ideal Cert.CmInIdeal.S1x1024 .f32 := m' ((c.tc : Thread Cert.CmInRefIdeal.nD Cert.CmInRefIdeal.τ).loc Cert.CmInRefIdeal.main_arg5)
abbrev B6 : FVec Ideal Cert.CmInIdeal.S16384x1024 .f32 := m' ((c.tc : Thread Cert.CmInRefIdeal.nD Cert.CmInRefIdeal.τ).loc Cert.CmInRefIdeal.main_arg6)

theorem ref7 : Cert.CmInRefIdeal.Value.res_main_v39 m' c = REF7 (B0 m' c) (B1 m' c) (B2 m' c) (B3 m' c) (B4 m' c) (B5 m' c) (B6 m' c) := by
  funext j
  obtain ⟨l, d, rfl⟩ : ∃ l d, j = ix2 l d := ⟨j 0, j 1, by funext i; fin_cases i <;> rfl⟩
  unfold Cert.CmInRefIdeal.Value.res_main_v39
  pointwise
  have h := rms_grad (fun k : Fin 1024 => B4 m' c (ix2 l k))
    (fun k => DN (B0 m' c) (B1 m' c) (B2 m' c) (B3 m' c) l k * B5 m' c (ix2 0 k)) 1024 eps (by norm_num) eps_pos (B6 m' c (ix2 l d)) d
  simp only [Fin.sum_univ_one, cneghalf, c1024, ceps]
  exact h

end Reference

theorem algebraic : Cert.algebraic_CmInIdeal_CmInRefIdeal :=
  fun m ρ m' ρ' _ hag => ⟨fun c => Value.G7 m c, fun c => Value.G8 m c, fun c => Value.G9 m c,
    (θ_run _ _ _).mono (fun _ h c => h c) (Value.run m ρ),
    (θ_run _ _ _).mono (fun _ h c => by
      obtain ⟨h0, h1, h2, hk⟩ := h c
      obtain ⟨a0, a1, a2, a3, a4, a5, a6⟩ := hag c
      refine ⟨h0.trans ?_, h1.trans ?_, h2.trans ?_, hk⟩
      · refine (ref7 m' c).trans ?_
        rw [B0, B1, B2, B3, B4, B5, B6, a0, a1, a2, a3, a4, a5, a6]
        exact (final7 m c).symm
      · refine Eq.trans (b := REF8 (B4 m' c) (B5 m' c)) ?_ ?_
        · funext j
          obtain ⟨l, d, rfl⟩ : ∃ l d, j = ix2 l d := ⟨j 0, j 1, by funext i; fin_cases i <;> rfl⟩
          pointwise
          simp only [c1024, ceps]
          rfl
        rw [B4, B5, a4, a5]
        exact (final8 m c).symm
      · refine Eq.trans (b := REF9 (B0 m' c) (B1 m' c) (B2 m' c) (B3 m' c) (B4 m' c)) ?_ ?_
        · funext j
          obtain ⟨l, d, rfl⟩ : ∃ l d, j = ix2 l d := ⟨j 0, j 1, by funext i; fin_cases i <;> rfl⟩
          pointwise
          simp only [c1024, ceps]
          exact Finset.sum_congr rfl fun x _ => mul_comm _ _
        rw [B0, B1, B2, B3, B4, a0, a1, a2, a3, a4]
        exact (final9 m c).symm) (Cert.CmInRefIdeal.Value.run m' ρ')⟩

end Cert.CmInIdeal.Hand

end
-- ==== Proof.SsdIn.lean ====
module

public import proofs.«01_k».proof.Proof.Gen.SsdInIdeal.Value
public import proofs.«01_k».proof.Proof.Gen.SsdInRefIdeal.Run
public import proofs.«01_k».proof.Proof.Common
public import proofs.«01_k».proof.Defs

@[expose] public section

set_option maxRecDepth 16384

noncomputable section

namespace Cert.SsdInIdeal.Hand

open Cert.SsdInIdeal Cert.SsdInIdeal.Gen Cert.Common Idealize.ShloMosaic Idealize.ShloMosaic.TcCoe Idealize.SL.Sem
open Idealize.ShloMosaic.Pipeline (Dat)

variable (m : (ℓ : Loc nD τ sig) → Buf (Elt Ideal) ℓ)

/-- The windows' index maps. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] ∧ win0_6.index t = ![t.val, 0]
    ∧ win0_7.index t = ![t.val, 0] ∧ win0_8.index t = ![t.val, 0] ∧ win0_9.index t = ![0, 0] :=
  (by decide +kernel : ∀ t : Fin grid0.N, _)

/-- The position of a row of a point's block. -/
def pos (t : Fin cfg0.N) (r : Fin 512) : Fin 16384 := ⟨512 * t.val + r.val, by
  have h : t.val < 32 := t.isLt
  omega⟩

section Spec

variable (P0 : FVec Ideal S16384x2048 .bf16) (P1 : FVec Ideal S16384x3072 .bf16) (P2 : FVec Ideal S16384x128 .bf16) (W : FVec Ideal S5248x1024 .bf16)
    (H : FVec Ideal S16384x1024 .f32) (NW : FVec Ideal S1x1024 .f32) (DH : FVec Ideal S16384x1024 .f32)

/-- The three parts' gradients side by side. -/
def cat (l : Fin 16384) (x : Fin 5248) : EReal :=
  if h : x.val < 2048 then P0 (ix2 l ⟨x.val, h⟩)
  else if h' : x.val - 2048 < 3072 then P1 (ix2 l ⟨x.val - 2048, h'⟩)
  else P2 (ix2 l ⟨x.val - 2048 - 3072, by have := x.isLt; omega⟩)

/-- The gradient of the normalized input: the parts' gradients against the projection. -/
def DN (l : Fin 16384) (d : Fin 1024) : EReal := ∑ x : Fin 5248, cat P0 P1 P2 l x * W (ix2 x d)

/-- The scale of a row. -/
def R (l : Fin 16384) : EReal := Ideal.rsqrt (ms (fun k : Fin 1024 => H (ix2 l k)) 1024 eps)

/-- The gradient of the input. -/
def REF7 : FVec Ideal S16384x1024 .f32 := fun j =>
  DH j + R H (j 0) * (DN P0 P1 P2 W (j 0) (j 1) * NW (ix2 0 (j 1))
    - H j * R H (j 0) * Ideal.div (∑ k : Fin 1024, DN P0 P1 P2 W (j 0) k * NW (ix2 0 k) * (H (ix2 (j 0) k) * R H (j 0))) ((1024 : ℝ) : EReal))

/-- The normalized input. -/
def REF8 : FVec Ideal S16384x1024 .bf16 := fun j => H j * R H (j 0) * NW (ix2 0 (j 1))

/-- The gradient of the normalization's weight. -/
def REF9 : FVec Ideal S1x1024 .f32 := fun j => ∑ l : Fin 16384, DN P0 P1 P2 W l (j 1) * (H (ix2 l (j 1)) * R H l)

theorem DN_split (l : Fin 16384) (d : Fin 1024) : DN P0 P1 P2 W l d
    = (∑ k : Fin 1024, P0 (ix2 l ⟨k.val, by omega⟩) * W (ix2 ⟨k.val, by omega⟩ d))
      + (∑ k : Fin 1024, P0 (ix2 l ⟨1024 + k.val, by omega⟩) * W (ix2 ⟨1024 + k.val, by omega⟩ d))
      + (∑ k : Fin 1024, P1 (ix2 l ⟨k.val, by omega⟩) * W (ix2 ⟨2048 + k.val, by omega⟩ d))
      + (∑ k : Fin 1024, P1 (ix2 l ⟨1024 + k.val, by omega⟩) * W (ix2 ⟨3072 + k.val, by omega⟩ d))
      + (∑ k : Fin 1024, P1 (ix2 l ⟨2048 + k.val, by omega⟩) * W (ix2 ⟨4096 + k.val, by omega⟩ d))
      + (∑ k : Fin 128, P2 (ix2 l ⟨k.val, by omega⟩) * W (ix2 ⟨5120 + k.val, by omega⟩ d)) := by
  unfold DN
  rw [split5]
  have h0 : ∀ k : Fin 1024, cat P0 P1 P2 l ⟨k.val, by omega⟩ = P0 (ix2 l ⟨k.val, by omega⟩) := fun k => by
    have hk := k.isLt
    unfold cat
    rw [dif_pos (show k.val < 2048 by omega)]
  have h1 : ∀ k : Fin 1024, cat P0 P1 P2 l ⟨1024 + k.val, by omega⟩ = P0 (ix2 l ⟨1024 + k.val, by omega⟩) := fun k => by
    have hk := k.isLt
    unfold cat
    rw [dif_pos (show 1024 + k.val < 2048 by omega)]
  have h2 : ∀ k : Fin 1024, cat P0 P1 P2 l ⟨2048 + k.val, by omega⟩ = P1 (ix2 l ⟨k.val, by omega⟩) := fun k => by
    have hk := k.isLt
    unfold cat
    rw [dif_neg (show ¬ 2048 + k.val < 2048 by omega), dif_pos (show 2048 + k.val - 2048 < 3072 by omega)]
    exact congrArg P1 (congrArg (ix2 l) (Fin.ext (by simp <;> omega)))
  have h3 : ∀ k : Fin 1024, cat P0 P1 P2 l ⟨3072 + k.val, by omega⟩ = P1 (ix2 l ⟨1024 + k.val, by omega⟩) := fun k => by
    have hk := k.isLt
    unfold cat
    rw [dif_neg (show ¬ 3072 + k.val < 2048 by omega), dif_pos (show 3072 + k.val - 2048 < 3072 by omega)]
    exact congrArg P1 (congrArg (ix2 l) (Fin.ext (by simp <;> omega)))
  have h4 : ∀ k : Fin 1024, cat P0 P1 P2 l ⟨4096 + k.val, by omega⟩ = P1 (ix2 l ⟨2048 + k.val, by omega⟩) := fun k => by
    have hk := k.isLt
    unfold cat
    rw [dif_neg (show ¬ 4096 + k.val < 2048 by omega), dif_pos (show 4096 + k.val - 2048 < 3072 by omega)]
    exact congrArg P1 (congrArg (ix2 l) (Fin.ext (by simp <;> omega)))
  have h5 : ∀ k : Fin 128, cat P0 P1 P2 l ⟨5120 + k.val, by omega⟩ = P2 (ix2 l ⟨k.val, by omega⟩) := fun k => by
    have hk := k.isLt
    unfold cat
    rw [dif_neg (show ¬ 5120 + k.val < 2048 by omega), dif_neg (show ¬ 5120 + k.val - 2048 < 3072 by omega)]
    exact congrArg P2 (congrArg (ix2 l) (Fin.ext (by simp <;> omega)))
  simp only [h0, h1, h2, h3, h4, h5]

end Spec

section Blocks

/-- Argument 0. -/
abbrev A0 (c : Dev nD) : FVec Ideal S16384x2048 .bf16 := m ((c : Thread nD τ).loc main_arg0)

/-- Argument 1. -/
abbrev A1 (c : Dev nD) : FVec Ideal S16384x3072 .bf16 := m ((c : Thread nD τ).loc main_arg1)

/-- Argument 2. -/
abbrev A2 (c : Dev nD) : FVec Ideal S16384x128 .bf16 := m ((c : Thread nD τ).loc main_arg2)

/-- Argument 3. -/
abbrev A3 (c : Dev nD) : FVec Ideal S5248x1024 .bf16 := m ((c : Thread nD τ).loc main_arg3)

/-- Argument 4. -/
abbrev A4 (c : Dev nD) : FVec Ideal S16384x1024 .f32 := m ((c : Thread nD τ).loc main_arg4)

/-- Argument 5. -/
abbrev A5 (c : Dev nD) : FVec Ideal S1x1024 .f32 := m ((c : Thread nD τ).loc main_arg5)

/-- Argument 6. -/
abbrev A6 (c : Dev nD) : FVec Ideal S16384x1024 .f32 := m ((c : Thread nD τ).loc main_arg6)

/-- The products of a point, as sums. -/
theorem pay_dn (p0 : FVec Ideal S512x1024 .bf16) (w0 : FVec Ideal S1024x1024 .bf16)
(p1 : FVec Ideal S512x1024 .bf16) (w1 : FVec Ideal S1024x1024 .bf16)
(p2 : FVec Ideal S512x1024 .bf16) (w2 : FVec Ideal S1024x1024 .bf16)
(p3 : FVec Ideal S512x1024 .bf16) (w3 : FVec Ideal S1024x1024 .bf16)
(p4 : FVec Ideal S512x1024 .bf16) (w4 : FVec Ideal S1024x1024 .bf16)
(p5 : FVec Ideal S512x128 .bf16) (w5 : FVec Ideal S128x1024 .bf16) (r : Fin 512) (d : Fin 1024) :
    k0_pay8 (F := Ideal) (k0_pay7 p0 w0 p1 w1) p2 w2 (constant S512x1024 FTy.f32 0#32) p3 w3 p4 w4 p5 w5 (ix2 r d)
    = (∑ k : Fin 1024, p0 (ix2 r k) * w0 (ix2 k d))
      + (∑ k : Fin 1024, p1 (ix2 r k) * w1 (ix2 k d))
      + (∑ k : Fin 1024, p2 (ix2 r k) * w2 (ix2 k d))
      + (∑ k : Fin 1024, p3 (ix2 r k) * w3 (ix2 k d))
      + (∑ k : Fin 1024, p4 (ix2 r k) * w4 (ix2 k d))
      + (∑ k : Fin 128, p5 (ix2 r k) * w5 (ix2 k d)) := by
  pointwise [k0_pay8, k0_pay7]

/-- The terms of the weight gradient. -/
theorem pay_dw (n : FVec Ideal S512x1024 .f32) (p0 : FVec Ideal S512x1024 .bf16) (w0 : FVec Ideal S1024x1024 .bf16)
(p1 : FVec Ideal S512x1024 .bf16) (w1 : FVec Ideal S1024x1024 .bf16)
(p2 : FVec Ideal S512x1024 .bf16) (w2 : FVec Ideal S1024x1024 .bf16)
(p3 : FVec Ideal S512x1024 .bf16) (w3 : FVec Ideal S1024x1024 .bf16)
(p4 : FVec Ideal S512x1024 .bf16) (w4 : FVec Ideal S1024x1024 .bf16)
(p5 : FVec Ideal S512x128 .bf16) (w5 : FVec Ideal S128x1024 .bf16) (j) :
    k0_pay9 (F := Ideal) n (k0_pay7 p0 w0 p1 w1) p2 w2 (constant S512x1024 FTy.f32 0#32) p3 w3 p4 w4 p5 w5 j = k0_pay8 (F := Ideal) (k0_pay7 p0 w0 p1 w1) p2 w2 (constant S512x1024 FTy.f32 0#32) p3 w3 p4 w4 p5 w5 j * n j := by
  pointwise [k0_pay9]

/-- The groups of eight rows of a point are added to the accumulator. -/
theorem pay_acc (acc : FVec Ideal S8x1024 .f32) (n : FVec Ideal S512x1024 .f32) (p0 : FVec Ideal S512x1024 .bf16) (w0 : FVec Ideal S1024x1024 .bf16)
(p1 : FVec Ideal S512x1024 .bf16) (w1 : FVec Ideal S1024x1024 .bf16)
(p2 : FVec Ideal S512x1024 .bf16) (w2 : FVec Ideal S1024x1024 .bf16)
(p3 : FVec Ideal S512x1024 .bf16) (w3 : FVec Ideal S1024x1024 .bf16)
(p4 : FVec Ideal S512x1024 .bf16) (w4 : FVec Ideal S1024x1024 .bf16)
(p5 : FVec Ideal S512x128 .bf16) (w5 : FVec Ideal S128x1024 .bf16) (j) :
    k0_pay12 (F := Ideal) acc (k0_pay9 n (k0_pay7 p0 w0 p1 w1) p2 w2 (constant S512x1024 FTy.f32 0#32) p3 w3 p4 w4 p5 w5) (k0_pay11 (k0_pay9 n (k0_pay7 p0 w0 p1 w1) p2 w2 (constant S512x1024 FTy.f32 0#32) p3 w3 p4 w4 p5 w5) (k0_pay10 n (k0_pay7 p0 w0 p1 w1) p2 w2 (constant S512x1024 FTy.f32 0#32) p3 w3 p4 w4 p5 w5)) j
    = acc j + ∑ b : Fin 64, k0_pay9 (F := Ideal) n (k0_pay7 p0 w0 p1 w1) p2 w2 (constant S512x1024 FTy.f32 0#32) p3 w3 p4 w4 p5 w5 (ix2 ⟨8 * b.val + (j 0).val, by
        have h : (j 0).val < 8 := (j 0).isLt
        omega⟩ (j 1)) := by
  have h := rows64 (fun l => k0_pay9 (F := Ideal) n (k0_pay7 p0 w0 p1 w1) p2 w2 (constant S512x1024 FTy.f32 0#32) p3 w3 p4 w4 p5 w5 (ix2 l (j 1))) (j 0)
  rw [← h]
  pointwise [k0_pay12, k0_pay11, k0_pay10]
  try rfl

variable (c : Dev nD) (t : Fin cfg0.N)

theorem bp0 (r : Fin 512) (k : Fin 1024) : View.ld (iblk m c 0 t) (Rect.unit ![0, 0] ![512, 1024] inb_S512x2048_S512x1024_0_0) (ix2 r k)
    = A0 m c (ix2 (pos t r) ⟨k.val, by omega⟩) := by
  blk_point [iblk, V, idx t, pos]

theorem bw0 (k : Fin 1024) (d : Fin 1024) : View.ld (iblk m c 3 t) (Rect.unit ![0, 0] ![1024, 1024] inb_S5248x1024_S1024x1024_0_0) (ix2 k d)
    = A3 m c (ix2 ⟨k.val, by omega⟩ d) := by
  blk_point [iblk, V, idx t]

theorem bp1 (r : Fin 512) (k : Fin 1024) : View.ld (iblk m c 0 t) (Rect.unit ![0, 1024] ![512, 1024] inb_S512x2048_S512x1024_0_1024) (ix2 r k)
    = A0 m c (ix2 (pos t r) ⟨1024 + k.val, by omega⟩) := by
  blk_point [iblk, V, idx t, pos]

theorem bw1 (k : Fin 1024) (d : Fin 1024) : View.ld (iblk m c 3 t) (Rect.unit ![1024, 0] ![1024, 1024] inb_S5248x1024_S1024x1024_1024_0) (ix2 k d)
    = A3 m c (ix2 ⟨1024 + k.val, by omega⟩ d) := by
  blk_point [iblk, V, idx t]

theorem bp2 (r : Fin 512) (k : Fin 1024) : View.ld (iblk m c 1 t) (Rect.unit ![0, 0] ![512, 1024] inb_S512x3072_S512x1024_0_0) (ix2 r k)
    = A1 m c (ix2 (pos t r) ⟨k.val, by omega⟩) := by
  blk_point [iblk, V, idx t, pos]

theorem bw2 (k : Fin 1024) (d : Fin 1024) : View.ld (iblk m c 3 t) (Rect.unit ![2048, 0] ![1024, 1024] inb_S5248x1024_S1024x1024_2048_0) (ix2 k d)
    = A3 m c (ix2 ⟨2048 + k.val, by omega⟩ d) := by
  blk_point [iblk, V, idx t]

theorem bp3 (r : Fin 512) (k : Fin 1024) : View.ld (iblk m c 1 t) (Rect.unit ![0, 1024] ![512, 1024] inb_S512x3072_S512x1024_0_1024) (ix2 r k)
    = A1 m c (ix2 (pos t r) ⟨1024 + k.val, by omega⟩) := by
  blk_point [iblk, V, idx t, pos]

theorem bw3 (k : Fin 1024) (d : Fin 1024) : View.ld (iblk m c 3 t) (Rect.unit ![3072, 0] ![1024, 1024] inb_S5248x1024_S1024x1024_3072_0) (ix2 k d)
    = A3 m c (ix2 ⟨3072 + k.val, by omega⟩ d) := by
  blk_point [iblk, V, idx t]

theorem bp4 (r : Fin 512) (k : Fin 1024) : View.ld (iblk m c 1 t) (Rect.unit ![0, 2048] ![512, 1024] inb_S512x3072_S512x1024_0_2048) (ix2 r k)
    = A1 m c (ix2 (pos t r) ⟨2048 + k.val, by omega⟩) := by
  blk_point [iblk, V, idx t, pos]

theorem bw4 (k : Fin 1024) (d : Fin 1024) : View.ld (iblk m c 3 t) (Rect.unit ![4096, 0] ![1024, 1024] inb_S5248x1024_S1024x1024_4096_0) (ix2 k d)
    = A3 m c (ix2 ⟨4096 + k.val, by omega⟩ d) := by
  blk_point [iblk, V, idx t]

theorem bp5 (r : Fin 512) (k : Fin 128) : (iblk m c 2 t) (ix2 r k)
    = A2 m c (ix2 (pos t r) ⟨k.val, by omega⟩) := by
  blk_point [iblk, V, idx t, pos]

theorem bw5 (k : Fin 128) (d : Fin 1024) : View.ld (iblk m c 3 t) (Rect.unit ![5120, 0] ![128, 1024] inb_S5248x1024_S128x1024_5120_0) (ix2 k d)
    = A3 m c (ix2 ⟨5120 + k.val, by omega⟩ d) := by
  blk_point [iblk, V, idx t]

theorem b4 (r : Fin 512) (k : Fin 1024) : iblk m c 4 t (ix2 r k) = A4 m c (ix2 (pos t r) k) := by
  blk_point [iblk, V, idx t, pos]

theorem b5 (k : Fin 1024) : iblk m c 5 t (ix2 0 k) = A5 m c (ix2 0 k) := by
  blk_point [iblk, V, idx t]

theorem b6 (r : Fin 512) (k : Fin 1024) : iblk m c 6 t (ix2 r k) = A6 m c (ix2 (pos t r) k) := by
  blk_point [iblk, V, idx t, pos]

/-- The products of a point. -/
abbrev dn : FVec Ideal S512x1024 .f32 := k0_pay8 (k0_pay7 (View.ld (iblk m c 0 t) (Rect.unit ![0, 0] ![512, 1024] inb_S512x2048_S512x1024_0_0)) (View.ld (iblk m c 3 t) (Rect.unit ![0, 0] ![1024, 1024] inb_S5248x1024_S1024x1024_0_0))
      (View.ld (iblk m c 0 t) (Rect.unit ![0, 1024] ![512, 1024] inb_S512x2048_S512x1024_0_1024)) (View.ld (iblk m c 3 t) (Rect.unit ![1024, 0] ![1024, 1024] inb_S5248x1024_S1024x1024_1024_0)))
      (View.ld (iblk m c 1 t) (Rect.unit ![0, 0] ![512, 1024] inb_S512x3072_S512x1024_0_0)) (View.ld (iblk m c 3 t) (Rect.unit ![2048, 0] ![1024, 1024] inb_S5248x1024_S1024x1024_2048_0))
      (constant S512x1024 FTy.f32 0#32)
      (View.ld (iblk m c 1 t) (Rect.unit ![0, 1024] ![512, 1024] inb_S512x3072_S512x1024_0_1024)) (View.ld (iblk m c 3 t) (Rect.unit ![3072, 0] ![1024, 1024] inb_S5248x1024_S1024x1024_3072_0))
      (View.ld (iblk m c 1 t) (Rect.unit ![0, 2048] ![512, 1024] inb_S512x3072_S512x1024_0_2048)) (View.ld (iblk m c 3 t) (Rect.unit ![4096, 0] ![1024, 1024] inb_S5248x1024_S1024x1024_4096_0))
      (iblk m c 2 t) (View.ld (iblk m c 3 t) (Rect.unit ![5120, 0] ![128, 1024] inb_S5248x1024_S128x1024_5120_0))

/-- A point's terms of the weight's gradient. -/
abbrev dw : FVec Ideal S512x1024 .f32 := k0_pay9 (k0_pay5 (iblk m c 4 t)) (k0_pay7 (View.ld (iblk m c 0 t) (Rect.unit ![0, 0] ![512, 1024] inb_S512x2048_S512x1024_0_0)) (View.ld (iblk m c 3 t) (Rect.unit ![0, 0] ![1024, 1024] inb_S5248x1024_S1024x1024_0_0))
      (View.ld (iblk m c 0 t) (Rect.unit ![0, 1024] ![512, 1024] inb_S512x2048_S512x1024_0_1024)) (View.ld (iblk m c 3 t) (Rect.unit ![1024, 0] ![1024, 1024] inb_S5248x1024_S1024x1024_1024_0)))
      (View.ld (iblk m c 1 t) (Rect.unit ![0, 0] ![512, 1024] inb_S512x3072_S512x1024_0_0)) (View.ld (iblk m c 3 t) (Rect.unit ![2048, 0] ![1024, 1024] inb_S5248x1024_S1024x1024_2048_0))
      (constant S512x1024 FTy.f32 0#32)
      (View.ld (iblk m c 1 t) (Rect.unit ![0, 1024] ![512, 1024] inb_S512x3072_S512x1024_0_1024)) (View.ld (iblk m c 3 t) (Rect.unit ![3072, 0] ![1024, 1024] inb_S5248x1024_S1024x1024_3072_0))
      (View.ld (iblk m c 1 t) (Rect.unit ![0, 2048] ![512, 1024] inb_S512x3072_S512x1024_0_2048)) (View.ld (iblk m c 3 t) (Rect.unit ![4096, 0] ![1024, 1024] inb_S5248x1024_S1024x1024_4096_0))
      (iblk m c 2 t) (View.ld (iblk m c 3 t) (Rect.unit ![5120, 0] ![128, 1024] inb_S5248x1024_S128x1024_5120_0))

/-- The first groups of a point's terms added up. -/
abbrev dw0 : FVec Ideal S8x1024 .f32 := k0_pay10 (k0_pay5 (iblk m c 4 t)) (k0_pay7 (View.ld (iblk m c 0 t) (Rect.unit ![0, 0] ![512, 1024] inb_S512x2048_S512x1024_0_0)) (View.ld (iblk m c 3 t) (Rect.unit ![0, 0] ![1024, 1024] inb_S5248x1024_S1024x1024_0_0))
      (View.ld (iblk m c 0 t) (Rect.unit ![0, 1024] ![512, 1024] inb_S512x2048_S512x1024_0_1024)) (View.ld (iblk m c 3 t) (Rect.unit ![1024, 0] ![1024, 1024] inb_S5248x1024_S1024x1024_1024_0)))
      (View.ld (iblk m c 1 t) (Rect.unit ![0, 0] ![512, 1024] inb_S512x3072_S512x1024_0_0)) (View.ld (iblk m c 3 t) (Rect.unit ![2048, 0] ![1024, 1024] inb_S5248x1024_S1024x1024_2048_0))
      (constant S512x1024 FTy.f32 0#32)
      (View.ld (iblk m c 1 t) (Rect.unit ![0, 1024] ![512, 1024] inb_S512x3072_S512x1024_0_1024)) (View.ld (iblk m c 3 t) (Rect.unit ![3072, 0] ![1024, 1024] inb_S5248x1024_S1024x1024_3072_0))
      (View.ld (iblk m c 1 t) (Rect.unit ![0, 2048] ![512, 1024] inb_S512x3072_S512x1024_0_2048)) (View.ld (iblk m c 3 t) (Rect.unit ![4096, 0] ![1024, 1024] inb_S5248x1024_S1024x1024_4096_0))
      (iblk m c 2 t) (View.ld (iblk m c 3 t) (Rect.unit ![5120, 0] ![128, 1024] inb_S5248x1024_S128x1024_5120_0))

theorem dn_eq (r : Fin 512) (d : Fin 1024) : dn m c t (ix2 r d)
    = DN (A0 m c) (A1 m c) (A2 m c) (A3 m c) (pos t r) d := by
  rw [DN_split, dn, pay_dn]
  simp only [bp0, bw0, bp1, bw1, bp2, bw2, bp3, bw3, bp4, bw4, bp5, bw5]

theorem r_eq (r : Fin 512) : k0_pay4 (iblk m c 4 t) (ix2 r 0) = R (A4 m c) (pos t r) := by
  pointwise [k0_pay4]
  unfold R ms
  simp only [b4, c1024, ceps]

theorem n_eq (r : Fin 512) (d : Fin 1024) : k0_pay5 (iblk m c 4 t) (ix2 r d) = A4 m c (ix2 (pos t r) d) * R (A4 m c) (pos t r) := by
  pointwise [k0_pay5]
  rw [r_eq, b4]

theorem dw_eq (r : Fin 512) (d : Fin 1024) : dw m c t (ix2 r d)
    = DN (A0 m c) (A1 m c) (A2 m c) (A3 m c) (pos t r) d * (A4 m c (ix2 (pos t r) d) * R (A4 m c) (pos t r)) := by
  rw [← dn_eq, ← n_eq, dw, pay_dw]

theorem out7_eq (y) : (outsAt0 m c t.val t.isLt).1 y
    = REF7 (A0 m c) (A1 m c) (A2 m c) (A3 m c) (A4 m c) (A5 m c) (A6 m c) (ix2 (pos t (y 0)) (y 1)) := by
  have key : k0_pay1 (k0_pay4 (iblk m c 4 t)) (k0_pay5 (iblk m c 4 t)) (k0_pay13 (dn m c t) (iblk m c 5 t)) (iblk m c 6 t)
      (k0_pay14 (k0_pay5 (iblk m c 4 t)) (dn m c t) (iblk m c 5 t)) (FloatOps.ofBits FTy.f32 1149239296#32) y
      = REF7 (A0 m c) (A1 m c) (A2 m c) (A3 m c) (A4 m c) (A5 m c) (A6 m c) (ix2 (pos t (y 0)) (y 1)) := by
    obtain ⟨r, d, rfl⟩ : ∃ r d, y = ix2 r d := ⟨y 0, y 1, by funext i; fin_cases i <;> rfl⟩
    unfold REF7
    pointwise [k0_pay1, k0_pay13, k0_pay14]
    simp only [dn_eq, n_eq, r_eq, b5, b6, c1024]
  by_cases h0 : t.val % 32 = 0
  · rw [outsAt0_A m c t h0 (by omega)]; frame_out; exact key
  · by_cases h1 : t.val % 32 = 31
    · rw [outsAt0_C m c t h0 h1]; frame_out; exact key
    · rw [outsAt0_B m c t h0 h1]; frame_out; exact key

theorem out8_eq (y) : (outsAt0 m c t.val t.isLt).2.1 y
    = REF8 (A4 m c) (A5 m c) (ix2 (pos t (y 0)) (y 1)) := by
  have key : k0_pay6 (iblk m c 4 t) (iblk m c 5 t) y = REF8 (A4 m c) (A5 m c) (ix2 (pos t (y 0)) (y 1)) := by
    obtain ⟨r, d, rfl⟩ : ∃ r d, y = ix2 r d := ⟨y 0, y 1, by funext i; fin_cases i <;> rfl⟩
    unfold REF8
    pointwise [k0_pay6]
    simp only [n_eq, b5]
  by_cases h0 : t.val % 32 = 0
  · rw [outsAt0_A m c t h0 (by omega)]; frame_out; exact key
  · by_cases h1 : t.val % 32 = 31
    · rw [outsAt0_C m c t h0 h1]; frame_out; exact key
    · rw [outsAt0_B m c t h0 h1]; frame_out; exact key

/-- One point adds its rows' terms, in groups of eight. -/
theorem acc_eq (acc : FVec Ideal S8x1024 .f32) (j) : k0_pay12 acc (dw m c t) (k0_pay11 (dw m c t) (dw0 m c t)) j
    = acc j + ∑ b : Fin 64, DN (A0 m c) (A1 m c) (A2 m c) (A3 m c) (pos t ⟨8 * b.val + (j 0).val, by
        have h : (j 0).val < 8 := (j 0).isLt
        omega⟩) (j 1) * (A4 m c (ix2 (pos t ⟨8 * b.val + (j 0).val, by
        have h : (j 0).val < 8 := (j 0).isLt
        omega⟩) (j 1)) * R (A4 m c) (pos t ⟨8 * b.val + (j 0).val, by
        have h : (j 0).val < 8 := (j 0).isLt
        omega⟩)) := by
  rw [pay_acc]
  exact congrArg _ (Finset.sum_congr rfl fun b _ => dw_eq m c t _ _)

end Blocks

section Emb

theorem emb7 (t : Fin cfg0.N) (y : ((cfg0.win 7).xblock (cfg0.grid.coords t)).Idx) :
    (win0_7.blk t).view.emb y = ix2 (pos t (y 0)) (y 1) := by
  have h := idx t
  have h0 : win0_7.index t 0 = t.val := (congrFun h.2.2.2.2.2.2.2.1 0).trans rfl
  have h1 : win0_7.index t 1 = 0 := (congrFun h.2.2.2.2.2.2.2.1 1).trans rfl
  funext a
  apply Fin.ext
  match a with
  | ⟨0, _⟩ => show win0_7.index t 0 * 512 + 1 * (y 0).val = 512 * t.val + (y 0).val; rw [h0]; omega
  | ⟨1, _⟩ => show win0_7.index t 1 * 1024 + 1 * (y 1).val = (y 1).val; rw [h1]; omega

theorem emb8 (t : Fin cfg0.N) (y : ((cfg0.win 8).xblock (cfg0.grid.coords t)).Idx) :
    (win0_8.blk t).view.emb y = ix2 (pos t (y 0)) (y 1) := by
  have h := idx t
  have h0 : win0_8.index t 0 = t.val := (congrFun h.2.2.2.2.2.2.2.2.1 0).trans rfl
  have h1 : win0_8.index t 1 = 0 := (congrFun h.2.2.2.2.2.2.2.2.1 1).trans rfl
  funext a
  apply Fin.ext
  match a with
  | ⟨0, _⟩ => show win0_8.index t 0 * 512 + 1 * (y 0).val = 512 * t.val + (y 0).val; rw [h0]; omega
  | ⟨1, _⟩ => show win0_8.index t 1 * 1024 + 1 * (y 1).val = (y 1).val; rw [h1]; omega

theorem emb9 (t : Fin cfg0.N) (y : ((cfg0.win 9).xblock (cfg0.grid.coords t)).Idx) :
    (win0_9.blk t).view.emb y 1 = y 1 := by
  have h1 : win0_9.index t 1 = 0 := (congrFun (idx t).2.2.2.2.2.2.2.2.2 1).trans rfl
  apply Fin.ext
  show win0_9.index t 1 * 1024 + 1 * (y 1).val = (y 1).val; rw [h1]; omega

end Emb

section Final

variable (c : Dev nD)

/-- A position's term of the weight gradient. -/
def T (l : Fin 16384) (d : Fin 1024) : EReal := DN (A0 m c) (A1 m c) (A2 m c) (A3 m c) l d * (A4 m c (ix2 l d) * R (A4 m c) l)

/-- What a point adds to the accumulator. -/
def pt (n : ℕ) (j : S8x1024.Idx) : EReal :=
  if h : n < 32 then ∑ b : Fin 64, T m c (pos ⟨n, h⟩ ⟨8 * b.val + (j 0).val, by
        have h : (j 0).val < 8 := (j 0).isLt
        omega⟩) (j 1) else 0

theorem acc_eq' (t : Fin cfg0.N) (acc : FVec Ideal S8x1024 .f32) (j) :
    k0_pay12 acc (dw m c t) (k0_pay11 (dw m c t) (dw0 m c t)) j = acc j + pt m c t.val j := by
  rw [acc_eq, pt, dif_pos (show t.val < 32 from t.isLt)]
  rfl

theorem zero_eq (j) : k0_pay3 (F := Ideal) j = 0 := by pointwise [k0_pay3]

/-- After the last point the accumulator holds every point's rows. -/
theorem acc_final (t : Fin cfg0.N) (h : t.val % 32 = 31) (j) :
    (outsAt0 m c t.val t.isLt).2.2.2 j = ∑ s : Fin 32, pt m c s.val j := by
  rw [Pipeline.eq_sum_of_reset_step_apply_single_of_mod (fun n h => (outsAt0 m c n h).2.2.2) 32 (fun _ => 0) (pt m c)
    (fun t h j => by rw [outsAt0_A m c t h (by omega)]; frame_out; exact (acc_eq' m c t _ j).trans (by rw [zero_eq]))
    (fun t h j => by
      by_cases h1 : t.val % 32 = 31
      · rw [outsAt0_C m c t h h1]; frame_out; rw [read_unread_whole]; exact acc_eq' m c t _ j
      · rw [outsAt0_B m c t h h1]; frame_out; rw [read_unread_whole]; exact acc_eq' m c t _ j)
    (by decide) t h j, zero_add, Finset.sum_range]

theorem out9_eq (t : Fin cfg0.N) (h : t.val % 32 = 31) (y) :
    (outsAt0 m c t.val t.isLt).2.2.1 y = ∑ r : Fin 8, (outsAt0 m c t.val t.isLt).2.2.2 (ix2 r (y 1)) := by
  rw [outsAt0_C m c t (by omega) h]; frame_out; pointwise [k0_pay2]

theorem sum_all (d : Fin 1024) : ∑ r : Fin 8, ∑ s : Fin 32, pt m c s.val (ix2 r d) = ∑ l, T m c l d := by
  rw [Finset.sum_comm, ← sum_tiles (A := 32) (B := 512) (fun l => T m c l d) (by norm_num)]
  refine Finset.sum_congr rfl fun s _ => ?_
  rw [← sum_groups (A := 64) (L := 512) _ (by norm_num)]
  refine Finset.sum_congr rfl fun r _ => ?_
  rw [pt, dif_pos s.isLt]
  rfl

theorem final7 : Value.G7 m c = REF7 (A0 m c) (A1 m c) (A2 m c) (A3 m c) (A4 m c) (A5 m c) (A6 m c) := by
  refine (Value.final7 m c).symm.trans ?_
  refine (dats m 0 c).arrAt_eq_of_covers 7 _ (by decide +kernel) fun t hf y => ?_
  blk_simp
  rw [after0_7, out7_eq]
  exact congrArg _ (emb7 t y).symm

theorem final8 : Value.G8 m c = REF8 (A4 m c) (A5 m c) := by
  refine (Value.final8 m c).symm.trans ?_
  refine (dats m 0 c).arrAt_eq_of_covers 8 _ (by decide +kernel) fun t hf y => ?_
  blk_simp
  rw [after0_8, out8_eq]
  exact congrArg _ (emb8 t y).symm

theorem final9 : Value.G9 m c = REF9 (A0 m c) (A1 m c) (A2 m c) (A3 m c) (A4 m c) := by
  refine (Value.final9 m c).symm.trans ?_
  refine (dats m 0 c).arrAt_eq_of_covers 9 _ (by decide +kernel) fun t hf y => ?_
  blk_simp
  rw [after0_9, out9_eq m c t ((flush0_9 t).mp hf)]
  simp only [acc_final m c t ((flush0_9 t).mp hf)]
  exact (sum_all m c _).trans (by rw [REF9, emb9]; rfl)

end Final

section Reference

open Cert.SsdInRefIdeal Cert.SsdInRefIdeal.Gen

variable (m' : (ℓ : Loc Cert.SsdInRefIdeal.nD Cert.SsdInRefIdeal.τ Cert.SsdInRefIdeal.sig) → Buf (Elt Ideal) ℓ) (c : Dev Cert.SsdInRefIdeal.nD)

abbrev B0 : FVec Ideal Cert.SsdInIdeal.S16384x2048 .bf16 := m' ((c.tc : Thread Cert.SsdInRefIdeal.nD Cert.SsdInRefIdeal.τ).loc Cert.SsdInRefIdeal.main_arg0)
abbrev B1 : FVec Ideal Cert.SsdInIdeal.S16384x3072 .bf16 := m' ((c.tc : Thread Cert.SsdInRefIdeal.nD Cert.SsdInRefIdeal.τ).loc Cert.SsdInRefIdeal.main_arg1)
abbrev B2 : FVec Ideal Cert.SsdInIdeal.S16384x128 .bf16 := m' ((c.tc : Thread Cert.SsdInRefIdeal.nD Cert.SsdInRefIdeal.τ).loc Cert.SsdInRefIdeal.main_arg2)
abbrev B3 : FVec Ideal Cert.SsdInIdeal.S5248x1024 .bf16 := m' ((c.tc : Thread Cert.SsdInRefIdeal.nD Cert.SsdInRefIdeal.τ).loc Cert.SsdInRefIdeal.main_arg3)
abbrev B4 : FVec Ideal Cert.SsdInIdeal.S16384x1024 .f32 := m' ((c.tc : Thread Cert.SsdInRefIdeal.nD Cert.SsdInRefIdeal.τ).loc Cert.SsdInRefIdeal.main_arg4)
abbrev B5 : FVec Ideal Cert.SsdInIdeal.S1x1024 .f32 := m' ((c.tc : Thread Cert.SsdInRefIdeal.nD Cert.SsdInRefIdeal.τ).loc Cert.SsdInRefIdeal.main_arg5)
abbrev B6 : FVec Ideal Cert.SsdInIdeal.S16384x1024 .f32 := m' ((c.tc : Thread Cert.SsdInRefIdeal.nD Cert.SsdInRefIdeal.τ).loc Cert.SsdInRefIdeal.main_arg6)

theorem ref7 : Cert.SsdInRefIdeal.Value.res_main_v40 m' c = REF7 (B0 m' c) (B1 m' c) (B2 m' c) (B3 m' c) (B4 m' c) (B5 m' c) (B6 m' c) := by
  funext j
  obtain ⟨l, d, rfl⟩ : ∃ l d, j = ix2 l d := ⟨j 0, j 1, by funext i; fin_cases i <;> rfl⟩
  unfold Cert.SsdInRefIdeal.Value.res_main_v40
  pointwise
  have h := rms_grad (fun k : Fin 1024 => B4 m' c (ix2 l k))
    (fun k => DN (B0 m' c) (B1 m' c) (B2 m' c) (B3 m' c) l k * B5 m' c (ix2 0 k)) 1024 eps (by norm_num) eps_pos (B6 m' c (ix2 l d)) d
  simp only [Fin.sum_univ_one, cneghalf, c1024, ceps]
  exact h

end Reference

theorem algebraic : Cert.algebraic_SsdInIdeal_SsdInRefIdeal :=
  fun m ρ m' ρ' _ hag => ⟨fun c => Value.G7 m c, fun c => Value.G8 m c, fun c => Value.G9 m c,
    (θ_run _ _ _).mono (fun _ h c => h c) (Value.run m ρ),
    (θ_run _ _ _).mono (fun _ h c => by
      obtain ⟨h0, h1, h2, hk⟩ := h c
      obtain ⟨a0, a1, a2, a3, a4, a5, a6⟩ := hag c
      refine ⟨h0.trans ?_, h1.trans ?_, h2.trans ?_, hk⟩
      · refine (ref7 m' c).trans ?_
        rw [B0, B1, B2, B3, B4, B5, B6, a0, a1, a2, a3, a4, a5, a6]
        exact (final7 m c).symm
      · refine Eq.trans (b := REF8 (B4 m' c) (B5 m' c)) ?_ ?_
        · funext j
          obtain ⟨l, d, rfl⟩ : ∃ l d, j = ix2 l d := ⟨j 0, j 1, by funext i; fin_cases i <;> rfl⟩
          pointwise
          simp only [c1024, ceps]
          rfl
        rw [B4, B5, a4, a5]
        exact (final8 m c).symm
      · refine Eq.trans (b := REF9 (B0 m' c) (B1 m' c) (B2 m' c) (B3 m' c) (B4 m' c)) ?_ ?_
        · funext j
          obtain ⟨l, d, rfl⟩ : ∃ l d, j = ix2 l d := ⟨j 0, j 1, by funext i; fin_cases i <;> rfl⟩
          pointwise
          simp only [c1024, ceps]
          exact Finset.sum_congr rfl fun x _ => mul_comm _ _
        rw [B0, B1, B2, B3, B4, a0, a1, a2, a3, a4]
        exact (final9 m c).symm) (Cert.SsdInRefIdeal.Value.run m' ρ')⟩

end Cert.SsdInIdeal.Hand

end
-- ==== Proof.CmWin.lean ====
module

public import proofs.«01_k».proof.Proof.Gen.CmWinIdeal.Value
public import proofs.«01_k».proof.Proof.Gen.CmWinRefIdeal.Run
public import proofs.«01_k».proof.Defs
public import Idealize.ShloMosaic.Lib.Pipeline.ReadBack
public import Idealize.ShloMosaic.Lib.Pipeline.ValueKit

@[expose] public section

set_option maxRecDepth 16384

noncomputable section

namespace Cert.CmWinIdeal.Hand

open Cert.CmWinIdeal Cert.CmWinIdeal.Gen Idealize.ShloMosaic Idealize.ShloMosaic.TcCoe Idealize.SL.Sem
open Idealize.ShloMosaic.Pipeline (Dat)

variable (m : (ℓ : Loc nD τ sig) → Buf (Elt Ideal) ℓ)

/-- The zero fill. -/
theorem hzero (j) : k0_pay1 (F := Ideal) j = 0 := by pointwise [k0_pay1]

/-- One point adds the products of its rows. -/
theorem hpay (acc : FVec Ideal S1024x1024 .f32) (x : FVec Ideal S2048x1024 .bf16) (y : FVec Ideal S2048x1024 .bf16) (j) :
    k0_pay2 acc x y j = acc j + ∑ k : Fin 2048, x (ix2 k (j 0)) * y (ix2 k (j 1)) := by
  pointwise [k0_pay2]

/-- The windows' index maps. -/
theorem idx : ∀ t : Fin cfg0.N, win0_0.index t = ![t.val % 8, 0] ∧ win0_1.index t = ![t.val % 8, t.val / 8]
    ∧ win0_2.index t = ![0, t.val / 8] :=
  (by decide +kernel : ∀ t : Fin grid0.N, _)

/-- What the sum over all positions is. -/
abbrev REF (X : FVec Ideal S16384x1024 .bf16) (Y : FVec Ideal S16384x2048 .bf16) : FVec Ideal S1024x2048 .f32 :=
  fun j => ∑ l : Fin 16384, X (ix2 l (j 0)) * Y (ix2 l (j 1))

/-- At the last point of a run the block that is written back is the accumulator. -/
theorem out_eq (c : Dev nD) (t : Fin cfg0.N) (h : t.val % 8 = 7) :
    (outsAt0 m c t.val t.isLt).1 = (outsAt0 m c t.val t.isLt).2 := by
  rw [outsAt0_C m c t (by omega) h]; frame_out

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf),
    Pipeline.eq_sum_fin_of_reset_step_apply_of_flush (fun n h => (outsAt0 m c n h).2) 8 (fun _ => 0) _
    (fun t h j => by rw [outsAt0_A m c t h (by omega)]; frame_out; rw [hpay, hzero])
    (fun t h j => by
      by_cases h1 : t.val % 8 = 7
      · rw [outsAt0_C m c t h h1]; frame_out; rw [hpay, read_unread_whole]
      · rw [outsAt0_B m c t h h1]; frame_out; rw [hpay, read_unread_whole])
    t ((flush0_2 t).mp hf) _, zero_add]
  refine Fin.sum_mul_add_congr fun s k hl => ?_
  blk_point [iblk, V, idx t, idx ⟨_, Pipeline.run_point_lt_of_flush t ((flush0_2 t).mp hf) s⟩]

theorem final' (c : Dev nD) : Value.G2 m c
    = REF (m ((c : Thread nD τ).loc main_arg0)) (m ((c : Thread nD τ).loc main_arg1)) :=
  (Value.final2 m c).symm.trans (final m c)

open Cert.CmWinRefIdeal Cert.CmWinRefIdeal.Gen in
/-- The reference's product is that sum. -/
theorem ref_eq (X : FVec Ideal Cert.CmWinRefIdeal.S16384x1024 .bf16) (Y : FVec Ideal Cert.CmWinRefIdeal.S16384x2048 .bf16) :
    transpose S1024x2048 [1, 0] (Host.dotGeneral dot_S16384x2048_S16384x1024_S2048x1024_0_0_1_1_n_n none (extf .f32 (Y) bitsLt_bf16_f32) (extf .f32 (X) bitsLt_bf16_f32)) transposes_S2048x1024_S1024x2048_1_0 = REF X Y := by
  funext j
  pointwise
  try exact Finset.sum_congr rfl fun _ _ => mul_comm _ _

theorem algebraic : Cert.algebraic_CmWinIdeal_CmWinRefIdeal :=
  fun m ρ m' ρ' _ hag => ⟨fun c => Value.G2 m c,
    (θ_run _ _ _).mono (fun _ h c => ⟨(h c).1, (h c).2.1, (h c).2.2⟩) (Value.run m ρ),
    (θ_run _ _ _).mono (fun _ h c => ⟨(h c).1.trans (by
      rw [ref_eq, (hag c).1, (hag c).2]; exact (final' m c).symm), (h c).2.1, (h c).2.2⟩) (Cert.CmWinRefIdeal.Value.run m' ρ')⟩

end Cert.CmWinIdeal.Hand

end
-- ==== Proof.SsdWinZ.lean ====
module

public import proofs.«01_k».proof.Proof.Gen.SsdWinZIdeal.Value
public import proofs.«01_k».proof.Proof.Gen.SsdWinZRefIdeal.Run
public import proofs.«01_k».proof.Defs
public import Idealize.ShloMosaic.Lib.Pipeline.ReadBack
public import Idealize.ShloMosaic.Lib.Pipeline.ValueKit

@[expose] public section

set_option maxRecDepth 16384

noncomputable section

namespace Cert.SsdWinZIdeal.Hand

open Cert.SsdWinZIdeal Cert.SsdWinZIdeal.Gen Idealize.ShloMosaic Idealize.ShloMosaic.TcCoe Idealize.SL.Sem
open Idealize.ShloMosaic.Pipeline (Dat)

variable (m : (ℓ : Loc nD τ sig) → Buf (Elt Ideal) ℓ)

/-- The zero fill. -/
theorem hzero (j) : k0_pay1 (F := Ideal) j = 0 := by pointwise [k0_pay1]

/-- One point adds the products of its rows. -/
theorem hpay (acc : FVec Ideal S1024x1024 .f32) (x : FVec Ideal S2048x1024 .bf16) (y : FVec Ideal S2048x1024 .bf16) (j) :
    k0_pay2 acc x y j = acc j + ∑ k : Fin 2048, x (ix2 k (j 0)) * y (ix2 k (j 1)) := by
  pointwise [k0_pay2]

/-- The last point writes the accumulator transposed. -/
theorem htr (v : FVec Ideal S1024x1024 .f32) (j) : k0_pay3 v j = v (ix2 (j 1) (j 0)) := by
  pointwise [k0_pay3]

/-- The windows' index maps. -/
theorem idx : ∀ t : Fin cfg0.N, win0_0.index t = ![t.val % 8, 0] ∧ win0_1.index t = ![t.val % 8, t.val / 8]
    ∧ win0_2.index t = ![t.val / 8, 0] :=
  (by decide +kernel : ∀ t : Fin grid0.N, _)

/-- What the sum over all positions is. -/
abbrev REF (X : FVec Ideal S16384x1024 .bf16) (Y : FVec Ideal S16384x2048 .bf16) : FVec Ideal S2048x1024 .f32 :=
  fun j => ∑ l : Fin 16384, X (ix2 l (j 1)) * Y (ix2 l (j 0))

/-- At the last point of a run the block that is written back is the accumulator. -/
theorem out_eq (c : Dev nD) (t : Fin cfg0.N) (h : t.val % 8 = 7) :
    (outsAt0 m c t.val t.isLt).1 = k0_pay3 (outsAt0 m c t.val t.isLt).2 := by
  rw [outsAt0_C m c t (by omega) h]; frame_out

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf), htr,
    Pipeline.eq_sum_fin_of_reset_step_apply_of_flush (fun n h => (outsAt0 m c n h).2) 8 (fun _ => 0) _
    (fun t h j => by rw [outsAt0_A m c t h (by omega)]; frame_out; rw [hpay, hzero])
    (fun t h j => by
      by_cases h1 : t.val % 8 = 7
      · rw [outsAt0_C m c t h h1]; frame_out; rw [hpay, read_unread_whole]
      · rw [outsAt0_B m c t h h1]; frame_out; rw [hpay, read_unread_whole])
    t ((flush0_2 t).mp hf) _, zero_add]
  refine Fin.sum_mul_add_congr fun s k hl => ?_
  blk_point [iblk, V, idx t, idx ⟨_, Pipeline.run_point_lt_of_flush t ((flush0_2 t).mp hf) s⟩]

theorem final' (c : Dev nD) : Value.G2 m c
    = REF (m ((c : Thread nD τ).loc main_arg0)) (m ((c : Thread nD τ).loc main_arg1)) :=
  (Value.final2 m c).symm.trans (final m c)

open Cert.SsdWinZRefIdeal Cert.SsdWinZRefIdeal.Gen in
/-- The reference's product is that sum. -/
theorem ref_eq (X : FVec Ideal Cert.SsdWinZRefIdeal.S16384x1024 .bf16) (Y : FVec Ideal Cert.SsdWinZRefIdeal.S16384x2048 .bf16) :
    transpose S2048x1024 [1, 0] (transpose S1024x2048 [1, 0] (Host.dotGeneral dot_S16384x2048_S16384x1024_S2048x1024_0_0_1_1_n_n none (extf .f32 (Y) bitsLt_bf16_f32) (extf .f32 (X) bitsLt_bf16_f32)) transposes_S2048x1024_S1024x2048_1_0) transposes_S1024x2048_S2048x1024_1_0 = REF X Y := by
  funext j
  pointwise
  try exact Finset.sum_congr rfl fun _ _ => mul_comm _ _

theorem algebraic : Cert.algebraic_SsdWinZIdeal_SsdWinZRefIdeal :=
  fun m ρ m' ρ' _ hag => ⟨fun c => Value.G2 m c,
    (θ_run _ _ _).mono (fun _ h c => ⟨(h c).1, (h c).2.1, (h c).2.2⟩) (Value.run m ρ),
    (θ_run _ _ _).mono (fun _ h c => ⟨(h c).1.trans (by
      rw [ref_eq, (hag c).1, (hag c).2]; exact (final' m c).symm), (h c).2.1, (h c).2.2⟩) (Cert.SsdWinZRefIdeal.Value.run m' ρ')⟩

end Cert.SsdWinZIdeal.Hand

end
-- ==== Proof.SsdWinX.lean ====
module

public import proofs.«01_k».proof.Proof.Gen.SsdWinXIdeal.Value
public import proofs.«01_k».proof.Proof.Gen.SsdWinXRefIdeal.Run
public import proofs.«01_k».proof.Defs
public import Idealize.ShloMosaic.Lib.Pipeline.ReadBack
public import Idealize.ShloMosaic.Lib.Pipeline.ValueKit

@[expose] public section

set_option maxRecDepth 16384

noncomputable section

namespace Cert.SsdWinXIdeal.Hand

open Cert.SsdWinXIdeal Cert.SsdWinXIdeal.Gen Idealize.ShloMosaic Idealize.ShloMosaic.TcCoe Idealize.SL.Sem
open Idealize.ShloMosaic.Pipeline (Dat)

variable (m : (ℓ : Loc nD τ sig) → Buf (Elt Ideal) ℓ)

/-- The zero fill. -/
theorem hzero (j) : k0_pay1 (F := Ideal) j = 0 := by pointwise [k0_pay1]

/-- One point adds the products of its rows. -/
theorem hpay (acc : FVec Ideal S1024x1024 .f32) (x : FVec Ideal S2048x1024 .bf16) (y : FVec Ideal S2048x1024 .bf16) (j) :
    k0_pay2 acc x y j = acc j + ∑ k : Fin 2048, x (ix2 k (j 0)) * y (ix2 k (j 1)) := by
  pointwise [k0_pay2]

/-- The last point writes the accumulator transposed. -/
theorem htr (v : FVec Ideal S1024x1024 .f32) (j) : k0_pay3 v j = v (ix2 (j 1) (j 0)) := by
  pointwise [k0_pay3]

/-- The windows' index maps. -/
theorem idx : ∀ t : Fin cfg0.N, win0_0.index t = ![t.val % 8, 0] ∧ win0_1.index t = ![t.val % 8, t.val / 8]
    ∧ win0_2.index t = ![t.val / 8, 0] :=
  (by decide +kernel : ∀ t : Fin grid0.N, _)

/-- What the sum over all positions is. -/
abbrev REF (X : FVec Ideal S16384x1024 .bf16) (Y : FVec Ideal S16384x3072 .bf16) : FVec Ideal S3072x1024 .f32 :=
  fun j => ∑ l : Fin 16384, X (ix2 l (j 1)) * Y (ix2 l (j 0))

/-- At the last point of a run the block that is written back is the accumulator. -/
theorem out_eq (c : Dev nD) (t : Fin cfg0.N) (h : t.val % 8 = 7) :
    (outsAt0 m c t.val t.isLt).1 = k0_pay3 (outsAt0 m c t.val t.isLt).2 := by
  rw [outsAt0_C m c t (by omega) h]; frame_out

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf), htr,
    Pipeline.eq_sum_fin_of_reset_step_apply_of_flush (fun n h => (outsAt0 m c n h).2) 8 (fun _ => 0) _
    (fun t h j => by rw [outsAt0_A m c t h (by omega)]; frame_out; rw [hpay, hzero])
    (fun t h j => by
      by_cases h1 : t.val % 8 = 7
      · rw [outsAt0_C m c t h h1]; frame_out; rw [hpay, read_unread_whole]
      · rw [outsAt0_B m c t h h1]; frame_out; rw [hpay, read_unread_whole])
    t ((flush0_2 t).mp hf) _, zero_add]
  refine Fin.sum_mul_add_congr fun s k hl => ?_
  blk_point [iblk, V, idx t, idx ⟨_, Pipeline.run_point_lt_of_flush t ((flush0_2 t).mp hf) s⟩]

theorem final' (c : Dev nD) : Value.G2 m c
    = REF (m ((c : Thread nD τ).loc main_arg0)) (m ((c : Thread nD τ).loc main_arg1)) :=
  (Value.final2 m c).symm.trans (final m c)

open Cert.SsdWinXRefIdeal Cert.SsdWinXRefIdeal.Gen in
/-- The reference's product is that sum. -/
theorem ref_eq (X : FVec Ideal Cert.SsdWinXRefIdeal.S16384x1024 .bf16) (Y : FVec Ideal Cert.SsdWinXRefIdeal.S16384x3072 .bf16) :
    transpose S3072x1024 [1, 0] (transpose S1024x3072 [1, 0] (Host.dotGeneral dot_S16384x3072_S16384x1024_S3072x1024_0_0_1_1_n_n none (extf .f32 (Y) bitsLt_bf16_f32) (extf .f32 (X) bitsLt_bf16_f32)) transposes_S3072x1024_S1024x3072_1_0) transposes_S1024x3072_S3072x1024_1_0 = REF X Y := by
  funext j
  pointwise
  try exact Finset.sum_congr rfl fun _ _ => mul_comm _ _

theorem algebraic : Cert.algebraic_SsdWinXIdeal_SsdWinXRefIdeal :=
  fun m ρ m' ρ' _ hag => ⟨fun c => Value.G2 m c,
    (θ_run _ _ _).mono (fun _ h c => ⟨(h c).1, (h c).2.1, (h c).2.2⟩) (Value.run m ρ),
    (θ_run _ _ _).mono (fun _ h c => ⟨(h c).1.trans (by
      rw [ref_eq, (hag c).1, (hag c).2]; exact (final' m c).symm), (h c).2.1, (h c).2.2⟩) (Cert.SsdWinXRefIdeal.Value.run m' ρ')⟩

end Cert.SsdWinXIdeal.Hand

end
-- ==== Proof.SsdWinT.lean ====
module

public import proofs.«01_k».proof.Proof.Gen.SsdWinTIdeal.Value
public import proofs.«01_k».proof.Proof.Gen.SsdWinTRefIdeal.Run
public import proofs.«01_k».proof.Defs
public import Idealize.ShloMosaic.Lib.Pipeline.ReadBack
public import Idealize.ShloMosaic.Lib.Pipeline.ValueKit

@[expose] public section

set_option maxRecDepth 16384

noncomputable section

namespace Cert.SsdWinTIdeal.Hand

open Cert.SsdWinTIdeal Cert.SsdWinTIdeal.Gen Idealize.ShloMosaic Idealize.ShloMosaic.TcCoe Idealize.SL.Sem
open Idealize.ShloMosaic.Pipeline (Dat)

variable (m : (ℓ : Loc nD τ sig) → Buf (Elt Ideal) ℓ)

/-- The zero fill. -/
theorem hzero (j) : k0_pay1 (F := Ideal) j = 0 := by pointwise [k0_pay1]

/-- One point adds the products of its rows. -/
theorem hpay (acc : FVec Ideal S1024x128 .f32) (x : FVec Ideal S2048x1024 .bf16) (y : FVec Ideal S2048x128 .bf16) (j) :
    k0_pay2 acc x y j = acc j + ∑ k : Fin 2048, x (ix2 k (j 0)) * y (ix2 k (j 1)) := by
  pointwise [k0_pay2]

/-- The last point writes the accumulator transposed. -/
theorem htr (v : FVec Ideal S1024x128 .f32) (j) : k0_pay3 v j = v (ix2 (j 1) (j 0)) := by
  pointwise [k0_pay3]

/-- The windows' index maps. -/
theorem idx : ∀ t : Fin cfg0.N, win0_0.index t = ![t.val % 8, 0] ∧ win0_1.index t = ![t.val % 8, t.val / 8]
    ∧ win0_2.index t = ![t.val / 8, 0] :=
  (by decide +kernel : ∀ t : Fin grid0.N, _)

/-- What the sum over all positions is. -/
abbrev REF (X : FVec Ideal S16384x1024 .bf16) (Y : FVec Ideal S16384x128 .bf16) : FVec Ideal S128x1024 .f32 :=
  fun j => ∑ l : Fin 16384, X (ix2 l (j 1)) * Y (ix2 l (j 0))

/-- At the last point of a run the block that is written back is the accumulator. -/
theorem out_eq (c : Dev nD) (t : Fin cfg0.N) (h : t.val % 8 = 7) :
    (outsAt0 m c t.val t.isLt).1 = k0_pay3 (outsAt0 m c t.val t.isLt).2 := by
  rw [outsAt0_C m c t (by omega) h]; frame_out

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf), htr,
    Pipeline.eq_sum_fin_of_reset_step_apply_of_flush (fun n h => (outsAt0 m c n h).2) 8 (fun _ => 0) _
    (fun t h j => by rw [outsAt0_A m c t h (by omega)]; frame_out; rw [hpay, hzero])
    (fun t h j => by
      by_cases h1 : t.val % 8 = 7
      · rw [outsAt0_C m c t h h1]; frame_out; rw [hpay, read_unread_whole]
      · rw [outsAt0_B m c t h h1]; frame_out; rw [hpay, read_unread_whole])
    t ((flush0_2 t).mp hf) _, zero_add]
  refine Fin.sum_mul_add_congr fun s k hl => ?_
  blk_point [iblk, V, idx t, idx ⟨_, Pipeline.run_point_lt_of_flush t ((flush0_2 t).mp hf) s⟩]

theorem final' (c : Dev nD) : Value.G2 m c
    = REF (m ((c : Thread nD τ).loc main_arg0)) (m ((c : Thread nD τ).loc main_arg1)) :=
  (Value.final2 m c).symm.trans (final m c)

open Cert.SsdWinTRefIdeal Cert.SsdWinTRefIdeal.Gen in
/-- The reference's product is that sum. -/
theorem ref_eq (X : FVec Ideal Cert.SsdWinTRefIdeal.S16384x1024 .bf16) (Y : FVec Ideal Cert.SsdWinTRefIdeal.S16384x128 .bf16) :
    transpose S128x1024 [1, 0] (transpose S1024x128 [1, 0] (Host.dotGeneral dot_S16384x128_S16384x1024_S128x1024_0_0_1_1_n_n none (extf .f32 (Y) bitsLt_bf16_f32) (extf .f32 (X) bitsLt_bf16_f32)) transposes_S128x1024_S1024x128_1_0) transposes_S1024x128_S128x1024_1_0 = REF X Y := by
  funext j
  pointwise
  try exact Finset.sum_congr rfl fun _ _ => mul_comm _ _

theorem algebraic : Cert.algebraic_SsdWinTIdeal_SsdWinTRefIdeal :=
  fun m ρ m' ρ' _ hag => ⟨fun c => Value.G2 m c,
    (θ_run _ _ _).mono (fun _ h c => ⟨(h c).1, (h c).2.1, (h c).2.2⟩) (Value.run m ρ),
    (θ_run _ _ _).mono (fun _ h c => ⟨(h c).1.trans (by
      rw [ref_eq, (hag c).1, (hag c).2]; exact (final' m c).symm), (h c).2.1, (h c).2.2⟩) (Cert.SsdWinTRefIdeal.Value.run m' ρ')⟩

end Cert.SsdWinTIdeal.Hand

end
-- ==== Proof.CmInF.lean ====
module

public import proofs.«01_k».proof.Proof.Gen.CmInFIdeal.Value
public import proofs.«01_k».proof.Proof.Gen.CmInFRefIdeal.Run
public import proofs.«01_k».proof.Proof.Common
public import proofs.«01_k».proof.Defs

@[expose] public section

set_option maxRecDepth 16384

noncomputable section

namespace Cert.CmInFIdeal.Hand

open Cert.CmInFIdeal Cert.CmInFIdeal.Gen Cert.Common Idealize.ShloMosaic Idealize.ShloMosaic.TcCoe Idealize.SL.Sem
open Idealize.ShloMosaic.Pipeline (Dat)

variable (m : (ℓ : Loc nD τ sig) → Buf (Elt Ideal) ℓ)

/-- The windows' index maps. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- The position of a row of a point's block. -/
def pos (t : Fin cfg0.N) (r : Fin 512) : Fin 16384 := ⟨512 * t.val + r.val, by
  have h : t.val < 32 := t.isLt
  omega⟩

section Spec

variable (H : FVec Ideal S16384x1024 .f32) (NW : FVec Ideal S1x1024 .f32) (W : FVec Ideal S1024x6144 .bf16)

/-- The normalized input. -/
def N (l : Fin 16384) (k : Fin 1024) : EReal :=
  H (ix2 l k) * Ideal.rsqrt (ms (fun k : Fin 1024 => H (ix2 l k)) 1024 eps) * NW (ix2 0 k)

/-- The projection of the normalized input. -/
def REF : FVec Ideal S16384x6144 .bf16 := fun j => ∑ k : Fin 1024, N H NW (j 0) k * W (ix2 k (j 1))

end Spec

/-- Argument 0. -/
abbrev A0 (c : Dev nD) : FVec Ideal S16384x1024 .f32 := m ((c : Thread nD τ).loc main_arg0)

/-- Argument 1. -/
abbrev A1 (c : Dev nD) : FVec Ideal S1x1024 .f32 := m ((c : Thread nD τ).loc main_arg1)

/-- Argument 2. -/
abbrev A2 (c : Dev nD) : FVec Ideal S1024x6144 .bf16 := m ((c : Thread nD τ).loc main_arg2)

section Blocks

variable (c : Dev nD) (t : Fin cfg0.N)

theorem bh (r : Fin 512) (k : Fin 1024) : View.ld (iblk m c 0 t) r0_0 (ix2 r k) = A0 m c (ix2 (pos t r) k) := by
  blk_point [iblk, V, idx t, pos]

theorem bn (k : Fin 1024) : View.ld (iblk m c 1 t) r0_1 (ix2 0 k) = A1 m c (ix2 0 k) := by
  blk_point [iblk, V, idx t]

/-- A point's normalized rows. -/
theorem pay_n (r : Fin 512) (k : Fin 1024) :
    k0_pay3 (F := Ideal) (View.ld (iblk m c 0 t) r0_0) (View.ld (iblk m c 1 t) r0_1) (ix2 r k) = N (A0 m c) (A1 m c) (pos t r) k := by
  have h0 := bh m c t r
  have h1 := bn m c t
  generalize View.ld (iblk m c 0 t) r0_0 = x at h0 ⊢
  generalize View.ld (iblk m c 1 t) r0_1 = y at h1 ⊢
  pointwise [k0_pay3]
  simp only [h0, h1, c1024, ceps]
  rfl

/-- The products of a point, as sums. -/
theorem dot (n : FVec Ideal S512x1024 .bf16) (w : FVec Ideal S1024x1024 .bf16) (r : Fin 512) (d : Fin 1024) :
    k0_pay2 (F := Ideal) n w (ix2 r d) = ∑ k : Fin 1024, n (ix2 r k) * w (ix2 k d) := by
  pointwise [k0_pay2]

/-- A block of columns of a point's output. -/
theorem chunk (o : ℕ) (ho : o + 1024 ≤ 6144) (hi : ∀ a, (![0, o] : Fin 2 → ℕ) a + S1024x1024.size a ≤ S1024x6144.size a)
    (hj : ∀ a, (![0, o] : Fin 2 → ℕ) a + S512x1024.size a ≤ S512x6144.size a) (x : S512x1024.Idx) :
    k0_pay2 (F := Ideal) (k0_pay3 (View.ld (iblk m c 0 t) r0_0) (View.ld (iblk m c 1 t) r0_1))
      (View.ld (iblk m c 2 t) (Rect.unit (s := S1024x6144) ![0, o] S1024x1024.size hi)) x
    = (fun y : S512x6144.Idx => REF (A0 m c) (A1 m c) (A2 m c) (ix2 (pos t (y 0)) (y 1)))
        ((Rect.unit (s := S512x6144) ![0, o] S512x1024.size hj).emb x) := by
  obtain ⟨r, d, rfl⟩ : ∃ r d, x = ix2 r d := ⟨x 0, x 1, by funext i; fin_cases i <;> rfl⟩
  rw [show (Rect.unit (s := S512x6144) ![0, o] S512x1024.size hj).emb (ix2 r d)
      = ix2 r ⟨o + d.val, by have := d.isLt; omega⟩ by
    funext a; fin_cases a <;> exact Fin.ext (by simp [Rect.emb, Rect.unit, ix2])]
  rw [dot]
  unfold REF
  refine Finset.sum_congr rfl fun k _ => ?_
  rw [pay_n]
  have hw : View.ld (iblk m c 2 t) (Rect.unit (s := S1024x6144) ![0, o] S1024x1024.size hi) (ix2 k d)
      = A2 m c (ix2 k ⟨o + d.val, by have := d.isLt; omega⟩) := by
    blk_point [iblk, V, idx t]
  rw [hw]
  rfl

theorem out_eq (y : S512x6144.Idx) : out0_3 (F := Ideal) (iblk m c 0 t) (iblk m c 1 t) (iblk m c 2 t) y
    = REF (A0 m c) (A1 m c) (A2 m c) (ix2 (pos t (y 0)) (y 1)) := by
  refine View.canon_apply_of_pieces (Val := Elt Ideal) (e := .bf16) (fun y : S512x6144.Idx => REF (A0 m c) (A1 m c) (A2 m c) (ix2 (pos t (y 0)) (y 1))) _ ?_ y
    (cover0_3 _ _ _ _ _ _ y)
  intro p hp x
  simp only [List.mem_cons, List.not_mem_nil, or_false] at hp
  obtain rfl | rfl | rfl | rfl | rfl | rfl := hp
  · exact chunk m c t 5120 (by norm_num) inb_S1024x6144_S1024x1024_0_5120 inb_S512x6144_S512x1024_0_5120 x
  · exact chunk m c t 4096 (by norm_num) inb_S1024x6144_S1024x1024_0_4096 inb_S512x6144_S512x1024_0_4096 x
  · exact chunk m c t 3072 (by norm_num) inb_S1024x6144_S1024x1024_0_3072 inb_S512x6144_S512x1024_0_3072 x
  · exact chunk m c t 2048 (by norm_num) inb_S1024x6144_S1024x1024_0_2048 inb_S512x6144_S512x1024_0_2048 x
  · exact chunk m c t 1024 (by norm_num) inb_S1024x6144_S1024x1024_0_1024 inb_S512x6144_S512x1024_0_1024 x
  · exact chunk m c t 0 (by norm_num) inb_S1024x6144_S1024x1024_0_0 inb_S512x6144_S512x1024_0_0 x

theorem emb (y : ((cfg0.win 3).xblock (cfg0.grid.coords t)).Idx) : (win0_3.blk t).view.emb y = ix2 (pos t (y 0)) (y 1) := by
  have h0 : win0_3.index t 0 = t.val := (congrFun (idx t).2.2.2 0).trans rfl
  have h1 : win0_3.index t 1 = 0 := (congrFun (idx t).2.2.2 1).trans rfl
  funext a
  apply Fin.ext
  match a with
  | ⟨0, _⟩ => show win0_3.index t 0 * 512 + 1 * (y 0).val = 512 * t.val + (y 0).val; rw [h0]; omega
  | ⟨1, _⟩ => show win0_3.index t 1 * 6144 + 1 * (y 1).val = (y 1).val; rw [h1]; omega

end Blocks

theorem final (c : Dev nD) : (dats m 0 c).arrAt 3 (cfgs 0).N = REF (A0 m c) (A1 m c) (A2 m c) := by
  refine (dats m 0 c).arrAt_eq_of_covers 3 _ (by decide +kernel) fun t hf y => ?_
  blk_simp
  rw [after0_3, out_eq]
  exact congrArg _ (emb t y).symm

section Reference

variable (m' : (ℓ : Loc Cert.CmInFRefIdeal.nD Cert.CmInFRefIdeal.τ Cert.CmInFRefIdeal.sig) → Buf (Elt Ideal) ℓ) (c : Dev Cert.CmInFRefIdeal.nD)

abbrev B0 : FVec Ideal Cert.CmInFIdeal.S16384x1024 .f32 := m' ((c.tc : Thread Cert.CmInFRefIdeal.nD Cert.CmInFRefIdeal.τ).loc Cert.CmInFRefIdeal.main_arg0)
abbrev B1 : FVec Ideal Cert.CmInFIdeal.S1x1024 .f32 := m' ((c.tc : Thread Cert.CmInFRefIdeal.nD Cert.CmInFRefIdeal.τ).loc Cert.CmInFRefIdeal.main_arg1)
abbrev B2 : FVec Ideal Cert.CmInFIdeal.S1024x6144 .bf16 := m' ((c.tc : Thread Cert.CmInFRefIdeal.nD Cert.CmInFRefIdeal.τ).loc Cert.CmInFRefIdeal.main_arg2)

end Reference

theorem algebraic : Cert.algebraic_CmInFIdeal_CmInFRefIdeal :=
  fun m ρ m' ρ' _ hag => ⟨fun c => REF (A0 m c) (A1 m c) (A2 m c),
    (θ_run _ _ _).mono (fun _ h c => ⟨(h c).1.trans (final m c), (h c).2⟩) (Value.run_blocks m ρ),
    (θ_run _ _ _).mono (fun _ h c => by
      obtain ⟨h0, hk⟩ := h c
      obtain ⟨a0, a1, a2⟩ := hag c
      refine ⟨h0.trans ?_, hk⟩
      refine Eq.trans (b := REF (B0 m' c) (B1 m' c) (B2 m' c)) ?_ ?_
      · funext j
        obtain ⟨l, d, rfl⟩ : ∃ l d, j = ix2 l d := ⟨j 0, j 1, by funext i; fin_cases i <;> rfl⟩
        pointwise
        simp only [c1024, ceps]
        rfl
      · rw [B0, B1, B2, a0, a1, a2]) (Cert.CmInFRefIdeal.Value.run m' ρ')⟩

end Cert.CmInFIdeal.Hand

end
-- ==== Proof.SsdInF.lean ====
module

public import proofs.«01_k».proof.Proof.Gen.SsdInFIdeal.Value
public import proofs.«01_k».proof.Proof.Gen.SsdInFRefIdeal.Run
public import proofs.«01_k».proof.Proof.Common
public import proofs.«01_k».proof.Defs

@[expose] public section

set_option maxRecDepth 16384

noncomputable section

namespace Cert.SsdInFIdeal.Hand

open Cert.SsdInFIdeal Cert.SsdInFIdeal.Gen Cert.Common Idealize.ShloMosaic Idealize.ShloMosaic.TcCoe Idealize.SL.Sem
open Idealize.ShloMosaic.Pipeline (Dat)

variable (m : (ℓ : Loc nD τ sig) → Buf (Elt Ideal) ℓ)

/-- The windows' index maps. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The position of a row of a point's block. -/
def pos (t : Fin cfg0.N) (r : Fin 512) : Fin 16384 := ⟨512 * t.val + r.val, by
  have h : t.val < 32 := t.isLt
  omega⟩

section Spec

variable (H : FVec Ideal S16384x1024 .f32) (NW : FVec Ideal S1x1024 .f32) (W : FVec Ideal S5248x1024 .bf16)

/-- The normalized input. -/
def N (l : Fin 16384) (k : Fin 1024) : EReal :=
  H (ix2 l k) * Ideal.rsqrt (ms (fun k : Fin 1024 => H (ix2 l k)) 1024 eps) * NW (ix2 0 k)

/-- The projection of the normalized input. -/
def REF : FVec Ideal S16384x5248 .bf16 := fun j => ∑ k : Fin 1024, N H NW (j 0) k * W (ix2 (j 1) k)

/-- The last columns of the projection, by themselves. -/
def TAIL : FVec Ideal S16384x128 .f32 := fun j => REF H NW W (ix2 (j 0) ⟨5120 + (j 1).val, Nat.add_lt_add_left (j 1).isLt 5120⟩)

end Spec

/-- Argument 0. -/
abbrev A0 (c : Dev nD) : FVec Ideal S16384x1024 .f32 := m ((c : Thread nD τ).loc main_arg0)

/-- Argument 1. -/
abbrev A1 (c : Dev nD) : FVec Ideal S1x1024 .f32 := m ((c : Thread nD τ).loc main_arg1)

/-- Argument 2. -/
abbrev A2 (c : Dev nD) : FVec Ideal S5248x1024 .bf16 := m ((c : Thread nD τ).loc main_arg2)

section Blocks

variable (c : Dev nD) (t : Fin cfg0.N)

theorem bh (r : Fin 512) (k : Fin 1024) : iblk m c 0 t (ix2 r k) = A0 m c (ix2 (pos t r) k) := by
  blk_point [iblk, V, idx t, pos]

theorem bn (k : Fin 1024) : iblk m c 1 t (ix2 0 k) = A1 m c (ix2 0 k) := by
  blk_point [iblk, V, idx t]

/-- A point's normalized rows. -/
theorem pay_n (r : Fin 512) (k : Fin 1024) :
    k0_pay4 (F := Ideal) (iblk m c 0 t) (iblk m c 1 t) (ix2 r k) = N (A0 m c) (A1 m c) (pos t r) k := by
  have h0 := bh m c t r
  have h1 := bn m c t
  generalize iblk m c 0 t = x at h0 ⊢
  generalize iblk m c 1 t = y at h1 ⊢
  pointwise [k0_pay4]
  simp only [h0, h1, c1024, ceps]
  rfl

/-- The products of a point, as sums. -/
theorem dot (n : FVec Ideal S512x1024 .bf16) (w : FVec Ideal S1024x1024 .bf16) (r : Fin 512) (d : Fin 1024) :
    k0_pay1 (F := Ideal) n w (ix2 r d) = ∑ k : Fin 1024, n (ix2 r k) * w (ix2 d k) := by
  pointwise [k0_pay1]

theorem dot' (n : FVec Ideal S512x1024 .bf16) (w : FVec Ideal S128x1024 .bf16) (r : Fin 512) (d : Fin 128) :
    k0_pay2 (F := Ideal) n w (ix2 r d) = ∑ k : Fin 1024, n (ix2 r k) * w (ix2 d k) := by
  pointwise [k0_pay2]

/-- A block of columns of a point's output. -/
theorem chunk (o : ℕ) (ho : o + 1024 ≤ 5248) (hi : ∀ a, (![o, 0] : Fin 2 → ℕ) a + S1024x1024.size a ≤ S5248x1024.size a)
    (hj : ∀ a, (![0, o] : Fin 2 → ℕ) a + S512x1024.size a ≤ S512x5248.size a) (x : S512x1024.Idx) :
    k0_pay1 (F := Ideal) (k0_pay4 (iblk m c 0 t) (iblk m c 1 t))
      (View.ld (iblk m c 2 t) (Rect.unit (s := S5248x1024) ![o, 0] S1024x1024.size hi)) x
    = (fun y : S512x5248.Idx => REF (A0 m c) (A1 m c) (A2 m c) (ix2 (pos t (y 0)) (y 1)))
        ((Rect.unit (s := S512x5248) ![0, o] S512x1024.size hj).emb x) := by
  obtain ⟨r, d, rfl⟩ : ∃ r d, x = ix2 r d := ⟨x 0, x 1, by funext i; fin_cases i <;> rfl⟩
  rw [show (Rect.unit (s := S512x5248) ![0, o] S512x1024.size hj).emb (ix2 r d)
      = ix2 r ⟨o + d.val, by have := d.isLt; omega⟩ by
    funext a; fin_cases a <;> exact Fin.ext (by simp [Rect.emb, Rect.unit, ix2])]
  rw [dot]
  unfold REF
  refine Finset.sum_congr rfl fun k _ => ?_
  rw [pay_n]
  have hw : View.ld (iblk m c 2 t) (Rect.unit (s := S5248x1024) ![o, 0] S1024x1024.size hi) (ix2 d k)
      = A2 m c (ix2 ⟨o + d.val, by have := d.isLt; omega⟩ k) := by
    blk_point [iblk, V, idx t]
  rw [hw]
  rfl

/-- The last columns of a point's output. -/
theorem last (r : Fin 512) (d : Fin 128) :
    k0_pay2 (F := Ideal) (k0_pay4 (iblk m c 0 t) (iblk m c 1 t))
      (View.ld (iblk m c 2 t) (Rect.unit (s := S5248x1024) ![5120, 0] S128x1024.size inb_S5248x1024_S128x1024_5120_0)) (ix2 r d)
    = REF (A0 m c) (A1 m c) (A2 m c) (ix2 (pos t r) ⟨5120 + d.val, Nat.add_lt_add_left d.isLt 5120⟩) := by
  rw [dot']
  unfold REF
  refine Finset.sum_congr rfl fun k _ => ?_
  rw [pay_n]
  have hw : View.ld (iblk m c 2 t) (Rect.unit (s := S5248x1024) ![5120, 0] S128x1024.size inb_S5248x1024_S128x1024_5120_0) (ix2 d k)
      = A2 m c (ix2 ⟨5120 + d.val, Nat.add_lt_add_left d.isLt 5120⟩ k) := by
    blk_point [iblk, V, idx t]
  rw [hw]
  rfl

set_option maxHeartbeats 1000000 in
theorem out_eq (y : S512x5248.Idx) : (outsAt0 (F := Ideal) m c t).1 y
    = REF (A0 m c) (A1 m c) (A2 m c) (ix2 (pos t (y 0)) (y 1)) := by
  unfold outsAt0
  frame_out
  refine View.canon_apply_of_pieces (Val := Elt Ideal) (e := .bf16) (fun y : S512x5248.Idx => REF (A0 m c) (A1 m c) (A2 m c) (ix2 (pos t (y 0)) (y 1))) _ ?_ y
    (View.cover_of_tiledBy (s := S512x5248) _ ![512, 128] (by sl_kernel_rfl) y)
  intro p hp x
  simp only [List.mem_cons, List.not_mem_nil, or_false] at hp
  obtain rfl | rfl | rfl | rfl | rfl | rfl := hp
  · obtain ⟨r, d, rfl⟩ : ∃ r d, x = ix2 (n0 := 512) (n1 := 128) r d := ⟨x 0, x 1, by funext i; fin_cases i <;> rfl⟩
    rw [show (Rect.unit (s := S512x5248) ![0, 5120] S512x128.size inb_S512x5248_S512x128_0_5120).emb (ix2 r d)
        = ix2 r ⟨5120 + d.val, Nat.add_lt_add_left d.isLt 5120⟩ by
      funext a; fin_cases a <;> exact Fin.ext (by simp [Rect.emb, Rect.unit, ix2])]
    refine Eq.trans ?_ (last m c t r d)
    pointwise [k0_pay3]
    rfl
  · exact chunk m c t 4096 (by norm_num) inb_S5248x1024_S1024x1024_4096_0 inb_S512x5248_S512x1024_0_4096 x
  · exact chunk m c t 3072 (by norm_num) inb_S5248x1024_S1024x1024_3072_0 inb_S512x5248_S512x1024_0_3072 x
  · exact chunk m c t 2048 (by norm_num) inb_S5248x1024_S1024x1024_2048_0 inb_S512x5248_S512x1024_0_2048 x
  · exact chunk m c t 1024 (by norm_num) inb_S5248x1024_S1024x1024_1024_0 inb_S512x5248_S512x1024_0_1024 x
  · exact chunk m c t 0 (by norm_num) inb_S5248x1024_S1024x1024_0_0 inb_S512x5248_S512x1024_0_0 x

set_option maxHeartbeats 1000000 in
theorem out4_eq (y : S512x128.Idx) : (outsAt0 (F := Ideal) m c t).2 y
    = TAIL (A0 m c) (A1 m c) (A2 m c) (ix2 (pos t (y 0)) (y 1)) := by
  obtain ⟨r, d, rfl⟩ : ∃ r d, y = ix2 r d := ⟨y 0, y 1, by funext i; fin_cases i <;> rfl⟩
  unfold outsAt0
  frame_out
  exact last m c t r d

theorem emb (y : ((cfg0.win 3).xblock (cfg0.grid.coords t)).Idx) : (win0_3.blk t).view.emb y = ix2 (pos t (y 0)) (y 1) := by
  have h0 : win0_3.index t 0 = t.val := (congrFun (idx t).2.2.2.1 0).trans rfl
  have h1 : win0_3.index t 1 = 0 := (congrFun (idx t).2.2.2.1 1).trans rfl
  funext a
  apply Fin.ext
  match a with
  | ⟨0, _⟩ => show win0_3.index t 0 * 512 + 1 * (y 0).val = 512 * t.val + (y 0).val; rw [h0]; omega
  | ⟨1, _⟩ => show win0_3.index t 1 * 5248 + 1 * (y 1).val = (y 1).val; rw [h1]; omega

theorem emb4 (y : ((cfg0.win 4).xblock (cfg0.grid.coords t)).Idx) : (win0_4.blk t).view.emb y = ix2 (pos t (y 0)) (y 1) := by
  have h0 : win0_4.index t 0 = t.val := (congrFun (idx t).2.2.2.2 0).trans rfl
  have h1 : win0_4.index t 1 = 0 := (congrFun (idx t).2.2.2.2 1).trans rfl
  funext a
  apply Fin.ext
  match a with
  | ⟨0, _⟩ => show win0_4.index t 0 * 512 + 1 * (y 0).val = 512 * t.val + (y 0).val; rw [h0]; omega
  | ⟨1, _⟩ => show win0_4.index t 1 * 128 + 1 * (y 1).val = (y 1).val; rw [h1]; omega

end Blocks

theorem final (c : Dev nD) : (dats m 0 c).arrAt 3 (cfgs 0).N = REF (A0 m c) (A1 m c) (A2 m c) := by
  refine (dats m 0 c).arrAt_eq_of_covers 3 _ (by decide +kernel) fun t hf y => ?_
  blk_simp
  rw [after0_3, out_eq]
  exact congrArg _ (emb t y).symm

theorem final4 (c : Dev nD) : (dats m 0 c).arrAt 4 (cfgs 0).N = TAIL (A0 m c) (A1 m c) (A2 m c) := by
  refine (dats m 0 c).arrAt_eq_of_covers 4 _ (by decide +kernel) fun t hf y => ?_
  blk_simp
  rw [after0_4, out4_eq]
  exact congrArg _ (emb4 t y).symm

section Reference

variable (m' : (ℓ : Loc Cert.SsdInFRefIdeal.nD Cert.SsdInFRefIdeal.τ Cert.SsdInFRefIdeal.sig) → Buf (Elt Ideal) ℓ) (c : Dev Cert.SsdInFRefIdeal.nD)

abbrev B0 : FVec Ideal Cert.SsdInFIdeal.S16384x1024 .f32 := m' ((c.tc : Thread Cert.SsdInFRefIdeal.nD Cert.SsdInFRefIdeal.τ).loc Cert.SsdInFRefIdeal.main_arg0)
abbrev B1 : FVec Ideal Cert.SsdInFIdeal.S1x1024 .f32 := m' ((c.tc : Thread Cert.SsdInFRefIdeal.nD Cert.SsdInFRefIdeal.τ).loc Cert.SsdInFRefIdeal.main_arg1)
abbrev B2 : FVec Ideal Cert.SsdInFIdeal.S5248x1024 .bf16 := m' ((c.tc : Thread Cert.SsdInFRefIdeal.nD Cert.SsdInFRefIdeal.τ).loc Cert.SsdInFRefIdeal.main_arg2)

end Reference

theorem algebraic : Cert.algebraic_SsdInFIdeal_SsdInFRefIdeal :=
  fun m ρ m' ρ' _ hag => ⟨fun c => REF (A0 m c) (A1 m c) (A2 m c), fun c => TAIL (A0 m c) (A1 m c) (A2 m c),
    (θ_run _ _ _).mono (fun _ h c => ⟨(h c).1.trans (final m c), (h c).2.1.trans (final4 m c), (h c).2.2⟩) (Value.run_blocks m ρ),
    (θ_run _ _ _).mono (fun _ h c => by
      obtain ⟨h0, h1, hk⟩ := h c
      obtain ⟨a0, a1, a2⟩ := hag c
      refine ⟨h0.trans ?_, h1.trans ?_, hk⟩
      · refine Eq.trans (b := REF (B0 m' c) (B1 m' c) (B2 m' c)) ?_ ?_
        · funext j
          obtain ⟨l, d, rfl⟩ : ∃ l d, j = ix2 l d := ⟨j 0, j 1, by funext i; fin_cases i <;> rfl⟩
          pointwise
          simp only [c1024, ceps]
          rfl
        · rw [B0, B1, B2, a0, a1, a2]
      · refine Eq.trans (b := TAIL (B0 m' c) (B1 m' c) (B2 m' c)) ?_ ?_
        · funext j
          obtain ⟨l, d, rfl⟩ : ∃ l d, j = ix2 l d := ⟨j 0, j 1, by funext i; fin_cases i <;> rfl⟩
          pointwise
          simp only [c1024, ceps]
          rfl
        · rw [B0, B1, B2, a0, a1, a2]) (Cert.SsdInFRefIdeal.Value.run m' ρ')⟩

end Cert.SsdInFIdeal.Hand

end
-- ==== Proof.ConfOutF.lean ====
module

public import proofs.«01_k».proof.Proof.Gen.ConfOutFIdeal.Value
public import proofs.«01_k».proof.Proof.Gen.ConfOutFRefIdeal.Run
public import proofs.«01_k».proof.Proof.Common
public import proofs.«01_k».proof.Defs

@[expose] public section

set_option maxRecDepth 16384

noncomputable section

namespace Cert.ConfOutFIdeal.Hand

open Cert.ConfOutFIdeal Cert.ConfOutFIdeal.Gen Cert.Common Idealize.ShloMosaic Idealize.ShloMosaic.TcCoe Idealize.SL.Sem
open Idealize.ShloMosaic.Pipeline (Dat)

variable (m : (ℓ : Loc nD τ sig) → Buf (Elt Ideal) ℓ)

/-- The windows' index maps. -/
theorem idx : ∀ t : Fin cfg0.N, win0_0.index t = ![t.val, 0] ∧ win0_1.index t = ![t.val, 2] ∧ win0_2.index t = ![t.val, 0]
    ∧ win0_3.index t = ![0, 0] ∧ win0_4.index t = ![0, 0] ∧ win0_5.index t = ![0, 0] ∧ win0_6.index t = ![t.val, 0] :=
  (by decide +kernel : ∀ t : Fin grid0.N, _)

/-- The position of a row of a point's block. -/
def pos (t : Fin cfg0.N) (r : Fin 256) : Fin 16384 := ⟨256 * t.val + r.val, by
  have h : t.val < 64 := t.isLt
  omega⟩

section Spec

/-- The swish of a value. -/
def SL (x : EReal) : EReal := x * Ideal.div 1 (1 + Ideal.exp (-x))

variable (U : FVec Ideal S16384x2048 .bf16) (P : FVec Ideal S16384x6144 .bf16) (H : FVec Ideal S16384x1024 .f32)
    (LW LB : FVec Ideal S1x2048 .f32) (W : FVec Ideal S2048x1024 .bf16)

/-- The input about its mean. -/
def CX (l : Fin 16384) (k : Fin 2048) : EReal := U (ix2 l k) - Ideal.div (∑ k : Fin 2048, U (ix2 l k)) ((2048 : ℝ) : EReal)

/-- The normalized input, scaled and shifted. -/
def UL (l : Fin 16384) (k : Fin 2048) : EReal :=
  CX U l k * Ideal.rsqrt (Ideal.div (∑ k : Fin 2048, CX U l k * CX U l k) ((2048 : ℝ) : EReal) + (eps : EReal)) * LW (ix2 0 k) + LB (ix2 0 k)

/-- The gated input through the output weight, on the residual. -/
def REF : FVec Ideal S16384x1024 .f32 := fun j =>
  H (ix2 (j 0) (j 1)) + ∑ k : Fin 2048, SL (UL U LW LB (j 0) k) * SL (P (ix2 (j 0) ⟨4096 + k.val, Nat.add_lt_add_left k.isLt 4096⟩)) * W (ix2 k (j 1))

end Spec

/-- Argument 0. -/
abbrev A0 (c : Dev nD) : FVec Ideal S16384x2048 .bf16 := m ((c : Thread nD τ).loc main_arg0)

/-- Argument 1. -/
abbrev A1 (c : Dev nD) : FVec Ideal S16384x6144 .bf16 := m ((c : Thread nD τ).loc main_arg1)

/-- Argument 2. -/
abbrev A2 (c : Dev nD) : FVec Ideal S16384x1024 .f32 := m ((c : Thread nD τ).loc main_arg2)

/-- Argument 3. -/
abbrev A3 (c : Dev nD) : FVec Ideal S1x2048 .f32 := m ((c : Thread nD τ).loc main_arg3)

/-- Argument 4. -/
abbrev A4 (c : Dev nD) : FVec Ideal S1x2048 .f32 := m ((c : Thread nD τ).loc main_arg4)

/-- Argument 5. -/
abbrev A5 (c : Dev nD) : FVec Ideal S2048x1024 .bf16 := m ((c : Thread nD τ).loc main_arg5)

section Pay

variable {u z : FVec Ideal S256x2048 .bf16} {lw lb : FVec Ideal S1x2048 .f32} {w : FVec Ideal S2048x1024 .bf16} {h : FVec Ideal S256x1024 .f32}
  {U : FVec Ideal S16384x2048 .bf16} {P : FVec Ideal S16384x6144 .bf16} {H : FVec Ideal S16384x1024 .f32}
  {LW LB : FVec Ideal S1x2048 .f32} {W : FVec Ideal S2048x1024 .bf16} {q : Fin 256 → Fin 16384}
  (hu : ∀ r k, u (ix2 r k) = U (ix2 (q r) k)) (hlw : ∀ k, lw (ix2 0 k) = LW (ix2 0 k)) (hlb : ∀ k, lb (ix2 0 k) = LB (ix2 0 k))

include hu hlw hlb in
theorem pay2 (r : Fin 256) (k : Fin 2048) : k0_pay2 (F := Ideal) u lw lb (ix2 r k) = SL (UL U LW LB (q r) k) := by
  pointwise [k0_pay2]
  simp only [hu, hlw, hlb, c2048, ceps, sub_eq_add_neg (0 : EReal), zero_add]
  rfl

theorem pay_z (r : Fin 256) (k : Fin 2048) :
    k0_pay3 (F := Ideal) z (ix2 r k) * Ideal.div (k0_pay5 (F := Ideal) (ix2 r k)) (k0_pay4 (F := Ideal) z (ix2 r k)) = SL (z (ix2 r k)) := by
  pointwise [k0_pay3, k0_pay4, k0_pay5]
  simp only [sub_eq_add_neg (0 : EReal), zero_add]
  rfl

theorem pay1 (a : FVec Ideal S256x2048 .f32) (r : Fin 256) (d : Fin 1024) :
    k0_pay1 (F := Ideal) a (k0_pay3 z) (k0_pay4 z) k0_pay5 h w (ix2 r d)
    = h (ix2 r d) + ∑ k : Fin 2048, a (ix2 r k) * (k0_pay3 (F := Ideal) z (ix2 r k)
        * Ideal.div (k0_pay5 (F := Ideal) (ix2 r k)) (k0_pay4 (F := Ideal) z (ix2 r k))) * w (ix2 k d) := by
  pointwise [k0_pay1]

include hu hlw hlb in
theorem pay (hz : ∀ (r : Fin 256) (k : Fin 2048), z (ix2 r k) = P (ix2 (q r) ⟨4096 + k.val, Nat.add_lt_add_left k.isLt 4096⟩))
    (hh : ∀ r k, h (ix2 r k) = H (ix2 (q r) k)) (hw : ∀ k d, w (ix2 k d) = W (ix2 k d)) (r : Fin 256) (d : Fin 1024) :
    k0_pay1 (F := Ideal) (k0_pay2 u lw lb) (k0_pay3 z) (k0_pay4 z) k0_pay5 h w (ix2 r d) = REF U P H LW LB W (ix2 (q r) d) := by
  rw [pay1]
  simp only [pay_z, pay2 hu hlw hlb, hz, hh, hw]
  rfl

end Pay

section Blocks

variable (c : Dev nD) (t : Fin cfg0.N)

theorem b0 (r : Fin 256) (k : Fin 2048) : View.ld (iblk m c 0 t) r0_0 (ix2 r k) = A0 m c (ix2 (pos t r) k) := by
  blk_point [iblk, V, idx t, pos]

theorem b1 (r : Fin 256) (k : Fin 2048) : View.ld (iblk m c 1 t) r0_0 (ix2 r k)
    = A1 m c (ix2 (pos t r) ⟨4096 + k.val, Nat.add_lt_add_left k.isLt 4096⟩) := by
  blk_point [iblk, V, idx t, pos]

theorem b2 (r : Fin 256) (k : Fin 1024) : View.ld (iblk m c 2 t) r0_2 (ix2 r k) = A2 m c (ix2 (pos t r) k) := by
  blk_point [iblk, V, idx t, pos]

theorem b3 (k : Fin 2048) : View.ld (iblk m c 3 t) r0_1 (ix2 0 k) = A3 m c (ix2 0 k) := by
  blk_point [iblk, V, idx t]

theorem b4 (k : Fin 2048) : View.ld (iblk m c 4 t) r0_1 (ix2 0 k) = A4 m c (ix2 0 k) := by
  blk_point [iblk, V, idx t]

theorem b5 (k : Fin 2048) (d : Fin 1024) : View.ld (iblk m c 5 t) r0_3 (ix2 k d) = A5 m c (ix2 k d) := by
  blk_point [iblk, V, idx t]

theorem out_eq (y : S256x1024.Idx) : out0_6 (F := Ideal) (iblk m c 0 t) (iblk m c 1 t) (iblk m c 2 t) (iblk m c 3 t) (iblk m c 4 t) (iblk m c 5 t) y
    = REF (A0 m c) (A1 m c) (A2 m c) (A3 m c) (A4 m c) (A5 m c) (ix2 (pos t (y 0)) (y 1)) := by
  obtain ⟨r, d, rfl⟩ : ∃ r d, y = ix2 r d := ⟨y 0, y 1, by funext i; fin_cases i <;> rfl⟩
  unfold out0_6
  rw [View.canon_unit_zero (by funext a; fin_cases a <;> rfl)]
  exact pay (q := pos t) (b0 m c t) (b3 m c t) (b4 m c t) (b1 m c t) (b2 m c t) (b5 m c t) r d

theorem emb (y : ((cfg0.win 6).xblock (cfg0.grid.coords t)).Idx) : (win0_6.blk t).view.emb y = ix2 (pos t (y 0)) (y 1) := by
  have h0 : win0_6.index t 0 = t.val := (congrFun (idx t).2.2.2.2.2.2 0).trans rfl
  have h1 : win0_6.index t 1 = 0 := (congrFun (idx t).2.2.2.2.2.2 1).trans rfl
  funext a
  apply Fin.ext
  match a with
  | ⟨0, _⟩ => show win0_6.index t 0 * 256 + 1 * (y 0).val = 256 * t.val + (y 0).val; rw [h0]; omega
  | ⟨1, _⟩ => show win0_6.index t 1 * 1024 + 1 * (y 1).val = (y 1).val; rw [h1]; omega

end Blocks

theorem final (c : Dev nD) : (dats m 0 c).arrAt 6 (cfgs 0).N = REF (A0 m c) (A1 m c) (A2 m c) (A3 m c) (A4 m c) (A5 m c) := by
  refine (dats m 0 c).arrAt_eq_of_covers 6 _ (by decide +kernel) fun t hf y => ?_
  blk_simp
  rw [after0_6, out_eq]
  exact congrArg _ (emb t y).symm

section Reference

variable (m' : (ℓ : Loc Cert.ConfOutFRefIdeal.nD Cert.ConfOutFRefIdeal.τ Cert.ConfOutFRefIdeal.sig) → Buf (Elt Ideal) ℓ) (c : Dev Cert.ConfOutFRefIdeal.nD)

abbrev B0 : FVec Ideal Cert.ConfOutFIdeal.S16384x2048 .bf16 := m' ((c.tc : Thread Cert.ConfOutFRefIdeal.nD Cert.ConfOutFRefIdeal.τ).loc Cert.ConfOutFRefIdeal.main_arg0)
abbrev B1 : FVec Ideal Cert.ConfOutFIdeal.S16384x6144 .bf16 := m' ((c.tc : Thread Cert.ConfOutFRefIdeal.nD Cert.ConfOutFRefIdeal.τ).loc Cert.ConfOutFRefIdeal.main_arg1)
abbrev B2 : FVec Ideal Cert.ConfOutFIdeal.S16384x1024 .f32 := m' ((c.tc : Thread Cert.ConfOutFRefIdeal.nD Cert.ConfOutFRefIdeal.τ).loc Cert.ConfOutFRefIdeal.main_arg2)
abbrev B3 : FVec Ideal Cert.ConfOutFIdeal.S1x2048 .f32 := m' ((c.tc : Thread Cert.ConfOutFRefIdeal.nD Cert.ConfOutFRefIdeal.τ).loc Cert.ConfOutFRefIdeal.main_arg3)
abbrev B4 : FVec Ideal Cert.ConfOutFIdeal.S1x2048 .f32 := m' ((c.tc : Thread Cert.ConfOutFRefIdeal.nD Cert.ConfOutFRefIdeal.τ).loc Cert.ConfOutFRefIdeal.main_arg4)
abbrev B5 : FVec Ideal Cert.ConfOutFIdeal.S2048x1024 .bf16 := m' ((c.tc : Thread Cert.ConfOutFRefIdeal.nD Cert.ConfOutFRefIdeal.τ).loc Cert.ConfOutFRefIdeal.main_arg5)

theorem ref : Cert.ConfOutFRefIdeal.Value.res_main_v28 m' c = REF (B0 m' c) (B1 m' c) (B2 m' c) (B3 m' c) (B4 m' c) (B5 m' c) := by
  funext j
  obtain ⟨l, d, rfl⟩ : ∃ l d, j = ix2 l d := ⟨j 0, j 1, by funext i; fin_cases i <;> rfl⟩
  unfold Cert.ConfOutFRefIdeal.Value.res_main_v28
  pointwise
  simp only [c2048, ceps]
  rfl

end Reference

theorem algebraic : Cert.algebraic_ConfOutFIdeal_ConfOutFRefIdeal :=
  fun m ρ m' ρ' _ hag => ⟨fun c => REF (A0 m c) (A1 m c) (A2 m c) (A3 m c) (A4 m c) (A5 m c),
    (θ_run _ _ _).mono (fun _ h c => ⟨(h c).1.trans (final m c), (h c).2⟩) (Value.run_blocks m ρ),
    (θ_run _ _ _).mono (fun _ h c => by
      obtain ⟨h0, hk⟩ := h c
      obtain ⟨a0, a1, a2, a3, a4, a5⟩ := hag c
      refine ⟨h0.trans ((ref m' c).trans ?_), hk⟩
      rw [B0, B1, B2, B3, B4, B5, a0, a1, a2, a3, a4, a5]) (Cert.ConfOutFRefIdeal.Value.run m' ρ')⟩

end Cert.ConfOutFIdeal.Hand

end
-- ==== Proof.SsdOutF.lean ====
module

public import proofs.«01_k».proof.Proof.Gen.SsdOutFIdeal.Value
public import proofs.«01_k».proof.Proof.Gen.SsdOutFRefIdeal.Run
public import proofs.«01_k».proof.Proof.Common
public import proofs.«01_k».proof.Defs

@[expose] public section

set_option maxRecDepth 16384

noncomputable section

namespace Cert.SsdOutFIdeal.Hand

open Cert.SsdOutFIdeal Cert.SsdOutFIdeal.Gen Cert.Common Idealize.ShloMosaic Idealize.ShloMosaic.TcCoe Idealize.SL.Sem
open Idealize.ShloMosaic.Pipeline (Dat)

variable (m : (ℓ : Loc nD τ sig) → Buf (Elt Ideal) ℓ)

/-- The windows' index maps. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![0, 0] ∧ win0_8.index t = ![t.val, 0] :=
  (by decide +kernel : ∀ t : Fin grid0.N, _)

/-- The position of a row of a point's block. -/
def pos (t : Fin cfg0.N) (r : Fin 256) : Fin 16384 := ⟨256 * t.val + r.val, by
  have h : t.val < 64 := t.isLt
  omega⟩

section Spec

/-- The swish of a value. -/
def SL (x : EReal) : EReal := x * Ideal.div 1 (1 + Ideal.exp (-x))

variable (YF YB : FVec Ideal S16384x2048 .f32) (C : FVec Ideal S16384x3072 .bf16) (P : FVec Ideal S16384x5248 .bf16)
    (D NW : FVec Ideal S1x2048 .f32) (H : FVec Ideal S16384x1024 .f32) (W : FVec Ideal S2048x1024 .bf16)

/-- The gated scan output. -/
def Y (l : Fin 16384) (k : Fin 2048) : EReal :=
  (YF (ix2 l k) + YB (ix2 l k) + SL (C (ix2 l ⟨k.val, Nat.lt_of_lt_of_le k.isLt (Nat.le_add_right 2048 1024)⟩)) * D (ix2 0 k))
    * SL (P (ix2 l ⟨k.val, Nat.lt_of_lt_of_le k.isLt (Nat.le_add_right 2048 3200)⟩))

/-- The gated scan output normalized, before the scale. -/
def YN (l : Fin 16384) (k : Fin 2048) : EReal := Y YF YB C P D l k * Ideal.rsqrt (ms (fun k : Fin 2048 => Y YF YB C P D l k) 2048 eps)

/-- The normalized output through the output weight, on the residual. -/
def REF : FVec Ideal S16384x1024 .f32 := fun j =>
  H (ix2 (j 0) (j 1)) + ∑ k : Fin 2048, YN YF YB C P D (j 0) k * NW (ix2 0 k) * W (ix2 k (j 1))

end Spec

/-- Argument 0. -/
abbrev A0 (c : Dev nD) : FVec Ideal S16384x2048 .f32 := m ((c : Thread nD τ).loc main_arg0)

/-- Argument 1. -/
abbrev A1 (c : Dev nD) : FVec Ideal S16384x2048 .f32 := m ((c : Thread nD τ).loc main_arg1)

/-- Argument 2. -/
abbrev A2 (c : Dev nD) : FVec Ideal S16384x3072 .bf16 := m ((c : Thread nD τ).loc main_arg2)

/-- Argument 3. -/
abbrev A3 (c : Dev nD) : FVec Ideal S16384x5248 .bf16 := m ((c : Thread nD τ).loc main_arg3)

/-- Argument 4. -/
abbrev A4 (c : Dev nD) : FVec Ideal S1x2048 .f32 := m ((c : Thread nD τ).loc main_arg4)

/-- Argument 5. -/
abbrev A5 (c : Dev nD) : FVec Ideal S1x2048 .f32 := m ((c : Thread nD τ).loc main_arg5)

/-- Argument 6. -/
abbrev A6 (c : Dev nD) : FVec Ideal S16384x1024 .f32 := m ((c : Thread nD τ).loc main_arg6)

/-- Argument 7. -/
abbrev A7 (c : Dev nD) : FVec Ideal S2048x1024 .bf16 := m ((c : Thread nD τ).loc main_arg7)

section Pay

variable {yf yb : FVec Ideal S256x2048 .f32} {cc p : FVec Ideal S256x2048 .bf16} {dd : FVec Ideal S1x2048 .f32}
  {YF YB : FVec Ideal S16384x2048 .f32} {C : FVec Ideal S16384x3072 .bf16} {P : FVec Ideal S16384x5248 .bf16} {D : FVec Ideal S1x2048 .f32}
  {q : Fin 256 → Fin 16384} (hf : ∀ r k, yf (ix2 r k) = YF (ix2 (q r) k)) (hb : ∀ r k, yb (ix2 r k) = YB (ix2 (q r) k))
  (hc : ∀ (r : Fin 256) (k : Fin 2048), cc (ix2 r k) = C (ix2 (q r) ⟨k.val, Nat.lt_of_lt_of_le k.isLt (Nat.le_add_right 2048 1024)⟩))
  (hp : ∀ (r : Fin 256) (k : Fin 2048), p (ix2 r k) = P (ix2 (q r) ⟨k.val, Nat.lt_of_lt_of_le k.isLt (Nat.le_add_right 2048 3200)⟩))
  (hd : ∀ k, dd (ix2 0 k) = D (ix2 0 k))

include hf hb hc hp hd in
theorem pay2 (r : Fin 256) (k : Fin 2048) : k0_pay2 (F := Ideal) yf yb cc p dd (ix2 r k) = YN YF YB C P D (q r) k := by
  pointwise [k0_pay2]
  simp only [hf, hb, hc, hp, hd, c2048, ceps, sub_eq_add_neg (0 : EReal), zero_add]
  rfl

theorem pay1 (a : FVec Ideal S256x2048 .f32) (h : FVec Ideal S256x1024 .f32) (nw : FVec Ideal S1x2048 .f32) (w : FVec Ideal S2048x1024 .bf16)
    (r : Fin 256) (d : Fin 1024) :
    k0_pay1 (F := Ideal) a h nw w (ix2 r d) = h (ix2 r d) + ∑ k : Fin 2048, a (ix2 r k) * nw (ix2 0 k) * w (ix2 k d) := by
  pointwise [k0_pay1]

end Pay

section Blocks

variable (c : Dev nD) (t : Fin cfg0.N)

theorem b0 (r : Fin 256) (k : Fin 2048) : iblk m c 0 t (ix2 r k) = A0 m c (ix2 (pos t r) k) := by
  blk_point [iblk, V, idx t, pos]

theorem b1 (r : Fin 256) (k : Fin 2048) : iblk m c 1 t (ix2 r k) = A1 m c (ix2 (pos t r) k) := by
  blk_point [iblk, V, idx t, pos]

theorem b2 (r : Fin 256) (k : Fin 2048) : X0_2 m c t (ix2 r k) = A2 m c (ix2 (pos t r) ⟨k.val, Nat.lt_of_lt_of_le k.isLt (Nat.le_add_right 2048 1024)⟩) := by
  unfold X0_2 Pipeline.Window.fill
  rw [dif_pos (moved0_2 t _)]
  blk_point [iblk, V, idx t, pos]

theorem b3 (r : Fin 256) (k : Fin 2048) : X0_3 m c t (ix2 r k) = A3 m c (ix2 (pos t r) ⟨k.val, Nat.lt_of_lt_of_le k.isLt (Nat.le_add_right 2048 3200)⟩) := by
  unfold X0_3 Pipeline.Window.fill
  rw [dif_pos (moved0_3 t _)]
  blk_point [iblk, V, idx t, pos]

theorem b4 (k : Fin 2048) : iblk m c 4 t (ix2 0 k) = A4 m c (ix2 0 k) := by
  blk_point [iblk, V, idx t]

theorem b5 (k : Fin 2048) : iblk m c 5 t (ix2 0 k) = A5 m c (ix2 0 k) := by
  blk_point [iblk, V, idx t]

theorem b6 (r : Fin 256) (k : Fin 1024) : iblk m c 6 t (ix2 r k) = A6 m c (ix2 (pos t r) k) := by
  blk_point [iblk, V, idx t, pos]

theorem b7 (k : Fin 2048) (d : Fin 1024) : iblk m c 7 t (ix2 k d) = A7 m c (ix2 k d) := by
  blk_point [iblk, V, idx t]

set_option maxHeartbeats 1000000 in
theorem out_eq (y : S256x1024.Idx) : outsAt0 (F := Ideal) m c t y
    = REF (A0 m c) (A1 m c) (A2 m c) (A3 m c) (A4 m c) (A5 m c) (A6 m c) (A7 m c) (ix2 (pos t (y 0)) (y 1)) := by
  obtain ⟨r, d, rfl⟩ : ∃ r d, y = ix2 r d := ⟨y 0, y 1, by funext i; fin_cases i <;> rfl⟩
  unfold outsAt0
  frame_out
  rw [pay1]
  simp only [pay2 (q := pos t) (b0 m c t) (b1 m c t) (b2 m c t) (b3 m c t) (b4 m c t), b5, b6, b7]
  rfl

theorem emb (y : ((cfg0.win 8).xblock (cfg0.grid.coords t)).Idx) : (win0_8.blk t).view.emb y = ix2 (pos t (y 0)) (y 1) := by
  have h0 : win0_8.index t 0 = t.val := (congrFun (idx t).2.2.2.2.2.2.2.2 0).trans rfl
  have h1 : win0_8.index t 1 = 0 := (congrFun (idx t).2.2.2.2.2.2.2.2 1).trans rfl
  funext a
  apply Fin.ext
  match a with
  | ⟨0, _⟩ => show win0_8.index t 0 * 256 + 1 * (y 0).val = 256 * t.val + (y 0).val; rw [h0]; omega
  | ⟨1, _⟩ => show win0_8.index t 1 * 1024 + 1 * (y 1).val = (y 1).val; rw [h1]; omega

end Blocks

theorem final (c : Dev nD) : (dats m 0 c).arrAt 8 (cfgs 0).N = REF (A0 m c) (A1 m c) (A2 m c) (A3 m c) (A4 m c) (A5 m c) (A6 m c) (A7 m c) := by
  refine (dats m 0 c).arrAt_eq_of_covers 8 _ (by decide +kernel) fun t hf y => ?_
  blk_simp
  rw [after0_8, out_eq]
  exact congrArg _ (emb t y).symm

section Reference

variable (m' : (ℓ : Loc Cert.SsdOutFRefIdeal.nD Cert.SsdOutFRefIdeal.τ Cert.SsdOutFRefIdeal.sig) → Buf (Elt Ideal) ℓ) (c : Dev Cert.SsdOutFRefIdeal.nD)

abbrev B0 : FVec Ideal Cert.SsdOutFIdeal.S16384x2048 .f32 := m' ((c.tc : Thread Cert.SsdOutFRefIdeal.nD Cert.SsdOutFRefIdeal.τ).loc Cert.SsdOutFRefIdeal.main_arg0)
abbrev B1 : FVec Ideal Cert.SsdOutFIdeal.S16384x2048 .f32 := m' ((c.tc : Thread Cert.SsdOutFRefIdeal.nD Cert.SsdOutFRefIdeal.τ).loc Cert.SsdOutFRefIdeal.main_arg1)
abbrev B2 : FVec Ideal Cert.SsdOutFIdeal.S16384x3072 .bf16 := m' ((c.tc : Thread Cert.SsdOutFRefIdeal.nD Cert.SsdOutFRefIdeal.τ).loc Cert.SsdOutFRefIdeal.main_arg2)
abbrev B3 : FVec Ideal Cert.SsdOutFIdeal.S16384x5248 .bf16 := m' ((c.tc : Thread Cert.SsdOutFRefIdeal.nD Cert.SsdOutFRefIdeal.τ).loc Cert.SsdOutFRefIdeal.main_arg3)
abbrev B4 : FVec Ideal Cert.SsdOutFIdeal.S1x2048 .f32 := m' ((c.tc : Thread Cert.SsdOutFRefIdeal.nD Cert.SsdOutFRefIdeal.τ).loc Cert.SsdOutFRefIdeal.main_arg4)
abbrev B5 : FVec Ideal Cert.SsdOutFIdeal.S1x2048 .f32 := m' ((c.tc : Thread Cert.SsdOutFRefIdeal.nD Cert.SsdOutFRefIdeal.τ).loc Cert.SsdOutFRefIdeal.main_arg5)
abbrev B6 : FVec Ideal Cert.SsdOutFIdeal.S16384x1024 .f32 := m' ((c.tc : Thread Cert.SsdOutFRefIdeal.nD Cert.SsdOutFRefIdeal.τ).loc Cert.SsdOutFRefIdeal.main_arg6)
abbrev B7 : FVec Ideal Cert.SsdOutFIdeal.S2048x1024 .bf16 := m' ((c.tc : Thread Cert.SsdOutFRefIdeal.nD Cert.SsdOutFRefIdeal.τ).loc Cert.SsdOutFRefIdeal.main_arg7)

theorem ref : Cert.SsdOutFRefIdeal.Value.res_main_v25 m' c = REF (B0 m' c) (B1 m' c) (B2 m' c) (B3 m' c) (B4 m' c) (B5 m' c) (B6 m' c) (B7 m' c) := by
  funext j
  obtain ⟨l, d, rfl⟩ : ∃ l d, j = ix2 l d := ⟨j 0, j 1, by funext i; fin_cases i <;> rfl⟩
  unfold Cert.SsdOutFRefIdeal.Value.res_main_v25
  pointwise
  simp only [c2048, ceps]
  rfl

end Reference

theorem algebraic : Cert.algebraic_SsdOutFIdeal_SsdOutFRefIdeal :=
  fun m ρ m' ρ' _ hag => ⟨fun c => REF (A0 m c) (A1 m c) (A2 m c) (A3 m c) (A4 m c) (A5 m c) (A6 m c) (A7 m c),
    (θ_run _ _ _).mono (fun _ h c => ⟨(h c).1.trans (final m c), (h c).2⟩) (Value.run_blocks m ρ),
    (θ_run _ _ _).mono (fun _ h c => by
      obtain ⟨h0, hk⟩ := h c
      obtain ⟨a0, a1, a2, a3, a4, a5, a6, a7⟩ := hag c
      refine ⟨h0.trans ((ref m' c).trans ?_), hk⟩
      rw [B0, B1, B2, B3, B4, B5, B6, B7, a0, a1, a2, a3, a4, a5, a6, a7]) (Cert.SsdOutFRefIdeal.Value.run m' ρ')⟩

end Cert.SsdOutFIdeal.Hand

end
-- ==== Proof.SsdConv.lean ====
module

public import proofs.«01_k».proof.Proof.Gen.SsdConvIdeal.Value
public import proofs.«01_k».proof.Proof.Gen.SsdConvRefIdeal.Run
public import proofs.«01_k».proof.Proof.Common
public import proofs.«01_k».proof.Defs

@[expose] public section

set_option maxRecDepth 16384

noncomputable section

namespace Cert.SsdConvIdeal.Hand

open Cert.SsdConvIdeal Cert.SsdConvIdeal.Gen Cert.Common Idealize.ShloMosaic Idealize.ShloMosaic.TcCoe Idealize.SL.Sem
open Idealize.ShloMosaic.Pipeline (Dat)

variable (m : (ℓ : Loc nD τ sig) → Buf (Elt Ideal) ℓ)

/-- The windows' index maps: a block of positions with the halo blocks before and after it, and a block of columns. -/
theorem idx : ∀ t : Fin cfg0.N, win0_0.index t = ![t.val % 32, 2 + t.val / 32]
    ∧ win0_1.index t = ![32 * (t.val % 32) - 1, 2 + t.val / 32]
    ∧ win0_2.index t = ![min (32 * (t.val % 32) + 32) 1023, 2 + t.val / 32]
    ∧ win0_3.index t = ![0, t.val / 32] ∧ win0_4.index t = ![0, t.val / 32] ∧ win0_5.index t = ![t.val % 32, t.val / 32] :=
  (by decide +kernel : ∀ t : Fin grid0.N, _)

/-- The kernel's tests for the first and for the last block of positions. -/
theorem tests : ∀ t : Fin cfg0.N,
    Scalar.cmpi .sgt (BitVec.ofNat 32 (grid0.coords t 1).val) 0#32 = (if 0 < t.val % 32 then 1#1 else 0#1)
    ∧ Scalar.cmpi .slt (BitVec.ofNat 32 (grid0.coords t 1).val) 31#32 = (if t.val % 32 < 31 then 1#1 else 0#1) :=
  (by decide +kernel : ∀ t : Fin grid0.N, _)

/-- The position of a row of a point's block. -/
def pos (t : Fin cfg0.N) (r : Fin 512) : Fin 16384 := ⟨512 * (t.val % 32) + r.val, by omega⟩

/-- The channel of a column of a point's block. -/
def chan (t : Fin cfg0.N) (d : Fin 1024) : Fin 3072 := ⟨1024 * (t.val / 32) + d.val, by
  have h : t.val < 96 := t.isLt
  omega⟩

section Spec

variable (P : FVec Ideal S16384x5248 .bf16) (W : FVec Ideal S5x3072 .f32) (B : FVec Ideal S1x3072 .f32)

/-- The convolution's input at position `s - 16`, zero outside the sequence. -/
def XP (s : ℕ) (d : Fin 3072) : EReal :=
  if h : 16 ≤ s ∧ s < 16400 then P (ix2 ⟨s - 16, by omega⟩ ⟨2048 + d.val, by omega⟩) else 0

theorem xp_pos (s : ℕ) (d : Fin 3072) (l : Fin 16384) (h : s = l.val + 16) :
    XP P s d = P (ix2 l ⟨2048 + d.val, by omega⟩) := by
  subst h
  have hl := l.isLt
  unfold XP
  rw [dif_pos ⟨by omega, by omega⟩]
  exact congrArg (fun q : Fin 16384 => P (ix2 q ⟨2048 + d.val, by omega⟩)) (Fin.ext (Nat.add_sub_cancel _ _))

theorem xp_zero (s : ℕ) (d : Fin 3072) (h : ¬(16 ≤ s ∧ s < 16400)) : XP P s d = 0 := dif_neg h

/-- A row of the input with two rows of zeros before and after it. -/
theorem tap (a s : ℕ) (d : Fin 3072) (h : s = a + 14) :
    (if h : 2 ≤ a ∧ a - 2 < 16384 then P (ix2 ⟨a - 2, h.2⟩ ⟨2048 + d.val, by omega⟩) else (0 : EReal)) = XP P s d := by
  split
  · rename_i g
    exact (xp_pos P s d ⟨a - 2, g.2⟩ (by show s = a - 2 + 16; omega)).symm
  · rename_i g
    exact (xp_zero P s d (by omega)).symm

/-- The depthwise convolution, centred at each position. -/
def REF : FVec Ideal S16384x3072 .bf16 := fun j =>
  XP P ((j 0).val + 14) (j 1) * W (ix2 0 (j 1)) + XP P ((j 0).val + 15) (j 1) * W (ix2 1 (j 1))
    + XP P ((j 0).val + 16) (j 1) * W (ix2 2 (j 1)) + XP P ((j 0).val + 17) (j 1) * W (ix2 3 (j 1))
    + XP P ((j 0).val + 18) (j 1) * W (ix2 4 (j 1)) + B (ix2 0 (j 1))

end Spec

/-- Argument 0. -/
abbrev A0 (c : Dev nD) : FVec Ideal S16384x5248 .bf16 := m ((c : Thread nD τ).loc main_arg0)

/-- Argument 1. -/
abbrev A1 (c : Dev nD) : FVec Ideal S5x3072 .f32 := m ((c : Thread nD τ).loc main_arg1)

/-- Argument 2. -/
abbrev A2 (c : Dev nD) : FVec Ideal S1x3072 .f32 := m ((c : Thread nD τ).loc main_arg2)

section Blocks

variable (c : Dev nD) (t : Fin cfg0.N)

theorem lt96 : t.val < 96 := t.isLt

/-- The block of positions. -/
theorem b0 (r : Fin 512) (d : Fin 1024) : X0_0 m c t (ix2 r d) = A0 m c (ix2 (pos t r) ⟨2048 + (chan t d).val, by have := (chan t d).isLt; omega⟩) := by
  unfold X0_0 Pipeline.Window.fill
  rw [dif_pos (moved0_0 t _)]
  blk_point [iblk, V, idx t, pos, chan]

/-- The halo before it, if there is one. -/
theorem b1 (h : 0 < t.val % 32) (r : Fin 16) (d : Fin 1024) : X0_1 m c t (ix2 r d)
    = A0 m c (ix2 ⟨512 * (t.val % 32) - 16 + r.val, by omega⟩ ⟨2048 + (chan t d).val, by have := (chan t d).isLt; omega⟩) := by
  unfold X0_1 Pipeline.Window.fill
  rw [dif_pos (moved0_1 t _)]
  blk_point [iblk, V, idx t, chan]

/-- The halo after it, if there is one. -/
theorem b2 (h : t.val % 32 < 31) (r : Fin 16) (d : Fin 1024) : X0_2 m c t (ix2 r d)
    = A0 m c (ix2 ⟨512 * (t.val % 32) + 512 + r.val, by omega⟩ ⟨2048 + (chan t d).val, by have := (chan t d).isLt; omega⟩) := by
  unfold X0_2 Pipeline.Window.fill
  rw [dif_pos (moved0_2 t _)]
  blk_point [iblk, V, idx t, chan]

theorem b3 (k : Fin 5) (d : Fin 1024) : iblk m c 3 t (ix2 k d) = A1 m c (ix2 k (chan t d)) := by
  blk_point [iblk, V, idx t, chan]

theorem b4 (d : Fin 1024) : iblk m c 4 t (ix2 0 d) = A2 m c (ix2 0 (chan t d)) := by
  blk_point [iblk, V, idx t, chan]

/-- What the window's parts hold. -/
theorem p3 (r : Fin 512) (d : Fin 1024) :
    k0_pay3 (F := Ideal) (X0_0 m c t) (ix2 r d) = XP (A0 m c) (512 * (t.val % 32) + 16 + r.val) (chan t d) := by
  have h := b0 m c t r d
  generalize X0_0 m c t = x at h ⊢
  pointwise [k0_pay3]
  rw [h, xp_pos _ _ _ (pos t r) (by show _ = 512 * (t.val % 32) + r.val + 16; omega)]

theorem p2 (r : Fin 16) (d : Fin 1024) :
    k0_pay2 (F := Ideal) (grid0.coords t) (X0_1 m c t) (ix2 r d) = XP (A0 m c) (512 * (t.val % 32) + r.val) (chan t d) := by
  have h := fun q => b1 m c t q r d
  generalize X0_1 m c t = x at h ⊢
  pointwise [k0_pay2]
  rw [(tests t).1]
  by_cases h0 : 0 < t.val % 32
  · rw [xp_pos _ _ _ ⟨512 * (t.val % 32) - 16 + r.val, by omega⟩ (by show _ = 512 * (t.val % 32) - 16 + r.val + 16; omega), if_pos h0]
    exact h h0
  · rw [xp_zero _ _ _ (by omega), if_neg h0]
    rfl

theorem p4 (r : Fin 16) (d : Fin 1024) :
    k0_pay4 (F := Ideal) (grid0.coords t) (X0_2 m c t) (ix2 r d) = XP (A0 m c) (512 * (t.val % 32) + 528 + r.val) (chan t d) := by
  have h := fun q => b2 m c t q r d
  generalize X0_2 m c t = x at h ⊢
  pointwise [k0_pay4]
  rw [(tests t).2]
  by_cases h0 : t.val % 32 < 31
  · rw [xp_pos _ _ _ ⟨512 * (t.val % 32) + 512 + r.val, by omega⟩ (by show _ = 512 * (t.val % 32) + 512 + r.val + 16; omega), if_pos h0]
    exact h h0
  · rw [xp_zero _ _ _ (by omega), if_neg h0]
    rfl

/-- The stores that fill a point's window. -/
abbrev L : List (View.Piece (Elt Ideal) S544x1024 .f32) :=
  [⟨Rect.unit ![528, 0] ![16, 1024] inb_S544x1024_S16x1024_528_0, k0_pay4 (grid0.coords t) (X0_2 m c t)⟩,
    ⟨Rect.unit ![16, 0] ![512, 1024] inb_S544x1024_S512x1024_16_0, k0_pay3 (X0_0 m c t)⟩,
    ⟨Rect.unit ![0, 0] ![16, 1024] inb_S544x1024_S16x1024_0_0, k0_pay2 (grid0.coords t) (X0_1 m c t)⟩]

/-- A point's window holds the input around its block. -/
theorem win (y : S544x1024.Idx) :
    View.canon (L m c t) y = XP (A0 m c) (512 * (t.val % 32) + (y 0).val) (chan t (y 1)) := by
  refine View.canon_apply_of_pieces (Val := Elt Ideal) (e := .f32)
    (fun y : S544x1024.Idx => XP (A0 m c) (512 * (t.val % 32) + (y 0).val) (chan t (y 1))) _ ?_ y
    (View.cover_of_tiledBy (s := S544x1024) _ ![16, 1024] (by sl_kernel_rfl) y)
  intro p hp x
  simp only [List.mem_cons, List.not_mem_nil, or_false] at hp
  obtain rfl | rfl | rfl := hp
  · obtain ⟨r, d, rfl⟩ : ∃ r d, x = ix2 (n0 := 16) (n1 := 1024) r d := ⟨x 0, x 1, by funext i; fin_cases i <;> rfl⟩
    refine (p4 m c t r d).trans ?_
    refine congrArg₂ (XP (A0 m c)) ?_ (congrArg (chan t) (Fin.ext ?_)) <;> simp [Rect.emb, Rect.unit, ix2] <;> omega
  · obtain ⟨r, d, rfl⟩ : ∃ r d, x = ix2 (n0 := 512) (n1 := 1024) r d := ⟨x 0, x 1, by funext i; fin_cases i <;> rfl⟩
    refine (p3 m c t r d).trans ?_
    refine congrArg₂ (XP (A0 m c)) ?_ (congrArg (chan t) (Fin.ext ?_)) <;> simp [Rect.emb, Rect.unit, ix2] <;> omega
  · obtain ⟨r, d, rfl⟩ : ∃ r d, x = ix2 (n0 := 16) (n1 := 1024) r d := ⟨x 0, x 1, by funext i; fin_cases i <;> rfl⟩
    refine (p2 m c t r d).trans ?_
    refine congrArg₂ (XP (A0 m c)) ?_ (congrArg (chan t) (Fin.ext ?_)) <;> simp [Rect.emb, Rect.unit, ix2] <;> omega

/-- The 16 rows of the window from row `o` on. -/
theorem slab (o : ℕ) (ho : o + 16 ≤ 544) (hi : ∀ a, (![o, 0] : Fin 2 → ℕ) a + (![16, 1024] : Fin 2 → ℕ) a ≤ S544x1024.size a)
    (r : Fin 16) (d : Fin 1024) :
    (View.whole cc0_scratch0).readCov (L m c t) (Rect.unit (s := S544x1024) ![o, 0] ![16, 1024] hi).toLoadRect (ix2 r d)
    = XP (A0 m c) (512 * (t.val % 32) + o + r.val) (chan t d) := by
  rw [View.readCov_eq_canon_ld _ _ _ (View.cover_of_tiledBy (s := S544x1024) _ ![16, 1024] (by sl_kernel_rfl))]
  refine (win m c t _).trans ?_
  refine congrArg₂ (XP (A0 m c)) ?_ (congrArg (chan t) (Fin.ext ?_)) <;> simp [Rect.emb, Rect.unit, ix2] <;> omega

/-- Sixteen rows of a point's output, from the window's rows and the taps. -/
theorem pay (s0 s1 s2 s3 s4 : FVec Ideal S16x1024 .f32) (w0 w1 w2 w3 w4 b : FVec Ideal S1x1024 .f32) (r : Fin 16) (d : Fin 1024) :
    k0_pay8 (F := Ideal) (k0_pay6 s2 w2) (k0_pay7 s2 w2) s3 w3 s4 w4 s0 w0 s1 w1 b (ix2 r d)
    = s0 (ix2 r d) * w0 (ix2 0 d) + s1 (ix2 r d) * w1 (ix2 0 d) + s2 (ix2 r d) * w2 (ix2 0 d) + s3 (ix2 r d) * w3 (ix2 0 d)
      + s4 (ix2 r d) * w4 (ix2 0 d) + b (ix2 0 d) := by
  pointwise [k0_pay8, k0_pay6, k0_pay7, k0_pay5]
  have hr : ∀ h : ¬ r.val < 8, (⟨8 + (r.val - 8), by omega⟩ : Fin 16) = r := fun h => Fin.ext (by show 8 + (r.val - 8) = r.val; omega)
  split
  · simp only [mul_comm]
    abel
  · rename_i h
    simp only [hr h, mul_comm]
    abel

/-- Sixteen rows of a point's output. -/
theorem chunk (o : ℕ) (ho : o + 16 ≤ 512)
    (h0 : ∀ a, (![o + 14, 0] : Fin 2 → ℕ) a + (![16, 1024] : Fin 2 → ℕ) a ≤ S544x1024.size a)
    (h1 : ∀ a, (![o + 15, 0] : Fin 2 → ℕ) a + (![16, 1024] : Fin 2 → ℕ) a ≤ S544x1024.size a)
    (h2 : ∀ a, (![o + 16, 0] : Fin 2 → ℕ) a + (![16, 1024] : Fin 2 → ℕ) a ≤ S544x1024.size a)
    (h3 : ∀ a, (![o + 17, 0] : Fin 2 → ℕ) a + (![16, 1024] : Fin 2 → ℕ) a ≤ S544x1024.size a)
    (h4 : ∀ a, (![o + 18, 0] : Fin 2 → ℕ) a + (![16, 1024] : Fin 2 → ℕ) a ≤ S544x1024.size a)
    (hj : ∀ a, (![o, 0] : Fin 2 → ℕ) a + (![16, 1024] : Fin 2 → ℕ) a ≤ S512x1024.size a) (x : S16x1024.Idx) :
    k0_pay8 (F := Ideal)
      (k0_pay6 ((View.whole cc0_scratch0).readCov (L m c t) (Rect.unit (s := S544x1024) ![o + 16, 0] ![16, 1024] h2).toLoadRect)
        (View.ld (iblk m c 3 t) (Rect.unit (s := S5x1024) ![2, 0] ![1, 1024] inb_S5x1024_S1x1024_2_0)))
      (k0_pay7 ((View.whole cc0_scratch0).readCov (L m c t) (Rect.unit (s := S544x1024) ![o + 16, 0] ![16, 1024] h2).toLoadRect)
        (View.ld (iblk m c 3 t) (Rect.unit (s := S5x1024) ![2, 0] ![1, 1024] inb_S5x1024_S1x1024_2_0)))
      ((View.whole cc0_scratch0).readCov (L m c t) (Rect.unit (s := S544x1024) ![o + 17, 0] ![16, 1024] h3).toLoadRect)
      (View.ld (iblk m c 3 t) (Rect.unit (s := S5x1024) ![3, 0] ![1, 1024] inb_S5x1024_S1x1024_3_0))
      ((View.whole cc0_scratch0).readCov (L m c t) (Rect.unit (s := S544x1024) ![o + 18, 0] ![16, 1024] h4).toLoadRect)
      (View.ld (iblk m c 3 t) (Rect.unit (s := S5x1024) ![4, 0] ![1, 1024] inb_S5x1024_S1x1024_4_0))
      ((View.whole cc0_scratch0).readCov (L m c t) (Rect.unit (s := S544x1024) ![o + 14, 0] ![16, 1024] h0).toLoadRect)
      (View.ld (iblk m c 3 t) (Rect.unit (s := S5x1024) ![0, 0] ![1, 1024] inb_S5x1024_S1x1024_0_0))
      ((View.whole cc0_scratch0).readCov (L m c t) (Rect.unit (s := S544x1024) ![o + 15, 0] ![16, 1024] h1).toLoadRect)
      (View.ld (iblk m c 3 t) (Rect.unit (s := S5x1024) ![1, 0] ![1, 1024] inb_S5x1024_S1x1024_1_0))
      (iblk m c 4 t) x
    = (fun y : S512x1024.Idx => REF (A0 m c) (A1 m c) (A2 m c) (ix2 (pos t (y 0)) (chan t (y 1))))
        ((Rect.unit (s := S512x1024) ![o, 0] ![16, 1024] hj).emb x) := by
  obtain ⟨r, d, rfl⟩ : ∃ r d, x = ix2 r d := ⟨x 0, x 1, by funext i; fin_cases i <;> rfl⟩
  rw [show (Rect.unit (s := S512x1024) ![o, 0] ![16, 1024] hj).emb (ix2 r d)
      = ix2 ⟨o + r.val, by have := r.isLt; omega⟩ d by
    funext a; fin_cases a <;> exact Fin.ext (by simp [Rect.emb, Rect.unit, ix2])]
  have hw : ∀ (k : Fin 5) (hk : ∀ a, (![k.val, 0] : Fin 2 → ℕ) a + (![1, 1024] : Fin 2 → ℕ) a ≤ S5x1024.size a),
      View.ld (iblk m c 3 t) (Rect.unit (s := S5x1024) ![k.val, 0] ![1, 1024] hk) (ix2 (n0 := 1) (n1 := 1024) 0 d) = A1 m c (ix2 k (chan t d)) := by
    intro k hk
    refine Eq.trans ?_ (b3 m c t k d)
    refine congrArg (iblk m c 3 t) ?_
    funext a; fin_cases a <;> exact Fin.ext (by simp [Rect.emb, Rect.unit, ix2])
  have hs : ∀ a b : ℕ, a = b → XP (A0 m c) a (chan t d) = XP (A0 m c) b (chan t d) := fun a b e => by rw [e]
  refine (pay _ _ _ _ _ _ _ _ _ _ _ r d).trans ?_
  rw [slab m c t (o + 14) (by omega) h0, slab m c t (o + 15) (by omega) h1, slab m c t (o + 16) (by omega) h2,
    slab m c t (o + 17) (by omega) h3, slab m c t (o + 18) (by omega) h4, b4 m c t d]
  have w0 := hw 0 inb_S5x1024_S1x1024_0_0
  have w1 := hw 1 inb_S5x1024_S1x1024_1_0
  have w2 := hw 2 inb_S5x1024_S1x1024_2_0
  have w3 := hw 3 inb_S5x1024_S1x1024_3_0
  have w4 := hw 4 inb_S5x1024_S1x1024_4_0
  refine congrArg₂ _ (congrArg₂ _ (congrArg₂ _ (congrArg₂ _ (congrArg₂ _ (congrArg₂ _ (hs _ _ ?_) w0)
    (congrArg₂ _ (hs _ _ ?_) w1)) (congrArg₂ _ (hs _ _ ?_) w2)) (congrArg₂ _ (hs _ _ ?_) w3)) (congrArg₂ _ (hs _ _ ?_) w4)) rfl
    <;> (show _ = 512 * (t.val % 32) + (o + r.val) + _; omega)

set_option maxHeartbeats 4000000 in
theorem out_eq (y : S512x1024.Idx) : (outsAt0 (F := Ideal) m c t) y
    = REF (A0 m c) (A1 m c) (A2 m c) (ix2 (pos t (y 0)) (chan t (y 1))) := by
  unfold outsAt0
  frame_out
  refine View.canon_apply_of_pieces (Val := Elt Ideal) (e := .bf16)
    (fun y : S512x1024.Idx => REF (A0 m c) (A1 m c) (A2 m c) (ix2 (pos t (y 0)) (chan t (y 1)))) _ ?_ y
    (View.cover_of_tiledBy (s := S512x1024) _ ![16, 1024] (by sl_kernel_rfl) y)
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact chunk m c t 496 (by norm_num) _ _ _ _ _ inb_S512x1024_S16x1024_496_0 x
  · exact chunk m c t 480 (by norm_num) _ _ _ _ _ inb_S512x1024_S16x1024_480_0 x
  · exact chunk m c t 464 (by norm_num) _ _ _ _ _ inb_S512x1024_S16x1024_464_0 x
  · exact chunk m c t 448 (by norm_num) _ _ _ _ _ inb_S512x1024_S16x1024_448_0 x
  · exact chunk m c t 432 (by norm_num) _ _ _ _ _ inb_S512x1024_S16x1024_432_0 x
  · exact chunk m c t 416 (by norm_num) _ _ _ _ _ inb_S512x1024_S16x1024_416_0 x
  · exact chunk m c t 400 (by norm_num) _ _ _ _ _ inb_S512x1024_S16x1024_400_0 x
  · exact chunk m c t 384 (by norm_num) _ _ _ _ _ inb_S512x1024_S16x1024_384_0 x
  · exact chunk m c t 368 (by norm_num) _ _ _ _ _ inb_S512x1024_S16x1024_368_0 x
  · exact chunk m c t 352 (by norm_num) _ _ _ _ _ inb_S512x1024_S16x1024_352_0 x
  · exact chunk m c t 336 (by norm_num) _ _ _ _ _ inb_S512x1024_S16x1024_336_0 x
  · exact chunk m c t 320 (by norm_num) _ _ _ _ _ inb_S512x1024_S16x1024_320_0 x
  · exact chunk m c t 304 (by norm_num) _ _ _ _ _ inb_S512x1024_S16x1024_304_0 x
  · exact chunk m c t 288 (by norm_num) _ _ _ _ _ inb_S512x1024_S16x1024_288_0 x
  · exact chunk m c t 272 (by norm_num) _ _ _ _ _ inb_S512x1024_S16x1024_272_0 x
  · exact chunk m c t 256 (by norm_num) _ _ _ _ _ inb_S512x1024_S16x1024_256_0 x
  · exact chunk m c t 240 (by norm_num) _ _ _ _ _ inb_S512x1024_S16x1024_240_0 x
  · exact chunk m c t 224 (by norm_num) _ _ _ _ _ inb_S512x1024_S16x1024_224_0 x
  · exact chunk m c t 208 (by norm_num) _ _ _ _ _ inb_S512x1024_S16x1024_208_0 x
  · exact chunk m c t 192 (by norm_num) _ _ _ _ _ inb_S512x1024_S16x1024_192_0 x
  · exact chunk m c t 176 (by norm_num) _ _ _ _ _ inb_S512x1024_S16x1024_176_0 x
  · exact chunk m c t 160 (by norm_num) _ _ _ _ _ inb_S512x1024_S16x1024_160_0 x
  · exact chunk m c t 144 (by norm_num) _ _ _ _ _ inb_S512x1024_S16x1024_144_0 x
  · exact chunk m c t 128 (by norm_num) _ _ _ _ _ inb_S512x1024_S16x1024_128_0 x
  · exact chunk m c t 112 (by norm_num) _ _ _ _ _ inb_S512x1024_S16x1024_112_0 x
  · exact chunk m c t 96 (by norm_num) _ _ _ _ _ inb_S512x1024_S16x1024_96_0 x
  · exact chunk m c t 80 (by norm_num) _ _ _ _ _ inb_S512x1024_S16x1024_80_0 x
  · exact chunk m c t 64 (by norm_num) _ _ _ _ _ inb_S512x1024_S16x1024_64_0 x
  · exact chunk m c t 48 (by norm_num) _ _ _ _ _ inb_S512x1024_S16x1024_48_0 x
  · exact chunk m c t 32 (by norm_num) _ _ _ _ _ inb_S512x1024_S16x1024_32_0 x
  · exact chunk m c t 16 (by norm_num) _ _ _ _ _ inb_S512x1024_S16x1024_16_0 x
  · exact chunk m c t 0 (by norm_num) _ _ _ _ _ inb_S512x1024_S16x1024_0_0 x

theorem emb (y : ((cfg0.win 5).xblock (cfg0.grid.coords t)).Idx) : (win0_5.blk t).view.emb y = ix2 (pos t (y 0)) (chan t (y 1)) := by
  have h0 : win0_5.index t 0 = t.val % 32 := (congrFun (idx t).2.2.2.2.2 0).trans rfl
  have h1 : win0_5.index t 1 = t.val / 32 := (congrFun (idx t).2.2.2.2.2 1).trans rfl
  funext a
  apply Fin.ext
  match a with
  | ⟨0, _⟩ => show win0_5.index t 0 * 512 + 1 * (y 0).val = 512 * (t.val % 32) + (y 0).val; rw [h0]; omega
  | ⟨1, _⟩ => show win0_5.index t 1 * 1024 + 1 * (y 1).val = 1024 * (t.val / 32) + (y 1).val; rw [h1]; omega

end Blocks

theorem final (c : Dev nD) : (dats m 0 c).arrAt 5 (cfgs 0).N = REF (A0 m c) (A1 m c) (A2 m c) := by
  refine (dats m 0 c).arrAt_eq_of_covers 5 _ (by decide +kernel) fun t hf y => ?_
  blk_simp
  rw [after0_5, out_eq]
  exact congrArg _ (emb t y).symm

section Reference

variable (m' : (ℓ : Loc Cert.SsdConvRefIdeal.nD Cert.SsdConvRefIdeal.τ Cert.SsdConvRefIdeal.sig) → Buf (Elt Ideal) ℓ) (c : Dev Cert.SsdConvRefIdeal.nD)

abbrev B0 : FVec Ideal Cert.SsdConvIdeal.S16384x5248 .bf16 := m' ((c.tc : Thread Cert.SsdConvRefIdeal.nD Cert.SsdConvRefIdeal.τ).loc Cert.SsdConvRefIdeal.main_arg0)
abbrev B1 : FVec Ideal Cert.SsdConvIdeal.S5x3072 .f32 := m' ((c.tc : Thread Cert.SsdConvRefIdeal.nD Cert.SsdConvRefIdeal.τ).loc Cert.SsdConvRefIdeal.main_arg1)
abbrev B2 : FVec Ideal Cert.SsdConvIdeal.S1x3072 .f32 := m' ((c.tc : Thread Cert.SsdConvRefIdeal.nD Cert.SsdConvRefIdeal.τ).loc Cert.SsdConvRefIdeal.main_arg2)

end Reference

theorem algebraic : Cert.algebraic_SsdConvIdeal_SsdConvRefIdeal :=
  fun m ρ m' ρ' _ hag => ⟨fun c => REF (A0 m c) (A1 m c) (A2 m c),
    (θ_run _ _ _).mono (fun _ h c => ⟨(h c).1.trans (final m c), (h c).2⟩) (Value.run_blocks m ρ),
    (θ_run _ _ _).mono (fun _ h c => by
      obtain ⟨h0, hk⟩ := h c
      obtain ⟨a0, a1, a2⟩ := hag c
      refine ⟨h0.trans ?_, hk⟩
      refine Eq.trans (b := REF (B0 m' c) (B1 m' c) (B2 m' c)) ?_ ?_
      · funext j
        obtain ⟨l, d, rfl⟩ : ∃ l d, j = ix2 l d := ⟨j 0, j 1, by funext i; fin_cases i <;> rfl⟩
        pointwise
        have z : FloatOps.sitofp (F := Ideal) FTy.f32 (0#32 : BitVec 32) = (0 : EReal) := by
          show ((((0#32 : BitVec 32).toInt : ℝ)) : EReal) = 0
          simp
        simp only [z]
        refine congrArg₂ _ (congrArg₂ _ (congrArg₂ _ (congrArg₂ _ (congrArg₂ _ (congrArg₂ _ ?_ rfl)
          (congrArg₂ _ ?_ rfl)) (congrArg₂ _ ?_ rfl)) (congrArg₂ _ ?_ rfl)) (congrArg₂ _ ?_ rfl)) rfl
        · exact tap (B0 m' c) l.val (l.val + 14) d (by omega)
        · exact tap (B0 m' c) (1 + l.val) (l.val + 15) d (by omega)
        · exact (xp_pos (B0 m' c) (l.val + 16) d l rfl).symm
        · exact tap (B0 m' c) (3 + l.val) (l.val + 17) d (by omega)
        · exact tap (B0 m' c) (4 + l.val) (l.val + 18) d (by omega)
      · rw [B0, B1, B2, a0, a1, a2]) (Cert.SsdConvRefIdeal.Value.run m' ρ')⟩

end Cert.SsdConvIdeal.Hand

end
-- ==== Proof.Adam.lean ====
module

public import proofs.«01_k».proof.Proof.Common

/-! The step of the optimiser on one entry of a weight, as the kernel computes it (products with the reciprocals of the two
    bias corrections) and as the reference does (quotients by them). -/

@[expose] public section

noncomputable section

namespace Cert.Adam

open Idealize.ShloMosaic Cert.Common

/-- The divisor of the first moment's bias correction, as the reference's float word has it. -/
theorem cq1 : Ideal.ofBits .f32 1059503362#32 = ((5463681 / 8388608 : ℝ) : EReal) := by
  simp [Ideal.ofBits, Ideal.ieee, -EReal.coe_mul]; norm_num

/-- The divisor of the second moment's bias correction. -/
theorem cq2 : Ideal.ofBits .f32 1008933580#32 = ((2672307 / 268435456 : ℝ) : EReal) := by
  simp [Ideal.ofBits, Ideal.ieee, -EReal.coe_mul]; norm_num

/-- The new first moment. -/
def mom (m g : EReal) : EReal := Ideal.ofBits .f32 0x3F666666#32 * m + Ideal.ofBits .f32 0x3DCCCCCD#32 * g

/-- The new second moment. -/
def mom2 (v g : EReal) : EReal := Ideal.ofBits .f32 0x3F7FBE77#32 * v + Ideal.ofBits .f32 0x3A83126F#32 * (g * g)

/-- The change of the weight, from its new moments. -/
def delta (w m v : EReal) : EReal := Ideal.ofBits .f32 0xBA83126F#32
  * (Ideal.div (m * ((8388608 / 5463681 : ℝ) : EReal)) (Ideal.sqrt (v * ((268435456 / 2672307 : ℝ) : EReal)) + Ideal.ofBits .f32 0x322BCC77#32)
    + Ideal.ofBits .f32 0x3C23D70A#32 * w)

section Spec

variable {n q h d : Nat} {φ : FTy} (l : Fin q) (R : FVec Ideal ⟨3, ![n, h, d]⟩ φ) (W M U : FVec Ideal ⟨3, ![q, h, d]⟩ .f32)

/-- The gradient: the sum over the devices' blocks. -/
def GR : FVec Ideal ⟨2, ![h, d]⟩ .f32 := fun j => ∑ s : Fin n, R (ix3 s (j 0) (j 1))

/-- The new first moment of layer `l`. -/
def NM : FVec Ideal ⟨2, ![h, d]⟩ .f32 := fun j => mom (M (ix3 l (j 0) (j 1))) (GR R j)

/-- The new second moment of layer `l`. -/
def NV : FVec Ideal ⟨2, ![h, d]⟩ .f32 := fun j => mom2 (U (ix3 l (j 0) (j 1))) (GR R j)

/-- The change of the weight of layer `l`. -/
def DW : FVec Ideal ⟨2, ![h, d]⟩ .f32 := fun j => delta (W (ix3 l (j 0) (j 1))) (NM l R M j) (NV l R U j)

end Spec

/-- A quotient by the first correction is the product with its reciprocal. -/
theorem div1 (x : EReal) : Ideal.div x (Ideal.ofBits .f32 0x3F26BD02#32) = x * ((8388608 / 5463681 : ℝ) : EReal) := by
  rw [show Ideal.ofBits .f32 0x3F26BD02#32 = _ from cq1, Common.div_coe x (by norm_num)]
  norm_num

/-- A quotient by the second correction is the product with its reciprocal. -/
theorem div2 (x : EReal) : Ideal.div x (Ideal.ofBits .f32 0x3C231ACC#32) = x * ((268435456 / 2672307 : ℝ) : EReal) := by
  rw [show Ideal.ofBits .f32 0x3C231ACC#32 = _ from cq2, Common.div_coe x (by norm_num)]
  norm_num

end Cert.Adam

end
-- ==== Proof.AdamIn.lean ====
module

public import proofs.«01_k».proof.Proof.Gen.AdamInIdeal.Value
public import proofs.«01_k».proof.Proof.Gen.AdamInRefIdeal.Run
public import proofs.«01_k».proof.Proof.Adam
public import proofs.«01_k».proof.Defs

@[expose] public section

set_option maxRecDepth 16384

noncomputable section

namespace Cert.AdamInIdeal.Hand

open Cert.AdamInIdeal Cert.AdamInIdeal.Gen Cert.Common Cert.Adam Idealize.ShloMosaic Idealize.ShloMosaic.TcCoe Idealize.SL.Sem
open Idealize.ShloMosaic.Pipeline (Dat)

variable (m : (ℓ : Loc nD τ sig) → Buf (Elt Ideal) ℓ)

/-- The windows' index maps. -/
theorem idx : ∀ t : Fin cfg0.N, win0_0.index t = ![0, t.val, 0] ∧ win0_1.index t = ![1, t.val, 0] ∧ win0_2.index t = ![1, t.val, 0]
    ∧ win0_3.index t = ![1, t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The row of the arrays that a row of a point's block is. -/
def pos (t : Fin cfg0.N) (r : Fin 256) : Fin 1024 := ⟨256 * t.val + r.val, by
  have h : t.val < 4 := t.isLt
  omega⟩

/-- Argument 0. -/
abbrev A0 (c : Dev nD) : FVec Ideal S8x1024x768 .bf16 := m ((c : Thread nD τ).loc main_arg0)

/-- Argument 1. -/
abbrev A1 (c : Dev nD) : FVec Ideal S2x1024x768 .f32 := m ((c : Thread nD τ).loc main_arg1)

/-- Argument 2. -/
abbrev A2 (c : Dev nD) : FVec Ideal S2x1024x768 .f32 := m ((c : Thread nD τ).loc main_arg2)

/-- Argument 3. -/
abbrev A3 (c : Dev nD) : FVec Ideal S2x1024x768 .f32 := m ((c : Thread nD τ).loc main_arg3)

section Blocks

variable (c : Dev nD) (t : Fin cfg0.N)

theorem b0 (s : Fin 8) (r : Fin 256) (k : Fin 768) : iblk m c 0 t (ix3 s r k) = A0 m c (ix3 s (pos t r) k) := by
  blk_point [iblk, V, idx t, pos]

theorem b1 (r : Fin 256) (k : Fin 768) : iblk m c 1 t (ix3 0 r k) = A1 m c (ix3 1 (pos t r) k) := by
  blk_point [iblk, V, idx t, pos]

theorem b2 (r : Fin 256) (k : Fin 768) : iblk m c 2 t (ix3 0 r k) = A2 m c (ix3 1 (pos t r) k) := by
  blk_point [iblk, V, idx t, pos]

theorem b3 (r : Fin 256) (k : Fin 768) : iblk m c 3 t (ix3 0 r k) = A3 m c (ix3 1 (pos t r) k) := by
  blk_point [iblk, V, idx t, pos]

theorem pay_g (x0 : Vec Ideal S8x256x768 .bf16) (x1 x2 x3 : Vec Ideal S1x256x768 .f32) (r : Fin 256) (k : Fin 768) :
    k0_pay5 (F := Ideal) x0 x1 x2 x3 (ix2 r k) = ∑ s : Fin 8, x0 (ix3 s r k) := by
  pointwise [k0_pay5, k0_pay1]
  rw [Fin.sum_univ_eight]

theorem pay_m (g : FVec Ideal S256x768 .f32) (x : Vec Ideal S1x256x768 .f32) (r : Fin 256) (k : Fin 768) :
    k0_pay2 (F := Ideal) g x (ix2 r k) = mom (x (ix3 0 r k)) (g (ix2 r k)) := by
  pointwise [k0_pay2]
  rfl

theorem pay_v (g : FVec Ideal S256x768 .f32) (x : Vec Ideal S1x256x768 .f32) (r : Fin 256) (k : Fin 768) :
    k0_pay3 (F := Ideal) g x (ix2 r k) = mom2 (x (ix3 0 r k)) (g (ix2 r k)) := by
  pointwise [k0_pay3]
  rfl

/-- The named constants are the reciprocals of the bias corrections. -/
theorem n1 : Named.named (F := Ideal) κ "c1" (φ := .f32) 0x3FC48605#32 = ((8388608 / 5463681 : ℝ) : EReal) :=
  IdealRules.named_const.ideal_named_scalar _ _ _ _ rfl

theorem n2 : Named.named (F := Ideal) κ "c2" (φ := .f32) 0x42C8E6D3#32 = ((268435456 / 2672307 : ℝ) : EReal) :=
  IdealRules.named_const.ideal_named_scalar _ _ _ _ rfl

theorem pay_d (g : FVec Ideal S256x768 .f32) (x y z : Vec Ideal S1x256x768 .f32) (r : Fin 256) (k : Fin 768) :
    k0_pay4 (F := Ideal) g x y z (ix2 r k)
    = delta (z (ix3 0 r k)) (k0_pay2 (F := Ideal) g x (ix2 r k)) (k0_pay3 (F := Ideal) g y (ix2 r k)) := by
  pointwise [k0_pay4]
  unfold delta
  rw [← n1, ← n2]

/-- A point's sums over the devices. -/
theorem grad (r : Fin 256) (d : Fin 768) : k0_pay5 (F := Ideal) (iblk m c 0 t) (iblk m c 1 t) (iblk m c 2 t) (iblk m c 3 t) (ix2 r d)
    = GR (A0 m c) (ix2 (pos t r) d) := by
  rw [pay_g]
  exact Finset.sum_congr rfl fun s _ => b0 m c t s r d

theorem out4 (y : S256x768.Idx) : out0_4 (F := Ideal) (iblk m c 0 t) (iblk m c 1 t) (iblk m c 2 t) (iblk m c 3 t) y
    = GR (A0 m c) (ix2 (pos t (y 0)) (y 1)) := by
  obtain ⟨r, d, rfl⟩ : ∃ r d, y = ix2 r d := ⟨y 0, y 1, by funext i; fin_cases i <;> rfl⟩
  frame_out
  exact grad m c t r d

theorem out5 (y : S256x768.Idx) : out0_5 (F := Ideal) (iblk m c 0 t) (iblk m c 1 t) (iblk m c 2 t) (iblk m c 3 t) y
    = DW 1 (A0 m c) (A1 m c) (A2 m c) (A3 m c) (ix2 (pos t (y 0)) (y 1)) := by
  obtain ⟨r, d, rfl⟩ : ∃ r d, y = ix2 r d := ⟨y 0, y 1, by funext i; fin_cases i <;> rfl⟩
  frame_out
  rw [pay_d, pay_m, pay_v, grad, b1, b2, b3]
  rfl

theorem out6 (y : S256x768.Idx) : out0_6 (F := Ideal) (iblk m c 0 t) (iblk m c 1 t) (iblk m c 2 t) (iblk m c 3 t) y
    = NM 1 (A0 m c) (A2 m c) (ix2 (pos t (y 0)) (y 1)) := by
  obtain ⟨r, d, rfl⟩ : ∃ r d, y = ix2 r d := ⟨y 0, y 1, by funext i; fin_cases i <;> rfl⟩
  frame_out
  rw [pay_m, grad, b2]
  rfl

theorem out7 (y : S256x768.Idx) : out0_7 (F := Ideal) (iblk m c 0 t) (iblk m c 1 t) (iblk m c 2 t) (iblk m c 3 t) y
    = NV 1 (A0 m c) (A3 m c) (ix2 (pos t (y 0)) (y 1)) := by
  obtain ⟨r, d, rfl⟩ : ∃ r d, y = ix2 r d := ⟨y 0, y 1, by funext i; fin_cases i <;> rfl⟩
  frame_out
  rw [pay_v, grad, b3]
  rfl

theorem emb (y : ((cfg0.win 4).xblock (cfg0.grid.coords t)).Idx) : (win0_4.blk t).view.emb y = ix2 (pos t (y 0)) (y 1) := by
  have h0 : win0_4.index t 0 = t.val := (congrFun (idx t).2.2.2.2.1 0).trans rfl
  have h1 : win0_4.index t 1 = 0 := (congrFun (idx t).2.2.2.2.1 1).trans rfl
  funext a
  apply Fin.ext
  match a with
  | ⟨0, _⟩ => show win0_4.index t 0 * 256 + 1 * (y 0).val = 256 * t.val + (y 0).val; rw [h0]; omega
  | ⟨1, _⟩ => show win0_4.index t 1 * 768 + 1 * (y 1).val = (y 1).val; rw [h1]; omega

end Blocks

theorem final4 (c : Dev nD) : (dats m 0 c).arrAt 4 (cfgs 0).N = GR (A0 m c) := by
  refine (dats m 0 c).arrAt_eq_of_covers 4 _ (by decide +kernel) fun t hf y => ?_
  blk_simp
  rw [after0_4, out4]
  exact congrArg _ (emb t y).symm

theorem final5 (c : Dev nD) : (dats m 0 c).arrAt 5 (cfgs 0).N = DW 1 (A0 m c) (A1 m c) (A2 m c) (A3 m c) := by
  refine (dats m 0 c).arrAt_eq_of_covers 5 _ (by decide +kernel) fun t hf y => ?_
  blk_simp
  rw [after0_5, out5]
  exact congrArg _ (emb t y).symm

theorem final6 (c : Dev nD) : (dats m 0 c).arrAt 6 (cfgs 0).N = NM 1 (A0 m c) (A2 m c) := by
  refine (dats m 0 c).arrAt_eq_of_covers 6 _ (by decide +kernel) fun t hf y => ?_
  blk_simp
  rw [after0_6, out6]
  exact congrArg _ (emb t y).symm

theorem final7 (c : Dev nD) : (dats m 0 c).arrAt 7 (cfgs 0).N = NV 1 (A0 m c) (A3 m c) := by
  refine (dats m 0 c).arrAt_eq_of_covers 7 _ (by decide +kernel) fun t hf y => ?_
  blk_simp
  rw [after0_7, out7]
  exact congrArg _ (emb t y).symm

section Reference

variable (m' : (ℓ : Loc Cert.AdamInRefIdeal.nD Cert.AdamInRefIdeal.τ Cert.AdamInRefIdeal.sig) → Buf (Elt Ideal) ℓ) (c : Dev Cert.AdamInRefIdeal.nD)

abbrev B0 : FVec Ideal Cert.AdamInIdeal.S8x1024x768 .bf16 := m' ((c.tc : Thread Cert.AdamInRefIdeal.nD Cert.AdamInRefIdeal.τ).loc Cert.AdamInRefIdeal.main_arg0)
abbrev B1 : FVec Ideal Cert.AdamInIdeal.S2x1024x768 .f32 := m' ((c.tc : Thread Cert.AdamInRefIdeal.nD Cert.AdamInRefIdeal.τ).loc Cert.AdamInRefIdeal.main_arg1)
abbrev B2 : FVec Ideal Cert.AdamInIdeal.S2x1024x768 .f32 := m' ((c.tc : Thread Cert.AdamInRefIdeal.nD Cert.AdamInRefIdeal.τ).loc Cert.AdamInRefIdeal.main_arg2)
abbrev B3 : FVec Ideal Cert.AdamInIdeal.S2x1024x768 .f32 := m' ((c.tc : Thread Cert.AdamInRefIdeal.nD Cert.AdamInRefIdeal.τ).loc Cert.AdamInRefIdeal.main_arg3)

end Reference

theorem algebraic : Cert.algebraic_AdamInIdeal_AdamInRefIdeal :=
  fun m ρ m' ρ' _ hag => ⟨fun c => GR (A0 m c), fun c => DW 1 (A0 m c) (A1 m c) (A2 m c) (A3 m c), fun c => NM 1 (A0 m c) (A2 m c),
    fun c => NV 1 (A0 m c) (A3 m c),
    (θ_run _ _ _).mono (fun _ h c => ⟨(h c).1.trans (final4 m c), (h c).2.1.trans (final5 m c), (h c).2.2.1.trans (final6 m c),
      (h c).2.2.2.1.trans (final7 m c), (h c).2.2.2.2⟩) (Value.run_blocks m ρ),
    (θ_run _ _ _).mono (fun _ h c => by
      obtain ⟨h0, h1, h2, h3, hk⟩ := h c
      obtain ⟨a0, a1, a2, a3⟩ := hag c
      refine ⟨h0.trans ?_, h1.trans ?_, h2.trans ?_, h3.trans ?_, hk⟩
      · refine Eq.trans (b := GR (B0 m' c)) ?_ ?_
        · funext j
          obtain ⟨l, d, rfl⟩ : ∃ l d, j = ix2 l d := ⟨j 0, j 1, by funext i; fin_cases i <;> rfl⟩
          pointwise
          rfl
        · rw [B0, a0]
      · refine Eq.trans (b := DW 1 (B0 m' c) (B1 m' c) (B2 m' c) (B3 m' c)) ?_ ?_
        · funext j
          obtain ⟨l, d, rfl⟩ : ∃ l d, j = ix2 l d := ⟨j 0, j 1, by funext i; fin_cases i <;> rfl⟩
          pointwise
          simp only [div1, div2]
          rfl
        · rw [B0, B1, B2, B3, a0, a1, a2, a3]
      · refine Eq.trans (b := NM 1 (B0 m' c) (B2 m' c)) ?_ ?_
        · funext j
          obtain ⟨l, d, rfl⟩ : ∃ l d, j = ix2 l d := ⟨j 0, j 1, by funext i; fin_cases i <;> rfl⟩
          pointwise
          rfl
        · rw [B0, B2, a0, a2]
      · refine Eq.trans (b := NV 1 (B0 m' c) (B3 m' c)) ?_ ?_
        · funext j
          obtain ⟨l, d, rfl⟩ : ∃ l d, j = ix2 l d := ⟨j 0, j 1, by funext i; fin_cases i <;> rfl⟩
          pointwise
          rfl
        · rw [B0, B3, a0, a3]) (Cert.AdamInRefIdeal.Value.run m' ρ')⟩

/-- The two named constants are what the ideal program prints them as. -/
theorem preserves : Cert.preserves_AdamIn_AdamInIdeal :=
  ⟨IdealRules.named_const.statement κ "c1" .f32 0x3FC48605#32 _ rfl, IdealRules.named_const.statement κ "c2" .f32 0x42C8E6D3#32 _ rfl⟩

end Cert.AdamInIdeal.Hand

end
-- ==== Proof.AdamOut.lean ====
module

public import proofs.«01_k».proof.Proof.Gen.AdamOutIdeal.Value
public import proofs.«01_k».proof.Proof.Gen.AdamOutRefIdeal.Run
public import proofs.«01_k».proof.Proof.Adam
public import proofs.«01_k».proof.Defs

@[expose] public section

set_option maxRecDepth 16384

noncomputable section

namespace Cert.AdamOutIdeal.Hand

open Cert.AdamOutIdeal Cert.AdamOutIdeal.Gen Cert.Common Cert.Adam Idealize.ShloMosaic Idealize.ShloMosaic.TcCoe Idealize.SL.Sem
open Idealize.ShloMosaic.Pipeline (Dat)

variable (m : (ℓ : Loc nD τ sig) → Buf (Elt Ideal) ℓ)

/-- The windows' index maps. -/
theorem idx : ∀ t : Fin cfg0.N, win0_0.index t = ![0, t.val, 0] ∧ win0_1.index t = ![1, t.val, 0] ∧ win0_2.index t = ![1, t.val, 0]
    ∧ win0_3.index t = ![1, t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The row of the arrays that a row of a point's block is. -/
def pos (t : Fin cfg0.N) (r : Fin 256) : Fin 256 := ⟨256 * t.val + r.val, by
  have h : t.val < 1 := t.isLt
  omega⟩

/-- Argument 0. -/
abbrev A0 (c : Dev nD) : FVec Ideal S8x256x1024 .bf16 := m ((c : Thread nD τ).loc main_arg0)

/-- Argument 1. -/
abbrev A1 (c : Dev nD) : FVec Ideal S2x256x1024 .f32 := m ((c : Thread nD τ).loc main_arg1)

/-- Argument 2. -/
abbrev A2 (c : Dev nD) : FVec Ideal S2x256x1024 .f32 := m ((c : Thread nD τ).loc main_arg2)

/-- Argument 3. -/
abbrev A3 (c : Dev nD) : FVec Ideal S2x256x1024 .f32 := m ((c : Thread nD τ).loc main_arg3)

section Blocks

variable (c : Dev nD) (t : Fin cfg0.N)

theorem b0 (s : Fin 8) (r : Fin 256) (k : Fin 1024) : iblk m c 0 t (ix3 s r k) = A0 m c (ix3 s (pos t r) k) := by
  blk_point [iblk, V, idx t, pos]

theorem b1 (r : Fin 256) (k : Fin 1024) : iblk m c 1 t (ix3 0 r k) = A1 m c (ix3 1 (pos t r) k) := by
  blk_point [iblk, V, idx t, pos]

theorem b2 (r : Fin 256) (k : Fin 1024) : iblk m c 2 t (ix3 0 r k) = A2 m c (ix3 1 (pos t r) k) := by
  blk_point [iblk, V, idx t, pos]

theorem b3 (r : Fin 256) (k : Fin 1024) : iblk m c 3 t (ix3 0 r k) = A3 m c (ix3 1 (pos t r) k) := by
  blk_point [iblk, V, idx t, pos]

theorem pay_g (x0 : Vec Ideal S8x256x1024 .bf16) (x1 x2 x3 : Vec Ideal S1x256x1024 .f32) (r : Fin 256) (k : Fin 1024) :
    k0_pay5 (F := Ideal) x0 x1 x2 x3 (ix2 r k) = ∑ s : Fin 8, x0 (ix3 s r k) := by
  pointwise [k0_pay5, k0_pay1]
  rw [Fin.sum_univ_eight]

theorem pay_m (g : FVec Ideal S256x1024 .f32) (x : Vec Ideal S1x256x1024 .f32) (r : Fin 256) (k : Fin 1024) :
    k0_pay2 (F := Ideal) g x (ix2 r k) = mom (x (ix3 0 r k)) (g (ix2 r k)) := by
  pointwise [k0_pay2]
  rfl

theorem pay_v (g : FVec Ideal S256x1024 .f32) (x : Vec Ideal S1x256x1024 .f32) (r : Fin 256) (k : Fin 1024) :
    k0_pay3 (F := Ideal) g x (ix2 r k) = mom2 (x (ix3 0 r k)) (g (ix2 r k)) := by
  pointwise [k0_pay3]
  rfl

/-- The named constants are the reciprocals of the bias corrections. -/
theorem n1 : Named.named (F := Ideal) κ "c1" (φ := .f32) 0x3FC48605#32 = ((8388608 / 5463681 : ℝ) : EReal) :=
  IdealRules.named_const.ideal_named_scalar _ _ _ _ rfl

theorem n2 : Named.named (F := Ideal) κ "c2" (φ := .f32) 0x42C8E6D3#32 = ((268435456 / 2672307 : ℝ) : EReal) :=
  IdealRules.named_const.ideal_named_scalar _ _ _ _ rfl

theorem pay_d (g : FVec Ideal S256x1024 .f32) (x y z : Vec Ideal S1x256x1024 .f32) (r : Fin 256) (k : Fin 1024) :
    k0_pay4 (F := Ideal) g x y z (ix2 r k)
    = delta (z (ix3 0 r k)) (k0_pay2 (F := Ideal) g x (ix2 r k)) (k0_pay3 (F := Ideal) g y (ix2 r k)) := by
  pointwise [k0_pay4]
  unfold delta
  rw [← n1, ← n2]

/-- A point's sums over the devices. -/
theorem grad (r : Fin 256) (d : Fin 1024) : k0_pay5 (F := Ideal) (iblk m c 0 t) (iblk m c 1 t) (iblk m c 2 t) (iblk m c 3 t) (ix2 r d)
    = GR (A0 m c) (ix2 (pos t r) d) := by
  rw [pay_g]
  exact Finset.sum_congr rfl fun s _ => b0 m c t s r d

theorem out4 (y : S256x1024.Idx) : out0_4 (F := Ideal) (iblk m c 0 t) (iblk m c 1 t) (iblk m c 2 t) (iblk m c 3 t) y
    = GR (A0 m c) (ix2 (pos t (y 0)) (y 1)) := by
  obtain ⟨r, d, rfl⟩ : ∃ r d, y = ix2 r d := ⟨y 0, y 1, by funext i; fin_cases i <;> rfl⟩
  frame_out
  exact grad m c t r d

theorem out5 (y : S256x1024.Idx) : out0_5 (F := Ideal) (iblk m c 0 t) (iblk m c 1 t) (iblk m c 2 t) (iblk m c 3 t) y
    = DW 1 (A0 m c) (A1 m c) (A2 m c) (A3 m c) (ix2 (pos t (y 0)) (y 1)) := by
  obtain ⟨r, d, rfl⟩ : ∃ r d, y = ix2 r d := ⟨y 0, y 1, by funext i; fin_cases i <;> rfl⟩
  frame_out
  rw [pay_d, pay_m, pay_v, grad, b1, b2, b3]
  rfl

theorem out6 (y : S256x1024.Idx) : out0_6 (F := Ideal) (iblk m c 0 t) (iblk m c 1 t) (iblk m c 2 t) (iblk m c 3 t) y
    = NM 1 (A0 m c) (A2 m c) (ix2 (pos t (y 0)) (y 1)) := by
  obtain ⟨r, d, rfl⟩ : ∃ r d, y = ix2 r d := ⟨y 0, y 1, by funext i; fin_cases i <;> rfl⟩
  frame_out
  rw [pay_m, grad, b2]
  rfl

theorem out7 (y : S256x1024.Idx) : out0_7 (F := Ideal) (iblk m c 0 t) (iblk m c 1 t) (iblk m c 2 t) (iblk m c 3 t) y
    = NV 1 (A0 m c) (A3 m c) (ix2 (pos t (y 0)) (y 1)) := by
  obtain ⟨r, d, rfl⟩ : ∃ r d, y = ix2 r d := ⟨y 0, y 1, by funext i; fin_cases i <;> rfl⟩
  frame_out
  rw [pay_v, grad, b3]
  rfl

theorem emb (y : ((cfg0.win 4).xblock (cfg0.grid.coords t)).Idx) : (win0_4.blk t).view.emb y = ix2 (pos t (y 0)) (y 1) := by
  have h0 : win0_4.index t 0 = t.val := (congrFun (idx t).2.2.2.2.1 0).trans rfl
  have h1 : win0_4.index t 1 = 0 := (congrFun (idx t).2.2.2.2.1 1).trans rfl
  funext a
  apply Fin.ext
  match a with
  | ⟨0, _⟩ => show win0_4.index t 0 * 256 + 1 * (y 0).val = 256 * t.val + (y 0).val; rw [h0]; omega
  | ⟨1, _⟩ => show win0_4.index t 1 * 1024 + 1 * (y 1).val = (y 1).val; rw [h1]; omega

end Blocks

theorem final4 (c : Dev nD) : (dats m 0 c).arrAt 4 (cfgs 0).N = GR (A0 m c) := by
  refine (dats m 0 c).arrAt_eq_of_covers 4 _ (by decide +kernel) fun t hf y => ?_
  blk_simp
  rw [after0_4, out4]
  exact congrArg _ (emb t y).symm

theorem final5 (c : Dev nD) : (dats m 0 c).arrAt 5 (cfgs 0).N = DW 1 (A0 m c) (A1 m c) (A2 m c) (A3 m c) := by
  refine (dats m 0 c).arrAt_eq_of_covers 5 _ (by decide +kernel) fun t hf y => ?_
  blk_simp
  rw [after0_5, out5]
  exact congrArg _ (emb t y).symm

theorem final6 (c : Dev nD) : (dats m 0 c).arrAt 6 (cfgs 0).N = NM 1 (A0 m c) (A2 m c) := by
  refine (dats m 0 c).arrAt_eq_of_covers 6 _ (by decide +kernel) fun t hf y => ?_
  blk_simp
  rw [after0_6, out6]
  exact congrArg _ (emb t y).symm

theorem final7 (c : Dev nD) : (dats m 0 c).arrAt 7 (cfgs 0).N = NV 1 (A0 m c) (A3 m c) := by
  refine (dats m 0 c).arrAt_eq_of_covers 7 _ (by decide +kernel) fun t hf y => ?_
  blk_simp
  rw [after0_7, out7]
  exact congrArg _ (emb t y).symm

section Reference

variable (m' : (ℓ : Loc Cert.AdamOutRefIdeal.nD Cert.AdamOutRefIdeal.τ Cert.AdamOutRefIdeal.sig) → Buf (Elt Ideal) ℓ) (c : Dev Cert.AdamOutRefIdeal.nD)

abbrev B0 : FVec Ideal Cert.AdamOutIdeal.S8x256x1024 .bf16 := m' ((c.tc : Thread Cert.AdamOutRefIdeal.nD Cert.AdamOutRefIdeal.τ).loc Cert.AdamOutRefIdeal.main_arg0)
abbrev B1 : FVec Ideal Cert.AdamOutIdeal.S2x256x1024 .f32 := m' ((c.tc : Thread Cert.AdamOutRefIdeal.nD Cert.AdamOutRefIdeal.τ).loc Cert.AdamOutRefIdeal.main_arg1)
abbrev B2 : FVec Ideal Cert.AdamOutIdeal.S2x256x1024 .f32 := m' ((c.tc : Thread Cert.AdamOutRefIdeal.nD Cert.AdamOutRefIdeal.τ).loc Cert.AdamOutRefIdeal.main_arg2)
abbrev B3 : FVec Ideal Cert.AdamOutIdeal.S2x256x1024 .f32 := m' ((c.tc : Thread Cert.AdamOutRefIdeal.nD Cert.AdamOutRefIdeal.τ).loc Cert.AdamOutRefIdeal.main_arg3)

end Reference

theorem algebraic : Cert.algebraic_AdamOutIdeal_AdamOutRefIdeal :=
  fun m ρ m' ρ' _ hag => ⟨fun c => GR (A0 m c), fun c => DW 1 (A0 m c) (A1 m c) (A2 m c) (A3 m c), fun c => NM 1 (A0 m c) (A2 m c),
    fun c => NV 1 (A0 m c) (A3 m c),
    (θ_run _ _ _).mono (fun _ h c => ⟨(h c).1.trans (final4 m c), (h c).2.1.trans (final5 m c), (h c).2.2.1.trans (final6 m c),
      (h c).2.2.2.1.trans (final7 m c), (h c).2.2.2.2⟩) (Value.run_blocks m ρ),
    (θ_run _ _ _).mono (fun _ h c => by
      obtain ⟨h0, h1, h2, h3, hk⟩ := h c
      obtain ⟨a0, a1, a2, a3⟩ := hag c
      refine ⟨h0.trans ?_, h1.trans ?_, h2.trans ?_, h3.trans ?_, hk⟩
      · refine Eq.trans (b := GR (B0 m' c)) ?_ ?_
        · funext j
          obtain ⟨l, d, rfl⟩ : ∃ l d, j = ix2 l d := ⟨j 0, j 1, by funext i; fin_cases i <;> rfl⟩
          pointwise
          rfl
        · rw [B0, a0]
      · refine Eq.trans (b := DW 1 (B0 m' c) (B1 m' c) (B2 m' c) (B3 m' c)) ?_ ?_
        · funext j
          obtain ⟨l, d, rfl⟩ : ∃ l d, j = ix2 l d := ⟨j 0, j 1, by funext i; fin_cases i <;> rfl⟩
          pointwise
          simp only [div1, div2]
          rfl
        · rw [B0, B1, B2, B3, a0, a1, a2, a3]
      · refine Eq.trans (b := NM 1 (B0 m' c) (B2 m' c)) ?_ ?_
        · funext j
          obtain ⟨l, d, rfl⟩ : ∃ l d, j = ix2 l d := ⟨j 0, j 1, by funext i; fin_cases i <;> rfl⟩
          pointwise
          rfl
        · rw [B0, B2, a0, a2]
      · refine Eq.trans (b := NV 1 (B0 m' c) (B3 m' c)) ?_ ?_
        · funext j
          obtain ⟨l, d, rfl⟩ : ∃ l d, j = ix2 l d := ⟨j 0, j 1, by funext i; fin_cases i <;> rfl⟩
          pointwise
          rfl
        · rw [B0, B3, a0, a3]) (Cert.AdamOutRefIdeal.Value.run m' ρ')⟩

/-- The two named constants are what the ideal program prints them as. -/
theorem preserves : Cert.preserves_AdamOut_AdamOutIdeal :=
  ⟨IdealRules.named_const.statement κ "c1" .f32 0x3FC48605#32 _ rfl, IdealRules.named_const.statement κ "c2" .f32 0x42C8E6D3#32 _ rfl⟩

end Cert.AdamOutIdeal.Hand

end
-- ==== Proof.AdamSsd.lean ====
module

public import proofs.«01_k».proof.Proof.Gen.AdamSsdIdeal.Value
public import proofs.«01_k».proof.Proof.Gen.AdamSsdRefIdeal.Run
public import proofs.«01_k».proof.Proof.Adam
public import proofs.«01_k».proof.Defs

@[expose] public section

set_option maxRecDepth 16384

noncomputable section

namespace Cert.AdamSsdIdeal.Hand

open Cert.AdamSsdIdeal Cert.AdamSsdIdeal.Gen Cert.Common Cert.Adam Idealize.ShloMosaic Idealize.ShloMosaic.TcCoe Idealize.SL.Sem
open Idealize.ShloMosaic.Pipeline (Dat)

variable (m : (ℓ : Loc nD τ sig) → Buf (Elt Ideal) ℓ)

/-- The windows' index maps. -/
theorem idx : ∀ t : Fin cfg0.N, win0_0.index t = ![0, t.val, 0] ∧ win0_1.index t = ![1, t.val, 0] ∧ win0_2.index t = ![1, t.val, 0]
    ∧ win0_3.index t = ![1, t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The row of the arrays that a row of a point's block is. -/
def pos (t : Fin cfg0.N) (r : Fin 256) : Fin 1024 := ⟨256 * t.val + r.val, by
  have h : t.val < 4 := t.isLt
  omega⟩

/-- Argument 0. -/
abbrev A0 (c : Dev nD) : FVec Ideal S1x1024x648 .f32 := m ((c : Thread nD τ).loc main_arg0)

/-- Argument 1. -/
abbrev A1 (c : Dev nD) : FVec Ideal S2x1024x648 .f32 := m ((c : Thread nD τ).loc main_arg1)

/-- Argument 2. -/
abbrev A2 (c : Dev nD) : FVec Ideal S2x1024x648 .f32 := m ((c : Thread nD τ).loc main_arg2)

/-- Argument 3. -/
abbrev A3 (c : Dev nD) : FVec Ideal S2x1024x648 .f32 := m ((c : Thread nD τ).loc main_arg3)

section Blocks

variable (c : Dev nD) (t : Fin cfg0.N)

theorem b0 (s : Fin 1) (r : Fin 256) (k : Fin 648) : iblk m c 0 t (ix3 s r k) = A0 m c (ix3 s (pos t r) k) := by
  blk_point [iblk, V, idx t, pos]

theorem b1 (r : Fin 256) (k : Fin 648) : iblk m c 1 t (ix3 0 r k) = A1 m c (ix3 1 (pos t r) k) := by
  blk_point [iblk, V, idx t, pos]

theorem b2 (r : Fin 256) (k : Fin 648) : iblk m c 2 t (ix3 0 r k) = A2 m c (ix3 1 (pos t r) k) := by
  blk_point [iblk, V, idx t, pos]

theorem b3 (r : Fin 256) (k : Fin 648) : iblk m c 3 t (ix3 0 r k) = A3 m c (ix3 1 (pos t r) k) := by
  blk_point [iblk, V, idx t, pos]

theorem pay_g (x : Vec Ideal S1x256x648 .f32) (r : Fin 256) (k : Fin 648) : k0_pay2 (F := Ideal) x (ix2 r k) = ∑ s : Fin 1, x (ix3 s r k) := by
  pointwise [k0_pay2]
  rw [Fin.sum_univ_one]

theorem pay_m (x y : Vec Ideal S1x256x648 .f32) (r : Fin 256) (k : Fin 648) :
    k0_pay3 (F := Ideal) x y (ix2 r k) = mom (y (ix3 0 r k)) (k0_pay2 (F := Ideal) x (ix2 r k)) := by
  pointwise [k0_pay3]
  rfl

theorem pay_v (x y : Vec Ideal S1x256x648 .f32) (r : Fin 256) (k : Fin 648) :
    k0_pay4 (F := Ideal) x y (ix2 r k) = mom2 (y (ix3 0 r k)) (k0_pay2 (F := Ideal) x (ix2 r k)) := by
  pointwise [k0_pay4]
  rfl

/-- The named constants are the reciprocals of the bias corrections. -/
theorem n1 : Named.named (F := Ideal) κ "c1" (φ := .f32) 0x3FC48605#32 = ((8388608 / 5463681 : ℝ) : EReal) :=
  IdealRules.named_const.ideal_named_scalar _ _ _ _ rfl

theorem n2 : Named.named (F := Ideal) κ "c2" (φ := .f32) 0x42C8E6D3#32 = ((268435456 / 2672307 : ℝ) : EReal) :=
  IdealRules.named_const.ideal_named_scalar _ _ _ _ rfl

theorem pay_d (x y z w : Vec Ideal S1x256x648 .f32) (r : Fin 256) (k : Fin 648) :
    k0_pay1 (F := Ideal) (k0_pay5 (F := Ideal) x y z) (k0_pay6 (F := Ideal) w) (Scalar.ofBits .f32 0x3C23D70A#32) (ix2 r k)
    = delta (w (ix3 0 r k)) (k0_pay3 (F := Ideal) x y (ix2 r k)) (k0_pay4 (F := Ideal) x z (ix2 r k)) := by
  pointwise [k0_pay1, k0_pay5, k0_pay6]
  unfold delta
  rw [← n1, ← n2]

/-- A point's sums over the devices. -/
theorem grad (r : Fin 256) (d : Fin 648) : k0_pay2 (F := Ideal) (iblk m c 0 t) (ix2 r d)
    = GR (A0 m c) (ix2 (pos t r) d) := by
  rw [pay_g]
  exact Finset.sum_congr rfl fun s _ => b0 m c t s r d

theorem out4 (y : S256x648.Idx) : out0_4 (F := Ideal) (iblk m c 0 t) (iblk m c 1 t) (iblk m c 2 t) (iblk m c 3 t) y
    = GR (A0 m c) (ix2 (pos t (y 0)) (y 1)) := by
  obtain ⟨r, d, rfl⟩ : ∃ r d, y = ix2 r d := ⟨y 0, y 1, by funext i; fin_cases i <;> rfl⟩
  frame_out
  exact grad m c t r d

theorem out5 (y : S256x648.Idx) : out0_5 (F := Ideal) (iblk m c 0 t) (iblk m c 1 t) (iblk m c 2 t) (iblk m c 3 t) y
    = DW 1 (A0 m c) (A1 m c) (A2 m c) (A3 m c) (ix2 (pos t (y 0)) (y 1)) := by
  obtain ⟨r, d, rfl⟩ : ∃ r d, y = ix2 r d := ⟨y 0, y 1, by funext i; fin_cases i <;> rfl⟩
  frame_out
  rw [pay_d, pay_m, pay_v, grad, b1, b2, b3]
  rfl

theorem out6 (y : S256x648.Idx) : out0_6 (F := Ideal) (iblk m c 0 t) (iblk m c 1 t) (iblk m c 2 t) (iblk m c 3 t) y
    = NM 1 (A0 m c) (A2 m c) (ix2 (pos t (y 0)) (y 1)) := by
  obtain ⟨r, d, rfl⟩ : ∃ r d, y = ix2 r d := ⟨y 0, y 1, by funext i; fin_cases i <;> rfl⟩
  frame_out
  rw [pay_m, grad, b2]
  rfl

theorem out7 (y : S256x648.Idx) : out0_7 (F := Ideal) (iblk m c 0 t) (iblk m c 1 t) (iblk m c 2 t) (iblk m c 3 t) y
    = NV 1 (A0 m c) (A3 m c) (ix2 (pos t (y 0)) (y 1)) := by
  obtain ⟨r, d, rfl⟩ : ∃ r d, y = ix2 r d := ⟨y 0, y 1, by funext i; fin_cases i <;> rfl⟩
  frame_out
  rw [pay_v, grad, b3]
  rfl

theorem emb (y : ((cfg0.win 4).xblock (cfg0.grid.coords t)).Idx) : (win0_4.blk t).view.emb y = ix2 (pos t (y 0)) (y 1) := by
  have h0 : win0_4.index t 0 = t.val := (congrFun (idx t).2.2.2.2.1 0).trans rfl
  have h1 : win0_4.index t 1 = 0 := (congrFun (idx t).2.2.2.2.1 1).trans rfl
  funext a
  apply Fin.ext
  match a with
  | ⟨0, _⟩ => show win0_4.index t 0 * 256 + 1 * (y 0).val = 256 * t.val + (y 0).val; rw [h0]; omega
  | ⟨1, _⟩ => show win0_4.index t 1 * 648 + 1 * (y 1).val = (y 1).val; rw [h1]; omega

end Blocks

theorem final4 (c : Dev nD) : (dats m 0 c).arrAt 4 (cfgs 0).N = GR (A0 m c) := by
  refine (dats m 0 c).arrAt_eq_of_covers 4 _ (by decide +kernel) fun t hf y => ?_
  blk_simp
  rw [after0_4, out4]
  exact congrArg _ (emb t y).symm

theorem final5 (c : Dev nD) : (dats m 0 c).arrAt 5 (cfgs 0).N = DW 1 (A0 m c) (A1 m c) (A2 m c) (A3 m c) := by
  refine (dats m 0 c).arrAt_eq_of_covers 5 _ (by decide +kernel) fun t hf y => ?_
  blk_simp
  rw [after0_5, out5]
  exact congrArg _ (emb t y).symm

theorem final6 (c : Dev nD) : (dats m 0 c).arrAt 6 (cfgs 0).N = NM 1 (A0 m c) (A2 m c) := by
  refine (dats m 0 c).arrAt_eq_of_covers 6 _ (by decide +kernel) fun t hf y => ?_
  blk_simp
  rw [after0_6, out6]
  exact congrArg _ (emb t y).symm

theorem final7 (c : Dev nD) : (dats m 0 c).arrAt 7 (cfgs 0).N = NV 1 (A0 m c) (A3 m c) := by
  refine (dats m 0 c).arrAt_eq_of_covers 7 _ (by decide +kernel) fun t hf y => ?_
  blk_simp
  rw [after0_7, out7]
  exact congrArg _ (emb t y).symm

section Reference

variable (m' : (ℓ : Loc Cert.AdamSsdRefIdeal.nD Cert.AdamSsdRefIdeal.τ Cert.AdamSsdRefIdeal.sig) → Buf (Elt Ideal) ℓ) (c : Dev Cert.AdamSsdRefIdeal.nD)

abbrev B0 : FVec Ideal Cert.AdamSsdIdeal.S1x1024x648 .f32 := m' ((c.tc : Thread Cert.AdamSsdRefIdeal.nD Cert.AdamSsdRefIdeal.τ).loc Cert.AdamSsdRefIdeal.main_arg0)
abbrev B1 : FVec Ideal Cert.AdamSsdIdeal.S2x1024x648 .f32 := m' ((c.tc : Thread Cert.AdamSsdRefIdeal.nD Cert.AdamSsdRefIdeal.τ).loc Cert.AdamSsdRefIdeal.main_arg1)
abbrev B2 : FVec Ideal Cert.AdamSsdIdeal.S2x1024x648 .f32 := m' ((c.tc : Thread Cert.AdamSsdRefIdeal.nD Cert.AdamSsdRefIdeal.τ).loc Cert.AdamSsdRefIdeal.main_arg2)
abbrev B3 : FVec Ideal Cert.AdamSsdIdeal.S2x1024x648 .f32 := m' ((c.tc : Thread Cert.AdamSsdRefIdeal.nD Cert.AdamSsdRefIdeal.τ).loc Cert.AdamSsdRefIdeal.main_arg3)

end Reference

theorem algebraic : Cert.algebraic_AdamSsdIdeal_AdamSsdRefIdeal :=
  fun m ρ m' ρ' _ hag => ⟨fun c => GR (A0 m c), fun c => DW 1 (A0 m c) (A1 m c) (A2 m c) (A3 m c), fun c => NM 1 (A0 m c) (A2 m c),
    fun c => NV 1 (A0 m c) (A3 m c),
    (θ_run _ _ _).mono (fun _ h c => ⟨(h c).1.trans (final4 m c), (h c).2.1.trans (final5 m c), (h c).2.2.1.trans (final6 m c),
      (h c).2.2.2.1.trans (final7 m c), (h c).2.2.2.2⟩) (Value.run_blocks m ρ),
    (θ_run _ _ _).mono (fun _ h c => by
      obtain ⟨h0, h1, h2, h3, hk⟩ := h c
      obtain ⟨a0, a1, a2, a3⟩ := hag c
      refine ⟨h0.trans ?_, h1.trans ?_, h2.trans ?_, h3.trans ?_, hk⟩
      · refine Eq.trans (b := GR (B0 m' c)) ?_ ?_
        · funext j
          obtain ⟨l, d, rfl⟩ : ∃ l d, j = ix2 l d := ⟨j 0, j 1, by funext i; fin_cases i <;> rfl⟩
          pointwise
          rfl
        · rw [B0, a0]
      · refine Eq.trans (b := DW 1 (B0 m' c) (B1 m' c) (B2 m' c) (B3 m' c)) ?_ ?_
        · funext j
          obtain ⟨l, d, rfl⟩ : ∃ l d, j = ix2 l d := ⟨j 0, j 1, by funext i; fin_cases i <;> rfl⟩
          pointwise
          simp only [div1, div2]
          rfl
        · rw [B0, B1, B2, B3, a0, a1, a2, a3]
      · refine Eq.trans (b := NM 1 (B0 m' c) (B2 m' c)) ?_ ?_
        · funext j
          obtain ⟨l, d, rfl⟩ : ∃ l d, j = ix2 l d := ⟨j 0, j 1, by funext i; fin_cases i <;> rfl⟩
          pointwise
          rfl
        · rw [B0, B2, a0, a2]
      · refine Eq.trans (b := NV 1 (B0 m' c) (B3 m' c)) ?_ ?_
        · funext j
          obtain ⟨l, d, rfl⟩ : ∃ l d, j = ix2 l d := ⟨j 0, j 1, by funext i; fin_cases i <;> rfl⟩
          pointwise
          rfl
        · rw [B0, B3, a0, a3]) (Cert.AdamSsdRefIdeal.Value.run m' ρ')⟩

/-- The two named constants are what the ideal program prints them as. -/
theorem preserves : Cert.preserves_AdamSsd_AdamSsdIdeal :=
  ⟨IdealRules.named_const.statement κ "c1" .f32 0x3FC48605#32 _ rfl, IdealRules.named_const.statement κ "c2" .f32 0x42C8E6D3#32 _ rfl⟩

end Cert.AdamSsdIdeal.Hand

end
-- ==== Proof.AdamSmall.lean ====
module

public import proofs.«01_k».proof.Proof.Gen.AdamSmallIdeal.Value
public import proofs.«01_k».proof.Proof.Gen.AdamSmallRefIdeal.Run
public import proofs.«01_k».proof.Proof.Adam
public import proofs.«01_k».proof.Defs

@[expose] public section

set_option maxRecDepth 16384

noncomputable section

namespace Cert.AdamSmallIdeal.Hand

open Cert.AdamSmallIdeal Cert.AdamSmallIdeal.Gen Cert.Common Cert.Adam Idealize.ShloMosaic Idealize.ShloMosaic.TcCoe Idealize.SL.Sem
open Idealize.ShloMosaic.Pipeline (Dat)

variable (m : (ℓ : Loc nD τ sig) → Buf (Elt Ideal) ℓ)

/-- The windows' index maps. -/
theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The row of the arrays that a row of a point's block is. -/
def pos (t : Fin cfg0.N) (r : Fin 168) : Fin 168 := ⟨168 * t.val + r.val, by
  have h : t.val < 1 := t.isLt
  omega⟩

/-- Argument 0. -/
abbrev A0 (c : Dev nD) : FVec Ideal S8x168x128 .f32 := m ((c : Thread nD τ).loc main_arg0)

/-- Argument 1. -/
abbrev A1 (c : Dev nD) : FVec Ideal S1x168x128 .f32 := m ((c : Thread nD τ).loc main_arg1)

/-- Argument 2. -/
abbrev A2 (c : Dev nD) : FVec Ideal S1x168x128 .f32 := m ((c : Thread nD τ).loc main_arg2)

/-- Argument 3. -/
abbrev A3 (c : Dev nD) : FVec Ideal S1x168x128 .f32 := m ((c : Thread nD τ).loc main_arg3)

section Blocks

variable (c : Dev nD) (t : Fin cfg0.N)

theorem b0 (s : Fin 8) (r : Fin 168) (k : Fin 128) : iblk m c 0 t (ix3 s r k) = A0 m c (ix3 s (pos t r) k) := by
  blk_point [iblk, V, idx t, pos]

theorem b1 (r : Fin 168) (k : Fin 128) : iblk m c 1 t (ix3 0 r k) = A1 m c (ix3 0 (pos t r) k) := by
  blk_point [iblk, V, idx t, pos]

theorem b2 (r : Fin 168) (k : Fin 128) : iblk m c 2 t (ix3 0 r k) = A2 m c (ix3 0 (pos t r) k) := by
  blk_point [iblk, V, idx t, pos]

theorem b3 (r : Fin 168) (k : Fin 128) : iblk m c 3 t (ix3 0 r k) = A3 m c (ix3 0 (pos t r) k) := by
  blk_point [iblk, V, idx t, pos]

theorem pay_g (x0 : Vec Ideal S8x168x128 .f32) (x1 x2 x3 : Vec Ideal S1x168x128 .f32) (r : Fin 168) (k : Fin 128) :
    k0_pay5 (F := Ideal) x0 x1 x2 x3 (ix2 r k) = ∑ s : Fin 8, x0 (ix3 s r k) := by
  pointwise [k0_pay5, k0_pay3]
  rw [Fin.sum_univ_eight]

theorem pay_m (x0 : Vec Ideal S8x168x128 .f32) (x1 x2 x3 : Vec Ideal S1x168x128 .f32) (r : Fin 168) (k : Fin 128) :
    k0_pay6 (F := Ideal) x0 x1 x2 x3 (ix2 r k) = mom (x2 (ix3 0 r k)) (k0_pay5 (F := Ideal) x0 x1 x2 x3 (ix2 r k)) := by
  pointwise [k0_pay6, k0_pay4, k0_pay5]
  rfl

theorem pay_v (g : FVec Ideal S168x128 .f32) (x : Vec Ideal S1x168x128 .f32) (r : Fin 168) (k : Fin 128) :
    k0_pay1 (F := Ideal) g x (ix2 r k) = mom2 (x (ix3 0 r k)) (g (ix2 r k)) := by
  pointwise [k0_pay1]
  rfl

/-- The named constants are the reciprocals of the bias corrections. -/
theorem n1 : Named.named (F := Ideal) κ "c1" (φ := .f32) 0x3FC48605#32 = ((8388608 / 5463681 : ℝ) : EReal) :=
  IdealRules.named_const.ideal_named_scalar _ _ _ _ rfl

theorem n2 : Named.named (F := Ideal) κ "c2" (φ := .f32) 0x42C8E6D3#32 = ((268435456 / 2672307 : ℝ) : EReal) :=
  IdealRules.named_const.ideal_named_scalar _ _ _ _ rfl

theorem pay_d (g u : FVec Ideal S168x128 .f32) (y z : Vec Ideal S1x168x128 .f32) (r : Fin 168) (k : Fin 128) :
    k0_pay2 (F := Ideal) g u y z (ix2 r k) = delta (z (ix3 0 r k)) (u (ix2 r k)) (k0_pay1 (F := Ideal) g y (ix2 r k)) := by
  pointwise [k0_pay2]
  unfold delta
  rw [← n1, ← n2]

/-- A point's sums over the devices. -/
theorem grad (r : Fin 168) (d : Fin 128) : k0_pay5 (F := Ideal) (iblk m c 0 t) (iblk m c 1 t) (iblk m c 2 t) (iblk m c 3 t) (ix2 r d)
    = GR (A0 m c) (ix2 (pos t r) d) := by
  rw [pay_g]
  exact Finset.sum_congr rfl fun s _ => b0 m c t s r d

theorem out4 (y : S168x128.Idx) : out0_4 (F := Ideal) (iblk m c 0 t) (iblk m c 1 t) (iblk m c 2 t) (iblk m c 3 t) y
    = GR (A0 m c) (ix2 (pos t (y 0)) (y 1)) := by
  obtain ⟨r, d, rfl⟩ : ∃ r d, y = ix2 r d := ⟨y 0, y 1, by funext i; fin_cases i <;> rfl⟩
  frame_out
  exact grad m c t r d

theorem out5 (y : S168x128.Idx) : out0_5 (F := Ideal) (iblk m c 0 t) (iblk m c 1 t) (iblk m c 2 t) (iblk m c 3 t) y
    = DW 0 (A0 m c) (A1 m c) (A2 m c) (A3 m c) (ix2 (pos t (y 0)) (y 1)) := by
  obtain ⟨r, d, rfl⟩ : ∃ r d, y = ix2 r d := ⟨y 0, y 1, by funext i; fin_cases i <;> rfl⟩
  frame_out
  rw [pay_d, pay_m, pay_v, grad, b1, b2, b3]
  rfl

theorem out6 (y : S168x128.Idx) : out0_6 (F := Ideal) (iblk m c 0 t) (iblk m c 1 t) (iblk m c 2 t) (iblk m c 3 t) y
    = NM 0 (A0 m c) (A2 m c) (ix2 (pos t (y 0)) (y 1)) := by
  obtain ⟨r, d, rfl⟩ : ∃ r d, y = ix2 r d := ⟨y 0, y 1, by funext i; fin_cases i <;> rfl⟩
  frame_out
  rw [pay_m, grad, b2]
  rfl

theorem out7 (y : S168x128.Idx) : out0_7 (F := Ideal) (iblk m c 0 t) (iblk m c 1 t) (iblk m c 2 t) (iblk m c 3 t) y
    = NV 0 (A0 m c) (A3 m c) (ix2 (pos t (y 0)) (y 1)) := by
  obtain ⟨r, d, rfl⟩ : ∃ r d, y = ix2 r d := ⟨y 0, y 1, by funext i; fin_cases i <;> rfl⟩
  frame_out
  rw [pay_v, grad, b3]
  rfl

theorem emb (y : ((cfg0.win 4).xblock (cfg0.grid.coords t)).Idx) : (win0_4.blk t).view.emb y = ix2 (pos t (y 0)) (y 1) := by
  have h0 : win0_4.index t 0 = t.val := (congrFun (idx t).2.2.2.2.1 0).trans rfl
  have h1 : win0_4.index t 1 = 0 := (congrFun (idx t).2.2.2.2.1 1).trans rfl
  funext a
  apply Fin.ext
  match a with
  | ⟨0, _⟩ => show win0_4.index t 0 * 168 + 1 * (y 0).val = 168 * t.val + (y 0).val; rw [h0]; omega
  | ⟨1, _⟩ => show win0_4.index t 1 * 128 + 1 * (y 1).val = (y 1).val; rw [h1]; omega

end Blocks

theorem final4 (c : Dev nD) : (dats m 0 c).arrAt 4 (cfgs 0).N = GR (A0 m c) := by
  refine (dats m 0 c).arrAt_eq_of_covers 4 _ (by decide +kernel) fun t hf y => ?_
  blk_simp
  rw [after0_4, out4]
  exact congrArg _ (emb t y).symm

theorem final5 (c : Dev nD) : (dats m 0 c).arrAt 5 (cfgs 0).N = DW 0 (A0 m c) (A1 m c) (A2 m c) (A3 m c) := by
  refine (dats m 0 c).arrAt_eq_of_covers 5 _ (by decide +kernel) fun t hf y => ?_
  blk_simp
  rw [after0_5, out5]
  exact congrArg _ (emb t y).symm

theorem final6 (c : Dev nD) : (dats m 0 c).arrAt 6 (cfgs 0).N = NM 0 (A0 m c) (A2 m c) := by
  refine (dats m 0 c).arrAt_eq_of_covers 6 _ (by decide +kernel) fun t hf y => ?_
  blk_simp
  rw [after0_6, out6]
  exact congrArg _ (emb t y).symm

theorem final7 (c : Dev nD) : (dats m 0 c).arrAt 7 (cfgs 0).N = NV 0 (A0 m c) (A3 m c) := by
  refine (dats m 0 c).arrAt_eq_of_covers 7 _ (by decide +kernel) fun t hf y => ?_
  blk_simp
  rw [after0_7, out7]
  exact congrArg _ (emb t y).symm

section Reference

variable (m' : (ℓ : Loc Cert.AdamSmallRefIdeal.nD Cert.AdamSmallRefIdeal.τ Cert.AdamSmallRefIdeal.sig) → Buf (Elt Ideal) ℓ) (c : Dev Cert.AdamSmallRefIdeal.nD)

abbrev B0 : FVec Ideal Cert.AdamSmallIdeal.S8x168x128 .f32 := m' ((c.tc : Thread Cert.AdamSmallRefIdeal.nD Cert.AdamSmallRefIdeal.τ).loc Cert.AdamSmallRefIdeal.main_arg0)
abbrev B1 : FVec Ideal Cert.AdamSmallIdeal.S1x168x128 .f32 := m' ((c.tc : Thread Cert.AdamSmallRefIdeal.nD Cert.AdamSmallRefIdeal.τ).loc Cert.AdamSmallRefIdeal.main_arg1)
abbrev B2 : FVec Ideal Cert.AdamSmallIdeal.S1x168x128 .f32 := m' ((c.tc : Thread Cert.AdamSmallRefIdeal.nD Cert.AdamSmallRefIdeal.τ).loc Cert.AdamSmallRefIdeal.main_arg2)
abbrev B3 : FVec Ideal Cert.AdamSmallIdeal.S1x168x128 .f32 := m' ((c.tc : Thread Cert.AdamSmallRefIdeal.nD Cert.AdamSmallRefIdeal.τ).loc Cert.AdamSmallRefIdeal.main_arg3)

end Reference

/-- The reference's reading of the one layer of a state. -/
theorem one (x : FVec Ideal S1x168x128 .f32) :
    shapeCast Cert.AdamSmallRefIdeal.S168x128 x Cert.AdamSmallRefIdeal.Gen.shapeCasts_S1x168x128_S168x128 = fun j => x (ix3 0 (j 0) (j 1)) := by
  funext j
  obtain ⟨l, d, rfl⟩ : ∃ l d, j = ix2 l d := ⟨j 0, j 1, by funext i; fin_cases i <;> rfl⟩
  pointwise

theorem algebraic : Cert.algebraic_AdamSmallIdeal_AdamSmallRefIdeal :=
  fun m ρ m' ρ' _ hag => ⟨fun c => GR (A0 m c), fun c => DW 0 (A0 m c) (A1 m c) (A2 m c) (A3 m c), fun c => NM 0 (A0 m c) (A2 m c),
    fun c => NV 0 (A0 m c) (A3 m c),
    (θ_run _ _ _).mono (fun _ h c => ⟨(h c).1.trans (final4 m c), (h c).2.1.trans (final5 m c), (h c).2.2.1.trans (final6 m c),
      (h c).2.2.2.1.trans (final7 m c), (h c).2.2.2.2⟩) (Value.run_blocks m ρ),
    (θ_run _ _ _).mono (fun _ h c => by
      obtain ⟨h0, h1, h2, h3, hk⟩ := h c
      obtain ⟨a0, a1, a2, a3⟩ := hag c
      refine ⟨h0.trans ?_, h1.trans ?_, h2.trans ?_, h3.trans ?_, hk⟩
      · refine Eq.trans (b := GR (B0 m' c)) ?_ ?_
        · funext j
          obtain ⟨l, d, rfl⟩ : ∃ l d, j = ix2 l d := ⟨j 0, j 1, by funext i; fin_cases i <;> rfl⟩
          pointwise
          rfl
        · rw [B0, a0]
      · refine Eq.trans (b := DW 0 (B0 m' c) (B1 m' c) (B2 m' c) (B3 m' c)) ?_ ?_
        · simp only [one]
          funext j
          obtain ⟨l, d, rfl⟩ : ∃ l d, j = ix2 l d := ⟨j 0, j 1, by funext i; fin_cases i <;> rfl⟩
          pointwise
          simp only [div1, div2]
          rfl
        · rw [B0, B1, B2, B3, a0, a1, a2, a3]
      · refine Eq.trans (b := NM 0 (B0 m' c) (B2 m' c)) ?_ ?_
        · simp only [one]
          funext j
          obtain ⟨l, d, rfl⟩ : ∃ l d, j = ix2 l d := ⟨j 0, j 1, by funext i; fin_cases i <;> rfl⟩
          pointwise
          rfl
        · rw [B0, B2, a0, a2]
      · refine Eq.trans (b := NV 0 (B0 m' c) (B3 m' c)) ?_ ?_
        · simp only [one]
          funext j
          obtain ⟨l, d, rfl⟩ : ∃ l d, j = ix2 l d := ⟨j 0, j 1, by funext i; fin_cases i <;> rfl⟩
          pointwise
          rfl
        · rw [B0, B3, a0, a3]) (Cert.AdamSmallRefIdeal.Value.run m' ρ')⟩

/-- The two named constants are what the ideal program prints them as. -/
theorem preserves : Cert.preserves_AdamSmall_AdamSmallIdeal :=
  ⟨IdealRules.named_const.statement κ "c1" .f32 0x3FC48605#32 _ rfl, IdealRules.named_const.statement κ "c2" .f32 0x42C8E6D3#32 _ rfl⟩

end Cert.AdamSmallIdeal.Hand

end
-- ==== Proof.AdamRep.lean ====
module

public import proofs.«01_k».proof.Proof.Gen.AdamRepIdeal.Value
public import proofs.«01_k».proof.Proof.Gen.AdamRepRefIdeal.Run
public import proofs.«01_k».proof.Proof.Adam
public import proofs.«01_k».proof.Defs

@[expose] public section

set_option maxRecDepth 16384

noncomputable section

namespace Cert.AdamRepIdeal.Hand

open Cert.AdamRepIdeal Cert.AdamRepIdeal.Gen Cert.Common Cert.Adam Idealize.ShloMosaic Idealize.ShloMosaic.TcCoe Idealize.SL.Sem
open Idealize.ShloMosaic.Pipeline (Dat)

variable (m : (ℓ : Loc nD τ sig) → Buf (Elt Ideal) ℓ)

/-- The windows' index maps. -/
theorem idx : ∀ t : Fin cfg0.N, win0_0.index t = ![0, t.val, 0] ∧ win0_1.index t = ![0, t.val, 0] ∧ win0_2.index t = ![0, t.val, 0]
    ∧ win0_3.index t = ![0, t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The row of the arrays that a row of a point's block is. -/
def pos (t : Fin cfg0.N) (r : Fin 144) : Fin 144 := ⟨144 * t.val + r.val, by
  have h : t.val < 1 := t.isLt
  omega⟩

/-- Argument 0. -/
abbrev A0 (c : Dev nD) : FVec Ideal S8x144x128 .f32 := m ((c : Thread nD τ).loc main_arg0)

/-- Argument 1. -/
abbrev A1 (c : Dev nD) : FVec Ideal S1x144x128 .f32 := m ((c : Thread nD τ).loc main_arg1)

/-- Argument 2. -/
abbrev A2 (c : Dev nD) : FVec Ideal S1x144x128 .f32 := m ((c : Thread nD τ).loc main_arg2)

/-- Argument 3. -/
abbrev A3 (c : Dev nD) : FVec Ideal S1x144x128 .f32 := m ((c : Thread nD τ).loc main_arg3)

section Blocks

variable (c : Dev nD) (t : Fin cfg0.N)

theorem b0 (s : Fin 8) (r : Fin 144) (k : Fin 128) : iblk m c 0 t (ix3 s r k) = A0 m c (ix3 s (pos t r) k) := by
  blk_point [iblk, V, idx t, pos]

theorem b1 (r : Fin 144) (k : Fin 128) : iblk m c 1 t (ix3 0 r k) = A1 m c (ix3 0 (pos t r) k) := by
  blk_point [iblk, V, idx t, pos]

theorem b2 (r : Fin 144) (k : Fin 128) : iblk m c 2 t (ix3 0 r k) = A2 m c (ix3 0 (pos t r) k) := by
  blk_point [iblk, V, idx t, pos]

theorem b3 (r : Fin 144) (k : Fin 128) : iblk m c 3 t (ix3 0 r k) = A3 m c (ix3 0 (pos t r) k) := by
  blk_point [iblk, V, idx t, pos]

theorem pay_g (x0 : Vec Ideal S8x144x128 .f32) (x1 x2 x3 : Vec Ideal S1x144x128 .f32) (r : Fin 144) (k : Fin 128) :
    k0_pay5 (F := Ideal) x0 x1 x2 x3 (ix2 r k) = ∑ s : Fin 8, x0 (ix3 s r k) := by
  pointwise [k0_pay5, k0_pay3]
  rw [Fin.sum_univ_eight]

theorem pay_m (x0 : Vec Ideal S8x144x128 .f32) (x1 x2 x3 : Vec Ideal S1x144x128 .f32) (r : Fin 144) (k : Fin 128) :
    k0_pay6 (F := Ideal) x0 x1 x2 x3 (ix2 r k) = mom (x2 (ix3 0 r k)) (k0_pay5 (F := Ideal) x0 x1 x2 x3 (ix2 r k)) := by
  pointwise [k0_pay6, k0_pay4, k0_pay5]
  rfl

theorem pay_v (g : FVec Ideal S144x128 .f32) (x : Vec Ideal S1x144x128 .f32) (r : Fin 144) (k : Fin 128) :
    k0_pay1 (F := Ideal) g x (ix2 r k) = mom2 (x (ix3 0 r k)) (g (ix2 r k)) := by
  pointwise [k0_pay1]
  rfl

/-- The named constants are the reciprocals of the bias corrections. -/
theorem n1 : Named.named (F := Ideal) κ "c1" (φ := .f32) 0x3FC48605#32 = ((8388608 / 5463681 : ℝ) : EReal) :=
  IdealRules.named_const.ideal_named_scalar _ _ _ _ rfl

theorem n2 : Named.named (F := Ideal) κ "c2" (φ := .f32) 0x42C8E6D3#32 = ((268435456 / 2672307 : ℝ) : EReal) :=
  IdealRules.named_const.ideal_named_scalar _ _ _ _ rfl

theorem pay_d (g u : FVec Ideal S144x128 .f32) (y z : Vec Ideal S1x144x128 .f32) (r : Fin 144) (k : Fin 128) :
    k0_pay2 (F := Ideal) g u y z (ix2 r k) = delta (z (ix3 0 r k)) (u (ix2 r k)) (k0_pay1 (F := Ideal) g y (ix2 r k)) := by
  pointwise [k0_pay2]
  unfold delta
  rw [← n1, ← n2]

/-- A point's sums over the devices. -/
theorem grad (r : Fin 144) (d : Fin 128) : k0_pay5 (F := Ideal) (iblk m c 0 t) (iblk m c 1 t) (iblk m c 2 t) (iblk m c 3 t) (ix2 r d)
    = GR (A0 m c) (ix2 (pos t r) d) := by
  rw [pay_g]
  exact Finset.sum_congr rfl fun s _ => b0 m c t s r d

theorem out4 (y : S144x128.Idx) : out0_4 (F := Ideal) (iblk m c 0 t) (iblk m c 1 t) (iblk m c 2 t) (iblk m c 3 t) y
    = GR (A0 m c) (ix2 (pos t (y 0)) (y 1)) := by
  obtain ⟨r, d, rfl⟩ : ∃ r d, y = ix2 r d := ⟨y 0, y 1, by funext i; fin_cases i <;> rfl⟩
  frame_out
  exact grad m c t r d

theorem out5 (y : S144x128.Idx) : out0_5 (F := Ideal) (iblk m c 0 t) (iblk m c 1 t) (iblk m c 2 t) (iblk m c 3 t) y
    = DW 0 (A0 m c) (A1 m c) (A2 m c) (A3 m c) (ix2 (pos t (y 0)) (y 1)) := by
  obtain ⟨r, d, rfl⟩ : ∃ r d, y = ix2 r d := ⟨y 0, y 1, by funext i; fin_cases i <;> rfl⟩
  frame_out
  rw [pay_d, pay_m, pay_v, grad, b1, b2, b3]
  rfl

theorem out6 (y : S144x128.Idx) : out0_6 (F := Ideal) (iblk m c 0 t) (iblk m c 1 t) (iblk m c 2 t) (iblk m c 3 t) y
    = NM 0 (A0 m c) (A2 m c) (ix2 (pos t (y 0)) (y 1)) := by
  obtain ⟨r, d, rfl⟩ : ∃ r d, y = ix2 r d := ⟨y 0, y 1, by funext i; fin_cases i <;> rfl⟩
  frame_out
  rw [pay_m, grad, b2]
  rfl

theorem out7 (y : S144x128.Idx) : out0_7 (F := Ideal) (iblk m c 0 t) (iblk m c 1 t) (iblk m c 2 t) (iblk m c 3 t) y
    = NV 0 (A0 m c) (A3 m c) (ix2 (pos t (y 0)) (y 1)) := by
  obtain ⟨r, d, rfl⟩ : ∃ r d, y = ix2 r d := ⟨y 0, y 1, by funext i; fin_cases i <;> rfl⟩
  frame_out
  rw [pay_v, grad, b3]
  rfl

theorem emb (y : ((cfg0.win 4).xblock (cfg0.grid.coords t)).Idx) : (win0_4.blk t).view.emb y = ix2 (pos t (y 0)) (y 1) := by
  have h0 : win0_4.index t 0 = t.val := (congrFun (idx t).2.2.2.2.1 0).trans rfl
  have h1 : win0_4.index t 1 = 0 := (congrFun (idx t).2.2.2.2.1 1).trans rfl
  funext a
  apply Fin.ext
  match a with
  | ⟨0, _⟩ => show win0_4.index t 0 * 144 + 1 * (y 0).val = 144 * t.val + (y 0).val; rw [h0]; omega
  | ⟨1, _⟩ => show win0_4.index t 1 * 128 + 1 * (y 1).val = (y 1).val; rw [h1]; omega

end Blocks

theorem final4 (c : Dev nD) : (dats m 0 c).arrAt 4 (cfgs 0).N = GR (A0 m c) := by
  refine (dats m 0 c).arrAt_eq_of_covers 4 _ (by decide +kernel) fun t hf y => ?_
  blk_simp
  rw [after0_4, out4]
  exact congrArg _ (emb t y).symm

theorem final5 (c : Dev nD) : (dats m 0 c).arrAt 5 (cfgs 0).N = DW 0 (A0 m c) (A1 m c) (A2 m c) (A3 m c) := by
  refine (dats m 0 c).arrAt_eq_of_covers 5 _ (by decide +kernel) fun t hf y => ?_
  blk_simp
  rw [after0_5, out5]
  exact congrArg _ (emb t y).symm

theorem final6 (c : Dev nD) : (dats m 0 c).arrAt 6 (cfgs 0).N = NM 0 (A0 m c) (A2 m c) := by
  refine (dats m 0 c).arrAt_eq_of_covers 6 _ (by decide +kernel) fun t hf y => ?_
  blk_simp
  rw [after0_6, out6]
  exact congrArg _ (emb t y).symm

theorem final7 (c : Dev nD) : (dats m 0 c).arrAt 7 (cfgs 0).N = NV 0 (A0 m c) (A3 m c) := by
  refine (dats m 0 c).arrAt_eq_of_covers 7 _ (by decide +kernel) fun t hf y => ?_
  blk_simp
  rw [after0_7, out7]
  exact congrArg _ (emb t y).symm

section Reference

variable (m' : (ℓ : Loc Cert.AdamRepRefIdeal.nD Cert.AdamRepRefIdeal.τ Cert.AdamRepRefIdeal.sig) → Buf (Elt Ideal) ℓ) (c : Dev Cert.AdamRepRefIdeal.nD)

abbrev B0 : FVec Ideal Cert.AdamRepIdeal.S8x144x128 .f32 := m' ((c.tc : Thread Cert.AdamRepRefIdeal.nD Cert.AdamRepRefIdeal.τ).loc Cert.AdamRepRefIdeal.main_arg0)
abbrev B1 : FVec Ideal Cert.AdamRepIdeal.S1x144x128 .f32 := m' ((c.tc : Thread Cert.AdamRepRefIdeal.nD Cert.AdamRepRefIdeal.τ).loc Cert.AdamRepRefIdeal.main_arg1)
abbrev B2 : FVec Ideal Cert.AdamRepIdeal.S1x144x128 .f32 := m' ((c.tc : Thread Cert.AdamRepRefIdeal.nD Cert.AdamRepRefIdeal.τ).loc Cert.AdamRepRefIdeal.main_arg2)
abbrev B3 : FVec Ideal Cert.AdamRepIdeal.S1x144x128 .f32 := m' ((c.tc : Thread Cert.AdamRepRefIdeal.nD Cert.AdamRepRefIdeal.τ).loc Cert.AdamRepRefIdeal.main_arg3)

end Reference

/-- The reference's reading of the one layer of a state. -/
theorem one (x : FVec Ideal S1x144x128 .f32) :
    shapeCast Cert.AdamRepRefIdeal.S144x128 x Cert.AdamRepRefIdeal.Gen.shapeCasts_S1x144x128_S144x128 = fun j => x (ix3 0 (j 0) (j 1)) := by
  funext j
  obtain ⟨l, d, rfl⟩ : ∃ l d, j = ix2 l d := ⟨j 0, j 1, by funext i; fin_cases i <;> rfl⟩
  pointwise

theorem algebraic : Cert.algebraic_AdamRepIdeal_AdamRepRefIdeal :=
  fun m ρ m' ρ' _ hag => ⟨fun c => GR (A0 m c), fun c => DW 0 (A0 m c) (A1 m c) (A2 m c) (A3 m c), fun c => NM 0 (A0 m c) (A2 m c),
    fun c => NV 0 (A0 m c) (A3 m c),
    (θ_run _ _ _).mono (fun _ h c => ⟨(h c).1.trans (final4 m c), (h c).2.1.trans (final5 m c), (h c).2.2.1.trans (final6 m c),
      (h c).2.2.2.1.trans (final7 m c), (h c).2.2.2.2⟩) (Value.run_blocks m ρ),
    (θ_run _ _ _).mono (fun _ h c => by
      obtain ⟨h0, h1, h2, h3, hk⟩ := h c
      obtain ⟨a0, a1, a2, a3⟩ := hag c
      refine ⟨h0.trans ?_, h1.trans ?_, h2.trans ?_, h3.trans ?_, hk⟩
      · refine Eq.trans (b := GR (B0 m' c)) ?_ ?_
        · funext j
          obtain ⟨l, d, rfl⟩ : ∃ l d, j = ix2 l d := ⟨j 0, j 1, by funext i; fin_cases i <;> rfl⟩
          pointwise
          rfl
        · rw [B0, a0]
      · refine Eq.trans (b := DW 0 (B0 m' c) (B1 m' c) (B2 m' c) (B3 m' c)) ?_ ?_
        · simp only [one]
          funext j
          obtain ⟨l, d, rfl⟩ : ∃ l d, j = ix2 l d := ⟨j 0, j 1, by funext i; fin_cases i <;> rfl⟩
          pointwise
          simp only [div1, div2]
          rfl
        · rw [B0, B1, B2, B3, a0, a1, a2, a3]
      · refine Eq.trans (b := NM 0 (B0 m' c) (B2 m' c)) ?_ ?_
        · simp only [one]
          funext j
          obtain ⟨l, d, rfl⟩ : ∃ l d, j = ix2 l d := ⟨j 0, j 1, by funext i; fin_cases i <;> rfl⟩
          pointwise
          rfl
        · rw [B0, B2, a0, a2]
      · refine Eq.trans (b := NV 0 (B0 m' c) (B3 m' c)) ?_ ?_
        · simp only [one]
          funext j
          obtain ⟨l, d, rfl⟩ : ∃ l d, j = ix2 l d := ⟨j 0, j 1, by funext i; fin_cases i <;> rfl⟩
          pointwise
          rfl
        · rw [B0, B3, a0, a3]) (Cert.AdamRepRefIdeal.Value.run m' ρ')⟩

/-- The two named constants are what the ideal program prints them as. -/
theorem preserves : Cert.preserves_AdamRep_AdamRepIdeal :=
  ⟨IdealRules.named_const.statement κ "c1" .f32 0x3FC48605#32 _ rfl, IdealRules.named_const.statement κ "c2" .f32 0x42C8E6D3#32 _ rfl⟩

end Cert.AdamRepIdeal.Hand

end
-- ==== Proof.SumSsd.lean ====
module

public import proofs.«01_k».proof.Proof.Gen.SumSsdIdeal.Value
public import proofs.«01_k».proof.Proof.Gen.SumSsdRefIdeal.Run
public import proofs.«01_k».proof.Proof.Adam
public import proofs.«01_k».proof.Defs

@[expose] public section

set_option maxRecDepth 16384

noncomputable section

namespace Cert.SumSsdIdeal.Hand

open Cert.SumSsdIdeal Cert.SumSsdIdeal.Gen Cert.Common Cert.Adam Idealize.ShloMosaic Idealize.ShloMosaic.TcCoe Idealize.SL.Sem
open Idealize.ShloMosaic.Pipeline (Dat)

variable (m : (ℓ : Loc nD τ sig) → Buf (Elt Ideal) ℓ)

/-- The windows' index maps. -/
theorem idx : ∀ t : Fin cfg0.N, win0_0.index t = ![0, t.val, 0] ∧ win0_1.index t = ![t.val, 0] :=
  (by decide +kernel : ∀ t : Fin grid0.N, _)

/-- The row of the arrays that a row of a point's block is. -/
def pos (t : Fin cfg0.N) (r : Fin 656) : Fin 656 := ⟨656 * t.val + r.val, by
  have h : t.val < 1 := t.isLt
  omega⟩

/-- The argument. -/
abbrev A0 (c : Dev nD) : FVec Ideal S8x656x1024 .bf16 := m ((c : Thread nD τ).loc main_arg0)

section Blocks

variable (c : Dev nD) (t : Fin cfg0.N)

theorem b0 (s : Fin 8) (r : Fin 656) (k : Fin 1024) : iblk m c 0 t (ix3 s r k) = A0 m c (ix3 s (pos t r) k) := by
  blk_point [iblk, V, idx t, pos]

theorem pay (x : Vec Ideal S8x656x1024 .bf16) (y : S656x1024.Idx) :
    out0_1 (F := Ideal) x y = ∑ s : Fin 8, x (ix3 s (y 0) (y 1)) := by
  obtain ⟨r, d, rfl⟩ : ∃ r d, y = ix2 r d := ⟨y 0, y 1, by funext i; fin_cases i <;> rfl⟩
  frame_out
  pointwise [k0_pay1]
  rw [Fin.sum_univ_eight]

theorem out_eq (y : S656x1024.Idx) : out0_1 (F := Ideal) (iblk m c 0 t) y = GR (A0 m c) (ix2 (pos t (y 0)) (y 1)) := by
  rw [pay]
  exact Finset.sum_congr rfl fun s _ => b0 m c t s (y 0) (y 1)

theorem emb (y : ((cfg0.win 1).xblock (cfg0.grid.coords t)).Idx) : (win0_1.blk t).view.emb y = ix2 (pos t (y 0)) (y 1) := by
  have h0 : win0_1.index t 0 = t.val := (congrFun (idx t).2 0).trans rfl
  have h1 : win0_1.index t 1 = 0 := (congrFun (idx t).2 1).trans rfl
  funext a
  apply Fin.ext
  match a with
  | ⟨0, _⟩ => show win0_1.index t 0 * 656 + 1 * (y 0).val = 656 * t.val + (y 0).val; rw [h0]; omega
  | ⟨1, _⟩ => show win0_1.index t 1 * 1024 + 1 * (y 1).val = (y 1).val; rw [h1]; omega

end Blocks

theorem final (c : Dev nD) : (dats m 0 c).arrAt 1 (cfgs 0).N = GR (A0 m c) := by
  refine (dats m 0 c).arrAt_eq_of_covers 1 _ (by decide +kernel) fun t hf y => ?_
  blk_simp
  rw [after0_1, out_eq]
  exact congrArg _ (emb t y).symm

theorem algebraic : Cert.algebraic_SumSsdIdeal_SumSsdRefIdeal :=
  fun m ρ m' ρ' _ hag => ⟨fun c => GR (A0 m c),
    (θ_run _ _ _).mono (fun _ h c => ⟨(h c).1.trans (final m c), (h c).2⟩) (Value.run_blocks m ρ),
    (θ_run _ _ _).mono (fun _ h c => by
      obtain ⟨h0, hk⟩ := h c
      refine ⟨h0.trans ?_, hk⟩
      show _ = GR (A0 m c)
      rw [show A0 m c = _ from (hag c).symm]
      funext j
      obtain ⟨l, d, rfl⟩ : ∃ l d, j = ix2 l d := ⟨j 0, j 1, by funext i; fin_cases i <;> rfl⟩
      pointwise
      rfl) (Cert.SumSsdRefIdeal.Value.run m' ρ')⟩

end Cert.SumSsdIdeal.Hand

end
-- ==== Proof.lean ====
module

public import proofs.«01_k».proof.Defs
public import proofs.«01_k».proof.Proof.Gen.ConfOut.Frame
public import proofs.«01_k».proof.Proof.Gen.ConfOutIdeal.Frame
public import proofs.«01_k».proof.Proof.ConfOut
public import proofs.«01_k».proof.Proof.Gen.SsdOut.Frame
public import proofs.«01_k».proof.Proof.Gen.SsdOutIdeal.Frame
public import proofs.«01_k».proof.Proof.SsdOut
public import proofs.«01_k».proof.Proof.Gen.CmIn.Frame
public import proofs.«01_k».proof.Proof.Gen.CmInIdeal.Frame
public import proofs.«01_k».proof.Proof.CmIn
public import proofs.«01_k».proof.Proof.Gen.SsdIn.Frame
public import proofs.«01_k».proof.Proof.Gen.SsdInIdeal.Frame
public import proofs.«01_k».proof.Proof.SsdIn
public import proofs.«01_k».proof.Proof.Gen.CmWin.Frame
public import proofs.«01_k».proof.Proof.Gen.CmWinIdeal.Frame
public import proofs.«01_k».proof.Proof.CmWin
public import proofs.«01_k».proof.Proof.Gen.SsdWinZ.Frame
public import proofs.«01_k».proof.Proof.Gen.SsdWinZIdeal.Frame
public import proofs.«01_k».proof.Proof.SsdWinZ
public import proofs.«01_k».proof.Proof.Gen.SsdWinX.Frame
public import proofs.«01_k».proof.Proof.Gen.SsdWinXIdeal.Frame
public import proofs.«01_k».proof.Proof.SsdWinX
public import proofs.«01_k».proof.Proof.Gen.SsdWinT.Frame
public import proofs.«01_k».proof.Proof.Gen.SsdWinTIdeal.Frame
public import proofs.«01_k».proof.Proof.SsdWinT
public import proofs.«01_k».proof.Proof.Gen.CmInF.Frame
public import proofs.«01_k».proof.Proof.Gen.CmInFIdeal.Frame
public import proofs.«01_k».proof.Proof.CmInF
public import proofs.«01_k».proof.Proof.Gen.CmInFIdeal.Value
public import proofs.«01_k».proof.Proof.Gen.SsdInF.Frame
public import proofs.«01_k».proof.Proof.Gen.SsdInFIdeal.Frame
public import proofs.«01_k».proof.Proof.SsdInF
public import proofs.«01_k».proof.Proof.Gen.SsdInFIdeal.Value
public import proofs.«01_k».proof.Proof.Gen.ConfOutF.Frame
public import proofs.«01_k».proof.Proof.Gen.ConfOutFIdeal.Frame
public import proofs.«01_k».proof.Proof.ConfOutF
public import proofs.«01_k».proof.Proof.Gen.ConfOutFIdeal.Value
public import proofs.«01_k».proof.Proof.Gen.SsdOutF.Frame
public import proofs.«01_k».proof.Proof.Gen.SsdOutFIdeal.Frame
public import proofs.«01_k».proof.Proof.SsdOutF
public import proofs.«01_k».proof.Proof.Gen.SsdOutFIdeal.Value
public import proofs.«01_k».proof.Proof.Gen.SsdConv.Frame
public import proofs.«01_k».proof.Proof.Gen.SsdConvIdeal.Frame
public import proofs.«01_k».proof.Proof.SsdConv
public import proofs.«01_k».proof.Proof.Gen.SsdConvIdeal.Value
public import proofs.«01_k».proof.Proof.Gen.AdamIn.Frame
public import proofs.«01_k».proof.Proof.Gen.AdamInIdeal.Frame
public import proofs.«01_k».proof.Proof.AdamIn
public import proofs.«01_k».proof.Proof.Gen.AdamInIdeal.Value
public import proofs.«01_k».proof.Proof.Gen.AdamOut.Frame
public import proofs.«01_k».proof.Proof.Gen.AdamOutIdeal.Frame
public import proofs.«01_k».proof.Proof.AdamOut
public import proofs.«01_k».proof.Proof.Gen.AdamOutIdeal.Value
public import proofs.«01_k».proof.Proof.Gen.AdamSsd.Frame
public import proofs.«01_k».proof.Proof.Gen.AdamSsdIdeal.Frame
public import proofs.«01_k».proof.Proof.AdamSsd
public import proofs.«01_k».proof.Proof.Gen.AdamSsdIdeal.Value
public import proofs.«01_k».proof.Proof.Gen.AdamSmall.Frame
public import proofs.«01_k».proof.Proof.Gen.AdamSmallIdeal.Frame
public import proofs.«01_k».proof.Proof.AdamSmall
public import proofs.«01_k».proof.Proof.Gen.AdamSmallIdeal.Value
public import proofs.«01_k».proof.Proof.Gen.AdamRep.Frame
public import proofs.«01_k».proof.Proof.Gen.AdamRepIdeal.Frame
public import proofs.«01_k».proof.Proof.AdamRep
public import proofs.«01_k».proof.Proof.Gen.AdamRepIdeal.Value
public import proofs.«01_k».proof.Proof.Gen.SumSsd.Frame
public import proofs.«01_k».proof.Proof.Gen.SumSsdIdeal.Frame
public import proofs.«01_k».proof.Proof.SumSsd
public import proofs.«01_k».proof.Proof.Gen.SumSsdIdeal.Value
public import proofs.«01_k».proof.Proof.Gen.Pre_conf_out_finite
public import proofs.«01_k».proof.Proof.Gen.Pre_ssd_out_finite
public import Idealize.ShloMosaic.Lib.Quiescent

@[expose] public section

noncomputable section

namespace Cert.Proof

open Idealize.ShloMosaic Idealize.SL.Sem

/-- The frame of the reference of `ConfOut`: its run, read at the arguments; it declares no semaphore. -/
theorem frame_ConfOutRef : Cert.quiescent_ConfOutRefIdeal := fun m ρ _ =>
  (θ_run Cert.ConfOutRefIdeal.defs _ _).mono (fun r h => ⟨fun c => (h c).2.2.2.2.2, sem_eq_zero_of_no_sems (by decide) r.2⟩)
    (Cert.ConfOutRefIdeal.Hand.run m ρ)

/-- The frame of the reference of `SsdOut`: its run, read at the arguments; it declares no semaphore. -/
theorem frame_SsdOutRef : Cert.quiescent_SsdOutRefIdeal := fun m ρ _ =>
  (θ_run Cert.SsdOutRefIdeal.defs _ _).mono (fun r h => ⟨fun c => (h c).2.2.2.2.2, sem_eq_zero_of_no_sems (by decide) r.2⟩)
    (Cert.SsdOutRefIdeal.Hand.run m ρ)

/-- The frame of the reference of `CmIn`: its run, read at the arguments; it declares no semaphore. -/
theorem frame_CmInRef : Cert.quiescent_CmInRefIdeal := fun m ρ _ =>
  (θ_run Cert.CmInRefIdeal.defs _ _).mono (fun r h => ⟨fun c => (h c).2.2.2, sem_eq_zero_of_no_sems (by decide) r.2⟩)
    (Cert.CmInRefIdeal.Value.run m ρ)

/-- The frame of the reference of `SsdIn`: its run, read at the arguments; it declares no semaphore. -/
theorem frame_SsdInRef : Cert.quiescent_SsdInRefIdeal := fun m ρ _ =>
  (θ_run Cert.SsdInRefIdeal.defs _ _).mono (fun r h => ⟨fun c => (h c).2.2.2, sem_eq_zero_of_no_sems (by decide) r.2⟩)
    (Cert.SsdInRefIdeal.Value.run m ρ)

/-- The frame of the reference of `CmWin`: its run, read at the arguments; it declares no semaphore. -/
theorem frame_CmWinRef : Cert.quiescent_CmWinRefIdeal := fun m ρ _ =>
  (θ_run Cert.CmWinRefIdeal.defs _ _).mono (fun r h => ⟨fun c => (h c).2, sem_eq_zero_of_no_sems (by decide) r.2⟩)
    (Cert.CmWinRefIdeal.Value.run m ρ)

/-- The frame of the reference of `SsdWinZ`: its run, read at the arguments; it declares no semaphore. -/
theorem frame_SsdWinZRef : Cert.quiescent_SsdWinZRefIdeal := fun m ρ _ =>
  (θ_run Cert.SsdWinZRefIdeal.defs _ _).mono (fun r h => ⟨fun c => (h c).2, sem_eq_zero_of_no_sems (by decide) r.2⟩)
    (Cert.SsdWinZRefIdeal.Value.run m ρ)

/-- The frame of the reference of `SsdWinX`: its run, read at the arguments; it declares no semaphore. -/
theorem frame_SsdWinXRef : Cert.quiescent_SsdWinXRefIdeal := fun m ρ _ =>
  (θ_run Cert.SsdWinXRefIdeal.defs _ _).mono (fun r h => ⟨fun c => (h c).2, sem_eq_zero_of_no_sems (by decide) r.2⟩)
    (Cert.SsdWinXRefIdeal.Value.run m ρ)

/-- The frame of the reference of `SsdWinT`: its run, read at the arguments; it declares no semaphore. -/
theorem frame_SsdWinTRef : Cert.quiescent_SsdWinTRefIdeal := fun m ρ _ =>
  (θ_run Cert.SsdWinTRefIdeal.defs _ _).mono (fun r h => ⟨fun c => (h c).2, sem_eq_zero_of_no_sems (by decide) r.2⟩)
    (Cert.SsdWinTRefIdeal.Value.run m ρ)

/-- The frame of the reference of `CmInF`: its run, read at the arguments; it declares no semaphore. -/
theorem frame_CmInFRef : Cert.quiescent_CmInFRefIdeal := fun m ρ _ =>
  (θ_run Cert.CmInFRefIdeal.defs _ _).mono (fun r h => ⟨fun c => (h c).2, sem_eq_zero_of_no_sems (by decide) r.2⟩)
    (Cert.CmInFRefIdeal.Value.run m ρ)

/-- The frame of the reference of `SsdInF`: its run, read at the arguments; it declares no semaphore. -/
theorem frame_SsdInFRef : Cert.quiescent_SsdInFRefIdeal := fun m ρ _ =>
  (θ_run Cert.SsdInFRefIdeal.defs _ _).mono (fun r h => ⟨fun c => (h c).2.2, sem_eq_zero_of_no_sems (by decide) r.2⟩)
    (Cert.SsdInFRefIdeal.Value.run m ρ)

/-- The frame of the reference of `ConfOutF`: its run, read at the arguments; it declares no semaphore. -/
theorem frame_ConfOutFRef : Cert.quiescent_ConfOutFRefIdeal := fun m ρ _ =>
  (θ_run Cert.ConfOutFRefIdeal.defs _ _).mono (fun r h => ⟨fun c => (h c).2, sem_eq_zero_of_no_sems (by decide) r.2⟩)
    (Cert.ConfOutFRefIdeal.Value.run m ρ)

/-- The frame of the reference of `SsdOutF`: its run, read at the arguments; it declares no semaphore. -/
theorem frame_SsdOutFRef : Cert.quiescent_SsdOutFRefIdeal := fun m ρ _ =>
  (θ_run Cert.SsdOutFRefIdeal.defs _ _).mono (fun r h => ⟨fun c => (h c).2, sem_eq_zero_of_no_sems (by decide) r.2⟩)
    (Cert.SsdOutFRefIdeal.Value.run m ρ)

/-- The frame of the reference of `SsdConv`: its run, read at the arguments; it declares no semaphore. -/
theorem frame_SsdConvRef : Cert.quiescent_SsdConvRefIdeal := fun m ρ _ =>
  (θ_run Cert.SsdConvRefIdeal.defs _ _).mono (fun r h => ⟨fun c => (h c).2, sem_eq_zero_of_no_sems (by decide) r.2⟩)
    (Cert.SsdConvRefIdeal.Value.run m ρ)

/-- The frame of the reference of `AdamIn`: its run, read at the arguments; it declares no semaphore. -/
theorem frame_AdamInRef : Cert.quiescent_AdamInRefIdeal := fun m ρ _ =>
  (θ_run Cert.AdamInRefIdeal.defs _ _).mono (fun r h => ⟨fun c => (h c).2.2.2.2, sem_eq_zero_of_no_sems (by decide) r.2⟩)
    (Cert.AdamInRefIdeal.Value.run m ρ)

/-- The frame of the reference of `AdamOut`: its run, read at the arguments; it declares no semaphore. -/
theorem frame_AdamOutRef : Cert.quiescent_AdamOutRefIdeal := fun m ρ _ =>
  (θ_run Cert.AdamOutRefIdeal.defs _ _).mono (fun r h => ⟨fun c => (h c).2.2.2.2, sem_eq_zero_of_no_sems (by decide) r.2⟩)
    (Cert.AdamOutRefIdeal.Value.run m ρ)

/-- The frame of the reference of `AdamSsd`: its run, read at the arguments; it declares no semaphore. -/
theorem frame_AdamSsdRef : Cert.quiescent_AdamSsdRefIdeal := fun m ρ _ =>
  (θ_run Cert.AdamSsdRefIdeal.defs _ _).mono (fun r h => ⟨fun c => (h c).2.2.2.2, sem_eq_zero_of_no_sems (by decide) r.2⟩)
    (Cert.AdamSsdRefIdeal.Value.run m ρ)

/-- The frame of the reference of `AdamSmall`: its run, read at the arguments; it declares no semaphore. -/
theorem frame_AdamSmallRef : Cert.quiescent_AdamSmallRefIdeal := fun m ρ _ =>
  (θ_run Cert.AdamSmallRefIdeal.defs _ _).mono (fun r h => ⟨fun c => (h c).2.2.2.2, sem_eq_zero_of_no_sems (by decide) r.2⟩)
    (Cert.AdamSmallRefIdeal.Value.run m ρ)

/-- The frame of the reference of `AdamRep`: its run, read at the arguments; it declares no semaphore. -/
theorem frame_AdamRepRef : Cert.quiescent_AdamRepRefIdeal := fun m ρ _ =>
  (θ_run Cert.AdamRepRefIdeal.defs _ _).mono (fun r h => ⟨fun c => (h c).2.2.2.2, sem_eq_zero_of_no_sems (by decide) r.2⟩)
    (Cert.AdamRepRefIdeal.Value.run m ρ)

/-- The frame of the reference of `SumSsd`: its run, read at the arguments; it declares no semaphore. -/
theorem frame_SumSsdRef : Cert.quiescent_SumSsdRefIdeal := fun m ρ _ =>
  (θ_run Cert.SumSsdRefIdeal.defs _ _).mono (fun r h => ⟨fun c => (h c).2, sem_eq_zero_of_no_sems (by decide) r.2⟩)
    (Cert.SumSsdRefIdeal.Value.run m ρ)

theorem claim : Cert.Claim :=
  ⟨Cert.ConfOut.Gen.facts,
    Cert.ConfOutIdeal.Gen.facts,
    Cert.ConfOutRefIdeal.Gen.facts,
    Cert.SsdOut.Gen.facts,
    Cert.SsdOutIdeal.Gen.facts,
    Cert.SsdOutRefIdeal.Gen.facts,
    Cert.CmIn.Gen.facts,
    Cert.CmInIdeal.Gen.facts,
    Cert.CmInRefIdeal.Gen.facts,
    Cert.SsdIn.Gen.facts,
    Cert.SsdInIdeal.Gen.facts,
    Cert.SsdInRefIdeal.Gen.facts,
    Cert.CmWin.Gen.facts,
    Cert.CmWinIdeal.Gen.facts,
    Cert.CmWinRefIdeal.Gen.facts,
    Cert.SsdWinZ.Gen.facts,
    Cert.SsdWinZIdeal.Gen.facts,
    Cert.SsdWinZRefIdeal.Gen.facts,
    Cert.SsdWinX.Gen.facts,
    Cert.SsdWinXIdeal.Gen.facts,
    Cert.SsdWinXRefIdeal.Gen.facts,
    Cert.SsdWinT.Gen.facts,
    Cert.SsdWinTIdeal.Gen.facts,
    Cert.SsdWinTRefIdeal.Gen.facts,
    Cert.CmInF.Gen.facts,
    Cert.CmInFIdeal.Gen.facts,
    Cert.CmInFRefIdeal.Gen.facts,
    Cert.SsdInF.Gen.facts,
    Cert.SsdInFIdeal.Gen.facts,
    Cert.SsdInFRefIdeal.Gen.facts,
    Cert.ConfOutF.Gen.facts,
    Cert.ConfOutFIdeal.Gen.facts,
    Cert.ConfOutFRefIdeal.Gen.facts,
    Cert.SsdOutF.Gen.facts,
    Cert.SsdOutFIdeal.Gen.facts,
    Cert.SsdOutFRefIdeal.Gen.facts,
    Cert.SsdConv.Gen.facts,
    Cert.SsdConvIdeal.Gen.facts,
    Cert.SsdConvRefIdeal.Gen.facts,
    Cert.AdamIn.Gen.facts,
    Cert.AdamInIdeal.Gen.facts,
    Cert.AdamInRefIdeal.Gen.facts,
    Cert.AdamOut.Gen.facts,
    Cert.AdamOutIdeal.Gen.facts,
    Cert.AdamOutRefIdeal.Gen.facts,
    Cert.AdamSsd.Gen.facts,
    Cert.AdamSsdIdeal.Gen.facts,
    Cert.AdamSsdRefIdeal.Gen.facts,
    Cert.AdamSmall.Gen.facts,
    Cert.AdamSmallIdeal.Gen.facts,
    Cert.AdamSmallRefIdeal.Gen.facts,
    Cert.AdamRep.Gen.facts,
    Cert.AdamRepIdeal.Gen.facts,
    Cert.AdamRepRefIdeal.Gen.facts,
    Cert.SumSsd.Gen.facts,
    Cert.SumSsdIdeal.Gen.facts,
    Cert.SumSsdRefIdeal.Gen.facts,
    Cert.Pre_conf_out_finite.Gen.facts,
    Cert.Pre_ssd_out_finite.Gen.facts,
    fun m ρ _ => Cert.ConfOut.Gen.frame m ρ,
    fun m ρ _ => Cert.ConfOutIdeal.Gen.frame m ρ,
    fun m ρ _ => Cert.ConfOutIdeal.Gen.frame m ρ,
    frame_ConfOutRef,
    fun m ρ _ => frame_ConfOutRef m ρ trivial,
    fun m ρ _ => Cert.SsdOut.Gen.frame m ρ,
    fun m ρ _ => Cert.SsdOutIdeal.Gen.frame m ρ,
    fun m ρ _ => Cert.SsdOutIdeal.Gen.frame m ρ,
    frame_SsdOutRef,
    fun m ρ _ => frame_SsdOutRef m ρ trivial,
    fun m ρ _ => Cert.CmIn.Gen.frame m ρ,
    fun m ρ _ => Cert.CmInIdeal.Gen.frame m ρ,
    frame_CmInRef,
    fun m ρ _ => Cert.SsdIn.Gen.frame m ρ,
    fun m ρ _ => Cert.SsdInIdeal.Gen.frame m ρ,
    frame_SsdInRef,
    fun m ρ _ => Cert.CmWin.Gen.frame m ρ,
    fun m ρ _ => Cert.CmWinIdeal.Gen.frame m ρ,
    frame_CmWinRef,
    fun m ρ _ => Cert.SsdWinZ.Gen.frame m ρ,
    fun m ρ _ => Cert.SsdWinZIdeal.Gen.frame m ρ,
    frame_SsdWinZRef,
    fun m ρ _ => Cert.SsdWinX.Gen.frame m ρ,
    fun m ρ _ => Cert.SsdWinXIdeal.Gen.frame m ρ,
    frame_SsdWinXRef,
    fun m ρ _ => Cert.SsdWinT.Gen.frame m ρ,
    fun m ρ _ => Cert.SsdWinTIdeal.Gen.frame m ρ,
    frame_SsdWinTRef,
    fun m ρ _ => Cert.CmInF.Gen.frame m ρ,
    fun m ρ _ => Cert.CmInFIdeal.Gen.frame m ρ,
    frame_CmInFRef,
    fun m ρ _ => Cert.SsdInF.Gen.frame m ρ,
    fun m ρ _ => Cert.SsdInFIdeal.Gen.frame m ρ,
    frame_SsdInFRef,
    fun m ρ _ => Cert.ConfOutF.Gen.frame m ρ,
    fun m ρ _ => Cert.ConfOutFIdeal.Gen.frame m ρ,
    frame_ConfOutFRef,
    fun m ρ _ => Cert.SsdOutF.Gen.frame m ρ,
    fun m ρ _ => Cert.SsdOutFIdeal.Gen.frame m ρ,
    frame_SsdOutFRef,
    fun m ρ _ => Cert.SsdConv.Gen.frame m ρ,
    fun m ρ _ => Cert.SsdConvIdeal.Gen.frame m ρ,
    frame_SsdConvRef,
    fun m ρ _ => Cert.AdamIn.Gen.frame m ρ,
    fun m ρ _ => Cert.AdamInIdeal.Gen.frame m ρ,
    frame_AdamInRef,
    fun m ρ _ => Cert.AdamOut.Gen.frame m ρ,
    fun m ρ _ => Cert.AdamOutIdeal.Gen.frame m ρ,
    frame_AdamOutRef,
    fun m ρ _ => Cert.AdamSsd.Gen.frame m ρ,
    fun m ρ _ => Cert.AdamSsdIdeal.Gen.frame m ρ,
    frame_AdamSsdRef,
    fun m ρ _ => Cert.AdamSmall.Gen.frame m ρ,
    fun m ρ _ => Cert.AdamSmallIdeal.Gen.frame m ρ,
    frame_AdamSmallRef,
    fun m ρ _ => Cert.AdamRep.Gen.frame m ρ,
    fun m ρ _ => Cert.AdamRepIdeal.Gen.frame m ρ,
    frame_AdamRepRef,
    fun m ρ _ => Cert.SumSsd.Gen.frame m ρ,
    fun m ρ _ => Cert.SumSsdIdeal.Gen.frame m ρ,
    frame_SumSsdRef,
    trivial,
    Cert.ConfOutIdeal.Hand.algebraic,
    trivial,
    Cert.SsdOutIdeal.Hand.algebraic,
    trivial,
    Cert.CmInIdeal.Hand.algebraic,
    trivial,
    Cert.SsdInIdeal.Hand.algebraic,
    trivial,
    Cert.CmWinIdeal.Hand.algebraic,
    trivial,
    Cert.SsdWinZIdeal.Hand.algebraic,
    trivial,
    Cert.SsdWinXIdeal.Hand.algebraic,
    trivial,
    Cert.SsdWinTIdeal.Hand.algebraic,
    trivial,
    Cert.CmInFIdeal.Hand.algebraic,
    trivial,
    Cert.SsdInFIdeal.Hand.algebraic,
    trivial,
    Cert.ConfOutFIdeal.Hand.algebraic,
    trivial,
    Cert.SsdOutFIdeal.Hand.algebraic,
    trivial,
    Cert.SsdConvIdeal.Hand.algebraic,
    Cert.AdamInIdeal.Hand.preserves,
    Cert.AdamInIdeal.Hand.algebraic,
    Cert.AdamOutIdeal.Hand.preserves,
    Cert.AdamOutIdeal.Hand.algebraic,
    Cert.AdamSsdIdeal.Hand.preserves,
    Cert.AdamSsdIdeal.Hand.algebraic,
    Cert.AdamSmallIdeal.Hand.preserves,
    Cert.AdamSmallIdeal.Hand.algebraic,
    Cert.AdamRepIdeal.Hand.preserves,
    Cert.AdamRepIdeal.Hand.algebraic,
    trivial,
    Cert.SumSsdIdeal.Hand.algebraic⟩

end Cert.Proof

end
